-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v75) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v19_0)) (v1 : (c : Dev Cert.Kernel3Ideal.nD) → Buf (Elt Ideal) ((c.tc : Thread Cert.Kernel3Ideal.nD Cert.Kernel3Ideal.τ).loc Cert.Kernel3Ideal.main_v19_1)) (v2 : (c : Dev Cert.Kernel3Ideal.nD) → Buf (Elt Ideal) ((c.tc : Thread Cert.Kernel3Ideal.nD Cert.Kernel3Ideal.τ).loc Cert.Kernel3Ideal.main_v19_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_v19_1) = v1 c
          ∧ r.2.mem ((c.tc : Thread Cert.Kernel3Ideal.nD Cert.Kernel3Ideal.τ).loc Cert.Kernel3Ideal.main_v19_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v17_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v73) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v15_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v33_0)) (v1 : (c : Dev Cert.Kernel6Ideal.nD) → Buf (Elt Ideal) ((c.tc : Thread Cert.Kernel6Ideal.nD Cert.Kernel6Ideal.τ).loc Cert.Kernel6Ideal.main_v33_1)) (v2 : (c : Dev Cert.Kernel6Ideal.nD) → Buf (Elt Ideal) ((c.tc : Thread Cert.Kernel6Ideal.nD Cert.Kernel6Ideal.τ).loc Cert.Kernel6Ideal.main_v33_2)) (v3 : (c : Dev Cert.Kernel6Ideal.nD) → Buf (Elt Ideal) ((c.tc : Thread Cert.Kernel6Ideal.nD Cert.Kernel6Ideal.τ).loc Cert.Kernel6Ideal.main_v33_3)) (v4 : (c : Dev Cert.Kernel6Ideal.nD) → Buf (Elt Ideal) ((c.tc : Thread Cert.Kernel6Ideal.nD Cert.Kernel6Ideal.τ).loc Cert.Kernel6Ideal.main_v33_4)) (v5 : (c : Dev Cert.Kernel6Ideal.nD) → Buf (Elt Ideal) ((c.tc : Thread Cert.Kernel6Ideal.nD Cert.Kernel6Ideal.τ).loc Cert.Kernel6Ideal.main_v33_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v33_0) = v0 c
          ∧ r.2.mem ((c.tc : Thread Cert.Kernel6Ideal.nD Cert.Kernel6Ideal.τ).loc Cert.Kernel6Ideal.main_v33_1) = v1 c
          ∧ r.2.mem ((c.tc : Thread Cert.Kernel6Ideal.nD Cert.Kernel6Ideal.τ).loc Cert.Kernel6Ideal.main_v33_2) = v2 c
          ∧ r.2.mem ((c.tc : Thread Cert.Kernel6Ideal.nD Cert.Kernel6Ideal.τ).loc Cert.Kernel6Ideal.main_v33_3) = v3 c
          ∧ r.2.mem ((c.tc : Thread Cert.Kernel6Ideal.nD Cert.Kernel6Ideal.τ).loc Cert.Kernel6Ideal.main_v33_4) = v4 c
          ∧ r.2.mem ((c.tc : Thread Cert.Kernel6Ideal.nD Cert.Kernel6Ideal.τ).loc Cert.Kernel6Ideal.main_v33_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v90) = v0 c
          ∧ r.2.mem ((c.tc : Thread Cert.Reference6Ideal.nD Cert.Reference6Ideal.τ).loc Cert.Reference6Ideal.main_v121) = v1 c
          ∧ r.2.mem ((c.tc : Thread Cert.Reference6Ideal.nD Cert.Reference6Ideal.τ).loc Cert.Reference6Ideal.main_v125) = v2 c
          ∧ r.2.mem ((c.tc : Thread Cert.Reference6Ideal.nD Cert.Reference6Ideal.τ).loc Cert.Reference6Ideal.main_v171) = v3 c
          ∧ r.2.mem ((c.tc : Thread Cert.Reference6Ideal.nD Cert.Reference6Ideal.τ).loc Cert.Reference6Ideal.main_v215) = v4 c
          ∧ r.2.mem ((c.tc : Thread Cert.Reference6Ideal.nD Cert.Reference6Ideal.τ).loc Cert.Reference6Ideal.main_v219) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  IdealRules.named_const.Statement Cert.Kernel7Ideal.κ "log2e" .f32 0x3FB8AA3B#32 (((Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v46) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_routed : Cert.Pre_routed.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S8x4352x8x64 : Shape := ⟨4, ![8, 4352, 8, 64]⟩
abbrev S8x4352x2x64 : Shape := ⟨4, ![8, 4352, 2, 64]⟩
abbrev S_ : Shape := ⟨0, ![]⟩
abbrev S1 : Shape := ⟨1, ![1]⟩

class Facts : Prop where
  bcast_S_S8x4352x8x64 : S_.BroadcastsInDim S8x4352x8x64 (![] : Fin 0 → Fin S8x4352x8x64.rank)
  reducesTo_S8x4352x8x64_S_d0_1_2_3 : S8x4352x8x64.ReducesTo [0, 1, 2, 3] S_
  h_S_ : 0 < S_.numel
  bcast_S_S8x4352x2x64 : S_.BroadcastsInDim S8x4352x2x64 (![] : Fin 0 → Fin S8x4352x2x64.rank)
  reducesTo_S8x4352x2x64_S_d0_1_2_3 : S8x4352x2x64.ReducesTo [0, 1, 2, 3] S_
  shapeCasts_S_S1 : S_.ShapeCasts S1

variable [Facts]

def fn {F : FTy → Type} [FloatOps F] (main_arg0 : FVec F S8x4352x8x64 .f32) (main_arg1 : FVec F S8x4352x2x64 .f32) (main_arg2 : FVec F S8x4352x2x64 .f32) : IVec S1 1 :=
  let main_v0 : FVec F S8x4352x8x64 .f32 := Host.absf main_arg0
  let main_cst : FVec F S_ .f32 := constant S_ .f32 0x7F800000#32
  let main_v1 : FVec F S8x4352x8x64 .f32 := broadcastInDim S8x4352x8x64 ![] bcast_S_S8x4352x8x64 main_cst
  let main_v2 : IVec S8x4352x8x64 1 := cmpf .olt main_v0 main_v1
  let main_c : IVec S_ 1 := constantI S_ 1 1#1
  let main_v3 : IVec S_ 1 := (fun x v => Host.reduce IntOp.andi x v reducesTo_S8x4352x8x64_S_d0_1_2_3 h_S_) main_v2 main_c
  let main_v4 : FVec F S8x4352x2x64 .f32 := Host.absf main_arg1
  let main_cst_0 : FVec F S_ .f32 := constant S_ .f32 0x7F800000#32
  let main_v5 : FVec F S8x4352x2x64 .f32 := broadcastInDim S8x4352x2x64 ![] bcast_S_S8x4352x2x64 main_cst_0
  let main_v6 : IVec S8x4352x2x64 1 := cmpf .olt main_v4 main_v5
  let main_c_1 : IVec S_ 1 := constantI S_ 1 1#1
  let main_v7 : IVec S_ 1 := (fun x v => Host.reduce IntOp.andi x v reducesTo_S8x4352x2x64_S_d0_1_2_3 h_S_) main_v6 main_c_1
  let main_v8 : IVec S_ 1 := andi main_v3 main_v7
  let main_v9 : IVec S1 1 := shapeCast S1 main_v8 shapeCasts_S_S1
  main_v9
-- ==== Pre_finite6.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x1536 : Shape := ⟨2, ![1024, 1536]⟩
abbrev S64 : Shape := ⟨1, ![64]⟩
abbrev S4096x32 : Shape := ⟨2, ![4096, 32]⟩
abbrev S8x2048 : Shape := ⟨2, ![8, 2048]⟩
abbrev S_ : Shape := ⟨0, ![]⟩
abbrev S1x2048 : Shape := ⟨2, ![1, 2048]⟩
abbrev S1024x640 : Shape := ⟨2, ![1024, 640]⟩
abbrev S1 : Shape := ⟨1, ![1]⟩

class Facts : Prop where
  slices_S8x6144_S8x2048_0_0 : S8x6144.Slices ![0, 0] S8x2048
  bcast_S_S8x2048 : S_.BroadcastsInDim S8x2048 (![] : Fin 0 → Fin S8x2048.rank)
  reducesTo_S8x2048_S_d0_1 : S8x2048.ReducesTo [0, 1] S_
  h_S_ : 0 < S_.numel
  slices_S1x6144_S1x2048_0_0 : S1x6144.Slices ![0, 0] S1x2048
  bcast_S_S1x2048 : S_.BroadcastsInDim S1x2048 (![] : Fin 0 → Fin S1x2048.rank)
  reducesTo_S1x2048_S_d0_1 : S1x2048.ReducesTo [0, 1] S_
  bcast_S_S1024 : S_.BroadcastsInDim S1024 (![] : Fin 0 → Fin S1024.rank)
  reducesTo_S1024_S_d0 : S1024.ReducesTo [0] S_
  slices_S1024x1536_S1024x640_0_768 : S1024x1536.Slices ![0, 768] S1024x640
  bcast_S_S1024x640 : S_.BroadcastsInDim S1024x640 (![] : Fin 0 → Fin S1024x640.rank)
  reducesTo_S1024x640_S_d0_1 : S1024x640.ReducesTo [0, 1] S_
  shapeCasts_S_S1 : S_.ShapeCasts S1

variable [Facts]

def fn_part1 {F : FTy → Type} [FloatOps F] (main_v15 : IVec S_ 1) (main_v17 : FVec F S1024x640 .f32) : IVec S1 1 :=
  let main_cst_4 : FVec F S_ .f32 := constant S_ .f32 0x7F800000#32
  let main_v18 : FVec F S1024x640 .f32 := broadcastInDim S1024x640 ![] bcast_S_S1024x640 main_cst_4
  let main_v19 : IVec S1024x640 1 := cmpf .olt main_v17 main_v18
  let main_c_5 : IVec S_ 1 := constantI S_ 1 1#1
  let main_v20 : IVec S_ 1 := (fun x v => Host.reduce IntOp.andi x v reducesTo_S1024x640_S_d0_1 h_S_) main_v19 main_c_5
  let main_v21 : IVec S_ 1 := andi main_v15 main_v20
  let main_v22 : IVec S1 1 := shapeCast S1 main_v21 shapeCasts_S_S1
  main_v22

def fn {F : FTy → Type} [FloatOps F] (main_arg0 : FVec F S8x4096x1024 .f32) (main_arg1 : FVec F S8x256x1024 .f32) (main_arg2 : FVec F S8x6144 .f32) (main_arg3 : FVec F S1x6144 .f32) (main_arg4 : FVec F S1024 .f32) (main_arg5 : FVec F S1024x1536 .f32) (main_arg6 : FVec F S64 .f32) (main_arg7 : FVec F S64 .f32) (main_arg8 : FVec F S4096x32 .f32) (main_arg9 : FVec F S4096x32 .f32) : IVec S1 1 :=
  let main_v0 : FVec F S8x2048 .f32 := (extractStridedSlice S8x2048 ![0, 0] · slices_S8x6144_S8x2048_0_0) main_arg2
  let main_v1 : FVec F S8x2048 .f32 := Host.absf main_v0
  let main_cst : FVec F S_ .f32 := constant S_ .f32 0x7F800000#32
  let main_v2 : FVec F S8x2048 .f32 := broadcastInDim S8x2048 ![] bcast_S_S8x2048 main_cst
  let main_v3 : IVec S8x2048 1 := cmpf .olt main_v1 main_v2
  let main_c : IVec S_ 1 := constantI S_ 1 1#1
  let main_v4 : IVec S_ 1 := (fun x v => Host.reduce IntOp.andi x v reducesTo_S8x2048_S_d0_1 h_S_) main_v3 main_c
  let main_v5 : FVec F S1x2048 .f32 := (extractStridedSlice S1x2048 ![0, 0] · slices_S1x6144_S1x2048_0_0) main_arg3
  let main_v6 : FVec F S1x2048 .f32 := Host.absf main_v5
  let main_cst_0 : FVec F S_ .f32 := constant S_ .f32 0x7F800000#32
  let main_v7 : FVec F S1x2048 .f32 := broadcastInDim S1x2048 ![] bcast_S_S1x2048 main_cst_0
  let main_v8 : IVec S1x2048 1 := cmpf .olt main_v6 main_v7
  let main_c_1 : IVec S_ 1 := constantI S_ 1 1#1
  let main_v9 : IVec S_ 1 := (fun x v => Host.reduce IntOp.andi x v reducesTo_S1x2048_S_d0_1 h_S_) main_v8 main_c_1
  let main_v10 : IVec S_ 1 := andi main_v4 main_v9
  let main_v11 : FVec F S1024 .f32 := Host.absf main_arg4
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S1024x640 .f32 := (extractStridedSlice S1024x640 ![0, 768] · slices_S1024x1536_S1024x640_0_768) main_arg5
  let main_v17 : FVec F S1024x640 .f32 := Host.absf main_v16
  fn_part1 (F := F) main_v15 main_v17
-- ==== Pre_finite7.lean ====
abbrev S8x4352x8x64 : Shape := ⟨4, ![8, 4352, 8, 64]⟩
abbrev S8x4352x2x64 : Shape := ⟨4, ![8, 4352, 2, 64]⟩
abbrev S8 : Shape := ⟨1, ![8]⟩
abbrev S_ : Shape := ⟨0, ![]⟩
abbrev S1 : Shape := ⟨1, ![1]⟩

class Facts : Prop where
  bcast_S_S8x4352x8x64 : S_.BroadcastsInDim S8x4352x8x64 (![] : Fin 0 → Fin S8x4352x8x64.rank)
  reducesTo_S8x4352x8x64_S_d0_1_2_3 : S8x4352x8x64.ReducesTo [0, 1, 2, 3] S_
  h_S_ : 0 < S_.numel
  bcast_S_S8x4352x2x64 : S_.BroadcastsInDim S8x4352x2x64 (![] : Fin 0 → Fin S8x4352x2x64.rank)
  reducesTo_S8x4352x2x64_S_d0_1_2_3 : S8x4352x2x64.ReducesTo [0, 1, 2, 3] S_
  bcast_S_S8 : S_.BroadcastsInDim S8 (![] : Fin 0 → Fin S8.rank)
  reducesTo_S8_S_d0 : S8.ReducesTo [0] S_
  shapeCasts_S_S1 : S_.ShapeCasts S1

variable [Facts]

def fn {F : FTy → Type} [FloatOps F] (main_arg0 : FVec F S8x4352x8x64 .f32) (main_arg1 : FVec F S8x4352x2x64 .f32) (main_arg2 : FVec F S8x4352x2x64 .f32) (main_arg3 : FVec F S8 .f32) : IVec S1 1 :=
  let main_v0 : FVec F S8x4352x8x64 .f32 := Host.absf main_arg0
  let main_cst : FVec F S_ .f32 := constant S_ .f32 0x7F800000#32
  let main_v1 : FVec F S8x4352x8x64 .f32 := broadcastInDim S8x4352x8x64 ![] bcast_S_S8x4352x8x64 main_cst
  let main_v2 : IVec S8x4352x8x64 1 := cmpf .olt main_v0 main_v1
  let main_c : IVec S_ 1 := constantI S_ 1 1#1
  let main_v3 : IVec S_ 1 := (fun x v => Host.reduce IntOp.andi x v reducesTo_S8x4352x8x64_S_d0_1_2_3 h_S_) main_v2 main_c
  let main_v4 : FVec F S8x4352x2x64 .f32 := Host.absf main_arg1
  let main_cst_0 : FVec F S_ .f32 := constant S_ .f32 0x7F800000#32
  let main_v5 : FVec F S8x4352x2x64 .f32 := broadcastInDim S8x4352x2x64 ![] bcast_S_S8x4352x2x64 main_cst_0
  let main_v6 : IVec S8x4352x2x64 1 := cmpf .olt main_v4 main_v5
  let main_c_1 : IVec S_ 1 := constantI S_ 1 1#1
  let main_v7 : IVec S_ 1 := (fun x v => Host.reduce IntOp.andi x v reducesTo_S8x4352x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : IVec S1 1 := shapeCast S1 main_v13 shapeCasts_S_S1
  main_v14
-- ==== Pre_routed.lean ====
abbrev S46080x1024 : Shape := ⟨2, ![46080, 1024]⟩
abbrev S46080 : Shape := ⟨1, ![46080]⟩
abbrev S46080x4 : Shape := ⟨2, ![46080, 4]⟩
abbrev S90 : Shape := ⟨1, ![90]⟩
abbrev S1 : Shape := ⟨1, ![1]⟩
abbrev S4x4x1024x256 : Shape := ⟨4, ![4, 4, 1024, 256]⟩
abbrev S4x4x256x1024 : Shape := ⟨4, ![4, 4, 256, 1024]⟩
abbrev S90x512 : Shape := ⟨2, ![90, 512]⟩
abbrev S1x1 : Shape := ⟨2, ![1, 1]⟩
abbrev S_ : Shape := ⟨0, ![]⟩
abbrev S90x1 : Shape := ⟨2, ![90, 1]⟩
abbrev S90x512x4 : Shape := ⟨3, ![90, 512, 4]⟩
abbrev S90x512x1 : Shape := ⟨3, ![90, 512, 1]⟩

class Facts : Prop where
  shapeCasts_S1_S1x1 : S1.ShapeCasts S1x1
  bcast_S1x1_S90x512_0_1 : S1x1.BroadcastsInDim S90x512 (![0, 1] : Fin 2 → Fin S90x512.rank)
  shapeCasts_S46080_S90x512 : S46080.ShapeCasts S90x512
  bcast_S_S90 : S_.BroadcastsInDim S90 (![] : Fin 0 → Fin S90.rank)
  reducesTo_S90_S_d0 : S90.ReducesTo [0] S_
  h_S_ : 0 < S_.numel
  bcast_S_S1 : S_.BroadcastsInDim S1 (![] : Fin 0 → Fin S1.rank)
  reducesTo_S1_S_d0 : S1.ReducesTo [0] S_
  shapeCasts_S90_S90x1 : S90.ShapeCasts S90x1
  bcast_S90x1_S90x512_0_1 : S90x1.BroadcastsInDim S90x512 (![0, 1] : Fin 2 → Fin S90x512.rank)
  reducesTo_S90x512_S_d0_1 : S90x512.ReducesTo [0, 1] S_
  shapeCasts_S46080x4_S90x512x4 : S46080x4.ShapeCasts S90x512x4
  bcast_S_S90x512x4 : S_.BroadcastsInDim S90x512x4 (![] : Fin 0 → Fin S90x512x4.rank)
  bcast_S90x512_S90x512x1_0_1 : S90x512.BroadcastsInDim S90x512x1 (![0, 1] : Fin 2 → Fin S90x512x1.rank)
  bcast_S90x512x1_S90x512x4_0_1_2 : S90x512x1.BroadcastsInDim S90x512x4 (![0, 1, 2] : Fin 3 → Fin S90x512x4.rank)
  reducesTo_S90x512x4_S_d0_1_2 : S90x512x4.ReducesTo [0, 1, 2] S_
  bcast_S_S46080x4 : S_.BroadcastsInDim S46080x4 (![] : Fin 0 → Fin S46080x4.rank)
  reducesTo_S46080x4_S_d0_1 : S46080x4.ReducesTo [0, 1] S_
  shapeCasts_S_S1 : S_.ShapeCasts S1

variable [Facts]

def fn_part2 {F : FTy → Type} [FloatOps F] (main_v32 : IVec S_ 1) (main_v36 : IVec S_ 1) : IVec S1 1 :=
  let main_v37 : IVec S_ 1 := andi main_v32 main_v36
  let main_v38 : IVec S1 1 := shapeCast S1 main_v37 shapeCasts_S_S1
  main_v38

def fn_part1 {F : FTy → Type} [FloatOps F] (main_arg2 : FVec F S46080x4 .f32) (main_v3 : IVec S90x512 1) (main_v4 : IVec S90x512 32) (main_v10 : IVec S_ 1) (main_v16 : IVec S_ 1) (main_v17 : IVec S90x1 32) : IVec S1 1 :=
  let main_v18 : IVec S90x512 32 := broadcastInDim S90x512 ![0, 1] bcast_S90x1_S90x512_0_1 main_v17
  let main_v19 : IVec S90x512 1 := cmpi .eq main_v4 main_v18
  let main_v20 : IVec S90x512 1 := noti main_v3
  let main_v21 : IVec S90x512 1 := ori main_v19 main_v20
  let main_c_5 : IVec S_ 1 := constantI S_ 1 1#1
  let main_v22 : IVec S_ 1 := (fun x v => Host.reduce IntOp.andi x v reducesTo_S90x512_S_d0_1 h_S_) main_v21 main_c_5
  let main_v23 : FVec F S90x512x4 .f32 := shapeCast S90x512x4 main_arg2 shapeCasts_S46080x4_S90x512x4
  let main_cst : FVec F S_ .f32 := constant S_ .f32 0x00000000#32
  let main_v24 : FVec F S90x512x4 .f32 := broadcastInDim S90x512x4 ![] bcast_S_S90x512x4 main_cst
  let main_v25 : IVec S90x512x4 1 := cmpf .oeq main_v23 main_v24
  let main_v26 : IVec S90x512x1 1 := broadcastInDim S90x512x1 ![0, 1] bcast_S90x512_S90x512x1_0_1 main_v3
  let main_v27 : IVec S90x512x4 1 := broadcastInDim S90x512x4 ![0, 1, 2] bcast_S90x512x1_S90x512x4_0_1_2 main_v26
  let main_v28 : IVec S90x512x4 1 := ori main_v25 main_v27
  let main_c_6 : IVec S_ 1 := constantI S_ 1 1#1
  let main_v29 : IVec S_ 1 := (fun x v => Host.reduce IntOp.andi x v reducesTo_S90x512x4_S_d0_1_2 h_S_) main_v28 main_c_6
  let main_v30 : IVec S_ 1 := andi main_v10 main_v16
  let main_v31 : IVec S_ 1 := andi main_v30 main_v22
  let main_v32 : IVec S_ 1 := andi main_v31 main_v29
  let main_v33 : FVec F S46080x4 .f32 := Host.absf main_arg2
  let main_cst_7 : FVec F S_ .f32 := constant S_ .f32 0x7F800000#32
  let main_v34 : FVec F S46080x4 .f32 := broadcastInDim S46080x4 ![] bcast_S_S46080x4 main_cst_7
  let main_v35 : IVec S46080x4 1 := cmpf .olt main_v33 main_v34
  let main_c_8 : IVec S_ 1 := constantI S_ 1 1#1
  let main_v36 : IVec S_ 1 := (fun x v => Host.reduce IntOp.andi x v reducesTo_S46080x4_S_d0_1 h_S_) main_v35 main_c_8
  fn_part2 (F := F) main_v32 main_v36

def fn {F : FTy → Type} [FloatOps F] (main_arg0 : FVec F S46080x1024 .f32) (main_arg1 : IVec S46080 32) (main_arg2 : FVec F S46080x4 .f32) (main_arg3 : IVec S90 32) (main_arg4 : IVec S1 32) (main_arg5 : FVec F S4x4x1024x256 .f32) (main_arg6 : FVec F S4x4x1024x256 .f32) (main_arg7 : FVec F S4x4x256x1024 .f32) : IVec S1 1 :=
  let main_v0 : IVec S90x512 32 := iotaInDim S90x512 32 0
  let main_v1 : IVec S1x1 32 := shapeCast S1x1 main_arg4 shapeCasts_S1_S1x1
  let main_v2 : IVec S90x512 32 := broadcastInDim S90x512 ![0, 1] bcast_S1x1_S90x512_0_1 main_v1
  let main_v3 : IVec S90x512 1 := cmpi .slt main_v0 main_v2
  let main_v4 : IVec S90x512 32 := shapeCast S90x512 main_arg1 shapeCasts_S46080_S90x512
  let main_c : IVec S_ 32 := constantI S_ 32 0#32
  let main_v5 : IVec S90 32 := broadcastInDim S90 ![] bcast_S_S90 main_c
  let main_v6 : IVec S90 1 := cmpi .sge main_arg3 main_v5
  let main_c_0 : IVec S_ 32 := constantI S_ 32 4#32
  let main_v7 : IVec S90 32 := broadcastInDim S90 ![] bcast_S_S90 main_c_0
  let main_v8 : IVec S90 1 := cmpi .slt main_arg3 main_v7
  let main_v9 : IVec S90 1 := andi main_v6 main_v8
  let main_c_1 : IVec S_ 1 := constantI S_ 1 1#1
  let main_v10 : IVec S_ 1 := (fun x v => Host.reduce IntOp.andi x v reducesTo_S90_S_d0 h_S_) main_v9 main_c_1
  let main_c_2 : IVec S_ 32 := constantI S_ 32 1#32
  let main_v11 : IVec S1 32 := broadcastInDim S1 ![] bcast_S_S1 main_c_2
  let main_v12 : IVec S1 1 := cmpi .sge main_arg4 main_v11
  let main_c_3 : IVec S_ 32 := constantI S_ 32 90#32
  let main_v13 : IVec S1 32 := broadcastInDim S1 ![] bcast_S_S1 main_c_3
  let main_v14 : IVec S1 1 := cmpi .sle main_arg4 main_v13
  let main_v15 : IVec S1 1 := andi main_v12 main_v14
  let main_c_4 : IVec S_ 1 := constantI S_ 1 1#1
  let main_v16 : IVec S_ 1 := (fun x v => Host.reduce IntOp.andi x v reducesTo_S1_S_d0 h_S_) main_v15 main_c_4
  let main_v17 : IVec S90x1 32 := shapeCast S90x1 main_arg3 shapeCasts_S90_S90x1
  fn_part1 (F := F) main_arg2 main_v3 main_v4 main_v10 main_v16 main_v17
-- ==== Kernel.lean ====
abbrev S8x4352x8x64 : Shape := ⟨4, ![8, 4352, 8, 64]⟩
abbrev S8x4352x2x64 : Shape := ⟨4, ![8, 4352, 2, 64]⟩
abbrev S_ : Shape := ⟨0, ![]⟩
abbrev S8x8x4352x64 : Shape := ⟨4, ![8, 8, 4352, 64]⟩
abbrev S8x2x4352x64 : Shape := ⟨4, ![8, 2, 4352, 64]⟩
abbrev S8x2x4352x1 : Shape := ⟨4, ![8, 2, 4352, 1]⟩
abbrev S8x2x4352x63 : Shape := ⟨4, ![8, 2, 4352, 63]⟩
abbrev S8x2x4352x128 : Shape := ⟨4, ![8, 2, 4352, 128]⟩
abbrev S8x4096x512 : Shape := ⟨3, ![8, 4096, 512]⟩
abbrev S1x8x256x64 : Shape := ⟨4, ![1, 8, 256, 64]⟩
abbrev S1x2x4352x64 : Shape := ⟨4, ![1, 2, 4352, 64]⟩
abbrev S1x2x4352x128 : Shape := ⟨4, ![1, 2, 4352, 128]⟩
abbrev S1x256x512 : Shape := ⟨3, ![1, 256, 512]⟩
abbrev S1x4x256x64 : Shape := ⟨4, ![1, 4, 256, 64]⟩
abbrev S4x256x64 : Shape := ⟨3, ![4, 256, 64]⟩
abbrev S1024x64 : Shape := ⟨2, ![1024, 64]⟩
abbrev S1x1x4352x64 : Shape := ⟨4, ![1, 1, 4352, 64]⟩
abbrev S4352x64 : Shape := ⟨2, ![4352, 64]⟩
abbrev S1024x4352 : Shape := ⟨2, ![1024, 4352]⟩
abbrev S1x1x4352x128 : Shape := ⟨4, ![1, 1, 4352, 128]⟩
abbrev S4352x128 : Shape := ⟨2, ![4352, 128]⟩
abbrev S1024 : Shape := ⟨1, ![1024]⟩
abbrev S1024x1 : Shape := ⟨2, ![1024, 1]⟩
abbrev S256x128 : Shape := ⟨2, ![256, 128]⟩
abbrev S256x4352 : Shape := ⟨2, ![256, 4352]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 21
  | .vmem => 8
  | .smem => 0
  | _ => 0

abbrev bufTy : (tb : Table) → Fin (tcTables nBuf tb) → BufTy
  | .hbm, ⟨0, _⟩ => ⟨S8x4352x8x64, .f32⟩
  | .hbm, ⟨1, _⟩ => ⟨S8x4352x2x64, .f32⟩
  | .hbm, ⟨2, _⟩ => ⟨S8x4352x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4352x8x64, .f32⟩
  | .hbm, ⟨8, _⟩ => ⟨S8x4352x8x64, .f32⟩
  | .hbm, ⟨9, _⟩ => ⟨S8x8x4352x64, .f32⟩
  | .hbm, ⟨10, _⟩ => ⟨S8x8x4352x64, .bf16⟩
  | .hbm, ⟨11, _⟩ => ⟨S8x2x4352x64, .f32⟩
  | .hbm, ⟨12, _⟩ => ⟨S8x2x4352x64, .bf16⟩
  | .hbm, ⟨13, _⟩ => ⟨S8x2x4352x64, .f32⟩
  | .hbm, ⟨14, _⟩ => ⟨S_, .f32⟩
  | .hbm, ⟨15, _⟩ => ⟨S8x2x4352x1, .f32⟩
  | .hbm, ⟨16, _⟩ => ⟨S_, .f32⟩
  | .hbm, ⟨17, _⟩ => ⟨S8x2x4352x63, .f32⟩
  | .hbm, ⟨18, _⟩ => ⟨S8x2x4352x128, .f32⟩
  | .hbm, ⟨19, _⟩ => ⟨S8x2x4352x128, .bf16⟩
  | .hbm, ⟨20, _⟩ => ⟨S8x4096x512, .bf16⟩
  | .local _ .vmem, ⟨0, _⟩ => ⟨S1x8x256x64, .bf16⟩
  | .local _ .vmem, ⟨1, _⟩ => ⟨S1x8x256x64, .bf16⟩
  | .local _ .vmem, ⟨2, _⟩ => ⟨S1x2x4352x64, .bf16⟩
  | .local _ .vmem, ⟨3, _⟩ => ⟨S1x2x4352x64, .bf16⟩
  | .local _ .vmem, ⟨4, _⟩ => ⟨S1x2x4352x128, .bf16⟩
  | .local _ .vmem, ⟨5, _⟩ => ⟨S1x2x4352x128, .bf16⟩
  | .local _ .vmem, ⟨6, _⟩ => ⟨S1x256x512, .bf16⟩
  | .local _ .vmem, ⟨7, _⟩ => ⟨S1x256x512, .bf16⟩
  | _, _ => ⟨S8x4352x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4352x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x4352x8x64 : Shape := ⟨4, ![8, 4352, 8, 64]⟩
abbrev S8x4352x2x64 : Shape := ⟨4, ![8, 4352, 2, 64]⟩
abbrev S8x4096x8x64 : Shape := ⟨4, ![8, 4096, 8, 64]⟩
abbrev S8x4096x2x4x64 : Shape := ⟨5, ![8, 4096, 2, 4, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x4352x8x64, .f32⟩
  | .hbm, ⟨1, _⟩ => ⟨S8x4352x2x64, .f32⟩
  | .hbm, ⟨2, _⟩ => ⟨S8x4352x2x64, .f32⟩
  | .hbm, ⟨3, _⟩ => ⟨S8x4096x8x64, .f32⟩
  | .hbm, ⟨4, _⟩ => ⟨S8x4096x2x4x64, .f32⟩
  | .hbm, ⟨5, _⟩ => ⟨S8x2x4352x4096x4, .f32⟩
  | .hbm, ⟨6, _⟩ => ⟨S8x2x4x4096x4352, .f32⟩
  | .hbm, ⟨7, _⟩ => ⟨S_, .f32⟩
  | .hbm, ⟨8, _⟩ => ⟨S8x2x4x4096x4352, .f32⟩
  | .hbm, ⟨9, _⟩ => ⟨S8x2x4x4096x4352, .f32⟩
  | .hbm, ⟨10, _⟩ => ⟨S_, .f32⟩
  | .hbm, ⟨11, _⟩ => ⟨S8x2x4x4096, .f32⟩
  | .hbm, ⟨12, _⟩ => ⟨S_, .f32⟩
  | .hbm, ⟨13, _⟩ => ⟨S8x2x4x4096, .f32⟩
  | .hbm, ⟨14, _⟩ => ⟨S8x2x4x4096, .f32⟩
  | .hbm, ⟨15, _⟩ => ⟨S8x2x4x4096x1, .f32⟩
  | .hbm, ⟨16, _⟩ => ⟨S8x2x4x4096x4352, .f32⟩
  | .hbm, ⟨17, _⟩ => ⟨S8x2x4x4096x4352, .f32⟩
  | .hbm, ⟨18, _⟩ => ⟨S8x2x4x4096x4352, .f32⟩
  | .hbm, ⟨19, _⟩ => ⟨S_, .f32⟩
  | .hbm, ⟨20, _⟩ => ⟨S8x2x4x4096, .f32⟩
  | .hbm, ⟨21, _⟩ => ⟨S8x2x4x4096x1, .f32⟩
  | .hbm, ⟨22, _⟩ => ⟨S8x2x4x4096x4352, .f32⟩
  | .hbm, ⟨23, _⟩ => ⟨S8x2x4x4096x4352, .f32⟩
  | .hbm, ⟨24, _⟩ => ⟨S8x2x64x4x4096, .f32⟩
  | .hbm, ⟨25, _⟩ => ⟨S8x4096x2x4x64, .f32⟩
  | .hbm, ⟨26, _⟩ => ⟨S8x4096x512, .f32⟩
  | .hbm, ⟨27, _⟩ => ⟨S8x4096x512, .bf16⟩
  | _, _ => ⟨S8x4352x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S46080x1024 : Shape := ⟨2, ![46080, 1024]⟩
abbrev S46080 : Shape := ⟨1, ![46080]⟩
abbrev S46080x4 : Shape := ⟨2, ![46080, 4]⟩
abbrev S90 : Shape := ⟨1, ![90]⟩
abbrev S1 : Shape := ⟨1, ![1]⟩
abbrev S4x4x1024x256 : Shape := ⟨4, ![4, 4, 1024, 256]⟩
abbrev S4x4x256x1024 : Shape := ⟨4, ![4, 4, 256, 1024]⟩
abbrev S_ : Shape := ⟨0, ![]⟩
abbrev S46080x120 : Shape := ⟨2, ![46080, 120]⟩
abbrev S46080x1152 : Shape := ⟨2, ![46080, 1152]⟩
abbrev S4x1024x4x256 : Shape := ⟨4, ![4, 1024, 4, 256]⟩
abbrev S4x1024x1024 : Shape := ⟨3, ![4, 1024, 1024]⟩
abbrev S90x1 : Shape := ⟨2, ![90, 1]⟩
abbrev S512x1152 : Shape := ⟨2, ![512, 1152]⟩
abbrev S1x1024x1024 : Shape := ⟨3, ![1, 1024, 1024]⟩
abbrev S512x1024 : Shape := ⟨2, ![512, 1024]⟩
abbrev S1024x1024 : Shape := ⟨2, ![1024, 1024]⟩
abbrev S512x128 : Shape := ⟨2, ![512, 128]⟩
abbrev S512x4 : Shape := ⟨2, ![512, 4]⟩
abbrev S512x256 : Shape := ⟨2, ![512, 256]⟩
abbrev S512x1 : Shape := ⟨2, ![512, 1]⟩

abbrev nBuf : Space → Nat
  | .hbm => 37
  | .vmem => 10
  | .smem => 2
  | _ => 0

abbrev bufTy : (tb : Table) → Fin (tcTables nBuf tb) → BufTy
  | .hbm, ⟨0, _⟩ => ⟨S46080x1024, .f32⟩
  | .hbm, ⟨1, _⟩ => ⟨S46080, .i32⟩
  | .hbm, ⟨2, _⟩ => ⟨S46080x4, .f32⟩
  | .hbm, ⟨3, _⟩ => ⟨S90, .i32⟩
  | .hbm, ⟨4, _⟩ => ⟨S4x4x1024x256, .f32⟩
  | .hbm, ⟨5, _⟩ => ⟨S4x4x1024x256, .f32⟩
  | .hbm, ⟨6, _⟩ => ⟨S4x4x256x1024, .f32⟩
  | .hbm, ⟨7, _⟩ => ⟨S46080x4, .bf16⟩
  | .hbm, ⟨8, _⟩ => ⟨S46080x4, .f32⟩
  | .hbm, ⟨9, _⟩ => ⟨S46080x4, .f32⟩
  | .hbm, ⟨10, _⟩ => ⟨S_, .f32⟩
  | .hbm, ⟨11, _⟩ => ⟨S46080x120, .f32⟩
  | .hbm, ⟨12, _⟩ => ⟨S46080x1152, .f32⟩
  | .hbm, ⟨13, _⟩ => ⟨S46080x1152, .bf16⟩
  | .hbm, ⟨14, _⟩ => ⟨S4x1024x4x256, .f32⟩
  | .hbm, ⟨15, _⟩ => ⟨S4x1024x1024, .f32⟩
  | .hbm, ⟨16, _⟩ => ⟨S4x1024x1024, .bf16⟩
  | .hbm, ⟨17, _⟩ => ⟨S4x1024x4x256, .f32⟩
  | .hbm, ⟨18, _⟩ => ⟨S4x1024x1024, .f32⟩
  | .hbm, ⟨19, _⟩ => ⟨S4x1024x1024, .bf16⟩
  | .hbm, ⟨20, _⟩ => ⟨S4x1024x1024, .f32⟩
  | .hbm, ⟨21, _⟩ => ⟨S4x1024x1024, .bf16⟩
  | .hbm, ⟨22, _⟩ => ⟨S90, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S90, .i32⟩
  | .hbm, ⟨27, _⟩ => ⟨S90, .i32⟩
  | .hbm, ⟨28, _⟩ => ⟨S_, .i32⟩
  | .hbm, ⟨29, _⟩ => ⟨S90, .i32⟩
  | .hbm, ⟨30, _⟩ => ⟨S90, .i1⟩
  | .hbm, ⟨31, _⟩ => ⟨S_, .i32⟩
  | .hbm, ⟨32, _⟩ => ⟨S90, .i32⟩
  | .hbm, ⟨33, _⟩ => ⟨S90, .i32⟩
  | .hbm, ⟨34, _⟩ => ⟨S90, .i32⟩
  | .hbm, ⟨35, _⟩ => ⟨S90x1, .i32⟩
  | .hbm, ⟨36, _⟩ => ⟨S46080x1024, .bf16⟩
  | .local _ .vmem, ⟨0, _⟩ => ⟨S512x1152, .bf16⟩
  | .local _ .vmem, ⟨1, _⟩ => ⟨S512x1152, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S512x1024, .bf16⟩
  | .local _ .vmem, ⟨9, _⟩ => ⟨S512x1024, .bf16⟩
  | .local _ .smem, ⟨0, _⟩ => ⟨S90, .i32⟩
  | .local _ .smem, ⟨1, _⟩ => ⟨S1, .i32⟩
  | _, _ => ⟨S46080x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v26 : Ref sig .tc := ⟨.hbm, 36, rfl⟩
abbrev main_v25 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![90], ![false]⟩

abbrev pre0 : Pipeline.Prefetch sig := ⟨2, ![main_v25.idx, main_arg4.idx], fun | 0 => main_v25.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S90.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S90) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S90.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S90) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S90.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S90) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S46080x1024 : Shape := ⟨2, ![46080, 1024]⟩
abbrev S46080 : Shape := ⟨1, ![46080]⟩
abbrev S46080x4 : Shape := ⟨2, ![46080, 4]⟩
abbrev S90 : Shape := ⟨1, ![90]⟩
abbrev S1 : Shape := ⟨1, ![1]⟩
abbrev S4x4x1024x256 : Shape := ⟨4, ![4, 4, 1024, 256]⟩
abbrev S4x4x256x1024 : Shape := ⟨4, ![4, 4, 256, 1024]⟩
abbrev S46080x1 : Shape := ⟨2, ![46080, 1]⟩
abbrev S1x4 : Shape := ⟨2, ![1, 4]⟩
abbrev S46080x4x1 : Shape := ⟨3, ![46080, 4, 1]⟩
abbrev S46080x1x4 : Shape := ⟨3, ![46080, 1, 4]⟩
abbrev S46080x4x4 : Shape := ⟨3, ![46080, 4, 4]⟩
abbrev S_ : Shape := ⟨0, ![]⟩
abbrev S1x4x1024x256 : Shape := ⟨4, ![1, 4, 1024, 256]⟩
abbrev S4x1024x256 : Shape := ⟨3, ![4, 1024, 256]⟩
abbrev S46080x4x256 : Shape := ⟨3, ![46080, 4, 256]⟩
abbrev S1x4x256x1024 : Shape := ⟨4, ![1, 4, 256, 1024]⟩
abbrev S4x256x1024 : Shape := ⟨3, ![4, 256, 1024]⟩

abbrev nBuf : Space → Nat
  | .hbm => 122
  | .vmem => 0
  | .smem => 0
  | _ => 0

abbrev bufTy : (tb : Table) → Fin (tcTables nBuf tb) → BufTy
  | .hbm, ⟨0, _⟩ => ⟨S46080x1024, .f32⟩
  | .hbm, ⟨1, _⟩ => ⟨S46080, .i32⟩
  | .hbm, ⟨2, _⟩ => ⟨S46080x4, .f32⟩
  | .hbm, ⟨3, _⟩ => ⟨S90, .i32⟩
  | .hbm, ⟨4, _⟩ => ⟨S1, .i32⟩
  | .hbm, ⟨5, _⟩ => ⟨S4x4x1024x256, .f32⟩
  | .hbm, ⟨6, _⟩ => ⟨S4x4x1024x256, .f32⟩
  | .hbm, ⟨7, _⟩ => ⟨S4x4x256x1024, .f32⟩
  | .hbm, ⟨8, _⟩ => ⟨S46080x1, .i32⟩
  | .hbm, ⟨9, _⟩ => ⟨S1x4, .i32⟩
  | .hbm, ⟨10, _⟩ => ⟨S46080x4, .i32⟩
  | .hbm, ⟨11, _⟩ => ⟨S46080x4, .i32⟩
  | .hbm, ⟨12, _⟩ => ⟨S46080x4, .i1⟩
  | .hbm, ⟨13, _⟩ => ⟨S46080x4, .f32⟩
  | .hbm, ⟨14, _⟩ => ⟨S46080x4x1, .f32⟩
  | .hbm, ⟨15, _⟩ => ⟨S46080x1x4, .f32⟩
  | .hbm, ⟨16, _⟩ => ⟨S46080x4x4, .f32⟩
  | .hbm, ⟨17, _⟩ => ⟨S46080x4x4, .f32⟩
  | .hbm, ⟨18, _⟩ => ⟨S46080x4x4, .f32⟩
  | .hbm, ⟨19, _⟩ => ⟨S_, .f32⟩
  | .hbm, ⟨20, _⟩ => ⟨S46080x1024, .f32⟩
  | .hbm, ⟨21, _⟩ => ⟨S1x4x1024x256, .f32⟩
  | .hbm, ⟨22, _⟩ => ⟨S4x1024x256, .f32⟩
  | .hbm, ⟨23, _⟩ => ⟨S46080x4x256, .f32⟩
  | .hbm, ⟨24, _⟩ => ⟨S1x4x1024x256, .f32⟩
  | .hbm, ⟨25, _⟩ => ⟨S4x1024x256, .f32⟩
  | .hbm, ⟨26, _⟩ => ⟨S46080x4x256, .f32⟩
  | .hbm, ⟨27, _⟩ => ⟨S46080x4x256, .f32⟩
  | .hbm, ⟨28, _⟩ => ⟨S46080x4x256, .f32⟩
  | .hbm, ⟨29, _⟩ => ⟨S_, .f32⟩
  | .hbm, ⟨30, _⟩ => ⟨S46080x4x256, .f32⟩
  | .hbm, ⟨31, _⟩ => ⟨S46080x4x256, .f32⟩
  | .hbm, ⟨32, _⟩ => ⟨S_, .f32⟩
  | .hbm, ⟨33, _⟩ => ⟨S46080x4x256, .f32⟩
  | .hbm, ⟨34, _⟩ => ⟨S46080x4x256, .f32⟩
  | .hbm, ⟨35, _⟩ => ⟨S46080x4x256, .f32⟩
  | .hbm, ⟨36, _⟩ => ⟨S46080x4x256, .f32⟩
  | .hbm, ⟨37, _⟩ => ⟨S46080x1x4, .f32⟩
  | .hbm, ⟨38, _⟩ => ⟨S46080x4, .f32⟩
  | .hbm, ⟨39, _⟩ => ⟨S46080x4x1, .f32⟩
  | .hbm, ⟨40, _⟩ => ⟨S46080x4x256, .f32⟩
  | .hbm, ⟨41, _⟩ => ⟨S46080x4x256, .f32⟩
  | .hbm, ⟨42, _⟩ => ⟨S1x4x256x1024, .f32⟩
  | .hbm, ⟨43, _⟩ => ⟨S4x256x1024, .f32⟩
  | .hbm, ⟨44, _⟩ => ⟨S46080x1024, .f32⟩
  | .hbm, ⟨45, _⟩ => ⟨S46080x1024, .f32⟩
  | .hbm, ⟨46, _⟩ => ⟨S1x4x1024x256, .f32⟩
  | .hbm, ⟨47, _⟩ => ⟨S4x1024x256, .f32⟩
  | .hbm, ⟨48, _⟩ => ⟨S46080x4x256, .f32⟩
  | .hbm, ⟨49, _⟩ => ⟨S1x4x1024x256, .f32⟩
  | .hbm, ⟨50, _⟩ => ⟨S4x1024x256, .f32⟩
  | .hbm, ⟨51, _⟩ => ⟨S46080x4x256, .f32⟩
  | .hbm, ⟨52, _⟩ => ⟨S46080x4x256, .f32⟩
  | .hbm, ⟨53, _⟩ => ⟨S46080x4x256, .f32⟩
  | .hbm, ⟨54, _⟩ => ⟨S_, .f32⟩
  | .hbm, ⟨55, _⟩ => ⟨S46080x4x256, .f32⟩
  | .hbm, ⟨56, _⟩ => ⟨S46080x4x256, .f32⟩
  | .hbm, ⟨57, _⟩ => ⟨S_, .f32⟩
  | .hbm, ⟨58, _⟩ => ⟨S46080x4x256, .f32⟩
  | .hbm, ⟨59, _⟩ => ⟨S46080x4x256, .f32⟩
  | .hbm, ⟨60, _⟩ => ⟨S46080x4x256, .f32⟩
  | .hbm, ⟨61, _⟩ => ⟨S46080x4x256, .f32⟩
  | .hbm, ⟨62, _⟩ => ⟨S46080x1x4, .f32⟩
  | .hbm, ⟨63, _⟩ => ⟨S46080x4, .f32⟩
  | .hbm, ⟨64, _⟩ => ⟨S46080x4x1, .f32⟩
  | .hbm, ⟨65, _⟩ => ⟨S46080x4x256, .f32⟩
  | .hbm, ⟨66, _⟩ => ⟨S46080x4x256, .f32⟩
  | .hbm, ⟨67, _⟩ => ⟨S1x4x256x1024, .f32⟩
  | .hbm, ⟨68, _⟩ => ⟨S4x256x1024, .f32⟩
  | .hbm, ⟨69, _⟩ => ⟨S46080x1024, .f32⟩
  | .hbm, ⟨70, _⟩ => ⟨S46080x1024, .f32⟩
  | .hbm, ⟨71, _⟩ => ⟨S1x4x1024x256, .f32⟩
  | .hbm, ⟨72, _⟩ => ⟨S4x1024x256, .f32⟩
  | .hbm, ⟨73, _⟩ => ⟨S46080x4x256, .f32⟩
  | .hbm, ⟨74, _⟩ => ⟨S1x4x1024x256, .f32⟩
  | .hbm, ⟨75, _⟩ => ⟨S4x1024x256, .f32⟩
  | .hbm, ⟨76, _⟩ => ⟨S46080x4x256, .f32⟩
  | .hbm, ⟨77, _⟩ => ⟨S46080x4x256, .f32⟩
  | .hbm, ⟨78, _⟩ => ⟨S46080x4x256, .f32⟩
  | .hbm, ⟨79, _⟩ => ⟨S_, .f32⟩
  | .hbm, ⟨80, _⟩ => ⟨S46080x4x256, .f32⟩
  | .hbm, ⟨81, _⟩ => ⟨S46080x4x256, .f32⟩
  | .hbm, ⟨82, _⟩ => ⟨S_, .f32⟩
  | .hbm, ⟨83, _⟩ => ⟨S46080x4x256, .f32⟩
  | .hbm, ⟨84, _⟩ => ⟨S46080x4x256, .f32⟩
  | .hbm, ⟨85, _⟩ => ⟨S46080x4x256, .f32⟩
  | .hbm, ⟨86, _⟩ => ⟨S46080x4x256, .f32⟩
  | .hbm, ⟨87, _⟩ => ⟨S46080x1x4, .f32⟩
  | .hbm, ⟨88, _⟩ => ⟨S46080x4, .f32⟩
  | .hbm, ⟨89, _⟩ => ⟨S46080x4x1, .f32⟩
  | .hbm, ⟨90, _⟩ => ⟨S46080x4x256, .f32⟩
  | .hbm, ⟨91, _⟩ => ⟨S46080x4x256, .f32⟩
  | .hbm, ⟨92, _⟩ => ⟨S1x4x256x1024, .f32⟩
  | .hbm, ⟨93, _⟩ => ⟨S4x256x1024, .f32⟩
  | .hbm, ⟨94, _⟩ => ⟨S46080x1024, .f32⟩
  | .hbm, ⟨95, _⟩ => ⟨S46080x1024, .f32⟩
  | .hbm, ⟨96, _⟩ => ⟨S1x4x1024x256, .f32⟩
  | .hbm, ⟨97, _⟩ => ⟨S4x1024x256, .f32⟩
  | .hbm, ⟨98, _⟩ => ⟨S46080x4x256, .f32⟩
  | .hbm, ⟨99, _⟩ => ⟨S1x4x1024x256, .f32⟩
  | .hbm, ⟨100, _⟩ => ⟨S4x1024x256, .f32⟩
  | .hbm, ⟨101, _⟩ => ⟨S46080x4x256, .f32⟩
  | .hbm, ⟨102, _⟩ => ⟨S46080x4x256, .f32⟩
  | .hbm, ⟨103, _⟩ => ⟨S46080x4x256, .f32⟩
  | .hbm, ⟨104, _⟩ => ⟨S_, .f32⟩
  | .hbm, ⟨105, _⟩ => ⟨S46080x4x256, .f32⟩
  | .hbm, ⟨106, _⟩ => ⟨S46080x4x256, .f32⟩
  | .hbm, ⟨107, _⟩ => ⟨S_, .f32⟩
  | .hbm, ⟨108, _⟩ => ⟨S46080x4x256, .f32⟩
  | .hbm, ⟨109, _⟩ => ⟨S46080x4x256, .f32⟩
  | .hbm, ⟨110, _⟩ => ⟨S46080x4x256, .f32⟩
  | .hbm, ⟨111, _⟩ => ⟨S46080x4x256, .f32⟩
  | .hbm, ⟨112, _⟩ => ⟨S46080x1x4, .f32⟩
  | .hbm, ⟨113, _⟩ => ⟨S46080x4, .f32⟩
  | .hbm, ⟨114, _⟩ => ⟨S46080x4x1, .f32⟩
  | .hbm, ⟨115, _⟩ => ⟨S46080x4x256, .f32⟩
  | .hbm, ⟨116, _⟩ => ⟨S46080x4x256, .f32⟩
  | .hbm, ⟨117, _⟩ => ⟨S1x4x256x1024, .f32⟩
  | .hbm, ⟨118, _⟩ => ⟨S4x256x1024, .f32⟩
  | .hbm, ⟨119, _⟩ => ⟨S46080x1024, .f32⟩
  | .hbm, ⟨120, _⟩ => ⟨S46080x1024, .f32⟩
  | .hbm, ⟨121, _⟩ => ⟨S46080x1024, .bf16⟩
  | _, _ => ⟨S46080x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call4_v0 : Ref sig .tc := ⟨.hbm, 102, rfl⟩
abbrev main_call4_v1 : Ref sig .tc := ⟨.hbm, 103, rfl⟩
abbrev main_call4_cst : Ref sig .tc := ⟨.hbm, 104, rfl⟩
abbrev main_call4_v2 : Ref sig .tc := ⟨.hbm, 105, rfl⟩
abbrev main_call4_v3 : Ref sig .tc := ⟨.hbm, 106, rfl⟩
abbrev main_call4_cst_0 : Ref sig .tc := ⟨.hbm, 107, rfl⟩
abbrev main_call4_v4 : Ref sig .tc := ⟨.hbm, 108, rfl⟩
abbrev main_call4_v5 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x5680 : Shape := ⟨2, ![1024, 5680]⟩
abbrev S8x4352x1024 : Shape := ⟨3, ![8, 4352, 1024]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S1024x2560 : Shape := ⟨2, ![1024, 2560]⟩
abbrev S1024x1024 : Shape := ⟨2, ![1024, 1024]⟩
abbrev S1024x48 : Shape := ⟨2, ![1024, 48]⟩
abbrev S1024x3584 : Shape := ⟨2, ![1024, 3584]⟩
abbrev S1024x2048 : Shape := ⟨2, ![1024, 2048]⟩
abbrev S_ : Shape := ⟨0, ![]⟩
abbrev S1024x128 : Shape := ⟨2, ![1024, 128]⟩
abbrev S1x1024 : Shape := ⟨2, ![1, 1024]⟩
abbrev S8x4352x3584 : Shape := ⟨3, ![8, 4352, 3584]⟩
abbrev S8x4352x2048 : Shape := ⟨3, ![8, 4352, 2048]⟩
abbrev S8x4352x128 : Shape := ⟨3, ![8, 4352, 128]⟩
abbrev S1x256x1024 : Shape := ⟨3, ![1, 256, 1024]⟩
abbrev S1x1x6x1024 : Shape := ⟨4, ![1, 1, 6, 1024]⟩
abbrev S1x256x3584 : Shape := ⟨3, ![1, 256, 3584]⟩
abbrev S1x256x2048 : Shape := ⟨3, ![1, 256, 2048]⟩
abbrev S1x256x128 : Shape := ⟨3, ![1, 256, 128]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩
abbrev S256x128 : Shape := ⟨2, ![256, 128]⟩

abbrev nBuf : Space → Nat
  | .hbm => 30
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S1x6144, .f32⟩
  | .hbm, ⟨4, _⟩ => ⟨S1024, .f32⟩
  | .hbm, ⟨5, _⟩ => ⟨S1024x5680, .f32⟩
  | .hbm, ⟨6, _⟩ => ⟨S8x4352x1024, .f32⟩
  | .hbm, ⟨7, _⟩ => ⟨S1x6x1024, .f32⟩
  | .hbm, ⟨8, _⟩ => ⟨S8x6x1024, .f32⟩
  | .hbm, ⟨9, _⟩ => ⟨S8x6x1024, .f32⟩
  | .hbm, ⟨10, _⟩ => ⟨S8x1x6x1024, .f32⟩
  | .hbm, ⟨11, _⟩ => ⟨S8x1x6x1024, .f32⟩
  | .hbm, ⟨12, _⟩ => ⟨S8x2x6x1024, .f32⟩
  | .hbm, ⟨13, _⟩ => ⟨S1024x2560, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x48, .f32⟩
  | .hbm, ⟨18, _⟩ => ⟨S1024x3584, .f32⟩
  | .hbm, ⟨19, _⟩ => ⟨S1024x3584, .bf16⟩
  | .hbm, ⟨20, _⟩ => ⟨S1024x2048, .f32⟩
  | .hbm, ⟨21, _⟩ => ⟨S1024x2048, .bf16⟩
  | .hbm, ⟨22, _⟩ => ⟨S_, .i32⟩
  | .hbm, ⟨23, _⟩ => ⟨S_, .f32⟩
  | .hbm, ⟨24, _⟩ => ⟨S1024x128, .f32⟩
  | .hbm, ⟨25, _⟩ => ⟨S1024x128, .bf16⟩
  | .hbm, ⟨26, _⟩ => ⟨S1x1024, .f32⟩
  | .hbm, ⟨27, _⟩ => ⟨S8x4352x3584, .bf16⟩
  | .hbm, ⟨28, _⟩ => ⟨S8x4352x2048, .bf16⟩
  | .hbm, ⟨29, _⟩ => ⟨S8x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x3584, .bf16⟩
  | .local _ .vmem, ⟨6, _⟩ => ⟨S1024x2048, .bf16⟩
  | .local _ .vmem, ⟨7, _⟩ => ⟨S1024x128, .bf16⟩
  | .local _ .vmem, ⟨8, _⟩ => ⟨S1x256x3584, .bf16⟩
  | .local _ .vmem, ⟨9, _⟩ => ⟨S1x256x3584, .bf16⟩
  | .local _ .vmem, ⟨10, _⟩ => ⟨S1x256x2048, .bf16⟩
  | .local _ .vmem, ⟨11, _⟩ => ⟨S1x256x2048, .bf16⟩
  | .local _ .vmem, ⟨12, _⟩ => ⟨S1x256x128, .f32⟩
  | .local _ .vmem, ⟨13, _⟩ => ⟨S1x256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x3584 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x5680 : Shape := ⟨2, ![1024, 5680]⟩
abbrev S8x1024 : Shape := ⟨2, ![8, 1024]⟩
abbrev S8x1x1024 : Shape := ⟨3, ![8, 1, 1024]⟩
abbrev S1x1024 : Shape := ⟨2, ![1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x256x5680 : Shape := ⟨3, ![8, 256, 5680]⟩
abbrev S8x4096x5680 : Shape := ⟨3, ![8, 4096, 5680]⟩
abbrev S8x4352x5680 : Shape := ⟨3, ![8, 4352, 5680]⟩
abbrev S8x4352x2560 : Shape := ⟨3, ![8, 4352, 2560]⟩
abbrev S8x4352x1024 : Shape := ⟨3, ![8, 4352, 1024]⟩
abbrev S8x4352x48 : Shape := ⟨3, ![8, 4352, 48]⟩
abbrev S8x4352x3584 : Shape := ⟨3, ![8, 4352, 3584]⟩
abbrev S8x4352x2048 : Shape := ⟨3, ![8, 4352, 2048]⟩
abbrev S8x4352x80 : Shape := ⟨3, ![8, 4352, 80]⟩
abbrev S8x4352x128 : Shape := ⟨3, ![8, 4352, 128]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S1x6144, .f32⟩
  | .hbm, ⟨4, _⟩ => ⟨S1024, .f32⟩
  | .hbm, ⟨5, _⟩ => ⟨S1024x5680, .f32⟩
  | .hbm, ⟨6, _⟩ => ⟨S8x1024, .f32⟩
  | .hbm, ⟨7, _⟩ => ⟨S8x1x1024, .f32⟩
  | .hbm, ⟨8, _⟩ => ⟨S8x1024, .f32⟩
  | .hbm, ⟨9, _⟩ => ⟨S8x1x1024, .f32⟩
  | .hbm, ⟨10, _⟩ => ⟨S1x1024, .f32⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x256x1024, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S8x256x1, .f32⟩
  | .hbm, ⟨48, _⟩ => ⟨S8x256x1024, .f32⟩
  | .hbm, ⟨49, _⟩ => ⟨S8x256x1024, .f32⟩
  | .hbm, ⟨50, _⟩ => ⟨S1x1x1024, .f32⟩
  | .hbm, ⟨51, _⟩ => ⟨S8x256x1024, .f32⟩
  | .hbm, ⟨52, _⟩ => ⟨S8x256x1024, .f32⟩
  | .hbm, ⟨53, _⟩ => ⟨S_, .f32⟩
  | .hbm, ⟨54, _⟩ => ⟨S1x1x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S8x256x1024, .f32⟩
  | .hbm, ⟨59, _⟩ => ⟨S8x256x1024, .f32⟩
  | .hbm, ⟨60, _⟩ => ⟨S8x256x5680, .f32⟩
  | .hbm, ⟨61, _⟩ => ⟨S8x4096x5680, .f32⟩
  | .hbm, ⟨62, _⟩ => ⟨S8x4352x5680, .f32⟩
  | .hbm, ⟨63, _⟩ => ⟨S8x4352x2560, .f32⟩
  | .hbm, ⟨64, _⟩ => ⟨S8x4352x1024, .f32⟩
  | .hbm, ⟨65, _⟩ => ⟨S8x4352x1024, .f32⟩
  | .hbm, ⟨66, _⟩ => ⟨S8x4352x1024, .f32⟩
  | .hbm, ⟨67, _⟩ => ⟨S8x4352x48, .f32⟩
  | .hbm, ⟨68, _⟩ => ⟨S8x4352x3584, .f32⟩
  | .hbm, ⟨69, _⟩ => ⟨S8x4352x3584, .bf16⟩
  | .hbm, ⟨70, _⟩ => ⟨S8x4352x2048, .f32⟩
  | .hbm, ⟨71, _⟩ => ⟨S8x4352x2048, .bf16⟩
  | .hbm, ⟨72, _⟩ => ⟨S_, .f32⟩
  | .hbm, ⟨73, _⟩ => ⟨S8x4352x80, .f32⟩
  | .hbm, ⟨74, _⟩ => ⟨S8x4352x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Kernel4.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S2048x1024 : Shape := ⟨2, ![2048, 1024]⟩
abbrev S1024x4 : Shape := ⟨2, ![1024, 4]⟩
abbrev S1024x16 : Shape := ⟨2, ![1024, 16]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S8x4352x2048 : Shape := ⟨3, ![8, 4352, 2048]⟩
abbrev S1024x20 : Shape := ⟨2, ![1024, 20]⟩
abbrev S_ : Shape := ⟨0, ![]⟩
abbrev S1024x128 : Shape := ⟨2, ![1024, 128]⟩
abbrev S1x1024 : Shape := ⟨2, ![1, 1024]⟩
abbrev S8x4352x1152 : Shape := ⟨3, ![8, 4352, 1152]⟩
abbrev S8x17x8x128 : Shape := ⟨4, ![8, 17, 8, 128]⟩
abbrev S1x256x2048 : Shape := ⟨3, ![1, 256, 2048]⟩
abbrev S1x256x1024 : Shape := ⟨3, ![1, 256, 1024]⟩
abbrev S1x1x6x1024 : Shape := ⟨4, ![1, 1, 6, 1024]⟩
abbrev S1x256x1152 : Shape := ⟨3, ![1, 256, 1152]⟩
abbrev S1x1x8x128 : Shape := ⟨4, ![1, 1, 8, 128]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S6x1024 : Shape := ⟨2, ![6, 1024]⟩
abbrev S256x128 : Shape := ⟨2, ![256, 128]⟩
abbrev S1x256x128 : Shape := ⟨3, ![1, 256, 128]⟩
abbrev S128 : Shape := ⟨1, ![128]⟩
abbrev S1x128 : Shape := ⟨2, ![1, 128]⟩
abbrev S8x128 : Shape := ⟨2, ![8, 128]⟩

abbrev nBuf : Space → Nat
  | .hbm => 36
  | .vmem => 19
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x4352x1024, .f32⟩
  | .hbm, ⟨4, _⟩ => ⟨S8x4096x1024, .f32⟩
  | .hbm, ⟨5, _⟩ => ⟨S8x256x1024, .f32⟩
  | .hbm, ⟨6, _⟩ => ⟨S8x6144, .f32⟩
  | .hbm, ⟨7, _⟩ => ⟨S1x6144, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S1024, .f32⟩
  | .hbm, ⟨12, _⟩ => ⟨S1024x4, .f32⟩
  | .hbm, ⟨13, _⟩ => ⟨S1024x16, .f32⟩
  | .hbm, ⟨14, _⟩ => ⟨S8x4352x1024, .f32⟩
  | .hbm, ⟨15, _⟩ => ⟨S1x6x1024, .f32⟩
  | .hbm, ⟨16, _⟩ => ⟨S8x6x1024, .f32⟩
  | .hbm, ⟨17, _⟩ => ⟨S8x6x1024, .f32⟩
  | .hbm, ⟨18, _⟩ => ⟨S8x1x6x1024, .f32⟩
  | .hbm, ⟨19, _⟩ => ⟨S8x1x6x1024, .f32⟩
  | .hbm, ⟨20, _⟩ => ⟨S8x2x6x1024, .f32⟩
  | .hbm, ⟨21, _⟩ => ⟨S8x4352x2048, .f32⟩
  | .hbm, ⟨22, _⟩ => ⟨S8x4352x2048, .bf16⟩
  | .hbm, ⟨23, _⟩ => ⟨S8x4352x2048, .f32⟩
  | .hbm, ⟨24, _⟩ => ⟨S8x4352x2048, .bf16⟩
  | .hbm, ⟨25, _⟩ => ⟨S2048x1024, .bf16⟩
  | .hbm, ⟨26, _⟩ => ⟨S1024x20, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8x4352x1024, .f32⟩
  | .hbm, ⟨34, _⟩ => ⟨S8x4352x1152, .bf16⟩
  | .hbm, ⟨35, _⟩ => ⟨S8x17x8x128, .i32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024, .f32⟩
  | .local _ .vmem, ⟨9, _⟩ => ⟨S1x1024, .f32⟩
  | .local _ .vmem, ⟨10, _⟩ => ⟨S2048x1024, .bf16⟩
  | .local _ .vmem, ⟨11, _⟩ => ⟨S1x1024, .f32⟩
  | .local _ .vmem, ⟨12, _⟩ => ⟨S1024x128, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1152, .bf16⟩
  | .local _ .vmem, ⟨16, _⟩ => ⟨S1x256x1152, .bf16⟩
  | .local _ .vmem, ⟨17, _⟩ => ⟨S1x1x8x128, .i32⟩
  | .local _ .vmem, ⟨18, _⟩ => ⟨S1x1x8x128, .i32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S8x4352x1024 : Shape := ⟨3, ![8, 4352, 1024]⟩
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S2048x1024 : Shape := ⟨2, ![2048, 1024]⟩
abbrev S1024x4 : Shape := ⟨2, ![1024, 4]⟩
abbrev S1024x16 : Shape := ⟨2, ![1024, 16]⟩
abbrev S_ : Shape := ⟨0, ![]⟩
abbrev S8x4352x2x512 : Shape := ⟨4, ![8, 4352, 2, 512]⟩
abbrev S8x4352x2 : Shape := ⟨3, ![8, 4352, 2]⟩
abbrev S8x4352x2x1 : Shape := ⟨4, ![8, 4352, 2, 1]⟩
abbrev S1x1x1024 : Shape := ⟨3, ![1, 1, 1024]⟩
abbrev S8x4352x4x256 : Shape := ⟨4, ![8, 4352, 4, 256]⟩
abbrev S8x4352x4 : Shape := ⟨3, ![8, 4352, 4]⟩
abbrev S8x4352x4x1 : Shape := ⟨4, ![8, 4352, 4, 1]⟩
abbrev S8x4352x2048 : Shape := ⟨3, ![8, 4352, 2048]⟩
abbrev S8x1024 : Shape := ⟨2, ![8, 1024]⟩
abbrev S8x1x1024 : Shape := ⟨3, ![8, 1, 1024]⟩
abbrev S1x1024 : Shape := ⟨2, ![1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .f32⟩
  | .hbm, ⟨3, _⟩ => ⟨S8x4352x1024, .f32⟩
  | .hbm, ⟨4, _⟩ => ⟨S8x4096x1024, .f32⟩
  | .hbm, ⟨5, _⟩ => ⟨S8x256x1024, .f32⟩
  | .hbm, ⟨6, _⟩ => ⟨S8x6144, .f32⟩
  | .hbm, ⟨7, _⟩ => ⟨S1x6144, .f32⟩
  | .hbm, ⟨8, _⟩ => ⟨S1024, .f32⟩
  | .hbm, ⟨9, _⟩ => ⟨S1024, .f32⟩
  | .hbm, ⟨10, _⟩ => ⟨S2048x1024, .f32⟩
  | .hbm, ⟨11, _⟩ => ⟨S1024, .f32⟩
  | .hbm, ⟨12, _⟩ => ⟨S1024x4, .f32⟩
  | .hbm, ⟨13, _⟩ => ⟨S1024x16, .f32⟩
  | .hbm, ⟨14, _⟩ => ⟨S8x4352x1024, .f32⟩
  | .hbm, ⟨15, _⟩ => ⟨S8x4352x1024, .f32⟩
  | .hbm, ⟨16, _⟩ => ⟨S_, .f32⟩
  | .hbm, ⟨17, _⟩ => ⟨S8x4352x1024, .f32⟩
  | .hbm, ⟨18, _⟩ => ⟨S8x4352x1024, .f32⟩
  | .hbm, ⟨19, _⟩ => ⟨S_, .f32⟩
  | .hbm, ⟨20, _⟩ => ⟨S8x4352x1024, .f32⟩
  | .hbm, ⟨21, _⟩ => ⟨S8x4352x1024, .f32⟩
  | .hbm, ⟨22, _⟩ => ⟨S8x4352x1024, .f32⟩
  | .hbm, ⟨23, _⟩ => ⟨S8x4352x1024, .f32⟩
  | .hbm, ⟨24, _⟩ => ⟨S8x4352x2x512, .f32⟩
  | .hbm, ⟨25, _⟩ => ⟨S8x4352x2x512, .f32⟩
  | .hbm, ⟨26, _⟩ => ⟨S_, .f32⟩
  | .hbm, ⟨27, _⟩ => ⟨S8x4352x2, .f32⟩
  | .hbm, ⟨28, _⟩ => ⟨S8x4352x2x1, .f32⟩
  | .hbm, ⟨29, _⟩ => ⟨S_, .f32⟩
  | .hbm, ⟨30, _⟩ => ⟨S8x4352x2x1, .f32⟩
  | .hbm, ⟨31, _⟩ => ⟨S8x4352x2x1, .f32⟩
  | .hbm, ⟨32, _⟩ => ⟨S_, .f32⟩
  | .hbm, ⟨33, _⟩ => ⟨S8x4352x2x1, .f32⟩
  | .hbm, ⟨34, _⟩ => ⟨S8x4352x2x1, .f32⟩
  | .hbm, ⟨35, _⟩ => ⟨S8x4352x2x1, .f32⟩
  | .hbm, ⟨36, _⟩ => ⟨S8x4352x2x512, .f32⟩
  | .hbm, ⟨37, _⟩ => ⟨S8x4352x2x512, .f32⟩
  | .hbm, ⟨38, _⟩ => ⟨S8x4352x1024, .f32⟩
  | .hbm, ⟨39, _⟩ => ⟨S1x1x1024, .f32⟩
  | .hbm, ⟨40, _⟩ => ⟨S8x4352x1024, .f32⟩
  | .hbm, ⟨41, _⟩ => ⟨S8x4352x1024, .f32⟩
  | .hbm, ⟨42, _⟩ => ⟨S8x4352x4x256, .f32⟩
  | .hbm, ⟨43, _⟩ => ⟨S8x4352x4x256, .f32⟩
  | .hbm, ⟨44, _⟩ => ⟨S_, .f32⟩
  | .hbm, ⟨45, _⟩ => ⟨S8x4352x4, .f32⟩
  | .hbm, ⟨46, _⟩ => ⟨S8x4352x4x1, .f32⟩
  | .hbm, ⟨47, _⟩ => ⟨S_, .f32⟩
  | .hbm, ⟨48, _⟩ => ⟨S8x4352x4x1, .f32⟩
  | .hbm, ⟨49, _⟩ => ⟨S8x4352x4x1, .f32⟩
  | .hbm, ⟨50, _⟩ => ⟨S_, .f32⟩
  | .hbm, ⟨51, _⟩ => ⟨S8x4352x4x1, .f32⟩
  | .hbm, ⟨52, _⟩ => ⟨S8x4352x4x1, .f32⟩
  | .hbm, ⟨53, _⟩ => ⟨S8x4352x4x1, .f32⟩
  | .hbm, ⟨54, _⟩ => ⟨S8x4352x4x256, .f32⟩
  | .hbm, ⟨55, _⟩ => ⟨S8x4352x4x256, .f32⟩
  | .hbm, ⟨56, _⟩ => ⟨S8x4352x1024, .f32⟩
  | .hbm, ⟨57, _⟩ => ⟨S1x1x1024, .f32⟩
  | .hbm, ⟨58, _⟩ => ⟨S8x4352x1024, .f32⟩
  | .hbm, ⟨59, _⟩ => ⟨S8x4352x1024, .f32⟩
  | .hbm, ⟨60, _⟩ => ⟨S8x4352x1024, .f32⟩
  | .hbm, ⟨61, _⟩ => ⟨S8x4352x1024, .f32⟩
  | .hbm, ⟨62, _⟩ => ⟨S_, .f32⟩
  | .hbm, ⟨63, _⟩ => ⟨S8x4352x1024, .f32⟩
  | .hbm, ⟨64, _⟩ => ⟨S8x4352x1024, .f32⟩
  | .hbm, ⟨65, _⟩ => ⟨S_, .f32⟩
  | .hbm, ⟨66, _⟩ => ⟨S8x4352x1024, .f32⟩
  | .hbm, ⟨67, _⟩ => ⟨S8x4352x1024, .f32⟩
  | .hbm, ⟨68, _⟩ => ⟨S8x4352x1024, .f32⟩
  | .hbm, ⟨69, _⟩ => ⟨S8x4352x2048, .f32⟩
  | .hbm, ⟨70, _⟩ => ⟨S8x4352x1024, .f32⟩
  | .hbm, ⟨71, _⟩ => ⟨S8x1024, .f32⟩
  | .hbm, ⟨72, _⟩ => ⟨S8x1024, .f32⟩
  | .hbm, ⟨73, _⟩ => ⟨S8x1024, .f32⟩
  | .hbm, ⟨74, _⟩ => ⟨S8x1024, .f32⟩
  | .hbm, ⟨75, _⟩ => ⟨S8x1024, .f32⟩
  | .hbm, ⟨76, _⟩ => ⟨S8x1024, .f32⟩
  | .hbm, ⟨77, _⟩ => ⟨S8x1x1024, .f32⟩
  | .hbm, ⟨78, _⟩ => ⟨S8x1x1024, .f32⟩
  | .hbm, ⟨79, _⟩ => ⟨S8x1x1024, .f32⟩
  | .hbm, ⟨80, _⟩ => ⟨S8x1x1024, .f32⟩
  | .hbm, ⟨81, _⟩ => ⟨S8x1x1024, .f32⟩
  | .hbm, ⟨82, _⟩ => ⟨S8x1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1x1024, .f32⟩
  | .hbm, ⟨90, _⟩ => ⟨S1x1x1024, .f32⟩
  | .hbm, ⟨91, _⟩ => ⟨S1x1x1024, .f32⟩
  | .hbm, ⟨92, _⟩ => ⟨S1x1x1024, .f32⟩
  | .hbm, ⟨93, _⟩ => ⟨S1x1x1024, .f32⟩
  | .hbm, ⟨94, _⟩ => ⟨S1x1x1024, .f32⟩
  | .hbm, ⟨95, _⟩ => ⟨S8x256x1024, .f32⟩
  | .hbm, ⟨96, _⟩ => ⟨S8x256x1024, .f32⟩
  | .hbm, ⟨97, _⟩ => ⟨S8x256x1024, .f32⟩
  | .hbm, ⟨98, _⟩ => ⟨S8x256x1024, .f32⟩
  | .hbm, ⟨99, _⟩ => ⟨S8x4096x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | .hbm, ⟨103, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_v5 : Ref sig .tc := ⟨.hbm, 28, rfl⟩
abbrev main_cst_0 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Kernel5.lean ====
abbrev S8x256x512 : Shape := ⟨3, ![8, 256, 512]⟩
abbrev S8x4096x512 : Shape := ⟨3, ![8, 4096, 512]⟩
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024x1024 : Shape := ⟨2, ![1024, 1024]⟩
abbrev S1024 : Shape := ⟨1, ![1024]⟩
abbrev S1024x4 : Shape := ⟨2, ![1024, 4]⟩
abbrev S1024x16 : Shape := ⟨2, ![1024, 16]⟩
abbrev S8x4352x1024 : Shape := ⟨3, ![8, 4352, 1024]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S1024x20 : Shape := ⟨2, ![1024, 20]⟩
abbrev S_ : Shape := ⟨0, ![]⟩
abbrev S1024x128 : Shape := ⟨2, ![1024, 128]⟩
abbrev S1x1024 : Shape := ⟨2, ![1, 1024]⟩
abbrev S8x4352x1152 : Shape := ⟨3, ![8, 4352, 1152]⟩
abbrev S8x17x8x128 : Shape := ⟨4, ![8, 17, 8, 128]⟩
abbrev S1x256x512 : Shape := ⟨3, ![1, 256, 512]⟩
abbrev S1x256x1024 : Shape := ⟨3, ![1, 256, 1024]⟩
abbrev S1x1x6x1024 : Shape := ⟨4, ![1, 1, 6, 1024]⟩
abbrev S1x256x1152 : Shape := ⟨3, ![1, 256, 1152]⟩
abbrev S1x1x8x128 : Shape := ⟨4, ![1, 1, 8, 128]⟩
abbrev S256x512 : Shape := ⟨2, ![256, 512]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S128 : Shape := ⟨1, ![128]⟩
abbrev S1x128 : Shape := ⟨2, ![1, 128]⟩
abbrev S8x128 : Shape := ⟨2, ![8, 128]⟩

abbrev nBuf : Space → Nat
  | .hbm => 32
  | .vmem => 21
  | .smem => 0
  | _ => 0

abbrev bufTy : (tb : Table) → Fin (tcTables nBuf tb) → BufTy
  | .hbm, ⟨0, _⟩ => ⟨S8x256x512, .f32⟩
  | .hbm, ⟨1, _⟩ => ⟨S8x256x512, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S8x256x1024, .f32⟩
  | .hbm, ⟨6, _⟩ => ⟨S8x6144, .f32⟩
  | .hbm, ⟨7, _⟩ => ⟨S1x6144, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S1024x16, .f32⟩
  | .hbm, ⟨12, _⟩ => ⟨S8x4352x1024, .f32⟩
  | .hbm, ⟨13, _⟩ => ⟨S1x6x1024, .f32⟩
  | .hbm, ⟨14, _⟩ => ⟨S8x6x1024, .f32⟩
  | .hbm, ⟨15, _⟩ => ⟨S8x6x1024, .f32⟩
  | .hbm, ⟨16, _⟩ => ⟨S8x1x6x1024, .f32⟩
  | .hbm, ⟨17, _⟩ => ⟨S8x1x6x1024, .f32⟩
  | .hbm, ⟨18, _⟩ => ⟨S8x2x6x1024, .f32⟩
  | .hbm, ⟨19, _⟩ => ⟨S8x256x512, .bf16⟩
  | .hbm, ⟨20, _⟩ => ⟨S8x256x512, .bf16⟩
  | .hbm, ⟨21, _⟩ => ⟨S8x4096x512, .bf16⟩
  | .hbm, ⟨22, _⟩ => ⟨S8x4096x512, .bf16⟩
  | .hbm, ⟨23, _⟩ => ⟨S1024x1024, .bf16⟩
  | .hbm, ⟨24, _⟩ => ⟨S1024x20, .f32⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1x1024, .f32⟩
  | .hbm, ⟨29, _⟩ => ⟨S8x4352x1024, .f32⟩
  | .hbm, ⟨30, _⟩ => ⟨S8x4352x1152, .bf16⟩
  | .hbm, ⟨31, _⟩ => ⟨S8x17x8x128, .i32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x1024, .f32⟩
  | .local _ .vmem, ⟨9, _⟩ => ⟨S1x256x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1024x1024, .bf16⟩
  | .local _ .vmem, ⟨13, _⟩ => ⟨S1x1024, .f32⟩
  | .local _ .vmem, ⟨14, _⟩ => ⟨S1024x128, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1152, .bf16⟩
  | .local _ .vmem, ⟨18, _⟩ => ⟨S1x256x1152, .bf16⟩
  | .local _ .vmem, ⟨19, _⟩ => ⟨S1x1x8x128, .i32⟩
  | .local _ .vmem, ⟨20, _⟩ => ⟨S1x1x8x128, .i32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1152 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S8x256x512 : Shape := ⟨3, ![8, 256, 512]⟩
abbrev S8x4096x512 : Shape := ⟨3, ![8, 4096, 512]⟩
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024x1024 : Shape := ⟨2, ![1024, 1024]⟩
abbrev S1024 : Shape := ⟨1, ![1024]⟩
abbrev S1024x4 : Shape := ⟨2, ![1024, 4]⟩
abbrev S1024x16 : Shape := ⟨2, ![1024, 16]⟩
abbrev S8x4352x1024 : Shape := ⟨3, ![8, 4352, 1024]⟩
abbrev S8x1024 : Shape := ⟨2, ![8, 1024]⟩
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x256x512, .f32⟩
  | .hbm, ⟨2, _⟩ => ⟨S8x4096x512, .f32⟩
  | .hbm, ⟨3, _⟩ => ⟨S8x4096x512, .f32⟩
  | .hbm, ⟨4, _⟩ => ⟨S8x4096x1024, .f32⟩
  | .hbm, ⟨5, _⟩ => ⟨S8x256x1024, .f32⟩
  | .hbm, ⟨6, _⟩ => ⟨S8x6144, .f32⟩
  | .hbm, ⟨7, _⟩ => ⟨S1x6144, .f32⟩
  | .hbm, ⟨8, _⟩ => ⟨S1024x1024, .f32⟩
  | .hbm, ⟨9, _⟩ => ⟨S1024, .f32⟩
  | .hbm, ⟨10, _⟩ => ⟨S1024x4, .f32⟩
  | .hbm, ⟨11, _⟩ => ⟨S1024x16, .f32⟩
  | .hbm, ⟨12, _⟩ => ⟨S8x256x1024, .f32⟩
  | .hbm, ⟨13, _⟩ => ⟨S8x256x1024, .f32⟩
  | .hbm, ⟨14, _⟩ => ⟨S8x4096x1024, .f32⟩
  | .hbm, ⟨15, _⟩ => ⟨S8x4096x1024, .f32⟩
  | .hbm, ⟨16, _⟩ => ⟨S8x4352x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S8x1x1024, .f32⟩
  | .hbm, ⟨27, _⟩ => ⟨S8x1x1024, .f32⟩
  | .hbm, ⟨28, _⟩ => ⟨S8x1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1x1024, .f32⟩
  | .hbm, ⟨36, _⟩ => ⟨S1x1x1024, .f32⟩
  | .hbm, ⟨37, _⟩ => ⟨S1x1x1024, .f32⟩
  | .hbm, ⟨38, _⟩ => ⟨S1x1x1024, .f32⟩
  | .hbm, ⟨39, _⟩ => ⟨S1x1x1024, .f32⟩
  | .hbm, ⟨40, _⟩ => ⟨S1x1x1024, .f32⟩
  | .hbm, ⟨41, _⟩ => ⟨S8x256x1024, .f32⟩
  | .hbm, ⟨42, _⟩ => ⟨S8x256x1024, .f32⟩
  | .hbm, ⟨43, _⟩ => ⟨S8x256x1024, .f32⟩
  | .hbm, ⟨44, _⟩ => ⟨S8x256x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4352x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x1536 : Shape := ⟨2, ![1024, 1536]⟩
abbrev S64 : Shape := ⟨1, ![64]⟩
abbrev S4096x32 : Shape := ⟨2, ![4096, 32]⟩
abbrev S2 : Shape := ⟨1, ![2]⟩
abbrev S8x4352x1024 : Shape := ⟨3, ![8, 4352, 1024]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S4096x32x2 : Shape := ⟨3, ![4096, 32, 2]⟩
abbrev S4096x64 : Shape := ⟨2, ![4096, 64]⟩
abbrev S1x2 : Shape := ⟨2, ![1, 2]⟩
abbrev S32x2 : Shape := ⟨2, ![32, 2]⟩
abbrev S1x64 : Shape := ⟨2, ![1, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S8x8x4352x64 : Shape := ⟨4, ![8, 8, 4352, 64]⟩
abbrev S8x2x4352x64 : Shape := ⟨4, ![8, 2, 4352, 64]⟩
abbrev S8x2x4352x128 : Shape := ⟨4, ![8, 2, 4352, 128]⟩
abbrev S1x256x1024 : Shape := ⟨3, ![1, 256, 1024]⟩
abbrev S1x1x6x1024 : Shape := ⟨4, ![1, 1, 6, 1024]⟩
abbrev S256x128 : Shape := ⟨2, ![256, 128]⟩
abbrev S1x8x256x64 : Shape := ⟨4, ![1, 8, 256, 64]⟩
abbrev S1x2x256x64 : Shape := ⟨4, ![1, 2, 256, 64]⟩
abbrev S1x2x256x128 : Shape := ⟨4, ![1, 2, 256, 128]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S256x1536 : Shape := ⟨2, ![256, 1536]⟩
abbrev S256x512 : Shape := ⟨2, ![256, 512]⟩
abbrev S512x512 : Shape := ⟨2, ![512, 512]⟩
abbrev S128x128 : Shape := ⟨2, ![128, 128]⟩
abbrev S256x64 : Shape := ⟨2, ![256, 64]⟩
abbrev S1x1x256x64 : Shape := ⟨4, ![1, 1, 256, 64]⟩
abbrev S1x1x256x128 : Shape := ⟨4, ![1, 1, 256, 128]⟩

abbrev nBuf : Space → Nat
  | .hbm => 50
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x6144, .f32⟩
  | .hbm, ⟨3, _⟩ => ⟨S1x6144, .f32⟩
  | .hbm, ⟨4, _⟩ => ⟨S1024, .f32⟩
  | .hbm, ⟨5, _⟩ => ⟨S1024x1536, .f32⟩
  | .hbm, ⟨6, _⟩ => ⟨S64, .f32⟩
  | .hbm, ⟨7, _⟩ => ⟨S64, .f32⟩
  | .hbm, ⟨8, _⟩ => ⟨S4096x32, .f32⟩
  | .hbm, ⟨9, _⟩ => ⟨S4096x32, .f32⟩
  | .hbm, ⟨10, _⟩ => ⟨S2, .f32⟩
  | .hbm, ⟨11, _⟩ => ⟨S8x4352x1024, .f32⟩
  | .hbm, ⟨12, _⟩ => ⟨S1x6x1024, .f32⟩
  | .hbm, ⟨13, _⟩ => ⟨S8x6x1024, .f32⟩
  | .hbm, ⟨14, _⟩ => ⟨S8x6x1024, .f32⟩
  | .hbm, ⟨15, _⟩ => ⟨S8x1x6x1024, .f32⟩
  | .hbm, ⟨16, _⟩ => ⟨S8x1x6x1024, .f32⟩
  | .hbm, ⟨17, _⟩ => ⟨S8x2x6x1024, .f32⟩
  | .hbm, ⟨18, _⟩ => ⟨S4096x32x2, .f32⟩
  | .hbm, ⟨19, _⟩ => ⟨S4096x64, .f32⟩
  | .hbm, ⟨20, _⟩ => ⟨S4096x32x2, .f32⟩
  | .hbm, ⟨21, _⟩ => ⟨S4096x64, .f32⟩
  | .hbm, ⟨22, _⟩ => ⟨S1x2, .f32⟩
  | .hbm, ⟨23, _⟩ => ⟨S32x2, .f32⟩
  | .hbm, ⟨24, _⟩ => ⟨S64, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S1x4096x1x64, .f32⟩
  | .hbm, ⟨29, _⟩ => ⟨S1x4096x2x64, .f32⟩
  | .hbm, ⟨30, _⟩ => ⟨S4096x128, .f32⟩
  | .hbm, ⟨31, _⟩ => ⟨S1x4096x1x64, .f32⟩
  | .hbm, ⟨32, _⟩ => ⟨S1x4096x2x64, .f32⟩
  | .hbm, ⟨33, _⟩ => ⟨S4096x128, .f32⟩
  | .hbm, ⟨34, _⟩ => ⟨S1x64, .f32⟩
  | .hbm, ⟨35, _⟩ => ⟨S8x64, .f32⟩
  | .hbm, ⟨36, _⟩ => ⟨S512, .f32⟩
  | .hbm, ⟨37, _⟩ => ⟨S1x512, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1024x1536, .bf16⟩
  | .hbm, ⟨43, _⟩ => ⟨S1x1024, .f32⟩
  | .hbm, ⟨44, _⟩ => ⟨S8x8x4352x64, .bf16⟩
  | .hbm, ⟨45, _⟩ => ⟨S8x2x4352x64, .bf16⟩
  | .hbm, ⟨46, _⟩ => ⟨S8x2x4352x128, .bf16⟩
  | .hbm, ⟨47, _⟩ => ⟨S8x8x4352x64, .bf16⟩
  | .hbm, ⟨48, _⟩ => ⟨S8x2x4352x64, .bf16⟩
  | .hbm, ⟨49, _⟩ => ⟨S8x2x4352x128, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1536, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x512, .f32⟩
  | .local _ .vmem, ⟨11, _⟩ => ⟨S1x128, .f32⟩
  | .local _ .vmem, ⟨12, _⟩ => ⟨S1x8x256x64, .bf16⟩
  | .local _ .vmem, ⟨13, _⟩ => ⟨S1x8x256x64, .bf16⟩
  | .local _ .vmem, ⟨14, _⟩ => ⟨S1x2x256x64, .bf16⟩
  | .local _ .vmem, ⟨15, _⟩ => ⟨S1x2x256x64, .bf16⟩
  | .local _ .vmem, ⟨16, _⟩ => ⟨S1x2x256x128, .bf16⟩
  | .local _ .vmem, ⟨17, _⟩ => ⟨S1x2x256x128, .bf16⟩
  | .local _ .vmem, ⟨18, _⟩ => ⟨S1x8x256x64, .bf16⟩
  | .local _ .vmem, ⟨19, _⟩ => ⟨S1x8x256x64, .bf16⟩
  | .local _ .vmem, ⟨20, _⟩ => ⟨S1x2x256x64, .bf16⟩
  | .local _ .vmem, ⟨21, _⟩ => ⟨S1x2x256x64, .bf16⟩
  | .local _ .vmem, ⟨22, _⟩ => ⟨S1x2x256x128, .bf16⟩
  | .local _ .vmem, ⟨23, _⟩ => ⟨S1x2x256x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v33_4 : Ref sig .tc := ⟨.hbm, 48, rfl⟩
abbrev main_v33_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x256x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference6Ideal.lean ====
abbrev S8x4096x1024 : Shape := ⟨3, ![8, 4096, 1024]⟩
abbrev S8x256x1024 : Shape := ⟨3, ![8, 256, 1024]⟩
abbrev S8x6144 : Shape := ⟨2, ![8, 6144]⟩
abbrev S1x6144 : Shape := ⟨2, ![1, 6144]⟩
abbrev S1024 : Shape := ⟨1, ![1024]⟩
abbrev S1024x1536 : Shape := ⟨2, ![1024, 1536]⟩
abbrev S64 : Shape := ⟨1, ![64]⟩
abbrev S4096x32 : Shape := ⟨2, ![4096, 32]⟩
abbrev S8x1024 : Shape := ⟨2, ![8, 1024]⟩
abbrev S8x1x1024 : Shape := ⟨3, ![8, 1, 1024]⟩
abbrev S1x1024 : Shape := ⟨2, ![1, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩
abbrev S8x256 : Shape := ⟨2, ![8, 256]⟩
abbrev S8x256x1 : Shape := ⟨3, ![8, 256, 1]⟩
abbrev S8x256x1536 : Shape := ⟨3, ![8, 256, 1536]⟩
abbrev S8x4096x1536 : Shape := ⟨3, ![8, 4096, 1536]⟩
abbrev S8x4352x1536 : Shape := ⟨3, ![8, 4352, 1536]⟩
abbrev S8x4352x512 : Shape := ⟨3, ![8, 4352, 512]⟩
abbrev S8x4352x128 : Shape := ⟨3, ![8, 4352, 128]⟩
abbrev S8x4352x2x1 : Shape := ⟨4, ![8, 4352, 2, 1]⟩
abbrev S8x4352x2x63 : Shape := ⟨4, ![8, 4352, 2, 63]⟩
abbrev S8x4352x2x64 : Shape := ⟨4, ![8, 4352, 2, 64]⟩
abbrev S8x4352x8x64 : Shape := ⟨4, ![8, 4352, 8, 64]⟩
abbrev S8x256x8x64 : Shape := ⟨4, ![8, 256, 8, 64]⟩
abbrev S8x4096x8x64 : Shape := ⟨4, ![8, 4096, 8, 64]⟩
abbrev S8x4096x8x32x2 : Shape := ⟨5, ![8, 4096, 8, 32, 2]⟩
abbrev S8x4096x8x32x1 : Shape := ⟨5, ![8, 4096, 8, 32, 1]⟩
abbrev S8x4096x8x32 : Shape := ⟨4, ![8, 4096, 8, 32]⟩
abbrev S4096x1x32 : Shape := ⟨3, ![4096, 1, 32]⟩
abbrev S1x4096x1x32 : Shape := ⟨4, ![1, 4096, 1, 32]⟩
abbrev S8x8x4352x64 : Shape := ⟨4, ![8, 8, 4352, 64]⟩
abbrev S8x256x2x64 : Shape := ⟨4, ![8, 256, 2, 64]⟩
abbrev S8x4096x2x64 : Shape := ⟨4, ![8, 4096, 2, 64]⟩
abbrev S8x4096x2x32x2 : Shape := ⟨5, ![8, 4096, 2, 32, 2]⟩
abbrev S8x4096x2x32x1 : Shape := ⟨5, ![8, 4096, 2, 32, 1]⟩
abbrev S8x4096x2x32 : Shape := ⟨4, ![8, 4096, 2, 32]⟩
abbrev S8x2x4352x64 : Shape := ⟨4, ![8, 2, 4352, 64]⟩
abbrev S8x4352x2x128 : Shape := ⟨4, ![8, 4352, 2, 128]⟩
abbrev S8x2x4352x128 : Shape := ⟨4, ![8, 2, 4352, 128]⟩
abbrev S8x4352x8 : Shape := ⟨3, ![8, 4352, 8]⟩
abbrev S8x4352x8x1 : Shape := ⟨4, ![8, 4352, 8, 1]⟩
abbrev S1x1x1x64 : Shape := ⟨4, ![1, 1, 1, 64]⟩
abbrev S8x4352x2 : Shape := ⟨3, ![8, 4352, 2]⟩

abbrev nBuf : Space → Nat
  | .hbm => 248
  | .vmem => 0
  | .smem => 0
  | _ => 0

abbrev hbmTy0_0 (i : Nat) : BufTy := match i % 128 with
  | 0 => ⟨S8x4096x1024, .f32⟩
  | 1 => ⟨S8x256x1024, .f32⟩
  | 2 => ⟨S8x6144, .f32⟩
  | 3 => ⟨S1x6144, .f32⟩
  | 4 => ⟨S1024, .f32⟩
  | 5 => ⟨S1024x1536, .f32⟩
  | 6 => ⟨S64, .f32⟩
  | 7 => ⟨S64, .f32⟩
  | 8 => ⟨S4096x32, .f32⟩
  | 9 => ⟨S4096x32, .f32⟩
  | 10 => ⟨S8x1024, .f32⟩
  | 11 => ⟨S8x1x1024, .f32⟩
  | 12 => ⟨S8x1024, .f32⟩
  | 13 => ⟨S8x1x1024, .f32⟩
  | 14 => ⟨S1x1024, .f32⟩
  | 15 => ⟨S1x1x1024, .f32⟩
  | 16 => ⟨S1x1024, .f32⟩
  | 17 => ⟨S1x1x1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x256x1024, .f32⟩
  | 42 => ⟨S_, .f32⟩
  | 43 => ⟨S8x256, .f32⟩
  | 44 => ⟨S8x256x1, .f32⟩
  | 45 => ⟨S_, .f32⟩
  | 46 => ⟨S8x256x1, .f32⟩
  | 47 => ⟨S8x256x1, .f32⟩
  | 48 => ⟨S_, .f32⟩
  | 49 => ⟨S8x256x1, .f32⟩
  | 50 => ⟨S8x256x1, .f32⟩
  | 51 => ⟨S8x256x1, .f32⟩
  | 52 => ⟨S8x256x1024, .f32⟩
  | 53 => ⟨S8x256x1024, .f32⟩
  | 54 => ⟨S1x1x1024, .f32⟩
  | 55 => ⟨S8x256x1024, .f32⟩
  | 56 => ⟨S8x256x1024, .f32⟩
  | 57 => ⟨S_, .f32⟩
  | 58 => ⟨S1x1x1024, .f32⟩
  | 59 => ⟨S1x1x1024, .f32⟩
  | 60 => ⟨S8x256x1024, .f32⟩
  | 61 => ⟨S8x256x1024, .f32⟩
  | 62 => ⟨S8x256x1024, .f32⟩
  | 63 => ⟨S8x256x1024, .f32⟩
  | 64 => ⟨S8x256x1536, .f32⟩
  | 65 => ⟨S8x4096x1536, .f32⟩
  | 66 => ⟨S8x4352x1536, .f32⟩
  | 67 => ⟨S8x4352x512, .f32⟩
  | 68 => ⟨S8x4352x128, .f32⟩
  | 69 => ⟨S8x4352x128, .f32⟩
  | 70 => ⟨S8x4352x512, .f32⟩
  | 71 => ⟨S8x4352x128, .f32⟩
  | 72 => ⟨S8x4352x128, .f32⟩
  | 73 => ⟨S_, .f32⟩
  | 74 => ⟨S8x4352x2x1, .f32⟩
  | 75 => ⟨S_, .f32⟩
  | 76 => ⟨S8x4352x2x63, .f32⟩
  | 77 => ⟨S8x4352x2x64, .f32⟩
  | 78 => ⟨S8x4352x8x64, .f32⟩
  | 79 => ⟨S8x256x8x64, .f32⟩
  | 80 => ⟨S8x4096x8x64, .f32⟩
  | 81 => ⟨S8x4096x8x32x2, .f32⟩
  | 82 => ⟨S8x4096x8x32x1, .f32⟩
  | 83 => ⟨S8x4096x8x32, .f32⟩
  | 84 => ⟨S8x4096x8x32x1, .f32⟩
  | 85 => ⟨S8x4096x8x32, .f32⟩
  | 86 => ⟨S4096x1x32, .f32⟩
  | 87 => ⟨S4096x1x32, .f32⟩
  | 88 => ⟨S1x4096x1x32, .f32⟩
  | 89 => ⟨S8x4096x8x32, .f32⟩
  | 90 => ⟨S8x4096x8x32, .f32⟩
  | 91 => ⟨S1x4096x1x32, .f32⟩
  | 92 => ⟨S8x4096x8x32, .f32⟩
  | 93 => ⟨S8x4096x8x32, .f32⟩
  | 94 => ⟨S8x4096x8x32, .f32⟩
  | 95 => ⟨S1x4096x1x32, .f32⟩
  | 96 => ⟨S8x4096x8x32, .f32⟩
  | 97 => ⟨S8x4096x8x32, .f32⟩
  | 98 => ⟨S1x4096x1x32, .f32⟩
  | 99 => ⟨S8x4096x8x32, .f32⟩
  | 100 => ⟨S8x4096x8x32, .f32⟩
  | 101 => ⟨S8x4096x8x32, .f32⟩
  | 102 => ⟨S8x4096x8x32x1, .f32⟩
  | 103 => ⟨S8x4096x8x32x1, .f32⟩
  | 104 => ⟨S8x4096x8x32x2, .f32⟩
  | 105 => ⟨S8x4096x8x64, .f32⟩
  | 106 => ⟨S8x4352x8x64, .f32⟩
  | 107 => ⟨S_, .f32⟩
  | 108 => ⟨S8x4352x8x64, .f32⟩
  | 109 => ⟨S8x4352x8x64, .f32⟩
  | 110 => ⟨S8x8x4352x64, .f32⟩
  | 111 => ⟨S8x8x4352x64, .bf16⟩
  | 112 => ⟨S8x4352x2x64, .f32⟩
  | 113 => ⟨S8x256x2x64, .f32⟩
  | 114 => ⟨S8x4096x2x64, .f32⟩
  | 115 => ⟨S8x4096x2x32x2, .f32⟩
  | 116 => ⟨S8x4096x2x32x1, .f32⟩
  | 117 => ⟨S8x4096x2x32, .f32⟩
  | 118 => ⟨S8x4096x2x32x1, .f32⟩
  | 119 => ⟨S8x4096x2x32, .f32⟩
  | 120 => ⟨S4096x1x32, .f32⟩
  | 121 => ⟨S4096x1x32, .f32⟩
  | 122 => ⟨S1x4096x1x32, .f32⟩
  | 123 => ⟨S8x4096x2x32, .f32⟩
  | 124 => ⟨S8x4096x2x32, .f32⟩
  | 125 => ⟨S1x4096x1x32, .f32⟩
  | 126 => ⟨S8x4096x2x32, .f32⟩
  | 127 => ⟨S8x4096x2x32, .f32⟩
  | _ => ⟨S8x4096x1024, .f32⟩

abbrev hbmTy0_1 (i : Nat) : BufTy := match i % 128 with
  | 0 => ⟨S8x4096x2x32, .f32⟩
  | 1 => ⟨S1x4096x1x32, .f32⟩
  | 2 => ⟨S8x4096x2x32, .f32⟩
  | 3 => ⟨S8x4096x2x32, .f32⟩
  | 4 => ⟨S1x4096x1x32, .f32⟩
  | 5 => ⟨S8x4096x2x32, .f32⟩
  | 6 => ⟨S8x4096x2x32, .f32⟩
  | 7 => ⟨S8x4096x2x32, .f32⟩
  | 8 => ⟨S8x4096x2x32x1, .f32⟩
  | 9 => ⟨S8x4096x2x32x1, .f32⟩
  | 10 => ⟨S8x4096x2x32x2, .f32⟩
  | 11 => ⟨S8x4096x2x64, .f32⟩
  | 12 => ⟨S8x4352x2x64, .f32⟩
  | 13 => ⟨S8x2x4352x64, .f32⟩
  | 14 => ⟨S8x2x4352x64, .bf16⟩
  | 15 => ⟨S8x4352x2x64, .f32⟩
  | 16 => ⟨S8x4352x2x128, .f32⟩
  | 17 => ⟨S8x2x4352x128, .f32⟩
  | 18 => ⟨S8x2x4352x128, .bf16⟩
  | 19 => ⟨S8x4352x8x64, .f32⟩
  | 20 => ⟨S8x4352x8x64, .f32⟩
  | 21 => ⟨S_, .f32⟩
  | 22 => ⟨S8x4352x8, .f32⟩
  | 23 => ⟨S8x4352x8x1, .f32⟩
  | 24 => ⟨S_, .f32⟩
  | 25 => ⟨S8x4352x8x1, .f32⟩
  | 26 => ⟨S8x4352x8x1, .f32⟩
  | 27 => ⟨S_, .f32⟩
  | 28 => ⟨S8x4352x8x1, .f32⟩
  | 29 => ⟨S8x4352x8x1, .f32⟩
  | 30 => ⟨S8x4352x8x1, .f32⟩
  | 31 => ⟨S8x4352x8x64, .f32⟩
  | 32 => ⟨S8x4352x8x64, .f32⟩
  | 33 => ⟨S1x1x1x64, .f32⟩
  | 34 => ⟨S8x4352x8x64, .f32⟩
  | 35 => ⟨S8x4352x8x64, .f32⟩
  | 36 => ⟨S8x256x8x64, .f32⟩
  | 37 => ⟨S8x4096x8x64, .f32⟩
  | 38 => ⟨S8x4096x8x32x2, .f32⟩
  | 39 => ⟨S8x4096x8x32x1, .f32⟩
  | 40 => ⟨S8x4096x8x32, .f32⟩
  | 41 => ⟨S8x4096x8x32x1, .f32⟩
  | 42 => ⟨S8x4096x8x32, .f32⟩
  | 43 => ⟨S4096x1x32, .f32⟩
  | 44 => ⟨S4096x1x32, .f32⟩
  | 45 => ⟨S1x4096x1x32, .f32⟩
  | 46 => ⟨S8x4096x8x32, .f32⟩
  | 47 => ⟨S8x4096x8x32, .f32⟩
  | 48 => ⟨S1x4096x1x32, .f32⟩
  | 49 => ⟨S8x4096x8x32, .f32⟩
  | 50 => ⟨S8x4096x8x32, .f32⟩
  | 51 => ⟨S8x4096x8x32, .f32⟩
  | 52 => ⟨S1x4096x1x32, .f32⟩
  | 53 => ⟨S8x4096x8x32, .f32⟩
  | 54 => ⟨S8x4096x8x32, .f32⟩
  | 55 => ⟨S1x4096x1x32, .f32⟩
  | 56 => ⟨S8x4096x8x32, .f32⟩
  | 57 => ⟨S8x4096x8x32, .f32⟩
  | 58 => ⟨S8x4096x8x32, .f32⟩
  | 59 => ⟨S8x4096x8x32x1, .f32⟩
  | 60 => ⟨S8x4096x8x32x1, .f32⟩
  | 61 => ⟨S8x4096x8x32x2, .f32⟩
  | 62 => ⟨S8x4096x8x64, .f32⟩
  | 63 => ⟨S8x4352x8x64, .f32⟩
  | 64 => ⟨S_, .f32⟩
  | 65 => ⟨S8x4352x8x64, .f32⟩
  | 66 => ⟨S8x4352x8x64, .f32⟩
  | 67 => ⟨S8x8x4352x64, .f32⟩
  | 68 => ⟨S8x8x4352x64, .bf16⟩
  | 69 => ⟨S8x4352x2x64, .f32⟩
  | 70 => ⟨S8x4352x2x64, .f32⟩
  | 71 => ⟨S_, .f32⟩
  | 72 => ⟨S8x4352x2, .f32⟩
  | 73 => ⟨S8x4352x2x1, .f32⟩
  | 74 => ⟨S_, .f32⟩
  | 75 => ⟨S8x4352x2x1, .f32⟩
  | 76 => ⟨S8x4352x2x1, .f32⟩
  | 77 => ⟨S_, .f32⟩
  | 78 => ⟨S8x4352x2x1, .f32⟩
  | 79 => ⟨S8x4352x2x1, .f32⟩
  | 80 => ⟨S8x4352x2x1, .f32⟩
  | 81 => ⟨S8x4352x2x64, .f32⟩
  | 82 => ⟨S8x4352x2x64, .f32⟩
  | 83 => ⟨S1x1x1x64, .f32⟩
  | 84 => ⟨S8x4352x2x64, .f32⟩
  | 85 => ⟨S8x4352x2x64, .f32⟩
  | 86 => ⟨S8x256x2x64, .f32⟩
  | 87 => ⟨S8x4096x2x64, .f32⟩
  | 88 => ⟨S8x4096x2x32x2, .f32⟩
  | 89 => ⟨S8x4096x2x32x1, .f32⟩
  | 90 => ⟨S8x4096x2x32, .f32⟩
  | 91 => ⟨S8x4096x2x32x1, .f32⟩
  | 92 => ⟨S8x4096x2x32, .f32⟩
  | 93 => ⟨S4096x1x32, .f32⟩
  | 94 => ⟨S4096x1x32, .f32⟩
  | 95 => ⟨S1x4096x1x32, .f32⟩
  | 96 => ⟨S8x4096x2x32, .f32⟩
  | 97 => ⟨S8x4096x2x32, .f32⟩
  | 98 => ⟨S1x4096x1x32, .f32⟩
  | 99 => ⟨S8x4096x2x32, .f32⟩
  | 100 => ⟨S8x4096x2x32, .f32⟩
  | 101 => ⟨S8x4096x2x32, .f32⟩
  | 102 => ⟨S1x4096x1x32, .f32⟩
  | 103 => ⟨S8x4096x2x32, .f32⟩
  | 104 => ⟨S8x4096x2x32, .f32⟩
  | 105 => ⟨S1x4096x1x32, .f32⟩
  | 106 => ⟨S8x4096x2x32, .f32⟩
  | 107 => ⟨S8x4096x2x32, .f32⟩
  | 108 => ⟨S8x4096x2x32, .f32⟩
  | 109 => ⟨S8x4096x2x32x1, .f32⟩
  | 110 => ⟨S8x4096x2x32x1, .f32⟩
  | 111 => ⟨S8x4096x2x32x2, .f32⟩
  | 112 => ⟨S8x4096x2x64, .f32⟩
  | 113 => ⟨S8x4352x2x64, .f32⟩
  | 114 => ⟨S8x2x4352x64, .f32⟩
  | 115 => ⟨S8x2x4352x64, .bf16⟩
  | 116 => ⟨S8x4352x2x64, .f32⟩
  | 117 => ⟨S8x4352x2x128, .f32⟩
  | 118 => ⟨S8x2x4352x128, .f32⟩
  | 119 => ⟨S8x2x4352x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_9 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_10 : Ref sig .tc := ⟨.hbm, 149, rfl⟩
abbrev main_v128 : Ref sig .tc := ⟨.hbm, 150, rfl⟩
abbrev main_v129 : Ref sig .tc := ⟨.hbm, 151, rfl⟩
abbrev main_cst_11 : Ref sig .tc := ⟨.hbm, 152, rfl⟩
abbrev main_v130 : Ref sig .tc := ⟨.hbm, 153, rfl⟩
abbrev main_v131 : Ref sig .tc := ⟨.hbm, 154, rfl⟩
abbrev main_cst_12 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_cst_13 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_14 : Ref sig .tc := ⟨.hbm, 199, rfl⟩
abbrev main_v174 : Ref sig .tc := ⟨.hbm, 200, rfl⟩
abbrev main_v175 : Ref sig .tc := ⟨.hbm, 201, rfl⟩
abbrev main_cst_15 : Ref sig .tc := ⟨.hbm, 202, rfl⟩
abbrev main_v176 : Ref sig .tc := ⟨.hbm, 203, rfl⟩
abbrev main_v177 : Ref sig .tc := ⟨.hbm, 204, rfl⟩
abbrev main_cst_16 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩

abbrev nD : Nat := 1
abbrev τ : Topo := Topo.v7x

variable {F : FTy → Type} [FloatOps F]
-- ==== Kernel7.lean ====
abbrev S8x4352x8x64 : Shape := ⟨4, ![8, 4352, 8, 64]⟩
abbrev S8x4352x2x64 : Shape := ⟨4, ![8, 4352, 2, 64]⟩
abbrev S8 : Shape := ⟨1, ![8]⟩
abbrev S_ : Shape := ⟨0, ![]⟩
abbrev S8x8x4352x64 : Shape := ⟨4, ![8, 8, 4352, 64]⟩
abbrev S8x2x4352x64 : Shape := ⟨4, ![8, 2, 4352, 64]⟩
abbrev S8x2x4352x1 : Shape := ⟨4, ![8, 2, 4352, 1]⟩
abbrev S8x2x4352x63 : Shape := ⟨4, ![8, 2, 4352, 63]⟩
abbrev S8x2x4352x128 : Shape := ⟨4, ![8, 2, 4352, 128]⟩
abbrev S8x1 : Shape := ⟨2, ![8, 1]⟩
abbrev S8x128 : Shape := ⟨2, ![8, 128]⟩
abbrev S8x4096x512 : Shape := ⟨3, ![8, 4096, 512]⟩
abbrev S1x8x128x64 : Shape := ⟨4, ![1, 8, 128, 64]⟩
abbrev S1x2x4352x64 : Shape := ⟨4, ![1, 2, 4352, 64]⟩
abbrev S1x2x4352x128 : Shape := ⟨4, ![1, 2, 4352, 128]⟩
abbrev S1x128x512 : Shape := ⟨3, ![1, 128, 512]⟩
abbrev S512x384 : Shape := ⟨2, ![512, 384]⟩
abbrev S1x4x128x64 : Shape := ⟨4, ![1, 4, 128, 64]⟩
abbrev S4x128x64 : Shape := ⟨3, ![4, 128, 64]⟩
abbrev S512x64 : Shape := ⟨2, ![512, 64]⟩
abbrev S1x1x256x64 : Shape := ⟨4, ![1, 1, 256, 64]⟩
abbrev S256x64 : Shape := ⟨2, ![256, 64]⟩
abbrev S512x256 : Shape := ⟨2, ![512, 256]⟩
abbrev S1x1x384x64 : Shape := ⟨4, ![1, 1, 384, 64]⟩
abbrev S384x64 : Shape := ⟨2, ![384, 64]⟩
abbrev S1x1x256x128 : Shape := ⟨4, ![1, 1, 256, 128]⟩
abbrev S256x128 : Shape := ⟨2, ![256, 128]⟩
abbrev S1x1x384x128 : Shape := ⟨4, ![1, 1, 384, 128]⟩
abbrev S384x128 : Shape := ⟨2, ![384, 128]⟩
abbrev S1x1 : Shape := ⟨2, ![1, 1]⟩
abbrev S128x1 : Shape := ⟨2, ![128, 1]⟩
abbrev S512x1 : Shape := ⟨2, ![512, 1]⟩
abbrev S512 : Shape := ⟨1, ![512]⟩
abbrev S128x128 : Shape := ⟨2, ![128, 128]⟩
abbrev S128x256 : Shape := ⟨2, ![128, 256]⟩
abbrev S128x384 : Shape := ⟨2, ![128, 384]⟩
abbrev S1x128x256 : Shape := ⟨3, ![1, 128, 256]⟩

abbrev nBuf : Space → Nat
  | .hbm => 24
  | .vmem => 9
  | .smem => 0
  | _ => 0

abbrev bufTy : (tb : Table) → Fin (tcTables nBuf tb) → BufTy
  | .hbm, ⟨0, _⟩ => ⟨S8x4352x8x64, .f32⟩
  | .hbm, ⟨1, _⟩ => ⟨S8x4352x2x64, .f32⟩
  | .hbm, ⟨2, _⟩ => ⟨S8x4352x2x64, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4352x8x64, .f32⟩
  | .hbm, ⟨9, _⟩ => ⟨S8x4352x8x64, .f32⟩
  | .hbm, ⟨10, _⟩ => ⟨S8x8x4352x64, .f32⟩
  | .hbm, ⟨11, _⟩ => ⟨S8x8x4352x64, .bf16⟩
  | .hbm, ⟨12, _⟩ => ⟨S8x2x4352x64, .f32⟩
  | .hbm, ⟨13, _⟩ => ⟨S8x2x4352x64, .bf16⟩
  | .hbm, ⟨14, _⟩ => ⟨S8x2x4352x64, .f32⟩
  | .hbm, ⟨15, _⟩ => ⟨S_, .f32⟩
  | .hbm, ⟨16, _⟩ => ⟨S8x2x4352x1, .f32⟩
  | .hbm, ⟨17, _⟩ => ⟨S_, .f32⟩
  | .hbm, ⟨18, _⟩ => ⟨S8x2x4352x63, .f32⟩
  | .hbm, ⟨19, _⟩ => ⟨S8x2x4352x128, .f32⟩
  | .hbm, ⟨20, _⟩ => ⟨S8x2x4352x128, .bf16⟩
  | .hbm, ⟨21, _⟩ => ⟨S8x1, .f32⟩
  | .hbm, ⟨22, _⟩ => ⟨S8x128, .f32⟩
  | .hbm, ⟨23, _⟩ => ⟨S8x4096x512, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x2x4352x64, .bf16⟩
  | .local _ .vmem, ⟨3, _⟩ => ⟨S1x2x4352x64, .bf16⟩
  | .local _ .vmem, ⟨4, _⟩ => ⟨S1x2x4352x128, .bf16⟩
  | .local _ .vmem, ⟨5, _⟩ => ⟨S1x2x4352x128, .bf16⟩
  | .local _ .vmem, ⟨6, _⟩ => ⟨S8x128, .f32⟩
  | .local _ .vmem, ⟨7, _⟩ => ⟨S1x128x512, .bf16⟩
  | .local _ .vmem, ⟨8, _⟩ => ⟨S1x128x512, .bf16⟩
  | _, _ => ⟨S8x4352x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let c256_i32 : BitVec 32 := 256#32
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := Scalar.addi c256_i32 v3
  v4
def k0_off1 (i : grid0.Coords) : Fin 4 → Nat :=
  let c0_15 : Index := 0#32
  let c0_16 : Index := 0#32
  let c256_i32 : BitVec 32 := 256#32
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := Scalar.addi c256_i32 v3
  let v5 : BitVec 32 := v4
  let v39 : Index := Scalar.indexCast v5
  let c0_17 : Index := 0#32
  ![0, 0, v39.toNat, 0]
def k0_off2 (i : grid0.Coords) : Fin 4 → Nat :=
  let c0_24 : Index := 0#32
  let c0_25 : Index := 0#32
  let c256_i32 : BitVec 32 := 256#32
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := Scalar.addi c256_i32 v3
  let v5 : BitVec 32 := v4
  let v47 : Index := Scalar.indexCast v5
  let c0_26 : Index := 0#32
  ![0, 0, v47.toNat, 0]
def k0_off3 (i : grid0.Coords) : Fin 4 → Nat :=
  let c0_61 : Index := 0#32
  let c1_62 : Index := 1#32
  let c256_i32 : BitVec 32 := 256#32
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := Scalar.addi c256_i32 v3
  let v5 : BitVec 32 := v4
  let v163 : Index := Scalar.indexCast v5
  let c0_63 : Index := 0#32
  ![0, 1, v163.toNat, 0]
def k0_off4 (i : grid0.Coords) : Fin 4 → Nat :=
  let c0_70 : Index := 0#32
  let c1_71 : Index := 1#32
  let c256_i32 : BitVec 32 := 256#32
  let c3712_i32 : BitVec 32 := 3712#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c3712_i32 v2
  let v4 : BitVec 32 := Scalar.addi c256_i32 v3
  let v5 : BitVec 32 := v4
  let v171 : Index := Scalar.indexCast v5
  let c0_72 : Index := 0#32
  ![0, 1, v171.toNat, 0]
def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4352x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel7Ideal.lean ====
variable {F : FTy → Type} [FloatOps F] [Named F]
def κ : String → Option EReal := fun
  | "log2e" => some (((Real.log 2)⁻¹ : ℝ) : EReal)
  | _ => none
-- ==== Reference7Ideal.lean ====
abbrev S8x4352x8x64 : Shape := ⟨4, ![8, 4352, 8, 64]⟩
abbrev S8x4352x2x64 : Shape := ⟨4, ![8, 4352, 2, 64]⟩
abbrev S8 : Shape := ⟨1, ![8]⟩
abbrev S8x4096x8x64 : Shape := ⟨4, ![8, 4096, 8, 64]⟩
abbrev S8x4096x2x4x64 : Shape := ⟨5, ![8, 4096, 2, 4, 64]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096x2x64 : Shape := ⟨4, ![8, 4096, 2, 64]⟩
abbrev S8x2x4096x4096x4 : Shape := ⟨5, ![8, 2, 4096, 4096, 4]⟩
abbrev S8x2x4x4096x4096 : Shape := ⟨5, ![8, 2, 4, 4096, 4096]⟩
abbrev S8x256x2x64 : Shape := ⟨4, ![8, 256, 2, 64]⟩
abbrev S8x2x256x4096x4 : Shape := ⟨5, ![8, 2, 256, 4096, 4]⟩
abbrev S8x2x4x4096x256 : Shape := ⟨5, ![8, 2, 4, 4096, 256]⟩
abbrev S2x4x1x1 : Shape := ⟨4, ![2, 4, 1, 1]⟩
abbrev S8x2x4x4096x1 : Shape := ⟨5, ![8, 2, 4, 4096, 1]⟩
abbrev S8x2x4x4096x4353 : Shape := ⟨5, ![8, 2, 4, 4096, 4353]⟩
abbrev S8x2x4x4096 : Shape := ⟨4, ![8, 2, 4, 4096]⟩
abbrev S8x2x64x4x4096 : Shape := ⟨5, ![8, 2, 64, 4, 4096]⟩
abbrev S8x4096x512 : Shape := ⟨3, ![8, 4096, 512]⟩

abbrev nBuf : Space → Nat
  | .hbm => 61
  | .vmem => 0
  | .smem => 0
  | _ => 0

abbrev bufTy : (tb : Table) → Fin (tcTables nBuf tb) → BufTy
  | .hbm, ⟨0, _⟩ => ⟨S8x4352x8x64, .f32⟩
  | .hbm, ⟨1, _⟩ => ⟨S8x4352x2x64, .f32⟩
  | .hbm, ⟨2, _⟩ => ⟨S8x4352x2x64, .f32⟩
  | .hbm, ⟨3, _⟩ => ⟨S8, .f32⟩
  | .hbm, ⟨4, _⟩ => ⟨S8x4096x8x64, .f32⟩
  | .hbm, ⟨5, _⟩ => ⟨S8x4096x2x4x64, .f32⟩
  | .hbm, ⟨6, _⟩ => ⟨S4096, .i32⟩
  | .hbm, ⟨7, _⟩ => ⟨S1x4096, .i32⟩
  | .hbm, ⟨8, _⟩ => ⟨S4096x1, .i32⟩
  | .hbm, ⟨9, _⟩ => ⟨S4096x4096, .i32⟩
  | .hbm, ⟨10, _⟩ => ⟨S4096x4096, .i32⟩
  | .hbm, ⟨11, _⟩ => ⟨S4096x4096, .i32⟩
  | .hbm, ⟨12, _⟩ => ⟨S4096x4096, .i32⟩
  | .hbm, ⟨13, _⟩ => ⟨S_, .i32⟩
  | .hbm, ⟨14, _⟩ => ⟨S4096x4096, .i32⟩
  | .hbm, ⟨15, _⟩ => ⟨S4096x4096, .i1⟩
  | .hbm, ⟨16, _⟩ => ⟨S8x4096x2x64, .f32⟩
  | .hbm, ⟨17, _⟩ => ⟨S8x2x4096x4096x4, .f32⟩
  | .hbm, ⟨18, _⟩ => ⟨S8x2x4x4096x4096, .f32⟩
  | .hbm, ⟨19, _⟩ => ⟨S_, .f32⟩
  | .hbm, ⟨20, _⟩ => ⟨S8x2x4x4096x4096, .f32⟩
  | .hbm, ⟨21, _⟩ => ⟨S8x2x4x4096x4096, .f32⟩
  | .hbm, ⟨22, _⟩ => ⟨S_, .f32⟩
  | .hbm, ⟨23, _⟩ => ⟨S_, .f32⟩
  | .hbm, ⟨24, _⟩ => ⟨S8x2x4x4096x4096, .i1⟩
  | .hbm, ⟨25, _⟩ => ⟨S8x2x4x4096x4096, .f32⟩
  | .hbm, ⟨26, _⟩ => ⟨S8x2x4x4096x4096, .f32⟩
  | .hbm, ⟨27, _⟩ => ⟨S8x256x2x64, .f32⟩
  | .hbm, ⟨28, _⟩ => ⟨S8x2x256x4096x4, .f32⟩
  | .hbm, ⟨29, _⟩ => ⟨S8x2x4x4096x256, .f32⟩
  | .hbm, ⟨30, _⟩ => ⟨S_, .f32⟩
  | .hbm, ⟨31, _⟩ => ⟨S8x2x4x4096x256, .f32⟩
  | .hbm, ⟨32, _⟩ => ⟨S8x2x4x4096x256, .f32⟩
  | .hbm, ⟨33, _⟩ => ⟨S2x4x1x1, .f32⟩
  | .hbm, ⟨34, _⟩ => ⟨S8x2x4x4096x1, .f32⟩
  | .hbm, ⟨35, _⟩ => ⟨S8x2x4x4096x4353, .f32⟩
  | .hbm, ⟨36, _⟩ => ⟨S_, .f32⟩
  | .hbm, ⟨37, _⟩ => ⟨S8x2x4x4096, .f32⟩
  | .hbm, ⟨38, _⟩ => ⟨S_, .f32⟩
  | .hbm, ⟨39, _⟩ => ⟨S8x2x4x4096, .f32⟩
  | .hbm, ⟨40, _⟩ => ⟨S8x2x4x4096, .f32⟩
  | .hbm, ⟨41, _⟩ => ⟨S8x2x4x4096x1, .f32⟩
  | .hbm, ⟨42, _⟩ => ⟨S8x2x4x4096x4353, .f32⟩
  | .hbm, ⟨43, _⟩ => ⟨S8x2x4x4096x4353, .f32⟩
  | .hbm, ⟨44, _⟩ => ⟨S8x2x4x4096x4353, .f32⟩
  | .hbm, ⟨45, _⟩ => ⟨S_, .f32⟩
  | .hbm, ⟨46, _⟩ => ⟨S8x2x4x4096, .f32⟩
  | .hbm, ⟨47, _⟩ => ⟨S8x2x4x4096x1, .f32⟩
  | .hbm, ⟨48, _⟩ => ⟨S8x2x4x4096x4353, .f32⟩
  | .hbm, ⟨49, _⟩ => ⟨S8x2x4x4096x4353, .f32⟩
  | .hbm, ⟨50, _⟩ => ⟨S8x2x4x4096x256, .f32⟩
  | .hbm, ⟨51, _⟩ => ⟨S8x256x2x64, .f32⟩
  | .hbm, ⟨52, _⟩ => ⟨S8x2x64x4x4096, .f32⟩
  | .hbm, ⟨53, _⟩ => ⟨S8x4096x2x4x64, .f32⟩
  | .hbm, ⟨54, _⟩ => ⟨S8x2x4x4096x4096, .f32⟩
  | .hbm, ⟨55, _⟩ => ⟨S8x4096x2x64, .f32⟩
  | .hbm, ⟨56, _⟩ => ⟨S8x2x64x4x4096, .f32⟩
  | .hbm, ⟨57, _⟩ => ⟨S8x4096x2x4x64, .f32⟩
  | .hbm, ⟨58, _⟩ => ⟨S8x4096x2x4x64, .f32⟩
  | .hbm, ⟨59, _⟩ => ⟨S8x4096x512, .f32⟩
  | .hbm, ⟨60, _⟩ => ⟨S8x4096x512, .bf16⟩
  | _, _ => ⟨S8x4352x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== Proof.Soft.lean ====
module

public import Idealize.ShloMosaic.PureOps.Ideal
public import Idealize.ShloMosaic.PureOps.Ideal.Laws
public import Idealize.ShloMosaic.Lib.IdealHost

@[expose] public section

noncomputable section

namespace Cert.Soft

open Idealize.ShloMosaic
open scoped BigOperators

/-- A sum of extended reals times a nonnegative real is the sum of the products. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The maximum of finitely many (at least one) real numbers, folded from minus infinity, is a real number. -/
theorem fold_max_real {n : ℕ} (hn : 0 < n) (f : Fin n → EReal) (hf : ∀ j, ∃ r : ℝ, f j = r) :
    ∃ a : ℝ, (Finset.univ : Finset (Fin n)).fold max ⊥ f = a := by
  have h : (Finset.univ : Finset (Fin n)).fold max ⊥ f = Finset.univ.sup f := rfl
  obtain ⟨j, -, hj⟩ := Finset.exists_mem_eq_sup (Finset.univ : Finset (Fin n)) ⟨⟨0, hn⟩, Finset.mem_univ _⟩ f
  obtain ⟨r, hr⟩ := hf j
  exact ⟨r, by rw [h, hj, hr]⟩

/-- A sum of reals, taken in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An inner product of real vectors, taken in the extended reals, is the real inner product. -/
theorem sum_mul_coe {n : ℕ} (f g : Fin n → ℝ) :
    (∑ k, (f k : EReal) * (g k : EReal)) = ((∑ k, f k * g k : ℝ) : EReal) := by
  rw [coe_sum]
  exact Finset.sum_congr rfl fun k _ => (EReal.coe_mul _ _).symm

/-- Weights in base two shifted by `a`, summed against `v` and divided by their own sum once at the end, are the softmax of
    the scores (base `e`, shifted by `b`) summed against `v`: the base is absorbed in the factor `κ`, and the shift cancels. -/
theorem softmax_core {n : ℕ} (hn : 0 < n) (t : Fin n → ℝ) {κ c : ℝ} (hκ : κ * Real.log 2 = c) (a b : ℝ) (v : Fin n → EReal) :
    (∑ j, Ideal.exp2 (((t j * κ : ℝ) : EReal) - (a : EReal)) * v j)
        * Ideal.div 1 (∑ j, Ideal.exp2 (((t j * κ : ℝ) : EReal) - (a : EReal)) * 1)
      = ∑ j, v j * Ideal.div (Ideal.exp (((t j * c : ℝ) : EReal) - (b : EReal)))
          (∑ i, Ideal.exp (((t i * c : ℝ) : EReal) - (b : EReal))) := by
  have e2 : ∀ j, Ideal.exp2 (((t j * κ : ℝ) : EReal) - (a : EReal))
      = ((Real.exp (t j * c - b) * Real.exp (b - a * Real.log 2) : ℝ) : EReal) := fun j => by
    rw [← EReal.coe_sub, Ideal.exp2_coe, ← Real.exp_add]
    refine congrArg _ ?_
    show (2 : ℝ) ^ (t j * κ - a) = _
    rw [Real.rpow_def_of_pos (by norm_num)]
    refine congrArg _ ?_
    rw [← hκ]; ring
  have e1 : ∀ j, Ideal.exp (((t j * c : ℝ) : EReal) - (b : EReal)) = ((Real.exp (t j * c - b) : ℝ) : EReal) := fun j => by
    rw [← EReal.coe_sub, Ideal.exp_coe]
  simp only [e2, e1, mul_one]
  set C : ℝ := Real.exp (b - a * Real.log 2)
  set L : ℝ := ∑ i, Real.exp (t i * c - b) with hL
  have hC : 0 < C := Real.exp_pos _
  have hLp : 0 < L := Finset.sum_pos (fun i _ => Real.exp_pos _) ⟨⟨0, hn⟩, Finset.mem_univ _⟩
  have s1 : (∑ i, ((Real.exp (t i * c - b) : ℝ) : EReal)) = (L : EReal) := by rw [hL, coe_sum]
  have s2 : (∑ i, ((Real.exp (t i * c - b) * C : ℝ) : EReal)) = ((L * C : ℝ) : EReal) := by
    rw [← coe_sum, hL, Finset.sum_mul]
  rw [s1, s2, Ideal.div_coe (by positivity), one_mul, sum_mul_real _ _ (by positivity)]
  refine Finset.sum_congr rfl fun j _ => ?_
  rw [Ideal.div_coe hLp.ne', mul_comm _ (v j), mul_assoc, ← EReal.coe_mul, ← EReal.coe_mul]
  refine congrArg (fun r : ℝ => v j * (r : EReal)) ?_
  field_simp

/-- The bit patterns of the constants: one eighth, two, minus infinity and infinity. -/
theorem ofBits_eighth : Ideal.ofBits .f32 0x3E000000#32 = ((1 / 8 : ℝ) : EReal) := by
  simp [Ideal.ofBits, Ideal.ieee]; rw [← EReal.coe_mul]; norm_num
theorem ofBits_two : Ideal.ofBits .f32 0x40000000#32 = ((2 : ℝ) : EReal) := by
  simp [Ideal.ofBits, Ideal.ieee]; rw [← EReal.coe_mul]; norm_num
theorem ofBits_neg_inf : Ideal.ofBits .f32 0xFF800000#32 = ⊥ := by
  simp [Ideal.ofBits, Ideal.ieee]
theorem ofBits_inf : Ideal.ofBits .f32 0x7F800000#32 = ⊤ := by
  simp [Ideal.ofBits, Ideal.ieee]

end Cert.Soft

end
-- ==== Proof.Tile.lean ====
module

public import proofs.«01_k».proof.Proof.Gen.KernelIdeal.Frame
public import Idealize.ShloMosaic.Lib.Pipeline.Value
public import Idealize.ShloMosaic.Lib.ValueIdx
public import Idealize.ShloMosaic.Lib.ValueIdxCoords
public import Idealize.ShloMosaic.Lib.MatmulPlain
public import Idealize.ShloMosaic.Lib.KernelVsHost
public import proofs.«01_k».proof.Proof.Soft

@[expose] public section

set_option maxRecDepth 16384

noncomputable section

namespace Cert.Tile

open Cert.KernelIdeal Cert.KernelIdeal.Gen Idealize.ShloMosaic Idealize.ShloMosaic.TcCoe Idealize.ShloMosaic.ValueIdx
open scoped BigOperators

/-- The weights' rows `256·g …` times the packed values: one head's unnormalised output, its weights' sum in lane 64. -/
def headOut (P : FVec Ideal S1024x4352 .bf16) (V : FVec Ideal S4352x128 .bf16) (o : Nat) (h : S1024x4352.Slices ![o, 0] S256x4352) :
    FVec Ideal S256x128 .f32 :=
  matmul dot_S256x4352_S4352x128_S256x128_1_0_0_1_n_n none (extractStridedSlice S256x4352 ![o, 0] P h) V (constant S256x128 .f32 0x00000000#32)

/-- An unnormalised output times the reciprocal of its lane 64. -/
def normed (O : FVec Ideal S256x128 .f32) : FVec Ideal S256x128 .f32 :=
  mulf O (broadcastTo S256x128 (divf (broadcast S256x1 (Scalar.ofBits .f32 0x3F800000#32))
    (extractStridedSlice S256x1 ![0, 64] O slices_S256x128_o0_64_S256x1)) broadcasts_S256x1_S256x128)

/-- Two heads' outputs side by side: the first in lanes below 64, the second moved up by 64 lanes. -/
def paired (A B : FVec Ideal S256x128 .f32) : FVec Ideal S256x128 .f32 :=
  select (cmpi .slt (iota .tc S256x128 32 [1] iota_S256x128_d1_w32) (broadcast S256x128 64#32)) A
    (dynamicRotate 1 64#32 none B rotates_S256x128_d1)

/-- The output tile of one key/value head: its four query heads' outputs, side by side. -/
def outTile (P : FVec Ideal S1024x4352 .bf16) (V : FVec Ideal S4352x128 .bf16) : FVec Ideal S1x256x256 .bf16 :=
  shapeCast S1x256x256 (truncf .bf16 (concatenate S256x256 1
    [⟨S256x128, paired (normed (headOut P V 0 slices_S1024x4352_o0_0_S256x4352)) (normed (headOut P V 256 slices_S1024x4352_o256_0_S256x4352))⟩,
     ⟨S256x128, paired (normed (headOut P V 512 slices_S1024x4352_o512_0_S256x4352)) (normed (headOut P V 768 slices_S1024x4352_o768_0_S256x4352))⟩]
    concatenates_S256x128_S256x128_S256x256_d1) bitsLt_bf16_f32) shapeCasts_S256x256_S1x256x256

/-- The second store's payload is the output tile of its weights and values. -/
theorem pay1_eq (q : Vec Ideal S1x4x256x64 .bf16) (k : Vec Ideal S1x1x4352x64 .bf16) (v : Vec Ideal S1x1x4352x128 .bf16) :
    k0_pay1 (k0_pay8 v) (k0_pay9 q k) (iota .tc S256x128 32 [1] iota_S256x128_d1_w32) (k0_pay10 q k v) = outTile (k0_pay3 q k) (k0_pay2 v) := rfl

/-- The first store's payload is the output tile of its weights and values. -/
theorem pay7_eq (q : Vec Ideal S1x4x256x64 .bf16) (k : Vec Ideal S1x1x4352x64 .bf16) (v : Vec Ideal S1x1x4352x128 .bf16) :
    k0_pay7 (k0_pay2 v) (k0_pay3 q k) (iota .tc S256x128 32 [1] iota_S256x128_d1_w32) (k0_pay4 q k v) (k0_pay5 q k v) (k0_pay6 q k v)
      (Scalar.ofBits .f32 0x3F800000#32) = outTile (k0_pay3 q k) (k0_pay2 v) := rfl

/-- One head's unnormalised output at a row and a lane: the weights of that row against that lane of the values. -/
theorem headOut_apply (P : FVec Ideal S1024x4352 .bf16) (V : FVec Ideal S4352x128 .bf16) (o : Nat) (h : S1024x4352.Slices ![o, 0] S256x4352)
    (a : Fin 256) (l : Fin 128) (ho : o + a.val < 1024) :
    headOut P V o h (ix2 a l) = ∑ t : Fin 4352, P (ix2 (⟨o + a.val, ho⟩ : Fin 1024) t) * V (ix2 t l) := by
  refine (Ideal.matmul_plain_apply (M := 256) (K := 4352) (N := 128) none _ V _ a l).trans ?_
  rw [show (constant (F := Ideal) S256x128 .f32 0x00000000#32) (ix2 a l) = 0 from Ideal.ofBits_zero_f32, zero_add]
  refine Finset.sum_congr rfl fun t _ => congrArg (· * _) ?_
  exact extractStridedSlice_apply _ P h (ix2 a t) (ix2 (⟨o + a.val, ho⟩ : Fin 1024) t)
    (fun b => match b with | ⟨0, _⟩ => rfl | ⟨1, _⟩ => by show t.val = 0 + t.val; omega)

/-- A normalised output at a row and a lane. -/
theorem normed_apply (O : FVec Ideal S256x128 .f32) (a : Fin 256) (l : Fin 128) :
    normed O (ix2 a l) = O (ix2 a l) * Ideal.div 1 (O (ix2 a (64 : Fin 128))) := by
  unfold normed
  rw [mulf_apply]
  refine congrArg (O (ix2 a l) * ·) ?_
  rw [broadcastTo_apply _ broadcasts_S256x1_S256x128 (ix2 a l) (ix2 a (0 : Fin 1))
    (fun b => match b with | ⟨0, _⟩ => rfl | ⟨1, _⟩ => rfl), divf_apply]
  refine congrArg₂ Ideal.div Ideal.ofBits_one_f32 ?_
  exact extractStridedSlice_apply _ O slices_S256x128_o0_64_S256x1 (ix2 a (0 : Fin 1)) (ix2 a (64 : Fin 128))
    (fun b => match b with | ⟨0, _⟩ => by show a.val = 0 + a.val; omega | ⟨1, _⟩ => rfl)

/-- A lane below 64 of the two heads side by side is that lane of the first. -/
theorem paired_lo (A B : FVec Ideal S256x128 .f32) (a : Fin 256) (l : Fin 128) (hl : l.val < 64) :
    paired A B (ix2 a l) = A (ix2 a l) := by
  unfold paired
  rw [select_apply]
  have e : (cmpi .slt (iota .tc S256x128 32 [1] iota_S256x128_d1_w32) (broadcast S256x128 64#32)) (ix2 a l) = 1#1 := by
    show IntOp.cmpi .slt (iota .tc S256x128 32 [1] iota_S256x128_d1_w32 (ix2 a l)) 64#32 = 1#1
    rw [iota_single_apply]
    show IntOp.cmpi .slt (BitVec.ofNat 32 l.val) 64#32 = 1#1
    have : ∀ l : Fin 128, l.val < 64 → IntOp.cmpi .slt (BitVec.ofNat 32 l.val) 64#32 = 1#1 := by decide +kernel
    exact this l hl
  rw [e, select_one]

/-- A lane from 64 on of the two heads side by side is the lane 64 below of the second. -/
theorem paired_hi (A B : FVec Ideal S256x128 .f32) (a : Fin 256) (l : Fin 128) (hl : 64 ≤ l.val) (l' : Fin 128) (h' : l'.val + 64 = l.val) :
    paired A B (ix2 a l) = B (ix2 a l') := by
  unfold paired
  rw [select_apply]
  have e : (cmpi .slt (iota .tc S256x128 32 [1] iota_S256x128_d1_w32) (broadcast S256x128 64#32)) (ix2 a l) = 0#1 := by
    show IntOp.cmpi .slt (iota .tc S256x128 32 [1] iota_S256x128_d1_w32 (ix2 a l)) 64#32 = 0#1
    rw [iota_single_apply]
    show IntOp.cmpi .slt (BitVec.ofNat 32 l.val) 64#32 = 0#1
    have : ∀ l : Fin 128, 64 ≤ l.val → IntOp.cmpi .slt (BitVec.ofNat 32 l.val) 64#32 = 0#1 := by decide +kernel
    exact this l hl
  rw [e, select_zero]
  have hl' := l.isLt
  exact dynamicRotate_apply 1 64#32 B rotates_S256x128_d1 (ix2 a l) (ix2 a l') (fun b => match b with
    | ⟨0, _⟩ => rfl
    | ⟨1, _⟩ => by show l'.val = (l.val + 128 - 64 % 128) % 128; omega)

/-- The output tile at a row and a column: the column's head (of 64 columns) reads its rows of the weights, its lane of the values, and
    divides by the weights' sum the values carry in lane 64. -/
theorem outTile_apply (P : FVec Ideal S1024x4352 .bf16) (V : FVec Ideal S4352x128 .bf16) (z : Fin 1) (a n : Fin 256)
    (r : Fin 1024) (hr : r.val = 256 * (n.val / 64) + a.val) (l : Fin 128) (hl : l.val = n.val % 64) :
    outTile P V (ix3 z a n)
      = (∑ t : Fin 4352, P (ix2 r t) * V (ix2 t l)) * Ideal.div 1 (∑ t : Fin 4352, P (ix2 r t) * V (ix2 t (64 : Fin 128))) := by
  have key : ∀ (o : Nat) (h : S1024x4352.Slices ![o, 0] S256x4352) (l' : Fin 128), o + a.val = r.val → l'.val = l.val →
      normed (headOut P V o h) (ix2 a l')
        = (∑ t : Fin 4352, P (ix2 r t) * V (ix2 t l)) * Ideal.div 1 (∑ t : Fin 4352, P (ix2 r t) * V (ix2 t (64 : Fin 128))) := by
    intro o h l' ho hl'
    obtain rfl : l' = l := Fin.ext hl'
    rw [normed_apply, headOut_apply P V o h a l' (by omega), headOut_apply P V o h a 64 (by omega)]
    rw [show (⟨o + a.val, by omega⟩ : Fin 1024) = r from Fin.ext ho]
  unfold outTile
  refine (shapeCast_addUnit_apply (n := 2) ![256, 256] _ shapeCasts_S256x256_S1x256x256 (ix3 z a n)).trans ?_
  rw [show (fun b : Fin 2 => (ix3 z a n) b.succ) = ix2 a n from funext fun b => match b with | ⟨0, _⟩ => rfl | ⟨1, _⟩ => rfl]
  rw [truncf_apply]
  have hn := n.isLt
  by_cases h1 : n.val < 128
  · refine (concatenate_pair_apply_left (t := S256x256) (s₁ := S256x128) (s₂ := S256x128) 1 _ _ concatenates_S256x128_S256x128_S256x256_d1 (ix2 a n) rfl
      (ix2 a (⟨n.val, h1⟩ : Fin 128)) (fun b => match b with | ⟨0, _⟩ => rfl | ⟨1, _⟩ => rfl)).trans ?_
    by_cases h2 : n.val < 64
    · rw [paired_lo _ _ _ _ h2]
      exact key 0 _ _ (by omega) (by show n.val = l.val; omega)
    · rw [paired_hi _ _ _ _ (by show 64 ≤ n.val; omega) (⟨n.val - 64, by omega⟩ : Fin 128) (by show n.val - 64 + 64 = n.val; omega)]
      exact key 256 _ _ (by omega) (by show n.val - 64 = l.val; omega)
  · refine (concatenate_pair_apply_right (t := S256x256) (s₁ := S256x128) (s₂ := S256x128) 1 _ _ concatenates_S256x128_S256x128_S256x256_d1 (ix2 a n) rfl rfl
      (ix2 a (⟨n.val - 128, by omega⟩ : Fin 128)) (fun b hb => match b with | ⟨0, _⟩ => rfl | ⟨1, _⟩ => absurd rfl hb)
      (by show n.val - 128 + 128 = n.val; omega)).trans ?_
    by_cases h2 : n.val - 128 < 64
    · rw [paired_lo _ _ _ _ h2]
      exact key 512 _ _ (by omega) (by show n.val - 128 = l.val; omega)
    · rw [paired_hi _ _ _ _ (by show 64 ≤ n.val - 128; omega) (⟨n.val - 192, by omega⟩ : Fin 128) (by show n.val - 192 + 64 = n.val - 128; omega)]
      exact key 768 _ _ (by omega) (by show n.val - 192 = l.val; omega)

/-- A score: row `256·g + a` of the four stacked query heads against one key. -/
def score (q : Vec Ideal S1x4x256x64 .bf16) (k : Vec Ideal S1x1x4352x64 .bf16) (g : Fin 4) (a : Fin 256) (t : Fin 4352) : EReal :=
  ∑ d : Fin 64, q (ix4 (0 : Fin 1) g a d) * k (ix4 (0 : Fin 1) (0 : Fin 1) t d)

/-- All the scores of the four stacked query heads, as the kernel computes them. -/
def scores (q : Vec Ideal S1x4x256x64 .bf16) (k : Vec Ideal S1x1x4352x64 .bf16) : FVec Ideal S1024x4352 .f32 :=
  matmul (φ₁ := .bf16) (φ₂ := .bf16) dot_S1024x64_S4352x64_S1024x4352_1_1_0_0_n_n none
    (shapeCast S1024x64 (shapeCast S4x256x64 q shapeCasts_S1x4x256x64_S4x256x64) shapeCasts_S4x256x64_S1024x64)
    (shapeCast S4352x64 k shapeCasts_S1x1x4352x64_S4352x64) (constant (F := Ideal) S1024x4352 .f32 0x00000000#32)

/-- The weights at a row and a key: two to the score less the row's largest score. -/
theorem weights_apply (q : Vec Ideal S1x4x256x64 .bf16) (k : Vec Ideal S1x1x4352x64 .bf16) (g : Fin 4) (a : Fin 256) (t : Fin 4352)
    (r : Fin 1024) (hr : r.val = 256 * g.val + a.val) :
    k0_pay3 q k (ix2 r t) = Ideal.exp2 (score q k g a t - (Finset.univ : Finset (Fin 4352)).fold max ⊥ (score q k g a)) := by
  have hs : ∀ t : Fin 4352, scores q k (ix2 r t) = score q k g a t := by
    intro t
    refine (Ideal.matmul_transposedRhs_apply (M := 1024) (K := 64) (N := 4352) none _ _ _ r t).trans ?_
    rw [show (constant (F := Ideal) S1024x4352 .f32 0x00000000#32) (ix2 r t) = 0 from Ideal.ofBits_zero_f32, zero_add]
    refine Finset.sum_congr rfl fun d _ => congrArg₂ (· * ·) ?_ ?_
    · refine (shapeCast_apply _ shapeCasts_S4x256x64_S1024x64 (ix2 r d) (ix3 g a d) (by
        rw [Shape.rowMajor_val_three, Shape.rowMajor_val_two]
        show (g.val * 256 + a.val) * 64 + d.val = r.val * 64 + d.val
        rw [hr]; omega)).trans ?_
      exact shapeCast_apply _ shapeCasts_S1x4x256x64_S4x256x64 (ix3 g a d) (ix4 (0 : Fin 1) g a d) (by
        rw [Shape.rowMajor_val_three, Shape.rowMajor_val_four]
        show ((0 * 4 + g.val) * 256 + a.val) * 64 + d.val = (g.val * 256 + a.val) * 64 + d.val
        omega)
    · exact shapeCast_apply _ shapeCasts_S1x1x4352x64_S4352x64 (ix2 t d) (ix4 (0 : Fin 1) (0 : Fin 1) t d) (by
        rw [Shape.rowMajor_val_two, Shape.rowMajor_val_four]
        show ((0 * 1 + 0) * 4352 + t.val) * 64 + d.val = t.val * 64 + d.val
        omega)
  show Ideal.exp2 (scores q k (ix2 r t) - broadcastTo S1024x4352 (shapeCast S1024x1
    (multiReduction .maximumf [1] S1024 (scores q k) 0xFF800000#32 reduces_S1024x4352_S1024 (.inl rfl) rfl) shapeCasts_S1024_S1024x1)
    broadcasts_S1024x1_S1024x4352 (ix2 r t)) = _
  rw [hs t]
  refine congrArg (fun x => Ideal.exp2 (score q k g a t - x)) ?_
  rw [broadcastTo_apply _ broadcasts_S1024x1_S1024x4352 (ix2 r t) (ix2 r (0 : Fin 1))
    (fun b => match b with | ⟨0, _⟩ => rfl | ⟨1, _⟩ => rfl)]
  rw [shapeCast_apply _ shapeCasts_S1024_S1024x1 (ix2 r (0 : Fin 1)) (ix1 r) (by
    rw [Shape.rowMajor_val_two, Shape.rowMajor_val_one]; show r.val = r.val * 1 + 0; omega)]
  refine (Ideal.multiReduction_maximumf_single (s := S1024x4352) (t := S1024) (a := 1) (scores q k) _ reduces_S1024x4352_S1024 (.inl rfl) rfl (ix1 r)).trans ?_
  refine congrArg₂ (fun b f => (Finset.univ : Finset (Fin 4352)).fold max b f) Soft.ofBits_neg_inf (funext fun t' => ?_)
  refine Eq.trans ?_ (hs t')
  refine congrArg (scores q k) ?_
  exact funext fun b => Fin.ext (match b with | ⟨0, _⟩ => rfl | ⟨1, _⟩ => rfl)

/-- The packed values as a matrix. -/
theorem values_apply (v : Vec Ideal S1x1x4352x128 .bf16) (t : Fin 4352) (l : Fin 128) :
    k0_pay2 v (ix2 t l) = v (ix4 (0 : Fin 1) (0 : Fin 1) t l) := by
  unfold k0_pay2
  exact shapeCast_apply _ shapeCasts_S1x1x4352x128_S4352x128 (ix2 t l) (ix4 (0 : Fin 1) (0 : Fin 1) t l) (by
    rw [Shape.rowMajor_val_two, Shape.rowMajor_val_four]
    show ((0 * 1 + 0) * 4352 + t.val) * 128 + l.val = t.val * 128 + l.val
    omega)

end Cert.Tile

end
-- ==== Proof.Host.lean ====
module

public import proofs.«01_k».proof.Proof.Tile
public import Idealize.ShloMosaic.Lib.StableHlo

@[expose] public section

set_option maxRecDepth 16384

noncomputable section

namespace Cert.Prep

open Cert.KernelIdeal Cert.KernelIdeal.Gen Idealize.ShloMosaic Idealize.ShloMosaic.TcCoe Idealize.ShloMosaic.ValueIdx
open Idealize.ShloMosaic.StableHlo
open Idealize.SL.Sem
open scoped BigOperators

variable (m : (ℓ : Loc nD τ sig) → Buf (Elt Ideal) ℓ) (c : Dev nD)

/-- The queries as launched. -/
abbrev Q : FVec Ideal S8x4352x8x64 .f32 := m ((c.tc : Thread nD τ).loc main_arg0)
/-- The keys as launched. -/
abbrev K : FVec Ideal S8x4352x2x64 .f32 := m ((c.tc : Thread nD τ).loc main_arg1)
/-- The values as launched. -/
abbrev W : FVec Ideal S8x4352x2x64 .f32 := m ((c.tc : Thread nD τ).loc main_arg2)

/-- The factor the host multiplies the queries by: one eighth over the natural logarithm of two. -/
def kappa : ℝ := 1 / 8 * (1 / Real.log 2)

theorem kappa_log : kappa * Real.log 2 = 1 / 8 := by
  have h : Real.log 2 ≠ 0 := (Real.log_pos (by norm_num)).ne'
  unfold kappa; field_simp

/-- The prepared queries: scaled, heads first. -/
def qArr (q : FVec Ideal S8x4352x8x64 .f32) : FVec Ideal S8x8x4352x64 .bf16 :=
  truncf .bf16 (transpose S8x8x4352x64 [0, 2, 1, 3] (mulf q (broadcastInDim S8x4352x8x64 ![] bcast_S_S8x4352x8x64
    (Host.divf (constant S_ .f32 0x3E000000#32) (Host.log (constant S_ .f32 0x40000000#32))))) transposes_S8x4352x8x64_S8x8x4352x64_0_2_1_3) bitsLt_bf16_f32

/-- The prepared keys: heads first. -/
def kArr (k : FVec Ideal S8x4352x2x64 .f32) : FVec Ideal S8x2x4352x64 .bf16 :=
  truncf .bf16 (transpose S8x2x4352x64 [0, 2, 1, 3] k transposes_S8x4352x2x64_S8x2x4352x64_0_2_1_3) bitsLt_bf16_f32

/-- The three pieces of the prepared values: the values heads first, one lane of ones, 63 lanes of zeros. -/
abbrev pieces (v : FVec Ideal S8x4352x2x64 .f32) : List ((s : Shape) × FVec Ideal s .f32) :=
    [⟨S8x2x4352x64, transpose S8x2x4352x64 [0, 2, 1, 3] v transposes_S8x4352x2x64_S8x2x4352x64_0_2_1_3⟩,
     ⟨S8x2x4352x1, broadcastInDim S8x2x4352x1 ![] bcast_S_S8x2x4352x1 (constant S_ .f32 0x3F800000#32)⟩,
     ⟨S8x2x4352x63, broadcastInDim S8x2x4352x63 ![] bcast_S_S8x2x4352x63 (constant S_ .f32 0x00000000#32)⟩]

/-- The prepared values: heads first, a lane of ones after the 64 lanes, zeros in the rest. -/
def vArr (v : FVec Ideal S8x4352x2x64 .f32) : FVec Ideal S8x2x4352x128 .bf16 :=
  truncf .bf16 (concatenate S8x2x4352x128 3 (pieces v)
    concatenates_S8x2x4352x64_S8x2x4352x1_S8x2x4352x63_S8x2x4352x128_d3) bitsLt_bf16_f32

theorem V_q : V m c main_v5 = qArr (Q m c) := by
  unfold V; after_results <;> rfl
theorem V_k : V m c main_v7 = kArr (K m c) := by
  unfold V; after_results <;> rfl
theorem V_v : V m c main_v12 = vArr (W m c) := by
  unfold V; after_results <;> rfl

/-- A prepared query is the query times the factor. -/
theorem qArr_apply (q : FVec Ideal S8x4352x8x64 .f32) (b h : Fin 8) (s : Fin 4352) (d : Fin 64) :
    qArr q (ix4 b h s d) = q (ix4 b s h d) * (kappa : EReal) := by
  unfold qArr
  rw [truncf_apply, transpose_apply _ _ transposes_S8x4352x8x64_S8x8x4352x64_0_2_1_3 (ix4 b h s d) (ix4 b s h d)
    (fun a => match a with | ⟨0, _⟩ => rfl | ⟨1, _⟩ => rfl | ⟨2, _⟩ => rfl | ⟨3, _⟩ => rfl), mulf_apply]
  refine congrArg (q (ix4 b s h d) * ·) ?_
  show Ideal.div (Ideal.ofBits .f32 0x3E000000#32) (Ideal.log (Ideal.ofBits .f32 0x40000000#32)) = _
  rw [Soft.ofBits_eighth, Soft.ofBits_two, Ideal.log_coe, if_neg (by norm_num),
    Ideal.div_coe (Real.log_pos (by norm_num)).ne', ← EReal.coe_mul]
  rfl

/-- A prepared key is the key. -/
theorem kArr_apply (k : FVec Ideal S8x4352x2x64 .f32) (b : Fin 8) (h : Fin 2) (s : Fin 4352) (d : Fin 64) :
    kArr k (ix4 b h s d) = k (ix4 b s h d) := by
  unfold kArr
  rw [truncf_apply]
  exact transpose_apply _ _ transposes_S8x4352x2x64_S8x2x4352x64_0_2_1_3 (ix4 b h s d) (ix4 b s h d)
    (fun a => match a with | ⟨0, _⟩ => rfl | ⟨1, _⟩ => rfl | ⟨2, _⟩ => rfl | ⟨3, _⟩ => rfl)

/-- A prepared value's first 64 lanes are the value. -/
theorem vArr_apply (v : FVec Ideal S8x4352x2x64 .f32) (b : Fin 8) (h : Fin 2) (s : Fin 4352) (l : Fin 128) (d : Fin 64) (hd : l.val = d.val) :
    vArr v (ix4 b h s l) = v (ix4 b s h d) := by
  unfold vArr
  rw [truncf_apply]
  refine (concatenate_apply_piece (t := S8x2x4352x128) 3 (pieces v) concatenates_S8x2x4352x64_S8x2x4352x1_S8x2x4352x63_S8x2x4352x128_d3 (ix4 b h s l)
    0 (by show 0 < 3; decide) S8x2x4352x64 _ rfl rfl 0 rfl (ix4 b h s d)
    (fun a ha => match a with | ⟨0, _⟩ => rfl | ⟨1, _⟩ => rfl | ⟨2, _⟩ => rfl | ⟨3, _⟩ => absurd rfl ha) (by show 0 + d.val = l.val; omega)).trans ?_
  exact transpose_apply _ _ transposes_S8x4352x2x64_S8x2x4352x64_0_2_1_3 (ix4 b h s d) (ix4 b s h d)
    (fun a => match a with | ⟨0, _⟩ => rfl | ⟨1, _⟩ => rfl | ⟨2, _⟩ => rfl | ⟨3, _⟩ => rfl)

/-- A prepared value's lane 64 is one. -/
theorem vArr_one (v : FVec Ideal S8x4352x2x64 .f32) (b : Fin 8) (h : Fin 2) (s : Fin 4352) :
    vArr v (ix4 b h s (64 : Fin 128)) = 1 := by
  unfold vArr
  rw [truncf_apply]
  refine (concatenate_apply_piece (t := S8x2x4352x128) 3 (pieces v) concatenates_S8x2x4352x64_S8x2x4352x1_S8x2x4352x63_S8x2x4352x128_d3 (ix4 b h s (64 : Fin 128))
    1 (by show 1 < 3; decide) S8x2x4352x1 _ rfl rfl 64 rfl (ix4 b h s (0 : Fin 1))
    (fun a ha => match a with | ⟨0, _⟩ => rfl | ⟨1, _⟩ => rfl | ⟨2, _⟩ => rfl | ⟨3, _⟩ => absurd rfl ha) rfl).trans ?_
  exact Ideal.ofBits_one_f32

end Cert.Prep

end
-- ==== Proof.Block.lean ====
module

public import proofs.«01_k».proof.Proof.Host
public import proofs.«01_k».proof.Proof.Gen.KernelIdeal.Value
public import Idealize.ShloMosaic.Lib.Pipeline.ValueKit.Tiles

@[expose] public section

set_option maxRecDepth 16384

noncomputable section

namespace Cert.Block

open Cert.KernelIdeal Cert.KernelIdeal.Gen Idealize.ShloMosaic Idealize.ShloMosaic.TcCoe Idealize.ShloMosaic.ValueIdx
open Idealize.ShloMosaic.Pipeline (Dat)
open Idealize.SL.Sem
open Cert.Tile Cert.Prep
open scoped BigOperators

/-- What the kernel computes for a head: its weights against one lane of the values, times the reciprocal of their sum. -/
def headVal (s : Fin 4352 → EReal) (v one : Fin 4352 → EReal) : EReal :=
  (∑ t, Ideal.exp2 (s t - (Finset.univ : Finset (Fin 4352)).fold max ⊥ s) * v t)
    * Ideal.div 1 (∑ t, Ideal.exp2 (s t - (Finset.univ : Finset (Fin 4352)).fold max ⊥ s) * one t)

/-- The output block as a function of the three input blocks, at a row and a column: column `n` belongs to query head
    `n / 64`, key/value head `n / 256`, lane `n % 64`. -/
def blockVal (x0 : Vec Ideal S1x8x256x64 .bf16) (x1 : Vec Ideal S1x2x4352x64 .bf16) (x2 : Vec Ideal S1x2x4352x128 .bf16)
    (a : Fin 256) (n : Fin 512) : EReal :=
  headVal (fun t => ∑ d : Fin 64, x0 (ix4 (0 : Fin 1) (⟨n.val / 64, by have := n.isLt; omega⟩ : Fin 8) a d)
      * x1 (ix4 (0 : Fin 1) (⟨n.val / 256, by have := n.isLt; omega⟩ : Fin 2) t d))
    (fun t => x2 (ix4 (0 : Fin 1) (⟨n.val / 256, by have := n.isLt; omega⟩ : Fin 2) t (⟨n.val % 64, by omega⟩ : Fin 128)))
    (fun t => x2 (ix4 (0 : Fin 1) (⟨n.val / 256, by have := n.isLt; omega⟩ : Fin 2) t (64 : Fin 128)))

/-- One store's tile, its operands loads of the blocks at key/value head `w`, is the block's columns from `256·w`. -/
theorem tile_eq (x0 : Vec Ideal S1x8x256x64 .bf16) (x1 : Vec Ideal S1x2x4352x64 .bf16) (x2 : Vec Ideal S1x2x4352x128 .bf16)
    (w : Fin 2) (q : Vec Ideal S1x4x256x64 .bf16) (k : Vec Ideal S1x1x4352x64 .bf16) (v : Vec Ideal S1x1x4352x128 .bf16)
    (hq : ∀ (g : Fin 4) (h : Fin 8) (a : Fin 256) (d : Fin 64), h.val = 4 * w.val + g.val → q (ix4 (0 : Fin 1) g a d) = x0 (ix4 (0 : Fin 1) h a d))
    (hk : ∀ (t : Fin 4352) (d : Fin 64), k (ix4 (0 : Fin 1) (0 : Fin 1) t d) = x1 (ix4 (0 : Fin 1) w t d))
    (hv : ∀ (t : Fin 4352) (l : Fin 128), v (ix4 (0 : Fin 1) (0 : Fin 1) t l) = x2 (ix4 (0 : Fin 1) w t l))
    (z : Fin 1) (a n : Fin 256) (a' : Fin 256) (ha : a'.val = a.val) (n' : Fin 512) (hn : n'.val = 256 * w.val + n.val) :
    outTile (k0_pay3 q k) (k0_pay2 v) (ix3 z a n) = blockVal x0 x1 x2 a' n' := by
  obtain rfl : a' = a := Fin.ext ha
  have hnl := n.isLt
  have hal := a'.isLt
  have hwl := w.isLt
  rw [outTile_apply _ _ z a' n (⟨256 * (n.val / 64) + a'.val, by omega⟩ : Fin 1024) rfl (⟨n.val % 64, by omega⟩ : Fin 128) rfl]
  have hw : (⟨n'.val / 256, by omega⟩ : Fin 2) = w := Fin.ext (by show n'.val / 256 = w.val; omega)
  have hl : (⟨n'.val % 64, by omega⟩ : Fin 128) = ⟨n.val % 64, by omega⟩ := Fin.ext (by show n'.val % 64 = n.val % 64; omega)
  have hsc : score q k (⟨n.val / 64, by omega⟩ : Fin 4) a' = fun t => ∑ d : Fin 64, x0 (ix4 (0 : Fin 1) (⟨n'.val / 64, by omega⟩ : Fin 8) a' d)
      * x1 (ix4 (0 : Fin 1) w t d) := by
    funext t
    unfold score
    refine Finset.sum_congr rfl fun d _ => ?_
    rw [hk, hq _ (⟨n'.val / 64, by omega⟩ : Fin 8) a' d (by show n'.val / 64 = 4 * w.val + n.val / 64; omega)]
  unfold blockVal headVal
  rw [hw, hl]
  simp only [weights_apply q k (⟨n.val / 64, by omega⟩ : Fin 4) a' _ (⟨256 * (n.val / 64) + a'.val, by omega⟩ : Fin 1024) rfl, values_apply, hv, hsc]

theorem ld_q_lo (x0 : Vec Ideal S1x8x256x64 .bf16) (g : Fin 4) (h : Fin 8) (a : Fin 256) (d : Fin 64) (hh : h.val = 4 * 0 + g.val) :
    View.ld x0 r0_0 (ix4 (0 : Fin 1) g a d) = x0 (ix4 (0 : Fin 1) h a d) :=
  View.ld_unit_apply_of (S := S1x8x256x64) x0 ![0, 0, 0, 0] S1x4x256x64.size inb_S1x8x256x64_S1x4x256x64_0_0_0_0 (ix4 (0 : Fin 1) g a d)
    (ix4 (0 : Fin 1) h a d) (fun b => match b with
      | ⟨0, _⟩ => rfl
      | ⟨1, _⟩ => by show h.val = 0 + g.val; omega
      | ⟨2, _⟩ => by show a.val = 0 + a.val; omega
      | ⟨3, _⟩ => by show d.val = 0 + d.val; omega)

theorem ld_k_lo (x1 : Vec Ideal S1x2x4352x64 .bf16) (t : Fin 4352) (d : Fin 64) :
    View.ld x1 r0_1 (ix4 (0 : Fin 1) (0 : Fin 1) t d) = x1 (ix4 (0 : Fin 1) (0 : Fin 2) t d) :=
  View.ld_unit_apply_of (S := S1x2x4352x64) x1 ![0, 0, 0, 0] S1x1x4352x64.size inb_S1x2x4352x64_S1x1x4352x64_0_0_0_0 (ix4 (0 : Fin 1) (0 : Fin 1) t d)
    (ix4 (0 : Fin 1) (0 : Fin 2) t d) (fun b => match b with
      | ⟨0, _⟩ => rfl
      | ⟨1, _⟩ => rfl
      | ⟨2, _⟩ => by show t.val = 0 + t.val; omega
      | ⟨3, _⟩ => by show d.val = 0 + d.val; omega)

theorem ld_v_lo (x2 : Vec Ideal S1x2x4352x128 .bf16) (t : Fin 4352) (d : Fin 128) :
    View.ld x2 r0_2 (ix4 (0 : Fin 1) (0 : Fin 1) t d) = x2 (ix4 (0 : Fin 1) (0 : Fin 2) t d) :=
  View.ld_unit_apply_of (S := S1x2x4352x128) x2 ![0, 0, 0, 0] S1x1x4352x128.size inb_S1x2x4352x128_S1x1x4352x128_0_0_0_0 (ix4 (0 : Fin 1) (0 : Fin 1) t d)
    (ix4 (0 : Fin 1) (0 : Fin 2) t d) (fun b => match b with
      | ⟨0, _⟩ => rfl
      | ⟨1, _⟩ => rfl
      | ⟨2, _⟩ => by show t.val = 0 + t.val; omega
      | ⟨3, _⟩ => by show d.val = 0 + d.val; omega)

theorem ld_q_hi (x0 : Vec Ideal S1x8x256x64 .bf16) (g : Fin 4) (h : Fin 8) (a : Fin 256) (d : Fin 64) (hh : h.val = 4 * 1 + g.val) :
    View.ld x0 r0_4 (ix4 (0 : Fin 1) g a d) = x0 (ix4 (0 : Fin 1) h a d) :=
  View.ld_unit_apply_of (S := S1x8x256x64) x0 ![0, 4, 0, 0] S1x4x256x64.size inb_S1x8x256x64_S1x4x256x64_0_4_0_0 (ix4 (0 : Fin 1) g a d)
    (ix4 (0 : Fin 1) h a d) (fun b => match b with
      | ⟨0, _⟩ => rfl
      | ⟨1, _⟩ => by show h.val = 4 + g.val; omega
      | ⟨2, _⟩ => by show a.val = 0 + a.val; omega
      | ⟨3, _⟩ => by show d.val = 0 + d.val; omega)

theorem ld_k_hi (x1 : Vec Ideal S1x2x4352x64 .bf16) (t : Fin 4352) (d : Fin 64) :
    View.ld x1 r0_5 (ix4 (0 : Fin 1) (0 : Fin 1) t d) = x1 (ix4 (0 : Fin 1) (1 : Fin 2) t d) :=
  View.ld_unit_apply_of (S := S1x2x4352x64) x1 ![0, 1, 0, 0] S1x1x4352x64.size inb_S1x2x4352x64_S1x1x4352x64_0_1_0_0 (ix4 (0 : Fin 1) (0 : Fin 1) t d)
    (ix4 (0 : Fin 1) (1 : Fin 2) t d) (fun b => match b with
      | ⟨0, _⟩ => rfl
      | ⟨1, _⟩ => rfl
      | ⟨2, _⟩ => by show t.val = 0 + t.val; omega
      | ⟨3, _⟩ => by show d.val = 0 + d.val; omega)

theorem ld_v_hi (x2 : Vec Ideal S1x2x4352x128 .bf16) (t : Fin 4352) (d : Fin 128) :
    View.ld x2 r0_6 (ix4 (0 : Fin 1) (0 : Fin 1) t d) = x2 (ix4 (0 : Fin 1) (1 : Fin 2) t d) :=
  View.ld_unit_apply_of (S := S1x2x4352x128) x2 ![0, 1, 0, 0] S1x1x4352x128.size inb_S1x2x4352x128_S1x1x4352x128_0_1_0_0 (ix4 (0 : Fin 1) (0 : Fin 1) t d)
    (ix4 (0 : Fin 1) (1 : Fin 2) t d) (fun b => match b with
      | ⟨0, _⟩ => rfl
      | ⟨1, _⟩ => rfl
      | ⟨2, _⟩ => by show t.val = 0 + t.val; omega
      | ⟨3, _⟩ => by show d.val = 0 + d.val; omega)

theorem piece_hi (x0 : Vec Ideal S1x8x256x64 .bf16) (x1 : Vec Ideal S1x2x4352x64 .bf16) (x2 : Vec Ideal S1x2x4352x128 .bf16) (x : S1x256x256.Idx) :
    outTile (k0_pay3 (View.ld x0 r0_4) (View.ld x1 r0_5)) (k0_pay2 (View.ld x2 r0_6)) x
      = blockVal x0 x1 x2 (r0_7.emb x 1) (r0_7.emb x 2) := by
  have e := tile_eq x0 x1 x2 1 (View.ld x0 r0_4) (View.ld x1 r0_5) (View.ld x2 r0_6)
    (fun g h a d hh => ld_q_hi x0 g h a d hh) (fun t d => ld_k_hi x1 t d) (fun t d => ld_v_hi x2 t d) (x 0) (x 1) (x 2)
    (r0_7.emb x 1) (by show 0 + 1 * (x 1).val = (x 1).val; omega) (r0_7.emb x 2) (by show 256 + 1 * (x 2).val = 256 * 1 + (x 2).val; omega)
  exact (congrArg (outTile _ _) (eq_ix3 x)).trans e

theorem piece_lo (x0 : Vec Ideal S1x8x256x64 .bf16) (x1 : Vec Ideal S1x2x4352x64 .bf16) (x2 : Vec Ideal S1x2x4352x128 .bf16) (x : S1x256x256.Idx) :
    outTile (k0_pay3 (View.ld x0 r0_0) (View.ld x1 r0_1)) (k0_pay2 (View.ld x2 r0_2)) x
      = blockVal x0 x1 x2 (r0_3.emb x 1) (r0_3.emb x 2) := by
  have e := tile_eq x0 x1 x2 0 (View.ld x0 r0_0) (View.ld x1 r0_1) (View.ld x2 r0_2)
    (fun g h a d hh => ld_q_lo x0 g h a d hh) (fun t d => ld_k_lo x1 t d) (fun t d => ld_v_lo x2 t d) (x 0) (x 1) (x 2)
    (r0_3.emb x 1) (by show 0 + 1 * (x 1).val = (x 1).val; omega) (r0_3.emb x 2) (by show 0 + 1 * (x 2).val = 256 * 0 + (x 2).val; omega)
  exact (congrArg (outTile _ _) (eq_ix3 x)).trans e

/-- The output buffer after the body, at a row and a column. -/
theorem out_apply (x0 : Vec Ideal S1x8x256x64 .bf16) (x1 : Vec Ideal S1x2x4352x64 .bf16) (x2 : Vec Ideal S1x2x4352x128 .bf16)
    (y : S1x256x512.Idx) : out0_3 x0 x1 x2 y = blockVal x0 x1 x2 (y 1) (y 2) := by
  unfold out0_3
  refine View.canon_apply_of_pieces (Val := Elt Ideal) (S := S1x256x512) (e := .bf16) (fun y : S1x256x512.Idx => blockVal x0 x1 x2 (y 1) (y 2)) _ ?_ y (cover0_3 _ _ y)
  refine List.forall_mem_cons.mpr ⟨fun x => ?_, List.forall_mem_cons.mpr ⟨fun x => ?_, fun _ h => nomatch h⟩⟩
  · exact (congrFun (pay1_eq _ _ _) x).trans (piece_hi x0 x1 x2 x)
  · exact (congrFun (pay7_eq _ _ _) x).trans (piece_lo x0 x1 x2 x)

end Cert.Block

end
-- ==== Proof.RefVal.lean ====
module

public import proofs.«01_k».proof.Proof.Soft
public import proofs.«01_k».proof.Proof.Gen.ReferenceIdeal.Read

@[expose] public section

set_option maxRecDepth 16384

noncomputable section

namespace Cert.RefVal

open Cert.ReferenceIdeal Cert.ReferenceIdeal.Gen Cert.ReferenceIdeal.Read Idealize.ShloMosaic Idealize.ShloMosaic.TcCoe Idealize.ShloMosaic.ValueIdx
open scoped BigOperators

/-- The score of key `t` for query row `256 + i` of head `h`: the product over the 64 lanes, times one eighth. -/
def refScore (q : FVec Ideal S8x4352x8x64 .f32) (k : FVec Ideal S8x4352x2x64 .f32) (b : Fin 8) (i : Fin 4096) (w : Fin 2) (h : Fin 8)
    (t : Fin 4352) : EReal :=
  (∑ d : Fin 64, k (ix4 b t w d) * q (ix4 b (⟨256 + i.val, by have := i.isLt; omega⟩ : Fin 4352) h d)) * ((1 / 8 : ℝ) : EReal)

theorem v5_apply (q : FVec Ideal S8x4352x8x64 .f32) (k : FVec Ideal S8x4352x2x64 .f32) (b : Fin 8) (w : Fin 2) (g : Fin 4) (i : Fin 4096)
    (t : Fin 4352) (h : Fin 8) (hh : h.val = 4 * w.val + g.val) :
    val_main_v5 (F := Ideal) q k (ix5 b w g i t) = refScore q k b i w h t := by
  have hb := b.isLt
  have hw := w.isLt
  have hg := g.isLt
  have hi := i.isLt
  rw [val_main_v5_apply, val_main_v3_apply, val_main_v2_apply, val_main_v4_apply, val_main_cst_apply]
  refine congrArg₂ (· * ·) (Finset.sum_congr rfl fun d _ => congrArg₂ (· * ·) (congrArg k ?_) ?_) Soft.ofBits_eighth
  · exact funext fun a => match a with | ⟨0, _⟩ => rfl | ⟨1, _⟩ => rfl | ⟨2, _⟩ => rfl | ⟨3, _⟩ => rfl
  · have hd := d.isLt
    rw [val_main_v1_apply, val_main_v0_apply]
    refine congrArg q (funext fun a => Fin.ext (match a with
      | ⟨0, _⟩ => ?_ | ⟨1, _⟩ => ?_ | ⟨2, _⟩ => ?_ | ⟨3, _⟩ => ?_))
    · show ((((b.val * 4096 + i.val) * 2 + w.val) * 4 + g.val) * 64 + d.val) / 2097152 = b.val; omega
    · show 256 + ((((b.val * 4096 + i.val) * 2 + w.val) * 4 + g.val) * 64 + d.val) / 512 % 4096 = 256 + i.val; omega
    · show ((((b.val * 4096 + i.val) * 2 + w.val) * 4 + g.val) * 64 + d.val) / 64 % 8 = h.val; omega
    · show ((((b.val * 4096 + i.val) * 2 + w.val) * 4 + g.val) * 64 + d.val) % 64 = d.val; omega

/-- The largest score of a row. -/
theorem v6_apply (q : FVec Ideal S8x4352x8x64 .f32) (k : FVec Ideal S8x4352x2x64 .f32) (b : Fin 8) (w : Fin 2) (g : Fin 4) (i : Fin 4096)
    (h : Fin 8) (hh : h.val = 4 * w.val + g.val) :
    val_main_v6 (F := Ideal) q k (ix4 b w g i) = (Finset.univ : Finset (Fin 4352)).fold max ⊥ (refScore q k b i w h) := by
  unfold val_main_v6
  have red : S8x2x4x4096x4352.Reduces [4] S8x2x4x4096 := by decide
  refine (Host.reduce_eq_fold_single (s := S8x2x4x4096x4352) (t := S8x2x4x4096) (a := 4) (FloatOps.maximumf : Ideal .f32 → Ideal .f32 → Ideal .f32) (val_main_v5 (F := Ideal) q k) (val_main_cst_0 (F := Ideal))
    reducesTo_S8x2x4x4096x4352_S8x2x4x4096_d4 red h_S_ (ix4 b w g i)).trans ?_
  have e0 : val_main_cst_0 (F := Ideal) (Shape.Idx.first h_S_) = (⊥ : EReal) := Soft.ofBits_neg_inf
  rw [e0]
  refine congrArg (Finset.fold max (⊥ : EReal) · Finset.univ) (funext fun t => ?_)
  exact (congrArg (val_main_v5 (F := Ideal) q k) (show red.lift (ix4 b w g i) t = ix5 b w g i t from funext fun a => match a with | ⟨0, _⟩ => rfl | ⟨1, _⟩ => rfl | ⟨2, _⟩ => rfl | ⟨3, _⟩ => rfl | ⟨4, _⟩ => rfl)).trans
    (v5_apply q k b w g i t h hh)

/-- The shifted exponential of a score. -/
theorem v12_apply (q : FVec Ideal S8x4352x8x64 .f32) (k : FVec Ideal S8x4352x2x64 .f32) (b : Fin 8) (w : Fin 2) (g : Fin 4) (i : Fin 4096)
    (t : Fin 4352) (h : Fin 8) (hh : h.val = 4 * w.val + g.val) :
    val_main_v12 (F := Ideal) q k (ix5 b w g i t)
      = Ideal.exp (refScore q k b i w h t - (Finset.univ : Finset (Fin 4352)).fold max ⊥ (refScore q k b i w h)) := by
  rw [val_main_v12_apply, val_main_v11_apply, v5_apply q k b w g i t h hh, val_main_v10_apply, val_main_v9_apply, val_main_v8_apply,
    val_main_v7_apply, val_main_cst_1_apply]
  refine congrArg Ideal.exp (congrArg (refScore q k b i w h t - ·) ?_)
  refine (congrArg₂ max Soft.ofBits_neg_inf (congrArg (val_main_v6 (F := Ideal) q k) (?_ : _ = ix4 b w g i))).trans ?_
  · exact funext fun a => match a with | ⟨0, _⟩ => rfl | ⟨1, _⟩ => rfl | ⟨2, _⟩ => rfl | ⟨3, _⟩ => rfl
  · rw [v6_apply q k b w g i h hh]; exact max_eq_right bot_le

/-- The sum of a row's shifted exponentials. -/
theorem v13_apply (q : FVec Ideal S8x4352x8x64 .f32) (k : FVec Ideal S8x4352x2x64 .f32) (b : Fin 8) (w : Fin 2) (g : Fin 4) (i : Fin 4096)
    (h : Fin 8) (hh : h.val = 4 * w.val + g.val) :
    val_main_v13 (F := Ideal) q k (ix4 b w g i)
      = ∑ t, Ideal.exp (refScore q k b i w h t - (Finset.univ : Finset (Fin 4352)).fold max ⊥ (refScore q k b i w h)) := by
  rw [val_main_v13_apply, val_main_cst_2_apply, show (FloatOps.ofBits .f32 0x00000000#32 : Ideal .f32) = (0 : EReal) from Ideal.ofBits_zero_f32, zero_add]
  refine Finset.sum_congr rfl fun t _ => (congrArg (val_main_v12 (F := Ideal) q k) ?_).trans (v12_apply q k b w g i t h hh)
  exact funext fun a => match a with | ⟨0, _⟩ => rfl | ⟨1, _⟩ => rfl | ⟨2, _⟩ => rfl | ⟨3, _⟩ => rfl | ⟨4, _⟩ => rfl

/-- The reference's result at an index: the values of the column's lane, weighted by the softmax of the scaled scores. -/
theorem result_apply (q : FVec Ideal S8x4352x8x64 .f32) (k v : FVec Ideal S8x4352x2x64 .f32) (b : Fin 8) (i : Fin 4096) (n : Fin 512)
    (w : Fin 2) (h : Fin 8) (d : Fin 64) (hw : w.val = n.val / 256) (hh : h.val = n.val / 64) (hd : d.val = n.val % 64) :
    val_main_v20 (F := Ideal) q k v (ix3 b i n)
      = ∑ t, v (ix4 b t w d) * Ideal.div (Ideal.exp (refScore q k b i w h t - (Finset.univ : Finset (Fin 4352)).fold max ⊥ (refScore q k b i w h)))
          (∑ t', Ideal.exp (refScore q k b i w h t' - (Finset.univ : Finset (Fin 4352)).fold max ⊥ (refScore q k b i w h))) := by
  have hb := b.isLt
  have hi := i.isLt
  have hn := n.isLt
  rw [val_main_v20_apply, val_main_v19_apply, val_main_v18_apply]
  have e : idx_main_v18 (idx_main_v19 (ix3 b i n)) = ix5 b w d (⟨n.val / 64 % 4, by omega⟩ : Fin 4) i := funext fun a => Fin.ext (match a with
    | ⟨0, _⟩ => by show ((b.val * 4096 + i.val) * 512 + n.val) / 2097152 = b.val; omega
    | ⟨1, _⟩ => by show ((b.val * 4096 + i.val) * 512 + n.val) / 256 % 2 = w.val; omega
    | ⟨2, _⟩ => by show ((b.val * 4096 + i.val) * 512 + n.val) % 64 = d.val; omega
    | ⟨3, _⟩ => by show ((b.val * 4096 + i.val) * 512 + n.val) / 64 % 4 = n.val / 64 % 4; omega
    | ⟨4, _⟩ => by show ((b.val * 4096 + i.val) * 512 + n.val) / 512 % 4096 = i.val; omega)
  rw [e]
  refine (val_main_v17_apply q k v _).trans (Finset.sum_congr rfl fun t _ => congrArg₂ (· * ·) (congrArg v ?_) ?_)
  · exact funext fun a => match a with | ⟨0, _⟩ => rfl | ⟨1, _⟩ => rfl | ⟨2, _⟩ => rfl | ⟨3, _⟩ => rfl
  · have hg : h.val = 4 * w.val + n.val / 64 % 4 := by omega
    rw [val_main_v16_apply, val_main_v15_apply, val_main_v14_apply]
    refine congrArg₂ Ideal.div ((congrArg (val_main_v12 (F := Ideal) q k) ?_).trans (v12_apply q k b w (⟨n.val / 64 % 4, by omega⟩ : Fin 4) i t h hg))
      ((congrArg (val_main_v13 (F := Ideal) q k) ?_).trans (v13_apply q k b w (⟨n.val / 64 % 4, by omega⟩ : Fin 4) i h hg))
    · exact funext fun a => match a with | ⟨0, _⟩ => rfl | ⟨1, _⟩ => rfl | ⟨2, _⟩ => rfl | ⟨3, _⟩ => rfl | ⟨4, _⟩ => rfl
    · exact funext fun a => match a with | ⟨0, _⟩ => rfl | ⟨1, _⟩ => rfl | ⟨2, _⟩ => rfl | ⟨3, _⟩ => rfl

end Cert.RefVal

end
-- ==== Proof.Final.lean ====
module

public import proofs.«01_k».proof.Defs
public import proofs.«01_k».proof.Proof.Block
public import proofs.«01_k».proof.Proof.RefVal
public import proofs.«01_k».proof.Proof.Gen.Pre_finite
public import Idealize.ShloMosaic.Lib.ReduceAll
public import Idealize.ShloMosaic.Lib.Claim
public import Idealize.ShloMosaic.Lib.Pipeline.ValueKit.Geometry

@[expose] public section

set_option maxRecDepth 16384

noncomputable section

namespace Cert.Final

open Cert.KernelIdeal Cert.KernelIdeal.Gen Idealize.ShloMosaic Idealize.ShloMosaic.TcCoe Idealize.ShloMosaic.ValueIdx
open Idealize.ShloMosaic.Pipeline (Dat)
open Idealize.SL.Sem
open Cert.Tile Cert.Prep Cert.Block Cert.RefVal
open Cert.ReferenceIdeal.Read (val_main_v20)
open scoped BigOperators

/-! ## The precondition -/

/-- An extended real whose absolute value is below the infinity constant is a real. -/
theorem real_of_lt (x : EReal) (h : Ideal.cmp .olt (max x (-x)) (Ideal.ofBits .f32 0x7F800000#32) = 1#1) : ∃ r : ℝ, x = r := by
  rw [Soft.ofBits_inf] at h
  induction x using EReal.rec with
  | bot => simp [Ideal.cmp] at h
  | coe r => exact ⟨r, rfl⟩
  | top => simp [Ideal.cmp] at h

instance : Subsingleton Cert.Pre_finite.S_.Idx := ⟨fun a b => funext fun x => x.elim0⟩

/-- Where the precondition holds, every query and every key is a real. -/
theorem finite_real (q : FVec Ideal Cert.Pre_finite.S8x4352x8x64 .f32) (k v : FVec Ideal Cert.Pre_finite.S8x4352x2x64 .f32)
    (h : Cert.Pre_finite.fn (F := Ideal) q k v = fun _ => 1#1) : (∀ i, ∃ r : ℝ, q i = r) ∧ (∀ i, ∃ r : ℝ, k i = r) := by
  have h0 := congrFun h (ix1 (0 : Fin 1))
  obtain ⟨hq, hk⟩ := IntOp.andi_eq_one.1 h0
  exact ⟨fun i => real_of_lt _ (Host.reduce_andi_all _ _ _ _ _ hq i), fun i => real_of_lt _ (Host.reduce_andi_all _ _ _ _ _ hk i)⟩

/-! ## One element -/

/-- For real queries and keys the kernel's head value is the reference's weighted sum. -/
theorem head_eq (q : FVec Ideal S8x4352x8x64 .f32) (k v : FVec Ideal S8x4352x2x64 .f32)
    (hq : ∀ i, ∃ r : ℝ, q i = r) (hk : ∀ i, ∃ r : ℝ, k i = r)
    (b : Fin 8) (i : Fin 4096) (h : Fin 8) (w : Fin 2) (d : Fin 64) (s : Fin 4352) (hs : s.val = 256 + i.val) :
    headVal (fun t => ∑ e : Fin 64, (q (ix4 b s h e) * (kappa : EReal)) * k (ix4 b t w e)) (fun t => v (ix4 b t w d)) (fun _ => 1)
      = ∑ t, v (ix4 b t w d) * Ideal.div (Ideal.exp (refScore q k b i w h t - (Finset.univ : Finset (Fin 4352)).fold max ⊥ (refScore q k b i w h)))
          (∑ t', Ideal.exp (refScore q k b i w h t' - (Finset.univ : Finset (Fin 4352)).fold max ⊥ (refScore q k b i w h))) := by
  choose qr hqr using hq
  choose kr hkr using hk
  let T : Fin 4352 → ℝ := fun t => ∑ e : Fin 64, kr (ix4 b t w e) * qr (ix4 b s h e)
  have e1 : (fun t => ∑ e : Fin 64, (q (ix4 b s h e) * (kappa : EReal)) * k (ix4 b t w e))
      = fun t => ((T t * kappa : ℝ) : EReal) := by
    funext t
    simp only [hqr, hkr, ← EReal.coe_mul]
    rw [← Soft.coe_sum]
    refine congrArg _ ?_
    show _ = (∑ e, _) * kappa
    rw [Finset.sum_mul]
    exact Finset.sum_congr rfl fun e _ => by ring
  have e2 : refScore q k b i w h = fun t => ((T t * (1 / 8) : ℝ) : EReal) := by
    funext t
    have es : (⟨256 + i.val, by have := i.isLt; omega⟩ : Fin 4352) = s := Fin.ext hs.symm
    unfold refScore
    rw [es]
    simp only [hqr, hkr]
    rw [Soft.sum_mul_coe (fun e => kr (ix4 b t w e)), ← EReal.coe_mul]
  obtain ⟨a, ha⟩ := Soft.fold_max_real (by norm_num) (fun t : Fin 4352 => ((T t * kappa : ℝ) : EReal)) (fun t => ⟨_, rfl⟩)
  obtain ⟨a', ha'⟩ := Soft.fold_max_real (by norm_num) (fun t : Fin 4352 => ((T t * (1 / 8) : ℝ) : EReal)) (fun t => ⟨_, rfl⟩)
  unfold headVal
  rw [e1, e2, ha, ha']
  exact Soft.softmax_core (by norm_num) T kappa_log a a' _

/-! ## The array -/

variable (m : (ℓ : Loc nD τ sig) → Buf (Elt Ideal) ℓ) (c : Dev nD)

theorem idx0 : ∀ t : Fin cfg0.N, win0_0.index t 0 = win0_3.index t 0 ∧ win0_0.index t 1 = 0 ∧ win0_0.index t 2 = win0_3.index t 1 + 1
    ∧ win0_0.index t 3 = 0 :=
  (by decide +kernel : ∀ t : Fin grid0.N, win0_0.index t 0 = win0_3.index t 0 ∧ win0_0.index t 1 = 0 ∧ win0_0.index t 2 = win0_3.index t 1 + 1
    ∧ win0_0.index t 3 = 0)
theorem idx1 : ∀ t : Fin cfg0.N, win0_1.index t 0 = win0_3.index t 0 ∧ win0_1.index t 1 = 0 ∧ win0_1.index t 2 = 0 ∧ win0_1.index t 3 = 0 :=
  (by decide +kernel : ∀ t : Fin grid0.N, win0_1.index t 0 = win0_3.index t 0 ∧ win0_1.index t 1 = 0 ∧ win0_1.index t 2 = 0 ∧ win0_1.index t 3 = 0)
theorem idx2 : ∀ t : Fin cfg0.N, win0_2.index t 0 = win0_3.index t 0 ∧ win0_2.index t 1 = 0 ∧ win0_2.index t 2 = 0 ∧ win0_2.index t 3 = 0 :=
  (by decide +kernel : ∀ t : Fin grid0.N, win0_2.index t 0 = win0_3.index t 0 ∧ win0_2.index t 1 = 0 ∧ win0_2.index t 2 = 0 ∧ win0_2.index t 3 = 0)
theorem idx3 : ∀ t : Fin cfg0.N, win0_3.index t 0 < 8 ∧ win0_3.index t 1 < 16 ∧ win0_3.index t 2 = 0 :=
  (by decide +kernel : ∀ t : Fin grid0.N, win0_3.index t 0 < 8 ∧ win0_3.index t 1 < 16 ∧ win0_3.index t 2 = 0)

/-- The queries' block at point `t`: batch `b`, rows from `256·(j+1)`. -/
theorem blk_q (t : Fin cfg0.N) (b : Fin 8) (hb : b.val = win0_3.index t 0) (h : Fin 8) (a : Fin 256) (d : Fin 64) (s : Fin 4352)
    (hs : s.val = 256 * (win0_3.index t 1 + 1) + a.val) :
    iblk m c 0 t (ix4 (0 : Fin 1) h a d) = qArr (Q m c) (ix4 b h s d) := by
  obtain ⟨h0, h1, h2, h3⟩ := idx0 t
  rw [← V_q]
  unfold iblk
  refine congrArg (V m c main_v5) (funext fun x => Fin.ext (((win0_0).rect_emb_val t _ x).trans (match x with
    | ⟨0, _⟩ => ?_ | ⟨1, _⟩ => ?_ | ⟨2, _⟩ => ?_ | ⟨3, _⟩ => ?_)))
  · show win0_0.index t 0 * 1 + 0 = b.val; omega
  · show win0_0.index t 1 * 8 + h.val = h.val; omega
  · show win0_0.index t 2 * 256 + a.val = s.val; omega
  · show win0_0.index t 3 * 64 + d.val = d.val; omega

/-- The keys' block at point `t`: all the keys of batch `b`. -/
theorem blk_k (t : Fin cfg0.N) (b : Fin 8) (hb : b.val = win0_3.index t 0) (h : Fin 2) (a : Fin 4352) (d : Fin 64) :
    iblk m c 1 t (ix4 (0 : Fin 1) h a d) = kArr (K m c) (ix4 b h a d) := by
  obtain ⟨h0, h1, h2, h3⟩ := idx1 t
  rw [← V_k]
  unfold iblk
  refine congrArg (V m c main_v7) (funext fun x => Fin.ext (((win0_1).rect_emb_val t _ x).trans (match x with
    | ⟨0, _⟩ => ?_ | ⟨1, _⟩ => ?_ | ⟨2, _⟩ => ?_ | ⟨3, _⟩ => ?_)))
  · show win0_1.index t 0 * 1 + 0 = b.val; omega
  · show win0_1.index t 1 * 2 + h.val = h.val; omega
  · show win0_1.index t 2 * 4352 + a.val = a.val; omega
  · show win0_1.index t 3 * 64 + d.val = d.val; omega

/-- The values' block at point `t`: all the values of batch `b`. -/
theorem blk_v (t : Fin cfg0.N) (b : Fin 8) (hb : b.val = win0_3.index t 0) (h : Fin 2) (a : Fin 4352) (d : Fin 128) :
    iblk m c 2 t (ix4 (0 : Fin 1) h a d) = vArr (W m c) (ix4 b h a d) := by
  obtain ⟨h0, h1, h2, h3⟩ := idx2 t
  rw [← V_v]
  unfold iblk
  refine congrArg (V m c main_v12) (funext fun x => Fin.ext (((win0_2).rect_emb_val t _ x).trans (match x with
    | ⟨0, _⟩ => ?_ | ⟨1, _⟩ => ?_ | ⟨2, _⟩ => ?_ | ⟨3, _⟩ => ?_)))
  · show win0_2.index t 0 * 1 + 0 = b.val; omega
  · show win0_2.index t 1 * 2 + h.val = h.val; omega
  · show win0_2.index t 2 * 4352 + a.val = a.val; omega
  · show win0_2.index t 3 * 128 + d.val = d.val; omega

theorem headVal_congr {s s' v v' o o' : Fin 4352 → EReal} (hs : s = s') (hv : v = v') (ho : o = o') : headVal s v o = headVal s' v' o' := by
  subst hs hv ho; rfl

/-- What point `t` leaves at row `a` and column `n` of its block is the reference's element there. -/
theorem block_eq (hq : ∀ i, ∃ r : ℝ, Q m c i = r) (hk : ∀ i, ∃ r : ℝ, K m c i = r) (t : Fin cfg0.N) (a : Fin 256) (n : Fin 512)
    (b : Fin 8) (hb : b.val = win0_3.index t 0) (i : Fin 4096) (hi : i.val = 256 * win0_3.index t 1 + a.val) :
    blockVal (iblk m c 0 t) (iblk m c 1 t) (iblk m c 2 t) a n = val_main_v20 (F := Ideal) (Q m c) (K m c) (W m c) (ix3 b i n) := by
  have hn := n.isLt
  have hil := i.isLt
  rw [result_apply (Q m c) (K m c) (W m c) b i n (⟨n.val / 256, by omega⟩ : Fin 2) (⟨n.val / 64, by omega⟩ : Fin 8)
    (⟨n.val % 64, by omega⟩ : Fin 64) rfl rfl rfl]
  refine Eq.trans ?_ (head_eq (Q m c) (K m c) (W m c) hq hk b i _ _ _ (⟨256 + i.val, by omega⟩ : Fin 4352) rfl)
  unfold blockVal
  refine headVal_congr (funext fun t' => Finset.sum_congr rfl fun d _ => congrArg₂ (· * ·) ?_ ?_) (funext fun t' => ?_) (funext fun t' => ?_)
  · exact (blk_q m c t b hb _ a d (⟨256 + i.val, by omega⟩ : Fin 4352) (by show 256 + i.val = _; omega)).trans (qArr_apply _ b _ _ d)
  · exact (blk_k m c t b hb _ t' d).trans (kArr_apply _ b _ t' d)
  · exact (blk_v m c t b hb _ t' _).trans (vArr_apply _ b _ t' _ _ rfl)
  · exact (blk_v m c t b hb _ t' _).trans (vArr_one _ b _ t')

/-- The result array after the run is the reference's result. -/
theorem final (hq : ∀ i, ∃ r : ℝ, Q m c i = r) (hk : ∀ i, ∃ r : ℝ, K m c i = r) :
    (dats m 0 c).arrAt 3 cfg0.N = val_main_v20 (F := Ideal) (Q m c) (K m c) (W m c) := by
  refine (dats m 0 c).arrAt_eq_of_covers 3 _ (by decide +kernel) fun t hf y => ?_
  obtain ⟨h0, h1, h2⟩ := idx3 t
  have hy1 : (y 1).val < 256 := (y 1).isLt
  have hy2 : (y 2).val < 512 := (y 2).isLt
  have e : ((cfg0.win 3).blk t).view.emb y = ix3 (⟨win0_3.index t 0, h0⟩ : Fin 8) (⟨256 * win0_3.index t 1 + (y 1).val, by omega⟩ : Fin 4096) (⟨(y 2).val, hy2⟩ : Fin 512) :=
    funext fun x => Fin.ext (((win0_3).rect_emb_val t y x).trans (match x with
      | ⟨0, _⟩ => by
        have hy0 : (y 0).val < 1 := (y 0).isLt
        show win0_3.index t 0 * 1 + (y 0).val = win0_3.index t 0; omega
      | ⟨1, _⟩ => by show win0_3.index t 1 * 256 + (y 1).val = 256 * win0_3.index t 1 + (y 1).val; omega
      | ⟨2, _⟩ => by show win0_3.index t 2 * 512 + (y 2).val = (y 2).val; omega))
  rw [e]
  refine Eq.trans ?_ (block_eq m c hq hk t (⟨(y 1).val, hy1⟩ : Fin 256) (⟨(y 2).val, hy2⟩ : Fin 512) _ rfl (⟨256 * win0_3.index t 1 + (y 1).val, by omega⟩ : Fin 4096) rfl)
  show (dats m 0 c).after 3 t _ = _
  rw [after0_3]
  exact out_apply _ _ _ _

end Cert.Final

end
-- ==== Proof.Claims.lean ====
module

public import proofs.«01_k».proof.Proof.Final
public import Idealize.ShloMosaic.Lib.Quiescent

@[expose] public section

noncomputable section

namespace Cert.Attn

open Idealize.ShloMosaic Idealize.ShloMosaic.TcCoe Idealize.SL.Sem

/-- The reference runs, leaves its arguments as they were and every counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run (F := Ideal) m g)

theorem quiescent_ri : Cert.quiescent_ReferenceIdeal := fun m g _ => ref_frame m g
theorem quiescent_ri_pre : Cert.quiescent_ReferenceIdeal_pre_finite := fun m g _ => ref_frame m g

/-- From equal arguments, the queries and keys real, the kernel and the reference end with equal results. -/
theorem algebraic : Cert.algebraic_KernelIdeal_ReferenceIdeal_pre_finite := by
  intro m g m' g' hpre hag
  refine ⟨fun c => Cert.ReferenceIdeal.Read.val_main_v20 (F := Ideal) (Cert.Prep.Q m c) (Cert.Prep.K m c) (Cert.Prep.W m c), ?_, ?_⟩
  · refine (θ_run _ _ _).mono (fun r h c => ⟨(h c).1.trans ?_, (h c).2⟩) (Cert.KernelIdeal.Value.run_blocks m g)
    obtain ⟨hq, hk⟩ := Cert.Final.finite_real _ _ _ (hpre c)
    exact Cert.Final.final m c hq hk
  · refine (θ_run _ _ _).mono (fun r h c => ⟨(h c).1.trans ?_, (h c).2⟩) (Cert.ReferenceIdeal.Value.run (F := Ideal) m' g')
    obtain ⟨h0, h1, h2⟩ := hag c
    rw [Cert.ReferenceIdeal.Read.val_main_v20_eq, h0, h1, h2]

end Cert.Attn

end
-- ==== Proof.Exp.Kit.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
/-- Window 4 (result 0 (%26)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_v25) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S90 .i32 := Memref.whole main_v25
abbrev htbM0_0 : tbM0_0.IsWhole := Memref.isWhole_whole _
abbrev tbM0_1 : Memref sig .tc .smem S1 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- One staging buffer of output window 4, through which its contents are stated (`View.read_writes_of_cover`: the
    choice does not matter). -/
abbrev VO0_4 : View sig .tc .vmem S512x1024 .bf16 := (Memref.whole cc0_stg4_0 : Memref sig .tc .vmem S512x1024 .bf16).view
/-- Each window's current staging memref at point `t`, spelled as the pipeline passes it (`bodyAt0`), and its wholeness. -/
abbrev ms0_0 (hO : Ok m) (t : Fin (cfgM m hO).N) : Memref sig .tc .vmem S512x1152 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .bf16 := spec0_4.stage ((cfgM m hO).slots t 4)
abbrev hs0_4 (hO : Ok m) (t : Fin (cfgM m hO).N) : (ms0_4 m hO t).IsWhole := hstage0_4 (((cfgM m hO).slots t 4).cast nbuf0_4)

end Cert.Exp

end
-- ==== Proof.Exp.Body.lean ====
module

public import proofs.«01_k».proof.Proof.Exp.Kit
public import Idealize.ShloMosaic.Lib.VecWindow

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table word the body reads: how many tiles are used. -/
def nuWord (c : Dev nD) (xt1 : TbBuf0 (F := F) c tbM0_1) : BitVec 32 :=
  tbM0_1.view.readAt (Elt F) (Rect.unit (s := S1) ![0] ![1] inb_S1_S1_0).toLoadRect xt1 (Shape.Idx.first (by decide))

/-- The two conditions of the body exclude each other and one of them holds. -/
theorem cond1_iff (i : grid0.Coords) (w : BitVec 32) : k0_cond1 i w = 1#1 ↔ ¬ k0_cond2 i w = 1#1 := by
  unfold k0_cond1 k0_cond2
  dsimp only
  generalize Scalar.cmpi .slt (BitVec.ofNat 32 (i 0).val) w = b
  revert b
  decide

/-- What the body leaves in the output block: zeros for a tile past the used ones, else the experts' sum. -/
def outVal (i : grid0.Coords) (w : BitVec 32) (x0 : Vec F S512x1152 .bf16) (x1 x2 x3 : Vec F S1x1024x1024 .bf16) : Vec F S512x1024 .bf16 :=
  if k0_cond2 i w = 1#1 then
    k0_pay2 (k0_pay3 (View.ld x0 (Rect.unit (s := S512x1152) ![0, 0] S512x1024.size inb_S512x1152_S512x1024_0_0)) x1 x2
      (View.ld x0 (Rect.unit (s := S512x1152) ![0, 1024] S512x128.size inb_S512x1152_S512x128_0_1024))) x3
  else k0_pay1

set_option maxHeartbeats 1000000 in
/-- The body on whole staging memrefs: it leaves the inputs and the tables, and the output block at `outVal`. -/
theorem body_run (c : Dev nD) (i : grid0.Coords) (arg3 : Memref sig .tc .vmem S512x1152 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S512x1024 .bf16) (harg7 : arg7.IsWhole)
    (x0 : Vec F S512x1152 .bf16) (x1 : Vec F S1x1024x1024 .bf16) (x2 : Vec F S1x1024x1024 .bf16) (x3 : Vec F S1x1024x1024 .bf16) (xt0 : TbBuf0 (F := F) c tbM0_0) (xt1 : TbBuf0 (F := F) c tbM0_1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (outVal i (nuWord c xt1) x0 x1 x2 x3) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    show _ = outVal i (nuWord c xt1) x0 x1 x2 x3
    unfold outVal
    by_cases h2 : k0_cond2 i (nuWord c xt1) = 1#1
    · rw [if_pos h2]
      refine (congrArg (arg7.view.read (Elt F)) (dif_pos h2)).trans ?_
      refine (View.read_writes_full (s := S512x1024) arg7.view _ inb_S512x1024_S512x1024_0_0 _ []).trans ?_
      delta body_run.sl.r_1
      rw [View.readAt_full (s := S1x1024x1024) arg4.view, View.readAt_full (s := S1x1024x1024) arg5.view,
        View.readAt_full (s := S1x1024x1024) arg6.view, harg4.read_unread, harg5.read_unread, harg6.read_unread]
      simp only [View.readAt_eq_ld, harg3.read_unread]
    · rw [if_neg h2]
      refine (congrArg (arg7.view.read (Elt F)) ((dif_neg h2).trans (dif_pos ((cond1_iff i _).mpr h2)))).trans ?_
      exact View.read_writes_full (s := S512x1024) arg7.view _ inb_S512x1024_S512x1024_0_0 _ []
  isplitl [HT0]; · iexact HT0
  iexact HT1
end Cert.Exp

end
-- ==== Proof.Exp.Frame.lean ====
module

public import proofs.«01_k».proof.Proof.Exp.Body
public import Idealize.ShloMosaic.Lib.Claim

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What the outputs' staging buffers hold after the body at point `t`: the run's contents at
    the point's memrefs and input blocks. -/
def outsAt0 (hO : Ok m) (c : Dev nD) (t : Fin (cfgM m hO).N) : Vec F S512x1024 .bf16 :=
  outVal (grid0.coords t) (nuWord c (tbl m 1)) (iblk m hO c 0 t) (iblk m hO c 1 t) (iblk m hO c 2 t) (iblk m hO c 3 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output window is stored at every point: one of the body's two conditions holds. -/
theorem idle_4 (hO : Ok m) (i : grid0.Coords) : (cfgM m hO).idle 4 i = false := by
  show (!(k0_cond1 i ((tbl m).atD 1 ![0]) == 1#1) && !(k0_cond2 i ((tbl m).atD 1 ![0]) == 1#1)) = false
  by_cases h2 : k0_cond2 i ((tbl m).atD 1 ![0]) = 1#1
  · rw [h2, Bool.and_eq_false_iff]; exact .inr rfl
  · rw [(cond1_iff i _).mpr h2, Bool.and_eq_false_iff]; exact .inl rfl

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle_4 m hO]
  exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- The frame: the arguments end unchanged and every counter at zero, for any contents of the tables that keep the blocks inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.Exp

end
-- ==== Proof.Exp.Pre.lean ====
module

public import proofs.«01_k».proof.Proof.Gen.Pre_routed
public import proofs.«01_k».proof.Proof.Final
public import Idealize.ShloMosaic.Lib.ReduceAll
public import Idealize.ShloMosaic.Lib.Affine
public import Idealize.ShloMosaic.Lib.Pipeline.Value

@[expose] public section

set_option maxRecDepth 16384

noncomputable section

namespace Cert.ExpPre

open Cert.Pre_routed Cert.Pre_routed.Gen Idealize.ShloMosaic Idealize.ShloMosaic.TcCoe Idealize.ShloMosaic.ValueIdx

variable {F : FTy → Type} [FloatOps F]

instance : Subsingleton S_.Idx := ⟨fun a b => funext fun x => x.elim0⟩

/-- A word between two small bounds as signed numbers is between them as a natural number. -/
theorem nat_of_int {x : BitVec 32} {a b : ℕ} (h1 : (a : ℤ) ≤ x.toInt) (h2 : x.toInt < b) : a ≤ x.toNat ∧ x.toNat < b := by
  have := BitVec.toInt_eq_toNat_cond x
  have hl := x.isLt
  split at this <;> omega

variable (x0 : FVec F S46080x1024 .f32) (gi : IVec S46080 32) (ga : FVec F S46080x4 .f32) (tg : IVec S90 32) (nu : IVec S1 32)
  (x5 x6 : FVec F S4x4x1024x256 .f32) (x7 : FVec F S4x4x256x1024 .f32)

/-- Whether a tile is one of the used ones. -/
def used (nu : IVec S1 32) : IVec S90x512 1 :=
  cmpi .slt (iotaInDim S90x512 32 0) (broadcastInDim S90x512 ![0, 1] bcast_S1x1_S90x512_0_1 (shapeCast S1x1 nu shapeCasts_S1_S1x1))

/-- Every tile's group is one of the four, -/
def A (tg : IVec S90 32) : Prop := ∀ i, (andi (cmpi .sge tg (broadcastInDim S90 ![] bcast_S_S90 (constantI S_ 32 0#32)))
    (cmpi .slt tg (broadcastInDim S90 ![] bcast_S_S90 (constantI S_ 32 4#32)))) i = 1#1
/-- at least one and at most ninety tiles are used, -/
def B (nu : IVec S1 32) : Prop := ∀ i, (andi (cmpi .sge nu (broadcastInDim S1 ![] bcast_S_S1 (constantI S_ 32 1#32)))
    (cmpi .sle nu (broadcastInDim S1 ![] bcast_S_S1 (constantI S_ 32 90#32)))) i = 1#1
/-- every row of a used tile is of the tile's group, -/
def C (gi : IVec S46080 32) (tg : IVec S90 32) (nu : IVec S1 32) : Prop :=
  ∀ i, (ori (cmpi .eq (shapeCast S90x512 gi shapeCasts_S46080_S90x512)
    (broadcastInDim S90x512 ![0, 1] bcast_S90x1_S90x512_0_1 (shapeCast S90x1 tg shapeCasts_S90_S90x1))) (noti (used nu))) i = 1#1
/-- the gates of the other rows are zero, -/
def D (ga : FVec F S46080x4 .f32) (nu : IVec S1 32) : Prop :=
  ∀ i, (ori (cmpf .oeq (shapeCast S90x512x4 ga shapeCasts_S46080x4_S90x512x4) (broadcastInDim S90x512x4 ![] bcast_S_S90x512x4 (constant S_ .f32 0x00000000#32)))
    (broadcastInDim S90x512x4 ![0, 1, 2] bcast_S90x512x1_S90x512x4_0_1_2 (broadcastInDim S90x512x1 ![0, 1] bcast_S90x512_S90x512x1_0_1 (used nu)))) i = 1#1
/-- and every gate is finite. -/
def E (ga : FVec F S46080x4 .f32) : Prop :=
  ∀ i, (cmpf .olt (Host.absf ga) (broadcastInDim S46080x4 ![] bcast_S_S46080x4 (constant S_ .f32 0x7F800000#32))) i = 1#1

/-- The precondition's five parts. -/
theorem parts (h : Cert.Pre_routed.fn (F := F) x0 gi ga tg nu x5 x6 x7 = fun _ => 1#1) : A tg ∧ B nu ∧ C gi tg nu ∧ D ga nu ∧ E ga := by
  have h0 := congrFun h (ix1 (0 : Fin 1))
  unfold Cert.Pre_routed.fn Cert.Pre_routed.fn_part1 Cert.Pre_routed.fn_part2 at h0
  obtain ⟨h1, h36⟩ := IntOp.andi_eq_one.1 h0
  obtain ⟨h2, h29⟩ := IntOp.andi_eq_one.1 h1
  obtain ⟨h3, h22⟩ := IntOp.andi_eq_one.1 h2
  obtain ⟨h10, h16⟩ := IntOp.andi_eq_one.1 h3
  exact ⟨fun i => Host.reduce_andi_all _ _ _ _ _ h10 i, fun i => Host.reduce_andi_all _ _ _ _ _ h16 i, fun i => Host.reduce_andi_all _ _ _ _ _ h22 i,
    fun i => Host.reduce_andi_all _ _ _ _ _ h29 i, fun i => Host.reduce_andi_all _ _ _ _ _ h36 i⟩

theorem tg_lt (h : A tg) (i : S90.Idx) : (tg i).toNat < 4 := by
  obtain ⟨h1, h2⟩ := IntOp.andi_eq_one.1 (h i)
  have e1 : (0#32 : BitVec 32).toInt ≤ (tg i).toInt := IntOp.cmpi_sge.1 h1
  have e2 : (tg i).toInt < (4#32 : BitVec 32).toInt := IntOp.cmpi_slt.1 h2
  exact (nat_of_int (a := 0) (b := 4) e1 e2).2

theorem nu_le (h : B nu) : 1 ≤ (nu (ix1 (0 : Fin 1))).toNat ∧ (nu (ix1 (0 : Fin 1))).toNat ≤ 90 := by
  obtain ⟨h1, h2⟩ := IntOp.andi_eq_one.1 (h (ix1 (0 : Fin 1)))
  have e1 : (1#32 : BitVec 32).toInt ≤ (nu (ix1 (0 : Fin 1))).toInt := IntOp.cmpi_sge.1 h1
  have e2 : (nu (ix1 (0 : Fin 1))).toInt ≤ (90#32 : BitVec 32).toInt := IntOp.cmpi_sle.1 h2
  have e3 : (90#32 : BitVec 32).toInt = 90 := by decide
  have := nat_of_int (a := 1) (b := 91) e1 (by omega)
  omega

/-- A tile is used exactly when its number is below the number of used tiles. -/
theorem used_iff (h : B nu) (i : Fin 90) (r : Fin 512) : used nu (ix2 i r) = 1#1 ↔ i.val < (nu (ix1 (0 : Fin 1))).toNat := by
  have hl := nu_le nu h
  have hi := i.isLt
  have e : used nu (ix2 i r) = IntOp.cmpi .slt (BitVec.ofNat 32 i.val) (nu (ix1 (0 : Fin 1))) := by
    unfold used
    refine congrArg (IntOp.cmpi .slt (BitVec.ofNat 32 i.val)) ?_
    refine (broadcastInDim_apply (t := S90x512) _ bcast_S1x1_S90x512_0_1 _ (ix2 i r) (ix2 (0 : Fin 1) (0 : Fin 1)) (fun a => match a with
      | ⟨0, _⟩ => rfl | ⟨1, _⟩ => rfl)).trans ?_
    exact shapeCast_apply nu shapeCasts_S1_S1x1 _ _ (by rw [Shape.rowMajor_val_one, Shape.rowMajor_val_two]; rfl)
  have ei : (BitVec.ofNat 32 i.val).toNat = i.val := by rw [BitVec.toNat_ofNat]; omega
  rw [e, IntOp.cmpi_slt, BitVec.toInt_eq_toNat_cond, BitVec.toInt_eq_toNat_cond, ei, if_pos (by omega), if_pos (by omega)]
  omega

/-- A row of a used tile is of the tile's group. -/
theorem row_group (hB : B nu) (h : C gi tg nu) (i : Fin 90) (r : Fin 512) (n : Fin 46080) (hn : n.val = i.val * 512 + r.val)
    (hi : i.val < (nu (ix1 (0 : Fin 1))).toNat) : gi (ix1 n) = tg (ix1 i) := by
  rcases IntOp.ori_eq_one.1 (h (ix2 i r)) with he | hu
  · have e := IntOp.cmpi_eq.1 he
    refine Eq.trans ?_ (e.trans ?_)
    · exact (shapeCast_apply gi shapeCasts_S46080_S90x512 (ix2 i r) (ix1 n) (by rw [Shape.rowMajor_val_one, Shape.rowMajor_val_two]; exact hn)).symm
    · refine (broadcastInDim_apply (t := S90x512) _ bcast_S90x1_S90x512_0_1 _ (ix2 i r) (ix2 i (0 : Fin 1)) (fun a => match a with
        | ⟨0, _⟩ => rfl | ⟨1, _⟩ => rfl)).trans ?_
      exact shapeCast_apply tg shapeCasts_S90_S90x1 _ (ix1 i) (by rw [Shape.rowMajor_val_one, Shape.rowMajor_val_two]; show i.val = i.val * 1 + 0; omega)
  · exact absurd ((used_iff nu hB i r).2 hi) (IntOp.not_eq_one.1 hu)

/-- A row past the used tiles has zero gates. -/
theorem gate_zero (ga : FVec Ideal S46080x4 .f32) (hB : B nu) (h : D ga nu) (i : Fin 90) (r : Fin 512) (n : Fin 46080) (hn : n.val = i.val * 512 + r.val)
    (hi : ¬ i.val < (nu (ix1 (0 : Fin 1))).toNat) (e : Fin 4) : ga (ix2 n e) = 0 := by
  rcases IntOp.ori_eq_one.1 (h (ix3 i r e)) with he | hu
  · have e1 : shapeCast S90x512x4 ga shapeCasts_S46080x4_S90x512x4 (ix3 i r e) = ga (ix2 n e) :=
      shapeCast_apply ga shapeCasts_S46080x4_S90x512x4 (ix3 i r e) (ix2 n e) (by
        rw [Shape.rowMajor_val_two, Shape.rowMajor_val_three]; show n.val * 4 + e.val = (i.val * 512 + r.val) * 4 + e.val; rw [hn])
    have e2 : Ideal.cmp .oeq (shapeCast S90x512x4 ga shapeCasts_S46080x4_S90x512x4 (ix3 i r e)) (Ideal.ofBits .f32 0x00000000#32) = 1#1 := he
    rw [e1, Ideal.ofBits_zero_f32] at e2
    by_contra hne
    simp [Ideal.cmp, hne] at e2
  · refine absurd ((used_iff nu hB i r).1 (Eq.trans ?_ hu)) hi
    refine ((broadcastInDim_apply (t := S90x512x4) _ bcast_S90x512x1_S90x512x4_0_1_2 _ (ix3 i r e) (ix3 i r (0 : Fin 1)) (fun a => match a with
      | ⟨0, _⟩ => rfl | ⟨1, _⟩ => rfl | ⟨2, _⟩ => rfl)).trans ?_).symm
    exact broadcastInDim_apply (t := S90x512x1) _ bcast_S90x512_S90x512x1_0_1 _ _ (ix2 i r) (fun a => match a with
      | ⟨0, _⟩ => rfl | ⟨1, _⟩ => rfl)

/-- Every gate is a real. -/
theorem gate_real (ga : FVec Ideal S46080x4 .f32) (h : E ga) (i : S46080x4.Idx) : ∃ r : ℝ, ga i = r :=
  Cert.Final.real_of_lt _ (h i)

end Cert.ExpPre

end
-- ==== Proof.Exp.Ok.lean ====
module

public import proofs.«01_k».proof.Proof.Exp.Kit
public import proofs.«01_k».proof.Proof.Exp.Pre

@[expose] public section

set_option maxRecDepth 16384

noncomputable section

namespace Cert.Exp

open Cert.Kernel2Ideal Cert.Kernel2Ideal.Gen
open Idealize.ShloMosaic Idealize.ShloMosaic.TcCoe Idealize.ShloMosaic.Tactic Idealize.ShloMosaic.ValueIdx
open Idealize.ShloMosaic.StableHlo

variable {F : FTy → Type} [FloatOps F]
variable (m : (ℓ : Loc nD τ sig) → Buf (Elt F) ℓ)

/-- Each point's tile, capped at the last used one. -/
def capped (nu : IVec S1 32) : IVec S90 32 :=
  minsi (iotaInDim S90 32 0) (broadcastInDim S90 ![0] bcast_S1_S90_0 (subi nu (broadcastInDim S1 ![] bcast_S_S1 (constantI S_ 32 1#32))))

/-- The group table the kernel prefetches. -/
def groups (tg : IVec S90 32) (nu : IVec S1 32) : IVec S90 32 :=
  Host.gather gather_S90_S90x1_S90_n_0_n_n_0_1_1 tg (broadcastInDim S90x1 ![0] bcast_S90_S90x1_0
    (select (cmpi .slt (capped nu) (broadcastInDim S90 ![] bcast_S_S90 (constantI S_ 32 0#32)))
      (addi (capped nu) (broadcastInDim S90 ![] bcast_S_S90 (constantI S_ 32 90#32))) (capped nu)))

/-- A table read at a list of indices, at an index: the entry at the index read there, kept inside the table. -/
theorem gather_at {α : Type} (x : S90.Idx → α) (idx : IVec S90x1 32) (i : Fin 90) :
    Host.gather gather_S90_S90x1_S90_n_0_n_n_0_1_1 x idx (ix1 i) = x (ix1 ⟨min (idx (ix2 i (0 : Fin 1))).toInt.toNat (90 - 1), by omega⟩) := by
  unfold Host.gather
  refine congrArg x (funext fun a => ?_)
  obtain rfl : a = 0 := Subsingleton.elim _ _
  refine Fin.ext ?_
  show (gather_S90_S90x1_S90_n_0_n_n_0_1_1).start (ix1 i) idx 0 + (gather_S90_S90x1_S90_n_0_n_n_0_1_1).batchCoord (ix1 i) 0
    + (gather_S90_S90x1_S90_n_0_n_n_0_1_1).offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S90_S90x1_S90_n_0_n_n_0_1_1).startIndexMap from List.mem_singleton.mpr rfl)]
  have hs : (gather_S90_S90x1_S90_n_0_n_n_0_1_1).siIdx (ix1 i) ⟨List.idxOf (0 : Fin 1) (gather_S90_S90x1_S90_n_0_n_n_0_1_1).startIndexMap,
      List.idxOf_lt_length_iff.2 (List.mem_singleton.mpr rfl)⟩ = ix2 i (0 : Fin 1) := by
    funext b
    match b with
    | ⟨0, _⟩ => rfl
    | ⟨1, _⟩ => rfl
  rw [hs]
  rfl

/-- The smaller of a small word and a small word less one. -/
theorem min_word (i : ℕ) (w : BitVec 32) (hi : i < 90) (h1 : 1 ≤ w.toNat) (h2 : w.toNat ≤ 90) :
    (IntOp.minsi (BitVec.ofNat 32 i) (w - 1#32)).toNat = min i (w.toNat - 1) := by
  have ew : (w - 1#32).toNat = w.toNat - 1 := by
    rw [BitVec.toNat_sub]; have := w.isLt; show (2 ^ 32 - 1 + w.toNat) % 2 ^ 32 = _; omega
  have ei : (BitVec.ofNat 32 i).toNat = i := by rw [BitVec.toNat_ofNat]; omega
  have e1 : (w - 1#32).toInt = ((w.toNat - 1 : ℕ) : ℤ) := by
    rw [BitVec.toInt_eq_toNat_cond, ew, if_pos (by omega)]
  have e2 : (BitVec.ofNat 32 i).toInt = (i : ℤ) := by
    rw [BitVec.toInt_eq_toNat_cond, ei, if_pos (by omega)]
  unfold IntOp.minsi
  by_cases hs : (BitVec.ofNat 32 i).slt (w - 1#32)
  · rw [if_pos hs]; rw [BitVec.slt_iff_toInt_lt, e1, e2] at hs; omega
  · rw [if_neg hs]; rw [BitVec.slt_iff_toInt_lt, e1, e2] at hs; omega

theorem capped_at (nu : IVec S1 32) (i : Fin 90) (h1 : 1 ≤ (nu (ix1 (0 : Fin 1))).toNat) (h2 : (nu (ix1 (0 : Fin 1))).toNat ≤ 90) :
    (capped nu (ix1 i)).toNat = min i.val ((nu (ix1 (0 : Fin 1))).toNat - 1) := by
  rw [← min_word i.val (nu (ix1 (0 : Fin 1))) i.isLt h1 h2]
  refine congrArg BitVec.toNat ?_
  unfold capped
  refine congrArg (IntOp.minsi (BitVec.ofNat 32 i.val)) ?_
  exact broadcastInDim_apply (t := S90) _ bcast_S1_S90_0 _ (ix1 i) (ix1 (0 : Fin 1)) (fun a => match a with | ⟨0, _⟩ => rfl)

/-- The prefetched group table at a point: the group of the point's capped tile. -/
theorem groups_at (tg : IVec S90 32) (nu : IVec S1 32) (i : Fin 90) (h1 : 1 ≤ (nu (ix1 (0 : Fin 1))).toNat) (h2 : (nu (ix1 (0 : Fin 1))).toNat ≤ 90) :
    groups tg nu (ix1 i) = tg (ix1 (⟨min i.val ((nu (ix1 (0 : Fin 1))).toNat - 1), by have := i.isLt; omega⟩ : Fin 90)) := by
  have hc := capped_at nu i h1 h2
  have hi := i.isLt
  have e : (capped nu (ix1 i)).toInt = ((min i.val ((nu (ix1 (0 : Fin 1))).toNat - 1) : ℕ) : ℤ) := by
    rw [BitVec.toInt_eq_toNat_cond, hc, if_pos (by omega)]
  have es : ∀ z : IVec S90 32, broadcastInDim S90x1 ![0] bcast_S90_S90x1_0 z (ix2 i (0 : Fin 1)) = z (ix1 i) := fun z =>
    broadcastInDim_apply (t := S90x1) _ bcast_S90_S90x1_0 z (ix2 i (0 : Fin 1)) (ix1 i) (fun a => match a with | ⟨0, _⟩ => rfl)
  have e0 : select (cmpi .slt (capped nu) (broadcastInDim S90 ![] bcast_S_S90 (constantI S_ 32 0#32)))
      (addi (capped nu) (broadcastInDim S90 ![] bcast_S_S90 (constantI S_ 32 90#32))) (capped nu) (ix1 i) = capped nu (ix1 i) := by
    rw [select_apply]
    have hz : cmpi .slt (capped nu) (broadcastInDim S90 ![] bcast_S_S90 (constantI S_ 32 0#32)) (ix1 i) = 0#1 := by
      refine eq_zero_of_ne_one fun hh => ?_
      have hh' : (capped nu (ix1 i)).toInt < (0#32 : BitVec 32).toInt := IntOp.cmpi_slt.1 hh
      rw [e, show (0#32 : BitVec 32).toInt = 0 from by decide] at hh'
      omega
    rw [hz, select_zero]
  unfold groups
  rw [gather_at]
  refine congrArg tg (congrArg (ix1 (n := 90)) (Fin.ext ?_))
  refine (congrArg (fun w : BitVec 32 => min w.toInt.toNat (90 - 1)) ((es _).trans e0)).trans ?_
  show min (capped nu (ix1 i)).toInt.toNat (90 - 1) = _
  rw [e, Int.toNat_natCast]
  show min (min i.val ((nu (ix1 (0 : Fin 1))).toNat - 1)) (90 - 1) = min i.val ((nu (ix1 (0 : Fin 1))).toNat - 1)
  omega

/-- The tile groups as launched, -/
abbrev TG (m : (ℓ : Loc nD τ sig) → Buf (Elt F) ℓ) : IVec S90 32 := m (((0 : Dev nD).tc : Thread nD τ).loc main_arg3)
/-- and the number of used tiles. -/
abbrev NU (m : (ℓ : Loc nD τ sig) → Buf (Elt F) ℓ) : IVec S1 32 := m (((0 : Dev nD).tc : Thread nD τ).loc main_arg4)

theorem V_groups : V m 0 main_v25 = groups (TG m) (NU m) := by
  unfold V; after_results <;> rfl

theorem tbl_0 : tbl m 0 = groups (TG m) (NU m) := V_groups m
theorem tbl_1 : tbl m 1 = NU m := V_main_arg4 m 0

/-- The weights' block index at a point: the group of the point's capped tile. -/
theorem word_0 (i : grid0.Coords) (h1 : 1 ≤ (NU m (ix1 (0 : Fin 1))).toNat) (h2 : (NU m (ix1 (0 : Fin 1))).toNat ≤ 90)
    (hb : ∀ a, (k0_off1 i) a + S1.size a ≤ S90.size a) (hn : S1.numel = 1) :
    (tbl m).at 0 (Rect.unit (s := S90) (k0_off1 i) S1.size hb) hn
      = TG m (ix1 (⟨min (i 0).val ((NU m (ix1 (0 : Fin 1))).toNat - 1), by have := (i 0).isLt; have : (i 0).val < 90 := this; omega⟩ : Fin 90)) := by
  have hi : (i 0).val < 90 := (i 0).isLt
  rw [← groups_at (TG m) (NU m) (⟨(i 0).val, hi⟩ : Fin 90) h1 h2, ← tbl_0]
  refine congrArg (tbl m 0) (funext fun a => Fin.ext ?_)
  match a with
  | ⟨0, _⟩ =>
    show (BitVec.ofNat 32 (i 0).val).toNat + 1 * 0 = (i 0).val
    rw [BitVec.toNat_ofNat]; omega

theorem word_1 (hb : ∀ a, (![0] : Fin 1 → Nat) a + S1.size a ≤ S1.size a) (hn : S1.numel = 1) :
    (tbl m).at 1 (Rect.unit (s := S1) ![0] S1.size hb) hn = NU m (ix1 (0 : Fin 1)) := by
  rw [← tbl_1]
  exact congrArg (tbl m 1) (funext fun a => Fin.ext (match a with | ⟨0, _⟩ => rfl))

/-- The tokens' block index at a point. -/
theorem index_0 (i : grid0.Coords) (h1 : 1 ≤ (NU m (ix1 (0 : Fin 1))).toNat) (h2 : (NU m (ix1 (0 : Fin 1))).toNat ≤ 90) :
    cc0_transform_0 inb_S1_S1_0 numel1_S1 (tbl m) i = ![min (i 0).val ((NU m (ix1 (0 : Fin 1))).toNat - 1), 0] := by
  have hi : (i 0).val < 90 := (i 0).isLt
  have e : (Scalar.minsi (BitVec.ofNat 32 (i 0).val) (Scalar.subi (NU m (ix1 (0 : Fin 1))) 1#32)).toNat = min (i 0).val ((NU m (ix1 (0 : Fin 1))).toNat - 1) :=
    min_word _ _ hi h1 h2
  rw [← e]
  exact congrArg (fun w : BitVec 32 => ![(Scalar.minsi (BitVec.ofNat 32 (i 0).val) (Scalar.subi w 1#32)).toNat, 0]) (word_1 m inb_S1_S1_0 numel1_S1)

/-- The weights' block index at a point. -/
theorem index_1 (i : grid0.Coords) (h1 : 1 ≤ (NU m (ix1 (0 : Fin 1))).toNat) (h2 : (NU m (ix1 (0 : Fin 1))).toNat ≤ 90) :
    cc0_transform_1 k0_off1_inb numel1_S1 (tbl m) i = ![(TG m (ix1 (⟨min (i 0).val ((NU m (ix1 (0 : Fin 1))).toNat - 1), by have := (i 0).isLt; have : (i 0).val < 90 := this; omega⟩ : Fin 90))).toNat, 0, 0] :=
  congrArg (fun w : BitVec 32 => ![w.toNat, 0, 0]) (word_0 m i h1 h2 _ _)

/-- The block indices keep every block inside its array. -/
theorem ok (hA : Cert.ExpPre.A (TG m)) (hB : Cert.ExpPre.B (NU m)) : Ok m := by
  obtain ⟨h1, h2⟩ := Cert.ExpPre.nu_le _ hB
  have hw : ∀ i : grid0.Coords, ∀ a, (cc0_transform_1 k0_off1_inb numel1_S1 (tbl m) i a + 1) * S1x1024x1024.size a ≤ S4x1024x1024.size a := fun i a => by
    have hg := Cert.ExpPre.tg_lt _ hA (ix1 (⟨min (i 0).val ((NU m (ix1 (0 : Fin 1))).toNat - 1), by have := (i 0).isLt; have : (i 0).val < 90 := this; omega⟩ : Fin 90))
    rw [index_1 m i h1 h2]
    match a with
    | ⟨0, _⟩ =>
      show ((TG m (ix1 (⟨min (i 0).val ((NU m (ix1 (0 : Fin 1))).toNat - 1), _⟩ : Fin 90))).toNat + 1) * 1 ≤ 4; omega
    | ⟨1, _⟩ => show (0 + 1) * 1024 ≤ 1024; omega
    | ⟨2, _⟩ => show (0 + 1) * 1024 ≤ 1024; omega
  have h0 : ∀ i : grid0.Coords, ∀ a, (cc0_transform_0 inb_S1_S1_0 numel1_S1 (tbl m) i a + 1) * S512x1152.size a ≤ S46080x1152.size a := fun i a => by
    have hi : (i 0).val < 90 := (i 0).isLt
    rw [index_0 m i h1 h2]
    match a with
    | ⟨0, _⟩ => show (min (i 0).val _ + 1) * 512 ≤ 46080; omega
    | ⟨1, _⟩ => show (0 + 1) * 1152 ≤ 1152; omega
  exact ⟨fun i => ⟨h0 i, .inr (Affine.block_words_dvd (of_decide_eq_true rfl) (by decide))⟩,
    fun i => ⟨hw i, .inr (Affine.block_words_dvd (of_decide_eq_true rfl) (by decide))⟩,
    fun i => ⟨hw i, .inr (Affine.block_words_dvd (of_decide_eq_true rfl) (by decide))⟩,
    fun i => ⟨hw i, .inr (Affine.block_words_dvd (of_decide_eq_true rfl) (by decide))⟩⟩

end Cert.Exp

end
-- ==== Proof.Exp.Silu.lean ====
module

public import proofs.«01_k».proof.Proof.Soft
public import Idealize.ShloMosaic.PureOps.Ideal.Laws

@[expose] public section

noncomputable section

namespace Cert.Silu

open Idealize.ShloMosaic

/-- `a / (1 + exp (-a))`, as the reference writes it. -/
def swish (a : EReal) : EReal := a * Ideal.div 1 (1 + Ideal.exp (-a))

/-- The word of one half. -/
theorem ofBits_half : (Ideal.ofBits .f32 0x3F000000#32 : EReal) = ((1 / 2 : ℝ) : EReal) := by
  simp [Ideal.ofBits, Ideal.ieee]; rw [← EReal.coe_mul]; norm_num

/-- Half a hyperbolic tangent of the half plus a half is the logistic function. -/
theorem half_tanh (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have hp := Real.exp_pos (1 / 2 * r)
  have hm := Real.exp_pos (-(1 / 2 * r))
  have hmul : Real.exp (1 / 2 * r) * Real.exp (-(1 / 2 * r)) = 1 := by rw [← Real.exp_add]; simp
  rw [Real.tanh_eq_sinh_div_cosh, Real.sinh_eq, Real.cosh_eq, h1]
  generalize Real.exp (1 / 2 * r) = u at *
  generalize Real.exp (-(1 / 2 * r)) = v at *
  have huv : u + v ≠ 0 := by positivity
  have hvv : 1 + v * v ≠ 0 := by positivity
  field_simp
  nlinarith [hmul]

/-- The kernel's form of the logistic function is the reference's. -/
theorem half_gate (a : EReal) :
    ((1 / 2 : ℝ) : EReal) * Ideal.tanh (((1 / 2 : ℝ) : EReal) * a) + ((1 / 2 : ℝ) : EReal) = Ideal.logistic a := by
  induction a using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | coe r =>
    rw [← EReal.coe_mul, Ideal.tanh_coe, Ideal.logistic_coe, ← EReal.coe_mul, ← EReal.coe_add, half_tanh]
  | top =>
    rw [EReal.coe_mul_top_of_pos (by norm_num), Ideal.tanh_top, Ideal.logistic_top]
    rw [show (1 : EReal) = ((1 : ℝ) : EReal) by simp, ← EReal.coe_mul, ← EReal.coe_add]; norm_num

/-- The kernel's form of the gated unit is the reference's. -/
theorem half_form (a : EReal) :
    a * (((1 / 2 : ℝ) : EReal) * Ideal.tanh (((1 / 2 : ℝ) : EReal) * a) + ((1 / 2 : ℝ) : EReal)) = swish a :=
  congrArg (a * ·) (half_gate a)

end Cert.Silu

end
-- ==== Proof.Exp.Val.lean ====
module

public import proofs.«01_k».proof.Proof.Exp.Body
public import proofs.«01_k».proof.Proof.Exp.Silu
public import Idealize.ShloMosaic.Lib.Pipeline.Value
public import Idealize.ShloMosaic.Lib.ValueIdx
public import Idealize.ShloMosaic.Lib.ValueIdxCoords
public import Idealize.ShloMosaic.Lib.MatmulPlain
public import Idealize.ShloMosaic.Lib.Affine
public import Idealize.ShloMosaic.Lib.Pipeline.ValueKit.Tiles

@[expose] public section

set_option maxRecDepth 16384

noncomputable section

namespace Cert.ExpVal

open Cert.Kernel2Ideal Cert.Kernel2Ideal.Gen Idealize.ShloMosaic Idealize.ShloMosaic.TcCoe Idealize.ShloMosaic.ValueIdx
open Cert.Silu (swish half_form ofBits_half)
open scoped BigOperators

/-- A block of rows against a group's packed weights. -/
def prod (x : FVec Ideal S512x1024 .bf16) (w : FVec Ideal S1x1024x1024 .bf16) : FVec Ideal S512x1024 .f32 :=
  matmul dot_S512x1024_S1024x1024_S512x1024_1_0_0_1_n_n none x (shapeCast S1024x1024 w shapeCasts_S1x1024x1024_S1024x1024)
    (constant S512x1024 .f32 0x00000000#32)

theorem prod_apply (x : FVec Ideal S512x1024 .bf16) (w : FVec Ideal S1x1024x1024 .bf16) (r : Fin 512) (l : Fin 1024) :
    prod x w (ix2 r l) = ∑ k : Fin 1024, x (ix2 r k) * w (ix3 (0 : Fin 1) k l) := by
  unfold prod
  refine (Ideal.matmul_plain_apply (M := 512) (K := 1024) (N := 1024) none _ _ _ r l).trans ?_
  rw [show (constant (F := Ideal) S512x1024 .f32 0x00000000#32) (ix2 r l) = 0 from Ideal.ofBits_zero_f32, zero_add]
  refine Finset.sum_congr rfl fun k _ => congrArg (x (ix2 r k) * ·) ?_
  exact shapeCast_apply _ shapeCasts_S1x1024x1024_S1024x1024 (ix2 k l) (ix3 (0 : Fin 1) k l) (by
    rw [Shape.rowMajor_val_two, Shape.rowMajor_val_three]
    show (0 * 1024 + k.val) * 1024 + l.val = k.val * 1024 + l.val
    omega)

/-- The gated product of the two projections. -/
def hidden (x : FVec Ideal S512x1024 .bf16) (wg wu : FVec Ideal S1x1024x1024 .bf16) : FVec Ideal S512x1024 .f32 :=
  mulf (mulf (prod x wg) (addf (mulf (broadcast S512x1024 (Scalar.ofBits .f32 0x3F000000#32)) (tanh (mulf (broadcast S512x1024 (Scalar.ofBits .f32 0x3F000000#32)) (prod x wg))))
    (broadcast S512x1024 (Scalar.ofBits .f32 0x3F000000#32)))) (prod x wu)

theorem hidden_apply (x : FVec Ideal S512x1024 .bf16) (wg wu : FVec Ideal S1x1024x1024 .bf16) (i : S512x1024.Idx) :
    hidden x wg wu i = swish (prod x wg i) * prod x wu i := by
  show (prod x wg i * ((Ideal.ofBits .f32 0x3F000000#32 : EReal) * Ideal.tanh ((Ideal.ofBits .f32 0x3F000000#32 : EReal) * prod x wg i)
    + (Ideal.ofBits .f32 0x3F000000#32 : EReal))) * prod x wu i = _
  rw [ofBits_half, half_form]

/-- The gates: their two packed halves added. -/
def gates (v : FVec Ideal S512x128 .bf16) : FVec Ideal S512x4 .f32 :=
  addf (extractStridedSlice S512x4 ![0, 0] (extf .f32 v bitsLt_bf16_f32) slices_S512x128_o0_0_S512x4)
    (extractStridedSlice S512x4 ![0, 4] (extf .f32 v bitsLt_bf16_f32) slices_S512x128_o0_4_S512x4)

theorem gates_apply (v : FVec Ideal S512x128 .bf16) (r : Fin 512) (e : Fin 4) (a b : Fin 128) (ha : a.val = e.val) (hb : b.val = 4 + e.val) :
    gates v (ix2 r e) = v (ix2 r a) + v (ix2 r b) := by
  unfold gates
  refine congrArg₂ (fun p q : EReal => p + q) ?_ ?_
  · exact extractStridedSlice_apply _ _ slices_S512x128_o0_0_S512x4 (ix2 r e) (ix2 r a) (fun c => match c with
      | ⟨0, _⟩ => by show r.val = 0 + r.val; omega
      | ⟨1, _⟩ => by show a.val = 0 + e.val; omega)
  · exact extractStridedSlice_apply _ _ slices_S512x128_o0_4_S512x4 (ix2 r e) (ix2 r b) (fun c => match c with
      | ⟨0, _⟩ => by show r.val = 0 + r.val; omega
      | ⟨1, _⟩ => by show b.val = 4 + e.val; omega)

/-- The four experts' lanes, each scaled by its gate. -/
def lanes (h : FVec Ideal S512x1024 .f32) (g : FVec Ideal S512x4 .f32) : List ((s : Shape) × FVec Ideal s .bf16) :=
  [⟨S512x256, truncf .bf16 (mulf (extractStridedSlice S512x256 ![0, 0] h slices_S512x1024_o0_0_S512x256)
      (broadcastTo S512x256 (extractStridedSlice S512x1 ![0, 0] g slices_S512x4_o0_0_S512x1) broadcasts_S512x1_S512x256)) bitsLt_bf16_f32⟩,
   ⟨S512x256, truncf .bf16 (mulf (extractStridedSlice S512x256 ![0, 256] h slices_S512x1024_o0_256_S512x256)
      (broadcastTo S512x256 (extractStridedSlice S512x1 ![0, 1] g slices_S512x4_o0_1_S512x1) broadcasts_S512x1_S512x256)) bitsLt_bf16_f32⟩,
   ⟨S512x256, truncf .bf16 (mulf (extractStridedSlice S512x256 ![0, 512] h slices_S512x1024_o0_512_S512x256)
      (broadcastTo S512x256 (extractStridedSlice S512x1 ![0, 2] g slices_S512x4_o0_2_S512x1) broadcasts_S512x1_S512x256)) bitsLt_bf16_f32⟩,
   ⟨S512x256, truncf .bf16 (mulf (extractStridedSlice S512x256 ![0, 768] h slices_S512x1024_o0_768_S512x256)
      (broadcastTo S512x256 (extractStridedSlice S512x1 ![0, 3] g slices_S512x4_o0_3_S512x1) broadcasts_S512x1_S512x256)) bitsLt_bf16_f32⟩]

/-- One expert's lanes at a row and a lane. -/
theorem lane_apply (h : FVec Ideal S512x1024 .f32) (g : FVec Ideal S512x4 .f32) (o p : ℕ) (hs : S512x1024.Slices ![0, o] S512x256)
    (hs' : S512x4.Slices ![0, p] S512x1) (r : Fin 512) (f : Fin 256) (l : Fin 1024) (e : Fin 4) (hl : l.val = o + f.val) (he : e.val = p) :
    (truncf .bf16 (mulf (extractStridedSlice S512x256 ![0, o] h hs)
      (broadcastTo S512x256 (extractStridedSlice S512x1 ![0, p] g hs') broadcasts_S512x1_S512x256)) bitsLt_bf16_f32 : FVec Ideal S512x256 .bf16) (ix2 r f)
      = h (ix2 r l) * g (ix2 r e) := by
  rw [truncf_apply, mulf_apply]
  refine congrArg₂ (fun p q : EReal => p * q) ?_ ?_
  · exact extractStridedSlice_apply _ _ hs (ix2 r f) (ix2 r l) (fun c => match c with
      | ⟨0, _⟩ => by show r.val = 0 + r.val; omega
      | ⟨1, _⟩ => by show l.val = o + f.val; omega)
  · refine (broadcastTo_apply _ broadcasts_S512x1_S512x256 (ix2 r f) (ix2 r (0 : Fin 1)) (fun c => match c with
      | ⟨0, _⟩ => rfl | ⟨1, _⟩ => rfl)).trans ?_
    exact extractStridedSlice_apply _ _ hs' (ix2 r (0 : Fin 1)) (ix2 r e) (fun c => match c with
      | ⟨0, _⟩ => by show r.val = 0 + r.val; omega
      | ⟨1, _⟩ => by show e.val = p + 0; omega)

/-- The four experts' lanes side by side. -/
def packed (h : FVec Ideal S512x1024 .f32) (g : FVec Ideal S512x4 .f32) : FVec Ideal S512x1024 .bf16 :=
  concatenate S512x1024 1 (lanes h g) concatenates_S512x256_S512x256_S512x256_S512x256_S512x1024_d1

theorem packed_apply (h : FVec Ideal S512x1024 .f32) (g : FVec Ideal S512x4 .f32) (r : Fin 512) (e : Fin 4) (f : Fin 256) (l : Fin 1024)
    (hl : l.val = 256 * e.val + f.val) : packed h g (ix2 r l) = h (ix2 r l) * g (ix2 r e) := by
  unfold packed
  match e, hl with
  | ⟨0, h0⟩, hl =>
    have hl : l.val = 256 * 0 + f.val := hl
    refine (concatenate_apply_piece (t := S512x1024) 1 (lanes h g) concatenates_S512x256_S512x256_S512x256_S512x256_S512x1024_d1 (ix2 r l)
      0 (by show 0 < 4; decide) S512x256 _ rfl rfl 0 rfl (ix2 r f) (fun a ha => match a with | ⟨0, _⟩ => rfl | ⟨1, _⟩ => absurd rfl ha)
      (by show 0 + f.val = l.val; omega)).trans ?_
    exact lane_apply h g 0 0 slices_S512x1024_o0_0_S512x256 slices_S512x4_o0_0_S512x1 r f l ⟨0, h0⟩ (by omega) rfl
  | ⟨1, h0⟩, hl =>
    have hl : l.val = 256 * 1 + f.val := hl
    refine (concatenate_apply_piece (t := S512x1024) 1 (lanes h g) concatenates_S512x256_S512x256_S512x256_S512x256_S512x1024_d1 (ix2 r l)
      1 (by show 1 < 4; decide) S512x256 _ rfl rfl 256 rfl (ix2 r f) (fun a ha => match a with | ⟨0, _⟩ => rfl | ⟨1, _⟩ => absurd rfl ha)
      (by show 256 + f.val = l.val; omega)).trans ?_
    exact lane_apply h g 256 1 slices_S512x1024_o0_256_S512x256 slices_S512x4_o0_1_S512x1 r f l ⟨1, h0⟩ (by omega) rfl
  | ⟨2, h0⟩, hl =>
    have hl : l.val = 256 * 2 + f.val := hl
    refine (concatenate_apply_piece (t := S512x1024) 1 (lanes h g) concatenates_S512x256_S512x256_S512x256_S512x256_S512x1024_d1 (ix2 r l)
      2 (by show 2 < 4; decide) S512x256 _ rfl rfl 512 rfl (ix2 r f) (fun a ha => match a with | ⟨0, _⟩ => rfl | ⟨1, _⟩ => absurd rfl ha)
      (by show 512 + f.val = l.val; omega)).trans ?_
    exact lane_apply h g 512 2 slices_S512x1024_o0_512_S512x256 slices_S512x4_o0_2_S512x1 r f l ⟨2, h0⟩ (by omega) rfl
  | ⟨3, h0⟩, hl =>
    have hl : l.val = 256 * 3 + f.val := hl
    refine (concatenate_apply_piece (t := S512x1024) 1 (lanes h g) concatenates_S512x256_S512x256_S512x256_S512x256_S512x1024_d1 (ix2 r l)
      3 (by show 3 < 4; decide) S512x256 _ rfl rfl 768 rfl (ix2 r f) (fun a ha => match a with | ⟨0, _⟩ => rfl | ⟨1, _⟩ => absurd rfl ha)
      (by show 768 + f.val = l.val; omega)).trans ?_
    exact lane_apply h g 768 3 slices_S512x1024_o0_768_S512x256 slices_S512x4_o0_3_S512x1 r f l ⟨3, h0⟩ (by omega) rfl

theorem pay3_eq (v7 : Vec Ideal S512x1024 .bf16) (v9 v20 : Vec Ideal S1x1024x1024 .bf16) (v24 : Vec Ideal S512x128 .bf16) :
    k0_pay3 v7 v9 v20 v24 = packed (hidden (shapeCast S512x1024 v7 shapeCasts_S512x1024_S512x1024) v9 v20) (gates (shapeCast S512x128 v24 shapeCasts_S512x128_S512x128)) := rfl

theorem pay2_eq (v50 : FVec Ideal S512x1024 .bf16) (v51 : Vec Ideal S1x1024x1024 .bf16) (i : S512x1024.Idx) : k0_pay2 v50 v51 i = prod v50 v51 i := rfl

/-- A sum over the 1024 packed lanes is the sum over the experts of the sums over their lanes. -/
theorem sum_lanes (G : Fin 1024 → EReal) : ∑ l, G l = ∑ e : Fin 4, ∑ f : Fin 256, G ⟨256 * e.val + f.val, by have := e.isLt; have := f.isLt; omega⟩ := by
  rw [← Fintype.sum_prod_type']
  refine ((finProdFinEquiv (m := 4) (n := 256)).sum_comp (fun l : Fin (4 * 256) => G l)).symm.trans ?_
  refine Finset.sum_congr rfl fun p _ => congrArg G (Fin.ext ?_)
  show p.2.val + 256 * p.1.val = 256 * p.1.val + p.2.val
  omega

/-- What the body leaves in a used tile's block, at a row and a column, from what its four input blocks hold. -/
theorem used_val (i : grid0.Coords) (w : BitVec 32) (x0 : Vec Ideal S512x1152 .bf16) (x1 x2 x3 : Vec Ideal S1x1024x1024 .bf16) (hc : k0_cond2 i w = 1#1)
    (r : Fin 512) (d : Fin 1024) (X : Fin 1024 → EReal) (G : Fin 4 → EReal) (WG WU : Fin 4 → Fin 1024 → Fin 256 → EReal) (WD : Fin 4 → Fin 256 → EReal)
    (hX : ∀ (k : Fin 1024) (k' : Fin 1152), k'.val = k.val → x0 (ix2 r k') = X k)
    (hG : ∀ (e : Fin 4) (a b : Fin 1152), a.val = 1024 + e.val → b.val = 1028 + e.val → x0 (ix2 r a) + x0 (ix2 r b) = G e)
    (h1 : ∀ (e : Fin 4) (k : Fin 1024) (f : Fin 256) (l : Fin 1024), l.val = 256 * e.val + f.val → x1 (ix3 (0 : Fin 1) k l) = WG e k f)
    (h2 : ∀ (e : Fin 4) (k : Fin 1024) (f : Fin 256) (l : Fin 1024), l.val = 256 * e.val + f.val → x2 (ix3 (0 : Fin 1) k l) = WU e k f)
    (h3 : ∀ (e : Fin 4) (f : Fin 256) (l : Fin 1024), l.val = 256 * e.val + f.val → x3 (ix3 (0 : Fin 1) l d) = WD e f) :
    Cert.Exp.outVal i w x0 x1 x2 x3 (ix2 r d)
      = ∑ e, ∑ f, (swish (∑ k, X k * WG e k f) * (∑ k, X k * WU e k f) * G e) * WD e f := by
  unfold Cert.Exp.outVal
  rw [if_pos hc, pay2_eq, prod_apply, sum_lanes]
  refine Finset.sum_congr rfl fun e _ => Finset.sum_congr rfl fun f _ => ?_
  have he := e.isLt
  have hf := f.isLt
  rw [h3 e f _ rfl, pay3_eq, packed_apply _ _ r e f _ rfl, hidden_apply, prod_apply, prod_apply,
    gates_apply _ r e (⟨e.val, by omega⟩ : Fin 128) (⟨4 + e.val, by omega⟩ : Fin 128) rfl rfl]
  have hx : ∀ k : Fin 1024, shapeCast S512x1024 (View.ld x0 (Rect.unit (s := S512x1152) ![0, 0] S512x1024.size inb_S512x1152_S512x1024_0_0)) shapeCasts_S512x1024_S512x1024 (ix2 r k) = X k := by
    intro k
    have hk := k.isLt
    refine (shapeCast_apply _ shapeCasts_S512x1024_S512x1024 (ix2 r k) (ix2 r k) rfl).trans ?_
    refine (View.ld_unit_apply_of (S := S512x1152) x0 ![0, 0] S512x1024.size inb_S512x1152_S512x1024_0_0 (ix2 r k) (ix2 r (⟨k.val, by omega⟩ : Fin 1152)) (fun b => match b with
      | ⟨0, _⟩ => by show r.val = 0 + r.val; omega
      | ⟨1, _⟩ => by show k.val = 0 + k.val; omega)).trans (hX k _ rfl)
  have hg : ∀ (a : Fin 128) (b : Fin 1152), b.val = 1024 + a.val →
      shapeCast S512x128 (View.ld x0 (Rect.unit (s := S512x1152) ![0, 1024] S512x128.size inb_S512x1152_S512x128_0_1024)) shapeCasts_S512x128_S512x128 (ix2 r a) = x0 (ix2 r b) := by
    intro a b hb
    refine (shapeCast_apply _ shapeCasts_S512x128_S512x128 (ix2 r a) (ix2 r a) rfl).trans ?_
    exact View.ld_unit_apply_of (S := S512x1152) x0 ![0, 1024] S512x128.size inb_S512x1152_S512x128_0_1024 (ix2 r a) (ix2 r b) (fun c => match c with
      | ⟨0, _⟩ => by show r.val = 0 + r.val; omega
      | ⟨1, _⟩ => by show b.val = 1024 + a.val; omega)
  rw [hg _ (⟨1024 + e.val, by omega⟩ : Fin 1152) rfl, hg _ (⟨1028 + e.val, by omega⟩ : Fin 1152) (by show 1028 + e.val = 1024 + (4 + e.val); omega),
    hG e _ _ rfl rfl]
  have h1' : ∀ k, x1 (ix3 (0 : Fin 1) k (⟨256 * e.val + f.val, by omega⟩ : Fin 1024)) = WG e k f := fun k => h1 e k f _ rfl
  have h2' : ∀ k, x2 (ix3 (0 : Fin 1) k (⟨256 * e.val + f.val, by omega⟩ : Fin 1024)) = WU e k f := fun k => h2 e k f _ rfl
  simp only [hx, h1', h2']

/-- What the body leaves in the block of a tile past the used ones: zeros. -/
theorem unused_val (i : grid0.Coords) (w : BitVec 32) (x0 : Vec Ideal S512x1152 .bf16) (x1 x2 x3 : Vec Ideal S1x1024x1024 .bf16) (hc : ¬ k0_cond2 i w = 1#1)
    (j : S512x1024.Idx) : Cert.Exp.outVal i w x0 x1 x2 x3 j = 0 := by
  unfold Cert.Exp.outVal
  rw [if_neg hc]
  exact Ideal.ofBits_zero_bf16

/-- The body computes the experts exactly at the points below the number of used tiles. -/
theorem cond_iff (i : grid0.Coords) (w : BitVec 32) (hw : w.toNat ≤ 90) : k0_cond2 i w = 1#1 ↔ (i 0).val < w.toNat := by
  have hi : (i 0).val < 90 := (i 0).isLt
  have h1 : k0_cond2 i w = 1#1 ↔ Scalar.cmpi .slt (BitVec.ofNat 32 (i 0).val) w = 1#1 := by
    unfold k0_cond2
    dsimp only
    generalize Scalar.cmpi .slt (BitVec.ofNat 32 (i 0).val) w = b
    revert b
    decide
  have ei : (BitVec.ofNat 32 (i 0).val).toNat = (i 0).val := by rw [BitVec.toNat_ofNat]; omega
  rw [h1]
  refine (IntOp.cmpi_slt (x := BitVec.ofNat 32 (i 0).val) (y := w)).trans ?_
  rw [BitVec.toInt_eq_toNat_cond, BitVec.toInt_eq_toNat_cond, ei, if_pos (by omega), if_pos (by omega)]
  omega

end Cert.ExpVal

end
-- ==== Proof.Exp.Arr.lean ====
module

public import proofs.«01_k».proof.Proof.Exp.Kit
public import Idealize.ShloMosaic.Lib.StableHlo
public import Idealize.ShloMosaic.Lib.Pipeline.Value
public import Idealize.ShloMosaic.Lib.ValueIdx
public import Idealize.ShloMosaic.Lib.ValueIdxCoords

@[expose] public section

set_option maxRecDepth 16384

noncomputable section

namespace Cert.ExpArr

open Cert.Kernel2Ideal Cert.Kernel2Ideal.Gen Idealize.ShloMosaic Idealize.ShloMosaic.TcCoe Idealize.ShloMosaic.ValueIdx
open Idealize.ShloMosaic.StableHlo
open Cert.Exp (V)

variable (m : (ℓ : Loc nD τ sig) → Buf (Elt Ideal) ℓ) (c : Dev nD)

/-- The sorted rows as launched, -/
abbrev XR : FVec Ideal S46080x1024 .f32 := m ((c.tc : Thread nD τ).loc main_arg0)
/-- each row's group, -/
abbrev GI : IVec S46080 32 := m ((c.tc : Thread nD τ).loc main_arg1)
/-- each row's gates, -/
abbrev GA : FVec Ideal S46080x4 .f32 := m ((c.tc : Thread nD τ).loc main_arg2)
/-- and the experts' three weights. -/
abbrev WG : FVec Ideal S4x4x1024x256 .f32 := m ((c.tc : Thread nD τ).loc main_arg5)
abbrev WU : FVec Ideal S4x4x1024x256 .f32 := m ((c.tc : Thread nD τ).loc main_arg6)
abbrev WD : FVec Ideal S4x4x256x1024 .f32 := m ((c.tc : Thread nD τ).loc main_arg7)

/-- The four pieces of the prepared rows: the row, its gates rounded, what the rounding left, and zeros. -/
def pieces (x : FVec Ideal S46080x1024 .f32) (g : FVec Ideal S46080x4 .f32) : List ((s : Shape) × FVec Ideal s .f32) :=
  [⟨S46080x1024, x⟩, ⟨S46080x4, extf .f32 (truncf .bf16 g bitsLt_bf16_f32) bitsLt_bf16_f32⟩,
   ⟨S46080x4, subf g (extf .f32 (truncf .bf16 g bitsLt_bf16_f32) bitsLt_bf16_f32)⟩,
   ⟨S46080x120, broadcastInDim S46080x120 ![] bcast_S_S46080x120 (constant S_ .f32 0x00000000#32)⟩]

/-- The prepared rows. -/
def xArr (x : FVec Ideal S46080x1024 .f32) (g : FVec Ideal S46080x4 .f32) : FVec Ideal S46080x1152 .bf16 :=
  truncf .bf16 (concatenate S46080x1152 1 (pieces x g) concatenates_S46080x1024_S46080x4_S46080x4_S46080x120_S46080x1152_d1) bitsLt_bf16_f32

/-- An input projection's weights, the experts of a group side by side. -/
def wArr (w : FVec Ideal S4x4x1024x256 .f32) : FVec Ideal S4x1024x1024 .bf16 :=
  truncf .bf16 (shapeCast S4x1024x1024 (transpose S4x1024x4x256 [0, 2, 1, 3] w transposes_S4x4x1024x256_S4x1024x4x256_0_2_1_3)
    shapeCasts_S4x1024x4x256_S4x1024x1024) bitsLt_bf16_f32

/-- The output projection's weights, the experts of a group one above the other. -/
def dArr (w : FVec Ideal S4x4x256x1024 .f32) : FVec Ideal S4x1024x1024 .bf16 :=
  truncf .bf16 (shapeCast S4x1024x1024 w shapeCasts_S4x4x256x1024_S4x1024x1024) bitsLt_bf16_f32

theorem V_x : V m c main_v5 = xArr (XR m c) (GA m c) := by
  unfold V; after_results <;> rfl
theorem V_g : V m c main_v8 = wArr (WG m c) := by
  unfold V; after_results <;> rfl
theorem V_u : V m c main_v11 = wArr (WU m c) := by
  unfold V; after_results <;> rfl
theorem V_d : V m c main_v13 = dArr (WD m c) := by
  unfold V; after_results <;> rfl

variable (x : FVec Ideal S46080x1024 .f32) (g : FVec Ideal S46080x4 .f32)

theorem xArr_row (n : Fin 46080) (k : Fin 1024) (l : Fin 1152) (hl : l.val = k.val) : xArr x g (ix2 n l) = x (ix2 n k) := by
  unfold xArr
  rw [truncf_apply]
  exact concatenate_apply_piece (t := S46080x1152) 1 (pieces x g) concatenates_S46080x1024_S46080x4_S46080x4_S46080x120_S46080x1152_d1 (ix2 n l)
    0 (by show 0 < 4; decide) S46080x1024 _ rfl rfl 0 rfl (ix2 n k) (fun a ha => match a with | ⟨0, _⟩ => rfl | ⟨1, _⟩ => absurd rfl ha)
    (by show 0 + k.val = l.val; omega)

theorem xArr_hi (n : Fin 46080) (e : Fin 4) (l : Fin 1152) (hl : l.val = 1024 + e.val) : xArr x g (ix2 n l) = g (ix2 n e) := by
  unfold xArr
  rw [truncf_apply]
  exact concatenate_apply_piece (t := S46080x1152) 1 (pieces x g) concatenates_S46080x1024_S46080x4_S46080x4_S46080x120_S46080x1152_d1 (ix2 n l)
    1 (by show 1 < 4; decide) S46080x4 _ rfl rfl 1024 rfl (ix2 n e) (fun a ha => match a with | ⟨0, _⟩ => rfl | ⟨1, _⟩ => absurd rfl ha)
    (by show 1024 + e.val = l.val; omega)

theorem xArr_lo (n : Fin 46080) (e : Fin 4) (l : Fin 1152) (hl : l.val = 1028 + e.val) : xArr x g (ix2 n l) = g (ix2 n e) - g (ix2 n e) := by
  unfold xArr
  rw [truncf_apply]
  exact concatenate_apply_piece (t := S46080x1152) 1 (pieces x g) concatenates_S46080x1024_S46080x4_S46080x4_S46080x120_S46080x1152_d1 (ix2 n l)
    2 (by show 2 < 4; decide) S46080x4 _ rfl rfl 1028 rfl (ix2 n e) (fun a ha => match a with | ⟨0, _⟩ => rfl | ⟨1, _⟩ => absurd rfl ha)
    (by show 1028 + e.val = l.val; omega)

/-- The two halves of a finite gate add up to it. -/
theorem xArr_gate (n : Fin 46080) (e : Fin 4) (a b : Fin 1152) (ha : a.val = 1024 + e.val) (hb : b.val = 1028 + e.val)
    (hr : ∃ r : ℝ, g (ix2 n e) = r) : xArr x g (ix2 n a) + xArr x g (ix2 n b) = g (ix2 n e) := by
  obtain ⟨r, hr⟩ := hr
  rw [xArr_hi x g n e a ha, xArr_lo x g n e b hb, hr, ← EReal.coe_sub, ← EReal.coe_add, sub_self, add_zero]

theorem wArr_apply (w : FVec Ideal S4x4x1024x256 .f32) (q e : Fin 4) (k : Fin 1024) (f : Fin 256) (l : Fin 1024) (hl : l.val = 256 * e.val + f.val) :
    wArr w (ix3 q k l) = w (ix4 q e k f) := by
  unfold wArr
  rw [truncf_apply]
  refine (shapeCast_apply _ shapeCasts_S4x1024x4x256_S4x1024x1024 (ix3 q k l) (ix4 q k e f) (by
    rw [Shape.rowMajor_val_three, Shape.rowMajor_val_four]
    show ((q.val * 1024 + k.val) * 4 + e.val) * 256 + f.val = (q.val * 1024 + k.val) * 1024 + l.val
    omega)).trans ?_
  exact transpose_apply _ _ transposes_S4x4x1024x256_S4x1024x4x256_0_2_1_3 (ix4 q k e f) (ix4 q e k f)
    (fun a => match a with | ⟨0, _⟩ => rfl | ⟨1, _⟩ => rfl | ⟨2, _⟩ => rfl | ⟨3, _⟩ => rfl)

theorem dArr_apply (w : FVec Ideal S4x4x256x1024 .f32) (q e : Fin 4) (f : Fin 256) (l d : Fin 1024) (hl : l.val = 256 * e.val + f.val) :
    dArr w (ix3 q l d) = w (ix4 q e f d) := by
  unfold dArr
  rw [truncf_apply]
  exact shapeCast_apply _ shapeCasts_S4x4x256x1024_S4x1024x1024 (ix3 q l d) (ix4 q e f d) (by
    rw [Shape.rowMajor_val_three, Shape.rowMajor_val_four]
    show ((q.val * 4 + e.val) * 256 + f.val) * 1024 + d.val = (q.val * 1024 + l.val) * 1024 + d.val
    omega)

end Cert.ExpArr

end
-- ==== Proof.Exp.Ref.lean ====
module

public import proofs.«01_k».proof.Proof.Exp.Silu
public import proofs.«01_k».proof.Proof.Gen.Reference2Ideal.Read
public import Idealize.ShloMosaic.Lib.TwoAxisContraction

@[expose] public section

set_option maxRecDepth 16384

noncomputable section

namespace Cert.ExpRef

open Cert.Reference2Ideal Cert.Reference2Ideal.Gen Cert.Reference2Ideal.Read Idealize.ShloMosaic Idealize.ShloMosaic.TcCoe Idealize.ShloMosaic.ValueIdx
open Cert.Silu (swish)
open scoped BigOperators

/-- A row of the tokens against one column of one expert's first weights. -/
def up (x : FVec Ideal S46080x1024 .f32) (w : FVec Ideal S4x4x1024x256 .f32) (g : Fin 4) (n : Fin 46080) (e : Fin 4) (f : Fin 256) : EReal :=
  ∑ k : Fin 1024, x (ix2 n k) * w (ix4 g e k f)

/-- An expert's hidden unit: the gated product. -/
def hid (x : FVec Ideal S46080x1024 .f32) (wg wu : FVec Ideal S4x4x1024x256 .f32) (g : Fin 4) (n : Fin 46080) (e : Fin 4) (f : Fin 256) : EReal :=
  swish (up x wg g n e f) * up x wu g n e f

/-- One where the row's group is `g`, zero elsewhere. -/
def hot (gi : IVec S46080 32) (n : Fin 46080) (g : Fin 4) : EReal :=
  (((IntOp.cmpi .eq (gi (ix1 n)) (BitVec.ofNat 32 g.val)).toNat : ℝ) : EReal)

/-- What group `g` adds to a row: its experts' hidden units, weighted by the gates, against the second weights. -/
def term (x : FVec Ideal S46080x1024 .f32) (gi : IVec S46080 32) (ga : FVec Ideal S46080x4 .f32) (wg wu : FVec Ideal S4x4x1024x256 .f32)
    (wd : FVec Ideal S4x4x256x1024 .f32) (g : Fin 4) (n : Fin 46080) (d : Fin 1024) : EReal :=
  ∑ e : Fin 4, ∑ f : Fin 256, (hid x wg wu g n e f * (hot gi n g * ga (ix2 n e))) * wd (ix4 g e f d)

/-- The dimensions of the product over the experts and their lanes. -/
abbrev D2 : DotDims S46080x4x256 S4x256x1024 S46080x1024 := dot_S46080x4x256_S4x256x1024_S46080x1024_12_01_0_2_n_n

theorem lhs_0 (i : S46080x1024.Idx) (q : DotDims.contr D2 |>.Idx) : (DotDims.lhsIdx D2 i q 0).val = (i 0).val := by
  unfold DotDims.lhsIdx
  rw [dif_neg (show ¬(0 : Fin S46080x4x256.rank) ∈ DotDims.lhsBatch D2 by decide), dif_pos (show (0 : Fin S46080x4x256.rank) ∈ DotDims.lhsNonContracting D2 by decide)]
  rfl
theorem lhs_1 (i : S46080x1024.Idx) (q : DotDims.contr D2 |>.Idx) : (DotDims.lhsIdx D2 i q 1).val = (q ⟨0, by decide⟩).val := by
  unfold DotDims.lhsIdx
  rw [dif_neg (show ¬(1 : Fin S46080x4x256.rank) ∈ DotDims.lhsBatch D2 by decide), dif_neg (show ¬(1 : Fin S46080x4x256.rank) ∈ DotDims.lhsNonContracting D2 by decide)]
  rfl
theorem lhs_2 (i : S46080x1024.Idx) (q : DotDims.contr D2 |>.Idx) : (DotDims.lhsIdx D2 i q 2).val = (q ⟨1, by decide⟩).val := by
  unfold DotDims.lhsIdx
  rw [dif_neg (show ¬(2 : Fin S46080x4x256.rank) ∈ DotDims.lhsBatch D2 by decide), dif_neg (show ¬(2 : Fin S46080x4x256.rank) ∈ DotDims.lhsNonContracting D2 by decide)]
  rfl
theorem rhs_0 (i : S46080x1024.Idx) (q : DotDims.contr D2 |>.Idx) : (DotDims.rhsIdx D2 i q 0).val = (q ⟨0, by decide⟩).val := by
  unfold DotDims.rhsIdx
  rw [dif_neg (show ¬(0 : Fin S4x256x1024.rank) ∈ DotDims.rhsBatch D2 by decide), dif_neg (show ¬(0 : Fin S4x256x1024.rank) ∈ DotDims.rhsNonContracting D2 by decide)]
  rfl
theorem rhs_1 (i : S46080x1024.Idx) (q : DotDims.contr D2 |>.Idx) : (DotDims.rhsIdx D2 i q 1).val = (q ⟨1, by decide⟩).val := by
  unfold DotDims.rhsIdx
  rw [dif_neg (show ¬(1 : Fin S4x256x1024.rank) ∈ DotDims.rhsBatch D2 by decide), dif_neg (show ¬(1 : Fin S4x256x1024.rank) ∈ DotDims.rhsNonContracting D2 by decide)]
  rfl
theorem rhs_2 (i : S46080x1024.Idx) (q : DotDims.contr D2 |>.Idx) : (DotDims.rhsIdx D2 i q 2).val = (i 1).val := by
  unfold DotDims.rhsIdx
  rw [dif_neg (show ¬(2 : Fin S4x256x1024.rank) ∈ DotDims.rhsBatch D2 by decide), dif_pos (show (2 : Fin S4x256x1024.rank) ∈ DotDims.rhsNonContracting D2 by decide)]
  rfl

/-- The product over experts and hidden units, at an index. -/
theorem dot2 (l : FVec Ideal S46080x4x256 .f32) (r : FVec Ideal S4x256x1024 .f32) (n : Fin 46080) (d : Fin 1024) :
    Host.dotGeneral D2 none l r (ix2 n d) = ∑ e : Fin 4, ∑ f : Fin 256, l (ix3 n e f) * r (ix3 e f d) := by
  simp only [Host.dotGeneral]
  rw [Ideal.dotGeneral_apply, sum_contr2 D2 4 256 rfl rfl rfl]
  refine Finset.sum_congr rfl fun e _ => Finset.sum_congr rfl fun f _ => ?_
  have k0 := contrEquiv2_symm_val0 D2 4 256 rfl rfl rfl (e, f)
  have k1 := contrEquiv2_symm_val1 D2 4 256 rfl rfl rfl (e, f)
  refine congrArg₂ (· * ·) (congrArg l (funext fun a => Fin.ext ?_)) (congrArg r (funext fun a => Fin.ext ?_))
  · match a with
    | ⟨0, _⟩ => exact lhs_0 _ _
    | ⟨1, _⟩ => exact (lhs_1 _ _).trans k0
    | ⟨2, _⟩ => exact (lhs_2 _ _).trans k1
  · match a with
    | ⟨0, _⟩ => exact (rhs_0 _ _).trans k0
    | ⟨1, _⟩ => exact (rhs_1 _ _).trans k1
    | ⟨2, _⟩ => exact rhs_2 _ _

variable (x0 : FVec Ideal S46080x1024 .f32) (x1 : IVec S46080 32) (x2 : FVec Ideal S46080x4 .f32) (x5 x6 : FVec Ideal S4x4x1024x256 .f32)
  (x7 : FVec Ideal S4x4x256x1024 .f32)

/-- The reference's weight of a row for a group's expert: the gate, where the row is of that group. -/
theorem weight_at (n : Fin 46080) (g e : Fin 4) : val_main_v5 (F := Ideal) x1 x2 (ix3 n g e) = hot x1 n g * x2 (ix2 n e) := by
  rw [val_main_v5_apply, val_main_v3_apply, val_main_v1_apply, val_main_v0_apply, val_main_call0_v4_apply, val_main_call0_v2_apply,
    val_main_call0_v0_apply, val_main_call0_v3_apply, val_main_call0_v1_apply, val_main_v4_apply, val_main_v2_apply]
  refine congrArg₂ (· * ·) ?_ (congrArg x2 (funext fun a => match a with | ⟨0, _⟩ => rfl | ⟨1, _⟩ => rfl))
  show (((IntOp.cmpi .eq (x1 _) _).toNat : ℝ) : EReal) = _
  unfold hot
  exact congrArg (fun w => (((IntOp.cmpi .eq (x1 w) (BitVec.ofNat 32 g.val)).toNat : ℝ) : EReal)) (funext fun a => match a with | ⟨0, _⟩ => rfl)

theorem gate_at_0 (n : Fin 46080) (e : Fin 4) (f : Fin 256) : val_main_v9 (F := Ideal) x0 x5 (ix3 n e f) = up x0 x5 0 n e f := by
  have he := e.isLt
  have hf := f.isLt
  rw [val_main_v9_apply]
  refine Finset.sum_congr rfl fun k _ => congrArg₂ (· * ·) (congrArg x0 (funext fun a => match a with | ⟨0, _⟩ => rfl | ⟨1, _⟩ => rfl)) ?_
  have hk := k.isLt
  rw [val_main_v8_apply, val_main_v7_apply]
  refine congrArg x5 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem up_at_0 (n : Fin 46080) (e : Fin 4) (f : Fin 256) : val_main_v12 (F := Ideal) x0 x6 (ix3 n e f) = up x0 x6 0 n e f := by
  have he := e.isLt
  have hf := f.isLt
  rw [val_main_v12_apply]
  refine Finset.sum_congr rfl fun k _ => congrArg₂ (· * ·) (congrArg x0 (funext fun a => match a with | ⟨0, _⟩ => rfl | ⟨1, _⟩ => rfl)) ?_
  have hk := k.isLt
  rw [val_main_v11_apply, val_main_v10_apply]
  refine congrArg x6 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem hid_at_0 (n : Fin 46080) (e : Fin 4) (f : Fin 256) : val_main_v14 (F := Ideal) x0 x5 x6 (ix3 n e f) = hid x0 x5 x6 0 n e f := by
  rw [val_main_v14_apply, val_main_v13_apply, val_main_call1_v5_apply, val_main_call1_v4_apply, val_main_call1_cst_0_apply, val_main_call1_v3_apply,
    val_main_call1_v2_apply, val_main_call1_cst_apply, val_main_call1_v1_apply, val_main_call1_v0_apply, gate_at_0, up_at_0]
  show (_ * Ideal.div (Ideal.ofBits .f32 0x3F800000#32) (Ideal.ofBits .f32 0x3F800000#32 + _)) * _ = _
  rw [Ideal.ofBits_one_f32]
  rfl

theorem gated_at_0 (n : Fin 46080) (e : Fin 4) (f : Fin 256) : val_main_v19 (F := Ideal) x0 x1 x2 x5 x6 (ix3 n e f)
    = hid x0 x5 x6 0 n e f * (hot x1 n 0 * x2 (ix2 n e)) := by
  have he := e.isLt
  have hn := n.isLt
  rw [val_main_v19_apply, hid_at_0, val_main_v18_apply, val_main_v17_apply, val_main_v16_apply, val_main_v15_apply]
  refine congrArg (hid x0 x5 x6 0 n e f * ·) ((congrArg (val_main_v5 (F := Ideal) x1 x2) (funext fun a => Fin.ext (match a with
    | ⟨0, _⟩ => ?_ | ⟨1, _⟩ => ?_ | ⟨2, _⟩ => ?_))).trans (weight_at x1 x2 n 0 e))
  · show (n.val * 4 + e.val) / 4 = n.val; omega
  · rfl
  · show (n.val * 4 + e.val) % 4 = e.val; omega

theorem down_at_0 (e : Fin 4) (f : Fin 256) (d : Fin 1024) : val_main_v21 (F := Ideal) x7 (ix3 e f d) = x7 (ix4 (0 : Fin 4) e f d) := by
  have he := e.isLt
  have hf := f.isLt
  have hd := d.isLt
  rw [val_main_v21_apply, val_main_v20_apply]
  refine congrArg x7 (funext fun a => Fin.ext (match a with
    | ⟨0, _⟩ => rfl
    | ⟨1, _⟩ => by show ((e.val * 256 + f.val) * 1024 + d.val) / 262144 % 4 = e.val; omega
    | ⟨2, _⟩ => by show ((e.val * 256 + f.val) * 1024 + d.val) / 1024 % 256 = f.val; omega
    | ⟨3, _⟩ => by show ((e.val * 256 + f.val) * 1024 + d.val) % 1024 = d.val; omega))

/-- Group 0's share of a row. -/
theorem term_at_0 (n : Fin 46080) (d : Fin 1024) : val_main_v22 (F := Ideal) x0 x1 x2 x5 x6 x7 (ix2 n d) = term x0 x1 x2 x5 x6 x7 0 n d := by
  unfold val_main_v22
  refine (dot2 _ _ n d).trans (Finset.sum_congr rfl fun e _ => Finset.sum_congr rfl fun f _ => ?_)
  rw [gated_at_0, down_at_0]

theorem gate_at_1 (n : Fin 46080) (e : Fin 4) (f : Fin 256) : val_main_v26 (F := Ideal) x0 x5 (ix3 n e f) = up x0 x5 1 n e f := by
  have he := e.isLt
  have hf := f.isLt
  rw [val_main_v26_apply]
  refine Finset.sum_congr rfl fun k _ => congrArg₂ (· * ·) (congrArg x0 (funext fun a => match a with | ⟨0, _⟩ => rfl | ⟨1, _⟩ => rfl)) ?_
  have hk := k.isLt
  rw [val_main_v25_apply, val_main_v24_apply]
  refine congrArg x5 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem up_at_1 (n : Fin 46080) (e : Fin 4) (f : Fin 256) : val_main_v29 (F := Ideal) x0 x6 (ix3 n e f) = up x0 x6 1 n e f := by
  have he := e.isLt
  have hf := f.isLt
  rw [val_main_v29_apply]
  refine Finset.sum_congr rfl fun k _ => congrArg₂ (· * ·) (congrArg x0 (funext fun a => match a with | ⟨0, _⟩ => rfl | ⟨1, _⟩ => rfl)) ?_
  have hk := k.isLt
  rw [val_main_v28_apply, val_main_v27_apply]
  refine congrArg x6 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem hid_at_1 (n : Fin 46080) (e : Fin 4) (f : Fin 256) : val_main_v31 (F := Ideal) x0 x5 x6 (ix3 n e f) = hid x0 x5 x6 1 n e f := by
  rw [val_main_v31_apply, val_main_v30_apply, val_main_call2_v5_apply, val_main_call2_v4_apply, val_main_call2_cst_0_apply, val_main_call2_v3_apply,
    val_main_call2_v2_apply, val_main_call2_cst_apply, val_main_call2_v1_apply, val_main_call2_v0_apply, gate_at_1, up_at_1]
  show (_ * Ideal.div (Ideal.ofBits .f32 0x3F800000#32) (Ideal.ofBits .f32 0x3F800000#32 + _)) * _ = _
  rw [Ideal.ofBits_one_f32]
  rfl

theorem gated_at_1 (n : Fin 46080) (e : Fin 4) (f : Fin 256) : val_main_v36 (F := Ideal) x0 x1 x2 x5 x6 (ix3 n e f)
    = hid x0 x5 x6 1 n e f * (hot x1 n 1 * x2 (ix2 n e)) := by
  have he := e.isLt
  have hn := n.isLt
  rw [val_main_v36_apply, hid_at_1, val_main_v35_apply, val_main_v34_apply, val_main_v33_apply, val_main_v32_apply]
  refine congrArg (hid x0 x5 x6 1 n e f * ·) ((congrArg (val_main_v5 (F := Ideal) x1 x2) (funext fun a => Fin.ext (match a with
    | ⟨0, _⟩ => ?_ | ⟨1, _⟩ => ?_ | ⟨2, _⟩ => ?_))).trans (weight_at x1 x2 n 1 e))
  · show (n.val * 4 + e.val) / 4 = n.val; omega
  · rfl
  · show (n.val * 4 + e.val) % 4 = e.val; omega

theorem down_at_1 (e : Fin 4) (f : Fin 256) (d : Fin 1024) : val_main_v38 (F := Ideal) x7 (ix3 e f d) = x7 (ix4 (1 : Fin 4) e f d) := by
  have he := e.isLt
  have hf := f.isLt
  have hd := d.isLt
  rw [val_main_v38_apply, val_main_v37_apply]
  refine congrArg x7 (funext fun a => Fin.ext (match a with
    | ⟨0, _⟩ => rfl
    | ⟨1, _⟩ => by show ((e.val * 256 + f.val) * 1024 + d.val) / 262144 % 4 = e.val; omega
    | ⟨2, _⟩ => by show ((e.val * 256 + f.val) * 1024 + d.val) / 1024 % 256 = f.val; omega
    | ⟨3, _⟩ => by show ((e.val * 256 + f.val) * 1024 + d.val) % 1024 = d.val; omega))

/-- Group 1's share of a row. -/
theorem term_at_1 (n : Fin 46080) (d : Fin 1024) : val_main_v39 (F := Ideal) x0 x1 x2 x5 x6 x7 (ix2 n d) = term x0 x1 x2 x5 x6 x7 1 n d := by
  unfold val_main_v39
  refine (dot2 _ _ n d).trans (Finset.sum_congr rfl fun e _ => Finset.sum_congr rfl fun f _ => ?_)
  rw [gated_at_1, down_at_1]

theorem gate_at_2 (n : Fin 46080) (e : Fin 4) (f : Fin 256) : val_main_v43 (F := Ideal) x0 x5 (ix3 n e f) = up x0 x5 2 n e f := by
  have he := e.isLt
  have hf := f.isLt
  rw [val_main_v43_apply]
  refine Finset.sum_congr rfl fun k _ => congrArg₂ (· * ·) (congrArg x0 (funext fun a => match a with | ⟨0, _⟩ => rfl | ⟨1, _⟩ => rfl)) ?_
  have hk := k.isLt
  rw [val_main_v42_apply, val_main_v41_apply]
  refine congrArg x5 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem up_at_2 (n : Fin 46080) (e : Fin 4) (f : Fin 256) : val_main_v46 (F := Ideal) x0 x6 (ix3 n e f) = up x0 x6 2 n e f := by
  have he := e.isLt
  have hf := f.isLt
  rw [val_main_v46_apply]
  refine Finset.sum_congr rfl fun k _ => congrArg₂ (· * ·) (congrArg x0 (funext fun a => match a with | ⟨0, _⟩ => rfl | ⟨1, _⟩ => rfl)) ?_
  have hk := k.isLt
  rw [val_main_v45_apply, val_main_v44_apply]
  refine congrArg x6 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem hid_at_2 (n : Fin 46080) (e : Fin 4) (f : Fin 256) : val_main_v48 (F := Ideal) x0 x5 x6 (ix3 n e f) = hid x0 x5 x6 2 n e f := by
  rw [val_main_v48_apply, val_main_v47_apply, val_main_call3_v5_apply, val_main_call3_v4_apply, val_main_call3_cst_0_apply, val_main_call3_v3_apply,
    val_main_call3_v2_apply, val_main_call3_cst_apply, val_main_call3_v1_apply, val_main_call3_v0_apply, gate_at_2, up_at_2]
  show (_ * Ideal.div (Ideal.ofBits .f32 0x3F800000#32) (Ideal.ofBits .f32 0x3F800000#32 + _)) * _ = _
  rw [Ideal.ofBits_one_f32]
  rfl

theorem gated_at_2 (n : Fin 46080) (e : Fin 4) (f : Fin 256) : val_main_v53 (F := Ideal) x0 x1 x2 x5 x6 (ix3 n e f)
    = hid x0 x5 x6 2 n e f * (hot x1 n 2 * x2 (ix2 n e)) := by
  have he := e.isLt
  have hn := n.isLt
  rw [val_main_v53_apply, hid_at_2, val_main_v52_apply, val_main_v51_apply, val_main_v50_apply, val_main_v49_apply]
  refine congrArg (hid x0 x5 x6 2 n e f * ·) ((congrArg (val_main_v5 (F := Ideal) x1 x2) (funext fun a => Fin.ext (match a with
    | ⟨0, _⟩ => ?_ | ⟨1, _⟩ => ?_ | ⟨2, _⟩ => ?_))).trans (weight_at x1 x2 n 2 e))
  · show (n.val * 4 + e.val) / 4 = n.val; omega
  · rfl
  · show (n.val * 4 + e.val) % 4 = e.val; omega

theorem down_at_2 (e : Fin 4) (f : Fin 256) (d : Fin 1024) : val_main_v55 (F := Ideal) x7 (ix3 e f d) = x7 (ix4 (2 : Fin 4) e f d) := by
  have he := e.isLt
  have hf := f.isLt
  have hd := d.isLt
  rw [val_main_v55_apply, val_main_v54_apply]
  refine congrArg x7 (funext fun a => Fin.ext (match a with
    | ⟨0, _⟩ => rfl
    | ⟨1, _⟩ => by show ((e.val * 256 + f.val) * 1024 + d.val) / 262144 % 4 = e.val; omega
    | ⟨2, _⟩ => by show ((e.val * 256 + f.val) * 1024 + d.val) / 1024 % 256 = f.val; omega
    | ⟨3, _⟩ => by show ((e.val * 256 + f.val) * 1024 + d.val) % 1024 = d.val; omega))

/-- Group 2's share of a row. -/
theorem term_at_2 (n : Fin 46080) (d : Fin 1024) : val_main_v56 (F := Ideal) x0 x1 x2 x5 x6 x7 (ix2 n d) = term x0 x1 x2 x5 x6 x7 2 n d := by
  unfold val_main_v56
  refine (dot2 _ _ n d).trans (Finset.sum_congr rfl fun e _ => Finset.sum_congr rfl fun f _ => ?_)
  rw [gated_at_2, down_at_2]

theorem gate_at_3 (n : Fin 46080) (e : Fin 4) (f : Fin 256) : val_main_v60 (F := Ideal) x0 x5 (ix3 n e f) = up x0 x5 3 n e f := by
  have he := e.isLt
  have hf := f.isLt
  rw [val_main_v60_apply]
  refine Finset.sum_congr rfl fun k _ => congrArg₂ (· * ·) (congrArg x0 (funext fun a => match a with | ⟨0, _⟩ => rfl | ⟨1, _⟩ => rfl)) ?_
  have hk := k.isLt
  rw [val_main_v59_apply, val_main_v58_apply]
  refine congrArg x5 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem up_at_3 (n : Fin 46080) (e : Fin 4) (f : Fin 256) : val_main_v63 (F := Ideal) x0 x6 (ix3 n e f) = up x0 x6 3 n e f := by
  have he := e.isLt
  have hf := f.isLt
  rw [val_main_v63_apply]
  refine Finset.sum_congr rfl fun k _ => congrArg₂ (· * ·) (congrArg x0 (funext fun a => match a with | ⟨0, _⟩ => rfl | ⟨1, _⟩ => rfl)) ?_
  have hk := k.isLt
  rw [val_main_v62_apply, val_main_v61_apply]
  refine congrArg x6 (funext fun a => Fin.ext (match a with
    | ⟨0, _⟩ => rfl
    | ⟨1, _⟩ => by show ((e.val * 1024 + k.val) * 256 + f.val) / 262144 % 4 = e.val; omega
    | ⟨2, _⟩ => by show ((e.val * 1024 + k.val) * 256 + f.val) / 256 % 1024 = k.val; omega
    | ⟨3, _⟩ => by show ((e.val * 1024 + k.val) * 256 + f.val) % 256 = f.val; omega))

theorem hid_at_3 (n : Fin 46080) (e : Fin 4) (f : Fin 256) : val_main_v65 (F := Ideal) x0 x5 x6 (ix3 n e f) = hid x0 x5 x6 3 n e f := by
  rw [val_main_v65_apply, val_main_v64_apply, val_main_call4_v5_apply, val_main_call4_v4_apply, val_main_call4_cst_0_apply, val_main_call4_v3_apply,
    val_main_call4_v2_apply, val_main_call4_cst_apply, val_main_call4_v1_apply, val_main_call4_v0_apply, gate_at_3, up_at_3]
  show (_ * Ideal.div (Ideal.ofBits .f32 0x3F800000#32) (Ideal.ofBits .f32 0x3F800000#32 + _)) * _ = _
  rw [Ideal.ofBits_one_f32]
  rfl

theorem gated_at_3 (n : Fin 46080) (e : Fin 4) (f : Fin 256) : val_main_v70 (F := Ideal) x0 x1 x2 x5 x6 (ix3 n e f)
    = hid x0 x5 x6 3 n e f * (hot x1 n 3 * x2 (ix2 n e)) := by
  have he := e.isLt
  have hn := n.isLt
  rw [val_main_v70_apply, hid_at_3, val_main_v69_apply, val_main_v68_apply, val_main_v67_apply, val_main_v66_apply]
  refine congrArg (hid x0 x5 x6 3 n e f * ·) ((congrArg (val_main_v5 (F := Ideal) x1 x2) (funext fun a => Fin.ext (match a with
    | ⟨0, _⟩ => ?_ | ⟨1, _⟩ => ?_ | ⟨2, _⟩ => ?_))).trans (weight_at x1 x2 n 3 e))
  · show (n.val * 4 + e.val) / 4 = n.val; omega
  · rfl
  · show (n.val * 4 + e.val) % 4 = e.val; omega

theorem down_at_3 (e : Fin 4) (f : Fin 256) (d : Fin 1024) : val_main_v72 (F := Ideal) x7 (ix3 e f d) = x7 (ix4 (3 : Fin 4) e f d) := by
  have he := e.isLt
  have hf := f.isLt
  have hd := d.isLt
  rw [val_main_v72_apply, val_main_v71_apply]
  refine congrArg x7 (funext fun a => Fin.ext (match a with
    | ⟨0, _⟩ => rfl
    | ⟨1, _⟩ => by show ((e.val * 256 + f.val) * 1024 + d.val) / 262144 % 4 = e.val; omega
    | ⟨2, _⟩ => by show ((e.val * 256 + f.val) * 1024 + d.val) / 1024 % 256 = f.val; omega
    | ⟨3, _⟩ => by show ((e.val * 256 + f.val) * 1024 + d.val) % 1024 = d.val; omega))

/-- Group 3's share of a row. -/
theorem term_at_3 (n : Fin 46080) (d : Fin 1024) : val_main_v73 (F := Ideal) x0 x1 x2 x5 x6 x7 (ix2 n d) = term x0 x1 x2 x5 x6 x7 3 n d := by
  unfold val_main_v73
  refine (dot2 _ _ n d).trans (Finset.sum_congr rfl fun e _ => Finset.sum_congr rfl fun f _ => ?_)
  rw [gated_at_3, down_at_3]

/-- The reference's result at an index: the four groups' shares. -/
theorem result_at (n : Fin 46080) (d : Fin 1024) : val_main_v75 (F := Ideal) x0 x1 x2 x5 x6 x7 (ix2 n d)
    = ∑ g : Fin 4, term x0 x1 x2 x5 x6 x7 g n d := by
  rw [val_main_v75_apply, val_main_v74_apply, val_main_v57_apply, val_main_v40_apply, val_main_v23_apply, val_main_v6_apply, val_main_cst_apply,
    term_at_0, term_at_1, term_at_2, term_at_3]
  show (((Ideal.ofBits .f32 0x00000000#32 + _) + _) + _) + _ = _
  rw [Ideal.ofBits_zero_f32, zero_add, Fin.sum_univ_four]

/-- A group the row is not of adds nothing. -/
theorem term_other (g : Fin 4) (n : Fin 46080) (d : Fin 1024) (h : x1 (ix1 n) ≠ BitVec.ofNat 32 g.val) : term x0 x1 x2 x5 x6 x7 g n d = 0 := by
  have h0 : hot x1 n g = 0 := by
    unfold hot
    rw [eq_zero_of_ne_one (fun h1 => h (IntOp.cmpi_eq.1 h1))]
    simp
  refine Finset.sum_eq_zero fun e _ => Finset.sum_eq_zero fun f _ => ?_
  rw [h0, zero_mul, mul_zero, zero_mul]

/-- A row of group `g` has that group's experts' sum. -/
theorem result_of_group (g : Fin 4) (n : Fin 46080) (d : Fin 1024) (h : x1 (ix1 n) = BitVec.ofNat 32 g.val) :
    val_main_v75 (F := Ideal) x0 x1 x2 x5 x6 x7 (ix2 n d)
      = ∑ e : Fin 4, ∑ f : Fin 256, (hid x0 x5 x6 g n e f * x2 (ix2 n e)) * x7 (ix4 g e f d) := by
  rw [result_at, Finset.sum_eq_single g (fun b _ hb => term_other _ _ _ _ _ _ b n d fun hc => hb (by
    have := congrArg BitVec.toNat (h.symm.trans hc)
    have hg := g.isLt
    have hbl := b.isLt
    simp only [BitVec.toNat_ofNat] at this
    exact Fin.ext (by omega))) (fun hg => absurd (Finset.mem_univ g) hg)]
  have h1 : hot x1 n g = 1 := by
    unfold hot
    rw [IntOp.cmpi_eq.2 h]
    simp
  unfold term
  simp only [h1, one_mul]

/-- A row whose gates are all zero has zero. -/
theorem result_of_zero (n : Fin 46080) (d : Fin 1024) (h : ∀ e : Fin 4, x2 (ix2 n e) = 0) :
    val_main_v75 (F := Ideal) x0 x1 x2 x5 x6 x7 (ix2 n d) = 0 := by
  rw [result_at]
  refine Finset.sum_eq_zero fun g _ => Finset.sum_eq_zero fun e _ => Finset.sum_eq_zero fun f _ => ?_
  rw [h e, mul_zero, mul_zero, zero_mul]

end Cert.ExpRef

end
-- ==== Proof.Exp.Fin.lean ====
module

public import proofs.«01_k».proof.Proof.Exp.Frame
public import proofs.«01_k».proof.Proof.Exp.Ok
public import proofs.«01_k».proof.Proof.Exp.Val
public import proofs.«01_k».proof.Proof.Exp.Arr
public import proofs.«01_k».proof.Proof.Exp.Ref
public import Idealize.ShloMosaic.Lib.Pipeline.ValueKit.Geometry
public import Idealize.ShloMosaic.Lib.Pipeline.Covers

@[expose] public section

set_option maxRecDepth 16384

noncomputable section

namespace Cert.ExpFin

open Cert.Kernel2Ideal Cert.Kernel2Ideal.Gen Idealize.ShloMosaic Idealize.ShloMosaic.TcCoe Idealize.ShloMosaic.ValueIdx
open Idealize.SL.Sem
open Cert.Exp Cert.ExpArr
open Cert.Reference2Ideal.Read (val_main_v75)
open scoped BigOperators

variable (m : (ℓ : Loc nD τ sig) → Buf (Elt Ideal) ℓ)

/-- The point's grid coordinate. -/
abbrev crd (hO : Ok m) (t : Fin (cfgM m hO).N) : grid0.Coords := grid0.coords t

theorem word_nat (i : grid0.Coords) : (BitVec.ofNat 32 (i 0).val).toNat = (i 0).val := by
  have hi : (i 0).val < 90 := (i 0).isLt
  rw [BitVec.toNat_ofNat]; omega

/-- The result's blocks cover it. -/
theorem covers (hO : Ok m) : ((cfgM m hO).win 4).Covers :=
  Pipeline.Window.covers_of_indexMap_surj _ rfl (fun a => match a with | ⟨0, _⟩ => by show 0 < 512; omega | ⟨1, _⟩ => by show 0 < 1024; omega)
    (fun β => by
      have p0 : 0 < ((cfgM m hO).win 4).shape.rank := by show 0 < 2; decide
      have p1 : 1 < ((cfgM m hO).win 4).shape.rank := by show 1 < 2; decide
      have h0 : (β (⟨0, p0⟩)).val < (46080 + 512 - 1) / 512 := (β (⟨0, p0⟩)).isLt
      have h1 : (β (⟨1, p1⟩)).val < (1024 + 1024 - 1) / 1024 := (β (⟨1, p1⟩)).isLt
      have h0' : (β (⟨0, p0⟩)).val < 90 := by omega
      refine ⟨fun a => match a with | ⟨0, _⟩ => (⟨_, h0'⟩ : Fin 90), fun a => ?_⟩
      match a with
      | ⟨0, _⟩ => exact word_nat (fun a => match a with | ⟨0, _⟩ => (⟨_, h0'⟩ : Fin 90))
      | ⟨1, _⟩ => exact (Nat.lt_one_iff.mp (by omega)).symm)

/-- The rows' block at a used tile. -/
theorem blk_x (h1 : 1 ≤ (NU m (ix1 (0 : Fin 1))).toNat) (h2 : (NU m (ix1 (0 : Fin 1))).toNat ≤ 90)
    (hO : Ok m) (t : Fin (cfgM m hO).N) (hu : (crd m hO t 0).val < (NU m (ix1 (0 : Fin 1))).toNat)
    (r : Fin 512) (l : Fin 1152) (n : Fin 46080) (hn : n.val = (crd m hO t 0).val * 512 + r.val) :
    iblk m hO 0 0 t (ix2 r l) = xArr (XR m 0) (GA m 0) (ix2 n l) := by
  rw [← V_x]
  unfold iblk
  have hix : ((cfgM m hO).win 0).index t = ![min (crd m hO t 0).val ((NU m (ix1 (0 : Fin 1))).toNat - 1), 0] := index_0 m (crd m hO t) h1 h2
  refine congrArg (V m 0 main_v5) (funext fun x => Fin.ext ((((cfgM m hO).win 0).rect_emb_val t _ x).trans ?_))
  rw [hix]
  match x with
  | ⟨0, _⟩ => show min (crd m hO t 0).val ((NU m (ix1 (0 : Fin 1))).toNat - 1) * 512 + r.val = n.val; rw [Nat.min_eq_left (by omega)]; omega
  | ⟨1, _⟩ => show 0 * 1152 + l.val = l.val; omega

/-- The group of the tile at a point. -/
abbrev grp (hO : Ok m) (t : Fin (cfgM m hO).N) : BitVec 32 :=
  TG m (ix1 (⟨min (crd m hO t 0).val ((NU m (ix1 (0 : Fin 1))).toNat - 1), by have := (crd m hO t 0).isLt; have : (crd m hO t 0).val < 90 := this; omega⟩ : Fin 90))

/-- The first projection's block: the tile's group. -/
theorem blk_g (h1 : 1 ≤ (NU m (ix1 (0 : Fin 1))).toNat) (h2 : (NU m (ix1 (0 : Fin 1))).toNat ≤ 90)
    (hO : Ok m) (t : Fin (cfgM m hO).N) (g : Fin 4) (hg : g.val = (grp m hO t).toNat) (k l : Fin 1024) :
    iblk m hO 0 1 t (ix3 (0 : Fin 1) k l) = wArr (WG m 0) (ix3 g k l) := by
  rw [← V_g]
  unfold iblk
  have hix : ((cfgM m hO).win 1).index t = ![(grp m hO t).toNat, 0, 0] := index_1 m (crd m hO t) h1 h2
  refine congrArg (V m 0 main_v8) (funext fun x => Fin.ext ((((cfgM m hO).win 1).rect_emb_val t _ x).trans ?_))
  rw [hix]
  match x with
  | ⟨0, _⟩ => show (grp m hO t).toNat * 1 + 0 = g.val; omega
  | ⟨1, _⟩ => show 0 * 1024 + k.val = k.val; omega
  | ⟨2, _⟩ => show 0 * 1024 + l.val = l.val; omega

/-- The second projection's block. -/
theorem blk_u (h1 : 1 ≤ (NU m (ix1 (0 : Fin 1))).toNat) (h2 : (NU m (ix1 (0 : Fin 1))).toNat ≤ 90)
    (hO : Ok m) (t : Fin (cfgM m hO).N) (g : Fin 4) (hg : g.val = (grp m hO t).toNat) (k l : Fin 1024) :
    iblk m hO 0 2 t (ix3 (0 : Fin 1) k l) = wArr (WU m 0) (ix3 g k l) := by
  rw [← V_u]
  unfold iblk
  have hix : ((cfgM m hO).win 2).index t = ![(grp m hO t).toNat, 0, 0] := index_1 m (crd m hO t) h1 h2
  refine congrArg (V m 0 main_v11) (funext fun x => Fin.ext ((((cfgM m hO).win 2).rect_emb_val t _ x).trans ?_))
  rw [hix]
  match x with
  | ⟨0, _⟩ => show (grp m hO t).toNat * 1 + 0 = g.val; omega
  | ⟨1, _⟩ => show 0 * 1024 + k.val = k.val; omega
  | ⟨2, _⟩ => show 0 * 1024 + l.val = l.val; omega

/-- The output projection's block. -/
theorem blk_d (h1 : 1 ≤ (NU m (ix1 (0 : Fin 1))).toNat) (h2 : (NU m (ix1 (0 : Fin 1))).toNat ≤ 90)
    (hO : Ok m) (t : Fin (cfgM m hO).N) (g : Fin 4) (hg : g.val = (grp m hO t).toNat) (k l : Fin 1024) :
    iblk m hO 0 3 t (ix3 (0 : Fin 1) k l) = dArr (WD m 0) (ix3 g k l) := by
  rw [← V_d]
  unfold iblk
  have hix : ((cfgM m hO).win 3).index t = ![(grp m hO t).toNat, 0, 0] := index_1 m (crd m hO t) h1 h2
  refine congrArg (V m 0 main_v13) (funext fun x => Fin.ext ((((cfgM m hO).win 3).rect_emb_val t _ x).trans ?_))
  rw [hix]
  match x with
  | ⟨0, _⟩ => show (grp m hO t).toNat * 1 + 0 = g.val; omega
  | ⟨1, _⟩ => show 0 * 1024 + k.val = k.val; omega
  | ⟨2, _⟩ => show 0 * 1024 + l.val = l.val; omega

/-- The word the body reads is the number of used tiles. -/
theorem nuWord_eq : nuWord (F := Ideal) 0 (tbl m 1) = NU m (ix1 (0 : Fin 1)) := by
  rw [← tbl_1]
  exact congrArg (tbl m 1) (funext fun a => Fin.ext (match a with | ⟨0, _⟩ => rfl))

/-- The experts' result of the launched arrays. -/
abbrev ref : FVec Ideal S46080x1024 .bf16 := val_main_v75 (F := Ideal) (XR m 0) (GI m 0) (GA m 0) (WG m 0) (WU m 0) (WD m 0)

/-- What a point leaves at a row and a column of its block is the reference's element there. -/
theorem block_eq (hO : Ok m) (hA : Cert.ExpPre.A (TG m)) (hB : Cert.ExpPre.B (NU m)) (hC : Cert.ExpPre.C (GI m 0) (TG m) (NU m))
    (hD : Cert.ExpPre.D (GA m 0) (NU m)) (hE : Cert.ExpPre.E (GA m 0)) (t : Fin (cfgM m hO).N) (r : Fin 512) (d : Fin 1024)
    (n : Fin 46080) (hn : n.val = (crd m hO t 0).val * 512 + r.val) :
    outsAt0 m hO 0 t (ix2 r d) = ref m (ix2 n d) := by
  obtain ⟨h1, h2⟩ := Cert.ExpPre.nu_le _ hB
  have hi : (crd m hO t 0).val < 90 := (crd m hO t 0).isLt
  unfold outsAt0
  rw [nuWord_eq]
  by_cases hu : (crd m hO t 0).val < (NU m (ix1 (0 : Fin 1))).toNat
  · have hlt : (grp m hO t).toNat < 4 := Cert.ExpPre.tg_lt _ hA _
    have hgrp : grp m hO t = TG m (ix1 (⟨(crd m hO t 0).val, hi⟩ : Fin 90)) :=
      congrArg (TG m) (congrArg (ix1 (n := 90)) (Fin.ext (Nat.min_eq_left (by omega))))
    have hrow : GI m 0 (ix1 n) = BitVec.ofNat 32 (⟨(grp m hO t).toNat, hlt⟩ : Fin 4).val := by
      rw [Cert.ExpPre.row_group _ _ _ hB hC (⟨(crd m hO t 0).val, hi⟩ : Fin 90) r n hn hu, ← hgrp]
      exact BitVec.eq_of_toNat_eq (by rw [BitVec.toNat_ofNat]; exact (Nat.mod_eq_of_lt (grp m hO t).isLt).symm)
    refine Eq.trans ?_ (Cert.ExpRef.result_of_group (XR m 0) (GI m 0) (GA m 0) (WG m 0) (WU m 0) (WD m 0) _ n d hrow).symm
    refine (Cert.ExpVal.used_val (crd m hO t) _ _ _ _ _ ((Cert.ExpVal.cond_iff _ _ h2).2 hu) r d
      (fun k => XR m 0 (ix2 n k)) (fun e => GA m 0 (ix2 n e)) (fun e k f => WG m 0 (ix4 (⟨(grp m hO t).toNat, hlt⟩ : Fin 4) e k f)) (fun e k f => WU m 0 (ix4 (⟨(grp m hO t).toNat, hlt⟩ : Fin 4) e k f))
      (fun e f => WD m 0 (ix4 (⟨(grp m hO t).toNat, hlt⟩ : Fin 4) e f d)) ?_ ?_ ?_ ?_ ?_).trans rfl
    · exact fun k k' hk => (blk_x m h1 h2 hO t hu r k' n hn).trans (xArr_row _ _ n k k' hk)
    · exact fun e a b ha hb => (congrArg₂ (fun p q : EReal => p + q) (blk_x m h1 h2 hO t hu r a n hn) (blk_x m h1 h2 hO t hu r b n hn)).trans
        (xArr_gate _ _ n e a b ha hb (Cert.ExpPre.gate_real _ hE _))
    · exact fun e k f l hl => (blk_g m h1 h2 hO t (⟨(grp m hO t).toNat, hlt⟩ : Fin 4) rfl k l).trans (wArr_apply _ _ e k f l hl)
    · exact fun e k f l hl => (blk_u m h1 h2 hO t (⟨(grp m hO t).toNat, hlt⟩ : Fin 4) rfl k l).trans (wArr_apply _ _ e k f l hl)
    · exact fun e f l hl => (blk_d m h1 h2 hO t (⟨(grp m hO t).toNat, hlt⟩ : Fin 4) rfl l d).trans (dArr_apply _ _ e f l d hl)
  · refine (Cert.ExpVal.unused_val (crd m hO t) _ _ _ _ _ (fun hc => hu ((Cert.ExpVal.cond_iff _ _ h2).1 hc)) _).trans ?_
    exact (Cert.ExpRef.result_of_zero (XR m 0) (GI m 0) (GA m 0) (WG m 0) (WU m 0) (WD m 0) n d
      (fun e => Cert.ExpPre.gate_zero _ _ hB hD (⟨(crd m hO t 0).val, hi⟩ : Fin 90) r n hn hu e)).symm

/-- The result array after the run is the reference's. -/
theorem final (hO : Ok m) (hA : Cert.ExpPre.A (TG m)) (hB : Cert.ExpPre.B (NU m)) (hC : Cert.ExpPre.C (GI m 0) (TG m) (NU m))
    (hD : Cert.ExpPre.D (GA m 0) (NU m)) (hE : Cert.ExpPre.E (GA m 0)) :
    (dats m hO 0 0).arrAt 4 (cfgM m hO).N = ref m := by
  refine (dats m hO 0 0).arrAt_eq_of_covers 4 _ (covers m hO) fun t hf y => ?_
  have hi : (crd m hO t 0).val < 90 := (crd m hO t 0).isLt
  obtain ⟨z, hz⟩ : ∃ z : S512x1024.Idx, z = y := ⟨y, rfl⟩
  have hy0 : (z 0).val < 512 := (z 0).isLt
  have hy1 : (z 1).val < 1024 := (z 1).isLt
  have hix : ((cfgM m hO).win 4).index t = ![(crd m hO t 0).val, 0] := congrArg (fun a : ℕ => ![a, 0]) (word_nat (crd m hO t))
  have e : (((cfgM m hO).win 4).blk t).view.emb y = ix2 (⟨(crd m hO t 0).val * 512 + (z 0).val, by omega⟩ : Fin 46080) (⟨(z 1).val, hy1⟩ : Fin 1024) :=
    funext fun x => Fin.ext ((((cfgM m hO).win 4).rect_emb_val t y x).trans (by
      rw [hix, ← hz]
      match x with
      | ⟨0, _⟩ => rfl
      | ⟨1, _⟩ => show 0 * 1024 + (z 1).val = (z 1).val; omega))
  rw [e]
  refine Eq.trans ?_ (block_eq m hO hA hB hC hD hE t (⟨(z 0).val, hy0⟩ : Fin 512) (⟨(z 1).val, hy1⟩ : Fin 1024) _ rfl)
  show (dats m hO 0 0).after 4 t _ = _
  rw [after0_4]
  refine congrArg (outsAt0 m hO 0 t) (Eq.trans ?_ (eq_ix2 z))
  exact hz.symm

end Cert.ExpFin

end
-- ==== Proof.Exp.Plain.lean ====
module

public import proofs.«01_k».proof.Proof.Exp.Frame
public import proofs.«01_k».proof.Proof.Gen.Kernel2.Launch
public import proofs.«01_k».proof.Defs
public import Idealize.ShloMosaic.Lib.Tactic

@[expose] public section

set_option maxRecDepth 65536

noncomputable section

namespace Cert.Exp

open Idealize.ShloMosaic Idealize.ShloMosaic.TcCoe Idealize.ShloMosaic.Tactic Idealize.SL.Sem

variable {F : FTy → Type} [FloatOps F]

theorem main_same : Cert.Kernel2.main (F := F) = Cert.Kernel2Ideal.main (F := F) := by
  funext c
  rw [Cert.Kernel2.Gen.main_chain, Cert.Kernel2Ideal.Gen.main_chain]
  rfl
theorem defs_same : Cert.Kernel2.defs (F := F) = Cert.Kernel2Ideal.defs (F := F) := by sl_kernel_rfl

end Cert.Exp

end
-- ==== Proof.Exp.Claims.lean ====
module

public import proofs.«01_k».proof.Proof.Exp.Fin
public import proofs.«01_k».proof.Proof.Exp.Plain
public import proofs.«01_k».proof.Proof.Gen.Reference2Ideal.Run
public import Idealize.ShloMosaic.Lib.Quiescent
public import Idealize.ShloMosaic.Lib.Claim

@[expose] public section

set_option maxRecDepth 65536

noncomputable section

namespace Cert.ExpClaims

open Idealize.ShloMosaic Idealize.ShloMosaic.TcCoe Idealize.SL.Sem

/-- The kernel as printed runs, leaves its arguments as they were and every counter at zero. -/
theorem quiescent_k : Cert.quiescent_Kernel2 := by
  intro m g hpre
  obtain ⟨hA, hB, -, -, -⟩ := Cert.ExpPre.parts _ _ _ _ _ _ _ _ (hpre 0)
  rw [Cert.Exp.main_same, Cert.Exp.defs_same]
  exact Cert.Exp.frame (F := Bits) m g (Cert.Exp.ok m hA hB)

/-- The idealized kernel runs, leaves its arguments as they were and every counter at zero. -/
theorem quiescent_ki : Cert.quiescent_Kernel2Ideal := by
  intro m g hpre
  obtain ⟨hA, hB, -, -, -⟩ := Cert.ExpPre.parts _ _ _ _ _ _ _ _ (hpre 0)
  exact Cert.Exp.frame (F := Ideal) m g (Cert.Exp.ok m hA hB)

/-- The reference runs, leaves its arguments as they were and every counter at zero. -/
theorem ref_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0) :=
  (θ_run _ _ _).mono (fun r h => ⟨fun c => (h c).2, sem_eq_zero_of_no_sems (by decide) r.2⟩) (Cert.Reference2Ideal.Value.run (F := Ideal) m g)

theorem quiescent_ri : Cert.quiescent_Reference2Ideal := fun m g _ => ref_frame m g
theorem quiescent_ri_pre : Cert.quiescent_Reference2Ideal_pre_routed := fun m g _ => ref_frame m g

theorem dev (c : Dev Cert.Kernel2Ideal.nD) : c = 0 := by revert c; decide

/-- From equal arguments whose tables fit the rows, the kernel and the reference end with equal results. -/
theorem algebraic : Cert.algebraic_Kernel2Ideal_Reference2Ideal := by
  intro m g m' g' hpre hag
  obtain ⟨hA, hB, hC, hD, hE⟩ := Cert.ExpPre.parts _ _ _ _ _ _ _ _ (hpre 0)
  have hO := Cert.Exp.ok m hA hB
  refine ⟨fun c => Cert.Reference2Ideal.Read.val_main_v75 (F := Ideal) (Cert.ExpArr.XR m c) (Cert.ExpArr.GI m c) (Cert.ExpArr.GA m c) (Cert.ExpArr.WG m c)
    (Cert.ExpArr.WU m c) (Cert.ExpArr.WD m c), ?_, ?_⟩
  · refine (θ_run _ _ _).mono (fun r h c => ⟨?_, h.2 c⟩) (θ_run_and (Cert.Exp.run_main m g hO) (Cert.Exp.unchanged m g hO))
    obtain rfl := dev c
    exact ((h.1 0).1 4).trans (Cert.ExpFin.final m hO hA hB hC hD hE)
  · refine (θ_run _ _ _).mono (fun r h c => ⟨(h c).1.trans ?_, (h c).2⟩) (Cert.Reference2Ideal.Value.run (F := Ideal) m' g')
    obtain ⟨h0, h1, h2, h3, h4, h5, h6, h7⟩ := hag c
    rw [Cert.Reference2Ideal.Read.val_main_v75_eq, h0, h1, h2, h5, h6, h7]

end Cert.ExpClaims

end
-- ==== Proof.Inp.Kit.lean ====
module

public import Idealize.ShloMosaic.Lib.Pipeline.Value
public import Idealize.ShloMosaic.Lib.ValueIdx
public import Idealize.ShloMosaic.Lib.ValueIdxCoords
public import Idealize.ShloMosaic.Lib.MatmulPlain
public import Idealize.ShloMosaic.Lib.KernelVsHost

@[expose] public section

set_option maxRecDepth 16384

noncomputable section

namespace Cert.Tok

open Idealize.ShloMosaic Idealize.ShloMosaic.ValueIdx
open scoped BigOperators

/-- A row divided by the root of its mean square, times the weights. -/
def rms {N : Nat} (n eps : EReal) (x w : Fin N → EReal) (k : Fin N) : EReal :=
  x k * Ideal.rsqrt (Ideal.div (∑ j, x j * x j) n + eps) * w k

/-- A row normalised, scaled by one plus `sc` and moved by `sh`. -/
def nm (x w sc sh : Fin 1024 → EReal) (k : Fin 1024) : EReal :=
  rms (Ideal.ofBits .f32 0x44800000#32) (Ideal.ofBits .f32 0x358637BD#32) x w k * (Ideal.ofBits .f32 0x3F800000#32 + sc k) + sh k

theorem nm_congr {x x' w w' sc sc' sh sh' : Fin 1024 → EReal} (hx : x = x') (hw : w = w') (hc : sc = sc') (hs : sh = sh') (k : Fin 1024) :
    nm x w sc sh k = nm x' w' sc' sh' k := by subst hx hw hc hs; rfl

/-- The tokens of a sequence: 256 context tokens, then 4096 latent ones. -/
def tok {N : Nat} (ctx : Fin 256 → Fin N → EReal) (lat : Fin 4096 → Fin N → EReal) (r : Fin 4352) (k : Fin N) : EReal :=
  if h : r.val < 256 then ctx ⟨r.val, h⟩ k else lat ⟨r.val - 256, by have := r.isLt; omega⟩ k

theorem tok_ctx {N : Nat} (ctx : Fin 256 → Fin N → EReal) (lat : Fin 4096 → Fin N → EReal) (r : Fin 4352) (k : Fin N) (s : Fin 256)
    (h : r.val = s.val) : tok ctx lat r k = ctx s k := by
  have hs := s.isLt
  unfold tok
  rw [dif_pos (by omega)]
  exact congrArg (ctx · k) (Fin.ext h)

theorem tok_lat {N : Nat} (ctx : Fin 256 → Fin N → EReal) (lat : Fin 4096 → Fin N → EReal) (r : Fin 4352) (k : Fin N) (s : Fin 4096)
    (h : r.val = 256 + s.val) : tok ctx lat r k = lat s k := by
  unfold tok
  rw [dif_neg (by omega)]
  exact congrArg (lat · k) (Fin.ext (by show r.val - 256 = s.val; omega))

/-- The tokens' rows of batch entry `b`. -/
def hv (ctx : FVec Ideal ⟨3, ![8, 256, 1024]⟩ .f32) (lat : FVec Ideal ⟨3, ![8, 4096, 1024]⟩ .f32) (b : Fin 8) (r : Fin 4352) (k : Fin 1024) : EReal :=
  tok (fun s k => ctx (ix3 b s k)) (fun s k => lat (ix3 b s k)) r k

/-- The column of the projection that column `n` of the first result holds: first 1024 from 3584, then 2560 from the start. -/
def colA (n : Fin 3584) : Fin 5680 :=
  if h : n.val < 1024 then ⟨3584 + n.val, by have := n.isLt; omega⟩ else ⟨n.val - 1024, by have := n.isLt; omega⟩

/-- The column that column `n` of the second result holds: 1024 from 2560, then 1024 from 4608. -/
def colB (n : Fin 2048) : Fin 5680 :=
  if h : n.val < 1024 then ⟨2560 + n.val, by have := n.isLt; omega⟩ else ⟨3584 + n.val, by have := n.isLt; omega⟩

/-- The modulation's vector number `q` of a token: the context tokens share the one row, the latent ones read their batch entry's. -/
def mv (mc : FVec Ideal ⟨2, ![1, 6144]⟩ .f32) (ml : FVec Ideal ⟨2, ![8, 6144]⟩ .f32) (q : Fin 6) (b : Fin 8) (r : Fin 4352) (k : Fin 1024) : EReal :=
  if r.val < 256 then mc (ix2 (0 : Fin 1) (⟨1024 * q.val + k.val, by have := q.isLt; have := k.isLt; omega⟩ : Fin 6144))
  else ml (ix2 b (⟨1024 * q.val + k.val, by have := q.isLt; have := k.isLt; omega⟩ : Fin 6144))

end Cert.Tok

end
-- ==== Proof.Inp.Body.lean ====
module

public import proofs.«01_k».proof.Proof.Inp.Kit
public import proofs.«01_k».proof.Proof.Gen.Kernel3Ideal.Frame
public import proofs.«01_k».proof.Proof.Gen.Kernel3Ideal.Value
public import Idealize.ShloMosaic.Lib.Pipeline.ValueKit.Tiles

@[expose] public section

set_option maxRecDepth 16384

noncomputable section

namespace Cert.InpBody

open Cert.Kernel3Ideal Cert.Kernel3Ideal.Gen Idealize.ShloMosaic Idealize.ShloMosaic.TcCoe Idealize.ShloMosaic.ValueIdx
open Cert.Tok
open scoped BigOperators

/-- The rows' sums of squares. -/
theorem sumsq_apply (x : FVec Ideal S256x1024 .f32) (r : Fin 256) :
    multiReduction .add [1] S256 (mulf x x) 0x00000000#32 reduces_S256x1024_S256 (.inl rfl) rfl (ix1 r)
      = ∑ j : Fin 1024, x (ix2 r j) * x (ix2 r j) := by
  refine (Ideal.multiReduction_add_single (s := S256x1024) (t := S256) (a := 1) (mulf x x) _ reduces_S256x1024_S256 (.inl rfl) rfl (ix1 r)).trans ?_
  refine Finset.sum_congr rfl fun j _ => ?_
  have e : reduces_S256x1024_S256.lift (ix1 r) j = ix2 r j := funext fun b => Fin.ext (match b with | ⟨0, _⟩ => rfl | ⟨1, _⟩ => rfl)
  rw [e]; rfl

/-- The body's left operand at a row and a column: the block's row normalised and modulated. -/
theorem norm_apply (v0 : Vec Ideal S1x256x1024 .f32) (v2 : Vec Ideal S1x1024 .f32) (v4 : Vec Ideal S1x1x6x1024 .f32) (r : Fin 256) (k : Fin 1024) :
    k0_pay4 v0 v2 v4 (ix2 r k) = nm (fun k => v0 (ix3 (0 : Fin 1) r k)) (fun k => v2 (ix2 (0 : Fin 1) k))
      (fun k => v4 (ix4 (0 : Fin 1) (0 : Fin 1) (1 : Fin 6) k)) (fun k => v4 (ix4 (0 : Fin 1) (0 : Fin 1) (0 : Fin 6) k)) k := by
  have ex : ∀ j : Fin 1024, shapeCast S256x1024 v0 shapeCasts_S1x256x1024_S256x1024 (ix2 r j) = v0 (ix3 (0 : Fin 1) r j) := fun j =>
    shapeCast_apply _ shapeCasts_S1x256x1024_S256x1024 (ix2 r j) (ix3 (0 : Fin 1) r j) (by
      rw [Shape.rowMajor_val_two, Shape.rowMajor_val_three]
      show (0 * 256 + r.val) * 1024 + j.val = r.val * 1024 + j.val; omega)
  have em : ∀ (o : Nat) (h : S6x1024.Slices ![o, 0] S1x1024) (q : Fin 6), q.val = o →
      extractStridedSlice S1x1024 ![o, 0] (shapeCast S6x1024 v4 shapeCasts_S1x1x6x1024_S6x1024) h (ix2 (0 : Fin 1) k)
        = v4 (ix4 (0 : Fin 1) (0 : Fin 1) q k) := by
    intro o h q hq
    refine (extractStridedSlice_apply ![o, 0] _ h (ix2 (0 : Fin 1) k) (ix2 q k) (fun a => match a with
      | ⟨0, _⟩ => by show q.val = o + 0; omega
      | ⟨1, _⟩ => by show k.val = 0 + k.val; omega)).trans ?_
    exact shapeCast_apply _ shapeCasts_S1x1x6x1024_S6x1024 (ix2 q k) (ix4 (0 : Fin 1) (0 : Fin 1) q k) (by
      rw [Shape.rowMajor_val_two, Shape.rowMajor_val_four]
      show ((0 * 1 + 0) * 6 + q.val) * 1024 + k.val = q.val * 1024 + k.val; omega)
  have eb : ∀ (x : FVec Ideal S1x1024 .f32), broadcastTo S256x1024 x broadcasts_S1x1024_S256x1024 (ix2 r k) = x (ix2 (0 : Fin 1) k) := fun x =>
    broadcastTo_apply x broadcasts_S1x1024_S256x1024 (ix2 r k) (ix2 (0 : Fin 1) k) (fun b => match b with | ⟨0, _⟩ => rfl | ⟨1, _⟩ => rfl)
  have ec : ∀ (x : FVec Ideal S256x1 .f32), broadcastTo S256x1024 x broadcasts_S256x1_S256x1024 (ix2 r k) = x (ix2 r (0 : Fin 1)) := fun x =>
    broadcastTo_apply x broadcasts_S256x1_S256x1024 (ix2 r k) (ix2 r (0 : Fin 1)) (fun b => match b with | ⟨0, _⟩ => rfl | ⟨1, _⟩ => rfl)
  unfold k0_pay4 nm rms
  refine congrArg₂ (· + ·) (congrArg₂ (· * ·) (congrArg₂ (· * ·) (congrArg₂ (· * ·) (ex k) ?_) ?_) ?_) ?_
  · refine (ec _).trans (congrArg Ideal.rsqrt (congrArg (· + _) (congrArg (Ideal.div · _) ?_)))
    refine (shapeCast_apply _ shapeCasts_S256_S256x1 (ix2 r (0 : Fin 1)) (ix1 r) (by
      rw [Shape.rowMajor_val_two, Shape.rowMajor_val_one]; show r.val = r.val * 1 + 0; omega)).trans ?_
    refine (sumsq_apply _ r).trans (Finset.sum_congr rfl fun j _ => ?_)
    rw [ex j]
  · refine (eb _).trans ?_
    exact shapeCast_apply _ shapeCasts_S1x1024_S1x1024 (ix2 (0 : Fin 1) k) (ix2 (0 : Fin 1) k) rfl
  · exact (eb _).trans (congrArg (_ + ·) (em 1 _ 1 rfl))
  · exact (eb _).trans (em 0 _ 0 rfl)

/-- One store's tile: the left operand against 512 columns. -/
def tile (a : FVec Ideal S256x1024 .bf16) (w : Vec Ideal S1024x512 .bf16) : FVec Ideal S1x256x512 .bf16 :=
  shapeCast S1x256x512 (truncf .bf16 (matmul dot_S256x1024_S1024x512_S256x512_1_0_0_1_n_n none a
    (shapeCast S1024x512 w shapeCasts_S1024x512_S1024x512 : FVec Ideal S1024x512 .bf16) (constant S256x512 .f32 0x00000000#32)) bitsLt_bf16_f32) shapeCasts_S256x512_S1x256x512

theorem tile_apply (a : FVec Ideal S256x1024 .bf16) (w : Vec Ideal S1024x512 .bf16) (z : Fin 1) (r : Fin 256) (n : Fin 512) :
    tile a w (ix3 z r n) = ∑ k : Fin 1024, a (ix2 r k) * w (ix2 k n) := by
  unfold tile
  refine (shapeCast_apply _ shapeCasts_S256x512_S1x256x512 (ix3 z r n) (ix2 r n) (by
    rw [Shape.rowMajor_val_two, Shape.rowMajor_val_three]
    have := z.isLt
    show r.val * 512 + n.val = (z.val * 256 + r.val) * 512 + n.val; omega)).trans ?_
  refine (Ideal.matmul_plain_apply (M := 256) (K := 1024) (N := 512) none a _ _ r n).trans ?_
  refine (congrArg (· + _) Ideal.ofBits_zero_f32).trans ((zero_add _).trans (Finset.sum_congr rfl fun k _ => congrArg (a (ix2 r k) * ·) ?_))
  exact shapeCast_apply _ shapeCasts_S1024x512_S1024x512 (ix2 k n) (ix2 k n) rfl

/-- A store's tile whose weights are the columns from `o` of a weight block. -/
theorem piece {N : Nat} (a : FVec Ideal S256x1024 .bf16) (w : Vec Ideal ⟨2, ![1024, N]⟩ .bf16) (o : Nat)
    (hi : ∀ b : Fin 2, (![0, o] : Fin 2 → Nat) b + S1024x512.size b ≤ (⟨2, ![1024, N]⟩ : Shape).size b) (x : S1x256x512.Idx) (R : Fin 256) (n : Fin N)
    (hR : R.val = (x 1).val) (hn : n.val = o + (x 2).val) :
    tile a (View.ld w (Rect.unit (s := ⟨2, ![1024, N]⟩) ![0, o] S1024x512.size hi)) x = ∑ k : Fin 1024, a (ix2 R k) * w (ix2 k n) := by
  obtain rfl : R = x 1 := Fin.ext hR
  refine (congrArg (tile _ _) (eq_ix3 x)).trans ((tile_apply _ _ (x 0) (x 1) (x 2)).trans (Finset.sum_congr rfl fun k _ => congrArg (a (ix2 (x 1) k) * ·) ?_))
  exact View.ld_unit_apply_of (S := ⟨2, ![1024, N]⟩) w ![0, o] S1024x512.size hi (ix2 k (x 2)) (ix2 k n) (fun b => match b with
    | ⟨0, _⟩ => by show k.val = 0 + k.val; omega
    | ⟨1, _⟩ => hn)

/-- A result's block at a row and a column: the normalised, modulated row against a column of the weights. -/
def blockVal {N : Nat} (x0 : Vec Ideal S1x256x1024 .f32) (x1 : Vec Ideal S1x1x6x1024 .f32) (x2 : Vec Ideal S1x1024 .f32) (w : Vec Ideal ⟨2, ![1024, N]⟩ .bf16)
    (r : Fin 256) (n : Fin N) : EReal :=
  ∑ k : Fin 1024, nm (fun k => x0 (ix3 (0 : Fin 1) r k)) (fun k => x2 (ix2 (0 : Fin 1) k))
      (fun k => x1 (ix4 (0 : Fin 1) (0 : Fin 1) (1 : Fin 6) k)) (fun k => x1 (ix4 (0 : Fin 1) (0 : Fin 1) (0 : Fin 6) k)) k * w (ix2 k n)

variable (x0 : Vec Ideal S1x256x1024 .f32) (x1 : Vec Ideal S1x1x6x1024 .f32) (x2 : Vec Ideal S1x1024 .f32) (x3 : Vec Ideal S1024x3584 .bf16)
  (x4 : Vec Ideal S1024x2048 .bf16) (x5 : Vec Ideal S1024x128 .bf16)

/-- The body's left operand, its loads whole blocks. -/
theorem left_apply (r : Fin 256) (k : Fin 1024) : k0_pay17 x0 x1 x2 x3 x4 x5 (ix2 r k)
    = nm (fun k => x0 (ix3 (0 : Fin 1) r k)) (fun k => x2 (ix2 (0 : Fin 1) k))
      (fun k => x1 (ix4 (0 : Fin 1) (0 : Fin 1) (1 : Fin 6) k)) (fun k => x1 (ix4 (0 : Fin 1) (0 : Fin 1) (0 : Fin 6) k)) k := by
  unfold k0_pay17
  refine (norm_apply _ _ _ r k).trans (nm_congr (funext fun j => ?_) (funext fun j => ?_) (funext fun j => ?_) (funext fun j => ?_) k)
  · exact View.ld_unit_apply_of (S := S1x256x1024) x0 ![0, 0, 0] S1x256x1024.size inb_S1x256x1024_S1x256x1024_0_0_0 _ (ix3 (0 : Fin 1) r j) (fun b => match b with
      | ⟨0, _⟩ => rfl | ⟨1, _⟩ => by show r.val = 0 + r.val; omega | ⟨2, _⟩ => by show j.val = 0 + j.val; omega)
  · exact View.ld_unit_apply_of (S := S1x1024) x2 ![0, 0] S1x1024.size inb_S1x1024_S1x1024_0_0 _ (ix2 (0 : Fin 1) j) (fun b => match b with
      | ⟨0, _⟩ => rfl | ⟨1, _⟩ => by show j.val = 0 + j.val; omega)
  · exact View.ld_unit_apply_of (S := S1x1x6x1024) x1 ![0, 0, 0, 0] S1x1x6x1024.size inb_S1x1x6x1024_S1x1x6x1024_0_0_0_0 _ (ix4 (0 : Fin 1) (0 : Fin 1) (1 : Fin 6) j) (fun b => match b with
      | ⟨0, _⟩ => rfl | ⟨1, _⟩ => rfl | ⟨2, _⟩ => rfl | ⟨3, _⟩ => by show j.val = 0 + j.val; omega)
  · exact View.ld_unit_apply_of (S := S1x1x6x1024) x1 ![0, 0, 0, 0] S1x1x6x1024.size inb_S1x1x6x1024_S1x1x6x1024_0_0_0_0 _ (ix4 (0 : Fin 1) (0 : Fin 1) (0 : Fin 6) j) (fun b => match b with
      | ⟨0, _⟩ => rfl | ⟨1, _⟩ => rfl | ⟨2, _⟩ => rfl | ⟨3, _⟩ => by show j.val = 0 + j.val; omega)

theorem left_sum {N : Nat} (w : Vec Ideal ⟨2, ![1024, N]⟩ .bf16) (r : Fin 256) (n : Fin N) :
    ∑ k : Fin 1024, k0_pay17 x0 x1 x2 x3 x4 x5 (ix2 r k) * w (ix2 k n) = blockVal x0 x1 x2 w r n :=
  Finset.sum_congr rfl fun k _ => congrArg (· * _) (left_apply x0 x1 x2 x3 x4 x5 r k)

/-! The stores' payloads are the tile. -/

theorem p13 (a : FVec Ideal S256x1024 .bf16) (w : Vec Ideal S1024x512 .bf16) : k0_pay13 a w = tile a w := rfl
theorem p12 (a : FVec Ideal S256x1024 .bf16) (w : Vec Ideal S1024x512 .bf16) : k0_pay12 (k0_pay11 a w) = tile a w := rfl
theorem p10 (a : FVec Ideal S256x1024 .bf16) (w : Vec Ideal S1024x512 .bf16) : k0_pay10 a w = tile a w := rfl
theorem p9 (a : FVec Ideal S256x1024 .bf16) (w : Vec Ideal S1024x512 .bf16) : k0_pay9 a w = tile a w := rfl
theorem p8 (a : FVec Ideal S256x1024 .bf16) (w : Vec Ideal S1024x512 .bf16) : k0_pay8 a w = tile a w := rfl
theorem p7 (a : FVec Ideal S256x1024 .bf16) (w : Vec Ideal S1024x512 .bf16) : k0_pay7 a (k0_pay6 w) = tile a w := rfl
theorem p5 (w : Vec Ideal S1024x512 .bf16) : k0_pay5 (View.ld x0 r0_0) (View.ld x2 r0_1) (View.ld x1 r0_2) w
    = tile (k0_pay17 x0 x1 x2 x3 x4 x5) w := rfl
theorem p2 (a : FVec Ideal S256x1024 .bf16) (w : Vec Ideal S1024x512 .bf16) : k0_pay2 a w = tile a w := rfl
theorem p1 (a : FVec Ideal S256x1024 .bf16) (w : Vec Ideal S1024x512 .bf16) : k0_pay1 (k0_pay16 a w) = tile a w := rfl
theorem p15 (a : FVec Ideal S256x1024 .bf16) (w : Vec Ideal S1024x512 .bf16) : k0_pay15 a w = tile a w := rfl
theorem p14 (a : FVec Ideal S256x1024 .bf16) (w : Vec Ideal S1024x512 .bf16) : k0_pay14 a w = tile a w := rfl

/-- The first result's block. -/
theorem out6_apply (y : S1x256x3584.Idx) : out0_6 x0 x1 x2 x3 x4 x5 y = blockVal x0 x1 x2 x3 (y 1) (y 2) := by
  refine Eq.trans ?_ (left_sum x0 x1 x2 x3 x4 x5 x3 (y 1) (y 2))
  unfold out0_6
  refine View.canon_apply_of_pieces (Val := Elt Ideal) (S := S1x256x3584) (e := .bf16)
    (fun y : S1x256x3584.Idx => ∑ k : Fin 1024, k0_pay17 x0 x1 x2 x3 x4 x5 (ix2 (y 1 : Fin 256) k) * x3 (ix2 k (y 2 : Fin 3584))) _ ?_ y (cover0_6 _ _ _ _ _ _ _ y)
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_,
    List.forall_mem_cons.mpr ⟨fun x => ?_, fun _ h => nomatch h⟩⟩⟩⟩⟩⟩⟩
  · exact (congrFun (p13 (k0_pay17 x0 x1 x2 x3 x4 x5) _) x).trans (piece (k0_pay17 x0 x1 x2 x3 x4 x5) x3 3072 inb_S1024x3584_S1024x512_0_3072 x (r0_16.emb x 1) (r0_16.emb x 2) (by show 0 + 1 * (x 1).val = (x 1).val; omega) (by show 3072 + 1 * (x 2).val = 3072 + (x 2).val; omega))
  · exact (congrFun (p12 (k0_pay17 x0 x1 x2 x3 x4 x5) _) x).trans (piece (k0_pay17 x0 x1 x2 x3 x4 x5) x3 2560 inb_S1024x3584_S1024x512_0_2560 x (r0_14.emb x 1) (r0_14.emb x 2) (by show 0 + 1 * (x 1).val = (x 1).val; omega) (by show 2560 + 1 * (x 2).val = 2560 + (x 2).val; omega))
  · exact (congrFun (p10 (k0_pay17 x0 x1 x2 x3 x4 x5) _) x).trans (piece (k0_pay17 x0 x1 x2 x3 x4 x5) x3 2048 inb_S1024x3584_S1024x512_0_2048 x (r0_12.emb x 1) (r0_12.emb x 2) (by show 0 + 1 * (x 1).val = (x 1).val; omega) (by show 2048 + 1 * (x 2).val = 2048 + (x 2).val; omega))
  · exact (congrFun (p9 (k0_pay17 x0 x1 x2 x3 x4 x5) _) x).trans (piece (k0_pay17 x0 x1 x2 x3 x4 x5) x3 1536 inb_S1024x3584_S1024x512_0_1536 x (r0_10.emb x 1) (r0_10.emb x 2) (by show 0 + 1 * (x 1).val = (x 1).val; omega) (by show 1536 + 1 * (x 2).val = 1536 + (x 2).val; omega))
  · exact (congrFun (p8 (k0_pay17 x0 x1 x2 x3 x4 x5) _) x).trans (piece (k0_pay17 x0 x1 x2 x3 x4 x5) x3 1024 inb_S1024x3584_S1024x512_0_1024 x (r0_8.emb x 1) (r0_8.emb x 2) (by show 0 + 1 * (x 1).val = (x 1).val; omega) (by show 1024 + 1 * (x 2).val = 1024 + (x 2).val; omega))
  · exact (congrFun (p7 (k0_pay17 x0 x1 x2 x3 x4 x5) _) x).trans (piece (k0_pay17 x0 x1 x2 x3 x4 x5) x3 512 inb_S1024x3584_S1024x512_0_512 x (r0_6.emb x 1) (r0_6.emb x 2) (by show 0 + 1 * (x 1).val = (x 1).val; omega) (by show 512 + 1 * (x 2).val = 512 + (x 2).val; omega))
  · exact (congrFun (p5 x0 x1 x2 x3 x4 x5 _) x).trans (piece (k0_pay17 x0 x1 x2 x3 x4 x5) x3 0 inb_S1024x3584_S1024x512_0_0 x (r0_4.emb x 1) (r0_4.emb x 2) (by show 0 + 1 * (x 1).val = (x 1).val; omega) (by show 0 + 1 * (x 2).val = 0 + (x 2).val; omega))

/-- The second result's block. -/
theorem out7_apply (y : S1x256x2048.Idx) : out0_7 x0 x1 x2 x3 x4 x5 y = blockVal x0 x1 x2 x4 (y 1) (y 2) := by
  refine Eq.trans ?_ (left_sum x0 x1 x2 x3 x4 x5 x4 (y 1) (y 2))
  unfold out0_7
  generalize k0_pay17 x0 x1 x2 x3 x4 x5 = a
  refine View.canon_apply_of_pieces (Val := Elt Ideal) (S := S1x256x2048) (e := .bf16)
    (fun y : S1x256x2048.Idx => ∑ k : Fin 1024, a (ix2 (y 1 : Fin 256) k) * x4 (ix2 k (y 2 : Fin 2048))) _ ?_ y (cover0_7 _ _ _ _ y)
  refine List.forall_mem_cons.mpr ⟨fun x => ?_, List.forall_mem_cons.mpr ⟨fun x => ?_, List.forall_mem_cons.mpr ⟨fun x => ?_,
    List.forall_mem_cons.mpr ⟨fun x => ?_, fun _ h => nomatch h⟩⟩⟩⟩
  · exact (congrFun (p2 a _) x).trans (piece a x4 1536 inb_S1024x2048_S1024x512_0_1536 x (r0_24.emb x 1) (r0_24.emb x 2) (by show 0 + 1 * (x 1).val = (x 1).val; omega) (by show 1536 + 1 * (x 2).val = 1536 + (x 2).val; omega))
  · exact (congrFun (p1 a _) x).trans (piece a x4 1024 inb_S1024x2048_S1024x512_0_1024 x (r0_22.emb x 1) (r0_22.emb x 2) (by show 0 + 1 * (x 1).val = (x 1).val; omega) (by show 1024 + 1 * (x 2).val = 1024 + (x 2).val; omega))
  · exact (congrFun (p15 a _) x).trans (piece a x4 512 inb_S1024x2048_S1024x512_0_512 x (r0_20.emb x 1) (r0_20.emb x 2) (by show 0 + 1 * (x 1).val = (x 1).val; omega) (by show 512 + 1 * (x 2).val = 512 + (x 2).val; omega))
  · exact (congrFun (p14 a _) x).trans (piece a x4 0 inb_S1024x2048_S1024x512_0_0 x (r0_18.emb x 1) (r0_18.emb x 2) (by show 0 + 1 * (x 1).val = (x 1).val; omega) (by show 0 + 1 * (x 2).val = 0 + (x 2).val; omega))

/-- The third store's tile: the left operand against 128 columns. -/
theorem tile128 (a : FVec Ideal S256x1024 .bf16) (w : Vec Ideal S1024x128 .bf16) (z : Fin 1) (r : Fin 256) (n : Fin 128) :
    k0_pay3 a w (ix3 z r n) = ∑ k : Fin 1024, a (ix2 r k) * w (ix2 k n) := by
  unfold k0_pay3
  refine (shapeCast_apply _ shapeCasts_S256x128_S1x256x128 (ix3 z r n) (ix2 r n) (by
    rw [Shape.rowMajor_val_two, Shape.rowMajor_val_three]
    have := z.isLt
    show r.val * 128 + n.val = (z.val * 256 + r.val) * 128 + n.val; omega)).trans ?_
  refine (Ideal.matmul_plain_apply (M := 256) (K := 1024) (N := 128) none a _ _ r n).trans ?_
  refine (congrArg (· + _) Ideal.ofBits_zero_f32).trans ((zero_add _).trans (Finset.sum_congr rfl fun k _ => congrArg (a (ix2 r k) * ·) ?_))
  exact shapeCast_apply _ shapeCasts_S1024x128_S1024x128 (ix2 k n) (ix2 k n) rfl

/-- The third result's block. -/
theorem out8_apply (y : S1x256x128.Idx) : out0_8 x0 x1 x2 x3 x4 x5 y = blockVal x0 x1 x2 x5 (y 1) (y 2) := by
  refine Eq.trans ?_ (left_sum x0 x1 x2 x3 x4 x5 x5 (y 1) (y 2))
  unfold out0_8
  generalize k0_pay17 x0 x1 x2 x3 x4 x5 = a
  refine View.canon_apply_of_pieces (Val := Elt Ideal) (S := S1x256x128) (e := .f32)
    (fun y : S1x256x128.Idx => ∑ k : Fin 1024, a (ix2 (y 1 : Fin 256) k) * x5 (ix2 k (y 2 : Fin 128))) _ ?_ y (cover0_8 _ y)
  refine List.forall_mem_cons.mpr ⟨fun x => ?_, fun _ h => nomatch h⟩
  have e1 : r0_26.emb x 1 = x 1 := Fin.ext (by show 0 + 1 * (x 1).val = (x 1).val; omega)
  have e2 : r0_26.emb x 2 = x 2 := Fin.ext (by show 0 + 1 * (x 2).val = (x 2).val; omega)
  refine (congrArg (k0_pay3 _ _) (eq_ix3 x)).trans ((tile128 _ _ (x 0) (x 1) (x 2)).trans (Finset.sum_congr rfl fun k _ => ?_))
  show _ = a (ix2 (r0_26.emb x 1) k) * x5 (ix2 k (r0_26.emb x 2))
  rw [e1, e2]
  refine congrArg (a (ix2 (x 1) k) * ·) ?_
  exact View.ld_unit_apply_of (S := S1024x128) x5 ![0, 0] S1024x128.size inb_S1024x128_S1024x128_0_0 (ix2 k (x 2)) (ix2 k (x 2)) (fun b => match b with
    | ⟨0, _⟩ => by show k.val = 0 + k.val; omega
    | ⟨1, _⟩ => by show (x 2).val = 0 + (x 2).val; omega)

end Cert.InpBody

end
-- ==== Proof.Inp.Host.lean ====
module

public import proofs.«01_k».proof.Proof.Inp.Kit
public import proofs.«01_k».proof.Proof.Gen.Kernel3Ideal.Frame
public import Idealize.ShloMosaic.Lib.StableHlo

@[expose] public section

set_option maxRecDepth 16384

noncomputable section

namespace Cert.InpHost

open Cert.Kernel3Ideal Cert.Kernel3Ideal.Gen Idealize.ShloMosaic Idealize.ShloMosaic.TcCoe Idealize.ShloMosaic.ValueIdx
open Idealize.ShloMosaic.StableHlo
open Cert.Tok

variable (m : (ℓ : Loc nD τ sig) → Buf (Elt Ideal) ℓ) (c : Dev nD)

/-- The arguments as launched: latent and context tokens, their modulations, the norm's weights, the projection's. -/
abbrev HL : FVec Ideal S8x4096x1024 .f32 := m ((c.tc : Thread nD τ).loc main_arg0)
abbrev HC : FVec Ideal S8x256x1024 .f32 := m ((c.tc : Thread nD τ).loc main_arg1)
abbrev ML : FVec Ideal S8x6144 .f32 := m ((c.tc : Thread nD τ).loc main_arg2)
abbrev MC : FVec Ideal S1x6144 .f32 := m ((c.tc : Thread nD τ).loc main_arg3)
abbrev NW : FVec Ideal S1024 .f32 := m ((c.tc : Thread nD τ).loc main_arg4)
abbrev WI : FVec Ideal S1024x5680 .f32 := m ((c.tc : Thread nD τ).loc main_arg5)

/-- The tokens in one array. -/
def hArr (ctx : FVec Ideal S8x256x1024 .f32) (lat : FVec Ideal S8x4096x1024 .f32) : FVec Ideal S8x4352x1024 .f32 :=
  concatenate S8x4352x1024 1 [⟨S8x256x1024, ctx⟩, ⟨S8x4096x1024, lat⟩] concatenates_S8x256x1024_S8x4096x1024_S8x4352x1024_d1

/-- The modulations in one array, the context's first. -/
def mArr (mc : FVec Ideal S1x6144 .f32) (ml : FVec Ideal S8x6144 .f32) : FVec Ideal S8x2x6x1024 .f32 :=
  concatenate S8x2x6x1024 1
    [⟨S8x1x6x1024, broadcastInDim S8x1x6x1024 ![0, 2, 3] bcast_S8x6x1024_S8x1x6x1024_0_2_3
        (broadcastInDim S8x6x1024 ![0, 1, 2] bcast_S1x6x1024_S8x6x1024_0_1_2 (shapeCast S1x6x1024 mc shapeCasts_S1x6144_S1x6x1024))⟩,
     ⟨S8x1x6x1024, broadcastInDim S8x1x6x1024 ![0, 2, 3] bcast_S8x6x1024_S8x1x6x1024_0_2_3 (shapeCast S8x6x1024 ml shapeCasts_S8x6144_S8x6x1024)⟩]
    concatenates_S8x1x6x1024_S8x1x6x1024_S8x2x6x1024_d1

/-- The norm's weights as a row. -/
def nArr (nw : FVec Ideal S1024 .f32) : FVec Ideal S1x1024 .f32 := shapeCast S1x1024 nw shapeCasts_S1024_S1x1024

/-- The first result's weights. -/
def aArr (w : FVec Ideal S1024x5680 .f32) : FVec Ideal S1024x3584 .bf16 :=
  truncf .bf16 (concatenate S1024x3584 1
    [⟨S1024x1024, extractStridedSlice S1024x1024 ![0, 3584] w slices_S1024x5680_S1024x1024_0_3584⟩,
     ⟨S1024x2560, extractStridedSlice S1024x2560 ![0, 0] w slices_S1024x5680_S1024x2560_0_0⟩]
    concatenates_S1024x1024_S1024x2560_S1024x3584_d1) bitsLt_bf16_f32

/-- The second result's weights. -/
def bArr (w : FVec Ideal S1024x5680 .f32) : FVec Ideal S1024x2048 .bf16 :=
  truncf .bf16 (concatenate S1024x2048 1
    [⟨S1024x1024, extractStridedSlice S1024x1024 ![0, 2560] w slices_S1024x5680_S1024x1024_0_2560⟩,
     ⟨S1024x1024, extractStridedSlice S1024x1024 ![0, 4608] w slices_S1024x5680_S1024x1024_0_4608⟩]
    concatenates_S1024x1024_S1024x1024_S1024x2048_d1) bitsLt_bf16_f32

/-- The third result's weights, zero columns after the 48. -/
def gArr (w : FVec Ideal S1024x5680 .f32) : FVec Ideal S1024x128 .bf16 :=
  truncf .bf16 (pad S1024x128 ![0, 0] ![0, 80] ![0, 0] (extractStridedSlice S1024x48 ![0, 5632] w slices_S1024x5680_S1024x48_0_5632)
    (sitofp .f32 (constantI S_ 32 0#32)) pads_S1024x48_S1024x128_000_0800 h_S_) bitsLt_bf16_f32

theorem V_h : V m c main_v0 = hArr (HC m c) (HL m c) := by
  unfold V
  simp only [hostOps0, hostOps0_1, hostOps0_2, List.flatten_cons, List.flatten_nil, List.append_nil, List.cons_append, List.nil_append]
  after_results <;> rfl
theorem V_m : V m c main_v6 = mArr (MC m c) (ML m c) := by
  unfold V
  simp only [hostOps0, hostOps0_1, hostOps0_2, List.flatten_cons, List.flatten_nil, List.append_nil, List.cons_append, List.nil_append]
  after_results <;> rfl
theorem V_n : V m c main_v18 = nArr (NW m c) := by
  unfold V
  simp only [hostOps0, hostOps0_1, hostOps0_2, List.flatten_cons, List.flatten_nil, List.append_nil, List.cons_append, List.nil_append]
  after_results <;> rfl
theorem V_a : V m c main_v13 = aArr (WI m c) := by
  unfold V
  simp only [hostOps0, hostOps0_1, hostOps0_2, List.flatten_cons, List.flatten_nil, List.append_nil, List.cons_append, List.nil_append]
  after_results <;> rfl
theorem V_b : V m c main_v15 = bArr (WI m c) := by
  unfold V
  simp only [hostOps0, hostOps0_1, hostOps0_2, List.flatten_cons, List.flatten_nil, List.append_nil, List.cons_append, List.nil_append]
  after_results <;> rfl
theorem V_g : V m c main_v17 = gArr (WI m c) := by
  unfold V
  simp only [hostOps0, hostOps0_1, hostOps0_2, List.flatten_cons, List.flatten_nil, List.append_nil, List.cons_append, List.nil_append]
  after_results <;> rfl

theorem hArr_apply (ctx : FVec Ideal S8x256x1024 .f32) (lat : FVec Ideal S8x4096x1024 .f32) (b : Fin 8) (r : Fin 4352) (k : Fin 1024) :
    hArr ctx lat (ix3 b r k) = hv ctx lat b r k := by
  have hr := r.isLt
  unfold hArr hv
  by_cases h : r.val < 256
  · rw [tok_ctx _ _ r k (⟨r.val, h⟩ : Fin 256) rfl]
    exact concatenate_apply_piece (t := S8x4352x1024) 1 [⟨S8x256x1024, ctx⟩, ⟨S8x4096x1024, lat⟩] concatenates_S8x256x1024_S8x4096x1024_S8x4352x1024_d1 (ix3 b r k)
      0 (by show 0 < 2; decide) S8x256x1024 _ rfl rfl 0 rfl (ix3 b (⟨r.val, h⟩ : Fin 256) k)
      (fun a ha => match a with | ⟨0, _⟩ => rfl | ⟨1, _⟩ => absurd rfl ha | ⟨2, _⟩ => rfl) (by show 0 + r.val = r.val; omega)
  · rw [tok_lat _ _ r k (⟨r.val - 256, by omega⟩ : Fin 4096) (by show r.val = 256 + (r.val - 256); omega)]
    exact concatenate_apply_piece (t := S8x4352x1024) 1 [⟨S8x256x1024, ctx⟩, ⟨S8x4096x1024, lat⟩] concatenates_S8x256x1024_S8x4096x1024_S8x4352x1024_d1 (ix3 b r k)
      1 (by show 1 < 2; decide) S8x4096x1024 _ rfl rfl 256 rfl (ix3 b (⟨r.val - 256, by omega⟩ : Fin 4096) k)
      (fun a ha => match a with | ⟨0, _⟩ => rfl | ⟨1, _⟩ => absurd rfl ha | ⟨2, _⟩ => rfl) (by show 256 + (r.val - 256) = r.val; omega)

/-- The context's modulation. -/
theorem mArr_ctx (mc : FVec Ideal S1x6144 .f32) (ml : FVec Ideal S8x6144 .f32) (b : Fin 8) (q : Fin 6) (k : Fin 1024) (n : Fin 6144) (hn : n.val = 1024 * q.val + k.val) :
    mArr mc ml (ix4 b (0 : Fin 2) q k) = mc (ix2 (0 : Fin 1) n) := by
  unfold mArr
  refine (concatenate_apply_piece (t := S8x2x6x1024) 1 [⟨S8x1x6x1024, broadcastInDim S8x1x6x1024 ![0, 2, 3] bcast_S8x6x1024_S8x1x6x1024_0_2_3
        (broadcastInDim S8x6x1024 ![0, 1, 2] bcast_S1x6x1024_S8x6x1024_0_1_2 (shapeCast S1x6x1024 mc shapeCasts_S1x6144_S1x6x1024))⟩,
     ⟨S8x1x6x1024, broadcastInDim S8x1x6x1024 ![0, 2, 3] bcast_S8x6x1024_S8x1x6x1024_0_2_3 (shapeCast S8x6x1024 ml shapeCasts_S8x6144_S8x6x1024)⟩]
    concatenates_S8x1x6x1024_S8x1x6x1024_S8x2x6x1024_d1 (ix4 b (0 : Fin 2) q k)
    0 (by show 0 < 2; decide) S8x1x6x1024 _ rfl rfl 0 rfl (ix4 b (0 : Fin 1) q k)
    (fun a ha => match a with | ⟨0, _⟩ => rfl | ⟨1, _⟩ => absurd rfl ha | ⟨2, _⟩ => rfl | ⟨3, _⟩ => rfl) rfl).trans ?_
  refine (broadcastInDim_apply (t := S8x1x6x1024) _ bcast_S8x6x1024_S8x1x6x1024_0_2_3 _ (ix4 b (0 : Fin 1) q k) (ix3 b q k)
    (fun a => match a with | ⟨0, _⟩ => rfl | ⟨1, _⟩ => rfl | ⟨2, _⟩ => rfl)).trans ?_
  refine (broadcastInDim_apply (t := S8x6x1024) _ bcast_S1x6x1024_S8x6x1024_0_1_2 _ (ix3 b q k) (ix3 (0 : Fin 1) q k)
    (fun a => match a with | ⟨0, _⟩ => rfl | ⟨1, _⟩ => rfl | ⟨2, _⟩ => rfl)).trans ?_
  exact shapeCast_apply _ shapeCasts_S1x6144_S1x6x1024 (ix3 (0 : Fin 1) q k) (ix2 (0 : Fin 1) n) (by
    rw [Shape.rowMajor_val_two, Shape.rowMajor_val_three]
    show 0 * 6144 + n.val = (0 * 6 + q.val) * 1024 + k.val; omega)

/-- The latents' modulation. -/
theorem mArr_lat (mc : FVec Ideal S1x6144 .f32) (ml : FVec Ideal S8x6144 .f32) (b : Fin 8) (q : Fin 6) (k : Fin 1024) (n : Fin 6144) (hn : n.val = 1024 * q.val + k.val) :
    mArr mc ml (ix4 b (1 : Fin 2) q k) = ml (ix2 b n) := by
  unfold mArr
  refine (concatenate_apply_piece (t := S8x2x6x1024) 1 [⟨S8x1x6x1024, broadcastInDim S8x1x6x1024 ![0, 2, 3] bcast_S8x6x1024_S8x1x6x1024_0_2_3
        (broadcastInDim S8x6x1024 ![0, 1, 2] bcast_S1x6x1024_S8x6x1024_0_1_2 (shapeCast S1x6x1024 mc shapeCasts_S1x6144_S1x6x1024))⟩,
     ⟨S8x1x6x1024, broadcastInDim S8x1x6x1024 ![0, 2, 3] bcast_S8x6x1024_S8x1x6x1024_0_2_3 (shapeCast S8x6x1024 ml shapeCasts_S8x6144_S8x6x1024)⟩]
    concatenates_S8x1x6x1024_S8x1x6x1024_S8x2x6x1024_d1 (ix4 b (1 : Fin 2) q k)
    1 (by show 1 < 2; decide) S8x1x6x1024 _ rfl rfl 1 rfl (ix4 b (0 : Fin 1) q k)
    (fun a ha => match a with | ⟨0, _⟩ => rfl | ⟨1, _⟩ => absurd rfl ha | ⟨2, _⟩ => rfl | ⟨3, _⟩ => rfl) rfl).trans ?_
  refine (broadcastInDim_apply (t := S8x1x6x1024) _ bcast_S8x6x1024_S8x1x6x1024_0_2_3 _ (ix4 b (0 : Fin 1) q k) (ix3 b q k)
    (fun a => match a with | ⟨0, _⟩ => rfl | ⟨1, _⟩ => rfl | ⟨2, _⟩ => rfl)).trans ?_
  exact shapeCast_apply _ shapeCasts_S8x6144_S8x6x1024 (ix3 b q k) (ix2 b n) (by
    rw [Shape.rowMajor_val_two, Shape.rowMajor_val_three]
    show b.val * 6144 + n.val = (b.val * 6 + q.val) * 1024 + k.val; omega)

/-- The modulation a token's rows read: the context's where the token's block lies in the context, else the batch entry's. -/
theorem mArr_apply (mc : FVec Ideal S1x6144 .f32) (ml : FVec Ideal S8x6144 .f32) (b : Fin 8) (i : Fin 2) (q : Fin 6) (r : Fin 4352) (k : Fin 1024)
    (hi : (r.val < 256 → i.val = 0) ∧ (256 ≤ r.val → i.val = 1)) : mArr mc ml (ix4 b i q k) = mv mc ml q b r k := by
  unfold mv
  by_cases h : r.val < 256
  · rw [if_pos h]
    obtain rfl : i = 0 := Fin.ext (hi.1 h)
    exact mArr_ctx mc ml b q k _ rfl
  · rw [if_neg h]
    obtain rfl : i = 1 := Fin.ext (hi.2 (by omega))
    exact mArr_lat mc ml b q k _ rfl

theorem nArr_apply (nw : FVec Ideal S1024 .f32) (k : Fin 1024) : nArr nw (ix2 (0 : Fin 1) k) = nw (ix1 k) :=
  shapeCast_apply _ shapeCasts_S1024_S1x1024 (ix2 (0 : Fin 1) k) (ix1 k) (by
    rw [Shape.rowMajor_val_two, Shape.rowMajor_val_one]; show k.val = 0 * 1024 + k.val; omega)

theorem aArr_apply (w : FVec Ideal S1024x5680 .f32) (k : Fin 1024) (n : Fin 3584) : aArr w (ix2 k n) = w (ix2 k (colA n)) := by
  have hn := n.isLt
  unfold aArr colA
  rw [truncf_apply]
  by_cases h : n.val < 1024
  · rw [dif_pos h]
    refine (concatenate_apply_piece (t := S1024x3584) 1 [⟨S1024x1024, extractStridedSlice S1024x1024 ![0, 3584] w slices_S1024x5680_S1024x1024_0_3584⟩,
      ⟨S1024x2560, extractStridedSlice S1024x2560 ![0, 0] w slices_S1024x5680_S1024x2560_0_0⟩] concatenates_S1024x1024_S1024x2560_S1024x3584_d1 (ix2 k n)
      0 (by show 0 < 2; decide) S1024x1024 _ rfl rfl 0 rfl (ix2 k (⟨n.val, h⟩ : Fin 1024))
      (fun a ha => match a with | ⟨0, _⟩ => rfl | ⟨1, _⟩ => absurd rfl ha) (by show 0 + n.val = n.val; omega)).trans ?_
    exact extractStridedSlice_apply ![0, 3584] w slices_S1024x5680_S1024x1024_0_3584 _ _ (fun a => match a with
      | ⟨0, _⟩ => by show k.val = 0 + k.val; omega | ⟨1, _⟩ => rfl)
  · rw [dif_neg h]
    refine (concatenate_apply_piece (t := S1024x3584) 1 [⟨S1024x1024, extractStridedSlice S1024x1024 ![0, 3584] w slices_S1024x5680_S1024x1024_0_3584⟩,
      ⟨S1024x2560, extractStridedSlice S1024x2560 ![0, 0] w slices_S1024x5680_S1024x2560_0_0⟩] concatenates_S1024x1024_S1024x2560_S1024x3584_d1 (ix2 k n)
      1 (by show 1 < 2; decide) S1024x2560 _ rfl rfl 1024 rfl (ix2 k (⟨n.val - 1024, by omega⟩ : Fin 2560))
      (fun a ha => match a with | ⟨0, _⟩ => rfl | ⟨1, _⟩ => absurd rfl ha) (by show 1024 + (n.val - 1024) = n.val; omega)).trans ?_
    exact extractStridedSlice_apply ![0, 0] w slices_S1024x5680_S1024x2560_0_0 _ _ (fun a => match a with
      | ⟨0, _⟩ => by show k.val = 0 + k.val; omega | ⟨1, _⟩ => by show n.val - 1024 = 0 + (n.val - 1024); omega)

theorem bArr_apply (w : FVec Ideal S1024x5680 .f32) (k : Fin 1024) (n : Fin 2048) : bArr w (ix2 k n) = w (ix2 k (colB n)) := by
  have hn := n.isLt
  unfold bArr colB
  rw [truncf_apply]
  by_cases h : n.val < 1024
  · rw [dif_pos h]
    refine (concatenate_apply_piece (t := S1024x2048) 1 [⟨S1024x1024, extractStridedSlice S1024x1024 ![0, 2560] w slices_S1024x5680_S1024x1024_0_2560⟩,
      ⟨S1024x1024, extractStridedSlice S1024x1024 ![0, 4608] w slices_S1024x5680_S1024x1024_0_4608⟩] concatenates_S1024x1024_S1024x1024_S1024x2048_d1 (ix2 k n)
      0 (by show 0 < 2; decide) S1024x1024 _ rfl rfl 0 rfl (ix2 k (⟨n.val, h⟩ : Fin 1024))
      (fun a ha => match a with | ⟨0, _⟩ => rfl | ⟨1, _⟩ => absurd rfl ha) (by show 0 + n.val = n.val; omega)).trans ?_
    exact extractStridedSlice_apply ![0, 2560] w slices_S1024x5680_S1024x1024_0_2560 _ _ (fun a => match a with
      | ⟨0, _⟩ => by show k.val = 0 + k.val; omega | ⟨1, _⟩ => rfl)
  · rw [dif_neg h]
    refine (concatenate_apply_piece (t := S1024x2048) 1 [⟨S1024x1024, extractStridedSlice S1024x1024 ![0, 2560] w slices_S1024x5680_S1024x1024_0_2560⟩,
      ⟨S1024x1024, extractStridedSlice S1024x1024 ![0, 4608] w slices_S1024x5680_S1024x1024_0_4608⟩] concatenates_S1024x1024_S1024x1024_S1024x2048_d1 (ix2 k n)
      1 (by show 1 < 2; decide) S1024x1024 _ rfl rfl 1024 rfl (ix2 k (⟨n.val - 1024, by omega⟩ : Fin 1024))
      (fun a ha => match a with | ⟨0, _⟩ => rfl | ⟨1, _⟩ => absurd rfl ha) (by show 1024 + (n.val - 1024) = n.val; omega)).trans ?_
    exact extractStridedSlice_apply ![0, 4608] w slices_S1024x5680_S1024x1024_0_4608 _ _ (fun a => match a with
      | ⟨0, _⟩ => by show k.val = 0 + k.val; omega | ⟨1, _⟩ => by show 3584 + n.val = 4608 + (n.val - 1024); omega)

theorem gArr_gate (w : FVec Ideal S1024x5680 .f32) (k : Fin 1024) (n : Fin 128) (j : Fin 5680) (h : n.val < 48) (hj : j.val = 5632 + n.val) :
    gArr w (ix2 k n) = w (ix2 k j) := by
  unfold gArr
  rw [truncf_apply]
  refine (pad_apply_of_inside (t := S1024x128) ![0, 0] ![0, 80] ![0, 0] _ _ pads_S1024x48_S1024x128_000_0800 h_S_ (ix2 k n) (ix2 k (⟨n.val, h⟩ : Fin 48)) (fun a => match a with
    | ⟨0, _⟩ => by show k.val = 0 + k.val * (0 + 1); omega
    | ⟨1, _⟩ => by show n.val = 0 + n.val * (0 + 1); omega)).trans ?_
  exact extractStridedSlice_apply ![0, 5632] w slices_S1024x5680_S1024x48_0_5632 _ (ix2 k j) (fun a => match a with
    | ⟨0, _⟩ => by show k.val = 0 + k.val; omega | ⟨1, _⟩ => hj)

theorem gArr_zero (w : FVec Ideal S1024x5680 .f32) (k : Fin 1024) (n : Fin 128) (h : 48 ≤ n.val) : gArr w (ix2 k n) = (0 : EReal) := by
  unfold gArr
  rw [truncf_apply]
  refine (pad_apply_of_not_inside (s := S1024x48) (t := S1024x128) ![0, 0] ![0, 80] ![0, 0] _ _ pads_S1024x48_S1024x128_000_0800 h_S_ (ix2 k n) (1 : Fin 2) (fun hh => ?_)).trans ?_
  · have h3 : (n.val - 0) / (0 + 1) < 48 := hh.2.2
    omega
  · show (((0#32 : BitVec 32).toInt : ℝ) : EReal) = 0
    simp

end Cert.InpHost

end
-- ==== Proof.Inp.Ref.lean ====
module

public import proofs.«01_k».proof.Proof.Inp.Kit
public import proofs.«01_k».proof.Proof.Gen.Reference3Ideal.Read

@[expose] public section

set_option maxRecDepth 16384

noncomputable section

namespace Cert.InpRef

open Cert.Reference3Ideal Cert.Reference3Ideal.Gen Cert.Reference3Ideal.Read Idealize.ShloMosaic Idealize.ShloMosaic.TcCoe Idealize.ShloMosaic.ValueIdx
open Cert.Tok
open scoped BigOperators

variable (x0 : FVec Ideal S8x4096x1024 .f32) (x1 : FVec Ideal S8x256x1024 .f32) (x2 : FVec Ideal S8x6144 .f32) (x3 : FVec Ideal S1x6144 .f32)
  (x4 : FVec Ideal S1024 .f32) (x5 : FVec Ideal S1024x5680 .f32)

/-- The latents' modulated norm. -/
theorem lat_apply (b : Fin 8) (s : Fin 4096) (k : Fin 1024) (r : Fin 4352) (hr : r.val = 256 + s.val) :
    val_main_v26 (F := Ideal) x0 x2 x4 (ix3 b s k) = nm (hv x1 x0 b r) (fun k => x4 (ix1 k)) (mv x3 x2 1 b r) (mv x3 x2 0 b r) k := by
  have eh : ∀ j, hv x1 x0 b r j = x0 (ix3 b s j) := fun j => tok_lat _ _ r j s hr
  have em : ∀ (q : Fin 6) (j : Fin 1024) (n : Fin 6144), n.val = 1024 * q.val + j.val → mv x3 x2 q b r j = x2 (ix2 b n) := fun q j n hn => by
    unfold mv
    rw [if_neg (by omega)]
    exact congrArg (fun n => x2 (ix2 b n)) (Fin.ext hn.symm)
  rw [val_main_v26_apply, val_main_v24_apply, val_main_v20_apply, val_main_v17_apply]
  unfold nm rms
  refine congrArg₂ (· + ·) (congrArg₂ (· * ·) (congrArg₂ (· * ·) (congrArg₂ (· * ·) (eh k).symm ?_) ?_) ?_) ?_
  · rw [val_main_v16_apply, val_main_v15_apply, val_main_v14_apply, val_main_v12_apply, val_main_v11_apply, val_main_v13_apply, val_main_v10_apply,
      val_main_v9_apply]
    refine congrArg Ideal.rsqrt (congrArg (· + _) (congrArg (Ideal.div · _) ?_))
    refine (congrArg (· + _) Ideal.ofBits_zero_f32).trans ((zero_add _).trans (Finset.sum_congr rfl fun j _ => ?_))
    rw [val_main_v8_apply, eh j]
    exact congrArg₂ (· * ·) (congrArg x0 (funext fun a => match a with | ⟨0, _⟩ => rfl | ⟨1, _⟩ => rfl | ⟨2, _⟩ => rfl))
      (congrArg x0 (funext fun a => match a with | ⟨0, _⟩ => rfl | ⟨1, _⟩ => rfl | ⟨2, _⟩ => rfl))
  · rw [val_main_v19_apply, val_main_v18_apply]
    exact congrArg x4 (funext fun a => match a with | ⟨0, _⟩ => rfl)
  · rw [val_main_v23_apply, val_main_v22_apply, val_main_v3_apply, val_main_v2_apply]
    refine congrArg (_ + ·) ?_
    rw [em 1 k (⟨1024 + k.val, by have := k.isLt; omega⟩ : Fin 6144) rfl]
    exact congrArg x2 (funext fun a => match a with | ⟨0, _⟩ => rfl | ⟨1, _⟩ => rfl)
  · rw [val_main_v25_apply, val_main_v1_apply, val_main_v0_apply]
    rw [em 0 k (⟨k.val, by have := k.isLt; omega⟩ : Fin 6144) (by show k.val = 1024 * 0 + k.val; omega)]
    exact congrArg x2 (funext fun a => match a with | ⟨0, _⟩ => rfl | ⟨1, _⟩ => rfl)

/-- The context's modulated norm. -/
theorem ctx_apply (b : Fin 8) (s : Fin 256) (k : Fin 1024) (r : Fin 4352) (hr : r.val = s.val) :
    val_main_v45 (F := Ideal) x1 x3 x4 (ix3 b s k) = nm (hv x1 x0 b r) (fun k => x4 (ix1 k)) (mv x3 x2 1 b r) (mv x3 x2 0 b r) k := by
  have hs := s.isLt
  have eh : ∀ j, hv x1 x0 b r j = x1 (ix3 b s j) := fun j => tok_ctx _ _ r j s hr
  have em : ∀ (q : Fin 6) (j : Fin 1024) (n : Fin 6144), n.val = 1024 * q.val + j.val → mv x3 x2 q b r j = x3 (ix2 (0 : Fin 1) n) := fun q j n hn => by
    unfold mv
    rw [if_pos (by omega)]
    exact congrArg (fun n => x3 (ix2 (0 : Fin 1) n)) (Fin.ext hn.symm)
  rw [val_main_v45_apply, val_main_v43_apply, val_main_v39_apply, val_main_v36_apply]
  unfold nm rms
  refine congrArg₂ (· + ·) (congrArg₂ (· * ·) (congrArg₂ (· * ·) (congrArg₂ (· * ·) (eh k).symm ?_) ?_) ?_) ?_
  · rw [val_main_v35_apply, val_main_v34_apply, val_main_v33_apply, val_main_v31_apply, val_main_v30_apply, val_main_v32_apply, val_main_v29_apply,
      val_main_v28_apply]
    refine congrArg Ideal.rsqrt (congrArg (· + _) (congrArg (Ideal.div · _) ?_))
    refine (congrArg (· + _) Ideal.ofBits_zero_f32).trans ((zero_add _).trans (Finset.sum_congr rfl fun j _ => ?_))
    rw [val_main_v27_apply, eh j]
    exact congrArg₂ (· * ·) (congrArg x1 (funext fun a => match a with | ⟨0, _⟩ => rfl | ⟨1, _⟩ => rfl | ⟨2, _⟩ => rfl))
      (congrArg x1 (funext fun a => match a with | ⟨0, _⟩ => rfl | ⟨1, _⟩ => rfl | ⟨2, _⟩ => rfl))
  · rw [val_main_v38_apply, val_main_v37_apply]
    exact congrArg x4 (funext fun a => match a with | ⟨0, _⟩ => rfl)
  · rw [val_main_v42_apply, val_main_v41_apply, val_main_v7_apply, val_main_v6_apply]
    refine congrArg (_ + ·) ?_
    rw [em 1 k (⟨1024 + k.val, by have := k.isLt; omega⟩ : Fin 6144) rfl]
    exact congrArg x3 (funext fun a => match a with | ⟨0, _⟩ => rfl | ⟨1, _⟩ => rfl)
  · rw [val_main_v44_apply, val_main_v5_apply, val_main_v4_apply]
    rw [em 0 k (⟨k.val, by have := k.isLt; omega⟩ : Fin 6144) (by show k.val = 1024 * 0 + k.val; omega)]
    exact congrArg x3 (funext fun a => match a with | ⟨0, _⟩ => rfl | ⟨1, _⟩ => rfl)

/-- A token's projection at a column. -/
def proj (x0 : FVec Ideal S8x4096x1024 .f32) (x1 : FVec Ideal S8x256x1024 .f32) (x2 : FVec Ideal S8x6144 .f32) (x3 : FVec Ideal S1x6144 .f32)
    (x4 : FVec Ideal S1024 .f32) (x5 : FVec Ideal S1024x5680 .f32) (b : Fin 8) (r : Fin 4352) (n : Fin 5680) : EReal :=
  ∑ k : Fin 1024, nm (hv x1 x0 b r) (fun k => x4 (ix1 k)) (mv x3 x2 1 b r) (mv x3 x2 0 b r) k * x5 (ix2 k n)

theorem u_apply (b : Fin 8) (r : Fin 4352) (n : Fin 5680) : val_main_v48 (F := Ideal) x0 x1 x2 x3 x4 x5 (ix3 b r n) = proj x0 x1 x2 x3 x4 x5 b r n := by
  have hr := r.isLt
  unfold val_main_v48 proj
  by_cases h : r.val < 256
  · refine (concatenate_apply_piece (t := S8x4352x5680) 1 [⟨S8x256x5680, val_main_v46 (F := Ideal) x1 x3 x4 x5⟩, ⟨S8x4096x5680, val_main_v47 (F := Ideal) x0 x2 x4 x5⟩]
      concatenates_S8x256x5680_S8x4096x5680_S8x4352x5680_d1 (ix3 b r n)
      0 (by show 0 < 2; decide) S8x256x5680 _ rfl rfl 0 rfl (ix3 b (⟨r.val, h⟩ : Fin 256) n)
      (fun a ha => match a with | ⟨0, _⟩ => rfl | ⟨1, _⟩ => absurd rfl ha | ⟨2, _⟩ => rfl) (by show 0 + r.val = r.val; omega)).trans ?_
    refine (val_main_v46_apply x1 x3 x4 x5 _).trans (Finset.sum_congr rfl fun k _ => congrArg₂ (· * ·) ?_ ?_)
    · refine Eq.trans (congrArg (val_main_v45 (F := Ideal) x1 x3 x4) ?_) (ctx_apply x0 x1 x2 x3 x4 b (⟨r.val, h⟩ : Fin 256) k r rfl)
      exact funext fun a => match a with | ⟨0, _⟩ => rfl | ⟨1, _⟩ => rfl | ⟨2, _⟩ => rfl
    · exact congrArg x5 (funext fun a => match a with | ⟨0, _⟩ => rfl | ⟨1, _⟩ => rfl)
  · refine (concatenate_apply_piece (t := S8x4352x5680) 1 [⟨S8x256x5680, val_main_v46 (F := Ideal) x1 x3 x4 x5⟩, ⟨S8x4096x5680, val_main_v47 (F := Ideal) x0 x2 x4 x5⟩]
      concatenates_S8x256x5680_S8x4096x5680_S8x4352x5680_d1 (ix3 b r n)
      1 (by show 1 < 2; decide) S8x4096x5680 _ rfl rfl 256 rfl (ix3 b (⟨r.val - 256, by omega⟩ : Fin 4096) n)
      (fun a ha => match a with | ⟨0, _⟩ => rfl | ⟨1, _⟩ => absurd rfl ha | ⟨2, _⟩ => rfl) (by show 256 + (r.val - 256) = r.val; omega)).trans ?_
    refine (val_main_v47_apply x0 x2 x4 x5 _).trans (Finset.sum_congr rfl fun k _ => congrArg₂ (· * ·) ?_ ?_)
    · refine Eq.trans (congrArg (val_main_v26 (F := Ideal) x0 x2 x4) ?_) (lat_apply x0 x1 x2 x3 x4 b (⟨r.val - 256, by omega⟩ : Fin 4096) k r (by show r.val = 256 + (r.val - 256); omega))
      exact funext fun a => match a with | ⟨0, _⟩ => rfl | ⟨1, _⟩ => rfl | ⟨2, _⟩ => rfl
    · exact congrArg x5 (funext fun a => match a with | ⟨0, _⟩ => rfl | ⟨1, _⟩ => rfl)

/-- The first result. -/
theorem a_apply (b : Fin 8) (r : Fin 4352) (n : Fin 3584) : val_main_v55 (F := Ideal) x0 x1 x2 x3 x4 x5 (ix3 b r n) = proj x0 x1 x2 x3 x4 x5 b r (colA n) := by
  have hn := n.isLt
  rw [← u_apply]
  refine (val_main_v55_apply (F := Ideal) x0 x1 x2 x3 x4 x5 (ix3 b r n)).trans ?_
  show val_main_v54 (F := Ideal) x0 x1 x2 x3 x4 x5 (ix3 b r n) = _
  unfold val_main_v54 colA
  by_cases h : n.val < 1024
  · rw [dif_pos h]
    refine (concatenate_apply_piece (t := S8x4352x3584) 2 [⟨S8x4352x1024, val_main_v51 (F := Ideal) x0 x1 x2 x3 x4 x5⟩, ⟨S8x4352x2560, val_main_v49 (F := Ideal) x0 x1 x2 x3 x4 x5⟩]
      concatenates_S8x4352x1024_S8x4352x2560_S8x4352x3584_d2 (ix3 b r n)
      0 (by show 0 < 2; decide) S8x4352x1024 _ rfl rfl 0 rfl (ix3 b r (⟨n.val, h⟩ : Fin 1024))
      (fun a ha => match a with | ⟨0, _⟩ => rfl | ⟨1, _⟩ => rfl | ⟨2, _⟩ => absurd rfl ha) (by show 0 + n.val = n.val; omega)).trans ?_
    rw [val_main_v51_apply]
    exact congrArg (val_main_v48 (F := Ideal) x0 x1 x2 x3 x4 x5) (funext fun a => Fin.ext (match a with | ⟨0, _⟩ => rfl | ⟨1, _⟩ => rfl | ⟨2, _⟩ => rfl))
  · rw [dif_neg h]
    refine (concatenate_apply_piece (t := S8x4352x3584) 2 [⟨S8x4352x1024, val_main_v51 (F := Ideal) x0 x1 x2 x3 x4 x5⟩, ⟨S8x4352x2560, val_main_v49 (F := Ideal) x0 x1 x2 x3 x4 x5⟩]
      concatenates_S8x4352x1024_S8x4352x2560_S8x4352x3584_d2 (ix3 b r n)
      1 (by show 1 < 2; decide) S8x4352x2560 _ rfl rfl 1024 rfl (ix3 b r (⟨n.val - 1024, by omega⟩ : Fin 2560))
      (fun a ha => match a with | ⟨0, _⟩ => rfl | ⟨1, _⟩ => rfl | ⟨2, _⟩ => absurd rfl ha) (by show 1024 + (n.val - 1024) = n.val; omega)).trans ?_
    rw [val_main_v49_apply]
    exact congrArg (val_main_v48 (F := Ideal) x0 x1 x2 x3 x4 x5) (funext fun a => Fin.ext (match a with | ⟨0, _⟩ => rfl | ⟨1, _⟩ => rfl | ⟨2, _⟩ => rfl))

/-- The second result. -/
theorem b_apply (b : Fin 8) (r : Fin 4352) (n : Fin 2048) : val_main_v57 (F := Ideal) x0 x1 x2 x3 x4 x5 (ix3 b r n) = proj x0 x1 x2 x3 x4 x5 b r (colB n) := by
  have hn := n.isLt
  rw [← u_apply]
  refine (val_main_v57_apply (F := Ideal) x0 x1 x2 x3 x4 x5 (ix3 b r n)).trans ?_
  show val_main_v56 (F := Ideal) x0 x1 x2 x3 x4 x5 (ix3 b r n) = _
  unfold val_main_v56 colB
  by_cases h : n.val < 1024
  · rw [dif_pos h]
    refine (concatenate_apply_piece (t := S8x4352x2048) 2 [⟨S8x4352x1024, val_main_v50 (F := Ideal) x0 x1 x2 x3 x4 x5⟩, ⟨S8x4352x1024, val_main_v52 (F := Ideal) x0 x1 x2 x3 x4 x5⟩]
      concatenates_S8x4352x1024_S8x4352x1024_S8x4352x2048_d2 (ix3 b r n)
      0 (by show 0 < 2; decide) S8x4352x1024 _ rfl rfl 0 rfl (ix3 b r (⟨n.val, h⟩ : Fin 1024))
      (fun a ha => match a with | ⟨0, _⟩ => rfl | ⟨1, _⟩ => rfl | ⟨2, _⟩ => absurd rfl ha) (by show 0 + n.val = n.val; omega)).trans ?_
    rw [val_main_v50_apply]
    exact congrArg (val_main_v48 (F := Ideal) x0 x1 x2 x3 x4 x5) (funext fun a => Fin.ext (match a with | ⟨0, _⟩ => rfl | ⟨1, _⟩ => rfl | ⟨2, _⟩ => rfl))
  · rw [dif_neg h]
    refine (concatenate_apply_piece (t := S8x4352x2048) 2 [⟨S8x4352x1024, val_main_v50 (F := Ideal) x0 x1 x2 x3 x4 x5⟩, ⟨S8x4352x1024, val_main_v52 (F := Ideal) x0 x1 x2 x3 x4 x5⟩]
      concatenates_S8x4352x1024_S8x4352x1024_S8x4352x2048_d2 (ix3 b r n)
      1 (by show 1 < 2; decide) S8x4352x1024 _ rfl rfl 1024 rfl (ix3 b r (⟨n.val - 1024, by omega⟩ : Fin 1024))
      (fun a ha => match a with | ⟨0, _⟩ => rfl | ⟨1, _⟩ => rfl | ⟨2, _⟩ => absurd rfl ha) (by show 1024 + (n.val - 1024) = n.val; omega)).trans ?_
    rw [val_main_v52_apply]
    exact congrArg (val_main_v48 (F := Ideal) x0 x1 x2 x3 x4 x5) (funext fun a => Fin.ext (match a with | ⟨0, _⟩ => rfl | ⟨1, _⟩ => rfl | ⟨2, _⟩ => (by show 4608 + (n.val - 1024) = 3584 + n.val; omega : 4608 + (n.val - 1024) = 3584 + n.val)))

/-- The third result's 48 gates. -/
theorem g_apply (b : Fin 8) (r : Fin 4352) (n : Fin 128) (j : Fin 5680) (h : n.val < 48) (hj : j.val = 5632 + n.val) :
    val_main_v59 (F := Ideal) x0 x1 x2 x3 x4 x5 (ix3 b r n) = proj x0 x1 x2 x3 x4 x5 b r j := by
  rw [← u_apply]
  unfold val_main_v59
  refine (concatenate_apply_piece (t := S8x4352x128) 2 [⟨S8x4352x48, val_main_v53 (F := Ideal) x0 x1 x2 x3 x4 x5⟩, ⟨S8x4352x80, val_main_v58 (F := Ideal)⟩]
      concatenates_S8x4352x48_S8x4352x80_S8x4352x128_d2 (ix3 b r n)
      0 (by show 0 < 2; decide) S8x4352x48 _ rfl rfl 0 rfl (ix3 b r (⟨n.val, h⟩ : Fin 48))
      (fun a ha => match a with | ⟨0, _⟩ => rfl | ⟨1, _⟩ => rfl | ⟨2, _⟩ => absurd rfl ha) (by show 0 + n.val = n.val; omega)).trans ?_
  rw [val_main_v53_apply]
  exact congrArg (val_main_v48 (F := Ideal) x0 x1 x2 x3 x4 x5) (funext fun a => Fin.ext (match a with | ⟨0, _⟩ => rfl | ⟨1, _⟩ => rfl | ⟨2, _⟩ => hj.symm))

/-- The third result's zeros. -/
theorem g_zero (b : Fin 8) (r : Fin 4352) (n : Fin 128) (h : 48 ≤ n.val) : val_main_v59 (F := Ideal) x0 x1 x2 x3 x4 x5 (ix3 b r n) = (0 : EReal) := by
  have hn := n.isLt
  unfold val_main_v59
  refine (concatenate_apply_piece (t := S8x4352x128) 2 [⟨S8x4352x48, val_main_v53 (F := Ideal) x0 x1 x2 x3 x4 x5⟩, ⟨S8x4352x80, val_main_v58 (F := Ideal)⟩]
      concatenates_S8x4352x48_S8x4352x80_S8x4352x128_d2 (ix3 b r n)
      1 (by show 1 < 2; decide) S8x4352x80 _ rfl rfl 48 rfl (ix3 b r (⟨n.val - 48, by omega⟩ : Fin 80))
      (fun a ha => match a with | ⟨0, _⟩ => rfl | ⟨1, _⟩ => rfl | ⟨2, _⟩ => absurd rfl ha) (by show 48 + (n.val - 48) = n.val; omega)).trans ?_
  exact (val_main_v58_apply _).trans Ideal.ofBits_zero_f32

end Cert.InpRef

end
-- ==== Proof.Inp.Fin.lean ====
module

public import proofs.«01_k».proof.Proof.Inp.Body
public import proofs.«01_k».proof.Proof.Inp.Host
public import proofs.«01_k».proof.Proof.Inp.Ref
public import Idealize.ShloMosaic.Lib.Pipeline.ValueKit.Geometry

@[expose] public section

set_option maxRecDepth 16384

noncomputable section

namespace Cert.InpFin

open Cert.Kernel3Ideal Cert.Kernel3Ideal.Gen Idealize.ShloMosaic Idealize.ShloMosaic.TcCoe Idealize.ShloMosaic.ValueIdx
open Idealize.ShloMosaic.Pipeline (Dat)
open Idealize.SL.Sem
open Cert.Tok Cert.InpBody Cert.InpHost Cert.InpRef
open Cert.Reference3Ideal.Read (val_main_v55 val_main_v57 val_main_v59)
open scoped BigOperators

variable (m : (ℓ : Loc nD τ sig) → Buf (Elt Ideal) ℓ) (c : Dev nD)

theorem idx : ∀ t : Fin cfg0.N, win0_0.index t 0 = win0_6.index t 0 ∧ win0_0.index t 1 = win0_6.index t 1 ∧ win0_0.index t 2 = 0
    ∧ win0_1.index t 0 = win0_6.index t 0 ∧ (win0_1.index t 1 = if win0_6.index t 1 < 1 then 0 else 1) ∧ win0_1.index t 2 = 0 ∧ win0_1.index t 3 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0 :=
  (by decide +kernel : ∀ t : Fin grid0.N, win0_0.index t 0 = win0_6.index t 0 ∧ win0_0.index t 1 = win0_6.index t 1 ∧ win0_0.index t 2 = 0
    ∧ win0_1.index t 0 = win0_6.index t 0 ∧ (win0_1.index t 1 = if win0_6.index t 1 < 1 then 0 else 1) ∧ win0_1.index t 2 = 0 ∧ win0_1.index t 3 = 0
    ∧ win0_2.index t 0 = 0 ∧ win0_2.index t 1 = 0 ∧ win0_3.index t 0 = 0 ∧ win0_3.index t 1 = 0 ∧ win0_4.index t 0 = 0 ∧ win0_4.index t 1 = 0
    ∧ win0_5.index t 0 = 0 ∧ win0_5.index t 1 = 0)
theorem idxO : ∀ t : Fin cfg0.N, win0_6.index t 0 < 8 ∧ win0_6.index t 1 < 17 ∧ win0_6.index t 2 = 0
    ∧ win0_7.index t 0 = win0_6.index t 0 ∧ win0_7.index t 1 = win0_6.index t 1 ∧ win0_7.index t 2 = 0
    ∧ win0_8.index t 0 = win0_6.index t 0 ∧ win0_8.index t 1 = win0_6.index t 1 ∧ win0_8.index t 2 = 0 :=
  (by decide +kernel : ∀ t : Fin grid0.N, win0_6.index t 0 < 8 ∧ win0_6.index t 1 < 17 ∧ win0_6.index t 2 = 0
    ∧ win0_7.index t 0 = win0_6.index t 0 ∧ win0_7.index t 1 = win0_6.index t 1 ∧ win0_7.index t 2 = 0
    ∧ win0_8.index t 0 = win0_6.index t 0 ∧ win0_8.index t 1 = win0_6.index t 1 ∧ win0_8.index t 2 = 0)

/-- The tokens' block at point `t`: 256 tokens of batch entry `b`. -/
theorem blk_h (t : Fin cfg0.N) (b : Fin 8) (hb : b.val = win0_6.index t 0) (r : Fin 4352) (a : Fin 256) (hr : r.val = 256 * win0_6.index t 1 + a.val) (k : Fin 1024) :
    iblk m c 0 t (ix3 (0 : Fin 1) a k) = hv (HC m c) (HL m c) b r k := by
  obtain ⟨h0, h1, h2, -⟩ := idx t
  rw [← hArr_apply, ← V_h]
  unfold iblk
  refine congrArg (V m c main_v0) (funext fun x => Fin.ext (((win0_0).rect_emb_val t _ x).trans (match x with
    | ⟨0, _⟩ => ?_ | ⟨1, _⟩ => ?_ | ⟨2, _⟩ => ?_)))
  · show win0_0.index t 0 * 1 + 0 = b.val; omega
  · show win0_0.index t 1 * 256 + a.val = r.val; omega
  · show win0_0.index t 2 * 1024 + k.val = k.val; omega

/-- The modulation's block at point `t`: the tokens' own. -/
theorem blk_m (t : Fin cfg0.N) (b : Fin 8) (hb : b.val = win0_6.index t 0) (r : Fin 4352) (a : Fin 256) (hr : r.val = 256 * win0_6.index t 1 + a.val) (q : Fin 6) (k : Fin 1024) :
    iblk m c 1 t (ix4 (0 : Fin 1) (0 : Fin 1) q k) = mv (MC m c) (ML m c) q b r k := by
  obtain ⟨-, -, -, h0, h1, h2, h3, -⟩ := idx t
  have ha := a.isLt
  have hi : win0_1.index t 1 < 2 := by rw [h1]; split <;> omega
  rw [← mArr_apply (MC m c) (ML m c) b (⟨win0_1.index t 1, hi⟩ : Fin 2) q r k (by
    constructor
    · intro h
      show win0_1.index t 1 = 0
      rw [h1, if_pos (by omega)]
    · intro h
      show win0_1.index t 1 = 1
      rw [h1, if_neg (by omega)]), ← V_m]
  unfold iblk
  refine congrArg (V m c main_v6) (funext fun x => Fin.ext (((win0_1).rect_emb_val t _ x).trans (match x with
    | ⟨0, _⟩ => ?_ | ⟨1, _⟩ => ?_ | ⟨2, _⟩ => ?_ | ⟨3, _⟩ => ?_)))
  · show win0_1.index t 0 * 1 + 0 = b.val; omega
  · show win0_1.index t 1 * 1 + 0 = win0_1.index t 1; omega
  · show win0_1.index t 2 * 6 + q.val = q.val; omega
  · show win0_1.index t 3 * 1024 + k.val = k.val; omega

theorem blk_n (t : Fin cfg0.N) (k : Fin 1024) : iblk m c 2 t (ix2 (0 : Fin 1) k) = NW m c (ix1 k) := by
  obtain ⟨-, -, -, -, -, -, -, h0, h1, -⟩ := idx t
  rw [← nArr_apply (NW m c), ← V_n]
  unfold iblk
  refine congrArg (V m c main_v18) (funext fun x => Fin.ext (((win0_2).rect_emb_val t _ x).trans (match x with | ⟨0, _⟩ => ?_ | ⟨1, _⟩ => ?_)))
  · show win0_2.index t 0 * 1 + 0 = 0; omega
  · show win0_2.index t 1 * 1024 + k.val = k.val; omega

theorem blk_a (t : Fin cfg0.N) (k : Fin 1024) (n : Fin 3584) : iblk m c 3 t (ix2 k n) = WI m c (ix2 k (colA n)) := by
  obtain ⟨-, -, -, -, -, -, -, -, -, h0, h1, -⟩ := idx t
  rw [← aArr_apply (WI m c), ← V_a]
  unfold iblk
  refine congrArg (V m c main_v13) (funext fun x => Fin.ext (((win0_3).rect_emb_val t _ x).trans (match x with | ⟨0, _⟩ => ?_ | ⟨1, _⟩ => ?_)))
  · show win0_3.index t 0 * 1024 + k.val = k.val; omega
  · show win0_3.index t 1 * 3584 + n.val = n.val; omega

theorem blk_b (t : Fin cfg0.N) (k : Fin 1024) (n : Fin 2048) : iblk m c 4 t (ix2 k n) = WI m c (ix2 k (colB n)) := by
  obtain ⟨-, -, -, -, -, -, -, -, -, -, -, h0, h1, -⟩ := idx t
  rw [← bArr_apply (WI m c), ← V_b]
  unfold iblk
  refine congrArg (V m c main_v15) (funext fun x => Fin.ext (((win0_4).rect_emb_val t _ x).trans (match x with | ⟨0, _⟩ => ?_ | ⟨1, _⟩ => ?_)))
  · show win0_4.index t 0 * 1024 + k.val = k.val; omega
  · show win0_4.index t 1 * 2048 + n.val = n.val; omega

theorem blk_g (t : Fin cfg0.N) (k : Fin 1024) (n : Fin 128) : iblk m c 5 t (ix2 k n) = gArr (WI m c) (ix2 k n) := by
  obtain ⟨-, -, -, -, -, -, -, -, -, -, -, -, -, h0, h1⟩ := idx t
  rw [← V_g]
  unfold iblk
  refine congrArg (V m c main_v17) (funext fun x => Fin.ext (((win0_5).rect_emb_val t _ x).trans (match x with | ⟨0, _⟩ => ?_ | ⟨1, _⟩ => ?_)))
  · show win0_5.index t 0 * 1024 + k.val = k.val; omega
  · show win0_5.index t 1 * 128 + n.val = n.val; omega

/-- A block's element from the arguments: the token's modulated norm against the block's column. -/
theorem block_eq {N : Nat} (t : Fin cfg0.N) (w : Vec Ideal ⟨2, ![1024, N]⟩ .bf16) (n : Fin N) (a : Fin 256) (b : Fin 8) (hb : b.val = win0_6.index t 0)
    (r : Fin 4352) (hr : r.val = 256 * win0_6.index t 1 + a.val) (f : Fin 1024 → EReal) (hf : ∀ k, w (ix2 k n) = f k) :
    blockVal (iblk m c 0 t) (iblk m c 1 t) (iblk m c 2 t) w a n
      = ∑ k : Fin 1024, nm (hv (HC m c) (HL m c) b r) (fun k => NW m c (ix1 k)) (mv (MC m c) (ML m c) 1 b r) (mv (MC m c) (ML m c) 0 b r) k * f k := by
  unfold blockVal
  refine Finset.sum_congr rfl fun k _ => congrArg₂ (· * ·) (nm_congr (funext fun j => ?_) (funext fun j => ?_) (funext fun j => ?_) (funext fun j => ?_) k) (hf k)
  · exact blk_h m c t b hb r a hr j
  · exact blk_n m c t j
  · exact blk_m m c t b hb r a hr 1 j
  · exact blk_m m c t b hb r a hr 0 j

/-- The first result array after the run. -/
theorem final6 : (dats m 0 c).arrAt 6 cfg0.N = val_main_v55 (F := Ideal) (HL m c) (HC m c) (ML m c) (MC m c) (NW m c) (WI m c) := by
  refine (dats m 0 c).arrAt_eq_of_covers 6 _ (by decide +kernel) fun t hf y => ?_
  obtain ⟨h0, h1, h2, -⟩ := idxO t
  have hy1 : (y 1).val < 256 := (y 1).isLt
  have hy2 : (y 2).val < 3584 := (y 2).isLt
  have e : ((cfg0.win 6).blk t).view.emb y = ix3 (⟨win0_6.index t 0, h0⟩ : Fin 8) (⟨256 * win0_6.index t 1 + (y 1).val, by omega⟩ : Fin 4352) (⟨(y 2).val, hy2⟩ : Fin 3584) :=
    funext fun x => Fin.ext (((win0_6).rect_emb_val t y x).trans (match x with
      | ⟨0, _⟩ => by
        have hy0 : (y 0).val < 1 := (y 0).isLt
        show win0_6.index t 0 * 1 + (y 0).val = win0_6.index t 0; omega
      | ⟨1, _⟩ => by show win0_6.index t 1 * 256 + (y 1).val = 256 * win0_6.index t 1 + (y 1).val; omega
      | ⟨2, _⟩ => by show win0_6.index t 2 * 3584 + (y 2).val = (y 2).val; omega))
  rw [e]
  refine Eq.trans ?_ (a_apply (HL m c) (HC m c) (ML m c) (MC m c) (NW m c) (WI m c) _ _ _).symm
  show (dats m 0 c).after 6 t _ = _
  rw [after0_6]
  refine (out6_apply _ _ _ _ _ _ y).trans ?_
  exact block_eq m c t (iblk m c 3 t) (⟨(y 2).val, hy2⟩ : Fin 3584) (⟨(y 1).val, hy1⟩ : Fin 256) _ rfl _ rfl _ (fun k => blk_a m c t k _)

/-- The second result array after the run. -/
theorem final7 : (dats m 0 c).arrAt 7 cfg0.N = val_main_v57 (F := Ideal) (HL m c) (HC m c) (ML m c) (MC m c) (NW m c) (WI m c) := by
  refine (dats m 0 c).arrAt_eq_of_covers 7 _ (by decide +kernel) fun t hf y => ?_
  obtain ⟨h0, h1, -, g0, g1, g2, -⟩ := idxO t
  have hy1 : (y 1).val < 256 := (y 1).isLt
  have hy2 : (y 2).val < 2048 := (y 2).isLt
  have e : ((cfg0.win 7).blk t).view.emb y = ix3 (⟨win0_6.index t 0, h0⟩ : Fin 8) (⟨256 * win0_6.index t 1 + (y 1).val, by omega⟩ : Fin 4352) (⟨(y 2).val, hy2⟩ : Fin 2048) :=
    funext fun x => Fin.ext (((win0_7).rect_emb_val t y x).trans (match x with
      | ⟨0, _⟩ => by
        have hy0 : (y 0).val < 1 := (y 0).isLt
        show win0_7.index t 0 * 1 + (y 0).val = win0_6.index t 0; omega
      | ⟨1, _⟩ => by show win0_7.index t 1 * 256 + (y 1).val = 256 * win0_6.index t 1 + (y 1).val; omega
      | ⟨2, _⟩ => by show win0_7.index t 2 * 2048 + (y 2).val = (y 2).val; omega))
  rw [e]
  refine Eq.trans ?_ (b_apply (HL m c) (HC m c) (ML m c) (MC m c) (NW m c) (WI m c) _ _ _).symm
  show (dats m 0 c).after 7 t _ = _
  rw [after0_7]
  refine (out7_apply _ _ _ _ _ _ y).trans ?_
  exact block_eq m c t (iblk m c 4 t) (⟨(y 2).val, hy2⟩ : Fin 2048) (⟨(y 1).val, hy1⟩ : Fin 256) _ rfl _ rfl _ (fun k => blk_b m c t k _)

/-- The third result array after the run. -/
theorem final8 : (dats m 0 c).arrAt 8 cfg0.N = val_main_v59 (F := Ideal) (HL m c) (HC m c) (ML m c) (MC m c) (NW m c) (WI m c) := by
  refine (dats m 0 c).arrAt_eq_of_covers 8 _ (by decide +kernel) fun t hf y => ?_
  obtain ⟨h0, h1, -, -, -, -, g0, g1, g2⟩ := idxO t
  have hy1 : (y 1).val < 256 := (y 1).isLt
  have hy2 : (y 2).val < 128 := (y 2).isLt
  have e : ((cfg0.win 8).blk t).view.emb y = ix3 (⟨win0_6.index t 0, h0⟩ : Fin 8) (⟨256 * win0_6.index t 1 + (y 1).val, by omega⟩ : Fin 4352) (⟨(y 2).val, hy2⟩ : Fin 128) :=
    funext fun x => Fin.ext (((win0_8).rect_emb_val t y x).trans (match x with
      | ⟨0, _⟩ => by
        have hy0 : (y 0).val < 1 := (y 0).isLt
        show win0_8.index t 0 * 1 + (y 0).val = win0_6.index t 0; omega
      | ⟨1, _⟩ => by show win0_8.index t 1 * 256 + (y 1).val = 256 * win0_6.index t 1 + (y 1).val; omega
      | ⟨2, _⟩ => by show win0_8.index t 2 * 128 + (y 2).val = (y 2).val; omega))
  rw [e]
  show (dats m 0 c).after 8 t _ = _
  rw [after0_8]
  refine (out8_apply _ _ _ _ _ _ y).trans ?_
  by_cases h : (y 2).val < 48
  · refine Eq.trans ?_ (g_apply (HL m c) (HC m c) (ML m c) (MC m c) (NW m c) (WI m c) _ _ _ (⟨5632 + (y 2).val, by omega⟩ : Fin 5680) h rfl).symm
    exact block_eq m c t (iblk m c 5 t) (⟨(y 2).val, hy2⟩ : Fin 128) (⟨(y 1).val, hy1⟩ : Fin 256) _ rfl _ rfl _
      (fun k => (blk_g m c t k _).trans (gArr_gate _ k _ _ h rfl))
  · refine Eq.trans ?_ (g_zero (HL m c) (HC m c) (ML m c) (MC m c) (NW m c) (WI m c) _ _ _ (Nat.le_of_not_lt h)).symm
    refine (block_eq m c t (iblk m c 5 t) (⟨(y 2).val, hy2⟩ : Fin 128) (⟨(y 1).val, hy1⟩ : Fin 256) (⟨win0_6.index t 0, h0⟩ : Fin 8) rfl
      (⟨256 * win0_6.index t 1 + (y 1).val, by omega⟩ : Fin 4352) rfl (fun _ => 0)
      (fun k => (blk_g m c t k _).trans (gArr_zero _ k _ (Nat.le_of_not_lt h)))).trans ?_
    exact Finset.sum_eq_zero fun k _ => mul_zero _

end Cert.InpFin

end
-- ==== Proof.Inp.Claims.lean ====
module

public import proofs.«01_k».proof.Defs
public import proofs.«01_k».proof.Proof.Inp.Fin
public import proofs.«01_k».proof.Proof.Gen.Reference3Ideal.Run
public import Idealize.ShloMosaic.Lib.Quiescent
public import Idealize.ShloMosaic.Lib.Claim

@[expose] public section

set_option maxRecDepth 65536

noncomputable section

namespace Cert.InpClaims

open Idealize.ShloMosaic Idealize.ShloMosaic.TcCoe Idealize.SL.Sem

/-- The in-projection's reference runs, leaves its arguments as they were and every counter at zero. -/
theorem ref_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run _ _ _).mono (fun r h => ⟨fun c => (h c).2.2.2, sem_eq_zero_of_no_sems (by decide) r.2⟩) (Cert.Reference3Ideal.Value.run (F := Ideal) m g)

theorem quiescent_ri : Cert.quiescent_Reference3Ideal := fun m g _ => ref_frame m g

/-- From equal arguments the in-projection and its reference end with equal results. -/
theorem algebraic : Cert.algebraic_Kernel3Ideal_Reference3Ideal := by
  intro m g m' g' hpre hag
  refine ⟨fun c => Cert.Reference3Ideal.Read.val_main_v55 (F := Ideal) (Cert.InpHost.HL m c) (Cert.InpHost.HC m c) (Cert.InpHost.ML m c) (Cert.InpHost.MC m c) (Cert.InpHost.NW m c) (Cert.InpHost.WI m c),
    fun c => Cert.Reference3Ideal.Read.val_main_v57 (F := Ideal) (Cert.InpHost.HL m c) (Cert.InpHost.HC m c) (Cert.InpHost.ML m c) (Cert.InpHost.MC m c) (Cert.InpHost.NW m c) (Cert.InpHost.WI m c),
    fun c => Cert.Reference3Ideal.Read.val_main_v59 (F := Ideal) (Cert.InpHost.HL m c) (Cert.InpHost.HC m c) (Cert.InpHost.ML m c) (Cert.InpHost.MC m c) (Cert.InpHost.NW m c) (Cert.InpHost.WI m c), ?_, ?_⟩
  · exact (θ_run _ _ _).mono (fun r h c => ⟨(h c).1.trans (Cert.InpFin.final6 m c), (h c).2.1.trans (Cert.InpFin.final7 m c), (h c).2.2.1.trans (Cert.InpFin.final8 m c), (h c).2.2.2⟩)
      (Cert.Kernel3Ideal.Value.run_blocks m g)
  · refine (θ_run _ _ _).mono (fun r h c => ⟨(h c).1.trans ?_, (h c).2.1.trans ?_, (h c).2.2.1.trans ?_, (h c).2.2.2⟩) (Cert.Reference3Ideal.Value.run (F := Ideal) m' g')
    · obtain ⟨h0, h1, h2, h3, h4, h5⟩ := hag c
      rw [Cert.Reference3Ideal.Read.val_main_v55_eq, h0, h1, h2, h3, h4, h5]
    · obtain ⟨h0, h1, h2, h3, h4, h5⟩ := hag c
      rw [Cert.Reference3Ideal.Read.val_main_v57_eq, h0, h1, h2, h3, h4, h5]
    · obtain ⟨h0, h1, h2, h3, h4, h5⟩ := hag c
      rw [Cert.Reference3Ideal.Read.val_main_v59_eq, h0, h1, h2, h3, h4, h5]

end Cert.InpClaims

end
-- ==== Proof.Odd.Kit.lean ====
module

public import proofs.«01_k».proof.Proof.Inp.Kit
public import Idealize.ShloMosaic.Lib.Pipeline.ValueKit.Tiles
public import Idealize.ShloMosaic.Lib.VecWindow
public import Idealize.ShloMosaic.Lib.WholeRead

@[expose] public section

set_option maxRecDepth 16384

noncomputable section

namespace Cert.Tok

open Idealize.ShloMosaic Idealize.ShloMosaic.TcCoe Idealize.ShloMosaic.ValueIdx
open scoped BigOperators

/-- A load of a whole buffer's own sizes reads what the buffer holds. -/
theorem ld_full {sig : RefSig} {κ : Kind} {sp : Space} {s : Shape} {e : EltTy} {M : Memref sig κ sp s e} (h : M.IsWhole) (X : s.Idx → Elt Ideal e)
    {off : Fin s.rank → Nat} (inb : ∀ a, off a + s.size a ≤ s.size a) :
    View.readAt (Elt Ideal) M.view (Rect.unit off s.size inb).toLoadRect (h.unread X) = X :=
  (View.readAt_full _ _ _).trans (h.read_unread X)

/-- Two rows side by side. -/
def side {A B N : Nat} (h : N = A + B) (f : Fin A → EReal) (g : Fin B → EReal) (k : Fin N) : EReal :=
  if hk : k.val < A then f ⟨k.val, hk⟩ else g ⟨k.val - A, by have := k.isLt; omega⟩

theorem side_congr {A B N : Nat} (h : N = A + B) {f f' : Fin A → EReal} {g g' : Fin B → EReal} (hf : f = f') (hg : g = g') (k : Fin N) :
    side h f g k = side h f' g' k := by subst hf hg; rfl

theorem side_left {A B N : Nat} (h : N = A + B) (f : Fin A → EReal) (g : Fin B → EReal) (k : Fin N) (j : Fin A) (hj : k.val = j.val) : side h f g k = f j := by
  have := j.isLt
  unfold side
  rw [dif_pos (by omega)]
  exact congrArg f (Fin.ext hj)

theorem side_right {A B N : Nat} (h : N = A + B) (f : Fin A → EReal) (g : Fin B → EReal) (k : Fin N) (j : Fin B) (hj : k.val = A + j.val) : side h f g k = g j := by
  unfold side
  rw [dif_neg (by omega)]
  exact congrArg g (Fin.ext (by show k.val - A = j.val; omega))

/-- The residual: a token plus its gate times its row of the mixer against a column of the weights. -/
def outv {K : Nat} (ctx : FVec Ideal ⟨3, ![8, 256, 1024]⟩ .f32) (lat : FVec Ideal ⟨3, ![8, 4096, 1024]⟩ .f32) (mc : FVec Ideal ⟨2, ![1, 6144]⟩ .f32)
    (ml : FVec Ideal ⟨2, ![8, 6144]⟩ .f32) (mix : Fin 8 → Fin 4352 → Fin K → EReal) (w : FVec Ideal ⟨2, ![K, 1024]⟩ .f32) (b : Fin 8) (r : Fin 4352) (n : Fin 1024) : EReal :=
  hv ctx lat b r n + mv mc ml 2 b r n * ∑ k : Fin K, mix b r k * w (ix2 k n)

/-- The odd layers' mixer row of a token: the window attention's half, then the dense attention's. -/
def oddMix (sc dc : FVec Ideal ⟨3, ![8, 256, 512]⟩ .f32) (sl dl : FVec Ideal ⟨3, ![8, 4096, 512]⟩ .f32) (b : Fin 8) (r : Fin 4352) (k : Fin 1024) : EReal :=
  tok (fun s => side (rfl : 1024 = 512 + 512) (fun k => sc (ix3 b s k)) (fun k => dc (ix3 b s k)))
    (fun s => side (rfl : 1024 = 512 + 512) (fun k => sl (ix3 b s k)) (fun k => dl (ix3 b s k))) r k

end Cert.Tok

end
-- ==== Proof.Even.Kit.lean ====
module

public import proofs.«01_k».proof.Proof.Odd.Kit
public import proofs.«01_k».proof.Proof.Exp.Silu

@[expose] public section

set_option maxRecDepth 16384

noncomputable section

namespace Cert.Tok

open Idealize.ShloMosaic Idealize.ShloMosaic.TcCoe Idealize.ShloMosaic.ValueIdx
open Cert.Silu
open scoped BigOperators

/-- Element `j` of the group that holds element `k`. -/
def gidx {G W : Nat} (h : G * W = 1024) (k : Fin 1024) (j : Fin W) : Fin 1024 := ⟨k.val / W * W + j.val, by
  have hj := j.isLt
  have hk : k.val < W * G := by rw [Nat.mul_comm, h]; exact k.isLt
  have hg : k.val / W + 1 ≤ G := Nat.div_lt_of_lt_mul hk
  calc k.val / W * W + j.val < k.val / W * W + W := by omega
    _ = (k.val / W + 1) * W := by ring
    _ ≤ G * W := Nat.mul_le_mul_right W hg
    _ = 1024 := h⟩

/-- A row, each group of it divided by the root of its mean square. -/
def gnorm {G W : Nat} (h : G * W = 1024) (n : EReal) (x : Fin 1024 → EReal) (k : Fin 1024) : EReal :=
  x k * Ideal.rsqrt (Ideal.div (∑ j : Fin W, x (gidx h k j) * x (gidx h k j)) n + Ideal.ofBits .f32 0x358637BD#32)

theorem gnorm_congr {G W : Nat} (h : G * W = 1024) (n : EReal) {x y : Fin 1024 → EReal} (e : x = y) (k : Fin 1024) : gnorm h n x k = gnorm h n y k := by subst e; rfl

/-- The group's norm from the group's own elements. -/
theorem gnorm_group {G W : Nat} (h : G * W = 1024) (n : EReal) (x : Fin 1024 → EReal) (k : Fin 1024) (y : Fin W → EReal) (hy : ∀ j, x (gidx h k j) = y j) :
    gnorm h n x k = x k * Ideal.rsqrt (Ideal.div (∑ j : Fin W, y j * y j) n + Ideal.ofBits .f32 0x358637BD#32) := by
  unfold gnorm; simp only [hy]

/-- The even layers' mixer row of a token: the state-space half gated and normed in two groups, then the memory half normed in four and gated. -/
def evenRow (ya z ym o wa wm : Fin 1024 → EReal) (k : Fin 2048) : EReal :=
  side (rfl : 2048 = 1024 + 1024) (fun k => gnorm (G := 2) (W := 512) rfl (Ideal.ofBits .f32 0x44000000#32) (fun k => ya k * swish (z k)) k * wa k)
    (fun k => gnorm (G := 4) (W := 256) rfl (Ideal.ofBits .f32 0x43800000#32) ym k * wm k * Ideal.logistic (o k)) k

theorem evenRow_congr {ya z ym o wa wm ya' z' ym' o' wa' wm' : Fin 1024 → EReal} (h1 : ya = ya') (h2 : z = z') (h3 : ym = ym') (h4 : o = o') (h5 : wa = wa') (h6 : wm = wm')
    (k : Fin 2048) : evenRow ya z ym o wa wm k = evenRow ya' z' ym' o' wa' wm' k := by subst h1 h2 h3 h4 h5 h6; rfl

/-- That row of token `r` of batch entry `b`. -/
def evenMix (y0 y1 z o : FVec Ideal ⟨3, ![8, 4352, 1024]⟩ .f32) (wa wm : FVec Ideal ⟨1, ![1024]⟩ .f32) (b : Fin 8) (r : Fin 4352) (k : Fin 2048) : EReal :=
  evenRow (fun k => y0 (ix3 b r k)) (fun k => z (ix3 b r k)) (fun k => y1 (ix3 b r k)) (fun k => o (ix3 b r k)) (fun k => wa (ix1 k)) (fun k => wm (ix1 k)) k

end Cert.Tok

end
-- ==== Proof.Even.Body.lean ====
module

public import proofs.«01_k».proof.Proof.Even.Kit
public import proofs.«01_k».proof.Proof.Gen.Kernel4Ideal.Frame
public import proofs.«01_k».proof.Proof.Gen.Kernel4Ideal.Value

@[expose] public section

set_option maxRecDepth 16384

noncomputable section

namespace Cert.EvenBody

open Cert.Kernel4Ideal Cert.Kernel4Ideal.Gen Idealize.ShloMosaic Idealize.ShloMosaic.TcCoe Idealize.ShloMosaic.ValueIdx
open Cert.Tok Cert.Silu
open scoped BigOperators

theorem sumsq512 (x : FVec Ideal S256x512 .f32) (r : Fin 256) :
    multiReduction .add [1] S256 (mulf x x) 0x00000000#32 reduces_S256x512_S256 (.inl rfl) rfl (ix1 r) = ∑ j : Fin 512, x (ix2 r j) * x (ix2 r j) := by
  refine (Ideal.multiReduction_add_single (s := S256x512) (t := S256) (a := 1) (mulf x x) _ reduces_S256x512_S256 (.inl rfl) rfl (ix1 r)).trans ?_
  refine Finset.sum_congr rfl fun j _ => ?_
  have e : reduces_S256x512_S256.lift (ix1 r) j = ix2 r j := funext fun b => Fin.ext (match b with | ⟨0, _⟩ => rfl | ⟨1, _⟩ => rfl)
  rw [e]; rfl

theorem sumsq256 (x : FVec Ideal S256x256 .f32) (r : Fin 256) :
    multiReduction .add [1] S256 (mulf x x) 0x00000000#32 reduces_S256x256_S256 (.inl rfl) rfl (ix1 r) = ∑ j : Fin 256, x (ix2 r j) * x (ix2 r j) := by
  refine (Ideal.multiReduction_add_single (s := S256x256) (t := S256) (a := 1) (mulf x x) _ reduces_S256x256_S256 (.inl rfl) rfl (ix1 r)).trans ?_
  refine Finset.sum_congr rfl fun j _ => ?_
  have e : reduces_S256x256_S256.lift (ix1 r) j = ix2 r j := funext fun b => Fin.ext (match b with | ⟨0, _⟩ => rfl | ⟨1, _⟩ => rfl)
  rw [e]; rfl

theorem col_apply (x : FVec Ideal S256 .f32) (r : Fin 256) : shapeCast S256x1 x shapeCasts_S256_S256x1 (ix2 r (0 : Fin 1)) = x (ix1 r) :=
  shapeCast_apply _ shapeCasts_S256_S256x1 (ix2 r (0 : Fin 1)) (ix1 r) (by
    rw [Shape.rowMajor_val_two, Shape.rowMajor_val_one]; show r.val = r.val * 1 + 0; omega)

/-- A row of a 512-wide group times its root. -/
theorem grp512 (x : FVec Ideal S256x512 .f32) (r : Fin 256) (k : Fin 512) :
    mulf x (broadcastTo S256x512 (rsqrt (addf (divf (shapeCast S256x1 (multiReduction .add [1] S256 (mulf x x) 0x00000000#32 reduces_S256x512_S256 (.inl rfl) rfl : FVec Ideal S256 .f32) shapeCasts_S256_S256x1)
      (broadcast S256x1 (Scalar.ofBits .f32 0x44000000#32))) (broadcast S256x1 (Scalar.ofBits .f32 0x358637BD#32)) : FVec Ideal S256x1 .f32)) broadcasts_S256x1_S256x512) (ix2 r k)
      = x (ix2 r k) * Ideal.rsqrt (Ideal.div (∑ j : Fin 512, x (ix2 r j) * x (ix2 r j)) (Ideal.ofBits .f32 0x44000000#32) + Ideal.ofBits .f32 0x358637BD#32) := by
  refine congrArg (x (ix2 r k) * ·) ?_
  refine (broadcastTo_apply _ broadcasts_S256x1_S256x512 (ix2 r k) (ix2 r (0 : Fin 1)) (fun b => match b with | ⟨0, _⟩ => rfl | ⟨1, _⟩ => rfl)).trans ?_
  exact congrArg Ideal.rsqrt (congrArg (· + _) (congrArg (Ideal.div · _) ((col_apply _ r).trans (sumsq512 x r))))

/-- A row of a 256-wide group times its root. -/
theorem grp256 (x : FVec Ideal S256x256 .f32) (r : Fin 256) (k : Fin 256) :
    mulf x (broadcastTo S256x256 (rsqrt (addf (divf (shapeCast S256x1 (multiReduction .add [1] S256 (mulf x x) 0x00000000#32 reduces_S256x256_S256 (.inl rfl) rfl : FVec Ideal S256 .f32) shapeCasts_S256_S256x1)
      (broadcast S256x1 (Scalar.ofBits .f32 0x43800000#32))) (broadcast S256x1 (Scalar.ofBits .f32 0x358637BD#32)) : FVec Ideal S256x1 .f32)) broadcasts_S256x1_S256x256) (ix2 r k)
      = x (ix2 r k) * Ideal.rsqrt (Ideal.div (∑ j : Fin 256, x (ix2 r j) * x (ix2 r j)) (Ideal.ofBits .f32 0x43800000#32) + Ideal.ofBits .f32 0x358637BD#32) := by
  refine congrArg (x (ix2 r k) * ·) ?_
  refine (broadcastTo_apply _ broadcasts_S256x1_S256x256 (ix2 r k) (ix2 r (0 : Fin 1)) (fun b => match b with | ⟨0, _⟩ => rfl | ⟨1, _⟩ => rfl)).trans ?_
  exact congrArg Ideal.rsqrt (congrArg (· + _) (congrArg (Ideal.div · _) ((col_apply _ r).trans (sumsq256 x r))))

theorem cast1024 (v : Vec Ideal S1x256x1024 .bf16) (r : Fin 256) (k : Fin 1024) :
    shapeCast S256x1024 v shapeCasts_S1x256x1024_S256x1024 (ix2 r k) = v (ix3 (0 : Fin 1) r k) :=
  shapeCast_apply _ shapeCasts_S1x256x1024_S256x1024 (ix2 r k) (ix3 (0 : Fin 1) r k) (by
    rw [Shape.rowMajor_val_two, Shape.rowMajor_val_three]
    show (0 * 256 + r.val) * 1024 + k.val = r.val * 1024 + k.val; omega)

theorem p2_apply (v0 : Vec Ideal S1x256x2048 .bf16) (r : Fin 256) (k : Fin 2048) : k0_pay2 v0 (ix2 r k) = v0 (ix3 (0 : Fin 1) r k) :=
  shapeCast_apply _ shapeCasts_S1x256x2048_S256x2048 (ix2 r k) (ix3 (0 : Fin 1) r k) (by
    rw [Shape.rowMajor_val_two, Shape.rowMajor_val_three]
    show (0 * 256 + r.val) * 2048 + k.val = r.val * 2048 + k.val; omega)

/-- Columns of the two halves of the mixer's block. -/
def lo (k : Fin 1024) : Fin 2048 := ⟨k.val, by have := k.isLt; omega⟩
def hi (k : Fin 1024) : Fin 2048 := ⟨1024 + k.val, by have := k.isLt; omega⟩

/-- The state-space half gated. -/
theorem p4_apply (v0 : Vec Ideal S1x256x2048 .bf16) (v3 : Vec Ideal S1x256x1024 .bf16) (r : Fin 256) (k : Fin 1024) :
    k0_pay4 v0 v3 (ix2 r k) = v0 (ix3 (0 : Fin 1) r (lo k)) * swish (v3 (ix3 (0 : Fin 1) r k)) := by
  unfold k0_pay4
  rw [← half_form, ← ofBits_half, ← cast1024 v3 r k]
  refine congrArg₂ (· * ·) ?_ rfl
  exact (extractStridedSlice_apply ![0, 0] (k0_pay2 v0) slices_S256x2048_o0_0_S256x1024 (ix2 r k) (ix2 r (lo k)) (fun a => match a with
    | ⟨0, _⟩ => by show r.val = 0 + r.val; omega
    | ⟨1, _⟩ => by show k.val = 0 + k.val; omega)).trans (p2_apply v0 r (lo k))

/-- The first of the two groups' norms at a column of the row. -/
theorem p5_apply (v0 : Vec Ideal S1x256x2048 .bf16) (v3 : Vec Ideal S1x256x1024 .bf16) (r : Fin 256) (j : Fin 512) (k : Fin 1024) (hk : k.val = j.val) :
    k0_pay5 v0 v3 (ix2 r j) = gnorm (G := 2) (W := 512) rfl (Ideal.ofBits .f32 0x44000000#32) (fun k => v0 (ix3 (0 : Fin 1) r (lo k)) * swish (v3 (ix3 (0 : Fin 1) r k))) k := by
  have hj := j.isLt
  have es : ∀ (i : Fin 512) (q : Fin 1024), q.val = i.val → extractStridedSlice S256x512 ![0, 0] (k0_pay4 v0 v3) slices_S256x1024_o0_0_S256x512 (ix2 r i)
      = v0 (ix3 (0 : Fin 1) r (lo q)) * swish (v3 (ix3 (0 : Fin 1) r q)) := fun i q hq =>
    (extractStridedSlice_apply ![0, 0] (k0_pay4 v0 v3) slices_S256x1024_o0_0_S256x512 (ix2 r i) (ix2 r q) (fun a => match a with
      | ⟨0, _⟩ => by show r.val = 0 + r.val; omega
      | ⟨1, _⟩ => by show q.val = 0 + i.val; omega)).trans (p4_apply v0 v3 r q)
  unfold k0_pay5
  rw [gnorm_group rfl _ _ k (fun i => extractStridedSlice S256x512 ![0, 0] (k0_pay4 v0 v3) slices_S256x1024_o0_0_S256x512 (ix2 r i))
    (fun i => (es i _ (by show k.val / 512 * 512 + i.val = i.val; omega)).symm)]
  refine (grp512 _ r j).trans ?_
  rw [es j k hk]

/-- The second group's norm. -/
theorem p67_apply (v0 : Vec Ideal S1x256x2048 .bf16) (v3 : Vec Ideal S1x256x1024 .bf16) (r : Fin 256) (j : Fin 512) (k : Fin 1024) (hk : k.val = 512 + j.val) :
    mulf (k0_pay6 v0 v3) (k0_pay7 v0 v3) (ix2 r j)
      = gnorm (G := 2) (W := 512) rfl (Ideal.ofBits .f32 0x44000000#32) (fun k => v0 (ix3 (0 : Fin 1) r (lo k)) * swish (v3 (ix3 (0 : Fin 1) r k))) k := by
  have hj := j.isLt
  have es : ∀ (i : Fin 512) (q : Fin 1024), q.val = 512 + i.val → k0_pay6 v0 v3 (ix2 r i)
      = v0 (ix3 (0 : Fin 1) r (lo q)) * swish (v3 (ix3 (0 : Fin 1) r q)) := fun i q hq =>
    (extractStridedSlice_apply ![0, 512] (k0_pay4 v0 v3) slices_S256x1024_o0_512_S256x512 (ix2 r i) (ix2 r q) (fun a => match a with
      | ⟨0, _⟩ => by show r.val = 0 + r.val; omega
      | ⟨1, _⟩ => by show q.val = 512 + i.val; omega)).trans (p4_apply v0 v3 r q)
  unfold k0_pay7
  rw [gnorm_group rfl _ _ k (fun i => k0_pay6 v0 v3 (ix2 r i)) (fun i => (es i _ (by show k.val / 512 * 512 + i.val = 512 + i.val; omega)).symm)]
  refine (grp512 _ r j).trans ?_
  rw [es j k hk]

theorem row_apply (v : Vec Ideal S1x1024 .f32) (r : Fin 256) (k : Fin 1024) :
    broadcastTo S256x1024 (shapeCast S1x1024 v shapeCasts_S1x1024_S1x1024 : FVec Ideal S1x1024 .f32) broadcasts_S1x1024_S256x1024 (ix2 r k) = v (ix2 (0 : Fin 1) k) :=
  (broadcastTo_apply _ broadcasts_S1x1024_S256x1024 (ix2 r k) (ix2 (0 : Fin 1) k) (fun b => match b with | ⟨0, _⟩ => rfl | ⟨1, _⟩ => rfl)).trans
    (shapeCast_apply _ shapeCasts_S1x1024_S1x1024 (ix2 (0 : Fin 1) k) (ix2 (0 : Fin 1) k) rfl)

/-- The state-space half of the mixer's row. -/
theorem p8_apply (v0 : Vec Ideal S1x256x2048 .bf16) (v3 : Vec Ideal S1x256x1024 .bf16) (v42 : Vec Ideal S1x1024 .f32) (r : Fin 256) (k : Fin 1024) :
    k0_pay8 (k0_pay5 v0 v3) (k0_pay6 v0 v3) (k0_pay7 v0 v3) v42 (ix2 r k)
      = gnorm (G := 2) (W := 512) rfl (Ideal.ofBits .f32 0x44000000#32) (fun k => v0 (ix3 (0 : Fin 1) r (lo k)) * swish (v3 (ix3 (0 : Fin 1) r k))) k * v42 (ix2 (0 : Fin 1) k) := by
  have hk := k.isLt
  unfold k0_pay8
  refine congrArg₂ (· * ·) ?_ (row_apply v42 r k)
  by_cases h : k.val < 512
  · exact (concatenate_apply_piece (t := S256x1024) 1 [⟨S256x512, k0_pay5 v0 v3⟩, ⟨S256x512, mulf (k0_pay6 v0 v3) (k0_pay7 v0 v3)⟩] concatenates_S256x512_S256x512_S256x1024_d1 (ix2 r k)
      0 (by show 0 < 2; decide) S256x512 _ rfl rfl 0 rfl (ix2 r (⟨k.val, h⟩ : Fin 512))
      (fun a ha => match a with | ⟨0, _⟩ => rfl | ⟨1, _⟩ => absurd rfl ha) (by show 0 + k.val = k.val; omega)).trans (p5_apply v0 v3 r _ k rfl)
  · exact (concatenate_apply_piece (t := S256x1024) 1 [⟨S256x512, k0_pay5 v0 v3⟩, ⟨S256x512, mulf (k0_pay6 v0 v3) (k0_pay7 v0 v3)⟩] concatenates_S256x512_S256x512_S256x1024_d1 (ix2 r k)
      1 (by show 1 < 2; decide) S256x512 _ rfl rfl 512 rfl (ix2 r (⟨k.val - 512, by omega⟩ : Fin 512))
      (fun a ha => match a with | ⟨0, _⟩ => rfl | ⟨1, _⟩ => absurd rfl ha) (by show 512 + (k.val - 512) = k.val; omega)).trans
      (p67_apply v0 v3 r _ k (by show k.val = 512 + (k.val - 512); omega))

theorem p9_apply (v0 : Vec Ideal S1x256x2048 .bf16) (r : Fin 256) (k : Fin 1024) : k0_pay9 (k0_pay2 v0) (ix2 r k) = v0 (ix3 (0 : Fin 1) r (hi k)) :=
  (extractStridedSlice_apply ![0, 1024] (k0_pay2 v0) slices_S256x2048_o0_1024_S256x1024 (ix2 r k) (ix2 r (hi k)) (fun a => match a with
    | ⟨0, _⟩ => by show r.val = 0 + r.val; omega
    | ⟨1, _⟩ => rfl)).trans (p2_apply v0 r (hi k))

/-- One of the four groups' norms, the group's columns from `o`. -/
theorem quarter (v0 : Vec Ideal S1x256x2048 .bf16) (o : Nat) (h : S256x1024.Slices ![0, o] S256x256) (ho : o = 0 ∨ o = 256 ∨ o = 512 ∨ o = 768) (r : Fin 256) (j : Fin 256) (k : Fin 1024)
    (hk : k.val = o + j.val) (x : FVec Ideal S256x256 .f32) (hx : x = extractStridedSlice S256x256 ![0, o] (k0_pay9 (k0_pay2 v0)) h) :
    x (ix2 r j) * Ideal.rsqrt (Ideal.div (∑ j : Fin 256, x (ix2 r j) * x (ix2 r j)) (Ideal.ofBits .f32 0x43800000#32) + Ideal.ofBits .f32 0x358637BD#32)
      = gnorm (G := 4) (W := 256) rfl (Ideal.ofBits .f32 0x43800000#32) (fun k => v0 (ix3 (0 : Fin 1) r (hi k))) k := by
  have hj := j.isLt
  have es : ∀ (i : Fin 256) (q : Fin 1024), q.val = o + i.val → x (ix2 r i) = v0 (ix3 (0 : Fin 1) r (hi q)) := fun i q hq => by
    rw [hx]
    exact (extractStridedSlice_apply ![0, o] (k0_pay9 (k0_pay2 v0)) h (ix2 r i) (ix2 r q) (fun a => match a with
      | ⟨0, _⟩ => by show r.val = 0 + r.val; omega
      | ⟨1, _⟩ => hq)).trans (p9_apply v0 r q)
  rw [gnorm_group rfl _ _ k (fun i => x (ix2 r i)) (fun i => (es i _ (by show k.val / 256 * 256 + i.val = o + i.val; omega)).symm), es j k hk]

theorem p3_apply (v6 : Vec Ideal S1x256x1024 .bf16) (r : Fin 256) (k : Fin 1024) : k0_pay3 v6 (ix2 r k) = v6 (ix3 (0 : Fin 1) r k) := cast1024 v6 r k

/-- The four groups' norms side by side. -/
theorem four_apply (v0 : Vec Ideal S1x256x2048 .bf16) (x : FVec Ideal S256x256 .f32) (r : Fin 256) (k : Fin 1024)
    (hx : ∀ (j : Fin 256), k.val = 768 + j.val → x (ix2 r j) = gnorm (G := 4) (W := 256) rfl (Ideal.ofBits .f32 0x43800000#32) (fun k => v0 (ix3 (0 : Fin 1) r (hi k))) k) :
    concatenate S256x1024 1 [⟨S256x256, k0_pay10 (k0_pay2 v0)⟩, ⟨S256x256, k0_pay11 (k0_pay2 v0)⟩, ⟨S256x256, k0_pay12 (k0_pay2 v0)⟩, ⟨S256x256, x⟩]
        concatenates_S256x256_S256x256_S256x256_S256x256_S256x1024_d1 (ix2 r k)
      = gnorm (G := 4) (W := 256) rfl (Ideal.ofBits .f32 0x43800000#32) (fun k => v0 (ix3 (0 : Fin 1) r (hi k))) k := by
  have hk := k.isLt
  by_cases h1 : k.val < 256
  · refine (concatenate_apply_piece (t := S256x1024) 1 [⟨S256x256, k0_pay10 (k0_pay2 v0)⟩, ⟨S256x256, k0_pay11 (k0_pay2 v0)⟩, ⟨S256x256, k0_pay12 (k0_pay2 v0)⟩, ⟨S256x256, x⟩]
      concatenates_S256x256_S256x256_S256x256_S256x256_S256x1024_d1 (ix2 r k)
      0 (by show 0 < 4; decide) S256x256 _ rfl rfl 0 rfl (ix2 r (⟨k.val, h1⟩ : Fin 256))
      (fun a ha => match a with | ⟨0, _⟩ => rfl | ⟨1, _⟩ => absurd rfl ha) (by show 0 + k.val = k.val; omega)).trans ?_
    exact (grp256 _ r _).trans (quarter v0 0 slices_S256x1024_o0_0_S256x256 (.inl rfl) r _ k (by show k.val = 0 + k.val; omega) _ rfl)
  by_cases h2 : k.val < 512
  · refine (concatenate_apply_piece (t := S256x1024) 1 [⟨S256x256, k0_pay10 (k0_pay2 v0)⟩, ⟨S256x256, k0_pay11 (k0_pay2 v0)⟩, ⟨S256x256, k0_pay12 (k0_pay2 v0)⟩, ⟨S256x256, x⟩]
      concatenates_S256x256_S256x256_S256x256_S256x256_S256x1024_d1 (ix2 r k)
      1 (by show 1 < 4; decide) S256x256 _ rfl rfl 256 rfl (ix2 r (⟨k.val - 256, by omega⟩ : Fin 256))
      (fun a ha => match a with | ⟨0, _⟩ => rfl | ⟨1, _⟩ => absurd rfl ha) (by show 256 + (k.val - 256) = k.val; omega)).trans ?_
    exact (grp256 _ r _).trans (quarter v0 256 slices_S256x1024_o0_256_S256x256 (.inr (.inl rfl)) r _ k (by show k.val = 256 + (k.val - 256); omega) _ rfl)
  by_cases h3 : k.val < 768
  · refine (concatenate_apply_piece (t := S256x1024) 1 [⟨S256x256, k0_pay10 (k0_pay2 v0)⟩, ⟨S256x256, k0_pay11 (k0_pay2 v0)⟩, ⟨S256x256, k0_pay12 (k0_pay2 v0)⟩, ⟨S256x256, x⟩]
      concatenates_S256x256_S256x256_S256x256_S256x256_S256x1024_d1 (ix2 r k)
      2 (by show 2 < 4; decide) S256x256 _ rfl rfl 512 rfl (ix2 r (⟨k.val - 512, by omega⟩ : Fin 256))
      (fun a ha => match a with | ⟨0, _⟩ => rfl | ⟨1, _⟩ => absurd rfl ha) (by show 512 + (k.val - 512) = k.val; omega)).trans ?_
    exact (grp256 _ r _).trans (quarter v0 512 slices_S256x1024_o0_512_S256x256 (.inr (.inr (.inl rfl))) r _ k (by show k.val = 512 + (k.val - 512); omega) _ rfl)
  · exact (concatenate_apply_piece (t := S256x1024) 1 [⟨S256x256, k0_pay10 (k0_pay2 v0)⟩, ⟨S256x256, k0_pay11 (k0_pay2 v0)⟩, ⟨S256x256, k0_pay12 (k0_pay2 v0)⟩, ⟨S256x256, x⟩]
      concatenates_S256x256_S256x256_S256x256_S256x256_S256x1024_d1 (ix2 r k)
      3 (by show 3 < 4; decide) S256x256 _ rfl rfl 768 rfl (ix2 r (⟨k.val - 768, by omega⟩ : Fin 256))
      (fun a ha => match a with | ⟨0, _⟩ => rfl | ⟨1, _⟩ => absurd rfl ha) (by show 768 + (k.val - 768) = k.val; omega)).trans (hx _ (by show k.val = 768 + (k.val - 768); omega))

/-- The two halves of the mixer's row. -/
theorem cat_apply (a b : FVec Ideal S256x1024 .f32) (r : Fin 256) (k : Fin 2048) :
    concatenate S256x2048 1 [⟨S256x1024, a⟩, ⟨S256x1024, b⟩] concatenates_S256x1024_S256x1024_S256x2048_d1 (ix2 r k)
      = side (rfl : 2048 = 1024 + 1024) (fun k => a (ix2 r k)) (fun k => b (ix2 r k)) k := by
  have hk := k.isLt
  by_cases h : k.val < 1024
  · rw [side_left _ _ _ k (⟨k.val, h⟩ : Fin 1024) rfl]
    exact concatenate_apply_piece (t := S256x2048) 1 [⟨S256x1024, a⟩, ⟨S256x1024, b⟩] concatenates_S256x1024_S256x1024_S256x2048_d1 (ix2 r k)
      0 (by show 0 < 2; decide) S256x1024 _ rfl rfl 0 rfl (ix2 r (⟨k.val, h⟩ : Fin 1024))
      (fun a ha => match a with | ⟨0, _⟩ => rfl | ⟨1, _⟩ => absurd rfl ha) (by show 0 + k.val = k.val; omega)
  · rw [side_right _ _ _ k (⟨k.val - 1024, by omega⟩ : Fin 1024) (by show k.val = 1024 + (k.val - 1024); omega)]
    exact concatenate_apply_piece (t := S256x2048) 1 [⟨S256x1024, a⟩, ⟨S256x1024, b⟩] concatenates_S256x1024_S256x1024_S256x2048_d1 (ix2 r k)
      1 (by show 1 < 2; decide) S256x1024 _ rfl rfl 1024 rfl (ix2 r (⟨k.val - 1024, by omega⟩ : Fin 1024))
      (fun a ha => match a with | ⟨0, _⟩ => rfl | ⟨1, _⟩ => absurd rfl ha) (by show 1024 + (k.val - 1024) = k.val; omega)

/-- What the body stores, from its loads: the mixer's block, the two gates' blocks, the norms' weights, the modulation, the tokens, the out-projection. -/
def stored (v0 : Vec Ideal S1x256x2048 .bf16) (v3 v6 : Vec Ideal S1x256x1024 .bf16) (v42 v92 : Vec Ideal S1x1024 .f32) (v106 : Vec Ideal S1x1x6x1024 .f32)
    (v108 : Vec Ideal S1x256x1024 .f32) (v111 : Vec Ideal S2048x1024 .bf16) : FVec Ideal S1x256x1024 .f32 :=
  k0_pay17 (k0_pay3 v6) (k0_pay8 (k0_pay5 v0 v3) (k0_pay6 v0 v3) (k0_pay7 v0 v3) v42) (k0_pay10 (k0_pay2 v0)) (k0_pay11 (k0_pay2 v0)) (k0_pay12 (k0_pay2 v0))
    (k0_pay13 (k0_pay2 v0)) (k0_pay14 (k0_pay2 v0)) (Scalar.ofBits .f32 0x358637BD#32) v92 v106 v108 v111

/-- The stored block at a row and a column. -/
theorem stored_apply (v0 : Vec Ideal S1x256x2048 .bf16) (v3 v6 : Vec Ideal S1x256x1024 .bf16) (v42 v92 : Vec Ideal S1x1024 .f32) (v106 : Vec Ideal S1x1x6x1024 .f32)
    (v108 : Vec Ideal S1x256x1024 .f32) (v111 : Vec Ideal S2048x1024 .bf16) (z : Fin 1) (r : Fin 256) (n : Fin 1024) :
    stored v0 v3 v6 v42 v92 v106 v108 v111 (ix3 z r n) = v108 (ix3 (0 : Fin 1) r n) + v106 (ix4 (0 : Fin 1) (0 : Fin 1) (2 : Fin 6) n)
      * ∑ k : Fin 2048, evenRow (fun k => v0 (ix3 (0 : Fin 1) r (lo k))) (fun k => v3 (ix3 (0 : Fin 1) r k)) (fun k => v0 (ix3 (0 : Fin 1) r (hi k))) (fun k => v6 (ix3 (0 : Fin 1) r k))
          (fun k => v42 (ix2 (0 : Fin 1) k)) (fun k => v92 (ix2 (0 : Fin 1) k)) k * v111 (ix2 k n) := by
  have hz := z.isLt
  unfold stored
  refine (shapeCast_apply (k0_pay16 _ _ _ _ _ _ _ _ _ _ _ _) shapeCasts_S256x1024_S1x256x1024 (ix3 z r n) (ix2 r n) (by
    rw [Shape.rowMajor_val_two, Shape.rowMajor_val_three]
    show r.val * 1024 + n.val = (z.val * 256 + r.val) * 1024 + n.val; omega)).trans ?_
  unfold k0_pay16
  refine congrArg₂ (· + ·) ?_ (congrArg₂ (· * ·) ?_ ?_)
  · exact shapeCast_apply _ shapeCasts_S1x256x1024_S256x1024 (ix2 r n) (ix3 (0 : Fin 1) r n) (by
      rw [Shape.rowMajor_val_two, Shape.rowMajor_val_three]
      show (0 * 256 + r.val) * 1024 + n.val = r.val * 1024 + n.val; omega)
  · refine (broadcastTo_apply _ broadcasts_S1x1024_S256x1024 (ix2 r n) (ix2 (0 : Fin 1) n) (fun b => match b with | ⟨0, _⟩ => rfl | ⟨1, _⟩ => rfl)).trans ?_
    refine (extractStridedSlice_apply ![2, 0] (k0_pay15 v106) slices_S6x1024_o2_0_S1x1024 (ix2 (0 : Fin 1) n) (ix2 (2 : Fin 6) n) (fun a => match a with
      | ⟨0, _⟩ => rfl
      | ⟨1, _⟩ => by show n.val = 0 + n.val; omega)).trans ?_
    exact shapeCast_apply _ shapeCasts_S1x1x6x1024_S6x1024 (ix2 (2 : Fin 6) n) (ix4 (0 : Fin 1) (0 : Fin 1) (2 : Fin 6) n) (by
      rw [Shape.rowMajor_val_two, Shape.rowMajor_val_four]
      show ((0 * 1 + 0) * 6 + 2) * 1024 + n.val = 2 * 1024 + n.val; omega)
  · refine (Ideal.matmul_plain_apply (M := 256) (K := 2048) (N := 1024) none _ _ _ r n).trans ?_
    refine (congrArg (· + _) Ideal.ofBits_zero_f32).trans ((zero_add _).trans (Finset.sum_congr rfl fun k _ => congrArg₂ (· * ·) ?_ ?_))
    · refine (cat_apply _ _ r k).trans (side_congr _ (funext fun j => ?_) (funext fun j => ?_) k)
      · exact p8_apply v0 v3 v42 r j
      · rw [← half_gate, ← ofBits_half, show (fun k => v6 (ix3 (0 : Fin 1) r k)) j = k0_pay3 v6 (ix2 r j) from (p3_apply v6 r j).symm]
        refine congrArg₂ (· * ·) (congrArg₂ (· * ·) ?_ (row_apply v92 r j)) rfl
        refine four_apply v0 _ r j fun i hi' => ?_
        exact (grp256 _ r _).trans (quarter v0 768 slices_S256x1024_o0_768_S256x256 (.inr (.inr (.inr rfl))) r _ j hi' _ rfl)
    · exact shapeCast_apply _ shapeCasts_S2048x1024_S2048x1024 (ix2 k n) (ix2 k n) rfl

variable (m : (ℓ : Loc nD τ sig) → Buf (Elt Ideal) ℓ) (c : Dev nD) (t : Fin cfg0.N)

/-- The gates' block's two halves as the body loads them. -/
abbrev zHalf : Vec Ideal S1x256x1024 .bf16 := View.ld (iblk m c 1 t) (Rect.unit (s := S1x256x2048) ![0, 0, 0] S1x256x1024.size inb_S1x256x2048_S1x256x1024_0_0_0)
abbrev oHalf : Vec Ideal S1x256x1024 .bf16 := View.ld (iblk m c 1 t) (Rect.unit (s := S1x256x2048) ![0, 0, 1024] S1x256x1024.size inb_S1x256x2048_S1x256x1024_0_0_1024)

/-- What the body leaves in the stream's block. -/
theorem left_eq : (outsAt0 m c t).1 = stored (iblk m c 0 t) (zHalf m c t) (oHalf m c t) (iblk m c 4 t) (iblk m c 5 t) (iblk m c 3 t) (iblk m c 2 t) (iblk m c 6 t) := by
  unfold outsAt0 out0_A_9 kernelRun0_A
  dsimp only
  refine (View.read_writes_full (s := S1x256x1024) VO0_9 _ inb_S1x256x1024_S1x256x1024_0_0_0 _ []).trans ?_
  unfold kernelRun0_A.sl.r_1 kernelRun0_A.sl.r_5 kernelRun0_A.sl.r_6 kernelRun0_A.sl.r_7 kernelRun0_A.sl.r_8 kernelRun0_A.sl.r_9 kernelRun0_A.sl.r_10 kernelRun0_A.sl.cst_28
  unfold kernelRun0_A.sl.r_2 kernelRun0_A.sl.r_3 kernelRun0_A.sl.r_4 kernelRun0_A.sl.r
  rw [ld_full (s := S1x256x2048) (hs0_0 t) (iblk m c 0 t), ld_full (s := S1x256x1024) (hs0_2 t) (iblk m c 2 t), ld_full (s := S1x1x6x1024) (hs0_3 t) (iblk m c 3 t),
    ld_full (s := S1x1024) (hs0_4 t) (iblk m c 4 t), ld_full (s := S1x1024) (hs0_5 t) (iblk m c 5 t), ld_full (s := S2048x1024) (hs0_6 t) (iblk m c 6 t)]
  rw [View.readAt_eq_ld, View.readAt_eq_ld, (hs0_1 t).read_unread]
  rfl

end Cert.EvenBody

end
-- ==== Proof.Even.Ref.lean ====
module

public import proofs.«01_k».proof.Proof.Even.Kit
public import proofs.«01_k».proof.Proof.Gen.Reference4Ideal.Read

@[expose] public section

set_option maxRecDepth 16384

noncomputable section

namespace Cert.EvenRef

open Cert.Reference4Ideal Cert.Reference4Ideal.Gen Cert.Reference4Ideal.Read Idealize.ShloMosaic Idealize.ShloMosaic.TcCoe Idealize.ShloMosaic.ValueIdx
open Cert.Tok Cert.Silu
open scoped BigOperators

variable (x0 x1 x2 x3 : FVec Ideal S8x4352x1024 .f32) (x4 : FVec Ideal S8x4096x1024 .f32) (x5 : FVec Ideal S8x256x1024 .f32)
  (x6 : FVec Ideal S8x6144 .f32) (x7 : FVec Ideal S1x6144 .f32) (x8 x9 : FVec Ideal S1024 .f32) (x10 : FVec Ideal S2048x1024 .f32)

/-- The gated state-space half. -/
theorem gate_apply (i : S8x4352x1024.Idx) : val_main_v1 (F := Ideal) x0 x2 i = x0 i * swish (x2 i) := by
  rw [val_main_v1_apply, val_main_v0_apply, val_main_call0_v5_apply, val_main_call0_v4_apply, val_main_call0_v3_apply, val_main_call0_v2_apply,
    val_main_call0_cst_apply, val_main_call0_cst_0_apply, val_main_call0_v1_apply, val_main_call0_v0_apply]
  show x0 i * (x2 i * Ideal.div (Ideal.ofBits .f32 0x3F800000#32) (Ideal.ofBits .f32 0x3F800000#32 + Ideal.exp (-(x2 i)))) = _
  rw [Ideal.ofBits_one_f32]
  rfl

/-- The memory half's gate. -/
theorem sig_apply (i : S8x4352x1024.Idx) : val_main_v37 (F := Ideal) x3 i = Ideal.logistic (x3 i) := by
  rw [val_main_v37_apply, val_main_v36_apply, val_main_v35_apply, val_main_v34_apply, val_main_v33_apply, val_main_v32_apply, val_main_cst_5_apply, val_main_cst_6_apply]
  show Ideal.div (Ideal.ofBits .f32 0x3F800000#32) (Ideal.ofBits .f32 0x3F800000#32 + Ideal.exp (-(x3 i))) = _
  rw [Ideal.ofBits_one_f32]
  rfl

theorem idx13 (b : Fin 8) (r : Fin 4352) (k : Fin 1024) : idx_main_v13 (ix3 b r k)
    = ix4 b r (⟨k.val / 512, by have := k.isLt; omega⟩ : Fin 2) (⟨k.val % 512, Nat.mod_lt _ (by decide)⟩ : Fin 512) := by
  have hb := b.isLt
  have hr := r.isLt
  have hk := k.isLt
  refine funext fun a => Fin.ext (match a with | ⟨0, _⟩ => ?_ | ⟨1, _⟩ => ?_ | ⟨2, _⟩ => ?_ | ⟨3, _⟩ => ?_)
  · show ((b.val * 4352 + r.val) * 1024 + k.val) / 4456448 = b.val; omega
  · show ((b.val * 4352 + r.val) * 1024 + k.val) / 1024 % 4352 = r.val; omega
  · show ((b.val * 4352 + r.val) * 1024 + k.val) / 512 % 2 = k.val / 512; omega
  · show ((b.val * 4352 + r.val) * 1024 + k.val) % 512 = k.val % 512; omega

theorem idx2 (b : Fin 8) (r : Fin 4352) (g : Fin 2) (j : Fin 512) (k : Fin 1024) (h : k.val = g.val * 512 + j.val) : idx_main_v2 (ix4 b r g j) = ix3 b r k := by
  have hb := b.isLt
  have hr := r.isLt
  have hg := g.isLt
  have hj := j.isLt
  refine funext fun a => Fin.ext (match a with | ⟨0, _⟩ => ?_ | ⟨1, _⟩ => ?_ | ⟨2, _⟩ => ?_)
  · show (((b.val * 4352 + r.val) * 2 + g.val) * 512 + j.val) / 4456448 = b.val; omega
  · show (((b.val * 4352 + r.val) * 2 + g.val) * 512 + j.val) / 1024 % 4352 = r.val; omega
  · show (((b.val * 4352 + r.val) * 2 + g.val) * 512 + j.val) % 1024 = k.val; omega

theorem idx28 (b : Fin 8) (r : Fin 4352) (k : Fin 1024) : idx_main_v28 (ix3 b r k)
    = ix4 b r (⟨k.val / 256, by have := k.isLt; omega⟩ : Fin 4) (⟨k.val % 256, Nat.mod_lt _ (by decide)⟩ : Fin 256) := by
  have hb := b.isLt
  have hr := r.isLt
  have hk := k.isLt
  refine funext fun a => Fin.ext (match a with | ⟨0, _⟩ => ?_ | ⟨1, _⟩ => ?_ | ⟨2, _⟩ => ?_ | ⟨3, _⟩ => ?_)
  · show ((b.val * 4352 + r.val) * 1024 + k.val) / 4456448 = b.val; omega
  · show ((b.val * 4352 + r.val) * 1024 + k.val) / 1024 % 4352 = r.val; omega
  · show ((b.val * 4352 + r.val) * 1024 + k.val) / 256 % 4 = k.val / 256; omega
  · show ((b.val * 4352 + r.val) * 1024 + k.val) % 256 = k.val % 256; omega

theorem idx17 (b : Fin 8) (r : Fin 4352) (g : Fin 4) (j : Fin 256) (k : Fin 1024) (h : k.val = g.val * 256 + j.val) : idx_main_v17 (ix4 b r g j) = ix3 b r k := by
  have hb := b.isLt
  have hr := r.isLt
  have hg := g.isLt
  have hj := j.isLt
  refine funext fun a => Fin.ext (match a with | ⟨0, _⟩ => ?_ | ⟨1, _⟩ => ?_ | ⟨2, _⟩ => ?_)
  · show (((b.val * 4352 + r.val) * 4 + g.val) * 256 + j.val) / 4456448 = b.val; omega
  · show (((b.val * 4352 + r.val) * 4 + g.val) * 256 + j.val) / 1024 % 4352 = r.val; omega
  · show (((b.val * 4352 + r.val) * 4 + g.val) * 256 + j.val) % 1024 = k.val; omega

theorem ix4_eta {a b c d : Nat} (i : (⟨4, ![a, b, c, d]⟩ : Shape).Idx) (p : Fin a) (q : Fin b) (r : Fin c) (s : Fin d)
    (h0 : (i 0).val = p.val) (h1 : (i 1).val = q.val) (h2 : (i 2).val = r.val) (h3 : (i 3).val = s.val) : i = ix4 p q r s :=
  funext fun x => Fin.ext (match x with | ⟨0, _⟩ => h0 | ⟨1, _⟩ => h1 | ⟨2, _⟩ => h2 | ⟨3, _⟩ => h3)

/-- The state-space half of the mixer's row. -/
theorem ssd_apply (b : Fin 8) (r : Fin 4352) (k : Fin 1024) : val_main_v16 (F := Ideal) x0 x2 x8 (ix3 b r k)
    = gnorm (G := 2) (W := 512) rfl (Ideal.ofBits .f32 0x44000000#32) (fun k => x0 (ix3 b r k) * swish (x2 (ix3 b r k))) k * x8 (ix1 k) := by
  have hk := k.isLt
  rw [val_main_v16_apply, val_main_v13_apply, idx13, val_main_v12_apply, val_main_v15_apply, val_main_v14_apply]
  unfold gnorm
  refine congrArg₂ (· * ·) (congrArg₂ (· * ·) ?_ ?_) ?_
  · rw [val_main_v2_apply, idx2 b r _ _ k (by show k.val = k.val / 512 * 512 + k.val % 512; omega), gate_apply]
  · rw [val_main_v11_apply, val_main_v10_apply, val_main_v9_apply, val_main_v8_apply, val_main_v7_apply, val_main_v6_apply, val_main_v5_apply, val_main_v4_apply]
    refine congrArg Ideal.rsqrt (congrArg (· + _) (congrArg (Ideal.div · _) ?_))
    refine (congrArg (· + _) Ideal.ofBits_zero_f32).trans ((zero_add _).trans (Finset.sum_congr rfl fun j _ => ?_))
    rw [val_main_v3_apply, val_main_v2_apply]
    rw [ix4_eta (idx_main_v4 _ j) b r (⟨k.val / 512, by omega⟩ : Fin 2) j rfl rfl rfl rfl, idx2 b r (⟨k.val / 512, by omega⟩ : Fin 2) j (gidx (G := 2) (W := 512) rfl k j) (by unfold gidx; exact Eq.refl (k.val / 512 * 512 + j.val)), gate_apply]
    exact Eq.refl _
  · exact congrArg x8 (funext fun a => match a with | ⟨0, _⟩ => rfl)

/-- The memory half of the mixer's row. -/
theorem mem_apply (b : Fin 8) (r : Fin 4352) (k : Fin 1024) : val_main_v38 (F := Ideal) x1 x3 x9 (ix3 b r k)
    = gnorm (G := 4) (W := 256) rfl (Ideal.ofBits .f32 0x43800000#32) (fun k => x1 (ix3 b r k)) k * x9 (ix1 k) * Ideal.logistic (x3 (ix3 b r k)) := by
  have hk := k.isLt
  rw [val_main_v38_apply, sig_apply, val_main_v31_apply, val_main_v28_apply, idx28, val_main_v27_apply, val_main_v30_apply, val_main_v29_apply]
  unfold gnorm
  refine congrArg₂ (· * ·) (congrArg₂ (· * ·) (congrArg₂ (· * ·) ?_ ?_) ?_) rfl
  · rw [val_main_v17_apply, idx17 b r _ _ k (by show k.val = k.val / 256 * 256 + k.val % 256; omega)]
  · rw [val_main_v26_apply, val_main_v25_apply, val_main_v24_apply, val_main_v23_apply, val_main_v22_apply, val_main_v21_apply, val_main_v20_apply, val_main_v19_apply]
    refine congrArg Ideal.rsqrt (congrArg (· + _) (congrArg (Ideal.div · _) ?_))
    refine (congrArg (· + _) Ideal.ofBits_zero_f32).trans ((zero_add _).trans (Finset.sum_congr rfl fun j _ => ?_))
    rw [val_main_v18_apply, val_main_v17_apply]
    rw [ix4_eta (idx_main_v19 _ j) b r (⟨k.val / 256, by omega⟩ : Fin 4) j rfl rfl rfl rfl, idx17 b r (⟨k.val / 256, by omega⟩ : Fin 4) j (gidx (G := 4) (W := 256) rfl k j) (by unfold gidx; exact Eq.refl (k.val / 256 * 256 + j.val))]
    exact Eq.refl _
  · exact congrArg x9 (funext fun a => match a with | ⟨0, _⟩ => rfl)

/-- The mixer's row. -/
theorem row_apply (b : Fin 8) (r : Fin 4352) (k : Fin 2048) : val_main_v39 (F := Ideal) x0 x1 x2 x3 x8 x9 (ix3 b r k) = evenMix x0 x1 x2 x3 x8 x9 b r k := by
  have hk := k.isLt
  unfold val_main_v39 evenMix evenRow
  by_cases h : k.val < 1024
  · rw [side_left _ _ _ k (⟨k.val, h⟩ : Fin 1024) rfl]
    refine (concatenate_apply_piece (t := S8x4352x2048) 2 [⟨S8x4352x1024, val_main_v16 (F := Ideal) x0 x2 x8⟩, ⟨S8x4352x1024, val_main_v38 (F := Ideal) x1 x3 x9⟩]
      concatenates_S8x4352x1024_S8x4352x1024_S8x4352x2048_d2 (ix3 b r k)
      0 (by show 0 < 2; decide) S8x4352x1024 _ rfl rfl 0 rfl (ix3 b r (⟨k.val, h⟩ : Fin 1024))
      (fun a ha => match a with | ⟨0, _⟩ => rfl | ⟨1, _⟩ => rfl | ⟨2, _⟩ => absurd rfl ha) (by show 0 + k.val = k.val; omega)).trans ?_
    exact ssd_apply x0 x2 x8 b r _
  · rw [side_right _ _ _ k (⟨k.val - 1024, by omega⟩ : Fin 1024) (by show k.val = 1024 + (k.val - 1024); omega)]
    refine (concatenate_apply_piece (t := S8x4352x2048) 2 [⟨S8x4352x1024, val_main_v16 (F := Ideal) x0 x2 x8⟩, ⟨S8x4352x1024, val_main_v38 (F := Ideal) x1 x3 x9⟩]
      concatenates_S8x4352x1024_S8x4352x1024_S8x4352x2048_d2 (ix3 b r k)
      1 (by show 1 < 2; decide) S8x4352x1024 _ rfl rfl 1024 rfl (ix3 b r (⟨k.val - 1024, by omega⟩ : Fin 1024))
      (fun a ha => match a with | ⟨0, _⟩ => rfl | ⟨1, _⟩ => rfl | ⟨2, _⟩ => absurd rfl ha) (by show 1024 + (k.val - 1024) = k.val; omega)).trans ?_
    exact mem_apply x1 x3 x9 b r _

/-- The out-projection of a token. -/
theorem y_apply (b : Fin 8) (r : Fin 4352) (n : Fin 1024) : val_main_v40 (F := Ideal) x0 x1 x2 x3 x8 x9 x10 (ix3 b r n)
    = ∑ k : Fin 2048, evenMix x0 x1 x2 x3 x8 x9 b r k * x10 (ix2 k n) := by
  refine (val_main_v40_apply x0 x1 x2 x3 x8 x9 x10 _).trans (Finset.sum_congr rfl fun k _ => congrArg₂ (· * ·) ?_ ?_)
  · rw [← row_apply]
    exact congrArg (val_main_v39 (F := Ideal) x0 x1 x2 x3 x8 x9) (funext fun a => match a with | ⟨0, _⟩ => rfl | ⟨1, _⟩ => rfl | ⟨2, _⟩ => rfl)
  · exact congrArg x10 (funext fun a => match a with | ⟨0, _⟩ => rfl | ⟨1, _⟩ => rfl)

/-- The reference's result: the residual. -/
theorem out_apply (b : Fin 8) (r : Fin 4352) (n : Fin 1024) : val_main_v73 (F := Ideal) x0 x1 x2 x3 x4 x5 x6 x7 x8 x9 x10 (ix3 b r n)
    = outv x5 x4 x7 x6 (evenMix x0 x1 x2 x3 x8 x9) x10 b r n := by
  have hr := r.isLt
  unfold outv hv mv
  rw [← y_apply]
  unfold val_main_v73
  by_cases h : r.val < 256
  · rw [if_pos h, tok_ctx _ _ r n (⟨r.val, h⟩ : Fin 256) rfl]
    refine (concatenate_apply_piece (t := S8x4352x1024) 1 [⟨S8x256x1024, val_main_v68 (F := Ideal) x0 x1 x2 x3 x5 x7 x8 x9 x10⟩, ⟨S8x4096x1024, val_main_v72 (F := Ideal) x0 x1 x2 x3 x4 x6 x8 x9 x10⟩]
      concatenates_S8x256x1024_S8x4096x1024_S8x4352x1024_d1 (ix3 b r n)
      0 (by show 0 < 2; decide) S8x256x1024 _ rfl rfl 0 rfl (ix3 b (⟨r.val, h⟩ : Fin 256) n)
      (fun a ha => match a with | ⟨0, _⟩ => rfl | ⟨1, _⟩ => absurd rfl ha | ⟨2, _⟩ => rfl) (by show 0 + r.val = r.val; omega)).trans ?_
    rw [val_main_v68_apply, val_main_v67_apply, val_main_v66_apply, val_main_v61_apply, val_main_v55_apply, val_main_v65_apply]
    refine congrArg₂ (· + ·) rfl (congrArg₂ (· * ·) ?_ ?_)
    · exact congrArg x7 (funext fun a => Fin.ext (match a with | ⟨0, _⟩ => rfl | ⟨1, _⟩ => rfl))
    · exact congrArg (val_main_v40 (F := Ideal) x0 x1 x2 x3 x8 x9 x10) (funext fun a => Fin.ext (match a with | ⟨0, _⟩ => rfl | ⟨1, _⟩ => rfl | ⟨2, _⟩ => rfl))
  · rw [if_neg h, tok_lat _ _ r n (⟨r.val - 256, by omega⟩ : Fin 4096) (by show r.val = 256 + (r.val - 256); omega)]
    refine (concatenate_apply_piece (t := S8x4352x1024) 1 [⟨S8x256x1024, val_main_v68 (F := Ideal) x0 x1 x2 x3 x5 x7 x8 x9 x10⟩, ⟨S8x4096x1024, val_main_v72 (F := Ideal) x0 x1 x2 x3 x4 x6 x8 x9 x10⟩]
      concatenates_S8x256x1024_S8x4096x1024_S8x4352x1024_d1 (ix3 b r n)
      1 (by show 1 < 2; decide) S8x4096x1024 _ rfl rfl 256 rfl (ix3 b (⟨r.val - 256, by omega⟩ : Fin 4096) n)
      (fun a ha => match a with | ⟨0, _⟩ => rfl | ⟨1, _⟩ => absurd rfl ha | ⟨2, _⟩ => rfl) (by show 256 + (r.val - 256) = r.val; omega)).trans ?_
    rw [val_main_v72_apply, val_main_v71_apply, val_main_v70_apply, val_main_v49_apply, val_main_v43_apply, val_main_v69_apply]
    refine congrArg₂ (· + ·) rfl (congrArg₂ (· * ·) ?_ ?_)
    · exact congrArg x6 (funext fun a => Fin.ext (match a with | ⟨0, _⟩ => rfl | ⟨1, _⟩ => rfl))
    · exact congrArg (val_main_v40 (F := Ideal) x0 x1 x2 x3 x8 x9 x10) (funext fun a => Fin.ext (match a with
        | ⟨0, _⟩ => rfl
        | ⟨1, _⟩ => (by show 256 + (r.val - 256) = r.val; omega : 256 + (r.val - 256) = r.val)
        | ⟨2, _⟩ => rfl))

end Cert.EvenRef

end
-- ==== Proof.Even.Fin.lean ====
module

public import proofs.«01_k».proof.Proof.Even.Body
public import proofs.«01_k».proof.Proof.Even.Ref
public import proofs.«01_k».proof.Proof.Inp.Host
public import Idealize.ShloMosaic.Lib.Pipeline.ValueKit.Geometry

@[expose] public section

set_option maxRecDepth 16384

noncomputable section

namespace Cert.EvenFin

open Cert.Kernel4Ideal Cert.Kernel4Ideal.Gen Idealize.ShloMosaic Idealize.ShloMosaic.TcCoe Idealize.ShloMosaic.ValueIdx
open Idealize.ShloMosaic.StableHlo
open Idealize.ShloMosaic.Pipeline (Dat)
open Idealize.SL.Sem
open Cert.Silu Cert.Tok Cert.EvenBody Cert.EvenRef
open Cert.InpHost (hArr mArr hArr_apply mArr_apply)
open Cert.Reference4Ideal.Read (val_main_v73)
open scoped BigOperators

variable (m : (ℓ : Loc nD τ sig) → Buf (Elt Ideal) ℓ) (c : Dev nD)

/-- The arguments as launched: the two scans' results, the two gates, the tokens, their modulations, the norms' weights, the out-projection. -/
abbrev YS : FVec Ideal S8x4352x1024 .f32 := m ((c.tc : Thread nD τ).loc main_arg0)
abbrev YM : FVec Ideal S8x4352x1024 .f32 := m ((c.tc : Thread nD τ).loc main_arg1)
abbrev ZZ : FVec Ideal S8x4352x1024 .f32 := m ((c.tc : Thread nD τ).loc main_arg2)
abbrev OO : FVec Ideal S8x4352x1024 .f32 := m ((c.tc : Thread nD τ).loc main_arg3)
abbrev HL : FVec Ideal S8x4096x1024 .f32 := m ((c.tc : Thread nD τ).loc main_arg4)
abbrev HC : FVec Ideal S8x256x1024 .f32 := m ((c.tc : Thread nD τ).loc main_arg5)
abbrev ML : FVec Ideal S8x6144 .f32 := m ((c.tc : Thread nD τ).loc main_arg6)
abbrev MC : FVec Ideal S1x6144 .f32 := m ((c.tc : Thread nD τ).loc main_arg7)
abbrev WA : FVec Ideal S1024 .f32 := m ((c.tc : Thread nD τ).loc main_arg8)
abbrev WM : FVec Ideal S1024 .f32 := m ((c.tc : Thread nD τ).loc main_arg9)
abbrev WO : FVec Ideal S2048x1024 .f32 := m ((c.tc : Thread nD τ).loc main_arg10)

/-- Two arrays of columns in one, rounded for the call. -/
def pair (a b : FVec Ideal S8x4352x1024 .f32) : FVec Ideal S8x4352x2048 .bf16 :=
  truncf .bf16 (concatenate S8x4352x2048 2 [⟨S8x4352x1024, a⟩, ⟨S8x4352x1024, b⟩] concatenates_S8x4352x1024_S8x4352x1024_S8x4352x2048_d2) bitsLt_bf16_f32

theorem pair_lo (a b' : FVec Ideal S8x4352x1024 .f32) (b : Fin 8) (r : Fin 4352) (k : Fin 1024) (q : Fin 2048) (hq : q.val = k.val) : pair a b' (ix3 b r q) = a (ix3 b r k) :=
  concatenate_apply_piece (t := S8x4352x2048) 2 [⟨S8x4352x1024, a⟩, ⟨S8x4352x1024, b'⟩] concatenates_S8x4352x1024_S8x4352x1024_S8x4352x2048_d2 (ix3 b r q)
    0 (by show 0 < 2; decide) S8x4352x1024 _ rfl rfl 0 rfl (ix3 b r k)
    (fun x hx => match x with | ⟨0, _⟩ => rfl | ⟨1, _⟩ => rfl | ⟨2, _⟩ => absurd rfl hx) (by show 0 + k.val = q.val; omega)

theorem pair_hi (a b' : FVec Ideal S8x4352x1024 .f32) (b : Fin 8) (r : Fin 4352) (k : Fin 1024) (q : Fin 2048) (hq : q.val = 1024 + k.val) : pair a b' (ix3 b r q) = b' (ix3 b r k) :=
  concatenate_apply_piece (t := S8x4352x2048) 2 [⟨S8x4352x1024, a⟩, ⟨S8x4352x1024, b'⟩] concatenates_S8x4352x1024_S8x4352x1024_S8x4352x2048_d2 (ix3 b r q)
    1 (by show 1 < 2; decide) S8x4352x1024 _ rfl rfl 1024 rfl (ix3 b r k)
    (fun x hx => match x with | ⟨0, _⟩ => rfl | ⟨1, _⟩ => rfl | ⟨2, _⟩ => absurd rfl hx) (by show 1024 + k.val = q.val; omega)

theorem V_h : V m c main_v0 = hArr (HC m c) (HL m c) := by
  unfold V; simp only [hostOps0, hostOps0_1, hostOps0_2, List.flatten_cons, List.flatten_nil, List.append_nil, List.cons_append, List.nil_append]
  after_results <;> rfl

theorem V_m : V m c main_v6 = mArr (MC m c) (ML m c) := by
  unfold V; simp only [hostOps0, hostOps0_1, hostOps0_2, List.flatten_cons, List.flatten_nil, List.append_nil, List.cons_append, List.nil_append]
  after_results <;> rfl

theorem V_y : V m c main_v8 = pair (YS m c) (YM m c) := by
  unfold V; simp only [hostOps0, hostOps0_1, hostOps0_2, List.flatten_cons, List.flatten_nil, List.append_nil, List.cons_append, List.nil_append]
  after_results <;> rfl

theorem V_g : V m c main_v10 = pair (ZZ m c) (OO m c) := by
  unfold V; simp only [hostOps0, hostOps0_1, hostOps0_2, List.flatten_cons, List.flatten_nil, List.append_nil, List.cons_append, List.nil_append]
  after_results <;> rfl

theorem V_w : V m c main_v11 = truncf .bf16 (WO m c) bitsLt_bf16_f32 := by
  unfold V; simp only [hostOps0, hostOps0_1, hostOps0_2, List.flatten_cons, List.flatten_nil, List.append_nil, List.cons_append, List.nil_append]
  after_results <;> rfl

theorem V_a : V m c main_v14 = (shapeCast S1x1024 (WA m c) shapeCasts_S1024_S1x1024 : FVec Ideal S1x1024 .f32) := by
  unfold V; simp only [hostOps0, hostOps0_1, hostOps0_2, List.flatten_cons, List.flatten_nil, List.append_nil, List.cons_append, List.nil_append]
  after_results <;> rfl

theorem V_b : V m c main_v15 = (shapeCast S1x1024 (WM m c) shapeCasts_S1024_S1x1024 : FVec Ideal S1x1024 .f32) := by
  unfold V; simp only [hostOps0, hostOps0_1, hostOps0_2, List.flatten_cons, List.flatten_nil, List.append_nil, List.cons_append, List.nil_append]
  after_results <;> rfl

theorem idxA : ∀ t : Fin cfg0.N, win0_9.index t 0 < 8 ∧ win0_9.index t 1 < 17 ∧ win0_9.index t 2 = 0
    ∧ win0_2.index t 0 = win0_9.index t 0 ∧ win0_2.index t 1 = win0_9.index t 1 ∧ win0_2.index t 2 = 0
    ∧ win0_3.index t 0 = win0_9.index t 0 ∧ (win0_3.index t 1 = if win0_9.index t 1 < 1 then 0 else 1) ∧ win0_3.index t 2 = 0 ∧ win0_3.index t 3 = 0
    ∧ win0_6.index t 0 = 0 ∧ win0_6.index t 1 = 0 :=
  (by decide +kernel : ∀ t : Fin grid0.N, win0_9.index t 0 < 8 ∧ win0_9.index t 1 < 17 ∧ win0_9.index t 2 = 0
    ∧ win0_2.index t 0 = win0_9.index t 0 ∧ win0_2.index t 1 = win0_9.index t 1 ∧ win0_2.index t 2 = 0
    ∧ win0_3.index t 0 = win0_9.index t 0 ∧ (win0_3.index t 1 = if win0_9.index t 1 < 1 then 0 else 1) ∧ win0_3.index t 2 = 0 ∧ win0_3.index t 3 = 0
    ∧ win0_6.index t 0 = 0 ∧ win0_6.index t 1 = 0)

theorem idxB : ∀ t : Fin cfg0.N, win0_0.index t 0 = win0_9.index t 0 ∧ win0_0.index t 1 = win0_9.index t 1 ∧ win0_0.index t 2 = 0
    ∧ win0_1.index t 0 = win0_9.index t 0 ∧ win0_1.index t 1 = win0_9.index t 1 ∧ win0_1.index t 2 = 0
    ∧ win0_4.index t 0 = 0 ∧ win0_4.index t 1 = 0 ∧ win0_5.index t 0 = 0 ∧ win0_5.index t 1 = 0 :=
  (by decide +kernel : ∀ t : Fin grid0.N, win0_0.index t 0 = win0_9.index t 0 ∧ win0_0.index t 1 = win0_9.index t 1 ∧ win0_0.index t 2 = 0
    ∧ win0_1.index t 0 = win0_9.index t 0 ∧ win0_1.index t 1 = win0_9.index t 1 ∧ win0_1.index t 2 = 0
    ∧ win0_4.index t 0 = 0 ∧ win0_4.index t 1 = 0 ∧ win0_5.index t 0 = 0 ∧ win0_5.index t 1 = 0)

theorem blk_h (t : Fin cfg0.N) (b : Fin 8) (hb : b.val = win0_9.index t 0) (r : Fin 4352) (a : Fin 256) (hr : r.val = 256 * win0_9.index t 1 + a.val) (k : Fin 1024) :
    iblk m c 2 t (ix3 (0 : Fin 1) a k) = hv (HC m c) (HL m c) b r k := by
  obtain ⟨-, -, -, h0, h1, h2, -⟩ := idxA t
  rw [← hArr_apply, ← V_h]
  unfold iblk
  refine congrArg (V m c main_v0) (funext fun x => Fin.ext (((win0_2).rect_emb_val t _ x).trans (match x with
    | ⟨0, _⟩ => ?_ | ⟨1, _⟩ => ?_ | ⟨2, _⟩ => ?_)))
  · show win0_2.index t 0 * 1 + 0 = b.val; omega
  · show win0_2.index t 1 * 256 + a.val = r.val; omega
  · show win0_2.index t 2 * 1024 + k.val = k.val; omega

theorem blk_m (t : Fin cfg0.N) (b : Fin 8) (hb : b.val = win0_9.index t 0) (r : Fin 4352) (a : Fin 256) (hr : r.val = 256 * win0_9.index t 1 + a.val) (q : Fin 6) (k : Fin 1024) :
    iblk m c 3 t (ix4 (0 : Fin 1) (0 : Fin 1) q k) = mv (MC m c) (ML m c) q b r k := by
  obtain ⟨-, -, -, -, -, -, h0, h1, h2, h3, -⟩ := idxA t
  have ha := a.isLt
  have hi : win0_3.index t 1 < 2 := by rw [h1]; split <;> omega
  rw [← mArr_apply (MC m c) (ML m c) b (⟨win0_3.index t 1, hi⟩ : Fin 2) q r k (by
    constructor
    · intro h
      show win0_3.index t 1 = 0
      rw [h1, if_pos (by omega)]
    · intro h
      show win0_3.index t 1 = 1
      rw [h1, if_neg (by omega)]), ← V_m]
  unfold iblk
  refine congrArg (V m c main_v6) (funext fun x => Fin.ext (((win0_3).rect_emb_val t _ x).trans (match x with
    | ⟨0, _⟩ => ?_ | ⟨1, _⟩ => ?_ | ⟨2, _⟩ => ?_ | ⟨3, _⟩ => ?_)))
  · show win0_3.index t 0 * 1 + 0 = b.val; omega
  · show win0_3.index t 1 * 1 + 0 = win0_3.index t 1; omega
  · show win0_3.index t 2 * 6 + q.val = q.val; omega
  · show win0_3.index t 3 * 1024 + k.val = k.val; omega

theorem blk_w (t : Fin cfg0.N) (k : Fin 2048) (n : Fin 1024) : iblk m c 6 t (ix2 k n) = WO m c (ix2 k n) := by
  obtain ⟨-, -, -, -, -, -, -, -, -, -, h0, h1⟩ := idxA t
  refine Eq.trans ?_ (congrFun (V_w m c) (ix2 k n))
  unfold iblk
  refine congrArg (V m c main_v11) (funext fun x => Fin.ext (((win0_6).rect_emb_val t _ x).trans (match x with | ⟨0, _⟩ => ?_ | ⟨1, _⟩ => ?_)))
  · show win0_6.index t 0 * 2048 + k.val = k.val; omega
  · show win0_6.index t 1 * 1024 + n.val = n.val; omega

theorem blk_a (t : Fin cfg0.N) (k : Fin 1024) : iblk m c 4 t (ix2 (0 : Fin 1) k) = WA m c (ix1 k) := by
  obtain ⟨-, -, -, -, -, -, h0, h1, -⟩ := idxB t
  refine Eq.trans ?_ ((congrFun (V_a m c) (ix2 (0 : Fin 1) k)).trans (shapeCast_apply _ shapeCasts_S1024_S1x1024 (ix2 (0 : Fin 1) k) (ix1 k)
    (by rw [Shape.rowMajor_val_two, Shape.rowMajor_val_one]; show k.val = 0 * 1024 + k.val; omega)))
  unfold iblk
  refine congrArg (V m c main_v14) (funext fun x => Fin.ext (((win0_4).rect_emb_val t _ x).trans (match x with | ⟨0, _⟩ => ?_ | ⟨1, _⟩ => ?_)))
  · show win0_4.index t 0 * 1 + 0 = 0; omega
  · show win0_4.index t 1 * 1024 + k.val = k.val; omega

theorem blk_b (t : Fin cfg0.N) (k : Fin 1024) : iblk m c 5 t (ix2 (0 : Fin 1) k) = WM m c (ix1 k) := by
  obtain ⟨-, -, -, -, -, -, -, -, h0, h1⟩ := idxB t
  refine Eq.trans ?_ ((congrFun (V_b m c) (ix2 (0 : Fin 1) k)).trans (shapeCast_apply _ shapeCasts_S1024_S1x1024 (ix2 (0 : Fin 1) k) (ix1 k)
    (by rw [Shape.rowMajor_val_two, Shape.rowMajor_val_one]; show k.val = 0 * 1024 + k.val; omega)))
  unfold iblk
  refine congrArg (V m c main_v15) (funext fun x => Fin.ext (((win0_5).rect_emb_val t _ x).trans (match x with | ⟨0, _⟩ => ?_ | ⟨1, _⟩ => ?_)))
  · show win0_5.index t 0 * 1 + 0 = 0; omega
  · show win0_5.index t 1 * 1024 + k.val = k.val; omega

theorem blk_y (t : Fin cfg0.N) (b : Fin 8) (hb : b.val = win0_9.index t 0) (r : Fin 4352) (a : Fin 256) (hr : r.val = 256 * win0_9.index t 1 + a.val) (k : Fin 2048) :
    iblk m c 0 t (ix3 (0 : Fin 1) a k) = pair (YS m c) (YM m c) (ix3 b r k) := by
  obtain ⟨h0, h1, h2, -⟩ := idxB t
  rw [← V_y]
  unfold iblk
  refine congrArg (V m c main_v8) (funext fun x => Fin.ext (((win0_0).rect_emb_val t _ x).trans (match x with
    | ⟨0, _⟩ => ?_ | ⟨1, _⟩ => ?_ | ⟨2, _⟩ => ?_)))
  · show win0_0.index t 0 * 1 + 0 = b.val; omega
  · show win0_0.index t 1 * 256 + a.val = r.val; omega
  · show win0_0.index t 2 * 2048 + k.val = k.val; omega

theorem blk_g (t : Fin cfg0.N) (b : Fin 8) (hb : b.val = win0_9.index t 0) (r : Fin 4352) (a : Fin 256) (hr : r.val = 256 * win0_9.index t 1 + a.val) (k : Fin 2048) :
    iblk m c 1 t (ix3 (0 : Fin 1) a k) = pair (ZZ m c) (OO m c) (ix3 b r k) := by
  obtain ⟨-, -, -, h0, h1, h2, -⟩ := idxB t
  rw [← V_g]
  unfold iblk
  refine congrArg (V m c main_v10) (funext fun x => Fin.ext (((win0_1).rect_emb_val t _ x).trans (match x with
    | ⟨0, _⟩ => ?_ | ⟨1, _⟩ => ?_ | ⟨2, _⟩ => ?_)))
  · show win0_1.index t 0 * 1 + 0 = b.val; omega
  · show win0_1.index t 1 * 256 + a.val = r.val; omega
  · show win0_1.index t 2 * 2048 + k.val = k.val; omega

theorem half_z (t : Fin cfg0.N) (b : Fin 8) (hb : b.val = win0_9.index t 0) (r : Fin 4352) (a : Fin 256) (hr : r.val = 256 * win0_9.index t 1 + a.val) (k : Fin 1024) :
    zHalf m c t (ix3 (0 : Fin 1) a k) = ZZ m c (ix3 b r k) := by
  have hk := k.isLt
  refine (View.ld_unit_apply_of (S := S1x256x2048) (iblk m c 1 t) ![0, 0, 0] S1x256x1024.size inb_S1x256x2048_S1x256x1024_0_0_0 (ix3 (0 : Fin 1) a k) (ix3 (0 : Fin 1) a (⟨k.val, by omega⟩ : Fin 2048)) (fun x => match x with
    | ⟨0, _⟩ => rfl
    | ⟨1, _⟩ => (by show a.val = 0 + a.val; omega)
    | ⟨2, _⟩ => (by show k.val = 0 + k.val; omega))).trans ?_
  exact (blk_g m c t b hb r a hr _).trans (pair_lo _ _ b r k _ rfl)

theorem half_o (t : Fin cfg0.N) (b : Fin 8) (hb : b.val = win0_9.index t 0) (r : Fin 4352) (a : Fin 256) (hr : r.val = 256 * win0_9.index t 1 + a.val) (k : Fin 1024) :
    oHalf m c t (ix3 (0 : Fin 1) a k) = OO m c (ix3 b r k) := by
  have hk := k.isLt
  refine (View.ld_unit_apply_of (S := S1x256x2048) (iblk m c 1 t) ![0, 0, 1024] S1x256x1024.size inb_S1x256x2048_S1x256x1024_0_0_1024 (ix3 (0 : Fin 1) a k) (ix3 (0 : Fin 1) a (⟨1024 + k.val, by omega⟩ : Fin 2048)) (fun x => match x with
    | ⟨0, _⟩ => rfl
    | ⟨1, _⟩ => (by show a.val = 0 + a.val; omega)
    | ⟨2, _⟩ => rfl)).trans ?_
  exact (blk_g m c t b hb r a hr _).trans (pair_hi _ _ b r k _ rfl)

/-- The stored block from the arguments. -/
theorem left_apply (t : Fin cfg0.N) (b : Fin 8) (hb : b.val = win0_9.index t 0) (r : Fin 4352) (a : Fin 256) (hr : r.val = 256 * win0_9.index t 1 + a.val) (z : Fin 1) (n : Fin 1024) :
    (outsAt0 m c t).1 (ix3 z a n) = outv (HC m c) (HL m c) (MC m c) (ML m c) (evenMix (YS m c) (YM m c) (ZZ m c) (OO m c) (WA m c) (WM m c)) (WO m c) b r n := by
  rw [left_eq]
  refine (stored_apply _ _ _ _ _ _ _ _ z a n).trans ?_
  refine congrArg₂ (· + ·) (blk_h m c t b hb r a hr n) (congrArg₂ (· * ·) (blk_m m c t b hb r a hr 2 n) (Finset.sum_congr rfl fun k _ => congrArg₂ (· * ·) ?_ (blk_w m c t k n)))
  exact evenRow_congr (funext fun j => (blk_y m c t b hb r a hr _).trans (pair_lo _ _ b r j _ rfl)) (funext fun j => half_z m c t b hb r a hr j)
    (funext fun j => (blk_y m c t b hb r a hr _).trans (pair_hi _ _ b r j _ rfl)) (funext fun j => half_o m c t b hb r a hr j)
    (funext fun j => blk_a m c t j) (funext fun j => blk_b m c t j) k

/-- The stream after the run. -/
theorem final : (dats m 0 c).arrAt 9 cfg0.N = val_main_v73 (F := Ideal) (YS m c) (YM m c) (ZZ m c) (OO m c) (HL m c) (HC m c) (ML m c) (MC m c) (WA m c) (WM m c) (WO m c) := by
  refine (dats m 0 c).arrAt_eq_of_covers 9 _ (by decide +kernel) fun t hf y => ?_
  obtain ⟨h0, h1, h2, -⟩ := idxA t
  have hy0 : (y 0).val < 1 := (y 0).isLt
  have hy1 : (y 1).val < 256 := (y 1).isLt
  have hy2 : (y 2).val < 1024 := (y 2).isLt
  have e : ((cfg0.win 9).blk t).view.emb y = ix3 (⟨win0_9.index t 0, h0⟩ : Fin 8) (⟨256 * win0_9.index t 1 + (y 1).val, by omega⟩ : Fin 4352) (⟨(y 2).val, hy2⟩ : Fin 1024) :=
    funext fun x => Fin.ext (((win0_9).rect_emb_val t y x).trans (match x with
      | ⟨0, _⟩ => by show win0_9.index t 0 * 1 + (y 0).val = win0_9.index t 0; omega
      | ⟨1, _⟩ => by show win0_9.index t 1 * 256 + (y 1).val = 256 * win0_9.index t 1 + (y 1).val; omega
      | ⟨2, _⟩ => by show win0_9.index t 2 * 1024 + (y 2).val = (y 2).val; omega))
  rw [e]
  refine Eq.trans ?_ (out_apply (YS m c) (YM m c) (ZZ m c) (OO m c) (HL m c) (HC m c) (ML m c) (MC m c) (WA m c) (WM m c) (WO m c) _ _ _).symm
  show (dats m 0 c).after 9 t _ = _
  rw [after0_9]
  have ey : (y : S1x256x1024.Idx) = ix3 (⟨(y 0).val, hy0⟩ : Fin 1) (⟨(y 1).val, hy1⟩ : Fin 256) (⟨(y 2).val, hy2⟩ : Fin 1024) :=
    funext fun x => match x with | ⟨0, _⟩ => rfl | ⟨1, _⟩ => rfl | ⟨2, _⟩ => rfl
  refine (congrArg (outsAt0 m c t).1 ey).trans ?_
  exact left_apply m c t _ rfl _ _ rfl _ _

end Cert.EvenFin

end
-- ==== Proof.Even.Claims.lean ====
module

public import proofs.«01_k».proof.Defs
public import proofs.«01_k».proof.Proof.Even.Fin
public import proofs.«01_k».proof.Proof.Gen.Reference4Ideal.Run
public import Idealize.ShloMosaic.Lib.Quiescent
public import Idealize.ShloMosaic.Lib.Claim

@[expose] public section

set_option maxRecDepth 65536

noncomputable section

namespace Cert.EvenClaims

open Idealize.ShloMosaic Idealize.ShloMosaic.TcCoe Idealize.SL.Sem

/-- The even out-projection's reference runs, leaves its arguments as they were and every counter at zero. -/
theorem ref_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0) :=
  (θ_run _ _ _).mono (fun r h => ⟨fun c => (h c).2, sem_eq_zero_of_no_sems (by decide) r.2⟩) (Cert.Reference4Ideal.Value.run (F := Ideal) m g)

theorem quiescent_ri : Cert.quiescent_Reference4Ideal := fun m g _ => ref_frame m g

/-- From equal arguments the even out-projection and its reference end with equal results. -/
theorem algebraic : Cert.algebraic_Kernel4Ideal_Reference4Ideal := by
  intro m g m' g' hpre hag
  refine ⟨fun c => Cert.Reference4Ideal.Read.val_main_v73 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)), ?_, ?_⟩
  · exact (θ_run _ _ _).mono (fun r h c => ⟨(h c).1.trans (Cert.EvenFin.final m c), (h c).2.2.2⟩) (Cert.Kernel4Ideal.Value.run_blocks m g)
  · refine (θ_run _ _ _).mono (fun r h c => ⟨(h c).1.trans ?_, (h c).2⟩) (Cert.Reference4Ideal.Value.run (F := Ideal) m' g')
    obtain ⟨h0, h1, h2, h3, h4, h5, h6, h7, h8, h9, h10, h11, h12, h13⟩ := hag c
    rw [Cert.Reference4Ideal.Read.val_main_v73_eq, h0, h1, h2, h3, h4, h5, h6, h7, h8, h9, h10]

end Cert.EvenClaims

end
-- ==== Proof.Odd.Body.lean ====
module

public import proofs.«01_k».proof.Proof.Odd.Kit
public import proofs.«01_k».proof.Proof.Gen.Kernel5Ideal.Frame
public import proofs.«01_k».proof.Proof.Gen.Kernel5Ideal.Value

@[expose] public section

set_option maxRecDepth 16384

noncomputable section

namespace Cert.OddBody

open Cert.Kernel5Ideal Cert.Kernel5Ideal.Gen Idealize.ShloMosaic Idealize.ShloMosaic.TcCoe Idealize.ShloMosaic.ValueIdx
open Cert.Tok
open scoped BigOperators

theorem cast512 (v : Vec Ideal S1x256x512 .bf16) (r : Fin 256) (k : Fin 512) :
    shapeCast S256x512 v shapeCasts_S1x256x512_S256x512 (ix2 r k) = v (ix3 (0 : Fin 1) r k) :=
  shapeCast_apply _ shapeCasts_S1x256x512_S256x512 (ix2 r k) (ix3 (0 : Fin 1) r k) (by
    rw [Shape.rowMajor_val_two, Shape.rowMajor_val_three]
    show (0 * 256 + r.val) * 512 + k.val = r.val * 512 + k.val; omega)

/-- The two halves' concatenation. -/
theorem cat_apply (a b : FVec Ideal S256x512 .bf16) (r : Fin 256) (k : Fin 1024) :
    concatenate S256x1024 1 [⟨S256x512, a⟩, ⟨S256x512, b⟩] concatenates_S256x512_S256x512_S256x1024_d1 (ix2 r k)
      = side (rfl : 1024 = 512 + 512) (fun k => a (ix2 r k)) (fun k => b (ix2 r k)) k := by
  have hk := k.isLt
  by_cases h : k.val < 512
  · rw [side_left _ _ _ k (⟨k.val, h⟩ : Fin 512) rfl]
    exact concatenate_apply_piece (t := S256x1024) 1 [⟨S256x512, a⟩, ⟨S256x512, b⟩] concatenates_S256x512_S256x512_S256x1024_d1 (ix2 r k)
      0 (by show 0 < 2; decide) S256x512 _ rfl rfl 0 rfl (ix2 r (⟨k.val, h⟩ : Fin 512))
      (fun a ha => match a with | ⟨0, _⟩ => rfl | ⟨1, _⟩ => absurd rfl ha) (by show 0 + k.val = k.val; omega)
  · rw [side_right _ _ _ k (⟨k.val - 512, by omega⟩ : Fin 512) (by show k.val = 512 + (k.val - 512); omega)]
    exact concatenate_apply_piece (t := S256x1024) 1 [⟨S256x512, a⟩, ⟨S256x512, b⟩] concatenates_S256x512_S256x512_S256x1024_d1 (ix2 r k)
      1 (by show 1 < 2; decide) S256x512 _ rfl rfl 512 rfl (ix2 r (⟨k.val - 512, by omega⟩ : Fin 512))
      (fun a ha => match a with | ⟨0, _⟩ => rfl | ⟨1, _⟩ => absurd rfl ha) (by show 512 + (k.val - 512) = k.val; omega)

/-- The stored block at a row and a column, for a choice of the mixer's rows. -/
theorem pay_apply (i : grid0.Coords) (v1 v3 v6 v8 : Vec Ideal S1x256x512 .bf16) (v12 : Vec Ideal S1x1x6x1024 .f32) (v14 : Vec Ideal S1x256x1024 .f32)
    (v17 : Vec Ideal S1024x1024 .bf16) (s d : Vec Ideal S1x256x512 .bf16)
    (hs : (Scalar.select (Scalar.cmpi .slt (BitVec.ofNat 32 (i 1).val) 1#32) (shapeCast S256x512 v1 shapeCasts_S1x256x512_S256x512) (shapeCast S256x512 v3 shapeCasts_S1x256x512_S256x512) : FVec Ideal S256x512 .bf16)
      = shapeCast S256x512 s shapeCasts_S1x256x512_S256x512)
    (hd : (Scalar.select (Scalar.cmpi .slt (BitVec.ofNat 32 (i 1).val) 1#32) (shapeCast S256x512 v6 shapeCasts_S1x256x512_S256x512) (shapeCast S256x512 v8 shapeCasts_S1x256x512_S256x512) : FVec Ideal S256x512 .bf16)
      = shapeCast S256x512 d shapeCasts_S1x256x512_S256x512)
    (z : Fin 1) (r : Fin 256) (n : Fin 1024) :
    k0_pay4 i v1 v3 v6 v8 v12 v14 v17 (ix3 z r n) = v14 (ix3 (0 : Fin 1) r n) + v12 (ix4 (0 : Fin 1) (0 : Fin 1) (2 : Fin 6) n)
      * ∑ k : Fin 1024, side (rfl : 1024 = 512 + 512) (fun k => s (ix3 (0 : Fin 1) r k)) (fun k => d (ix3 (0 : Fin 1) r k)) k * v17 (ix2 k n) := by
  have hz := z.isLt
  refine (shapeCast_apply (k0_pay3 i v1 v3 v6 v8 v12 v14 v17) shapeCasts_S256x1024_S1x256x1024 (ix3 z r n) (ix2 r n) (by
    rw [Shape.rowMajor_val_two, Shape.rowMajor_val_three]
    show r.val * 1024 + n.val = (z.val * 256 + r.val) * 1024 + n.val; omega)).trans ?_
  unfold k0_pay3
  rw [hs, hd]
  refine congrArg₂ (· + ·) ?_ (congrArg₂ (· * ·) ?_ ?_)
  · exact shapeCast_apply _ shapeCasts_S1x256x1024_S256x1024 (ix2 r n) (ix3 (0 : Fin 1) r n) (by
      rw [Shape.rowMajor_val_two, Shape.rowMajor_val_three]
      show (0 * 256 + r.val) * 1024 + n.val = r.val * 1024 + n.val; omega)
  · refine (broadcastTo_apply _ broadcasts_S1x1024_S256x1024 (ix2 r n) (ix2 (0 : Fin 1) n) (fun b => match b with | ⟨0, _⟩ => rfl | ⟨1, _⟩ => rfl)).trans ?_
    refine (extractStridedSlice_apply ![2, 0] (k0_pay2 v12) slices_S6x1024_o2_0_S1x1024 (ix2 (0 : Fin 1) n) (ix2 (2 : Fin 6) n) (fun a => match a with
      | ⟨0, _⟩ => rfl
      | ⟨1, _⟩ => by show n.val = 0 + n.val; omega)).trans ?_
    exact shapeCast_apply _ shapeCasts_S1x1x6x1024_S6x1024 (ix2 (2 : Fin 6) n) (ix4 (0 : Fin 1) (0 : Fin 1) (2 : Fin 6) n) (by
      rw [Shape.rowMajor_val_two, Shape.rowMajor_val_four]
      show ((0 * 1 + 0) * 6 + 2) * 1024 + n.val = 2 * 1024 + n.val; omega)
  · refine (Ideal.matmul_plain_apply (M := 256) (K := 1024) (N := 1024) none _ _ _ r n).trans ?_
    refine (congrArg (· + _) Ideal.ofBits_zero_f32).trans ((zero_add _).trans (Finset.sum_congr rfl fun k _ => congrArg₂ (· * ·) ?_ ?_))
    · refine (cat_apply _ _ r k).trans (side_congr _ (funext fun j => ?_) (funext fun j => ?_) k)
      · exact cast512 s r j
      · exact cast512 d r j
    · exact shapeCast_apply _ shapeCasts_S1024x1024_S1024x1024 (ix2 k n) (ix2 k n) rfl

variable (m : (ℓ : Loc nD τ sig) → Buf (Elt Ideal) ℓ) (c : Dev nD) (t : Fin cfg0.N)

/-- What the body leaves in the stream's block: its one store's payload of the point's blocks. -/
theorem left_eq : (outsAt0 m c t).1 = k0_pay4 (grid0.coords t) (iblk m c 0 t) (iblk m c 2 t) (iblk m c 1 t) (iblk m c 3 t) (iblk m c 5 t) (iblk m c 4 t) (iblk m c 6 t) := by
  unfold outsAt0 out0_A_9 kernelRun0_A
  dsimp only
  refine (View.read_writes_full (s := S1x256x1024) VO0_9 _ inb_S1x256x1024_S1x256x1024_0_0_0 _ []).trans ?_
  rw [ld_full (s := S1x256x512) (hs0_0 t) (iblk m c 0 t), ld_full (s := S1x256x512) (hs0_1 t) (iblk m c 1 t), ld_full (s := S1x256x512) (hs0_2 t) (iblk m c 2 t),
    ld_full (s := S1x256x512) (hs0_3 t) (iblk m c 3 t), ld_full (s := S1x256x1024) (hs0_4 t) (iblk m c 4 t),
    ld_full (s := S1x1x6x1024) (hs0_5 t) (iblk m c 5 t), ld_full (s := S1024x1024) (hs0_6 t) (iblk m c 6 t)]

end Cert.OddBody

end
-- ==== Proof.Odd.Ref.lean ====
module

public import proofs.«01_k».proof.Proof.Odd.Kit
public import proofs.«01_k».proof.Proof.Gen.Reference5Ideal.Read

@[expose] public section

set_option maxRecDepth 16384

noncomputable section

namespace Cert.OddRef

open Cert.Reference5Ideal Cert.Reference5Ideal.Gen Cert.Reference5Ideal.Read Idealize.ShloMosaic Idealize.ShloMosaic.TcCoe Idealize.ShloMosaic.ValueIdx
open Cert.Tok
open scoped BigOperators

variable (x0 x1 : FVec Ideal S8x256x512 .f32) (x2 x3 : FVec Ideal S8x4096x512 .f32) (x4 : FVec Ideal S8x4096x1024 .f32) (x5 : FVec Ideal S8x256x1024 .f32)
  (x6 : FVec Ideal S8x6144 .f32) (x7 : FVec Ideal S1x6144 .f32) (x8 : FVec Ideal S1024x1024 .f32)

/-- The context's rows of the mixer. -/
theorem ctx_apply (b : Fin 8) (s : Fin 256) (k : Fin 1024) : val_main_v0 (F := Ideal) x0 x1 (ix3 b s k)
    = side (rfl : 1024 = 512 + 512) (fun k => x0 (ix3 b s k)) (fun k => x1 (ix3 b s k)) k := by
  have hk := k.isLt
  unfold val_main_v0
  by_cases h : k.val < 512
  · rw [side_left _ _ _ k (⟨k.val, h⟩ : Fin 512) rfl]
    exact concatenate_apply_piece (t := S8x256x1024) 2 [⟨S8x256x512, x0⟩, ⟨S8x256x512, x1⟩] concatenates_S8x256x512_S8x256x512_S8x256x1024_d2 (ix3 b s k)
      0 (by show 0 < 2; decide) S8x256x512 _ rfl rfl 0 rfl (ix3 b s (⟨k.val, h⟩ : Fin 512))
      (fun a ha => match a with | ⟨0, _⟩ => rfl | ⟨1, _⟩ => rfl | ⟨2, _⟩ => absurd rfl ha) (by show 0 + k.val = k.val; omega)
  · rw [side_right _ _ _ k (⟨k.val - 512, by omega⟩ : Fin 512) (by show k.val = 512 + (k.val - 512); omega)]
    exact concatenate_apply_piece (t := S8x256x1024) 2 [⟨S8x256x512, x0⟩, ⟨S8x256x512, x1⟩] concatenates_S8x256x512_S8x256x512_S8x256x1024_d2 (ix3 b s k)
      1 (by show 1 < 2; decide) S8x256x512 _ rfl rfl 512 rfl (ix3 b s (⟨k.val - 512, by omega⟩ : Fin 512))
      (fun a ha => match a with | ⟨0, _⟩ => rfl | ⟨1, _⟩ => rfl | ⟨2, _⟩ => absurd rfl ha) (by show 512 + (k.val - 512) = k.val; omega)

/-- The latents' rows of the mixer. -/
theorem lat_apply (b : Fin 8) (s : Fin 4096) (k : Fin 1024) : val_main_v2 (F := Ideal) x2 x3 (ix3 b s k)
    = side (rfl : 1024 = 512 + 512) (fun k => x2 (ix3 b s k)) (fun k => x3 (ix3 b s k)) k := by
  have hk := k.isLt
  unfold val_main_v2
  by_cases h : k.val < 512
  · rw [side_left _ _ _ k (⟨k.val, h⟩ : Fin 512) rfl]
    exact concatenate_apply_piece (t := S8x4096x1024) 2 [⟨S8x4096x512, x2⟩, ⟨S8x4096x512, x3⟩] concatenates_S8x4096x512_S8x4096x512_S8x4096x1024_d2 (ix3 b s k)
      0 (by show 0 < 2; decide) S8x4096x512 _ rfl rfl 0 rfl (ix3 b s (⟨k.val, h⟩ : Fin 512))
      (fun a ha => match a with | ⟨0, _⟩ => rfl | ⟨1, _⟩ => rfl | ⟨2, _⟩ => absurd rfl ha) (by show 0 + k.val = k.val; omega)
  · rw [side_right _ _ _ k (⟨k.val - 512, by omega⟩ : Fin 512) (by show k.val = 512 + (k.val - 512); omega)]
    exact concatenate_apply_piece (t := S8x4096x1024) 2 [⟨S8x4096x512, x2⟩, ⟨S8x4096x512, x3⟩] concatenates_S8x4096x512_S8x4096x512_S8x4096x1024_d2 (ix3 b s k)
      1 (by show 1 < 2; decide) S8x4096x512 _ rfl rfl 512 rfl (ix3 b s (⟨k.val - 512, by omega⟩ : Fin 512))
      (fun a ha => match a with | ⟨0, _⟩ => rfl | ⟨1, _⟩ => rfl | ⟨2, _⟩ => absurd rfl ha) (by show 512 + (k.val - 512) = k.val; omega)

/-- The out-projection of a token. -/
theorem y_apply (b : Fin 8) (r : Fin 4352) (n : Fin 1024) : val_main_v4 (F := Ideal) x0 x1 x2 x3 x8 (ix3 b r n)
    = ∑ k : Fin 1024, oddMix x0 x1 x2 x3 b r k * x8 (ix2 k n) := by
  have hr := r.isLt
  unfold val_main_v4 oddMix
  by_cases h : r.val < 256
  · refine (concatenate_apply_piece (t := S8x4352x1024) 1 [⟨S8x256x1024, val_main_v1 (F := Ideal) x0 x1 x8⟩, ⟨S8x4096x1024, val_main_v3 (F := Ideal) x2 x3 x8⟩]
      concatenates_S8x256x1024_S8x4096x1024_S8x4352x1024_d1 (ix3 b r n)
      0 (by show 0 < 2; decide) S8x256x1024 _ rfl rfl 0 rfl (ix3 b (⟨r.val, h⟩ : Fin 256) n)
      (fun a ha => match a with | ⟨0, _⟩ => rfl | ⟨1, _⟩ => absurd rfl ha | ⟨2, _⟩ => rfl) (by show 0 + r.val = r.val; omega)).trans ?_
    refine (val_main_v1_apply x0 x1 x8 _).trans (Finset.sum_congr rfl fun k _ => congrArg₂ (· * ·) ?_ ?_)
    · rw [tok_ctx _ _ r k (⟨r.val, h⟩ : Fin 256) rfl, ← ctx_apply]
      exact congrArg (val_main_v0 (F := Ideal) x0 x1) (funext fun a => match a with | ⟨0, _⟩ => rfl | ⟨1, _⟩ => rfl | ⟨2, _⟩ => rfl)
    · exact congrArg x8 (funext fun a => match a with | ⟨0, _⟩ => rfl | ⟨1, _⟩ => rfl)
  · refine (concatenate_apply_piece (t := S8x4352x1024) 1 [⟨S8x256x1024, val_main_v1 (F := Ideal) x0 x1 x8⟩, ⟨S8x4096x1024, val_main_v3 (F := Ideal) x2 x3 x8⟩]
      concatenates_S8x256x1024_S8x4096x1024_S8x4352x1024_d1 (ix3 b r n)
      1 (by show 1 < 2; decide) S8x4096x1024 _ rfl rfl 256 rfl (ix3 b (⟨r.val - 256, by omega⟩ : Fin 4096) n)
      (fun a ha => match a with | ⟨0, _⟩ => rfl | ⟨1, _⟩ => absurd rfl ha | ⟨2, _⟩ => rfl) (by show 256 + (r.val - 256) = r.val; omega)).trans ?_
    refine (val_main_v3_apply x2 x3 x8 _).trans (Finset.sum_congr rfl fun k _ => congrArg₂ (· * ·) ?_ ?_)
    · rw [tok_lat _ _ r k (⟨r.val - 256, by omega⟩ : Fin 4096) (by show r.val = 256 + (r.val - 256); omega), ← lat_apply]
      exact congrArg (val_main_v2 (F := Ideal) x2 x3) (funext fun a => match a with | ⟨0, _⟩ => rfl | ⟨1, _⟩ => rfl | ⟨2, _⟩ => rfl)
    · exact congrArg x8 (funext fun a => match a with | ⟨0, _⟩ => rfl | ⟨1, _⟩ => rfl)

/-- The reference's result: the residual. -/
theorem out_apply (b : Fin 8) (r : Fin 4352) (n : Fin 1024) : val_main_v37 (F := Ideal) x0 x1 x2 x3 x4 x5 x6 x7 x8 (ix3 b r n)
    = outv x5 x4 x7 x6 (oddMix x0 x1 x2 x3) x8 b r n := by
  have hr := r.isLt
  unfold outv hv mv
  rw [← y_apply]
  unfold val_main_v37
  by_cases h : r.val < 256
  · rw [if_pos h, tok_ctx _ _ r n (⟨r.val, h⟩ : Fin 256) rfl]
    refine (concatenate_apply_piece (t := S8x4352x1024) 1 [⟨S8x256x1024, val_main_v32 (F := Ideal) x0 x1 x2 x3 x5 x7 x8⟩, ⟨S8x4096x1024, val_main_v36 (F := Ideal) x0 x1 x2 x3 x4 x6 x8⟩]
      concatenates_S8x256x1024_S8x4096x1024_S8x4352x1024_d1 (ix3 b r n)
      0 (by show 0 < 2; decide) S8x256x1024 _ rfl rfl 0 rfl (ix3 b (⟨r.val, h⟩ : Fin 256) n)
      (fun a ha => match a with | ⟨0, _⟩ => rfl | ⟨1, _⟩ => absurd rfl ha | ⟨2, _⟩ => rfl) (by show 0 + r.val = r.val; omega)).trans ?_
    rw [val_main_v32_apply, val_main_v31_apply, val_main_v30_apply, val_main_v25_apply, val_main_v19_apply, val_main_v29_apply]
    refine congrArg₂ (· + ·) rfl (congrArg₂ (· * ·) ?_ ?_)
    · exact congrArg x7 (funext fun a => Fin.ext (match a with | ⟨0, _⟩ => rfl | ⟨1, _⟩ => rfl))
    · exact congrArg (val_main_v4 (F := Ideal) x0 x1 x2 x3 x8) (funext fun a => Fin.ext (match a with | ⟨0, _⟩ => rfl | ⟨1, _⟩ => rfl | ⟨2, _⟩ => rfl))
  · rw [if_neg h, tok_lat _ _ r n (⟨r.val - 256, by omega⟩ : Fin 4096) (by show r.val = 256 + (r.val - 256); omega)]
    refine (concatenate_apply_piece (t := S8x4352x1024) 1 [⟨S8x256x1024, val_main_v32 (F := Ideal) x0 x1 x2 x3 x5 x7 x8⟩, ⟨S8x4096x1024, val_main_v36 (F := Ideal) x0 x1 x2 x3 x4 x6 x8⟩]
      concatenates_S8x256x1024_S8x4096x1024_S8x4352x1024_d1 (ix3 b r n)
      1 (by show 1 < 2; decide) S8x4096x1024 _ rfl rfl 256 rfl (ix3 b (⟨r.val - 256, by omega⟩ : Fin 4096) n)
      (fun a ha => match a with | ⟨0, _⟩ => rfl | ⟨1, _⟩ => absurd rfl ha | ⟨2, _⟩ => rfl) (by show 256 + (r.val - 256) = r.val; omega)).trans ?_
    rw [val_main_v36_apply, val_main_v35_apply, val_main_v34_apply, val_main_v13_apply, val_main_v7_apply, val_main_v33_apply]
    refine congrArg₂ (· + ·) rfl (congrArg₂ (· * ·) ?_ ?_)
    · exact congrArg x6 (funext fun a => Fin.ext (match a with | ⟨0, _⟩ => rfl | ⟨1, _⟩ => rfl))
    · exact congrArg (val_main_v4 (F := Ideal) x0 x1 x2 x3 x8) (funext fun a => Fin.ext (match a with
        | ⟨0, _⟩ => rfl
        | ⟨1, _⟩ => (by show 256 + (r.val - 256) = r.val; omega : 256 + (r.val - 256) = r.val)
        | ⟨2, _⟩ => rfl))

end Cert.OddRef

end
-- ==== Proof.Odd.Fin.lean ====
module

public import proofs.«01_k».proof.Proof.Odd.Body
public import proofs.«01_k».proof.Proof.Odd.Ref
public import proofs.«01_k».proof.Proof.Inp.Host
public import Idealize.ShloMosaic.Lib.Pipeline.ValueKit.Geometry

@[expose] public section

set_option maxRecDepth 16384

noncomputable section

namespace Cert.OddFin

open Cert.Kernel5Ideal Cert.Kernel5Ideal.Gen Idealize.ShloMosaic Idealize.ShloMosaic.TcCoe Idealize.ShloMosaic.ValueIdx
open Idealize.ShloMosaic.StableHlo
open Idealize.ShloMosaic.Pipeline (Dat)
open Idealize.SL.Sem
open Cert.Tok Cert.OddBody Cert.OddRef
open Cert.InpHost (hArr mArr hArr_apply mArr_apply)
open Cert.Reference5Ideal.Read (val_main_v37)
open scoped BigOperators

variable (m : (ℓ : Loc nD τ sig) → Buf (Elt Ideal) ℓ) (c : Dev nD)

/-- The arguments as launched: the four attention outputs, the tokens, their modulations, the out-projection. -/
abbrev SC : FVec Ideal S8x256x512 .f32 := m ((c.tc : Thread nD τ).loc main_arg0)
abbrev DC : FVec Ideal S8x256x512 .f32 := m ((c.tc : Thread nD τ).loc main_arg1)
abbrev SL : FVec Ideal S8x4096x512 .f32 := m ((c.tc : Thread nD τ).loc main_arg2)
abbrev DL : FVec Ideal S8x4096x512 .f32 := m ((c.tc : Thread nD τ).loc main_arg3)
abbrev HL : FVec Ideal S8x4096x1024 .f32 := m ((c.tc : Thread nD τ).loc main_arg4)
abbrev HC : FVec Ideal S8x256x1024 .f32 := m ((c.tc : Thread nD τ).loc main_arg5)
abbrev ML : FVec Ideal S8x6144 .f32 := m ((c.tc : Thread nD τ).loc main_arg6)
abbrev MC : FVec Ideal S1x6144 .f32 := m ((c.tc : Thread nD τ).loc main_arg7)
abbrev WO : FVec Ideal S1024x1024 .f32 := m ((c.tc : Thread nD τ).loc main_arg8)

theorem V_h : V m c main_v0 = hArr (HC m c) (HL m c) := by
  unfold V; simp only [hostOps0, hostOps0_1, hostOps0_2, List.flatten_cons, List.flatten_nil, List.append_nil, List.cons_append, List.nil_append]
  after_results <;> rfl

theorem V_m : V m c main_v6 = mArr (MC m c) (ML m c) := by
  unfold V; simp only [hostOps0, hostOps0_1, hostOps0_2, List.flatten_cons, List.flatten_nil, List.append_nil, List.cons_append, List.nil_append]
  after_results <;> rfl

theorem V_sc : V m c main_v7 = truncf .bf16 (SC m c) bitsLt_bf16_f32 := by
  unfold V; simp only [hostOps0, hostOps0_1, hostOps0_2, List.flatten_cons, List.flatten_nil, List.append_nil, List.cons_append, List.nil_append]
  after_results <;> rfl

theorem V_dc : V m c main_v8 = truncf .bf16 (DC m c) bitsLt_bf16_f32 := by
  unfold V; simp only [hostOps0, hostOps0_1, hostOps0_2, List.flatten_cons, List.flatten_nil, List.append_nil, List.cons_append, List.nil_append]
  after_results <;> rfl

theorem V_sl : V m c main_v9 = truncf .bf16 (SL m c) bitsLt_bf16_f32 := by
  unfold V; simp only [hostOps0, hostOps0_1, hostOps0_2, List.flatten_cons, List.flatten_nil, List.append_nil, List.cons_append, List.nil_append]
  after_results <;> rfl

theorem V_dl : V m c main_v10 = truncf .bf16 (DL m c) bitsLt_bf16_f32 := by
  unfold V; simp only [hostOps0, hostOps0_1, hostOps0_2, List.flatten_cons, List.flatten_nil, List.append_nil, List.cons_append, List.nil_append]
  after_results <;> rfl

theorem V_w : V m c main_v11 = truncf .bf16 (WO m c) bitsLt_bf16_f32 := by
  unfold V; simp only [hostOps0, hostOps0_1, hostOps0_2, List.flatten_cons, List.flatten_nil, List.append_nil, List.cons_append, List.nil_append]
  after_results <;> rfl

theorem idxA : ∀ t : Fin cfg0.N, win0_9.index t 0 < 8 ∧ win0_9.index t 1 < 17 ∧ win0_9.index t 2 = 0
    ∧ win0_4.index t 0 = win0_9.index t 0 ∧ win0_4.index t 1 = win0_9.index t 1 ∧ win0_4.index t 2 = 0
    ∧ win0_5.index t 0 = win0_9.index t 0 ∧ (win0_5.index t 1 = if win0_9.index t 1 < 1 then 0 else 1) ∧ win0_5.index t 2 = 0 ∧ win0_5.index t 3 = 0
    ∧ win0_6.index t 0 = 0 ∧ win0_6.index t 1 = 0 :=
  (by decide +kernel : ∀ t : Fin grid0.N, win0_9.index t 0 < 8 ∧ win0_9.index t 1 < 17 ∧ win0_9.index t 2 = 0
    ∧ win0_4.index t 0 = win0_9.index t 0 ∧ win0_4.index t 1 = win0_9.index t 1 ∧ win0_4.index t 2 = 0
    ∧ win0_5.index t 0 = win0_9.index t 0 ∧ (win0_5.index t 1 = if win0_9.index t 1 < 1 then 0 else 1) ∧ win0_5.index t 2 = 0 ∧ win0_5.index t 3 = 0
    ∧ win0_6.index t 0 = 0 ∧ win0_6.index t 1 = 0)

theorem idxB : ∀ t : Fin cfg0.N, win0_0.index t 0 = win0_9.index t 0 ∧ win0_0.index t 1 = 0 ∧ win0_0.index t 2 = 0
    ∧ win0_1.index t 0 = win0_9.index t 0 ∧ win0_1.index t 1 = 0 ∧ win0_1.index t 2 = 0
    ∧ win0_2.index t 0 = win0_9.index t 0 ∧ win0_2.index t 1 = win0_9.index t 1 - 1 ∧ win0_2.index t 2 = 0
    ∧ win0_3.index t 0 = win0_9.index t 0 ∧ win0_3.index t 1 = win0_9.index t 1 - 1 ∧ win0_3.index t 2 = 0 :=
  (by decide +kernel : ∀ t : Fin grid0.N, win0_0.index t 0 = win0_9.index t 0 ∧ win0_0.index t 1 = 0 ∧ win0_0.index t 2 = 0
    ∧ win0_1.index t 0 = win0_9.index t 0 ∧ win0_1.index t 1 = 0 ∧ win0_1.index t 2 = 0
    ∧ win0_2.index t 0 = win0_9.index t 0 ∧ win0_2.index t 1 = win0_9.index t 1 - 1 ∧ win0_2.index t 2 = 0
    ∧ win0_3.index t 0 = win0_9.index t 0 ∧ win0_3.index t 1 = win0_9.index t 1 - 1 ∧ win0_3.index t 2 = 0)

/-- The body's choice between the context's block and the latents': by the block's number. -/
theorem pick : ∀ t : Fin cfg0.N, Scalar.cmpi .slt (BitVec.ofNat 32 ((grid0.coords t) 1).val) 1#32 = if win0_9.index t 1 < 1 then 1#1 else 0#1 :=
  (by decide +kernel : ∀ t : Fin grid0.N, Scalar.cmpi .slt (BitVec.ofNat 32 ((grid0.coords t) 1).val) 1#32 = if win0_9.index t 1 < 1 then 1#1 else 0#1)

theorem blk_h (t : Fin cfg0.N) (b : Fin 8) (hb : b.val = win0_9.index t 0) (r : Fin 4352) (a : Fin 256) (hr : r.val = 256 * win0_9.index t 1 + a.val) (k : Fin 1024) :
    iblk m c 4 t (ix3 (0 : Fin 1) a k) = hv (HC m c) (HL m c) b r k := by
  obtain ⟨-, -, -, h0, h1, h2, -⟩ := idxA t
  rw [← hArr_apply, ← V_h]
  unfold iblk
  refine congrArg (V m c main_v0) (funext fun x => Fin.ext (((win0_4).rect_emb_val t _ x).trans (match x with
    | ⟨0, _⟩ => ?_ | ⟨1, _⟩ => ?_ | ⟨2, _⟩ => ?_)))
  · show win0_4.index t 0 * 1 + 0 = b.val; omega
  · show win0_4.index t 1 * 256 + a.val = r.val; omega
  · show win0_4.index t 2 * 1024 + k.val = k.val; omega

theorem blk_m (t : Fin cfg0.N) (b : Fin 8) (hb : b.val = win0_9.index t 0) (r : Fin 4352) (a : Fin 256) (hr : r.val = 256 * win0_9.index t 1 + a.val) (q : Fin 6) (k : Fin 1024) :
    iblk m c 5 t (ix4 (0 : Fin 1) (0 : Fin 1) q k) = mv (MC m c) (ML m c) q b r k := by
  obtain ⟨-, -, -, -, -, -, h0, h1, h2, h3, -⟩ := idxA t
  have ha := a.isLt
  have hi : win0_5.index t 1 < 2 := by rw [h1]; split <;> omega
  rw [← mArr_apply (MC m c) (ML m c) b (⟨win0_5.index t 1, hi⟩ : Fin 2) q r k (by
    constructor
    · intro h
      show win0_5.index t 1 = 0
      rw [h1, if_pos (by omega)]
    · intro h
      show win0_5.index t 1 = 1
      rw [h1, if_neg (by omega)]), ← V_m]
  unfold iblk
  refine congrArg (V m c main_v6) (funext fun x => Fin.ext (((win0_5).rect_emb_val t _ x).trans (match x with
    | ⟨0, _⟩ => ?_ | ⟨1, _⟩ => ?_ | ⟨2, _⟩ => ?_ | ⟨3, _⟩ => ?_)))
  · show win0_5.index t 0 * 1 + 0 = b.val; omega
  · show win0_5.index t 1 * 1 + 0 = win0_5.index t 1; omega
  · show win0_5.index t 2 * 6 + q.val = q.val; omega
  · show win0_5.index t 3 * 1024 + k.val = k.val; omega

theorem blk_w (t : Fin cfg0.N) (k n : Fin 1024) : iblk m c 6 t (ix2 k n) = WO m c (ix2 k n) := by
  obtain ⟨-, -, -, -, -, -, -, -, -, -, h0, h1⟩ := idxA t
  refine Eq.trans ?_ (congrFun (V_w m c) (ix2 k n))
  unfold iblk
  refine congrArg (V m c main_v11) (funext fun x => Fin.ext (((win0_6).rect_emb_val t _ x).trans (match x with | ⟨0, _⟩ => ?_ | ⟨1, _⟩ => ?_)))
  · show win0_6.index t 0 * 1024 + k.val = k.val; omega
  · show win0_6.index t 1 * 1024 + n.val = n.val; omega

theorem blk_sc (t : Fin cfg0.N) (b : Fin 8) (hb : b.val = win0_9.index t 0) (a : Fin 256) (k : Fin 512) : iblk m c 0 t (ix3 (0 : Fin 1) a k) = SC m c (ix3 b a k) := by
  obtain ⟨h0, h1, h2, -⟩ := idxB t
  refine Eq.trans ?_ (congrFun (V_sc m c) (ix3 b a k))
  unfold iblk
  refine congrArg (V m c main_v7) (funext fun x => Fin.ext (((win0_0).rect_emb_val t _ x).trans (match x with | ⟨0, _⟩ => ?_ | ⟨1, _⟩ => ?_ | ⟨2, _⟩ => ?_)))
  · show win0_0.index t 0 * 1 + 0 = b.val; omega
  · show win0_0.index t 1 * 256 + a.val = a.val; omega
  · show win0_0.index t 2 * 512 + k.val = k.val; omega

theorem blk_dc (t : Fin cfg0.N) (b : Fin 8) (hb : b.val = win0_9.index t 0) (a : Fin 256) (k : Fin 512) : iblk m c 1 t (ix3 (0 : Fin 1) a k) = DC m c (ix3 b a k) := by
  obtain ⟨-, -, -, h0, h1, h2, -⟩ := idxB t
  refine Eq.trans ?_ (congrFun (V_dc m c) (ix3 b a k))
  unfold iblk
  refine congrArg (V m c main_v8) (funext fun x => Fin.ext (((win0_1).rect_emb_val t _ x).trans (match x with | ⟨0, _⟩ => ?_ | ⟨1, _⟩ => ?_ | ⟨2, _⟩ => ?_)))
  · show win0_1.index t 0 * 1 + 0 = b.val; omega
  · show win0_1.index t 1 * 256 + a.val = a.val; omega
  · show win0_1.index t 2 * 512 + k.val = k.val; omega

theorem blk_sl (t : Fin cfg0.N) (b : Fin 8) (hb : b.val = win0_9.index t 0) (a : Fin 256) (s : Fin 4096) (hs : s.val = 256 * (win0_9.index t 1 - 1) + a.val) (k : Fin 512) :
    iblk m c 2 t (ix3 (0 : Fin 1) a k) = SL m c (ix3 b s k) := by
  obtain ⟨-, -, -, -, -, -, h0, h1, h2, -⟩ := idxB t
  refine Eq.trans ?_ (congrFun (V_sl m c) (ix3 b s k))
  unfold iblk
  refine congrArg (V m c main_v9) (funext fun x => Fin.ext (((win0_2).rect_emb_val t _ x).trans (match x with | ⟨0, _⟩ => ?_ | ⟨1, _⟩ => ?_ | ⟨2, _⟩ => ?_)))
  · show win0_2.index t 0 * 1 + 0 = b.val; omega
  · show win0_2.index t 1 * 256 + a.val = s.val; omega
  · show win0_2.index t 2 * 512 + k.val = k.val; omega

theorem blk_dl (t : Fin cfg0.N) (b : Fin 8) (hb : b.val = win0_9.index t 0) (a : Fin 256) (s : Fin 4096) (hs : s.val = 256 * (win0_9.index t 1 - 1) + a.val) (k : Fin 512) :
    iblk m c 3 t (ix3 (0 : Fin 1) a k) = DL m c (ix3 b s k) := by
  obtain ⟨-, -, -, -, -, -, -, -, -, h0, h1, h2⟩ := idxB t
  refine Eq.trans ?_ (congrFun (V_dl m c) (ix3 b s k))
  unfold iblk
  refine congrArg (V m c main_v10) (funext fun x => Fin.ext (((win0_3).rect_emb_val t _ x).trans (match x with | ⟨0, _⟩ => ?_ | ⟨1, _⟩ => ?_ | ⟨2, _⟩ => ?_)))
  · show win0_3.index t 0 * 1 + 0 = b.val; omega
  · show win0_3.index t 1 * 256 + a.val = s.val; omega
  · show win0_3.index t 2 * 512 + k.val = k.val; omega

/-- The stored block from the arguments. -/
theorem left_apply (t : Fin cfg0.N) (b : Fin 8) (hb : b.val = win0_9.index t 0) (r : Fin 4352) (a : Fin 256) (hr : r.val = 256 * win0_9.index t 1 + a.val) (z : Fin 1) (n : Fin 1024) :
    (outsAt0 m c t).1 (ix3 z a n) = outv (HC m c) (HL m c) (MC m c) (ML m c) (oddMix (SC m c) (DC m c) (SL m c) (DL m c)) (WO m c) b r n := by
  have ha := a.isLt
  have hr' := r.isLt
  rw [left_eq]
  by_cases h : win0_9.index t 1 < 1
  · have hp : Scalar.cmpi .slt (BitVec.ofNat 32 ((grid0.coords t) 1).val) 1#32 = 1#1 := by rw [pick t, if_pos h]
    refine (pay_apply _ _ _ _ _ _ _ _ (iblk m c 0 t) (iblk m c 1 t) (by rw [hp]; rfl) (by rw [hp]; rfl) z a n).trans ?_
    refine congrArg₂ (· + ·) (blk_h m c t b hb r a hr n) (congrArg₂ (· * ·) (blk_m m c t b hb r a hr 2 n) (Finset.sum_congr rfl fun k _ => congrArg₂ (· * ·) ?_ (blk_w m c t k n)))
    unfold oddMix
    rw [tok_ctx _ _ r k a (by omega)]
    exact side_congr _ (funext fun j => blk_sc m c t b hb a j) (funext fun j => blk_dc m c t b hb a j) k
  · have hp : Scalar.cmpi .slt (BitVec.ofNat 32 ((grid0.coords t) 1).val) 1#32 = 0#1 := by rw [pick t, if_neg h]
    refine (pay_apply _ _ _ _ _ _ _ _ (iblk m c 2 t) (iblk m c 3 t) (by rw [hp]; rfl) (by rw [hp]; rfl) z a n).trans ?_
    refine congrArg₂ (· + ·) (blk_h m c t b hb r a hr n) (congrArg₂ (· * ·) (blk_m m c t b hb r a hr 2 n) (Finset.sum_congr rfl fun k _ => congrArg₂ (· * ·) ?_ (blk_w m c t k n)))
    unfold oddMix
    rw [tok_lat _ _ r k (⟨r.val - 256, by omega⟩ : Fin 4096) (by show r.val = 256 + (r.val - 256); omega)]
    exact side_congr _ (funext fun j => blk_sl m c t b hb a _ (by show r.val - 256 = _; omega) j) (funext fun j => blk_dl m c t b hb a _ (by show r.val - 256 = _; omega) j) k

/-- The stream after the run. -/
theorem final : (dats m 0 c).arrAt 9 cfg0.N = val_main_v37 (F := Ideal) (SC m c) (DC m c) (SL m c) (DL m c) (HL m c) (HC m c) (ML m c) (MC m c) (WO m c) := by
  refine (dats m 0 c).arrAt_eq_of_covers 9 _ (by decide +kernel) fun t hf y => ?_
  obtain ⟨h0, h1, h2, -⟩ := idxA t
  have hy0 : (y 0).val < 1 := (y 0).isLt
  have hy1 : (y 1).val < 256 := (y 1).isLt
  have hy2 : (y 2).val < 1024 := (y 2).isLt
  have e : ((cfg0.win 9).blk t).view.emb y = ix3 (⟨win0_9.index t 0, h0⟩ : Fin 8) (⟨256 * win0_9.index t 1 + (y 1).val, by omega⟩ : Fin 4352) (⟨(y 2).val, hy2⟩ : Fin 1024) :=
    funext fun x => Fin.ext (((win0_9).rect_emb_val t y x).trans (match x with
      | ⟨0, _⟩ => by show win0_9.index t 0 * 1 + (y 0).val = win0_9.index t 0; omega
      | ⟨1, _⟩ => by show win0_9.index t 1 * 256 + (y 1).val = 256 * win0_9.index t 1 + (y 1).val; omega
      | ⟨2, _⟩ => by show win0_9.index t 2 * 1024 + (y 2).val = (y 2).val; omega))
  rw [e]
  refine Eq.trans ?_ (out_apply (SC m c) (DC m c) (SL m c) (DL m c) (HL m c) (HC m c) (ML m c) (MC m c) (WO m c) _ _ _).symm
  show (dats m 0 c).after 9 t _ = _
  rw [after0_9]
  have ey : (y : S1x256x1024.Idx) = ix3 (⟨(y 0).val, hy0⟩ : Fin 1) (⟨(y 1).val, hy1⟩ : Fin 256) (⟨(y 2).val, hy2⟩ : Fin 1024) :=
    funext fun x => match x with | ⟨0, _⟩ => rfl | ⟨1, _⟩ => rfl | ⟨2, _⟩ => rfl
  refine (congrArg (outsAt0 m c t).1 ey).trans ?_
  exact left_apply m c t _ rfl _ _ rfl _ _

end Cert.OddFin

end
-- ==== Proof.Odd.Claims.lean ====
module

public import proofs.«01_k».proof.Defs
public import proofs.«01_k».proof.Proof.Odd.Fin
public import proofs.«01_k».proof.Proof.Gen.Reference5Ideal.Run
public import Idealize.ShloMosaic.Lib.Quiescent
public import Idealize.ShloMosaic.Lib.Claim

@[expose] public section

set_option maxRecDepth 65536

noncomputable section

namespace Cert.OddClaims

open Idealize.ShloMosaic Idealize.ShloMosaic.TcCoe Idealize.SL.Sem

/-- The odd out-projection's reference runs, leaves its arguments as they were and every counter at zero. -/
theorem ref_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0) :=
  (θ_run _ _ _).mono (fun r h => ⟨fun c => (h c).2, sem_eq_zero_of_no_sems (by decide) r.2⟩) (Cert.Reference5Ideal.Value.run (F := Ideal) m g)

theorem quiescent_ri : Cert.quiescent_Reference5Ideal := fun m g _ => ref_frame m g

/-- From equal arguments the odd out-projection and its reference end with equal results. -/
theorem algebraic : Cert.algebraic_Kernel5Ideal_Reference5Ideal := by
  intro m g m' g' hpre hag
  refine ⟨fun c => Cert.Reference5Ideal.Read.val_main_v37 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)), ?_, ?_⟩
  · exact (θ_run _ _ _).mono (fun r h c => ⟨(h c).1.trans (Cert.OddFin.final m c), (h c).2.2.2⟩) (Cert.Kernel5Ideal.Value.run_blocks m g)
  · refine (θ_run _ _ _).mono (fun r h c => ⟨(h c).1.trans ?_, (h c).2⟩) (Cert.Reference5Ideal.Value.run (F := Ideal) m' g')
    obtain ⟨h0, h1, h2, h3, h4, h5, h6, h7, h8, h9, h10, h11⟩ := hag c
    rw [Cert.Reference5Ideal.Read.val_main_v37_eq, h0, h1, h2, h3, h4, h5, h6, h7, h8]

end Cert.OddClaims

end
-- ==== Proof.Qkv.Kit.lean ====
module

public import proofs.«01_k».proof.Proof.Inp.Kit
public import Idealize.ShloMosaic.Lib.IdealHost

@[expose] public section

set_option maxRecDepth 16384

noncomputable section

namespace Cert.Qkv

open Idealize.ShloMosaic Idealize.ShloMosaic.ValueIdx
open Cert.Tok
open scoped BigOperators

/-- The rotation of a head's lanes by pairs, for latent tokens; a context token keeps its lanes. -/
def rot (lat : Prop) [Decidable lat] (cs sn x : Nat → EReal) (d : Nat) : EReal :=
  if lat then (if d % 2 = 0 then x d * cs (d / 2) - x (d + 1) * sn (d / 2) else x (d - 1) * sn (d / 2) + x d * cs (d / 2)) else x d

/-- A head's lanes over the root of their mean square, times the weights. -/
def hn (nw x : Nat → EReal) (d : Nat) : EReal :=
  x d * Ideal.rsqrt (Ideal.div (∑ j : Fin 64, x j.val * x j.val) (Ideal.ofBits .f32 0x42800000#32) + Ideal.ofBits .f32 0x358637BD#32) * nw d

/-- A head's values with a one after them, and zeros. -/
def wide (x : Nat → EReal) (l : Nat) : EReal :=
  if l < 64 then x l else if l = 64 then 1 else 0

theorem rot_congr (p q : Prop) [Decidable p] [Decidable q] (hpq : p ↔ q) {cs cs' sn sn' x x' : Nat → EReal} (d : Nat) (hd : d < 64)
    (hc : q → cs (d / 2) = cs' (d / 2)) (hs : q → sn (d / 2) = sn' (d / 2)) (hx : ∀ e, e < 64 → x e = x' e) :
    rot p cs sn x d = rot q cs' sn' x' d := by
  unfold rot
  by_cases hq : q
  · rw [if_pos hq, if_pos (hpq.mpr hq), hc hq, hs hq]
    by_cases h2 : d % 2 = 0
    · rw [if_pos h2, if_pos h2, hx d hd, hx (d + 1) (by omega)]
    · rw [if_neg h2, if_neg h2, hx d hd, hx (d - 1) (by omega)]
  · rw [if_neg hq, if_neg (fun h => hq (hpq.mp h)), hx d hd]

theorem hn_congr {nw nw' x x' : Nat → EReal} (d : Nat) (hd : d < 64) (hn' : nw d = nw' d) (hx : ∀ e, e < 64 → x e = x' e) :
    hn nw x d = hn nw' x' d := by
  unfold hn
  rw [hx d hd, hn', Finset.sum_congr rfl fun (j : Fin 64) _ => by rw [hx j.val j.isLt]]

theorem wide_congr {x x' : Nat → EReal} (l : Nat) (hx : ∀ e, e < 64 → x e = x' e) : wide x l = wide x' l := by
  unfold wide
  by_cases h : l < 64
  · rw [if_pos h, if_pos h, hx l h]
  · rw [if_neg h, if_neg h]

/-- A real number among the extended ones. -/
def Real' (x : EReal) : Prop := ∃ r : ℝ, x = (r : EReal)

theorem Real'.add {x y : EReal} (hx : Real' x) (hy : Real' y) : Real' (x + y) := by
  obtain ⟨a, rfl⟩ := hx; obtain ⟨b, rfl⟩ := hy; exact ⟨a + b, (EReal.coe_add a b).symm⟩

theorem Real'.mul {x y : EReal} (hx : Real' x) (hy : Real' y) : Real' (x * y) := by
  obtain ⟨a, rfl⟩ := hx; obtain ⟨b, rfl⟩ := hy; exact ⟨a * b, (EReal.coe_mul a b).symm⟩

theorem Real'.sub_self {x : EReal} (hx : Real' x) : x - x = 0 := by
  obtain ⟨a, rfl⟩ := hx
  rw [← EReal.coe_sub, _root_.sub_self]; rfl

theorem Real'.sum {ι : Type} (s : Finset ι) {f : ι → EReal} (hf : ∀ i, Real' (f i)) : Real' (∑ i ∈ s, f i) := by
  classical
  induction s using Finset.induction_on with
  | empty => exact ⟨0, by rw [Finset.sum_empty]; rfl⟩
  | insert a s ha ih => rw [Finset.sum_insert ha]; exact (hf a).add ih

/-- A row normalised and modulated is real where its weights and its modulation are: an infinite entry makes the mean square infinite and the row zero. -/
theorem nm_real {x w sc sh : Fin 1024 → EReal} (hw : ∀ k, Real' (w k)) (hc : ∀ k, Real' (sc k)) (hs : ∀ k, Real' (sh k))
    (k : Fin 1024) : Real' (nm x w sc sh k) := by
  have h1 : Ideal.ofBits .f32 0x44800000#32 = ((1024 : ℝ) : EReal) := by
    simp [Ideal.ofBits, Ideal.ieee]; rw [← EReal.coe_mul]; norm_num
  have h2 : ∃ e : ℝ, 0 < e ∧ Ideal.ofBits .f32 0x358637BD#32 = (e : EReal) :=
    ⟨(8796093 : ℝ) * (2 : ℝ) ^ (-43 : ℤ), by positivity, by simp [Ideal.ofBits, Ideal.ieee]⟩
  obtain ⟨e, he, h2⟩ := h2
  have h3 : Real' (Ideal.ofBits .f32 0x3F800000#32) := ⟨1, Ideal.ofBits_one_f32⟩
  have hk : Real' (x k * Ideal.rsqrt (Ideal.div (∑ j, x j * x j) (Ideal.ofBits .f32 0x44800000#32) + Ideal.ofBits .f32 0x358637BD#32)) := by
    by_cases hx : ∀ k, Real' (x k)
    · choose y hy using hx
      have hsum : ∑ j, x j * x j = ((∑ j, y j * y j : ℝ) : EReal) := by
        rw [Finset.sum_congr rfl fun j _ => by rw [hy j, ← EReal.coe_mul]]
        exact (map_sum (⟨⟨(fun r : ℝ => (r : EReal)), rfl⟩, EReal.coe_add⟩ : ℝ →+ EReal) _ _).symm
      have hpos : (0 : ℝ) < (∑ j, y j * y j) * (1 / 1024) + e := by
        have : (0 : ℝ) ≤ ∑ j, y j * y j := Finset.sum_nonneg fun j _ => mul_self_nonneg _
        positivity
      refine Real'.mul ⟨y k, hy k⟩ ?_
      rw [hsum, h1, h2, Ideal.div_coe (by norm_num), ← EReal.coe_mul, ← EReal.coe_add]
      refine ⟨(Real.sqrt ((∑ j, y j * y j) * (1 / 1024) + e))⁻¹, ?_⟩
      show (if _ < (0 : ℝ) then _ else if _ = (0 : ℝ) then _ else _) = _
      rw [if_neg (not_lt.mpr hpos.le), if_neg hpos.ne']
    · obtain ⟨j, hj⟩ := not_forall.1 hx
      have hn : ∀ i, (0 : EReal) ≤ x i * x i := fun i => by
        induction x i using EReal.rec with
        | bot => rw [EReal.bot_mul_bot]; exact le_top
        | coe r => rw [← EReal.coe_mul]; exact EReal.coe_nonneg.2 (mul_self_nonneg r)
        | top => rw [EReal.top_mul_top]; exact le_top
      have ht : x j * x j = ⊤ := by
        induction hxj : x j using EReal.rec with
        | bot => exact EReal.bot_mul_bot
        | coe r => exact absurd ⟨r, hxj⟩ hj
        | top => exact EReal.top_mul_top
      have hsum : ∑ j, x j * x j = ⊤ := top_le_iff.1 (ht ▸ Finset.single_le_sum (f := fun i => x i * x i) (fun i _ => hn i) (Finset.mem_univ j))
      rw [hsum, h1, h2, Ideal.div_coe (by norm_num), EReal.top_mul_coe_of_pos (by norm_num), EReal.top_add_coe]
      exact ⟨0, (mul_zero _).trans rfl⟩
  exact ((hk.mul (hw k)).mul (h3.add (hc k))).add (hs k)

/-- A sum over the lanes that picks one head's. -/
theorem sum_head {W : Nat} (H : Nat) (hW : W = H * 64) (f : Nat → EReal) (h : Nat) (hh : h < H) :
    ∑ k : Fin W, f k.val * (if k.val / 64 = h then 1 else 0) = ∑ j : Fin 64, f (64 * h + j.val) := by
  subst hW
  rw [← (finProdFinEquiv (m := H) (n := 64)).sum_comp, Fintype.sum_prod_type]
  rw [Finset.sum_eq_single (⟨h, hh⟩ : Fin H)]
  · refine Finset.sum_congr rfl fun j _ => ?_
    have hj := j.isLt
    rw [show (finProdFinEquiv ((⟨h, hh⟩ : Fin H), j)).val = 64 * h + j.val from by show j.val + 64 * h = _; omega, if_pos (by omega), mul_one]
  · intro b _ hb
    refine Finset.sum_eq_zero fun j _ => ?_
    have hj := j.isLt
    rw [show (finProdFinEquiv (b, j)).val = 64 * b.val + j.val from by show j.val + 64 * b.val = _; omega,
      if_neg (fun hq => hb (Fin.ext (by show b.val = h; omega))), mul_zero]
  · exact fun hn => absurd (Finset.mem_univ _) hn

/-- A sixty-fourth of something is it over sixty-four. -/
theorem mul_inv64 (x : EReal) : x * Ideal.ofBits .f32 0x3C800000#32 = Ideal.div x (Ideal.ofBits .f32 0x42800000#32) := by
  have h1 : Ideal.ofBits .f32 0x42800000#32 = ((64 : ℝ) : EReal) := by
    simp [Ideal.ofBits, Ideal.ieee]; rw [← EReal.coe_mul]; norm_num
  have h2 : Ideal.ofBits .f32 0x3C800000#32 = ((1 / 64 : ℝ) : EReal) := by
    simp [Ideal.ofBits, Ideal.ieee]; rw [← EReal.coe_mul]; norm_num
  rw [h1, h2, Ideal.div_coe (by norm_num)]

end Cert.Qkv

end
-- ==== Proof.Qkv.Lanes.lean ====
module

public import proofs.«01_k».proof.Proof.Qkv.Kit
public import proofs.«01_k».proof.Proof.Inp.Body
public import proofs.«01_k».proof.Proof.Gen.Kernel6Ideal.Frame
public import Idealize.ShloMosaic.Lib.Pipeline.ValueKit.Tiles

@[expose] public section

set_option maxRecDepth 16384

noncomputable section

namespace Cert.Qkv

open Cert.Kernel6Ideal Cert.Kernel6Ideal.Gen Idealize.ShloMosaic Idealize.ShloMosaic.TcCoe Idealize.ShloMosaic.ValueIdx
open Cert.Tok
open scoped BigOperators

/-! The masks the body makes of lane numbers. -/

/-- Whether a lane number is even. -/
def evenMask {S : Shape} (v : IVec S 32) : IVec S 1 :=
  cmpi .eq (select (andi (xori (cmpi .slt (remsi v (broadcast S (Scalar.select (Scalar.cmpi .eq 2#32 0#32) 1#32 2#32))) (broadcast S 0#32))
      (broadcast S (Scalar.cmpi .slt (Scalar.select (Scalar.cmpi .eq 2#32 0#32) 1#32 2#32) 0#32)))
      (cmpi .ne (remsi v (broadcast S (Scalar.select (Scalar.cmpi .eq 2#32 0#32) 1#32 2#32))) (broadcast S 0#32)))
    (addi (remsi v (broadcast S (Scalar.select (Scalar.cmpi .eq 2#32 0#32) 1#32 2#32))) (broadcast S (Scalar.select (Scalar.cmpi .eq 2#32 0#32) 1#32 2#32)))
    (remsi v (broadcast S (Scalar.select (Scalar.cmpi .eq 2#32 0#32) 1#32 2#32)))) (broadcast S 0#32)

theorem evenMask_one : ∀ l : Fin 512, evenMask (S := ⟨1, ![1]⟩) (fun _ => BitVec.ofNat 32 l.val) (ix1 (0 : Fin 1)) = if l.val % 2 = 0 then 1#1 else 0#1 := by
  decide +kernel

theorem evenMask_apply {S : Shape} (v : IVec S 32) (i : S.Idx) (l : Nat) (hl : l < 512) (h : v i = BitVec.ofNat 32 l) :
    evenMask v i = if l % 2 = 0 then 1#1 else 0#1 := by
  refine Eq.trans ?_ (evenMask_one ⟨l, hl⟩)
  show evenMask (S := ⟨1, ![1]⟩) (fun _ => v i) (ix1 (0 : Fin 1)) = _
  rw [h]

/-- The sign of a lane number. -/
def sgn {S : Shape} (v : IVec S 32) : IVec S 32 :=
  subi (extui 32 (cmpi .sgt v (broadcast S 0#32)) natLt_1_32) (extui 32 (cmpi .slt v (broadcast S 0#32)) natLt_1_32)

/-- The head, of 64 lanes, that a lane belongs to. -/
def headOf {S : Shape} (v : IVec S 32) : IVec S 32 :=
  select (andi (cmpi .ne (sgn v) (broadcast S (Scalar.subi (Scalar.extui (Scalar.cmpi .sgt 64#32 0#32)) (Scalar.extui (Scalar.cmpi .slt 64#32 0#32)))))
      (cmpi .ne (remsi v (broadcast S 64#32)) (broadcast S 0#32)))
    (subi (divsi v (broadcast S 64#32)) (broadcast S 1#32)) (divsi v (broadcast S 64#32))

theorem headOf_one : ∀ l : Fin 512, headOf (S := ⟨1, ![1]⟩) (fun _ => BitVec.ofNat 32 l.val) (ix1 (0 : Fin 1)) = BitVec.ofNat 32 (l.val / 64) := by
  decide +kernel

theorem headOf_apply {S : Shape} (v : IVec S 32) (i : S.Idx) (l : Nat) (hl : l < 512) (h : v i = BitVec.ofNat 32 l) :
    headOf v i = BitVec.ofNat 32 (l / 64) := by
  refine Eq.trans ?_ (headOf_one ⟨l, hl⟩)
  show headOf (S := ⟨1, ![1]⟩) (fun _ => v i) (ix1 (0 : Fin 1)) = _
  rw [h]

theorem eq_one : ∀ a b : Fin 8, IntOp.cmpi .eq (BitVec.ofNat 32 a.val) (BitVec.ofNat 32 b.val) = if a.val = b.val then 1#1 else 0#1 := by
  decide +kernel

/-- One where two lanes belong to one head. -/
def sameHead {S : Shape} (u v : IVec S 32) : FVec Ideal S .bf16 :=
  truncf .bf16 (sitofp .f32 (extui 32 (cmpi .eq (headOf u) (headOf v)) natLt_1_32) : FVec Ideal S .f32) bitsLt_bf16_f32

theorem sameHead_apply {S : Shape} (u v : IVec S 32) (i : S.Idx) (k l : Nat) (hk : k < 512) (hl : l < 512) (h : u i = BitVec.ofNat 32 k) (h' : v i = BitVec.ofNat 32 l) :
    sameHead u v i = if k / 64 = l / 64 then 1 else 0 := by
  show Scalar.sitofp (F := Ideal) .f32 (Scalar.extui (IntOp.cmpi .eq (headOf u i) (headOf v i)) : BitVec 32) = _
  rw [headOf_apply u i k hk h, headOf_apply v i l hl h', eq_one ⟨k / 64, by omega⟩ ⟨l / 64, by omega⟩]
  by_cases hq : k / 64 = l / 64
  · rw [if_pos hq, if_pos hq, Ideal.scalar_sitofp_def]
    rw [show ((Scalar.extui 1#1 : BitVec 32)).toInt = 1 from by decide]
    norm_num
  · rw [if_neg hq, if_neg hq, Ideal.scalar_sitofp_def]
    rw [show ((Scalar.extui 0#1 : BitVec 32)).toInt = 0 from by decide]
    norm_num

/-! The rotation by pairs of lanes. -/

/-- A block rotated where `v0` says so. -/
def roped {W : Nat} (hr : (⟨2, ![256, W]⟩ : Shape).Rotates 1 none) (k : BitVec 32) (v0 : BitVec 1) (v : IVec ⟨2, ![256, W]⟩ 32)
    (x c s : FVec Ideal ⟨2, ![256, W]⟩ .f32) : FVec Ideal ⟨2, ![256, W]⟩ .f32 :=
  Scalar.select v0 (addf (mulf x c) (mulf (select (evenMask v) (dynamicRotate 1 k none x hr) (dynamicRotate 1 1#32 none x hr)) s)) x

theorem roped_apply {W : Nat} (hr : (⟨2, ![256, W]⟩ : Shape).Rotates 1 none) (k : BitVec 32) (v0 : BitVec 1) (v : IVec ⟨2, ![256, W]⟩ 32)
    (x c s : FVec Ideal ⟨2, ![256, W]⟩ .f32) (a : Fin 256) (l : Fin W) (h d : Nat) (hl : l.val = 64 * h + d) (hd : d < 64)
    (hk : k.toNat = W - 1) (h1 : 1 < W) (hW : W ≤ 512) (hm : W % 64 = 0) (hv : v (ix2 a l) = BitVec.ofNat 32 l.val)
    (p : Prop) [Decidable p] (hp : v0 = if p then 1#1 else 0#1) (cs sn X : Nat → EReal)
    (hx : ∀ (l' : Fin W) (e : Nat), e < 64 → l'.val = 64 * h + e → x (ix2 a l') = X e)
    (hc : p → c (ix2 a l) = cs (d / 2)) (hs : p → s (ix2 a l) = if d % 2 = 0 then -(sn (d / 2)) else sn (d / 2)) :
    roped hr k v0 v x c s (ix2 a l) = rot p cs sn X d := by
  have hlW := l.isLt
  unfold roped rot
  by_cases hq : p
  · rw [hp, if_pos hq, if_pos hq]
    show x (ix2 a l) * c (ix2 a l) + (Scalar.select (evenMask v (ix2 a l)) (dynamicRotate 1 k none x hr (ix2 a l)) (dynamicRotate 1 1#32 none x hr (ix2 a l))) * s (ix2 a l) = _
    rw [evenMask_apply v _ l.val (by omega) hv, hc hq, hs hq, hx l d hd hl]
    by_cases h2 : d % 2 = 0
    · rw [if_pos (by omega), if_pos h2, if_pos h2]
      have hl1 : l.val + 1 < W := by omega
      have e : dynamicRotate 1 k none x hr (ix2 a l) = x (ix2 a (⟨l.val + 1, hl1⟩ : Fin W)) :=
        dynamicRotate_apply (s := ⟨2, ![256, W]⟩) 1 k x hr (ix2 a l) (ix2 a (⟨l.val + 1, hl1⟩ : Fin W)) (fun b => match b with
          | ⟨0, _⟩ => rfl
          | ⟨1, _⟩ => by
            show l.val + 1 = (l.val + W - k.toNat % W) % W
            rw [hk, Nat.mod_eq_of_lt (by omega : W - 1 < W), show l.val + W - (W - 1) = l.val + 1 from by omega, Nat.mod_eq_of_lt hl1])
      rw [show (Scalar.select 1#1 (dynamicRotate 1 k none x hr (ix2 a l)) (dynamicRotate 1 1#32 none x hr (ix2 a l))) = X (d + 1) from
        e.trans (hx _ (d + 1) (by omega) (by show l.val + 1 = _; omega)), sub_eq_add_neg, mul_neg]
    · rw [if_neg (by omega), if_neg h2, if_neg h2]
      have e : dynamicRotate 1 1#32 none x hr (ix2 a l) = x (ix2 a (⟨l.val - 1, by omega⟩ : Fin W)) :=
        dynamicRotate_apply (s := ⟨2, ![256, W]⟩) 1 1#32 x hr (ix2 a l) (ix2 a (⟨l.val - 1, by omega⟩ : Fin W)) (fun b => match b with
          | ⟨0, _⟩ => rfl
          | ⟨1, _⟩ => by
            show l.val - 1 = (l.val + W - 1 % W) % W
            rw [Nat.mod_eq_of_lt h1, show l.val + W - 1 = (l.val - 1) + W from by omega, Nat.add_mod_right, Nat.mod_eq_of_lt (by omega)])
      rw [show (Scalar.select 0#1 (dynamicRotate 1 k none x hr (ix2 a l)) (dynamicRotate 1 1#32 none x hr (ix2 a l))) = X (d - 1) from
        e.trans (hx _ (d - 1) (by omega) (by show l.val - 1 = _; omega)), add_comm]
  · rw [hp, if_neg hq, if_neg hq]
    exact hx l d hd hl

/-! The norm of a head's lanes, whose sums the body takes by a product with the heads' mask. -/

/-- A block normalised head by head; `mm` is the product with the mask. -/
def headNormed {W : Nat} (hb : (⟨2, ![1, W]⟩ : Shape).Broadcasts ⟨2, ![256, W]⟩) (mm : FVec Ideal ⟨2, ![256, W]⟩ .bf16 → FVec Ideal ⟨2, ![256, W]⟩ .f32)
    (x : FVec Ideal ⟨2, ![256, W]⟩ .f32) (nw : FVec Ideal ⟨2, ![1, W]⟩ .f32) : FVec Ideal ⟨2, ![256, W]⟩ .f32 :=
  let q := mulf x x
  let hi := truncf .bf16 q bitsLt_bf16_f32
  let r := subf q (extf .f32 hi bitsLt_bf16_f32)
  let mid := truncf .bf16 r bitsLt_bf16_f32
  let lo := truncf .bf16 (subf r (extf .f32 mid bitsLt_bf16_f32)) bitsLt_bf16_f32
  mulf (mulf x (rsqrt (addf (mulf (addf (addf (mm hi) (mm mid)) (mm lo)) (broadcast _ (Scalar.ofBits .f32 0x3C800000#32)))
    (broadcast _ (Scalar.ofBits .f32 0x358637BD#32))))) (broadcastTo _ nw hb)

theorem headNormed_apply {W : Nat} (hb : (⟨2, ![1, W]⟩ : Shape).Broadcasts ⟨2, ![256, W]⟩) (mm : FVec Ideal ⟨2, ![256, W]⟩ .bf16 → FVec Ideal ⟨2, ![256, W]⟩ .f32)
    (x : FVec Ideal ⟨2, ![256, W]⟩ .f32) (nw : FVec Ideal ⟨2, ![1, W]⟩ .f32) (a : Fin 256) (l : Fin W) (H : Nat) (hW : W = H * 64) (h1 : 1 < W) (h d : Nat)
    (hl : l.val = 64 * h + d) (hd : d < 64) (X w : Nat → EReal)
    (hmm : ∀ y : FVec Ideal ⟨2, ![256, W]⟩ .bf16, mm y (ix2 a l) = ∑ k : Fin W, y (ix2 a k) * (if k.val / 64 = l.val / 64 then 1 else 0))
    (hx : ∀ (l' : Fin W) (e : Nat), e < 64 → l'.val = 64 * h + e → x (ix2 a l') = X e)
    (hreal : ∀ l' : Fin W, Real' (x (ix2 a l'))) (hw : nw (ix2 (0 : Fin 1) l) = w d) :
    headNormed hb mm x nw (ix2 a l) = hn w X d := by
  have hlW := l.isLt
  have hz : ∀ k : Fin W, x (ix2 a k) * x (ix2 a k) - x (ix2 a k) * x (ix2 a k) = 0 := fun k => ((hreal k).mul (hreal k)).sub_self
  unfold headNormed hn
  refine congrArg₂ (· * ·) (congrArg₂ (· * ·) (hx l d hd hl) (congrArg Ideal.rsqrt (congrArg (· + _) ?_))) ?_
  · refine Eq.trans (congrArg (· * _) ?_) (mul_inv64 _)
    refine (congrArg₂ (· + ·) (congrArg₂ (· + ·) (hmm _) (hmm _)) (hmm _)).trans ?_
    have e2 : ∑ k : Fin W, (x (ix2 a k) * x (ix2 a k) - x (ix2 a k) * x (ix2 a k)) * (if k.val / 64 = l.val / 64 then 1 else 0) = (0 : EReal) :=
      Finset.sum_eq_zero fun k _ => by rw [hz k, zero_mul]
    have e3 : ∑ k : Fin W, ((x (ix2 a k) * x (ix2 a k) - x (ix2 a k) * x (ix2 a k)) - (x (ix2 a k) * x (ix2 a k) - x (ix2 a k) * x (ix2 a k)))
        * (if k.val / 64 = l.val / 64 then 1 else 0) = (0 : EReal) :=
      Finset.sum_eq_zero fun k _ => by rw [hz k, sub_zero, zero_mul]
    have e1 : ∑ k : Fin W, (x (ix2 a k) * x (ix2 a k)) * (if k.val / 64 = l.val / 64 then 1 else 0) = ∑ j : Fin 64, X j.val * X j.val := by
      rw [show l.val / 64 = h from by omega]
      refine (Finset.sum_congr rfl fun k _ => ?_).trans ((sum_head H hW (fun n => if hn : n < W then x (ix2 a (⟨n, hn⟩ : Fin W)) * x (ix2 a (⟨n, hn⟩ : Fin W)) else 0) h (by omega)).trans
        (Finset.sum_congr rfl fun j _ => ?_))
      · rw [dif_pos k.isLt]
      · have hj := j.isLt
        rw [dif_pos (by omega), hx _ j.val hj rfl]
    exact (congrArg₂ (· + ·) (congrArg₂ (· + ·) e1 e2) e3).trans (by rw [add_zero, add_zero])
  · refine (broadcastTo_apply nw hb (ix2 a l) (ix2 (0 : Fin 1) l) (fun b => match b with
      | ⟨0, _⟩ => by show 0 = if (1 : Nat) = 1 then 0 else a.val; rw [if_pos rfl]
      | ⟨1, _⟩ => by show l.val = if W = 1 then 0 else l.val; rw [if_neg (by omega)])).trans hw

/-! The values' lanes, widened with a one. -/

/-- Head `g`'s values of a block of two, moved to the first lanes by `mv`, with a one in lane 64. -/
def laneOne (v : IVec S256x128 32) (y : FVec Ideal S256x128 .f32) : FVec Ideal S256x128 .bf16 :=
  truncf .bf16 (select (cmpi .eq v (broadcast S256x128 64#32)) (broadcast S256x128 (Scalar.ofBits .f32 0x3F800000#32)) y) bitsLt_bf16_f32

/-- The lanes of head `g` of a block of two, the other's zero. -/
def onlyHead (g : BitVec 32) (v : IVec S256x128 32) (x : FVec Ideal S256x128 .f32) : FVec Ideal S256x128 .f32 :=
  select (cmpi .eq (headOf v) (broadcast S256x128 g)) x (broadcast S256x128 (Scalar.ofBits .f32 0x00000000#32))

theorem laneOne_apply (v : IVec S256x128 32) (y : FVec Ideal S256x128 .f32) (a : Fin 256) (l : Fin 128) (hv : v (ix2 a l) = BitVec.ofNat 32 l.val) :
    laneOne v y (ix2 a l) = if l.val = 64 then 1 else y (ix2 a l) := by
  show Scalar.select (IntOp.cmpi .eq (v (ix2 a l)) 64#32) (Ideal.ofBits .f32 0x3F800000#32) (y (ix2 a l)) = _
  rw [hv, show IntOp.cmpi .eq (BitVec.ofNat 32 l.val) 64#32 = if l.val = 64 then 1#1 else 0#1 from
    (by decide +kernel : ∀ l : Fin 128, IntOp.cmpi .eq (BitVec.ofNat 32 l.val) 64#32 = if l.val = 64 then 1#1 else 0#1) l]
  by_cases h : l.val = 64
  · rw [if_pos h, if_pos h]; exact Ideal.ofBits_one_f32
  · rw [if_neg h, if_neg h]; rfl

theorem onlyHead_apply (g : Fin 8) (v : IVec S256x128 32) (x : FVec Ideal S256x128 .f32) (a : Fin 256) (l : Fin 128) (hv : v (ix2 a l) = BitVec.ofNat 32 l.val) :
    onlyHead (BitVec.ofNat 32 g.val) v x (ix2 a l) = if l.val / 64 = g.val then x (ix2 a l) else 0 := by
  have hl := l.isLt
  show Scalar.select (IntOp.cmpi .eq (headOf v (ix2 a l)) (BitVec.ofNat 32 g.val)) (x (ix2 a l)) (Ideal.ofBits .f32 0x00000000#32) = _
  rw [headOf_apply v _ l.val (by omega) hv, eq_one ⟨l.val / 64, by omega⟩ g]
  by_cases h : l.val / 64 = g.val
  · rw [if_pos h, if_pos h]; rfl
  · rw [if_neg h, if_neg h]; exact Ideal.ofBits_zero_f32

/-- The first head's values as they are stored. -/
def val0 (x : FVec Ideal S256x128 .f32) (v : IVec S256x128 32) : FVec Ideal S1x1x256x128 .bf16 :=
  shapeCast S1x1x256x128 (laneOne v (onlyHead 0#32 v x)) shapeCasts_S256x128_S1x1x256x128

/-- The second head's values as they are stored. -/
def val1 (x : FVec Ideal S256x128 .f32) (v : IVec S256x128 32) : FVec Ideal S1x1x256x128 .bf16 :=
  shapeCast S1x1x256x128 (laneOne v (dynamicRotate 1 64#32 none (onlyHead 1#32 v x) rotates_S256x128_d1)) shapeCasts_S256x128_S1x1x256x128

theorem cast4_apply {N : Nat} (x : FVec Ideal ⟨2, ![256, N]⟩ .bf16) (hc : (⟨2, ![256, N]⟩ : Shape).ShapeCasts ⟨4, ![1, 1, 256, N]⟩)
    (k : (⟨4, ![1, 1, 256, N]⟩ : Shape).Idx) : shapeCast ⟨4, ![1, 1, 256, N]⟩ x hc k = x (ix2 (k 2 : Fin 256) (k 3 : Fin N)) :=
  shapeCast_apply x hc k (ix2 (k 2 : Fin 256) (k 3 : Fin N)) (by
    rw [Shape.rowMajor_val_two, Shape.rowMajor_val_four]
    have h0 : (k 0).val < 1 := (k 0).isLt
    have h1 : (k 1).val < 1 := (k 1).isLt
    have e0 : (k 0).val = 0 := by omega
    have e1 : (k 1).val = 0 := by omega
    show (k 2).val * N + (k 3).val = (((k 0).val * 1 + (k 1).val) * 256 + (k 2).val) * N + (k 3).val
    rw [e0, e1]; simp)

theorem val0_apply (x : FVec Ideal S256x128 .f32) (v : IVec S256x128 32) (hv : ∀ (a : Fin 256) (l : Fin 128), v (ix2 a l) = BitVec.ofNat 32 l.val)
    (k : S1x1x256x128.Idx) (X : Nat → EReal) (hx : ∀ (l' : Fin 128) (e : Nat), e < 64 → l'.val = e → x (ix2 (k 2 : Fin 256) l') = X e) :
    val0 x v k = wide X (k 3).val := by
  have h3 : (k 3).val < 128 := (k 3).isLt
  unfold val0 wide
  rw [cast4_apply (N := 128) _ shapeCasts_S256x128_S1x1x256x128 k, laneOne_apply v _ (k 2) (k 3) (hv _ _),
    show (0#32 : BitVec 32) = BitVec.ofNat 32 (0 : Fin 8).val from rfl, onlyHead_apply 0 v x (k 2) (k 3) (hv _ _)]
  by_cases h : (k 3).val < 64
  · rw [if_neg (by omega), if_pos (by show (k 3).val / 64 = 0; omega), if_pos h, hx _ _ h rfl]
  · rw [if_neg h]
    by_cases h' : (k 3).val = 64
    · rw [if_pos h', if_pos h']
    · rw [if_neg h', if_neg h', if_neg (by show ¬ (k 3).val / 64 = 0; omega)]

theorem val1_apply (x : FVec Ideal S256x128 .f32) (v : IVec S256x128 32) (hv : ∀ (a : Fin 256) (l : Fin 128), v (ix2 a l) = BitVec.ofNat 32 l.val)
    (k : S1x1x256x128.Idx) (X : Nat → EReal) (hx : ∀ (l' : Fin 128) (e : Nat), e < 64 → l'.val = 64 + e → x (ix2 (k 2 : Fin 256) l') = X e) :
    val1 x v k = wide X (k 3).val := by
  have h3 : (k 3).val < 128 := (k 3).isLt
  unfold val1 wide
  rw [cast4_apply (N := 128) _ shapeCasts_S256x128_S1x1x256x128 k, laneOne_apply v _ (k 2) (k 3) (hv _ _)]
  have e : ∀ l' : Fin 128, l'.val = ((k 3).val + 64) % 128 →
      dynamicRotate 1 64#32 none (onlyHead 1#32 v x) rotates_S256x128_d1 (ix2 (k 2 : Fin 256) (k 3 : Fin 128)) = onlyHead 1#32 v x (ix2 (k 2 : Fin 256) l') := fun l' h =>
    dynamicRotate_apply (s := S256x128) 1 64#32 _ rotates_S256x128_d1 (ix2 (k 2 : Fin 256) (k 3 : Fin 128)) (ix2 (k 2 : Fin 256) l') (fun b => match b with
      | ⟨0, _⟩ => rfl
      | ⟨1, _⟩ => by show l'.val = ((k 3).val + 128 - 64 % 128) % 128; omega)
  rw [e (⟨((k 3).val + 64) % 128, Nat.mod_lt _ (by decide)⟩ : Fin 128) rfl,
    show (1#32 : BitVec 32) = BitVec.ofNat 32 (1 : Fin 8).val from rfl, onlyHead_apply 1 v x (k 2) _ (hv _ _)]
  by_cases h : (k 3).val < 64
  · rw [if_neg (by omega), if_pos (by show ((k 3).val + 64) % 128 / 64 = 1; omega), if_pos h, hx _ _ h (by show ((k 3).val + 64) % 128 = _; omega)]
  · rw [if_neg h]
    by_cases h' : (k 3).val = 64
    · rw [if_pos h', if_pos h']
    · rw [if_neg h', if_neg h', if_neg (by show ¬ ((k 3).val + 64) % 128 / 64 = 1; omega)]

end Cert.Qkv

end
-- ==== Proof.Qkv.Body.lean ====
module

public import proofs.«01_k».proof.Proof.Qkv.Lanes

@[expose] public section

set_option maxRecDepth 16384

noncomputable section

namespace Cert.Qkv

open Cert.Kernel6Ideal Cert.Kernel6Ideal.Gen Idealize.ShloMosaic Idealize.ShloMosaic.TcCoe Idealize.ShloMosaic.ValueIdx
open Cert.Tok
open scoped BigOperators

/-! The projection and its columns. -/

variable (i : grid0.Coords) (x0 : Vec Ideal S1x256x1024 .f32) (x1 : Vec Ideal S1x1x6x1024 .f32) (x2 : Vec Ideal S1x1024 .f32) (x3 : Vec Ideal S1024x1536 .bf16)
  (x4 x5 : Vec Ideal S256x128 .f32) (x6 : Vec Ideal S1x512 .f32) (x7 : Vec Ideal S1x128 .f32)

/-- The projection of a block's row, by column number. -/
def brow (a : Fin 256) (n : Nat) : EReal :=
  if h : n < 1536 then Cert.InpBody.blockVal x0 x1 x2 x3 a (⟨n, h⟩ : Fin 1536) else 0

theorem proj_apply (a : Fin 256) (n : Fin 1536) : k0_pay64 i x0 x1 x2 x3 x4 x5 x6 x7 (ix2 a n) = brow x0 x1 x2 x3 a n.val := by
  unfold brow
  rw [dif_pos n.isLt]
  unfold k0_pay64
  refine (Ideal.matmul_plain_apply (M := 256) (K := 1024) (N := 1536) none
    (Cert.Kernel3Ideal.Gen.k0_pay4 (F := Ideal) (View.ld x0 r0_0) (View.ld x2 r0_1) (View.ld x1 r0_2)) (shapeCast S1024x1536 (View.ld x3 r0_3) shapeCasts_S1024x1536_S1024x1536) _ a n).trans ?_
  refine (congrArg (· + _) Ideal.ofBits_zero_f32).trans ((zero_add _).trans (Finset.sum_congr rfl fun k _ => congrArg₂ (· * ·) ?_ ?_))
  · refine (Cert.InpBody.norm_apply _ _ _ a k).trans (nm_congr (funext fun j => ?_) (funext fun j => ?_) (funext fun j => ?_) (funext fun j => ?_) k)
    · exact View.ld_unit_apply_of (S := S1x256x1024) x0 ![0, 0, 0] S1x256x1024.size inb_S1x256x1024_S1x256x1024_0_0_0 _ (ix3 (0 : Fin 1) a j) (fun b => match b with
        | ⟨0, _⟩ => rfl | ⟨1, _⟩ => by show a.val = 0 + a.val; omega | ⟨2, _⟩ => by show j.val = 0 + j.val; omega)
    · exact View.ld_unit_apply_of (S := S1x1024) x2 ![0, 0] S1x1024.size inb_S1x1024_S1x1024_0_0 _ (ix2 (0 : Fin 1) j) (fun b => match b with
        | ⟨0, _⟩ => rfl | ⟨1, _⟩ => by show j.val = 0 + j.val; omega)
    · exact View.ld_unit_apply_of (S := S1x1x6x1024) x1 ![0, 0, 0, 0] S1x1x6x1024.size inb_S1x1x6x1024_S1x1x6x1024_0_0_0_0 _ (ix4 (0 : Fin 1) (0 : Fin 1) (1 : Fin 6) j) (fun b => match b with
        | ⟨0, _⟩ => rfl | ⟨1, _⟩ => rfl | ⟨2, _⟩ => rfl | ⟨3, _⟩ => by show j.val = 0 + j.val; omega)
    · exact View.ld_unit_apply_of (S := S1x1x6x1024) x1 ![0, 0, 0, 0] S1x1x6x1024.size inb_S1x1x6x1024_S1x1x6x1024_0_0_0_0 _ (ix4 (0 : Fin 1) (0 : Fin 1) (0 : Fin 6) j) (fun b => match b with
        | ⟨0, _⟩ => rfl | ⟨1, _⟩ => rfl | ⟨2, _⟩ => rfl | ⟨3, _⟩ => by show j.val = 0 + j.val; omega)
  · refine (shapeCast_apply _ shapeCasts_S1024x1536_S1024x1536 (ix2 k n) (ix2 k n) rfl).trans ?_
    exact View.ld_unit_apply_of (S := S1024x1536) x3 ![0, 0] S1024x1536.size inb_S1024x1536_S1024x1536_0_0 (ix2 k n) (ix2 k n) (fun b => match b with
      | ⟨0, _⟩ => by show k.val = 0 + k.val; omega | ⟨1, _⟩ => by show n.val = 0 + n.val; omega)

theorem cols_apply {W : Nat} (o : Nat) (P : FVec Ideal S256x1536 .f32) (hs : S256x1536.Slices ![0, o] ⟨2, ![256, W]⟩) (a : Fin 256) (l : Fin W)
    (n : Fin 1536) (hn : n.val = o + l.val) : extractStridedSlice ⟨2, ![256, W]⟩ ![0, o] P hs (ix2 a l) = P (ix2 a n) :=
  extractStridedSlice_apply ![0, o] P hs (ix2 a l) (ix2 a n) (fun b => match b with
    | ⟨0, _⟩ => by show a.val = 0 + a.val; omega
    | ⟨1, _⟩ => hn)

/-- A table's block four times side by side. -/
def quad (x : FVec Ideal S256x128 .f32) : FVec Ideal S256x512 .f32 :=
  concatenate S256x512 1 [⟨S256x128, x⟩, ⟨S256x128, x⟩, ⟨S256x128, x⟩, ⟨S256x128, x⟩] concatenates_S256x128_S256x128_S256x128_S256x128_S256x512_d1

theorem quad_apply (x : FVec Ideal S256x128 .f32) (a : Fin 256) (l : Fin 512) (m : Fin 128) (hm : m.val = l.val % 128) : quad x (ix2 a l) = x (ix2 a m) := by
  have hl := l.isLt
  have hml := m.isLt
  unfold quad
  by_cases h0 : l.val < 128
  · exact concatenate_apply_piece (t := S256x512) 1 [⟨S256x128, x⟩, ⟨S256x128, x⟩, ⟨S256x128, x⟩, ⟨S256x128, x⟩] concatenates_S256x128_S256x128_S256x128_S256x128_S256x512_d1 (ix2 a l)
      0 (by show 0 < 4; decide) S256x128 x rfl rfl 0 rfl (ix2 a m) (fun b hb => match b with | ⟨0, _⟩ => rfl | ⟨1, _⟩ => absurd rfl hb) (by show 0 + m.val = l.val; omega)
  by_cases h1 : l.val < 256
  · exact concatenate_apply_piece (t := S256x512) 1 [⟨S256x128, x⟩, ⟨S256x128, x⟩, ⟨S256x128, x⟩, ⟨S256x128, x⟩] concatenates_S256x128_S256x128_S256x128_S256x128_S256x512_d1 (ix2 a l)
      1 (by show 1 < 4; decide) S256x128 x rfl rfl 128 rfl (ix2 a m) (fun b hb => match b with | ⟨0, _⟩ => rfl | ⟨1, _⟩ => absurd rfl hb) (by show 128 + m.val = l.val; omega)
  by_cases h2 : l.val < 384
  · exact concatenate_apply_piece (t := S256x512) 1 [⟨S256x128, x⟩, ⟨S256x128, x⟩, ⟨S256x128, x⟩, ⟨S256x128, x⟩] concatenates_S256x128_S256x128_S256x128_S256x128_S256x512_d1 (ix2 a l)
      2 (by show 2 < 4; decide) S256x128 x rfl rfl 256 rfl (ix2 a m) (fun b hb => match b with | ⟨0, _⟩ => rfl | ⟨1, _⟩ => absurd rfl hb) (by show 256 + m.val = l.val; omega)
  · exact concatenate_apply_piece (t := S256x512) 1 [⟨S256x128, x⟩, ⟨S256x128, x⟩, ⟨S256x128, x⟩, ⟨S256x128, x⟩] concatenates_S256x128_S256x128_S256x128_S256x128_S256x512_d1 (ix2 a l)
      3 (by show 3 < 4; decide) S256x128 x rfl rfl 384 rfl (ix2 a m) (fun b hb => match b with | ⟨0, _⟩ => rfl | ⟨1, _⟩ => absurd rfl hb) (by show 384 + m.val = l.val; omega)

/-! The stores of the heads. -/

/-- One head's lanes as they are stored. -/
def headTile {W : Nat} (o : Nat) (x : FVec Ideal ⟨2, ![256, W]⟩ .f32) (hs : (⟨2, ![256, W]⟩ : Shape).Slices ![0, o] S256x64) : FVec Ideal S1x1x256x64 .bf16 :=
  shapeCast S1x1x256x64 (truncf .bf16 (extractStridedSlice S256x64 ![0, o] x hs) bitsLt_bf16_f32) shapeCasts_S256x64_S1x1x256x64

theorem headTile_apply {W : Nat} (o : Nat) (x : FVec Ideal ⟨2, ![256, W]⟩ .f32) (hs : (⟨2, ![256, W]⟩ : Shape).Slices ![0, o] S256x64) (k : S1x1x256x64.Idx)
    (R : Fin 256) (n : Fin W) (hR : R.val = (k 2).val) (hn : n.val = o + (k 3).val) : headTile o x hs k = x (ix2 R n) := by
  obtain rfl : R = k 2 := Fin.ext hR
  unfold headTile
  rw [cast4_apply (N := 64) _ shapeCasts_S256x64_S1x1x256x64 k]
  exact extractStridedSlice_apply ![0, o] x hs (ix2 (k 2 : Fin 256) (k 3 : Fin 64)) (ix2 (k 2 : Fin 256) n) (fun b => match b with
    | ⟨0, _⟩ => by show (k 2).val = 0 + (k 2).val; omega
    | ⟨1, _⟩ => hn)

/-- The eight stores of a block of 512 columns. -/
def heads8 (x : FVec Ideal S256x512 .f32) : Vec Ideal S1x8x256x64 .bf16 :=
  View.canon [⟨r0_14, headTile 448 x slices_S256x512_o0_448_S256x64⟩, ⟨r0_13, headTile 384 x slices_S256x512_o0_384_S256x64⟩,
    ⟨r0_12, headTile 320 x slices_S256x512_o0_320_S256x64⟩, ⟨r0_11, headTile 256 x slices_S256x512_o0_256_S256x64⟩,
    ⟨r0_10, headTile 192 x slices_S256x512_o0_192_S256x64⟩, ⟨r0_9, headTile 128 x slices_S256x512_o0_128_S256x64⟩,
    ⟨r0_8, headTile 64 x slices_S256x512_o0_64_S256x64⟩, ⟨r0_7, headTile 0 x slices_S256x512_o0_0_S256x64⟩]

theorem heads8_apply (x : FVec Ideal S256x512 .f32) (y : S1x8x256x64.Idx) (n : Fin 512) (hn : n.val = 64 * (y 1).val + (y 3).val) :
    heads8 x y = x (ix2 (y 2 : Fin 256) n) := by
  have key : ∀ y : S1x8x256x64.Idx, 64 * (y 1).val + (y 3).val < 512 := fun y => by
    have h1 : (y 1).val < 8 := (y 1).isLt
    have h3 : (y 3).val < 64 := (y 3).isLt
    omega
  refine Eq.trans ?_ (congrArg (fun n => x (ix2 (y 2 : Fin 256) n)) (Fin.ext hn.symm : (⟨64 * (y 1).val + (y 3).val, key y⟩ : Fin 512) = n))
  unfold heads8
  refine View.canon_apply_of_pieces (Val := Elt Ideal) (S := S1x8x256x64) (e := .bf16)
    (fun y => x (ix2 (y 2 : Fin 256) (⟨64 * (y 1).val + (y 3).val, key y⟩ : Fin 512))) _ ?_ y (cover0_8 _ _ _ _ _ _ _ _ y)
  refine List.forall_mem_cons.mpr ⟨fun k => ?_, List.forall_mem_cons.mpr ⟨fun k => ?_, List.forall_mem_cons.mpr ⟨fun k => ?_, List.forall_mem_cons.mpr ⟨fun k => ?_,
    List.forall_mem_cons.mpr ⟨fun k => ?_, List.forall_mem_cons.mpr ⟨fun k => ?_, List.forall_mem_cons.mpr ⟨fun k => ?_, List.forall_mem_cons.mpr ⟨fun k => ?_, fun _ h => nomatch h⟩⟩⟩⟩⟩⟩⟩⟩
  · exact headTile_apply 448 x _ k (r0_14.emb k 2) _ (by show 0 + 1 * (k 2).val = (k 2).val; omega) (by have h1 : (k 1).val < 1 := (k 1).isLt; show 64 * (7 + 1 * (k 1).val) + (0 + 1 * (k 3).val) = 448 + (k 3).val; omega)
  · exact headTile_apply 384 x _ k (r0_13.emb k 2) _ (by show 0 + 1 * (k 2).val = (k 2).val; omega) (by have h1 : (k 1).val < 1 := (k 1).isLt; show 64 * (6 + 1 * (k 1).val) + (0 + 1 * (k 3).val) = 384 + (k 3).val; omega)
  · exact headTile_apply 320 x _ k (r0_12.emb k 2) _ (by show 0 + 1 * (k 2).val = (k 2).val; omega) (by have h1 : (k 1).val < 1 := (k 1).isLt; show 64 * (5 + 1 * (k 1).val) + (0 + 1 * (k 3).val) = 320 + (k 3).val; omega)
  · exact headTile_apply 256 x _ k (r0_11.emb k 2) _ (by show 0 + 1 * (k 2).val = (k 2).val; omega) (by have h1 : (k 1).val < 1 := (k 1).isLt; show 64 * (4 + 1 * (k 1).val) + (0 + 1 * (k 3).val) = 256 + (k 3).val; omega)
  · exact headTile_apply 192 x _ k (r0_10.emb k 2) _ (by show 0 + 1 * (k 2).val = (k 2).val; omega) (by have h1 : (k 1).val < 1 := (k 1).isLt; show 64 * (3 + 1 * (k 1).val) + (0 + 1 * (k 3).val) = 192 + (k 3).val; omega)
  · exact headTile_apply 128 x _ k (r0_9.emb k 2) _ (by show 0 + 1 * (k 2).val = (k 2).val; omega) (by have h1 : (k 1).val < 1 := (k 1).isLt; show 64 * (2 + 1 * (k 1).val) + (0 + 1 * (k 3).val) = 128 + (k 3).val; omega)
  · exact headTile_apply 64 x _ k (r0_8.emb k 2) _ (by show 0 + 1 * (k 2).val = (k 2).val; omega) (by have h1 : (k 1).val < 1 := (k 1).isLt; show 64 * (1 + 1 * (k 1).val) + (0 + 1 * (k 3).val) = 64 + (k 3).val; omega)
  · exact headTile_apply 0 x _ k (r0_7.emb k 2) _ (by show 0 + 1 * (k 2).val = (k 2).val; omega) (by have h1 : (k 1).val < 1 := (k 1).isLt; show 64 * (0 + 1 * (k 1).val) + (0 + 1 * (k 3).val) = 0 + (k 3).val; omega)

/-- The two stores of a block of 128 columns. -/
def heads2 (x : FVec Ideal S256x128 .f32) : Vec Ideal S1x2x256x64 .bf16 :=
  View.canon [⟨r0_16, headTile 64 x slices_S256x128_o0_64_S256x64⟩, ⟨r0_15, headTile 0 x slices_S256x128_o0_0_S256x64⟩]

theorem heads2_apply (x : FVec Ideal S256x128 .f32) (y : S1x2x256x64.Idx) (n : Fin 128) (hn : n.val = 64 * (y 1).val + (y 3).val) :
    heads2 x y = x (ix2 (y 2 : Fin 256) n) := by
  have key : ∀ y : S1x2x256x64.Idx, 64 * (y 1).val + (y 3).val < 128 := fun y => by
    have h1 : (y 1).val < 2 := (y 1).isLt
    have h3 : (y 3).val < 64 := (y 3).isLt
    omega
  refine Eq.trans ?_ (congrArg (fun n => x (ix2 (y 2 : Fin 256) n)) (Fin.ext hn.symm : (⟨64 * (y 1).val + (y 3).val, key y⟩ : Fin 128) = n))
  unfold heads2
  refine View.canon_apply_of_pieces (Val := Elt Ideal) (S := S1x2x256x64) (e := .bf16)
    (fun y => x (ix2 (y 2 : Fin 256) (⟨64 * (y 1).val + (y 3).val, key y⟩ : Fin 128))) _ ?_ y (cover0_9 _ _ y)
  refine List.forall_mem_cons.mpr ⟨fun k => ?_, List.forall_mem_cons.mpr ⟨fun k => ?_, fun _ h => nomatch h⟩⟩
  · exact headTile_apply 64 x _ k (r0_16.emb k 2) _ (by show 0 + 1 * (k 2).val = (k 2).val; omega) (by have h1 : (k 1).val < 1 := (k 1).isLt; show 64 * (1 + 1 * (k 1).val) + (0 + 1 * (k 3).val) = 64 + (k 3).val; omega)
  · exact headTile_apply 0 x _ k (r0_15.emb k 2) _ (by show 0 + 1 * (k 2).val = (k 2).val; omega) (by have h1 : (k 1).val < 1 := (k 1).isLt; show 64 * (0 + 1 * (k 1).val) + (0 + 1 * (k 3).val) = 0 + (k 3).val; omega)

/-- The two stores of a block of values. -/
def vals2 (x : FVec Ideal S256x128 .f32) (v : IVec S256x128 32) : Vec Ideal S1x2x256x128 .bf16 :=
  View.canon [⟨r0_18, val1 x v⟩, ⟨r0_17, val0 x v⟩]

theorem vals2_apply (x : FVec Ideal S256x128 .f32) (v : IVec S256x128 32) (hv : ∀ (a : Fin 256) (l : Fin 128), v (ix2 a l) = BitVec.ofNat 32 l.val)
    (R : Fin 256 → Nat → EReal) (hx : ∀ (a : Fin 256) (l : Fin 128), x (ix2 a l) = R a l.val) (y : S1x2x256x128.Idx) :
    vals2 x v y = wide (fun e => R (y 2) (64 * (y 1).val + e)) (y 3).val := by
  unfold vals2
  refine View.canon_apply_of_pieces (Val := Elt Ideal) (S := S1x2x256x128) (e := .bf16)
    (fun y => wide (fun e => R (y 2) (64 * (y 1).val + e)) (y 3).val) _ ?_ y (cover0_10 _ _ y)
  have key : ∀ (k : S1x1x256x128.Idx) (q : Nat) (z : S1x2x256x128.Idx), (z 2).val = (k 2).val → (z 3).val = (k 3).val → (z 1).val = q →
      wide (fun e => R (k 2) (64 * q + e)) (k 3).val = wide (fun e => R (z 2) (64 * (z 1).val + e)) (z 3).val := by
    intro k q z h2 h3 h1
    rw [show (z 2 : Fin 256) = k 2 from Fin.ext h2, h3, h1]
  refine List.forall_mem_cons.mpr ⟨fun k => ?_, List.forall_mem_cons.mpr ⟨fun k => ?_, fun _ h => nomatch h⟩⟩
  · have h1 : (k 1).val < 1 := (k 1).isLt
    exact (val1_apply x v hv k (fun e => R (k 2) (64 * 1 + e)) (fun l' e he hl => (hx (k 2) l').trans (by rw [hl]))).trans
      (key k 1 (r0_18.emb k) (by show 0 + 1 * (k 2).val = _; omega) (by show 0 + 1 * (k 3).val = _; omega) (by show 1 + 1 * (k 1).val = 1; omega))
  · have h1 : (k 1).val < 1 := (k 1).isLt
    exact (val0_apply x v hv k (fun e => R (k 2) (64 * 0 + e)) (fun l' e he hl => (hx (k 2) l').trans (by rw [hl]; congr 1; omega))).trans
      (key k 0 (r0_17.emb k) (by show 0 + 1 * (k 2).val = _; omega) (by show 0 + 1 * (k 3).val = _; omega) (by show 0 + 1 * (k 1).val = 0; omega))

end Cert.Qkv

end
-- ==== Proof.Qkv.Outs.lean ====
module

public import proofs.«01_k».proof.Proof.Qkv.Body

@[expose] public section

set_option maxRecDepth 16384

noncomputable section

namespace Cert.Qkv

open Cert.Kernel6Ideal Cert.Kernel6Ideal.Gen Idealize.ShloMosaic Idealize.ShloMosaic.TcCoe Idealize.ShloMosaic.ValueIdx
open Cert.Tok
open scoped BigOperators

/-! The body's payloads in the words of the lemmas. -/

theorem pay7_eq (v0 : BitVec 1) (s c : FVec Ideal S256x128 .f32) (x : FVec Ideal S256x512 .f32) :
    k0_pay7 v0 s x (quad c) = mulf (roped rotates_S256x512_d1 511#32 v0 (iota .tc S256x512 32 [1] iota_S256x512_d1_w32) x (quad c) (quad s))
      (broadcast S256x512 (Scalar.ofBits .f32 0x3E38AA3B#32)) := rfl

theorem pay11_eq (v0 : BitVec 1) (c s x : FVec Ideal S256x128 .f32) :
    k0_pay11 v0 c s x (Scalar.select (Scalar.cmpi .eq 2#32 0#32) 1#32 2#32) k0_pay9 k0_pay10
      = roped rotates_S256x128_d1 127#32 v0 (iota .tc S256x128 32 [1] iota_S256x128_d1_w32) x c s := rfl

/-- The product with the mask of the eight heads. -/
def mm8 (y : FVec Ideal S256x512 .bf16) : FVec Ideal S256x512 .f32 :=
  matmul dot_S256x512_S512x512_S256x512_1_0_0_1_n_n none y
    (sameHead (iota .tc S512x512 32 [0] iota_S512x512_d0_w32) (iota .tc S512x512 32 [1] iota_S512x512_d1_w32) : FVec Ideal S512x512 .bf16) (constant S256x512 .f32 0x00000000#32)

/-- The product with the mask of the two heads. -/
def mm2 (y : FVec Ideal S256x128 .bf16) : FVec Ideal S256x128 .f32 :=
  matmul dot_S256x128_S128x128_S256x128_1_0_0_1_n_n none y
    (sameHead (iota .tc S128x128 32 [0] iota_S128x128_d0_w32) (iota .tc S128x128 32 [1] iota_S128x128_d1_w32) : FVec Ideal S128x128 .bf16) (constant S256x128 .f32 0x00000000#32)

theorem mm8_apply (y : FVec Ideal S256x512 .bf16) (a : Fin 256) (l : Fin 512) :
    mm8 y (ix2 a l) = ∑ k : Fin 512, y (ix2 a k) * (if k.val / 64 = l.val / 64 then 1 else 0) := by
  unfold mm8
  refine (Ideal.matmul_plain_apply (M := 256) (K := 512) (N := 512) none y _ _ a l).trans ?_
  refine (congrArg (· + _) Ideal.ofBits_zero_f32).trans ((zero_add _).trans (Finset.sum_congr rfl fun k _ => congrArg (y (ix2 a k) * ·) ?_))
  exact sameHead_apply _ _ (ix2 k l) k.val l.val k.isLt l.isLt (by rw [iota_single_apply] <;> rfl) (by rw [iota_single_apply] <;> rfl)

theorem mm2_apply (y : FVec Ideal S256x128 .bf16) (a : Fin 256) (l : Fin 128) :
    mm2 y (ix2 a l) = ∑ k : Fin 128, y (ix2 a k) * (if k.val / 64 = l.val / 64 then 1 else 0) := by
  unfold mm2
  refine (Ideal.matmul_plain_apply (M := 256) (K := 128) (N := 128) none y _ _ a l).trans ?_
  refine (congrArg (· + _) Ideal.ofBits_zero_f32).trans ((zero_add _).trans (Finset.sum_congr rfl fun k _ => congrArg (y (ix2 a k) * ·) ?_))
  have hk := k.isLt
  have hl := l.isLt
  exact sameHead_apply _ _ (ix2 k l) k.val l.val (by omega) (by omega) (by rw [iota_single_apply] <;> rfl) (by rw [iota_single_apply] <;> rfl)

theorem pay18_eq (x : FVec Ideal S256x512 .f32) (nw : FVec Ideal S1x512 .f32) :
    k0_pay18 x nw k0_pay15 (iota .tc S512x512 32 [1] iota_S512x512_d1_w32) 64#32 k0_pay16 k0_pay17
      = headNormed broadcasts_S1x512_S256x512 mm8 x nw := rfl

theorem pay21_eq (v0 : BitVec 1) (s c : FVec Ideal S256x128 .f32) (x : FVec Ideal S256x512 .f32) :
    k0_pay21 v0 x (k0_pay19 c) (k0_pay20 s) (iota .tc S256x512 32 [1] iota_S256x512_d1_w32) 2#32 0#32
      = mulf (roped rotates_S256x512_d1 511#32 v0 (iota .tc S256x512 32 [1] iota_S256x512_d1_w32) x (quad c) (quad s))
      (broadcast S256x512 (Scalar.ofBits .f32 0x3E38AA3B#32)) := rfl

variable (i : grid0.Coords) (x0 : Vec Ideal S1x256x1024 .f32) (x1 : Vec Ideal S1x1x6x1024 .f32) (x2 : Vec Ideal S1x1024 .f32) (x3 : Vec Ideal S1024x1536 .bf16)
  (x4 x5 : Vec Ideal S256x128 .f32) (x6 : Vec Ideal S1x512 .f32) (x7 : Vec Ideal S1x128 .f32)

/-- The latent test of a grid point. -/
def late : BitVec 1 := Scalar.cmpi .sge (BitVec.ofNat 32 (i 1).val) 1#32

theorem late_eq : late i = if 1 ≤ (i 1).val then 1#1 else 0#1 :=
  (by decide +kernel : ∀ t : Fin 17, Scalar.cmpi .sge (BitVec.ofNat 32 t.val) 1#32 = if 1 ≤ t.val then 1#1 else 0#1) (i 1)

theorem pay76_eq : k0_pay76 i x0 x1 x2 x3 x4 x5 x6 x7
    = roped rotates_S256x128_d1 127#32 (late i) (iota .tc S256x128 32 [1] iota_S256x128_d1_w32)
      (headNormed broadcasts_S1x128_S256x128 mm2 (k0_pay22 (k0_pay64 i x0 x1 x2 x3 x4 x5 x6 x7)) (shapeCast S1x128 (View.ld x7 r0_6) shapeCasts_S1x128_S1x128))
      (k0_pay65 i x0 x1 x2 x3 x4 x5 x6 x7) (k0_pay66 i x0 x1 x2 x3 x4 x5 x6 x7) := rfl

theorem pay71_eq : k0_pay71 i x0 x1 x2 x3 x4 x5 x6 x7
    = mulf (roped rotates_S256x512_d1 511#32 (late i) (iota .tc S256x512 32 [1] iota_S256x512_d1_w32)
      (headNormed broadcasts_S1x512_S256x512 mm8 (k0_pay13 (k0_pay64 i x0 x1 x2 x3 x4 x5 x6 x7)) (shapeCast S1x512 (View.ld x6 r0_5) shapeCasts_S1x512_S1x512))
      (quad (k0_pay65 i x0 x1 x2 x3 x4 x5 x6 x7)) (quad (k0_pay66 i x0 x1 x2 x3 x4 x5 x6 x7)))
      (broadcast S256x512 (Scalar.ofBits .f32 0x3E38AA3B#32)) := by
  unfold k0_pay71
  rw [pay21_eq, pay18_eq]
  rfl

theorem out8_eq : out0_8 i x0 x1 x2 x3 x4 x5 x6 x7 = heads8 (k0_pay67 i x0 x1 x2 x3 x4 x5 x6 x7) := rfl
theorem out9_eq : out0_9 i x0 x1 x2 x3 x4 x5 x6 x7 = heads2 (k0_pay68 i x0 x1 x2 x3 x4 x5 x6 x7) := rfl
theorem out10_eq : out0_10 i x0 x1 x2 x3 x4 x5 x6 x7 = vals2 (k0_pay69 i x0 x1 x2 x3 x4 x5 x6 x7) (iota .tc S256x128 32 [1] iota_S256x128_d1_w32) := rfl
theorem out11_eq : out0_11 i x0 x1 x2 x3 x4 x5 x6 x7 = heads8 (k0_pay71 i x0 x1 x2 x3 x4 x5 x6 x7) := rfl
theorem out12_eq : out0_12 i x0 x1 x2 x3 x4 x5 x6 x7 = heads2 (k0_pay76 i x0 x1 x2 x3 x4 x5 x6 x7) := rfl
theorem out13_eq : out0_13 i x0 x1 x2 x3 x4 x5 x6 x7 = vals2 (k0_pay77 i x0 x1 x2 x3 x4 x5 x6 x7) (iota .tc S256x128 32 [1] iota_S256x128_d1_w32) := rfl

/-! The blocks' loads. -/

theorem ldtab (x : Vec Ideal S256x128 .f32) (a : Fin 256) (l : Fin 128) :
    shapeCast S256x128 (View.ld x r0_4) shapeCasts_S256x128_S256x128 (ix2 a l) = x (ix2 a l) :=
  (shapeCast_apply _ shapeCasts_S256x128_S256x128 (ix2 a l) (ix2 a l) rfl).trans
    (View.ld_unit_apply_of (S := S256x128) x ![0, 0] S256x128.size inb_S256x128_S256x128_0_0 (ix2 a l) (ix2 a l) (fun b => match b with
      | ⟨0, _⟩ => by show a.val = 0 + a.val; omega | ⟨1, _⟩ => by show l.val = 0 + l.val; omega))

theorem ldq (l : Fin 512) : shapeCast S1x512 (View.ld x6 r0_5) shapeCasts_S1x512_S1x512 (ix2 (0 : Fin 1) l) = x6 (ix2 (0 : Fin 1) l) :=
  (shapeCast_apply _ shapeCasts_S1x512_S1x512 (ix2 (0 : Fin 1) l) (ix2 (0 : Fin 1) l) rfl).trans
    (View.ld_unit_apply_of (S := S1x512) x6 ![0, 0] S1x512.size inb_S1x512_S1x512_0_0 (ix2 (0 : Fin 1) l) (ix2 (0 : Fin 1) l) (fun b => match b with
      | ⟨0, _⟩ => rfl | ⟨1, _⟩ => by show l.val = 0 + l.val; omega))

theorem ldk (l : Fin 128) : shapeCast S1x128 (View.ld x7 r0_6) shapeCasts_S1x128_S1x128 (ix2 (0 : Fin 1) l) = x7 (ix2 (0 : Fin 1) l) :=
  (shapeCast_apply _ shapeCasts_S1x128_S1x128 (ix2 (0 : Fin 1) l) (ix2 (0 : Fin 1) l) rfl).trans
    (View.ld_unit_apply_of (S := S1x128) x7 ![0, 0] S1x128.size inb_S1x128_S1x128_0_0 (ix2 (0 : Fin 1) l) (ix2 (0 : Fin 1) l) (fun b => match b with
      | ⟨0, _⟩ => rfl | ⟨1, _⟩ => by show l.val = 0 + l.val; omega))

/-! The six results' blocks, where the tables' blocks hold what a latent token's lanes need. -/

variable (a : Fin 256) (cs sn : Nat → EReal)
  (hc : 1 ≤ (i 1).val → ∀ m : Fin 128, x4 (ix2 a m) = cs (m.val % 64 / 2))
  (hs : 1 ≤ (i 1).val → ∀ m : Fin 128, x5 (ix2 a m) = if m.val % 2 = 0 then -(sn (m.val % 64 / 2)) else sn (m.val % 64 / 2))

include hc hs in
theorem rot8 (x : FVec Ideal S256x512 .f32) (l : Fin 512) (h d : Nat) (hl : l.val = 64 * h + d) (hd : d < 64) (X : Nat → EReal)
    (hx : ∀ (l' : Fin 512) (e : Nat), e < 64 → l'.val = 64 * h + e → x (ix2 a l') = X e) :
    roped rotates_S256x512_d1 511#32 (late i) (iota .tc S256x512 32 [1] iota_S256x512_d1_w32) x
      (quad (k0_pay65 i x0 x1 x2 x3 x4 x5 x6 x7)) (quad (k0_pay66 i x0 x1 x2 x3 x4 x5 x6 x7)) (ix2 a l) = rot (1 ≤ (i 1).val) cs sn X d := by
  have hm : l.val % 128 < 128 := Nat.mod_lt _ (by decide)
  refine roped_apply (W := 512) rotates_S256x512_d1 511#32 (late i) _ x _ _ a l h d hl hd rfl (by decide) (by decide) (by decide)
    (by rw [iota_single_apply] <;> rfl) (1 ≤ (i 1).val) (late_eq i) cs sn X hx (fun hp => ?_) (fun hp => ?_)
  · rw [quad_apply _ a l (⟨l.val % 128, hm⟩ : Fin 128) rfl]
    refine (ldtab x4 a _).trans ((hc hp _).trans (congrArg cs ?_))
    show l.val % 128 % 64 / 2 = d / 2
    omega
  · rw [quad_apply _ a l (⟨l.val % 128, hm⟩ : Fin 128) rfl]
    refine (ldtab x5 a _).trans ((hs hp _).trans ?_)
    show (if l.val % 128 % 2 = 0 then -(sn (l.val % 128 % 64 / 2)) else sn (l.val % 128 % 64 / 2)) = _
    rw [show l.val % 128 % 2 = d % 2 from by omega, show l.val % 128 % 64 / 2 = d / 2 from by omega]

include hc hs in
theorem rot2 (x : FVec Ideal S256x128 .f32) (l : Fin 128) (h d : Nat) (hl : l.val = 64 * h + d) (hd : d < 64) (X : Nat → EReal)
    (hx : ∀ (l' : Fin 128) (e : Nat), e < 64 → l'.val = 64 * h + e → x (ix2 a l') = X e) :
    roped rotates_S256x128_d1 127#32 (late i) (iota .tc S256x128 32 [1] iota_S256x128_d1_w32) x
      (k0_pay65 i x0 x1 x2 x3 x4 x5 x6 x7) (k0_pay66 i x0 x1 x2 x3 x4 x5 x6 x7) (ix2 a l) = rot (1 ≤ (i 1).val) cs sn X d := by
  refine roped_apply (W := 128) rotates_S256x128_d1 127#32 (late i) _ x _ _ a l h d hl hd rfl (by decide) (by decide) (by decide)
    (by rw [iota_single_apply] <;> rfl) (1 ≤ (i 1).val) (late_eq i) cs sn X hx (fun hp => ?_) (fun hp => ?_)
  · refine (ldtab x4 a _).trans ((hc hp _).trans (congrArg cs ?_))
    show l.val % 64 / 2 = d / 2
    omega
  · refine (ldtab x5 a _).trans ((hs hp _).trans ?_)
    rw [show l.val % 2 = d % 2 from by omega, show l.val % 64 / 2 = d / 2 from by omega]

/-- The scale the queries carry. -/
abbrev qscale : EReal := Ideal.ofBits .f32 0x3E38AA3B#32

include hc hs in
theorem out8_apply (y : S1x8x256x64.Idx) (hy : (y 2).val = a.val) : out0_8 i x0 x1 x2 x3 x4 x5 x6 x7 y
    = rot (1 ≤ (i 1).val) cs sn (fun e => brow x0 x1 x2 x3 a (64 * (y 1).val + e)) (y 3).val * qscale := by
  obtain rfl : a = y 2 := Fin.ext hy.symm
  have h1 : (y 1).val < 8 := (y 1).isLt
  have h3 : (y 3).val < 64 := (y 3).isLt
  rw [out8_eq, heads8_apply _ y (⟨64 * (y 1).val + (y 3).val, by omega⟩ : Fin 512) rfl]
  refine congrArg (· * qscale) (rot8 i x0 x1 x2 x3 x4 x5 x6 x7 (y 2) cs sn hc hs _ _ (y 1).val (y 3).val rfl h3 _ (fun l' e he hl => ?_))
  exact (cols_apply (W := 512) 0 _ slices_S256x1536_o0_0_S256x512 (y 2) l' (⟨l'.val, by have := l'.isLt; omega⟩ : Fin 1536) (by show l'.val = 0 + l'.val; omega)).trans
    ((proj_apply i x0 x1 x2 x3 x4 x5 x6 x7 (y 2) _).trans (by rw [show ((⟨l'.val, by have := l'.isLt; omega⟩ : Fin 1536)).val = 64 * (y 1).val + e from hl]))

include hc hs in
theorem out9_apply (y : S1x2x256x64.Idx) (hy : (y 2).val = a.val) : out0_9 i x0 x1 x2 x3 x4 x5 x6 x7 y
    = rot (1 ≤ (i 1).val) cs sn (fun e => brow x0 x1 x2 x3 a (512 + 64 * (y 1).val + e)) (y 3).val := by
  obtain rfl : a = y 2 := Fin.ext hy.symm
  have h1 : (y 1).val < 2 := (y 1).isLt
  have h3 : (y 3).val < 64 := (y 3).isLt
  rw [out9_eq, heads2_apply _ y (⟨64 * (y 1).val + (y 3).val, by omega⟩ : Fin 128) rfl]
  unfold k0_pay68
  rw [pay11_eq]
  refine rot2 i x0 x1 x2 x3 x4 x5 x6 x7 (y 2) cs sn hc hs _ _ (y 1).val (y 3).val rfl h3 _ (fun l' e he hl => ?_)
  exact (cols_apply (W := 128) 512 _ slices_S256x1536_o0_512_S256x128 (y 2) l' (⟨512 + l'.val, by have := l'.isLt; omega⟩ : Fin 1536) rfl).trans
    ((proj_apply i x0 x1 x2 x3 x4 x5 x6 x7 (y 2) _).trans (congrArg (brow x0 x1 x2 x3 (y 2)) (by show 512 + l'.val = _; omega)))

theorem out10_apply (y : S1x2x256x128.Idx) : out0_10 i x0 x1 x2 x3 x4 x5 x6 x7 y
    = wide (fun e => brow x0 x1 x2 x3 (y 2) (640 + 64 * (y 1).val + e)) (y 3).val := by
  rw [out10_eq]
  refine (vals2_apply (k0_pay69 i x0 x1 x2 x3 x4 x5 x6 x7) _ (fun a l => by rw [iota_single_apply] <;> rfl) (fun a n => brow x0 x1 x2 x3 a (640 + n)) (fun a l =>
    (cols_apply (W := 128) 640 _ slices_S256x1536_o0_640_S256x128 a l (⟨640 + l.val, by have := l.isLt; omega⟩ : Fin 1536) rfl).trans
      (proj_apply i x0 x1 x2 x3 x4 x5 x6 x7 a _)) y).trans ?_
  exact wide_congr _ fun e _ => congrArg (brow x0 x1 x2 x3 (y 2)) (by omega)

theorem out13_apply (y : S1x2x256x128.Idx) : out0_13 i x0 x1 x2 x3 x4 x5 x6 x7 y
    = wide (fun e => brow x0 x1 x2 x3 (y 2) (1408 + 64 * (y 1).val + e)) (y 3).val := by
  rw [out13_eq]
  refine (vals2_apply (k0_pay77 i x0 x1 x2 x3 x4 x5 x6 x7) _ (fun a l => by rw [iota_single_apply] <;> rfl) (fun a n => brow x0 x1 x2 x3 a (1408 + n)) (fun a l =>
    (cols_apply (W := 128) 1408 _ slices_S256x1536_o0_1408_S256x128 a l (⟨1408 + l.val, by have := l.isLt; omega⟩ : Fin 1536) rfl).trans
      (proj_apply i x0 x1 x2 x3 x4 x5 x6 x7 a _)) y).trans ?_
  exact wide_congr _ fun e _ => congrArg (brow x0 x1 x2 x3 (y 2)) (by omega)

include hc hs in
theorem out11_apply (y : S1x8x256x64.Idx) (hy : (y 2).val = a.val) (w : Nat → EReal) (hw : ∀ l : Fin 512, x6 (ix2 (0 : Fin 1) l) = w (l.val % 64))
    (hr : ∀ n : Nat, 768 ≤ n → n < 1408 → Real' (brow x0 x1 x2 x3 a n)) : out0_11 i x0 x1 x2 x3 x4 x5 x6 x7 y
    = rot (1 ≤ (i 1).val) cs sn (hn w (fun e => brow x0 x1 x2 x3 a (768 + 64 * (y 1).val + e))) (y 3).val * qscale := by
  obtain rfl : a = y 2 := Fin.ext hy.symm
  have h1 : (y 1).val < 8 := (y 1).isLt
  have h3 : (y 3).val < 64 := (y 3).isLt
  rw [out11_eq, heads8_apply _ y (⟨64 * (y 1).val + (y 3).val, by omega⟩ : Fin 512) rfl, pay71_eq]
  have hcol : ∀ l' : Fin 512, k0_pay13 (k0_pay64 i x0 x1 x2 x3 x4 x5 x6 x7) (ix2 (y 2 : Fin 256) l') = brow x0 x1 x2 x3 (y 2) (768 + l'.val) := fun l' =>
    (cols_apply (W := 512) 768 _ slices_S256x1536_o0_768_S256x512 (y 2) l' (⟨768 + l'.val, by have := l'.isLt; omega⟩ : Fin 1536) rfl).trans
      (proj_apply i x0 x1 x2 x3 x4 x5 x6 x7 (y 2) _)
  refine congrArg (· * qscale) (rot8 i x0 x1 x2 x3 x4 x5 x6 x7 (y 2) cs sn hc hs _ _ (y 1).val (y 3).val rfl h3 _ (fun l' e he hl => ?_))
  refine headNormed_apply (W := 512) broadcasts_S1x512_S256x512 mm8 _ _ (y 2) l' 8 rfl (by decide) (y 1).val e hl he _ w (fun z => mm8_apply z (y 2) l')
    (fun l'' e' he' hl' => (hcol l'').trans (congrArg (brow x0 x1 x2 x3 (y 2)) (by omega)))
    (fun l'' => by rw [hcol l'']; exact hr (768 + l''.val) (by omega) (by have := l''.isLt; omega)) ?_
  exact (ldq x6 l').trans ((hw l').trans (congrArg w (by omega)))

include hc hs in
theorem out12_apply (y : S1x2x256x64.Idx) (hy : (y 2).val = a.val) (w : Nat → EReal) (hw : ∀ l : Fin 128, x7 (ix2 (0 : Fin 1) l) = w (l.val % 64))
    (hr : ∀ n : Nat, 768 ≤ n → n < 1408 → Real' (brow x0 x1 x2 x3 a n)) : out0_12 i x0 x1 x2 x3 x4 x5 x6 x7 y
    = rot (1 ≤ (i 1).val) cs sn (hn w (fun e => brow x0 x1 x2 x3 a (1280 + 64 * (y 1).val + e))) (y 3).val := by
  obtain rfl : a = y 2 := Fin.ext hy.symm
  have h1 : (y 1).val < 2 := (y 1).isLt
  have h3 : (y 3).val < 64 := (y 3).isLt
  rw [out12_eq, heads2_apply _ y (⟨64 * (y 1).val + (y 3).val, by omega⟩ : Fin 128) rfl, pay76_eq]
  have hcol : ∀ l' : Fin 128, k0_pay22 (k0_pay64 i x0 x1 x2 x3 x4 x5 x6 x7) (ix2 (y 2 : Fin 256) l') = brow x0 x1 x2 x3 (y 2) (1280 + l'.val) := fun l' =>
    (cols_apply (W := 128) 1280 _ slices_S256x1536_o0_1280_S256x128 (y 2) l' (⟨1280 + l'.val, by have := l'.isLt; omega⟩ : Fin 1536) rfl).trans
      (proj_apply i x0 x1 x2 x3 x4 x5 x6 x7 (y 2) _)
  refine rot2 i x0 x1 x2 x3 x4 x5 x6 x7 (y 2) cs sn hc hs _ _ (y 1).val (y 3).val rfl h3 _ (fun l' e he hl => ?_)
  refine headNormed_apply (W := 128) broadcasts_S1x128_S256x128 mm2 _ _ (y 2) l' 2 rfl (by decide) (y 1).val e hl he _ w (fun z => mm2_apply z (y 2) l')
    (fun l'' e' he' hl' => (hcol l'').trans (congrArg (brow x0 x1 x2 x3 (y 2)) (by omega)))
    (fun l'' => by rw [hcol l'']; exact hr (1280 + l''.val) (by omega) (by have := l''.isLt; omega)) ?_
  exact (ldk x7 l').trans ((hw l').trans (congrArg w (by omega)))

end Cert.Qkv

end
-- ==== Proof.Qkv.Host.lean ====
module

public import proofs.«01_k».proof.Proof.Inp.Host
public import proofs.«01_k».proof.Proof.Gen.Kernel6Ideal.Frame
public import Idealize.ShloMosaic.Lib.IdealHost

@[expose] public section

set_option maxRecDepth 16384

noncomputable section

namespace Cert.QkvHost

open Cert.Kernel6Ideal Cert.Kernel6Ideal.Gen Idealize.ShloMosaic Idealize.ShloMosaic.TcCoe Idealize.ShloMosaic.ValueIdx
open Idealize.ShloMosaic.StableHlo
open Cert.Tok
open Cert.InpHost (hArr mArr nArr)

variable (m : (ℓ : Loc nD τ sig) → Buf (Elt Ideal) ℓ) (c : Dev nD)

/-- The arguments as launched: latent and context tokens, their modulations, the norm's weights, the projection's, the heads' norms', the rotation's tables. -/
abbrev HL : FVec Ideal S8x4096x1024 .f32 := m ((c.tc : Thread nD τ).loc main_arg0)
abbrev HC : FVec Ideal S8x256x1024 .f32 := m ((c.tc : Thread nD τ).loc main_arg1)
abbrev ML : FVec Ideal S8x6144 .f32 := m ((c.tc : Thread nD τ).loc main_arg2)
abbrev MC : FVec Ideal S1x6144 .f32 := m ((c.tc : Thread nD τ).loc main_arg3)
abbrev NW : FVec Ideal S1024 .f32 := m ((c.tc : Thread nD τ).loc main_arg4)
abbrev WI : FVec Ideal S1024x1536 .f32 := m ((c.tc : Thread nD τ).loc main_arg5)
abbrev QW : FVec Ideal S64 .f32 := m ((c.tc : Thread nD τ).loc main_arg6)
abbrev KW : FVec Ideal S64 .f32 := m ((c.tc : Thread nD τ).loc main_arg7)
abbrev CO : FVec Ideal S4096x32 .f32 := m ((c.tc : Thread nD τ).loc main_arg8)
abbrev SI : FVec Ideal S4096x32 .f32 := m ((c.tc : Thread nD τ).loc main_arg9)

/-- A table's columns, each twice. -/
def twice (t : FVec Ideal S4096x32 .f32) : FVec Ideal S4096x64 .f32 :=
  shapeCast S4096x64 (broadcastInDim S4096x32x2 ![0, 1] bcast_S4096x32_S4096x32x2_0_1 t) shapeCasts_S4096x32x2_S4096x64

/-- The table side by side for two heads. -/
def pair (t : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 t shapeCasts_S4096x64_S1x4096x1x64)) shapeCasts_S1x4096x2x64_S4096x128

/-- Minus one in even lanes, one in odd ones. -/
def signs : FVec Ideal S4096x64 .f32 :=
  broadcastInDim S4096x64 ![0, 1] bcast_S1x64_S4096x64_0_1 (broadcastInDim S1x64 ![1] bcast_S64_S1x64_1
    (shapeCast S64 (broadcastInDim S32x2 ![0, 1] bcast_S1x2_S32x2_0_1
      (shapeCast S1x2 (fun i => FloatOps.ofBits (F := Ideal) .f32 (lit0 (S2.rowMajor i)) : FVec Ideal S2 .f32) shapeCasts_S2_S1x2)) shapeCasts_S32x2_S64))

/-- A head's weights for eight heads. -/
def qArr (w : FVec Ideal S64 .f32) : FVec Ideal S1x512 .f32 :=
  shapeCast S1x512 (shapeCast S512 (broadcastInDim S8x64 ![0, 1] bcast_S1x64_S8x64_0_1 (shapeCast S1x64 w shapeCasts_S64_S1x64)) shapeCasts_S8x64_S512) shapeCasts_S512_S1x512

/-- A head's weights for two heads. -/
def kArr (w : FVec Ideal S64 .f32) : FVec Ideal S1x128 .f32 :=
  shapeCast S1x128 (shapeCast S128 (broadcastInDim S2x64 ![0, 1] bcast_S1x64_S2x64_0_1 (shapeCast S1x64 w shapeCasts_S64_S1x64)) shapeCasts_S2x64_S128) shapeCasts_S128_S1x128

theorem V_h : V m c main_v0 = hArr (HC m c) (HL m c) := by
  unfold V
  simp only [hostOps0, List.flatten_cons, List.flatten_nil, List.append_nil, List.cons_append, List.nil_append]
  after_results <;> rfl
theorem V_m : V m c main_v6 = mArr (MC m c) (ML m c) := by
  unfold V
  simp only [hostOps0, List.flatten_cons, List.flatten_nil, List.append_nil, List.cons_append, List.nil_append]
  after_results <;> rfl
theorem V_n : V m c main_v32 = nArr (NW m c) := by
  unfold V
  simp only [hostOps0, List.flatten_cons, List.flatten_nil, List.append_nil, List.cons_append, List.nil_append]
  after_results <;> rfl
theorem V_w : V m c main_v31 = (truncf .bf16 (WI m c) bitsLt_bf16_f32 : FVec Ideal S1024x1536 .bf16) := by
  unfold V
  simp only [hostOps0, List.flatten_cons, List.flatten_nil, List.append_nil, List.cons_append, List.nil_append]
  after_results <;> rfl
theorem V_c : V m c main_v19 = pair (twice (CO m c)) := by
  unfold V
  simp only [hostOps0, List.flatten_cons, List.flatten_nil, List.append_nil, List.cons_append, List.nil_append]
  after_results <;> rfl
theorem V_s : V m c main_v22 = pair (mulf (twice (SI m c)) signs) := by
  unfold V
  simp only [hostOps0, List.flatten_cons, List.flatten_nil, List.append_nil, List.cons_append, List.nil_append]
  after_results <;> rfl
theorem V_q : V m c main_v26 = qArr (QW m c) := by
  unfold V
  simp only [hostOps0, List.flatten_cons, List.flatten_nil, List.append_nil, List.cons_append, List.nil_append]
  after_results <;> rfl
theorem V_k : V m c main_v30 = kArr (KW m c) := by
  unfold V
  simp only [hostOps0, List.flatten_cons, List.flatten_nil, List.append_nil, List.cons_append, List.nil_append]
  after_results <;> rfl

theorem twice_apply (t : FVec Ideal S4096x32 .f32) (r : Fin 4096) (d : Fin 64) (k : Fin 32) (hk : k.val = d.val / 2) :
    twice t (ix2 r d) = t (ix2 r k) := by
  unfold twice
  refine (shapeCast_apply _ shapeCasts_S4096x32x2_S4096x64 (ix2 r d) (ix3 r k (⟨d.val % 2, Nat.mod_lt _ (by decide)⟩ : Fin 2)) (by
    rw [Shape.rowMajor_val_two, Shape.rowMajor_val_three]
    show (r.val * 32 + k.val) * 2 + d.val % 2 = r.val * 64 + d.val; omega)).trans ?_
  exact broadcastInDim_apply (t := S4096x32x2) _ bcast_S4096x32_S4096x32x2_0_1 _ _ (ix2 r k) (fun a => match a with | ⟨0, _⟩ => rfl | ⟨1, _⟩ => rfl)

theorem pair_apply (t : FVec Ideal S4096x64 .f32) (r : Fin 4096) (n : Fin 128) (d : Fin 64) (hd : d.val = n.val % 64) :
    pair t (ix2 r n) = t (ix2 r d) := by
  have hn := n.isLt
  unfold pair
  refine (shapeCast_apply _ shapeCasts_S1x4096x2x64_S4096x128 (ix2 r n) (ix4 (0 : Fin 1) r (⟨n.val / 64, by omega⟩ : Fin 2) d) (by
    rw [Shape.rowMajor_val_two, Shape.rowMajor_val_four]
    show ((0 * 4096 + r.val) * 2 + n.val / 64) * 64 + d.val = r.val * 128 + n.val; omega)).trans ?_
  refine (broadcastInDim_apply (t := S1x4096x2x64) _ bcast_S1x4096x1x64_S1x4096x2x64_0_1_2_3 _ _ (ix4 (0 : Fin 1) r (0 : Fin 1) d)
    (fun a => match a with | ⟨0, _⟩ => rfl | ⟨1, _⟩ => rfl | ⟨2, _⟩ => rfl | ⟨3, _⟩ => rfl)).trans ?_
  exact shapeCast_apply _ shapeCasts_S4096x64_S1x4096x1x64 _ (ix2 r d) (by
    rw [Shape.rowMajor_val_two, Shape.rowMajor_val_four]
    show r.val * 64 + d.val = ((0 * 4096 + r.val) * 1 + 0) * 64 + d.val; omega)

theorem signs_apply (r : Fin 4096) (d : Fin 64) : signs (ix2 r d) = if d.val % 2 = 0 then (-1 : EReal) else 1 := by
  have hd := d.isLt
  unfold signs
  refine (broadcastInDim_apply (t := S4096x64) _ bcast_S1x64_S4096x64_0_1 _ _ (ix2 (0 : Fin 1) d) (fun a => match a with | ⟨0, _⟩ => rfl | ⟨1, _⟩ => rfl)).trans ?_
  refine (broadcastInDim_apply (t := S1x64) _ bcast_S64_S1x64_1 _ _ (ix1 d) (fun a => match a with | ⟨0, _⟩ => rfl)).trans ?_
  refine (shapeCast_apply _ shapeCasts_S32x2_S64 (ix1 d) (ix2 (⟨d.val / 2, by omega⟩ : Fin 32) (⟨d.val % 2, Nat.mod_lt _ (by decide)⟩ : Fin 2)) (by
    rw [Shape.rowMajor_val_two, Shape.rowMajor_val_one]
    show d.val / 2 * 2 + d.val % 2 = d.val; omega)).trans ?_
  refine (broadcastInDim_apply (t := S32x2) _ bcast_S1x2_S32x2_0_1 _ _ (ix2 (0 : Fin 1) (⟨d.val % 2, Nat.mod_lt _ (by decide)⟩ : Fin 2)) (fun a => match a with | ⟨0, _⟩ => rfl | ⟨1, _⟩ => rfl)).trans ?_
  refine (shapeCast_apply _ shapeCasts_S2_S1x2 _ (ix1 (⟨d.val % 2, Nat.mod_lt _ (by decide)⟩ : Fin 2)) (by
    rw [Shape.rowMajor_val_two, Shape.rowMajor_val_one]
    show d.val % 2 = 0 * 2 + d.val % 2; omega)).trans ?_
  have e : S2.rowMajor (ix1 (⟨d.val % 2, Nat.mod_lt _ (by decide)⟩ : Fin 2)) = (⟨d.val % 2, Nat.mod_lt _ (by decide)⟩ : Fin 2) :=
    Fin.ext (Shape.rowMajor_val_one _)
  show Ideal.ofBits .f32 (lit0 (S2.rowMajor _)) = _
  rw [e]
  by_cases h : d.val % 2 = 0
  · rw [if_pos h, show (⟨d.val % 2, Nat.mod_lt _ (by decide)⟩ : Fin 2) = 0 from Fin.ext h]
    show Ideal.ofBits .f32 0xBF800000#32 = _
    simp [Ideal.ofBits, Ideal.ieee]; rw [← EReal.coe_mul]; norm_num
  · rw [if_neg h, show (⟨d.val % 2, Nat.mod_lt _ (by decide)⟩ : Fin 2) = 1 from Fin.ext (by show d.val % 2 = 1; omega)]
    exact Ideal.ofBits_one_f32

theorem cos_apply (t : FVec Ideal S4096x32 .f32) (r : Fin 4096) (n : Fin 128) (k : Fin 32) (hk : k.val = n.val % 64 / 2) :
    pair (twice t) (ix2 r n) = t (ix2 r k) :=
  (pair_apply _ r n (⟨n.val % 64, Nat.mod_lt _ (by decide)⟩ : Fin 64) rfl).trans (twice_apply t r _ k hk)

theorem sin_apply (t : FVec Ideal S4096x32 .f32) (r : Fin 4096) (n : Fin 128) (k : Fin 32) (hk : k.val = n.val % 64 / 2) :
    pair (mulf (twice t) signs) (ix2 r n) = if n.val % 2 = 0 then -(t (ix2 r k)) else t (ix2 r k) := by
  refine (pair_apply _ r n (⟨n.val % 64, Nat.mod_lt _ (by decide)⟩ : Fin 64) rfl).trans ?_
  refine (congrArg₂ (· * ·) (twice_apply t r _ k hk) (signs_apply r _)).trans ?_
  show t (ix2 r k) * (if n.val % 64 % 2 = 0 then (-1 : EReal) else 1) = _
  by_cases h : n.val % 2 = 0
  · rw [if_pos h, if_pos (by omega), mul_neg, mul_one]
  · rw [if_neg h, if_neg (by omega), mul_one]

theorem qArr_apply (w : FVec Ideal S64 .f32) (l : Fin 512) (d : Fin 64) (hd : d.val = l.val % 64) : qArr w (ix2 (0 : Fin 1) l) = w (ix1 d) := by
  have hl := l.isLt
  unfold qArr
  refine (shapeCast_apply _ shapeCasts_S512_S1x512 _ (ix1 l) (by
    rw [Shape.rowMajor_val_two, Shape.rowMajor_val_one]; show l.val = 0 * 512 + l.val; omega)).trans ?_
  refine (shapeCast_apply _ shapeCasts_S8x64_S512 _ (ix2 (⟨l.val / 64, by omega⟩ : Fin 8) d) (by
    rw [Shape.rowMajor_val_two, Shape.rowMajor_val_one]; show l.val / 64 * 64 + d.val = l.val; omega)).trans ?_
  refine (broadcastInDim_apply (t := S8x64) _ bcast_S1x64_S8x64_0_1 _ _ (ix2 (0 : Fin 1) d) (fun a => match a with | ⟨0, _⟩ => rfl | ⟨1, _⟩ => rfl)).trans ?_
  exact shapeCast_apply _ shapeCasts_S64_S1x64 _ (ix1 d) (by
    rw [Shape.rowMajor_val_two, Shape.rowMajor_val_one]; show d.val = 0 * 64 + d.val; omega)

theorem kArr_apply (w : FVec Ideal S64 .f32) (l : Fin 128) (d : Fin 64) (hd : d.val = l.val % 64) : kArr w (ix2 (0 : Fin 1) l) = w (ix1 d) := by
  have hl := l.isLt
  unfold kArr
  refine (shapeCast_apply _ shapeCasts_S128_S1x128 _ (ix1 l) (by
    rw [Shape.rowMajor_val_two, Shape.rowMajor_val_one]; show l.val = 0 * 128 + l.val; omega)).trans ?_
  refine (shapeCast_apply _ shapeCasts_S2x64_S128 _ (ix2 (⟨l.val / 64, by omega⟩ : Fin 2) d) (by
    rw [Shape.rowMajor_val_two, Shape.rowMajor_val_one]; show l.val / 64 * 64 + d.val = l.val; omega)).trans ?_
  refine (broadcastInDim_apply (t := S2x64) _ bcast_S1x64_S2x64_0_1 _ _ (ix2 (0 : Fin 1) d) (fun a => match a with | ⟨0, _⟩ => rfl | ⟨1, _⟩ => rfl)).trans ?_
  exact shapeCast_apply _ shapeCasts_S64_S1x64 _ (ix1 d) (by
    rw [Shape.rowMajor_val_two, Shape.rowMajor_val_one]; show d.val = 0 * 64 + d.val; omega)

end Cert.QkvHost

end
-- ==== Proof.Qkv.Ref.lean ====
module

public import proofs.«01_k».proof.Proof.Qkv.Kit
public import proofs.«01_k».proof.Proof.Inp.Ref
public import proofs.«01_k».proof.Proof.Gen.Reference6Ideal.Read

@[expose] public section

set_option maxRecDepth 16384

noncomputable section

namespace Cert.QkvRef

open Cert.Reference6Ideal Cert.Reference6Ideal.Gen Cert.Reference6Ideal.Read Idealize.ShloMosaic Idealize.ShloMosaic.TcCoe Idealize.ShloMosaic.ValueIdx
open Cert.Tok Cert.Qkv
open scoped BigOperators

/-! The rotation, for eight heads and for two. -/

/-- A table's row of a latent token, by column number. -/
def tb (t : FVec Ideal S4096x32 .f32) (r : Fin 4352) (k : Nat) : EReal :=
  if h : k < 32 then t (ix2 (⟨r.val - 256, by have := r.isLt; omega⟩ : Fin 4096) (⟨k, h⟩ : Fin 32)) else 0

/-- The latent tokens' lanes of one parity. -/
def even8 (X : FVec Ideal S8x4352x8x64 .f32) : FVec Ideal S8x4096x8x32 .f32 :=
  shapeCast S8x4096x8x32 (extractStridedSlice S8x4096x8x32x1 ![0, 0, 0, 0, 0] (shapeCast S8x4096x8x32x2
    (extractStridedSlice S8x4096x8x64 ![0, 256, 0, 0] X slices_S8x4352x8x64_S8x4096x8x64_0_256_0_0) shapeCasts_S8x4096x8x64_S8x4096x8x32x2)
    slices_S8x4096x8x32x2_S8x4096x8x32x1_0_0_0_0_0) shapeCasts_S8x4096x8x32x1_S8x4096x8x32
def odd8 (X : FVec Ideal S8x4352x8x64 .f32) : FVec Ideal S8x4096x8x32 .f32 :=
  shapeCast S8x4096x8x32 (extractStridedSlice S8x4096x8x32x1 ![0, 0, 0, 0, 1] (shapeCast S8x4096x8x32x2
    (extractStridedSlice S8x4096x8x64 ![0, 256, 0, 0] X slices_S8x4352x8x64_S8x4096x8x64_0_256_0_0) shapeCasts_S8x4096x8x64_S8x4096x8x32x2)
    slices_S8x4096x8x32x2_S8x4096x8x32x1_0_0_0_0_1) shapeCasts_S8x4096x8x32x1_S8x4096x8x32

/-- A table for every batch entry and head. -/
def tab8 (t : FVec Ideal S4096x32 .f32) : FVec Ideal S8x4096x8x32 .f32 :=
  broadcastInDim S8x4096x8x32 ![0, 1, 2, 3] bcast_S1x4096x1x32_S8x4096x8x32_0_1_2_3
    (broadcastInDim S1x4096x1x32 ![1, 2, 3] bcast_S4096x1x32_S1x4096x1x32_1_2_3 (broadcastInDim S4096x1x32 ![0, 2] bcast_S4096x32_S4096x1x32_0_2 t))

/-- The two parities' rotated lanes side by side. -/
def mix8 (x y : FVec Ideal S8x4096x8x32 .f32) : FVec Ideal S8x4096x8x64 .f32 :=
  shapeCast S8x4096x8x64 (concatenate S8x4096x8x32x2 4
    [⟨S8x4096x8x32x1, broadcastInDim S8x4096x8x32x1 ![0, 1, 2, 3] bcast_S8x4096x8x32_S8x4096x8x32x1_0_1_2_3 x⟩,
     ⟨S8x4096x8x32x1, broadcastInDim S8x4096x8x32x1 ![0, 1, 2, 3] bcast_S8x4096x8x32_S8x4096x8x32x1_0_1_2_3 y⟩]
    concatenates_S8x4096x8x32x1_S8x4096x8x32x1_S8x4096x8x32x2_d4) shapeCasts_S8x4096x8x32x2_S8x4096x8x64

/-- The context's lanes before the latent tokens' rotated ones. -/
def join8 (x : FVec Ideal S8x256x8x64 .f32) (y : FVec Ideal S8x4096x8x64 .f32) : FVec Ideal S8x4352x8x64 .f32 :=
  concatenate S8x4352x8x64 1 [⟨S8x256x8x64, x⟩, ⟨S8x4096x8x64, y⟩] concatenates_S8x256x8x64_S8x4096x8x64_S8x4352x8x64_d1

def rotRef8 (X : FVec Ideal S8x4352x8x64 .f32) (c s : FVec Ideal S4096x32 .f32) : FVec Ideal S8x4352x8x64 .f32 :=
  join8 (extractStridedSlice S8x256x8x64 ![0, 0, 0, 0] X slices_S8x4352x8x64_S8x256x8x64_0_0_0_0)
    (mix8 (subf (mulf (even8 X) (tab8 c)) (mulf (odd8 X) (tab8 s))) (addf (mulf (even8 X) (tab8 s)) (mulf (odd8 X) (tab8 c))))

theorem even8_apply (X : FVec Ideal S8x4352x8x64 .f32) (b : Fin 8) (s : Fin 4096) (h : Fin 8) (k : Fin 32) (r : Fin 4352) (hr : r.val = 256 + s.val) (d : Fin 64) (hd : d.val = 2 * k.val + 0) :
    even8 X (ix4 b s h k) = X (ix4 b r h d) := by
  unfold even8
  refine (shapeCast_apply _ shapeCasts_S8x4096x8x32x1_S8x4096x8x32 (ix4 b s h k) (ix5 b s h k (0 : Fin 1)) (by
    rw [Shape.rowMajor_val_four, Shape.rowMajor_val_five]
    show (((b.val * 4096 + s.val) * 8 + h.val) * 32 + k.val) * 1 + 0 = ((b.val * 4096 + s.val) * 8 + h.val) * 32 + k.val; omega)).trans ?_
  refine (extractStridedSlice_apply ![0, 0, 0, 0, 0] _ slices_S8x4096x8x32x2_S8x4096x8x32x1_0_0_0_0_0 _ (ix5 b s h k (0 : Fin 2)) (fun a => match a with
    | ⟨0, _⟩ => (Nat.zero_add _).symm | ⟨1, _⟩ => (Nat.zero_add _).symm | ⟨2, _⟩ => (Nat.zero_add _).symm | ⟨3, _⟩ => (Nat.zero_add _).symm | ⟨4, _⟩ => rfl)).trans ?_
  refine (shapeCast_apply _ shapeCasts_S8x4096x8x64_S8x4096x8x32x2 _ (ix4 b s h d) (by
    rw [Shape.rowMajor_val_four, Shape.rowMajor_val_five]
    show ((b.val * 4096 + s.val) * 8 + h.val) * 64 + d.val = (((b.val * 4096 + s.val) * 8 + h.val) * 32 + k.val) * 2 + 0; omega)).trans ?_
  exact extractStridedSlice_apply ![0, 256, 0, 0] X slices_S8x4352x8x64_S8x4096x8x64_0_256_0_0 _ (ix4 b r h d) (fun a => match a with
    | ⟨0, _⟩ => (Nat.zero_add _).symm | ⟨1, _⟩ => hr | ⟨2, _⟩ => (Nat.zero_add _).symm | ⟨3, _⟩ => (Nat.zero_add _).symm)

theorem odd8_apply (X : FVec Ideal S8x4352x8x64 .f32) (b : Fin 8) (s : Fin 4096) (h : Fin 8) (k : Fin 32) (r : Fin 4352) (hr : r.val = 256 + s.val) (d : Fin 64) (hd : d.val = 2 * k.val + 1) :
    odd8 X (ix4 b s h k) = X (ix4 b r h d) := by
  unfold odd8
  refine (shapeCast_apply _ shapeCasts_S8x4096x8x32x1_S8x4096x8x32 (ix4 b s h k) (ix5 b s h k (0 : Fin 1)) (by
    rw [Shape.rowMajor_val_four, Shape.rowMajor_val_five]
    show (((b.val * 4096 + s.val) * 8 + h.val) * 32 + k.val) * 1 + 0 = ((b.val * 4096 + s.val) * 8 + h.val) * 32 + k.val; omega)).trans ?_
  refine (extractStridedSlice_apply ![0, 0, 0, 0, 1] _ slices_S8x4096x8x32x2_S8x4096x8x32x1_0_0_0_0_1 _ (ix5 b s h k (1 : Fin 2)) (fun a => match a with
    | ⟨0, _⟩ => (Nat.zero_add _).symm | ⟨1, _⟩ => (Nat.zero_add _).symm | ⟨2, _⟩ => (Nat.zero_add _).symm | ⟨3, _⟩ => (Nat.zero_add _).symm | ⟨4, _⟩ => rfl)).trans ?_
  refine (shapeCast_apply _ shapeCasts_S8x4096x8x64_S8x4096x8x32x2 _ (ix4 b s h d) (by
    rw [Shape.rowMajor_val_four, Shape.rowMajor_val_five]
    show ((b.val * 4096 + s.val) * 8 + h.val) * 64 + d.val = (((b.val * 4096 + s.val) * 8 + h.val) * 32 + k.val) * 2 + 1; omega)).trans ?_
  exact extractStridedSlice_apply ![0, 256, 0, 0] X slices_S8x4352x8x64_S8x4096x8x64_0_256_0_0 _ (ix4 b r h d) (fun a => match a with
    | ⟨0, _⟩ => (Nat.zero_add _).symm | ⟨1, _⟩ => hr | ⟨2, _⟩ => (Nat.zero_add _).symm | ⟨3, _⟩ => (Nat.zero_add _).symm)

theorem tab8_apply (t : FVec Ideal S4096x32 .f32) (b : Fin 8) (s : Fin 4096) (h : Fin 8) (k : Fin 32) : tab8 t (ix4 b s h k) = t (ix2 s k) := by
  unfold tab8
  refine (broadcastInDim_apply (t := S8x4096x8x32) _ bcast_S1x4096x1x32_S8x4096x8x32_0_1_2_3 _ (ix4 b s h k) (ix4 (0 : Fin 1) s (0 : Fin 1) k)
    (fun a => match a with | ⟨0, _⟩ => rfl | ⟨1, _⟩ => rfl | ⟨2, _⟩ => rfl | ⟨3, _⟩ => rfl)).trans ?_
  refine (broadcastInDim_apply (t := S1x4096x1x32) _ bcast_S4096x1x32_S1x4096x1x32_1_2_3 _ (ix4 (0 : Fin 1) s (0 : Fin 1) k) (ix3 s (0 : Fin 1) k)
    (fun a => match a with | ⟨0, _⟩ => rfl | ⟨1, _⟩ => rfl | ⟨2, _⟩ => rfl)).trans ?_
  exact broadcastInDim_apply (t := S4096x1x32) _ bcast_S4096x32_S4096x1x32_0_2 t (ix3 s (0 : Fin 1) k) (ix2 s k)
    (fun a => match a with | ⟨0, _⟩ => rfl | ⟨1, _⟩ => rfl)

theorem mix8_apply (x y : FVec Ideal S8x4096x8x32 .f32) (b : Fin 8) (s : Fin 4096) (h : Fin 8) (d : Fin 64) (k : Fin 32) (hk : k.val = d.val / 2) :
    mix8 x y (ix4 b s h d) = if d.val % 2 = 0 then x (ix4 b s h k) else y (ix4 b s h k) := by
  unfold mix8
  refine (shapeCast_apply _ shapeCasts_S8x4096x8x32x2_S8x4096x8x64 (ix4 b s h d) (ix5 b s h k (⟨d.val % 2, Nat.mod_lt _ (by decide)⟩ : Fin 2)) (by
    rw [Shape.rowMajor_val_four, Shape.rowMajor_val_five]
    show (((b.val * 4096 + s.val) * 8 + h.val) * 32 + k.val) * 2 + d.val % 2 = ((b.val * 4096 + s.val) * 8 + h.val) * 64 + d.val; omega)).trans ?_
  by_cases h2 : d.val % 2 = 0
  · rw [if_pos h2]
    refine (concatenate_apply_piece (t := S8x4096x8x32x2) 4 [⟨S8x4096x8x32x1, broadcastInDim S8x4096x8x32x1 ![0, 1, 2, 3] bcast_S8x4096x8x32_S8x4096x8x32x1_0_1_2_3 x⟩,
        ⟨S8x4096x8x32x1, broadcastInDim S8x4096x8x32x1 ![0, 1, 2, 3] bcast_S8x4096x8x32_S8x4096x8x32x1_0_1_2_3 y⟩]
      concatenates_S8x4096x8x32x1_S8x4096x8x32x1_S8x4096x8x32x2_d4 (ix5 b s h k (⟨d.val % 2, Nat.mod_lt _ (by decide)⟩ : Fin 2))
      0 (by show 0 < 2; decide) S8x4096x8x32x1 _ rfl rfl 0 rfl (ix5 b s h k (0 : Fin 1))
      (fun a ha => match a with | ⟨0, _⟩ => rfl | ⟨1, _⟩ => rfl | ⟨2, _⟩ => rfl | ⟨3, _⟩ => rfl | ⟨4, _⟩ => absurd rfl ha) (by show 0 + 0 = d.val % 2; omega)).trans ?_
    exact broadcastInDim_apply (t := S8x4096x8x32x1) _ bcast_S8x4096x8x32_S8x4096x8x32x1_0_1_2_3 x _ (ix4 b s h k)
      (fun a => match a with | ⟨0, _⟩ => rfl | ⟨1, _⟩ => rfl | ⟨2, _⟩ => rfl | ⟨3, _⟩ => rfl)
  · rw [if_neg h2]
    refine (concatenate_apply_piece (t := S8x4096x8x32x2) 4 [⟨S8x4096x8x32x1, broadcastInDim S8x4096x8x32x1 ![0, 1, 2, 3] bcast_S8x4096x8x32_S8x4096x8x32x1_0_1_2_3 x⟩,
        ⟨S8x4096x8x32x1, broadcastInDim S8x4096x8x32x1 ![0, 1, 2, 3] bcast_S8x4096x8x32_S8x4096x8x32x1_0_1_2_3 y⟩]
      concatenates_S8x4096x8x32x1_S8x4096x8x32x1_S8x4096x8x32x2_d4 (ix5 b s h k (⟨d.val % 2, Nat.mod_lt _ (by decide)⟩ : Fin 2))
      1 (by show 1 < 2; decide) S8x4096x8x32x1 _ rfl rfl 1 rfl (ix5 b s h k (0 : Fin 1))
      (fun a ha => match a with | ⟨0, _⟩ => rfl | ⟨1, _⟩ => rfl | ⟨2, _⟩ => rfl | ⟨3, _⟩ => rfl | ⟨4, _⟩ => absurd rfl ha) (by show 1 + 0 = d.val % 2; omega)).trans ?_
    exact broadcastInDim_apply (t := S8x4096x8x32x1) _ bcast_S8x4096x8x32_S8x4096x8x32x1_0_1_2_3 y _ (ix4 b s h k)
      (fun a => match a with | ⟨0, _⟩ => rfl | ⟨1, _⟩ => rfl | ⟨2, _⟩ => rfl | ⟨3, _⟩ => rfl)

/-- What the rotation of 8 heads holds at a token's lane. -/
theorem rotRef8_apply (X : FVec Ideal S8x4352x8x64 .f32) (c s : FVec Ideal S4096x32 .f32) (b : Fin 8) (r : Fin 4352) (h : Fin 8) (d : Fin 64) (Y : Nat → EReal)
    (hX : ∀ e : Fin 64, X (ix4 b r h e) = Y e.val) : rotRef8 X c s (ix4 b r h d) = rot (256 ≤ r.val) (tb c r) (tb s r) Y d.val := by
  have hr := r.isLt
  have hd := d.isLt
  unfold rotRef8 rot join8
  by_cases hl : 256 ≤ r.val
  · rw [if_pos hl]
    refine (concatenate_apply_piece (t := S8x4352x8x64) 1 [⟨S8x256x8x64, extractStridedSlice S8x256x8x64 ![0, 0, 0, 0] X slices_S8x4352x8x64_S8x256x8x64_0_0_0_0⟩,
        ⟨S8x4096x8x64, mix8 (subf (mulf (even8 X) (tab8 c)) (mulf (odd8 X) (tab8 s))) (addf (mulf (even8 X) (tab8 s)) (mulf (odd8 X) (tab8 c)))⟩]
      concatenates_S8x256x8x64_S8x4096x8x64_S8x4352x8x64_d1 (ix4 b r h d)
      1 (by show 1 < 2; decide) S8x4096x8x64 _ rfl rfl 256 rfl (ix4 b (⟨r.val - 256, by omega⟩ : Fin 4096) h d)
      (fun a ha => match a with | ⟨0, _⟩ => rfl | ⟨1, _⟩ => absurd rfl ha | ⟨2, _⟩ => rfl | ⟨3, _⟩ => rfl) (by show 256 + (r.val - 256) = r.val; omega)).trans ?_
    refine (mix8_apply _ _ b _ h d (⟨d.val / 2, by omega⟩ : Fin 32) rfl).trans ?_
    have ht : ∀ t : FVec Ideal S4096x32 .f32, tab8 t (ix4 b (⟨r.val - 256, by omega⟩ : Fin 4096) h (⟨d.val / 2, by omega⟩ : Fin 32)) = tb t r (d.val / 2) := fun t => by
      rw [tab8_apply]
      unfold tb
      rw [dif_pos (by omega)]
    have he := even8_apply X b (⟨r.val - 256, by omega⟩ : Fin 4096) h (⟨d.val / 2, by omega⟩ : Fin 32) r (by show r.val = 256 + (r.val - 256); omega)
      (⟨2 * (d.val / 2), by omega⟩ : Fin 64) rfl
    have ho := odd8_apply X b (⟨r.val - 256, by omega⟩ : Fin 4096) h (⟨d.val / 2, by omega⟩ : Fin 32) r (by show r.val = 256 + (r.val - 256); omega)
      (⟨2 * (d.val / 2) + 1, by omega⟩ : Fin 64) rfl
    rw [hX] at he ho
    by_cases h2 : d.val % 2 = 0
    · rw [if_pos h2, if_pos h2]
      refine congrArg₂ (· - ·) (congrArg₂ (· * ·) (he.trans (congrArg Y ?_)) (ht c)) (congrArg₂ (· * ·) (ho.trans (congrArg Y ?_)) (ht s))
      · show 2 * (d.val / 2) = d.val; omega
      · show 2 * (d.val / 2) + 1 = d.val + 1; omega
    · rw [if_neg h2, if_neg h2]
      refine congrArg₂ (· + ·) (congrArg₂ (· * ·) (he.trans (congrArg Y ?_)) (ht s)) (congrArg₂ (· * ·) (ho.trans (congrArg Y ?_)) (ht c))
      · show 2 * (d.val / 2) = d.val - 1; omega
      · show 2 * (d.val / 2) + 1 = d.val; omega
  · rw [if_neg hl]
    refine (concatenate_apply_piece (t := S8x4352x8x64) 1 [⟨S8x256x8x64, extractStridedSlice S8x256x8x64 ![0, 0, 0, 0] X slices_S8x4352x8x64_S8x256x8x64_0_0_0_0⟩,
        ⟨S8x4096x8x64, mix8 (subf (mulf (even8 X) (tab8 c)) (mulf (odd8 X) (tab8 s))) (addf (mulf (even8 X) (tab8 s)) (mulf (odd8 X) (tab8 c)))⟩]
      concatenates_S8x256x8x64_S8x4096x8x64_S8x4352x8x64_d1 (ix4 b r h d)
      0 (by show 0 < 2; decide) S8x256x8x64 _ rfl rfl 0 rfl (ix4 b (⟨r.val, by omega⟩ : Fin 256) h d)
      (fun a ha => match a with | ⟨0, _⟩ => rfl | ⟨1, _⟩ => absurd rfl ha | ⟨2, _⟩ => rfl | ⟨3, _⟩ => rfl) (by show 0 + r.val = r.val; omega)).trans ?_
    exact (extractStridedSlice_apply ![0, 0, 0, 0] X slices_S8x4352x8x64_S8x256x8x64_0_0_0_0 _ (ix4 b r h d) (fun a => match a with
      | ⟨0, _⟩ => (Nat.zero_add _).symm | ⟨1, _⟩ => (Nat.zero_add _).symm | ⟨2, _⟩ => (Nat.zero_add _).symm | ⟨3, _⟩ => (Nat.zero_add _).symm)).trans (hX d)

/-- The latent tokens' lanes of one parity. -/
def even2 (X : FVec Ideal S8x4352x2x64 .f32) : FVec Ideal S8x4096x2x32 .f32 :=
  shapeCast S8x4096x2x32 (extractStridedSlice S8x4096x2x32x1 ![0, 0, 0, 0, 0] (shapeCast S8x4096x2x32x2
    (extractStridedSlice S8x4096x2x64 ![0, 256, 0, 0] X slices_S8x4352x2x64_S8x4096x2x64_0_256_0_0) shapeCasts_S8x4096x2x64_S8x4096x2x32x2)
    slices_S8x4096x2x32x2_S8x4096x2x32x1_0_0_0_0_0) shapeCasts_S8x4096x2x32x1_S8x4096x2x32
def odd2 (X : FVec Ideal S8x4352x2x64 .f32) : FVec Ideal S8x4096x2x32 .f32 :=
  shapeCast S8x4096x2x32 (extractStridedSlice S8x4096x2x32x1 ![0, 0, 0, 0, 1] (shapeCast S8x4096x2x32x2
    (extractStridedSlice S8x4096x2x64 ![0, 256, 0, 0] X slices_S8x4352x2x64_S8x4096x2x64_0_256_0_0) shapeCasts_S8x4096x2x64_S8x4096x2x32x2)
    slices_S8x4096x2x32x2_S8x4096x2x32x1_0_0_0_0_1) shapeCasts_S8x4096x2x32x1_S8x4096x2x32

/-- A table for every batch entry and head. -/
def tab2 (t : FVec Ideal S4096x32 .f32) : FVec Ideal S8x4096x2x32 .f32 :=
  broadcastInDim S8x4096x2x32 ![0, 1, 2, 3] bcast_S1x4096x1x32_S8x4096x2x32_0_1_2_3
    (broadcastInDim S1x4096x1x32 ![1, 2, 3] bcast_S4096x1x32_S1x4096x1x32_1_2_3 (broadcastInDim S4096x1x32 ![0, 2] bcast_S4096x32_S4096x1x32_0_2 t))

/-- The two parities' rotated lanes side by side. -/
def mix2 (x y : FVec Ideal S8x4096x2x32 .f32) : FVec Ideal S8x4096x2x64 .f32 :=
  shapeCast S8x4096x2x64 (concatenate S8x4096x2x32x2 4
    [⟨S8x4096x2x32x1, broadcastInDim S8x4096x2x32x1 ![0, 1, 2, 3] bcast_S8x4096x2x32_S8x4096x2x32x1_0_1_2_3 x⟩,
     ⟨S8x4096x2x32x1, broadcastInDim S8x4096x2x32x1 ![0, 1, 2, 3] bcast_S8x4096x2x32_S8x4096x2x32x1_0_1_2_3 y⟩]
    concatenates_S8x4096x2x32x1_S8x4096x2x32x1_S8x4096x2x32x2_d4) shapeCasts_S8x4096x2x32x2_S8x4096x2x64

/-- The context's lanes before the latent tokens' rotated ones. -/
def join2 (x : FVec Ideal S8x256x2x64 .f32) (y : FVec Ideal S8x4096x2x64 .f32) : FVec Ideal S8x4352x2x64 .f32 :=
  concatenate S8x4352x2x64 1 [⟨S8x256x2x64, x⟩, ⟨S8x4096x2x64, y⟩] concatenates_S8x256x2x64_S8x4096x2x64_S8x4352x2x64_d1

def rotRef2 (X : FVec Ideal S8x4352x2x64 .f32) (c s : FVec Ideal S4096x32 .f32) : FVec Ideal S8x4352x2x64 .f32 :=
  join2 (extractStridedSlice S8x256x2x64 ![0, 0, 0, 0] X slices_S8x4352x2x64_S8x256x2x64_0_0_0_0)
    (mix2 (subf (mulf (even2 X) (tab2 c)) (mulf (odd2 X) (tab2 s))) (addf (mulf (even2 X) (tab2 s)) (mulf (odd2 X) (tab2 c))))

theorem even2_apply (X : FVec Ideal S8x4352x2x64 .f32) (b : Fin 8) (s : Fin 4096) (h : Fin 2) (k : Fin 32) (r : Fin 4352) (hr : r.val = 256 + s.val) (d : Fin 64) (hd : d.val = 2 * k.val + 0) :
    even2 X (ix4 b s h k) = X (ix4 b r h d) := by
  unfold even2
  refine (shapeCast_apply _ shapeCasts_S8x4096x2x32x1_S8x4096x2x32 (ix4 b s h k) (ix5 b s h k (0 : Fin 1)) (by
    rw [Shape.rowMajor_val_four, Shape.rowMajor_val_five]
    show (((b.val * 4096 + s.val) * 2 + h.val) * 32 + k.val) * 1 + 0 = ((b.val * 4096 + s.val) * 2 + h.val) * 32 + k.val; omega)).trans ?_
  refine (extractStridedSlice_apply ![0, 0, 0, 0, 0] _ slices_S8x4096x2x32x2_S8x4096x2x32x1_0_0_0_0_0 _ (ix5 b s h k (0 : Fin 2)) (fun a => match a with
    | ⟨0, _⟩ => (Nat.zero_add _).symm | ⟨1, _⟩ => (Nat.zero_add _).symm | ⟨2, _⟩ => (Nat.zero_add _).symm | ⟨3, _⟩ => (Nat.zero_add _).symm | ⟨4, _⟩ => rfl)).trans ?_
  refine (shapeCast_apply _ shapeCasts_S8x4096x2x64_S8x4096x2x32x2 _ (ix4 b s h d) (by
    rw [Shape.rowMajor_val_four, Shape.rowMajor_val_five]
    show ((b.val * 4096 + s.val) * 2 + h.val) * 64 + d.val = (((b.val * 4096 + s.val) * 2 + h.val) * 32 + k.val) * 2 + 0; omega)).trans ?_
  exact extractStridedSlice_apply ![0, 256, 0, 0] X slices_S8x4352x2x64_S8x4096x2x64_0_256_0_0 _ (ix4 b r h d) (fun a => match a with
    | ⟨0, _⟩ => (Nat.zero_add _).symm | ⟨1, _⟩ => hr | ⟨2, _⟩ => (Nat.zero_add _).symm | ⟨3, _⟩ => (Nat.zero_add _).symm)

theorem odd2_apply (X : FVec Ideal S8x4352x2x64 .f32) (b : Fin 8) (s : Fin 4096) (h : Fin 2) (k : Fin 32) (r : Fin 4352) (hr : r.val = 256 + s.val) (d : Fin 64) (hd : d.val = 2 * k.val + 1) :
    odd2 X (ix4 b s h k) = X (ix4 b r h d) := by
  unfold odd2
  refine (shapeCast_apply _ shapeCasts_S8x4096x2x32x1_S8x4096x2x32 (ix4 b s h k) (ix5 b s h k (0 : Fin 1)) (by
    rw [Shape.rowMajor_val_four, Shape.rowMajor_val_five]
    show (((b.val * 4096 + s.val) * 2 + h.val) * 32 + k.val) * 1 + 0 = ((b.val * 4096 + s.val) * 2 + h.val) * 32 + k.val; omega)).trans ?_
  refine (extractStridedSlice_apply ![0, 0, 0, 0, 1] _ slices_S8x4096x2x32x2_S8x4096x2x32x1_0_0_0_0_1 _ (ix5 b s h k (1 : Fin 2)) (fun a => match a with
    | ⟨0, _⟩ => (Nat.zero_add _).symm | ⟨1, _⟩ => (Nat.zero_add _).symm | ⟨2, _⟩ => (Nat.zero_add _).symm | ⟨3, _⟩ => (Nat.zero_add _).symm | ⟨4, _⟩ => rfl)).trans ?_
  refine (shapeCast_apply _ shapeCasts_S8x4096x2x64_S8x4096x2x32x2 _ (ix4 b s h d) (by
    rw [Shape.rowMajor_val_four, Shape.rowMajor_val_five]
    show ((b.val * 4096 + s.val) * 2 + h.val) * 64 + d.val = (((b.val * 4096 + s.val) * 2 + h.val) * 32 + k.val) * 2 + 1; omega)).trans ?_
  exact extractStridedSlice_apply ![0, 256, 0, 0] X slices_S8x4352x2x64_S8x4096x2x64_0_256_0_0 _ (ix4 b r h d) (fun a => match a with
    | ⟨0, _⟩ => (Nat.zero_add _).symm | ⟨1, _⟩ => hr | ⟨2, _⟩ => (Nat.zero_add _).symm | ⟨3, _⟩ => (Nat.zero_add _).symm)

theorem tab2_apply (t : FVec Ideal S4096x32 .f32) (b : Fin 8) (s : Fin 4096) (h : Fin 2) (k : Fin 32) : tab2 t (ix4 b s h k) = t (ix2 s k) := by
  unfold tab2
  refine (broadcastInDim_apply (t := S8x4096x2x32) _ bcast_S1x4096x1x32_S8x4096x2x32_0_1_2_3 _ (ix4 b s h k) (ix4 (0 : Fin 1) s (0 : Fin 1) k)
    (fun a => match a with | ⟨0, _⟩ => rfl | ⟨1, _⟩ => rfl | ⟨2, _⟩ => rfl | ⟨3, _⟩ => rfl)).trans ?_
  refine (broadcastInDim_apply (t := S1x4096x1x32) _ bcast_S4096x1x32_S1x4096x1x32_1_2_3 _ (ix4 (0 : Fin 1) s (0 : Fin 1) k) (ix3 s (0 : Fin 1) k)
    (fun a => match a with | ⟨0, _⟩ => rfl | ⟨1, _⟩ => rfl | ⟨2, _⟩ => rfl)).trans ?_
  exact broadcastInDim_apply (t := S4096x1x32) _ bcast_S4096x32_S4096x1x32_0_2 t (ix3 s (0 : Fin 1) k) (ix2 s k)
    (fun a => match a with | ⟨0, _⟩ => rfl | ⟨1, _⟩ => rfl)

theorem mix2_apply (x y : FVec Ideal S8x4096x2x32 .f32) (b : Fin 8) (s : Fin 4096) (h : Fin 2) (d : Fin 64) (k : Fin 32) (hk : k.val = d.val / 2) :
    mix2 x y (ix4 b s h d) = if d.val % 2 = 0 then x (ix4 b s h k) else y (ix4 b s h k) := by
  unfold mix2
  refine (shapeCast_apply _ shapeCasts_S8x4096x2x32x2_S8x4096x2x64 (ix4 b s h d) (ix5 b s h k (⟨d.val % 2, Nat.mod_lt _ (by decide)⟩ : Fin 2)) (by
    rw [Shape.rowMajor_val_four, Shape.rowMajor_val_five]
    show (((b.val * 4096 + s.val) * 2 + h.val) * 32 + k.val) * 2 + d.val % 2 = ((b.val * 4096 + s.val) * 2 + h.val) * 64 + d.val; omega)).trans ?_
  by_cases h2 : d.val % 2 = 0
  · rw [if_pos h2]
    refine (concatenate_apply_piece (t := S8x4096x2x32x2) 4 [⟨S8x4096x2x32x1, broadcastInDim S8x4096x2x32x1 ![0, 1, 2, 3] bcast_S8x4096x2x32_S8x4096x2x32x1_0_1_2_3 x⟩,
        ⟨S8x4096x2x32x1, broadcastInDim S8x4096x2x32x1 ![0, 1, 2, 3] bcast_S8x4096x2x32_S8x4096x2x32x1_0_1_2_3 y⟩]
      concatenates_S8x4096x2x32x1_S8x4096x2x32x1_S8x4096x2x32x2_d4 (ix5 b s h k (⟨d.val % 2, Nat.mod_lt _ (by decide)⟩ : Fin 2))
      0 (by show 0 < 2; decide) S8x4096x2x32x1 _ rfl rfl 0 rfl (ix5 b s h k (0 : Fin 1))
      (fun a ha => match a with | ⟨0, _⟩ => rfl | ⟨1, _⟩ => rfl | ⟨2, _⟩ => rfl | ⟨3, _⟩ => rfl | ⟨4, _⟩ => absurd rfl ha) (by show 0 + 0 = d.val % 2; omega)).trans ?_
    exact broadcastInDim_apply (t := S8x4096x2x32x1) _ bcast_S8x4096x2x32_S8x4096x2x32x1_0_1_2_3 x _ (ix4 b s h k)
      (fun a => match a with | ⟨0, _⟩ => rfl | ⟨1, _⟩ => rfl | ⟨2, _⟩ => rfl | ⟨3, _⟩ => rfl)
  · rw [if_neg h2]
    refine (concatenate_apply_piece (t := S8x4096x2x32x2) 4 [⟨S8x4096x2x32x1, broadcastInDim S8x4096x2x32x1 ![0, 1, 2, 3] bcast_S8x4096x2x32_S8x4096x2x32x1_0_1_2_3 x⟩,
        ⟨S8x4096x2x32x1, broadcastInDim S8x4096x2x32x1 ![0, 1, 2, 3] bcast_S8x4096x2x32_S8x4096x2x32x1_0_1_2_3 y⟩]
      concatenates_S8x4096x2x32x1_S8x4096x2x32x1_S8x4096x2x32x2_d4 (ix5 b s h k (⟨d.val % 2, Nat.mod_lt _ (by decide)⟩ : Fin 2))
      1 (by show 1 < 2; decide) S8x4096x2x32x1 _ rfl rfl 1 rfl (ix5 b s h k (0 : Fin 1))
      (fun a ha => match a with | ⟨0, _⟩ => rfl | ⟨1, _⟩ => rfl | ⟨2, _⟩ => rfl | ⟨3, _⟩ => rfl | ⟨4, _⟩ => absurd rfl ha) (by show 1 + 0 = d.val % 2; omega)).trans ?_
    exact broadcastInDim_apply (t := S8x4096x2x32x1) _ bcast_S8x4096x2x32_S8x4096x2x32x1_0_1_2_3 y _ (ix4 b s h k)
      (fun a => match a with | ⟨0, _⟩ => rfl | ⟨1, _⟩ => rfl | ⟨2, _⟩ => rfl | ⟨3, _⟩ => rfl)

/-- What the rotation of 2 heads holds at a token's lane. -/
theorem rotRef2_apply (X : FVec Ideal S8x4352x2x64 .f32) (c s : FVec Ideal S4096x32 .f32) (b : Fin 8) (r : Fin 4352) (h : Fin 2) (d : Fin 64) (Y : Nat → EReal)
    (hX : ∀ e : Fin 64, X (ix4 b r h e) = Y e.val) : rotRef2 X c s (ix4 b r h d) = rot (256 ≤ r.val) (tb c r) (tb s r) Y d.val := by
  have hr := r.isLt
  have hd := d.isLt
  unfold rotRef2 rot join2
  by_cases hl : 256 ≤ r.val
  · rw [if_pos hl]
    refine (concatenate_apply_piece (t := S8x4352x2x64) 1 [⟨S8x256x2x64, extractStridedSlice S8x256x2x64 ![0, 0, 0, 0] X slices_S8x4352x2x64_S8x256x2x64_0_0_0_0⟩,
        ⟨S8x4096x2x64, mix2 (subf (mulf (even2 X) (tab2 c)) (mulf (odd2 X) (tab2 s))) (addf (mulf (even2 X) (tab2 s)) (mulf (odd2 X) (tab2 c)))⟩]
      concatenates_S8x256x2x64_S8x4096x2x64_S8x4352x2x64_d1 (ix4 b r h d)
      1 (by show 1 < 2; decide) S8x4096x2x64 _ rfl rfl 256 rfl (ix4 b (⟨r.val - 256, by omega⟩ : Fin 4096) h d)
      (fun a ha => match a with | ⟨0, _⟩ => rfl | ⟨1, _⟩ => absurd rfl ha | ⟨2, _⟩ => rfl | ⟨3, _⟩ => rfl) (by show 256 + (r.val - 256) = r.val; omega)).trans ?_
    refine (mix2_apply _ _ b _ h d (⟨d.val / 2, by omega⟩ : Fin 32) rfl).trans ?_
    have ht : ∀ t : FVec Ideal S4096x32 .f32, tab2 t (ix4 b (⟨r.val - 256, by omega⟩ : Fin 4096) h (⟨d.val / 2, by omega⟩ : Fin 32)) = tb t r (d.val / 2) := fun t => by
      rw [tab2_apply]
      unfold tb
      rw [dif_pos (by omega)]
    have he := even2_apply X b (⟨r.val - 256, by omega⟩ : Fin 4096) h (⟨d.val / 2, by omega⟩ : Fin 32) r (by show r.val = 256 + (r.val - 256); omega)
      (⟨2 * (d.val / 2), by omega⟩ : Fin 64) rfl
    have ho := odd2_apply X b (⟨r.val - 256, by omega⟩ : Fin 4096) h (⟨d.val / 2, by omega⟩ : Fin 32) r (by show r.val = 256 + (r.val - 256); omega)
      (⟨2 * (d.val / 2) + 1, by omega⟩ : Fin 64) rfl
    rw [hX] at he ho
    by_cases h2 : d.val % 2 = 0
    · rw [if_pos h2, if_pos h2]
      refine congrArg₂ (· - ·) (congrArg₂ (· * ·) (he.trans (congrArg Y ?_)) (ht c)) (congrArg₂ (· * ·) (ho.trans (congrArg Y ?_)) (ht s))
      · show 2 * (d.val / 2) = d.val; omega
      · show 2 * (d.val / 2) + 1 = d.val + 1; omega
    · rw [if_neg h2, if_neg h2]
      refine congrArg₂ (· + ·) (congrArg₂ (· * ·) (he.trans (congrArg Y ?_)) (ht s)) (congrArg₂ (· * ·) (ho.trans (congrArg Y ?_)) (ht c))
      · show 2 * (d.val / 2) = d.val - 1; omega
      · show 2 * (d.val / 2) + 1 = d.val; omega
  · rw [if_neg hl]
    refine (concatenate_apply_piece (t := S8x4352x2x64) 1 [⟨S8x256x2x64, extractStridedSlice S8x256x2x64 ![0, 0, 0, 0] X slices_S8x4352x2x64_S8x256x2x64_0_0_0_0⟩,
        ⟨S8x4096x2x64, mix2 (subf (mulf (even2 X) (tab2 c)) (mulf (odd2 X) (tab2 s))) (addf (mulf (even2 X) (tab2 s)) (mulf (odd2 X) (tab2 c)))⟩]
      concatenates_S8x256x2x64_S8x4096x2x64_S8x4352x2x64_d1 (ix4 b r h d)
      0 (by show 0 < 2; decide) S8x256x2x64 _ rfl rfl 0 rfl (ix4 b (⟨r.val, by omega⟩ : Fin 256) h d)
      (fun a ha => match a with | ⟨0, _⟩ => rfl | ⟨1, _⟩ => absurd rfl ha | ⟨2, _⟩ => rfl | ⟨3, _⟩ => rfl) (by show 0 + r.val = r.val; omega)).trans ?_
    exact (extractStridedSlice_apply ![0, 0, 0, 0] X slices_S8x4352x2x64_S8x256x2x64_0_0_0_0 _ (ix4 b r h d) (fun a => match a with
      | ⟨0, _⟩ => (Nat.zero_add _).symm | ⟨1, _⟩ => (Nat.zero_add _).symm | ⟨2, _⟩ => (Nat.zero_add _).symm | ⟨3, _⟩ => (Nat.zero_add _).symm)).trans (hX d)
/-! The program's values. -/

variable (x0 : FVec Ideal S8x4096x1024 .f32) (x1 : FVec Ideal S8x256x1024 .f32) (x2 : FVec Ideal S8x6144 .f32) (x3 : FVec Ideal S1x6144 .f32)
  (x4 : FVec Ideal S1024 .f32) (x5 : FVec Ideal S1024x1536 .f32) (x6 x7 : FVec Ideal S64 .f32) (x8 x9 : FVec Ideal S4096x32 .f32)

/-- A token's projection, by column number. -/
def proj (b : Fin 8) (r : Fin 4352) (n : Nat) : EReal :=
  if h : n < 1536 then ∑ k : Fin 1024, nm (hv x1 x0 b r) (fun k => x4 (ix1 k)) (mv x3 x2 1 b r) (mv x3 x2 0 b r) k * x5 (ix2 k (⟨n, h⟩ : Fin 1536)) else 0

theorem u_apply (b : Fin 8) (r : Fin 4352) (n : Fin 1536) : val_main_v48 (F := Ideal) x0 x1 x2 x3 x4 x5 (ix3 b r n) = proj x0 x1 x2 x3 x4 x5 b r n.val := by
  have hr := r.isLt
  unfold val_main_v48 proj
  rw [dif_pos n.isLt]
  by_cases h : r.val < 256
  · refine (concatenate_apply_piece (t := S8x4352x1536) 1 [⟨S8x256x1536, val_main_v46 (F := Ideal) x1 x3 x4 x5⟩, ⟨S8x4096x1536, val_main_v47 (F := Ideal) x0 x2 x4 x5⟩]
      concatenates_S8x256x1536_S8x4096x1536_S8x4352x1536_d1 (ix3 b r n)
      0 (by show 0 < 2; decide) S8x256x1536 _ rfl rfl 0 rfl (ix3 b (⟨r.val, h⟩ : Fin 256) n)
      (fun a ha => match a with | ⟨0, _⟩ => rfl | ⟨1, _⟩ => absurd rfl ha | ⟨2, _⟩ => rfl) (by show 0 + r.val = r.val; omega)).trans ?_
    refine (val_main_v46_apply x1 x3 x4 x5 _).trans (Finset.sum_congr rfl fun k _ => congrArg₂ (· * ·) ?_ ?_)
    · refine Eq.trans (congrArg (Cert.Reference3Ideal.Read.val_main_v45 (F := Ideal) x1 x3 x4) ?_) (Cert.InpRef.ctx_apply x0 x1 x2 x3 x4 b (⟨r.val, h⟩ : Fin 256) k r rfl)
      exact funext fun a => match a with | ⟨0, _⟩ => rfl | ⟨1, _⟩ => rfl | ⟨2, _⟩ => rfl
    · exact congrArg x5 (funext fun a => match a with | ⟨0, _⟩ => rfl | ⟨1, _⟩ => rfl)
  · refine (concatenate_apply_piece (t := S8x4352x1536) 1 [⟨S8x256x1536, val_main_v46 (F := Ideal) x1 x3 x4 x5⟩, ⟨S8x4096x1536, val_main_v47 (F := Ideal) x0 x2 x4 x5⟩]
      concatenates_S8x256x1536_S8x4096x1536_S8x4352x1536_d1 (ix3 b r n)
      1 (by show 1 < 2; decide) S8x4096x1536 _ rfl rfl 256 rfl (ix3 b (⟨r.val - 256, by omega⟩ : Fin 4096) n)
      (fun a ha => match a with | ⟨0, _⟩ => rfl | ⟨1, _⟩ => absurd rfl ha | ⟨2, _⟩ => rfl) (by show 256 + (r.val - 256) = r.val; omega)).trans ?_
    refine (val_main_v47_apply x0 x2 x4 x5 _).trans (Finset.sum_congr rfl fun k _ => congrArg₂ (· * ·) ?_ ?_)
    · refine Eq.trans (congrArg (Cert.Reference3Ideal.Read.val_main_v26 (F := Ideal) x0 x2 x4) ?_) (Cert.InpRef.lat_apply x0 x1 x2 x3 x4 b (⟨r.val - 256, by omega⟩ : Fin 4096) k r (by show r.val = 256 + (r.val - 256); omega))
      exact funext fun a => match a with | ⟨0, _⟩ => rfl | ⟨1, _⟩ => rfl | ⟨2, _⟩ => rfl
    · exact congrArg x5 (funext fun a => match a with | ⟨0, _⟩ => rfl | ⟨1, _⟩ => rfl)

theorem head58_apply (b : Fin 8) (r : Fin 4352) (h : Fin 8) (e : Fin 64) : val_main_v58 (F := Ideal) x0 x1 x2 x3 x4 x5 (ix4 b r h e) = proj x0 x1 x2 x3 x4 x5 b r (0 + 64 * h.val + e.val) := by
  have hb := b.isLt
  have hr := r.isLt
  have hh := h.isLt
  have he := e.isLt
  unfold val_main_v58
  refine (shapeCast_apply _ shapeCasts_S8x4352x512_S8x4352x8x64 (ix4 b r h e) (ix3 b r (⟨64 * h.val + e.val, by omega⟩ : Fin 512)) (by
    rw [Shape.rowMajor_val_three, Shape.rowMajor_val_four]
    show (b.val * 4352 + r.val) * 512 + (64 * h.val + e.val) = ((b.val * 4352 + r.val) * 8 + h.val) * 64 + e.val; omega)).trans ?_
  rw [val_main_v49_apply]
  have key := u_apply x0 x1 x2 x3 x4 x5 b r (⟨0 + 64 * h.val + e.val, by omega⟩ : Fin 1536)
  refine Eq.trans (congrArg (val_main_v48 (F := Ideal) x0 x1 x2 x3 x4 x5) (show _ = ix3 b r (⟨0 + 64 * h.val + e.val, by omega⟩ : Fin 1536) from
    funext fun a => Fin.ext (match a with | ⟨0, _⟩ => rfl | ⟨1, _⟩ => rfl | ⟨2, _⟩ => ?_))) key
  show 64 * h.val + e.val = 0 + 64 * h.val + e.val
  omega

theorem head91_apply (b : Fin 8) (r : Fin 4352) (h : Fin 2) (e : Fin 64) : val_main_v91 (F := Ideal) x0 x1 x2 x3 x4 x5 (ix4 b r h e) = proj x0 x1 x2 x3 x4 x5 b r (512 + 64 * h.val + e.val) := by
  have hb := b.isLt
  have hr := r.isLt
  have hh := h.isLt
  have he := e.isLt
  unfold val_main_v91
  refine (shapeCast_apply _ shapeCasts_S8x4352x128_S8x4352x2x64 (ix4 b r h e) (ix3 b r (⟨64 * h.val + e.val, by omega⟩ : Fin 128)) (by
    rw [Shape.rowMajor_val_three, Shape.rowMajor_val_four]
    show (b.val * 4352 + r.val) * 128 + (64 * h.val + e.val) = ((b.val * 4352 + r.val) * 2 + h.val) * 64 + e.val; omega)).trans ?_
  rw [val_main_v50_apply]
  have key := u_apply x0 x1 x2 x3 x4 x5 b r (⟨512 + 64 * h.val + e.val, by omega⟩ : Fin 1536)
  refine Eq.trans (congrArg (val_main_v48 (F := Ideal) x0 x1 x2 x3 x4 x5) (show _ = ix3 b r (⟨512 + 64 * h.val + e.val, by omega⟩ : Fin 1536) from
    funext fun a => Fin.ext (match a with | ⟨0, _⟩ => rfl | ⟨1, _⟩ => rfl | ⟨2, _⟩ => ?_))) key
  show 512 + (64 * h.val + e.val) = 512 + 64 * h.val + e.val
  omega

theorem head122_apply (b : Fin 8) (r : Fin 4352) (h : Fin 2) (e : Fin 64) : val_main_v122 (F := Ideal) x0 x1 x2 x3 x4 x5 (ix4 b r h e) = proj x0 x1 x2 x3 x4 x5 b r (640 + 64 * h.val + e.val) := by
  have hb := b.isLt
  have hr := r.isLt
  have hh := h.isLt
  have he := e.isLt
  unfold val_main_v122
  refine (shapeCast_apply _ shapeCasts_S8x4352x128_S8x4352x2x64 (ix4 b r h e) (ix3 b r (⟨64 * h.val + e.val, by omega⟩ : Fin 128)) (by
    rw [Shape.rowMajor_val_three, Shape.rowMajor_val_four]
    show (b.val * 4352 + r.val) * 128 + (64 * h.val + e.val) = ((b.val * 4352 + r.val) * 2 + h.val) * 64 + e.val; omega)).trans ?_
  rw [val_main_v51_apply]
  have key := u_apply x0 x1 x2 x3 x4 x5 b r (⟨640 + 64 * h.val + e.val, by omega⟩ : Fin 1536)
  refine Eq.trans (congrArg (val_main_v48 (F := Ideal) x0 x1 x2 x3 x4 x5) (show _ = ix3 b r (⟨640 + 64 * h.val + e.val, by omega⟩ : Fin 1536) from
    funext fun a => Fin.ext (match a with | ⟨0, _⟩ => rfl | ⟨1, _⟩ => rfl | ⟨2, _⟩ => ?_))) key
  show 640 + (64 * h.val + e.val) = 640 + 64 * h.val + e.val
  omega

theorem head126_apply (b : Fin 8) (r : Fin 4352) (h : Fin 8) (e : Fin 64) : val_main_v126 (F := Ideal) x0 x1 x2 x3 x4 x5 (ix4 b r h e) = proj x0 x1 x2 x3 x4 x5 b r (768 + 64 * h.val + e.val) := by
  have hb := b.isLt
  have hr := r.isLt
  have hh := h.isLt
  have he := e.isLt
  unfold val_main_v126
  refine (shapeCast_apply _ shapeCasts_S8x4352x512_S8x4352x8x64 (ix4 b r h e) (ix3 b r (⟨64 * h.val + e.val, by omega⟩ : Fin 512)) (by
    rw [Shape.rowMajor_val_three, Shape.rowMajor_val_four]
    show (b.val * 4352 + r.val) * 512 + (64 * h.val + e.val) = ((b.val * 4352 + r.val) * 8 + h.val) * 64 + e.val; omega)).trans ?_
  rw [val_main_v52_apply]
  have key := u_apply x0 x1 x2 x3 x4 x5 b r (⟨768 + 64 * h.val + e.val, by omega⟩ : Fin 1536)
  refine Eq.trans (congrArg (val_main_v48 (F := Ideal) x0 x1 x2 x3 x4 x5) (show _ = ix3 b r (⟨768 + 64 * h.val + e.val, by omega⟩ : Fin 1536) from
    funext fun a => Fin.ext (match a with | ⟨0, _⟩ => rfl | ⟨1, _⟩ => rfl | ⟨2, _⟩ => ?_))) key
  show 768 + (64 * h.val + e.val) = 768 + 64 * h.val + e.val
  omega

theorem head172_apply (b : Fin 8) (r : Fin 4352) (h : Fin 2) (e : Fin 64) : val_main_v172 (F := Ideal) x0 x1 x2 x3 x4 x5 (ix4 b r h e) = proj x0 x1 x2 x3 x4 x5 b r (1280 + 64 * h.val + e.val) := by
  have hb := b.isLt
  have hr := r.isLt
  have hh := h.isLt
  have he := e.isLt
  unfold val_main_v172
  refine (shapeCast_apply _ shapeCasts_S8x4352x128_S8x4352x2x64 (ix4 b r h e) (ix3 b r (⟨64 * h.val + e.val, by omega⟩ : Fin 128)) (by
    rw [Shape.rowMajor_val_three, Shape.rowMajor_val_four]
    show (b.val * 4352 + r.val) * 128 + (64 * h.val + e.val) = ((b.val * 4352 + r.val) * 2 + h.val) * 64 + e.val; omega)).trans ?_
  rw [val_main_v53_apply]
  have key := u_apply x0 x1 x2 x3 x4 x5 b r (⟨1280 + 64 * h.val + e.val, by omega⟩ : Fin 1536)
  refine Eq.trans (congrArg (val_main_v48 (F := Ideal) x0 x1 x2 x3 x4 x5) (show _ = ix3 b r (⟨1280 + 64 * h.val + e.val, by omega⟩ : Fin 1536) from
    funext fun a => Fin.ext (match a with | ⟨0, _⟩ => rfl | ⟨1, _⟩ => rfl | ⟨2, _⟩ => ?_))) key
  show 1280 + (64 * h.val + e.val) = 1280 + 64 * h.val + e.val
  omega

theorem head216_apply (b : Fin 8) (r : Fin 4352) (h : Fin 2) (e : Fin 64) : val_main_v216 (F := Ideal) x0 x1 x2 x3 x4 x5 (ix4 b r h e) = proj x0 x1 x2 x3 x4 x5 b r (1408 + 64 * h.val + e.val) := by
  have hb := b.isLt
  have hr := r.isLt
  have hh := h.isLt
  have he := e.isLt
  unfold val_main_v216
  refine (shapeCast_apply _ shapeCasts_S8x4352x128_S8x4352x2x64 (ix4 b r h e) (ix3 b r (⟨64 * h.val + e.val, by omega⟩ : Fin 128)) (by
    rw [Shape.rowMajor_val_three, Shape.rowMajor_val_four]
    show (b.val * 4352 + r.val) * 128 + (64 * h.val + e.val) = ((b.val * 4352 + r.val) * 2 + h.val) * 64 + e.val; omega)).trans ?_
  rw [val_main_v54_apply]
  have key := u_apply x0 x1 x2 x3 x4 x5 b r (⟨1408 + 64 * h.val + e.val, by omega⟩ : Fin 1536)
  refine Eq.trans (congrArg (val_main_v48 (F := Ideal) x0 x1 x2 x3 x4 x5) (show _ = ix3 b r (⟨1408 + 64 * h.val + e.val, by omega⟩ : Fin 1536) from
    funext fun a => Fin.ext (match a with | ⟨0, _⟩ => rfl | ⟨1, _⟩ => rfl | ⟨2, _⟩ => ?_))) key
  show 1408 + (64 * h.val + e.val) = 1408 + 64 * h.val + e.val
  omega

theorem normed126_apply (b : Fin 8) (r : Fin 4352) (h : Fin 8) (e : Fin 64) : val_main_v139 (F := Ideal) x0 x1 x2 x3 x4 x5 x6 (ix4 b r h e)
    = hn (fun d => if hd : d < 64 then x6 (ix1 (⟨d, hd⟩ : Fin 64)) else 0) (fun d => proj x0 x1 x2 x3 x4 x5 b r (768 + 64 * h.val + d)) e.val := by
  rw [val_main_v139_apply, val_main_v136_apply]
  unfold hn
  refine congrArg₂ (· * ·) (congrArg₂ (· * ·) (head126_apply x0 x1 x2 x3 x4 x5 b r h e) ?_) ?_
  · rw [val_main_v135_apply, val_main_v134_apply, val_main_v133_apply, val_main_v131_apply, val_main_v129_apply, val_main_v132_apply, val_main_v130_apply, val_main_v128_apply]
    refine congrArg Ideal.rsqrt (congrArg (· + _) (congrArg (Ideal.div · _) ?_))
    refine (congrArg (· + _) Ideal.ofBits_zero_f32).trans ((zero_add _).trans (Finset.sum_congr rfl fun j _ => ?_))
    rw [val_main_v127_apply]
    have hj := head126_apply x0 x1 x2 x3 x4 x5 b r h j
    exact congrArg₂ (· * ·) (Eq.trans (congrArg (val_main_v126 (F := Ideal) x0 x1 x2 x3 x4 x5) (funext fun a => match a with | ⟨0, _⟩ => rfl | ⟨1, _⟩ => rfl | ⟨2, _⟩ => rfl | ⟨3, _⟩ => rfl)) hj)
      (Eq.trans (congrArg (val_main_v126 (F := Ideal) x0 x1 x2 x3 x4 x5) (funext fun a => match a with | ⟨0, _⟩ => rfl | ⟨1, _⟩ => rfl | ⟨2, _⟩ => rfl | ⟨3, _⟩ => rfl)) hj)
  · rw [val_main_v138_apply, val_main_v137_apply]
    refine Eq.trans ?_ (dif_pos e.isLt).symm
    exact congrArg x6 (funext fun a => match a with | ⟨0, _⟩ => rfl)

theorem normed172_apply (b : Fin 8) (r : Fin 4352) (h : Fin 2) (e : Fin 64) : val_main_v185 (F := Ideal) x0 x1 x2 x3 x4 x5 x7 (ix4 b r h e)
    = hn (fun d => if hd : d < 64 then x7 (ix1 (⟨d, hd⟩ : Fin 64)) else 0) (fun d => proj x0 x1 x2 x3 x4 x5 b r (1280 + 64 * h.val + d)) e.val := by
  rw [val_main_v185_apply, val_main_v182_apply]
  unfold hn
  refine congrArg₂ (· * ·) (congrArg₂ (· * ·) (head172_apply x0 x1 x2 x3 x4 x5 b r h e) ?_) ?_
  · rw [val_main_v181_apply, val_main_v180_apply, val_main_v179_apply, val_main_v177_apply, val_main_v175_apply, val_main_v178_apply, val_main_v176_apply, val_main_v174_apply]
    refine congrArg Ideal.rsqrt (congrArg (· + _) (congrArg (Ideal.div · _) ?_))
    refine (congrArg (· + _) Ideal.ofBits_zero_f32).trans ((zero_add _).trans (Finset.sum_congr rfl fun j _ => ?_))
    rw [val_main_v173_apply]
    have hj := head172_apply x0 x1 x2 x3 x4 x5 b r h j
    exact congrArg₂ (· * ·) (Eq.trans (congrArg (val_main_v172 (F := Ideal) x0 x1 x2 x3 x4 x5) (funext fun a => match a with | ⟨0, _⟩ => rfl | ⟨1, _⟩ => rfl | ⟨2, _⟩ => rfl | ⟨3, _⟩ => rfl)) hj)
      (Eq.trans (congrArg (val_main_v172 (F := Ideal) x0 x1 x2 x3 x4 x5) (funext fun a => match a with | ⟨0, _⟩ => rfl | ⟨1, _⟩ => rfl | ⟨2, _⟩ => rfl | ⟨3, _⟩ => rfl)) hj)
  · rw [val_main_v184_apply, val_main_v183_apply]
    refine Eq.trans ?_ (dif_pos e.isLt).symm
    exact congrArg x7 (funext fun a => match a with | ⟨0, _⟩ => rfl)

theorem v86_eq : val_main_v86 (F := Ideal) x0 x1 x2 x3 x4 x5 x8 x9 = rotRef8 (val_main_v58 (F := Ideal) x0 x1 x2 x3 x4 x5) x8 x9 := rfl

theorem qs_apply (b : Fin 8) (h : Fin 8) (r : Fin 4352) (d : Fin 64) : val_main_v90 (F := Ideal) x0 x1 x2 x3 x4 x5 x8 x9 (ix4 b h r d)
    = rot (256 ≤ r.val) (tb x8 r) (tb x9 r) (fun e => proj x0 x1 x2 x3 x4 x5 b r (0 + 64 * h.val + e)) d.val * Ideal.ofBits .f32 0x3E38AA3B#32 := by
  refine (val_main_v90_apply (F := Ideal) x0 x1 x2 x3 x4 x5 x8 x9 _).trans ?_
  show val_main_v89 (F := Ideal) x0 x1 x2 x3 x4 x5 x8 x9 (ix4 b h r d) = _
  rw [val_main_v89_apply]
  rw [val_main_v88_apply, val_main_v87_apply]
  exact congrArg (· * _) (Eq.trans (congrArg (val_main_v86 (F := Ideal) x0 x1 x2 x3 x4 x5 x8 x9) (show _ = ix4 b r h d from (funext fun a => match a with | ⟨0, _⟩ => rfl | ⟨1, _⟩ => rfl | ⟨2, _⟩ => rfl | ⟨3, _⟩ => rfl))) ((congrFun (v86_eq x0 x1 x2 x3 x4 x5 x8 x9) (ix4 b r h d)).trans (rotRef8_apply _ x8 x9 b r h d (fun e => proj x0 x1 x2 x3 x4 x5 b r (0 + 64 * h.val + e)) (head58_apply x0 x1 x2 x3 x4 x5 b r h))))

theorem v119_eq : val_main_v119 (F := Ideal) x0 x1 x2 x3 x4 x5 x8 x9 = rotRef2 (val_main_v91 (F := Ideal) x0 x1 x2 x3 x4 x5) x8 x9 := rfl

theorem ks_apply (b : Fin 8) (h : Fin 2) (r : Fin 4352) (d : Fin 64) : val_main_v121 (F := Ideal) x0 x1 x2 x3 x4 x5 x8 x9 (ix4 b h r d)
    = rot (256 ≤ r.val) (tb x8 r) (tb x9 r) (fun e => proj x0 x1 x2 x3 x4 x5 b r (512 + 64 * h.val + e)) d.val := by
  refine (val_main_v121_apply (F := Ideal) x0 x1 x2 x3 x4 x5 x8 x9 _).trans ?_
  show val_main_v120 (F := Ideal) x0 x1 x2 x3 x4 x5 x8 x9 (ix4 b h r d) = _
  rw [val_main_v120_apply]
  exact Eq.trans (congrArg (val_main_v119 (F := Ideal) x0 x1 x2 x3 x4 x5 x8 x9) (show _ = ix4 b r h d from (funext fun a => match a with | ⟨0, _⟩ => rfl | ⟨1, _⟩ => rfl | ⟨2, _⟩ => rfl | ⟨3, _⟩ => rfl))) ((congrFun (v119_eq x0 x1 x2 x3 x4 x5 x8 x9) (ix4 b r h d)).trans (rotRef2_apply _ x8 x9 b r h d (fun e => proj x0 x1 x2 x3 x4 x5 b r (512 + 64 * h.val + e)) (head91_apply x0 x1 x2 x3 x4 x5 b r h)))

theorem v167_eq : val_main_v167 (F := Ideal) x0 x1 x2 x3 x4 x5 x6 x8 x9 = rotRef8 (val_main_v139 (F := Ideal) x0 x1 x2 x3 x4 x5 x6) x8 x9 := rfl

theorem qd_apply (b : Fin 8) (h : Fin 8) (r : Fin 4352) (d : Fin 64) : val_main_v171 (F := Ideal) x0 x1 x2 x3 x4 x5 x6 x8 x9 (ix4 b h r d)
    = rot (256 ≤ r.val) (tb x8 r) (tb x9 r) (hn (fun d => if hd : d < 64 then x6 (ix1 (⟨d, hd⟩ : Fin 64)) else 0) (fun e => proj x0 x1 x2 x3 x4 x5 b r (768 + 64 * h.val + e))) d.val * Ideal.ofBits .f32 0x3E38AA3B#32 := by
  refine (val_main_v171_apply (F := Ideal) x0 x1 x2 x3 x4 x5 x6 x8 x9 _).trans ?_
  show val_main_v170 (F := Ideal) x0 x1 x2 x3 x4 x5 x6 x8 x9 (ix4 b h r d) = _
  rw [val_main_v170_apply]
  rw [val_main_v169_apply, val_main_v168_apply]
  exact congrArg (· * _) (Eq.trans (congrArg (val_main_v167 (F := Ideal) x0 x1 x2 x3 x4 x5 x6 x8 x9) (show _ = ix4 b r h d from (funext fun a => match a with | ⟨0, _⟩ => rfl | ⟨1, _⟩ => rfl | ⟨2, _⟩ => rfl | ⟨3, _⟩ => rfl))) ((congrFun (v167_eq x0 x1 x2 x3 x4 x5 x6 x8 x9) (ix4 b r h d)).trans (rotRef8_apply _ x8 x9 b r h d (hn (fun d => if hd : d < 64 then x6 (ix1 (⟨d, hd⟩ : Fin 64)) else 0) (fun e => proj x0 x1 x2 x3 x4 x5 b r (768 + 64 * h.val + e))) (normed126_apply x0 x1 x2 x3 x4 x5 x6 b r h))))

theorem v213_eq : val_main_v213 (F := Ideal) x0 x1 x2 x3 x4 x5 x7 x8 x9 = rotRef2 (val_main_v185 (F := Ideal) x0 x1 x2 x3 x4 x5 x7) x8 x9 := rfl

theorem kd_apply (b : Fin 8) (h : Fin 2) (r : Fin 4352) (d : Fin 64) : val_main_v215 (F := Ideal) x0 x1 x2 x3 x4 x5 x7 x8 x9 (ix4 b h r d)
    = rot (256 ≤ r.val) (tb x8 r) (tb x9 r) (hn (fun d => if hd : d < 64 then x7 (ix1 (⟨d, hd⟩ : Fin 64)) else 0) (fun e => proj x0 x1 x2 x3 x4 x5 b r (1280 + 64 * h.val + e))) d.val := by
  refine (val_main_v215_apply (F := Ideal) x0 x1 x2 x3 x4 x5 x7 x8 x9 _).trans ?_
  show val_main_v214 (F := Ideal) x0 x1 x2 x3 x4 x5 x7 x8 x9 (ix4 b h r d) = _
  rw [val_main_v214_apply]
  exact Eq.trans (congrArg (val_main_v213 (F := Ideal) x0 x1 x2 x3 x4 x5 x7 x8 x9) (show _ = ix4 b r h d from (funext fun a => match a with | ⟨0, _⟩ => rfl | ⟨1, _⟩ => rfl | ⟨2, _⟩ => rfl | ⟨3, _⟩ => rfl))) ((congrFun (v213_eq x0 x1 x2 x3 x4 x5 x7 x8 x9) (ix4 b r h d)).trans (rotRef2_apply _ x8 x9 b r h d (hn (fun d => if hd : d < 64 then x7 (ix1 (⟨d, hd⟩ : Fin 64)) else 0) (fun e => proj x0 x1 x2 x3 x4 x5 b r (1280 + 64 * h.val + e))) (normed172_apply x0 x1 x2 x3 x4 x5 x7 b r h)))

/-- A one and zeros. -/
theorem tail_apply (b : Fin 8) (r : Fin 4352) (h : Fin 2) (e : Fin 64) : val_main_v57 (F := Ideal) (ix4 b r h e) = if e.val = 0 then (1 : EReal) else 0 := by
  have he := e.isLt
  unfold val_main_v57
  by_cases h0 : e.val = 0
  · rw [if_pos h0]
    refine (concatenate_apply_piece (t := S8x4352x2x64) 3 [⟨S8x4352x2x1, val_main_v55 (F := Ideal)⟩, ⟨S8x4352x2x63, val_main_v56 (F := Ideal)⟩]
      concatenates_S8x4352x2x1_S8x4352x2x63_S8x4352x2x64_d3 (ix4 b r h e)
      0 (by show 0 < 2; decide) S8x4352x2x1 _ rfl rfl 0 rfl (ix4 b r h (0 : Fin 1))
      (fun a ha => match a with | ⟨0, _⟩ => rfl | ⟨1, _⟩ => rfl | ⟨2, _⟩ => rfl | ⟨3, _⟩ => absurd rfl ha) (by show 0 + 0 = e.val; omega)).trans ?_
    exact (val_main_v55_apply _).trans Ideal.ofBits_one_f32
  · rw [if_neg h0]
    refine (concatenate_apply_piece (t := S8x4352x2x64) 3 [⟨S8x4352x2x1, val_main_v55 (F := Ideal)⟩, ⟨S8x4352x2x63, val_main_v56 (F := Ideal)⟩]
      concatenates_S8x4352x2x1_S8x4352x2x63_S8x4352x2x64_d3 (ix4 b r h e)
      1 (by show 1 < 2; decide) S8x4352x2x63 _ rfl rfl 1 rfl (ix4 b r h (⟨e.val - 1, by omega⟩ : Fin 63))
      (fun a ha => match a with | ⟨0, _⟩ => rfl | ⟨1, _⟩ => rfl | ⟨2, _⟩ => rfl | ⟨3, _⟩ => absurd rfl ha) (by show 1 + (e.val - 1) = e.val; omega)).trans ?_
    exact (val_main_v56_apply _).trans Ideal.ofBits_zero_f32

theorem vs_apply (b : Fin 8) (h : Fin 2) (r : Fin 4352) (l : Fin 128) : val_main_v125 (F := Ideal) x0 x1 x2 x3 x4 x5 (ix4 b h r l)
    = wide (fun e => proj x0 x1 x2 x3 x4 x5 b r (640 + 64 * h.val + e)) l.val := by
  have hl := l.isLt
  refine (val_main_v125_apply (F := Ideal) x0 x1 x2 x3 x4 x5 _).trans ?_
  show val_main_v124 (F := Ideal) x0 x1 x2 x3 x4 x5 (ix4 b h r l) = _
  rw [val_main_v124_apply]
  refine Eq.trans (congrArg (val_main_v123 (F := Ideal) x0 x1 x2 x3 x4 x5) (show _ = ix4 b r h l from (funext fun a => match a with | ⟨0, _⟩ => rfl | ⟨1, _⟩ => rfl | ⟨2, _⟩ => rfl | ⟨3, _⟩ => rfl))) ?_
  unfold val_main_v123 wide
  by_cases h64 : l.val < 64
  · rw [if_pos h64]
    refine (concatenate_apply_piece (t := S8x4352x2x128) 3 [⟨S8x4352x2x64, val_main_v122 (F := Ideal) x0 x1 x2 x3 x4 x5⟩, ⟨S8x4352x2x64, val_main_v57 (F := Ideal)⟩]
      concatenates_S8x4352x2x64_S8x4352x2x64_S8x4352x2x128_d3 (ix4 b r h l)
      0 (by show 0 < 2; decide) S8x4352x2x64 _ rfl rfl 0 rfl (ix4 b r h (⟨l.val, h64⟩ : Fin 64))
      (fun a ha => match a with | ⟨0, _⟩ => rfl | ⟨1, _⟩ => rfl | ⟨2, _⟩ => rfl | ⟨3, _⟩ => absurd rfl ha) (by show 0 + l.val = l.val; omega)).trans ?_
    exact head122_apply x0 x1 x2 x3 x4 x5 b r h _
  · rw [if_neg h64]
    refine (concatenate_apply_piece (t := S8x4352x2x128) 3 [⟨S8x4352x2x64, val_main_v122 (F := Ideal) x0 x1 x2 x3 x4 x5⟩, ⟨S8x4352x2x64, val_main_v57 (F := Ideal)⟩]
      concatenates_S8x4352x2x64_S8x4352x2x64_S8x4352x2x128_d3 (ix4 b r h l)
      1 (by show 1 < 2; decide) S8x4352x2x64 _ rfl rfl 64 rfl (ix4 b r h (⟨l.val - 64, by omega⟩ : Fin 64))
      (fun a ha => match a with | ⟨0, _⟩ => rfl | ⟨1, _⟩ => rfl | ⟨2, _⟩ => rfl | ⟨3, _⟩ => absurd rfl ha) (by show 64 + (l.val - 64) = l.val; omega)).trans ?_
    refine (tail_apply b r h _).trans ?_
    show (if l.val - 64 = 0 then (1 : EReal) else 0) = if l.val = 64 then 1 else 0
    by_cases h0 : l.val = 64
    · rw [if_pos h0, if_pos (by omega)]
    · rw [if_neg h0, if_neg (by omega)]

theorem vd_apply (b : Fin 8) (h : Fin 2) (r : Fin 4352) (l : Fin 128) : val_main_v219 (F := Ideal) x0 x1 x2 x3 x4 x5 (ix4 b h r l)
    = wide (fun e => proj x0 x1 x2 x3 x4 x5 b r (1408 + 64 * h.val + e)) l.val := by
  have hl := l.isLt
  refine (val_main_v219_apply (F := Ideal) x0 x1 x2 x3 x4 x5 _).trans ?_
  show val_main_v218 (F := Ideal) x0 x1 x2 x3 x4 x5 (ix4 b h r l) = _
  rw [val_main_v218_apply]
  refine Eq.trans (congrArg (val_main_v217 (F := Ideal) x0 x1 x2 x3 x4 x5) (show _ = ix4 b r h l from (funext fun a => match a with | ⟨0, _⟩ => rfl | ⟨1, _⟩ => rfl | ⟨2, _⟩ => rfl | ⟨3, _⟩ => rfl))) ?_
  unfold val_main_v217 wide
  by_cases h64 : l.val < 64
  · rw [if_pos h64]
    refine (concatenate_apply_piece (t := S8x4352x2x128) 3 [⟨S8x4352x2x64, val_main_v216 (F := Ideal) x0 x1 x2 x3 x4 x5⟩, ⟨S8x4352x2x64, val_main_v57 (F := Ideal)⟩]
      concatenates_S8x4352x2x64_S8x4352x2x64_S8x4352x2x128_d3 (ix4 b r h l)
      0 (by show 0 < 2; decide) S8x4352x2x64 _ rfl rfl 0 rfl (ix4 b r h (⟨l.val, h64⟩ : Fin 64))
      (fun a ha => match a with | ⟨0, _⟩ => rfl | ⟨1, _⟩ => rfl | ⟨2, _⟩ => rfl | ⟨3, _⟩ => absurd rfl ha) (by show 0 + l.val = l.val; omega)).trans ?_
    exact head216_apply x0 x1 x2 x3 x4 x5 b r h _
  · rw [if_neg h64]
    refine (concatenate_apply_piece (t := S8x4352x2x128) 3 [⟨S8x4352x2x64, val_main_v216 (F := Ideal) x0 x1 x2 x3 x4 x5⟩, ⟨S8x4352x2x64, val_main_v57 (F := Ideal)⟩]
      concatenates_S8x4352x2x64_S8x4352x2x64_S8x4352x2x128_d3 (ix4 b r h l)
      1 (by show 1 < 2; decide) S8x4352x2x64 _ rfl rfl 64 rfl (ix4 b r h (⟨l.val - 64, by omega⟩ : Fin 64))
      (fun a ha => match a with | ⟨0, _⟩ => rfl | ⟨1, _⟩ => rfl | ⟨2, _⟩ => rfl | ⟨3, _⟩ => absurd rfl ha) (by show 64 + (l.val - 64) = l.val; omega)).trans ?_
    refine (tail_apply b r h _).trans ?_
    show (if l.val - 64 = 0 then (1 : EReal) else 0) = if l.val = 64 then 1 else 0
    by_cases h0 : l.val = 64
    · rw [if_pos h0, if_pos (by omega)]
    · rw [if_neg h0, if_neg (by omega)]
end Cert.QkvRef

end
-- ==== Proof.Qkv.Fin.lean ====
module

public import proofs.«01_k».proof.Proof.Qkv.Outs
public import proofs.«01_k».proof.Proof.Qkv.Host
public import proofs.«01_k».proof.Proof.Qkv.Ref
public import Idealize.ShloMosaic.Lib.Pipeline.ValueKit.Geometry

@[expose] public section

set_option maxRecDepth 16384

noncomputable section

namespace Cert.QkvFin

open Cert.Kernel6Ideal Cert.Kernel6Ideal.Gen Idealize.ShloMosaic Idealize.ShloMosaic.TcCoe Idealize.ShloMosaic.ValueIdx
open Idealize.ShloMosaic.Pipeline (Dat)
open Idealize.SL.Sem
open Cert.Tok Cert.Qkv Cert.QkvHost Cert.QkvRef
open Cert.InpHost (hArr_apply mArr_apply nArr_apply)
open Cert.Reference6Ideal.Read (val_main_v90 val_main_v121 val_main_v125 val_main_v171 val_main_v215 val_main_v219)
open scoped BigOperators

variable (m : (ℓ : Loc nD τ sig) → Buf (Elt Ideal) ℓ) (c : Dev nD)

theorem idx : ∀ t : Fin cfg0.N, win0_0.index t 0 = win0_8.index t 0
    ∧ win0_0.index t 1 = win0_8.index t 2
    ∧ win0_0.index t 2 = 0
    ∧ win0_1.index t 0 = win0_8.index t 0
    ∧ (win0_1.index t 1 = if win0_8.index t 2 < 1 then 0 else 1)
    ∧ win0_1.index t 2 = 0
    ∧ win0_1.index t 3 = 0
    ∧ win0_2.index t 0 = 0
    ∧ win0_2.index t 1 = 0
    ∧ win0_3.index t 0 = 0
    ∧ win0_3.index t 1 = 0 :=
  (by decide +kernel : ∀ t : Fin grid0.N, win0_0.index t 0 = win0_8.index t 0
    ∧ win0_0.index t 1 = win0_8.index t 2
    ∧ win0_0.index t 2 = 0
    ∧ win0_1.index t 0 = win0_8.index t 0
    ∧ (win0_1.index t 1 = if win0_8.index t 2 < 1 then 0 else 1)
    ∧ win0_1.index t 2 = 0
    ∧ win0_1.index t 3 = 0
    ∧ win0_2.index t 0 = 0
    ∧ win0_2.index t 1 = 0
    ∧ win0_3.index t 0 = 0
    ∧ win0_3.index t 1 = 0)

theorem idxT : ∀ t : Fin cfg0.N, win0_4.index t 0 = win0_8.index t 2 - 1
    ∧ win0_4.index t 1 = 0
    ∧ win0_5.index t 0 = win0_8.index t 2 - 1
    ∧ win0_5.index t 1 = 0
    ∧ win0_6.index t 0 = 0
    ∧ win0_6.index t 1 = 0
    ∧ win0_7.index t 0 = 0
    ∧ win0_7.index t 1 = 0
    ∧ (grid0.coords t 1).val = win0_8.index t 2 :=
  (by decide +kernel : ∀ t : Fin grid0.N, win0_4.index t 0 = win0_8.index t 2 - 1
    ∧ win0_4.index t 1 = 0
    ∧ win0_5.index t 0 = win0_8.index t 2 - 1
    ∧ win0_5.index t 1 = 0
    ∧ win0_6.index t 0 = 0
    ∧ win0_6.index t 1 = 0
    ∧ win0_7.index t 0 = 0
    ∧ win0_7.index t 1 = 0
    ∧ (grid0.coords t 1).val = win0_8.index t 2)

theorem idxO : ∀ t : Fin cfg0.N, win0_8.index t 0 < 8
    ∧ win0_8.index t 1 = 0
    ∧ win0_8.index t 2 < 17
    ∧ win0_8.index t 3 = 0 :=
  (by decide +kernel : ∀ t : Fin grid0.N, win0_8.index t 0 < 8
    ∧ win0_8.index t 1 = 0
    ∧ win0_8.index t 2 < 17
    ∧ win0_8.index t 3 = 0)

theorem idx9 : ∀ t : Fin cfg0.N, win0_9.index t 0 = win0_8.index t 0
    ∧ win0_9.index t 1 = 0
    ∧ win0_9.index t 2 = win0_8.index t 2
    ∧ win0_9.index t 3 = 0 :=
  (by decide +kernel : ∀ t : Fin grid0.N, win0_9.index t 0 = win0_8.index t 0
    ∧ win0_9.index t 1 = 0
    ∧ win0_9.index t 2 = win0_8.index t 2
    ∧ win0_9.index t 3 = 0)

theorem idx10 : ∀ t : Fin cfg0.N, win0_10.index t 0 = win0_8.index t 0
    ∧ win0_10.index t 1 = 0
    ∧ win0_10.index t 2 = win0_8.index t 2
    ∧ win0_10.index t 3 = 0 :=
  (by decide +kernel : ∀ t : Fin grid0.N, win0_10.index t 0 = win0_8.index t 0
    ∧ win0_10.index t 1 = 0
    ∧ win0_10.index t 2 = win0_8.index t 2
    ∧ win0_10.index t 3 = 0)

theorem idx11 : ∀ t : Fin cfg0.N, win0_11.index t 0 = win0_8.index t 0
    ∧ win0_11.index t 1 = 0
    ∧ win0_11.index t 2 = win0_8.index t 2
    ∧ win0_11.index t 3 = 0 :=
  (by decide +kernel : ∀ t : Fin grid0.N, win0_11.index t 0 = win0_8.index t 0
    ∧ win0_11.index t 1 = 0
    ∧ win0_11.index t 2 = win0_8.index t 2
    ∧ win0_11.index t 3 = 0)

theorem idx12 : ∀ t : Fin cfg0.N, win0_12.index t 0 = win0_8.index t 0
    ∧ win0_12.index t 1 = 0
    ∧ win0_12.index t 2 = win0_8.index t 2
    ∧ win0_12.index t 3 = 0 :=
  (by decide +kernel : ∀ t : Fin grid0.N, win0_12.index t 0 = win0_8.index t 0
    ∧ win0_12.index t 1 = 0
    ∧ win0_12.index t 2 = win0_8.index t 2
    ∧ win0_12.index t 3 = 0)

theorem idx13 : ∀ t : Fin cfg0.N, win0_13.index t 0 = win0_8.index t 0
    ∧ win0_13.index t 1 = 0
    ∧ win0_13.index t 2 = win0_8.index t 2
    ∧ win0_13.index t 3 = 0 :=
  (by decide +kernel : ∀ t : Fin grid0.N, win0_13.index t 0 = win0_8.index t 0
    ∧ win0_13.index t 1 = 0
    ∧ win0_13.index t 2 = win0_8.index t 2
    ∧ win0_13.index t 3 = 0)

/-- The tokens' block at point `t`: 256 tokens of batch entry `b`. -/
theorem blk_h (t : Fin cfg0.N) (b : Fin 8) (hb : b.val = win0_8.index t 0) (r : Fin 4352) (a : Fin 256) (hr : r.val = 256 * win0_8.index t 2 + a.val) (k : Fin 1024) :
    iblk m c 0 t (ix3 (0 : Fin 1) a k) = hv (HC m c) (HL m c) b r k := by
  obtain ⟨h0, h1, h2, -⟩ := idx t
  rw [← hArr_apply, ← V_h]
  unfold iblk
  refine congrArg (V m c main_v0) (funext fun x => Fin.ext (((win0_0).rect_emb_val t _ x).trans (match x with
    | ⟨0, _⟩ => ?_ | ⟨1, _⟩ => ?_ | ⟨2, _⟩ => ?_)))
  · show win0_0.index t 0 * 1 + 0 = b.val; omega
  · show win0_0.index t 1 * 256 + a.val = r.val; omega
  · show win0_0.index t 2 * 1024 + k.val = k.val; omega

/-- The modulation's block at point `t`: the tokens' own. -/
theorem blk_m (t : Fin cfg0.N) (b : Fin 8) (hb : b.val = win0_8.index t 0) (r : Fin 4352) (a : Fin 256) (hr : r.val = 256 * win0_8.index t 2 + a.val) (q : Fin 6) (k : Fin 1024) :
    iblk m c 1 t (ix4 (0 : Fin 1) (0 : Fin 1) q k) = mv (MC m c) (ML m c) q b r k := by
  obtain ⟨-, -, -, h0, h1, h2, h3, -⟩ := idx t
  have ha := a.isLt
  have hi : win0_1.index t 1 < 2 := by rw [h1]; split <;> omega
  rw [← mArr_apply (MC m c) (ML m c) b (⟨win0_1.index t 1, hi⟩ : Fin 2) q r k (by
    constructor
    · intro h
      show win0_1.index t 1 = 0
      rw [h1, if_pos (by omega)]
    · intro h
      show win0_1.index t 1 = 1
      rw [h1, if_neg (by omega)]), ← V_m]
  unfold iblk
  refine congrArg (V m c main_v6) (funext fun x => Fin.ext (((win0_1).rect_emb_val t _ x).trans (match x with
    | ⟨0, _⟩ => ?_ | ⟨1, _⟩ => ?_ | ⟨2, _⟩ => ?_ | ⟨3, _⟩ => ?_)))
  · show win0_1.index t 0 * 1 + 0 = b.val; omega
  · show win0_1.index t 1 * 1 + 0 = win0_1.index t 1; omega
  · show win0_1.index t 2 * 6 + q.val = q.val; omega
  · show win0_1.index t 3 * 1024 + k.val = k.val; omega

theorem blk_n (t : Fin cfg0.N) (k : Fin 1024) : iblk m c 2 t (ix2 (0 : Fin 1) k) = NW m c (ix1 k) := by
  obtain ⟨-, -, -, -, -, -, -, h0, h1, -⟩ := idx t
  rw [← nArr_apply (NW m c), ← V_n]
  unfold iblk
  refine congrArg (V m c main_v32) (funext fun x => Fin.ext (((win0_2).rect_emb_val t _ x).trans (match x with | ⟨0, _⟩ => ?_ | ⟨1, _⟩ => ?_)))
  · show win0_2.index t 0 * 1 + 0 = 0; omega
  · show win0_2.index t 1 * 1024 + k.val = k.val; omega

theorem blk_w (t : Fin cfg0.N) (k : Fin 1024) (n : Fin 1536) : iblk m c 3 t (ix2 k n) = WI m c (ix2 k n) := by
  obtain ⟨-, -, -, -, -, -, -, -, -, h0, h1⟩ := idx t
  refine Eq.trans ?_ (congrFun (V_w m c) (ix2 k n))
  unfold iblk
  refine congrArg (V m c main_v31) (funext fun x => Fin.ext (((win0_3).rect_emb_val t _ x).trans (match x with | ⟨0, _⟩ => ?_ | ⟨1, _⟩ => ?_)))
  · show win0_3.index t 0 * 1024 + k.val = k.val; omega
  · show win0_3.index t 1 * 1536 + n.val = n.val; omega

/-- The cosines' block at a point of latent tokens. -/
theorem blk_c (t : Fin cfg0.N) (r : Fin 4352) (a : Fin 256) (hr : r.val = 256 * win0_8.index t 2 + a.val) (hl : 1 ≤ (grid0.coords t 1).val) (n : Fin 128) :
    iblk m c 4 t (ix2 a n) = tb (CO m c) r (n.val % 64 / 2) := by
  obtain ⟨h0, h1, -, -, -, -, -, -, hg⟩ := idxT t
  have hrl := r.isLt
  have hn : n.val % 64 / 2 < 32 := by omega
  unfold tb
  rw [dif_pos hn, ← cos_apply (CO m c) (⟨r.val - 256, by omega⟩ : Fin 4096) n (⟨n.val % 64 / 2, hn⟩ : Fin 32) rfl, ← V_c]
  unfold iblk
  refine congrArg (V m c main_v19) (funext fun x => Fin.ext (((win0_4).rect_emb_val t _ x).trans (match x with | ⟨0, _⟩ => ?_ | ⟨1, _⟩ => ?_)))
  · show win0_4.index t 0 * 256 + a.val = r.val - 256; omega
  · show win0_4.index t 1 * 128 + n.val = n.val; omega

/-- The signed sines' block at a point of latent tokens. -/
theorem blk_s (t : Fin cfg0.N) (r : Fin 4352) (a : Fin 256) (hr : r.val = 256 * win0_8.index t 2 + a.val) (hl : 1 ≤ (grid0.coords t 1).val) (n : Fin 128) :
    iblk m c 5 t (ix2 a n) = if n.val % 2 = 0 then -(tb (SI m c) r (n.val % 64 / 2)) else tb (SI m c) r (n.val % 64 / 2) := by
  obtain ⟨-, -, h0, h1, -, -, -, -, hg⟩ := idxT t
  have hrl := r.isLt
  have hn : n.val % 64 / 2 < 32 := by omega
  unfold tb
  rw [dif_pos hn, ← sin_apply (SI m c) (⟨r.val - 256, by omega⟩ : Fin 4096) n (⟨n.val % 64 / 2, hn⟩ : Fin 32) rfl, ← V_s]
  unfold iblk
  refine congrArg (V m c main_v22) (funext fun x => Fin.ext (((win0_5).rect_emb_val t _ x).trans (match x with | ⟨0, _⟩ => ?_ | ⟨1, _⟩ => ?_)))
  · show win0_5.index t 0 * 256 + a.val = r.val - 256; omega
  · show win0_5.index t 1 * 128 + n.val = n.val; omega

/-- A head's weights, by lane number. -/
def wt (w : FVec Ideal S64 .f32) (d : Nat) : EReal := if hd : d < 64 then w (ix1 (⟨d, hd⟩ : Fin 64)) else 0

theorem blk_q (t : Fin cfg0.N) (l : Fin 512) : iblk m c 6 t (ix2 (0 : Fin 1) l) = wt (QW m c) (l.val % 64) := by
  obtain ⟨-, -, -, -, h0, h1, -⟩ := idxT t
  have hn : l.val % 64 < 64 := Nat.mod_lt _ (by decide)
  unfold wt
  rw [dif_pos hn, ← qArr_apply (QW m c) l (⟨l.val % 64, hn⟩ : Fin 64) rfl, ← V_q]
  unfold iblk
  refine congrArg (V m c main_v26) (funext fun x => Fin.ext (((win0_6).rect_emb_val t _ x).trans (match x with | ⟨0, _⟩ => ?_ | ⟨1, _⟩ => ?_)))
  · show win0_6.index t 0 * 1 + 0 = 0; omega
  · show win0_6.index t 1 * 512 + l.val = l.val; omega

theorem blk_k (t : Fin cfg0.N) (l : Fin 128) : iblk m c 7 t (ix2 (0 : Fin 1) l) = wt (KW m c) (l.val % 64) := by
  obtain ⟨-, -, -, -, -, -, h0, h1, -⟩ := idxT t
  have hn : l.val % 64 < 64 := Nat.mod_lt _ (by decide)
  unfold wt
  rw [dif_pos hn, ← kArr_apply (KW m c) l (⟨l.val % 64, hn⟩ : Fin 64) rfl, ← V_k]
  unfold iblk
  refine congrArg (V m c main_v30) (funext fun x => Fin.ext (((win0_7).rect_emb_val t _ x).trans (match x with | ⟨0, _⟩ => ?_ | ⟨1, _⟩ => ?_)))
  · show win0_7.index t 0 * 1 + 0 = 0; omega
  · show win0_7.index t 1 * 128 + l.val = l.val; omega

/-- A block's row is its token's projection. -/
theorem brow_eq (t : Fin cfg0.N) (a : Fin 256) (b : Fin 8) (hb : b.val = win0_8.index t 0) (r : Fin 4352) (hr : r.val = 256 * win0_8.index t 2 + a.val) (n : Nat) :
    brow (iblk m c 0 t) (iblk m c 1 t) (iblk m c 2 t) (iblk m c 3 t) a n = proj (HL m c) (HC m c) (ML m c) (MC m c) (NW m c) (WI m c) b r n := by
  unfold brow proj
  by_cases h : n < 1536
  · rw [dif_pos h, dif_pos h]
    unfold Cert.InpBody.blockVal
    refine Finset.sum_congr rfl fun k _ => congrArg₂ (· * ·) (nm_congr (funext fun j => ?_) (funext fun j => ?_) (funext fun j => ?_) (funext fun j => ?_) k) ?_
    · exact blk_h m c t b hb r a hr j
    · exact blk_n m c t j
    · exact blk_m m c t b hb r a hr 1 j
    · exact blk_m m c t b hb r a hr 0 j
    · exact blk_w m c t k _
  · rw [dif_neg h, dif_neg h]

/-- With real modulations and weights a token's projection to the dense queries and keys is real. -/
theorem proj_real (hML : ∀ (b : Fin 8) (n : Fin 6144), n.val < 2048 → Real' (ML m c (ix2 b n))) (hMC : ∀ n : Fin 6144, n.val < 2048 → Real' (MC m c (ix2 (0 : Fin 1) n)))
    (hNW : ∀ i, Real' (NW m c i)) (hWI : ∀ (k : Fin 1024) (n : Fin 1536), 768 ≤ n.val → n.val < 1408 → Real' (WI m c (ix2 k n))) (b : Fin 8) (r : Fin 4352) (n : Nat)
    (h0 : 768 ≤ n) (h1 : n < 1408) : Real' (proj (HL m c) (HC m c) (ML m c) (MC m c) (NW m c) (WI m c) b r n) := by
  have hmv : ∀ (q : Fin 6) (_ : q.val < 2) (k : Fin 1024), Real' (mv (MC m c) (ML m c) q b r k) := fun q hq k => by
    have hk := k.isLt
    unfold mv
    split
    · exact hMC _ (by show 1024 * q.val + k.val < 2048; omega)
    · exact hML _ _ (by show 1024 * q.val + k.val < 2048; omega)
  unfold proj
  rw [dif_pos (by omega)]
  exact Real'.sum _ fun k => Real'.mul (nm_real (fun k => hNW _) (hmv 1 (by decide)) (hmv 0 (by decide)) k) (hWI _ _ h0 h1)

/-- Result array 1 after the run. -/
theorem final8 : (dats m 0 c).arrAt 8 cfg0.N = val_main_v90 (F := Ideal) (HL m c) (HC m c) (ML m c) (MC m c) (NW m c) (WI m c) (CO m c) (SI m c) := by
  refine (dats m 0 c).arrAt_eq_of_covers 8 _ (by decide +kernel) fun t hf y => ?_
  obtain ⟨h0, h1, h2, h3⟩ := idxO t
  have hg : (grid0.coords t 1).val = win0_8.index t 2 := (idxT t).2.2.2.2.2.2.2.2
  have hy0 : (y 0).val < 1 := (y 0).isLt
  have hy1 : (y 1).val < 8 := (y 1).isLt
  have hy2 : (y 2).val < 256 := (y 2).isLt
  have hy3 : (y 3).val < 64 := (y 3).isLt
  have e : ((cfg0.win 8).blk t).view.emb y = ix4 (⟨win0_8.index t 0, h0⟩ : Fin 8) (⟨(y 1).val, hy1⟩ : Fin 8) (⟨256 * win0_8.index t 2 + (y 2).val, by omega⟩ : Fin 4352) (⟨(y 3).val, hy3⟩ : Fin 64) :=
    funext fun x => Fin.ext (((win0_8).rect_emb_val t y x).trans (match x with
      | ⟨0, _⟩ => by show win0_8.index t 0 * 1 + (y 0).val = win0_8.index t 0; omega
      | ⟨1, _⟩ => by show win0_8.index t 1 * 8 + (y 1).val = (y 1).val; omega
      | ⟨2, _⟩ => by show win0_8.index t 2 * 256 + (y 2).val = 256 * win0_8.index t 2 + (y 2).val; omega
      | ⟨3, _⟩ => by show win0_8.index t 3 * 64 + (y 3).val = (y 3).val; omega))
  rw [e]
  refine Eq.trans ?_ (qs_apply (HL m c) (HC m c) (ML m c) (MC m c) (NW m c) (WI m c) (CO m c) (SI m c) _ _ _ _).symm
  show (dats m 0 c).after 8 t _ = _
  rw [after0_8]
  refine (out8_apply _ _ _ _ _ _ _ _ _ (⟨(y 2).val, hy2⟩ : Fin 256) (tb (CO m c) (⟨256 * win0_8.index t 2 + (y 2).val, by omega⟩ : Fin 4352)) (tb (SI m c) (⟨256 * win0_8.index t 2 + (y 2).val, by omega⟩ : Fin 4352))
    (fun hp n => blk_c m c t (⟨256 * win0_8.index t 2 + (y 2).val, by omega⟩ : Fin 4352) (⟨(y 2).val, hy2⟩ : Fin 256) rfl hp n) (fun hp n => blk_s m c t (⟨256 * win0_8.index t 2 + (y 2).val, by omega⟩ : Fin 4352) (⟨(y 2).val, hy2⟩ : Fin 256) rfl hp n) y rfl).trans ?_
  refine congrArg (· * _) ?_
  refine rot_congr _ _ ?_ _ hy3 (fun _ => rfl) (fun _ => rfl) (fun e _ => (brow_eq m c t (⟨(y 2).val, hy2⟩ : Fin 256) (⟨win0_8.index t 0, h0⟩ : Fin 8) rfl (⟨256 * win0_8.index t 2 + (y 2).val, by omega⟩ : Fin 4352) rfl _).trans (congrArg _ (by show 64 * (y 1).val + e = 0 + 64 * (y 1).val + e; omega)))
  show 1 ≤ (grid0.coords t 1).val ↔ 256 ≤ 256 * win0_8.index t 2 + (y 2).val
  omega

/-- Result array 2 after the run. -/
theorem final9 : (dats m 0 c).arrAt 9 cfg0.N = val_main_v121 (F := Ideal) (HL m c) (HC m c) (ML m c) (MC m c) (NW m c) (WI m c) (CO m c) (SI m c) := by
  refine (dats m 0 c).arrAt_eq_of_covers 9 _ (by decide +kernel) fun t hf y => ?_
  obtain ⟨h0, h1, h2, h3⟩ := idxO t
  obtain ⟨g0, g1, g2, g3⟩ := idx9 t
  have hg : (grid0.coords t 1).val = win0_8.index t 2 := (idxT t).2.2.2.2.2.2.2.2
  have hy0 : (y 0).val < 1 := (y 0).isLt
  have hy1 : (y 1).val < 2 := (y 1).isLt
  have hy2 : (y 2).val < 256 := (y 2).isLt
  have hy3 : (y 3).val < 64 := (y 3).isLt
  have e : ((cfg0.win 9).blk t).view.emb y = ix4 (⟨win0_8.index t 0, h0⟩ : Fin 8) (⟨(y 1).val, hy1⟩ : Fin 2) (⟨256 * win0_8.index t 2 + (y 2).val, by omega⟩ : Fin 4352) (⟨(y 3).val, hy3⟩ : Fin 64) :=
    funext fun x => Fin.ext (((win0_9).rect_emb_val t y x).trans (match x with
      | ⟨0, _⟩ => by show win0_9.index t 0 * 1 + (y 0).val = win0_8.index t 0; omega
      | ⟨1, _⟩ => by show win0_9.index t 1 * 2 + (y 1).val = (y 1).val; omega
      | ⟨2, _⟩ => by show win0_9.index t 2 * 256 + (y 2).val = 256 * win0_8.index t 2 + (y 2).val; omega
      | ⟨3, _⟩ => by show win0_9.index t 3 * 64 + (y 3).val = (y 3).val; omega))
  rw [e]
  refine Eq.trans ?_ (ks_apply (HL m c) (HC m c) (ML m c) (MC m c) (NW m c) (WI m c) (CO m c) (SI m c) _ _ _ _).symm
  show (dats m 0 c).after 9 t _ = _
  rw [after0_9]
  refine (out9_apply _ _ _ _ _ _ _ _ _ (⟨(y 2).val, hy2⟩ : Fin 256) (tb (CO m c) (⟨256 * win0_8.index t 2 + (y 2).val, by omega⟩ : Fin 4352)) (tb (SI m c) (⟨256 * win0_8.index t 2 + (y 2).val, by omega⟩ : Fin 4352))
    (fun hp n => blk_c m c t (⟨256 * win0_8.index t 2 + (y 2).val, by omega⟩ : Fin 4352) (⟨(y 2).val, hy2⟩ : Fin 256) rfl hp n) (fun hp n => blk_s m c t (⟨256 * win0_8.index t 2 + (y 2).val, by omega⟩ : Fin 4352) (⟨(y 2).val, hy2⟩ : Fin 256) rfl hp n) y rfl).trans ?_
  refine rot_congr _ _ ?_ _ hy3 (fun _ => rfl) (fun _ => rfl) (fun e _ => (brow_eq m c t (⟨(y 2).val, hy2⟩ : Fin 256) (⟨win0_8.index t 0, h0⟩ : Fin 8) rfl (⟨256 * win0_8.index t 2 + (y 2).val, by omega⟩ : Fin 4352) rfl _))
  show 1 ≤ (grid0.coords t 1).val ↔ 256 ≤ 256 * win0_8.index t 2 + (y 2).val
  omega

/-- Result array 3 after the run. -/
theorem final10 : (dats m 0 c).arrAt 10 cfg0.N = val_main_v125 (F := Ideal) (HL m c) (HC m c) (ML m c) (MC m c) (NW m c) (WI m c) := by
  refine (dats m 0 c).arrAt_eq_of_covers 10 _ (by decide +kernel) fun t hf y => ?_
  obtain ⟨h0, h1, h2, h3⟩ := idxO t
  obtain ⟨g0, g1, g2, g3⟩ := idx10 t
  have hg : (grid0.coords t 1).val = win0_8.index t 2 := (idxT t).2.2.2.2.2.2.2.2
  have hy0 : (y 0).val < 1 := (y 0).isLt
  have hy1 : (y 1).val < 2 := (y 1).isLt
  have hy2 : (y 2).val < 256 := (y 2).isLt
  have hy3 : (y 3).val < 128 := (y 3).isLt
  have e : ((cfg0.win 10).blk t).view.emb y = ix4 (⟨win0_8.index t 0, h0⟩ : Fin 8) (⟨(y 1).val, hy1⟩ : Fin 2) (⟨256 * win0_8.index t 2 + (y 2).val, by omega⟩ : Fin 4352) (⟨(y 3).val, hy3⟩ : Fin 128) :=
    funext fun x => Fin.ext (((win0_10).rect_emb_val t y x).trans (match x with
      | ⟨0, _⟩ => by show win0_10.index t 0 * 1 + (y 0).val = win0_8.index t 0; omega
      | ⟨1, _⟩ => by show win0_10.index t 1 * 2 + (y 1).val = (y 1).val; omega
      | ⟨2, _⟩ => by show win0_10.index t 2 * 256 + (y 2).val = 256 * win0_8.index t 2 + (y 2).val; omega
      | ⟨3, _⟩ => by show win0_10.index t 3 * 128 + (y 3).val = (y 3).val; omega))
  rw [e]
  refine Eq.trans ?_ (vs_apply (HL m c) (HC m c) (ML m c) (MC m c) (NW m c) (WI m c) _ _ _ _).symm
  show (dats m 0 c).after 10 t _ = _
  rw [after0_10]
  refine (out10_apply _ _ _ _ _ _ _ _ _ y).trans ?_
  exact wide_congr _ (fun e _ => (brow_eq m c t (⟨(y 2).val, hy2⟩ : Fin 256) (⟨win0_8.index t 0, h0⟩ : Fin 8) rfl (⟨256 * win0_8.index t 2 + (y 2).val, by omega⟩ : Fin 4352) rfl _))

/-- Result array 4 after the run. -/
theorem final11 (hML : ∀ (b : Fin 8) (n : Fin 6144), n.val < 2048 → Real' (ML m c (ix2 b n))) (hMC : ∀ n : Fin 6144, n.val < 2048 → Real' (MC m c (ix2 (0 : Fin 1) n)))
    (hNW : ∀ i, Real' (NW m c i)) (hWI : ∀ (k : Fin 1024) (n : Fin 1536), 768 ≤ n.val → n.val < 1408 → Real' (WI m c (ix2 k n))) : (dats m 0 c).arrAt 11 cfg0.N = val_main_v171 (F := Ideal) (HL m c) (HC m c) (ML m c) (MC m c) (NW m c) (WI m c) (QW m c) (CO m c) (SI m c) := by
  refine (dats m 0 c).arrAt_eq_of_covers 11 _ (by decide +kernel) fun t hf y => ?_
  obtain ⟨h0, h1, h2, h3⟩ := idxO t
  obtain ⟨g0, g1, g2, g3⟩ := idx11 t
  have hg : (grid0.coords t 1).val = win0_8.index t 2 := (idxT t).2.2.2.2.2.2.2.2
  have hy0 : (y 0).val < 1 := (y 0).isLt
  have hy1 : (y 1).val < 8 := (y 1).isLt
  have hy2 : (y 2).val < 256 := (y 2).isLt
  have hy3 : (y 3).val < 64 := (y 3).isLt
  have e : ((cfg0.win 11).blk t).view.emb y = ix4 (⟨win0_8.index t 0, h0⟩ : Fin 8) (⟨(y 1).val, hy1⟩ : Fin 8) (⟨256 * win0_8.index t 2 + (y 2).val, by omega⟩ : Fin 4352) (⟨(y 3).val, hy3⟩ : Fin 64) :=
    funext fun x => Fin.ext (((win0_11).rect_emb_val t y x).trans (match x with
      | ⟨0, _⟩ => by show win0_11.index t 0 * 1 + (y 0).val = win0_8.index t 0; omega
      | ⟨1, _⟩ => by show win0_11.index t 1 * 8 + (y 1).val = (y 1).val; omega
      | ⟨2, _⟩ => by show win0_11.index t 2 * 256 + (y 2).val = 256 * win0_8.index t 2 + (y 2).val; omega
      | ⟨3, _⟩ => by show win0_11.index t 3 * 64 + (y 3).val = (y 3).val; omega))
  rw [e]
  refine Eq.trans ?_ (qd_apply (HL m c) (HC m c) (ML m c) (MC m c) (NW m c) (WI m c) (QW m c) (CO m c) (SI m c) _ _ _ _).symm
  show (dats m 0 c).after 11 t _ = _
  rw [after0_11]
  refine (out11_apply _ _ _ _ _ _ _ _ _ (⟨(y 2).val, hy2⟩ : Fin 256) (tb (CO m c) (⟨256 * win0_8.index t 2 + (y 2).val, by omega⟩ : Fin 4352)) (tb (SI m c) (⟨256 * win0_8.index t 2 + (y 2).val, by omega⟩ : Fin 4352))
    (fun hp n => blk_c m c t (⟨256 * win0_8.index t 2 + (y 2).val, by omega⟩ : Fin 4352) (⟨(y 2).val, hy2⟩ : Fin 256) rfl hp n) (fun hp n => blk_s m c t (⟨256 * win0_8.index t 2 + (y 2).val, by omega⟩ : Fin 4352) (⟨(y 2).val, hy2⟩ : Fin 256) rfl hp n) y rfl (wt (QW m c)) (fun l => blk_q m c t l)
    (fun n h768 h1408 => by
      rw [brow_eq m c t (⟨(y 2).val, hy2⟩ : Fin 256) (⟨win0_8.index t 0, h0⟩ : Fin 8) rfl (⟨256 * win0_8.index t 2 + (y 2).val, by omega⟩ : Fin 4352) rfl _]
      exact proj_real m c hML hMC hNW hWI _ _ _ h768 h1408)).trans ?_
  refine congrArg (· * _) ?_
  refine rot_congr _ _ ?_ _ hy3 (fun _ => rfl) (fun _ => rfl) (fun d hd => hn_congr d hd rfl (fun e _ => (brow_eq m c t (⟨(y 2).val, hy2⟩ : Fin 256) (⟨win0_8.index t 0, h0⟩ : Fin 8) rfl (⟨256 * win0_8.index t 2 + (y 2).val, by omega⟩ : Fin 4352) rfl _)))
  show 1 ≤ (grid0.coords t 1).val ↔ 256 ≤ 256 * win0_8.index t 2 + (y 2).val
  omega

/-- Result array 5 after the run. -/
theorem final12 (hML : ∀ (b : Fin 8) (n : Fin 6144), n.val < 2048 → Real' (ML m c (ix2 b n))) (hMC : ∀ n : Fin 6144, n.val < 2048 → Real' (MC m c (ix2 (0 : Fin 1) n)))
    (hNW : ∀ i, Real' (NW m c i)) (hWI : ∀ (k : Fin 1024) (n : Fin 1536), 768 ≤ n.val → n.val < 1408 → Real' (WI m c (ix2 k n))) : (dats m 0 c).arrAt 12 cfg0.N = val_main_v215 (F := Ideal) (HL m c) (HC m c) (ML m c) (MC m c) (NW m c) (WI m c) (KW m c) (CO m c) (SI m c) := by
  refine (dats m 0 c).arrAt_eq_of_covers 12 _ (by decide +kernel) fun t hf y => ?_
  obtain ⟨h0, h1, h2, h3⟩ := idxO t
  obtain ⟨g0, g1, g2, g3⟩ := idx12 t
  have hg : (grid0.coords t 1).val = win0_8.index t 2 := (idxT t).2.2.2.2.2.2.2.2
  have hy0 : (y 0).val < 1 := (y 0).isLt
  have hy1 : (y 1).val < 2 := (y 1).isLt
  have hy2 : (y 2).val < 256 := (y 2).isLt
  have hy3 : (y 3).val < 64 := (y 3).isLt
  have e : ((cfg0.win 12).blk t).view.emb y = ix4 (⟨win0_8.index t 0, h0⟩ : Fin 8) (⟨(y 1).val, hy1⟩ : Fin 2) (⟨256 * win0_8.index t 2 + (y 2).val, by omega⟩ : Fin 4352) (⟨(y 3).val, hy3⟩ : Fin 64) :=
    funext fun x => Fin.ext (((win0_12).rect_emb_val t y x).trans (match x with
      | ⟨0, _⟩ => by show win0_12.index t 0 * 1 + (y 0).val = win0_8.index t 0; omega
      | ⟨1, _⟩ => by show win0_12.index t 1 * 2 + (y 1).val = (y 1).val; omega
      | ⟨2, _⟩ => by show win0_12.index t 2 * 256 + (y 2).val = 256 * win0_8.index t 2 + (y 2).val; omega
      | ⟨3, _⟩ => by show win0_12.index t 3 * 64 + (y 3).val = (y 3).val; omega))
  rw [e]
  refine Eq.trans ?_ (kd_apply (HL m c) (HC m c) (ML m c) (MC m c) (NW m c) (WI m c) (KW m c) (CO m c) (SI m c) _ _ _ _).symm
  show (dats m 0 c).after 12 t _ = _
  rw [after0_12]
  refine (out12_apply _ _ _ _ _ _ _ _ _ (⟨(y 2).val, hy2⟩ : Fin 256) (tb (CO m c) (⟨256 * win0_8.index t 2 + (y 2).val, by omega⟩ : Fin 4352)) (tb (SI m c) (⟨256 * win0_8.index t 2 + (y 2).val, by omega⟩ : Fin 4352))
    (fun hp n => blk_c m c t (⟨256 * win0_8.index t 2 + (y 2).val, by omega⟩ : Fin 4352) (⟨(y 2).val, hy2⟩ : Fin 256) rfl hp n) (fun hp n => blk_s m c t (⟨256 * win0_8.index t 2 + (y 2).val, by omega⟩ : Fin 4352) (⟨(y 2).val, hy2⟩ : Fin 256) rfl hp n) y rfl (wt (KW m c)) (fun l => blk_k m c t l)
    (fun n h768 h1408 => by
      rw [brow_eq m c t (⟨(y 2).val, hy2⟩ : Fin 256) (⟨win0_8.index t 0, h0⟩ : Fin 8) rfl (⟨256 * win0_8.index t 2 + (y 2).val, by omega⟩ : Fin 4352) rfl _]
      exact proj_real m c hML hMC hNW hWI _ _ _ h768 h1408)).trans ?_
  refine rot_congr _ _ ?_ _ hy3 (fun _ => rfl) (fun _ => rfl) (fun d hd => hn_congr d hd rfl (fun e _ => (brow_eq m c t (⟨(y 2).val, hy2⟩ : Fin 256) (⟨win0_8.index t 0, h0⟩ : Fin 8) rfl (⟨256 * win0_8.index t 2 + (y 2).val, by omega⟩ : Fin 4352) rfl _)))
  show 1 ≤ (grid0.coords t 1).val ↔ 256 ≤ 256 * win0_8.index t 2 + (y 2).val
  omega

/-- Result array 6 after the run. -/
theorem final13 : (dats m 0 c).arrAt 13 cfg0.N = val_main_v219 (F := Ideal) (HL m c) (HC m c) (ML m c) (MC m c) (NW m c) (WI m c) := by
  refine (dats m 0 c).arrAt_eq_of_covers 13 _ (by decide +kernel) fun t hf y => ?_
  obtain ⟨h0, h1, h2, h3⟩ := idxO t
  obtain ⟨g0, g1, g2, g3⟩ := idx13 t
  have hg : (grid0.coords t 1).val = win0_8.index t 2 := (idxT t).2.2.2.2.2.2.2.2
  have hy0 : (y 0).val < 1 := (y 0).isLt
  have hy1 : (y 1).val < 2 := (y 1).isLt
  have hy2 : (y 2).val < 256 := (y 2).isLt
  have hy3 : (y 3).val < 128 := (y 3).isLt
  have e : ((cfg0.win 13).blk t).view.emb y = ix4 (⟨win0_8.index t 0, h0⟩ : Fin 8) (⟨(y 1).val, hy1⟩ : Fin 2) (⟨256 * win0_8.index t 2 + (y 2).val, by omega⟩ : Fin 4352) (⟨(y 3).val, hy3⟩ : Fin 128) :=
    funext fun x => Fin.ext (((win0_13).rect_emb_val t y x).trans (match x with
      | ⟨0, _⟩ => by show win0_13.index t 0 * 1 + (y 0).val = win0_8.index t 0; omega
      | ⟨1, _⟩ => by show win0_13.index t 1 * 2 + (y 1).val = (y 1).val; omega
      | ⟨2, _⟩ => by show win0_13.index t 2 * 256 + (y 2).val = 256 * win0_8.index t 2 + (y 2).val; omega
      | ⟨3, _⟩ => by show win0_13.index t 3 * 128 + (y 3).val = (y 3).val; omega))
  rw [e]
  refine Eq.trans ?_ (vd_apply (HL m c) (HC m c) (ML m c) (MC m c) (NW m c) (WI m c) _ _ _ _).symm
  show (dats m 0 c).after 13 t _ = _
  rw [after0_13]
  refine (out13_apply _ _ _ _ _ _ _ _ _ y).trans ?_
  exact wide_congr _ (fun e _ => (brow_eq m c t (⟨(y 2).val, hy2⟩ : Fin 256) (⟨win0_8.index t 0, h0⟩ : Fin 8) rfl (⟨256 * win0_8.index t 2 + (y 2).val, by omega⟩ : Fin 4352) rfl _))

end Cert.QkvFin

end
-- ==== Proof.Qkv.Claims.lean ====
module

public import proofs.«01_k».proof.Defs
public import proofs.«01_k».proof.Proof.Final
public import proofs.«01_k».proof.Proof.Qkv.Fin
public import proofs.«01_k».proof.Proof.Gen.Pre_finite6
public import proofs.«01_k».proof.Proof.Gen.Kernel6Ideal.Value
public import proofs.«01_k».proof.Proof.Gen.Reference6Ideal.Run
public import Idealize.ShloMosaic.Lib.Quiescent
public import Idealize.ShloMosaic.Lib.Claim

@[expose] public section

set_option maxRecDepth 65536

noncomputable section

namespace Cert.QkvClaims

open Idealize.ShloMosaic Idealize.ShloMosaic.TcCoe Idealize.ShloMosaic.ValueIdx Idealize.SL.Sem
open Cert.Qkv

instance : Subsingleton Cert.Pre_finite6.S_.Idx := ⟨fun a b => funext fun x => x.elim0⟩

/-- Where the precondition holds, the shifts and scales, the norm's weights and the dense queries' and keys' columns are real. -/
theorem finite_real (x0 : FVec Ideal Cert.Pre_finite6.S8x4096x1024 .f32) (x1 : FVec Ideal Cert.Pre_finite6.S8x256x1024 .f32) (x2 : FVec Ideal Cert.Pre_finite6.S8x6144 .f32)
    (x3 : FVec Ideal Cert.Pre_finite6.S1x6144 .f32) (x4 : FVec Ideal Cert.Pre_finite6.S1024 .f32) (x5 : FVec Ideal Cert.Pre_finite6.S1024x1536 .f32)
    (x6 x7 : FVec Ideal Cert.Pre_finite6.S64 .f32) (x8 x9 : FVec Ideal Cert.Pre_finite6.S4096x32 .f32)
    (h : Cert.Pre_finite6.fn (F := Ideal) x0 x1 x2 x3 x4 x5 x6 x7 x8 x9 = fun _ => 1#1) :
    (∀ (b : Fin 8) (n : Fin 6144), n.val < 2048 → Real' (x2 (ix2 b n))) ∧ (∀ n : Fin 6144, n.val < 2048 → Real' (x3 (ix2 (0 : Fin 1) n))) ∧ (∀ i, Real' (x4 i))
      ∧ (∀ (k : Fin 1024) (n : Fin 1536), 768 ≤ n.val → n.val < 1408 → Real' (x5 (ix2 k n))) := by
  have h0 := congrFun h (ix1 (0 : Fin 1))
  obtain ⟨h0, p3⟩ := IntOp.andi_eq_one.1 h0
  obtain ⟨h0, p2⟩ := IntOp.andi_eq_one.1 h0
  obtain ⟨p0, p1⟩ := IntOp.andi_eq_one.1 h0
  refine ⟨fun b n hn => ?_, fun n hn => ?_, fun i => Cert.Final.real_of_lt _ (Host.reduce_andi_all _ _ _ _ _ p2 i), fun k n h768 h1408 => ?_⟩
  · have e := Cert.Final.real_of_lt _ (Host.reduce_andi_all _ _ _ _ _ p0 (ix2 b (⟨n.val, hn⟩ : Fin 2048)))
    beta_reduce at e
    rwa [extractStridedSlice_apply _ _ _ (ix2 b (⟨n.val, hn⟩ : Fin 2048)) (ix2 b n) (fun d => match d with
      | ⟨0, _⟩ => (Nat.zero_add _).symm | ⟨1, _⟩ => (Nat.zero_add _).symm)] at e
  · have e := Cert.Final.real_of_lt _ (Host.reduce_andi_all _ _ _ _ _ p1 (ix2 (0 : Fin 1) (⟨n.val, hn⟩ : Fin 2048)))
    beta_reduce at e
    rwa [extractStridedSlice_apply _ _ _ (ix2 (0 : Fin 1) (⟨n.val, hn⟩ : Fin 2048)) (ix2 (0 : Fin 1) n) (fun d => match d with
      | ⟨0, _⟩ => (Nat.zero_add _).symm | ⟨1, _⟩ => (Nat.zero_add _).symm)] at e
  · have e := Cert.Final.real_of_lt _ (Host.reduce_andi_all _ _ _ _ _ p3 (ix2 k (⟨n.val - 768, by omega⟩ : Fin 640)))
    beta_reduce at e
    rwa [extractStridedSlice_apply _ _ _ (ix2 k (⟨n.val - 768, by omega⟩ : Fin 640)) (ix2 k n) (fun d => match d with
      | ⟨0, _⟩ => (Nat.zero_add _).symm | ⟨1, _⟩ => by show n.val = 768 + (n.val - 768); omega)] at e

/-- The projection's reference runs, leaves its arguments as they were and every counter at zero. -/
theorem ref_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0) :=
  (θ_run _ _ _).mono (fun r h => ⟨fun c => (h c).2.2.2.2.2.2, sem_eq_zero_of_no_sems (by decide) r.2⟩) (Cert.Reference6Ideal.Value.run (F := Ideal) m g)

theorem quiescent_ri : Cert.quiescent_Reference6Ideal := fun m g _ => ref_frame m g
theorem quiescent_ri_pre : Cert.quiescent_Reference6Ideal_pre_finite6 := fun m g _ => ref_frame m g

/-- From equal arguments, the tokens and the projection's weights real, the call and its reference end with equal results. -/
theorem algebraic : Cert.algebraic_Kernel6Ideal_Reference6Ideal_pre_finite6 := by
  intro m g m' g' hpre hag
  refine ⟨fun c => Cert.Reference6Ideal.Read.val_main_v90 (F := Ideal) (Cert.QkvHost.HL m c) (Cert.QkvHost.HC m c) (Cert.QkvHost.ML m c) (Cert.QkvHost.MC m c) (Cert.QkvHost.NW m c) (Cert.QkvHost.WI m c) (Cert.QkvHost.CO m c) (Cert.QkvHost.SI m c),
    fun c => Cert.Reference6Ideal.Read.val_main_v121 (F := Ideal) (Cert.QkvHost.HL m c) (Cert.QkvHost.HC m c) (Cert.QkvHost.ML m c) (Cert.QkvHost.MC m c) (Cert.QkvHost.NW m c) (Cert.QkvHost.WI m c) (Cert.QkvHost.CO m c) (Cert.QkvHost.SI m c),
    fun c => Cert.Reference6Ideal.Read.val_main_v125 (F := Ideal) (Cert.QkvHost.HL m c) (Cert.QkvHost.HC m c) (Cert.QkvHost.ML m c) (Cert.QkvHost.MC m c) (Cert.QkvHost.NW m c) (Cert.QkvHost.WI m c),
    fun c => Cert.Reference6Ideal.Read.val_main_v171 (F := Ideal) (Cert.QkvHost.HL m c) (Cert.QkvHost.HC m c) (Cert.QkvHost.ML m c) (Cert.QkvHost.MC m c) (Cert.QkvHost.NW m c) (Cert.QkvHost.WI m c) (Cert.QkvHost.QW m c) (Cert.QkvHost.CO m c) (Cert.QkvHost.SI m c),
    fun c => Cert.Reference6Ideal.Read.val_main_v215 (F := Ideal) (Cert.QkvHost.HL m c) (Cert.QkvHost.HC m c) (Cert.QkvHost.ML m c) (Cert.QkvHost.MC m c) (Cert.QkvHost.NW m c) (Cert.QkvHost.WI m c) (Cert.QkvHost.KW m c) (Cert.QkvHost.CO m c) (Cert.QkvHost.SI m c),
    fun c => Cert.Reference6Ideal.Read.val_main_v219 (F := Ideal) (Cert.QkvHost.HL m c) (Cert.QkvHost.HC m c) (Cert.QkvHost.ML m c) (Cert.QkvHost.MC m c) (Cert.QkvHost.NW m c) (Cert.QkvHost.WI m c), ?_, ?_⟩
  · refine (θ_run _ _ _).mono (fun r h c => ?_) (Cert.Kernel6Ideal.Value.run_blocks m g)
    obtain ⟨g0, g1, g2, g3⟩ := finite_real _ _ _ _ _ _ _ _ _ _ (hpre c)
    exact ⟨((h c).1).trans (Cert.QkvFin.final8 m c), ((h c).2.1).trans (Cert.QkvFin.final9 m c), ((h c).2.2.1).trans (Cert.QkvFin.final10 m c), ((h c).2.2.2.1).trans (Cert.QkvFin.final11 m c g0 g1 g2 g3), ((h c).2.2.2.2.1).trans (Cert.QkvFin.final12 m c g0 g1 g2 g3), ((h c).2.2.2.2.2.1).trans (Cert.QkvFin.final13 m c), (h c).2.2.2.2.2.2⟩
  · refine (θ_run _ _ _).mono (fun r h c => ⟨((h c).1).trans ?_, ((h c).2.1).trans ?_, ((h c).2.2.1).trans ?_, ((h c).2.2.2.1).trans ?_, ((h c).2.2.2.2.1).trans ?_, ((h c).2.2.2.2.2.1).trans ?_, (h c).2.2.2.2.2.2⟩) (Cert.Reference6Ideal.Value.run (F := Ideal) m' g')
    · obtain ⟨h0, h1, h2, h3, h4, h5, h6, h7, h8, h9⟩ := hag c
      refine (Cert.Reference6Ideal.Read.val_main_v90_eq _).trans ?_
      have e0 : StableHlo.launchContents m' c (Proc.devRef .tc Cert.Reference6Ideal.main_arg0) = Cert.QkvHost.HL m c := h0
      have e1 : StableHlo.launchContents m' c (Proc.devRef .tc Cert.Reference6Ideal.main_arg1) = Cert.QkvHost.HC m c := h1
      have e2 : StableHlo.launchContents m' c (Proc.devRef .tc Cert.Reference6Ideal.main_arg2) = Cert.QkvHost.ML m c := h2
      have e3 : StableHlo.launchContents m' c (Proc.devRef .tc Cert.Reference6Ideal.main_arg3) = Cert.QkvHost.MC m c := h3
      have e4 : StableHlo.launchContents m' c (Proc.devRef .tc Cert.Reference6Ideal.main_arg4) = Cert.QkvHost.NW m c := h4
      have e5 : StableHlo.launchContents m' c (Proc.devRef .tc Cert.Reference6Ideal.main_arg5) = Cert.QkvHost.WI m c := h5
      have e8 : StableHlo.launchContents m' c (Proc.devRef .tc Cert.Reference6Ideal.main_arg8) = Cert.QkvHost.CO m c := h8
      have e9 : StableHlo.launchContents m' c (Proc.devRef .tc Cert.Reference6Ideal.main_arg9) = Cert.QkvHost.SI m c := h9
      rw [e0, e1, e2, e3, e4, e5, e8, e9]
    · obtain ⟨h0, h1, h2, h3, h4, h5, h6, h7, h8, h9⟩ := hag c
      refine (Cert.Reference6Ideal.Read.val_main_v121_eq _).trans ?_
      have e0 : StableHlo.launchContents m' c (Proc.devRef .tc Cert.Reference6Ideal.main_arg0) = Cert.QkvHost.HL m c := h0
      have e1 : StableHlo.launchContents m' c (Proc.devRef .tc Cert.Reference6Ideal.main_arg1) = Cert.QkvHost.HC m c := h1
      have e2 : StableHlo.launchContents m' c (Proc.devRef .tc Cert.Reference6Ideal.main_arg2) = Cert.QkvHost.ML m c := h2
      have e3 : StableHlo.launchContents m' c (Proc.devRef .tc Cert.Reference6Ideal.main_arg3) = Cert.QkvHost.MC m c := h3
      have e4 : StableHlo.launchContents m' c (Proc.devRef .tc Cert.Reference6Ideal.main_arg4) = Cert.QkvHost.NW m c := h4
      have e5 : StableHlo.launchContents m' c (Proc.devRef .tc Cert.Reference6Ideal.main_arg5) = Cert.QkvHost.WI m c := h5
      have e8 : StableHlo.launchContents m' c (Proc.devRef .tc Cert.Reference6Ideal.main_arg8) = Cert.QkvHost.CO m c := h8
      have e9 : StableHlo.launchContents m' c (Proc.devRef .tc Cert.Reference6Ideal.main_arg9) = Cert.QkvHost.SI m c := h9
      rw [e0, e1, e2, e3, e4, e5, e8, e9]
    · obtain ⟨h0, h1, h2, h3, h4, h5, h6, h7, h8, h9⟩ := hag c
      refine (Cert.Reference6Ideal.Read.val_main_v125_eq _).trans ?_
      have e0 : StableHlo.launchContents m' c (Proc.devRef .tc Cert.Reference6Ideal.main_arg0) = Cert.QkvHost.HL m c := h0
      have e1 : StableHlo.launchContents m' c (Proc.devRef .tc Cert.Reference6Ideal.main_arg1) = Cert.QkvHost.HC m c := h1
      have e2 : StableHlo.launchContents m' c (Proc.devRef .tc Cert.Reference6Ideal.main_arg2) = Cert.QkvHost.ML m c := h2
      have e3 : StableHlo.launchContents m' c (Proc.devRef .tc Cert.Reference6Ideal.main_arg3) = Cert.QkvHost.MC m c := h3
      have e4 : StableHlo.launchContents m' c (Proc.devRef .tc Cert.Reference6Ideal.main_arg4) = Cert.QkvHost.NW m c := h4
      have e5 : StableHlo.launchContents m' c (Proc.devRef .tc Cert.Reference6Ideal.main_arg5) = Cert.QkvHost.WI m c := h5
      rw [e0, e1, e2, e3, e4, e5]
    · obtain ⟨h0, h1, h2, h3, h4, h5, h6, h7, h8, h9⟩ := hag c
      refine (Cert.Reference6Ideal.Read.val_main_v171_eq _).trans ?_
      have e0 : StableHlo.launchContents m' c (Proc.devRef .tc Cert.Reference6Ideal.main_arg0) = Cert.QkvHost.HL m c := h0
      have e1 : StableHlo.launchContents m' c (Proc.devRef .tc Cert.Reference6Ideal.main_arg1) = Cert.QkvHost.HC m c := h1
      have e2 : StableHlo.launchContents m' c (Proc.devRef .tc Cert.Reference6Ideal.main_arg2) = Cert.QkvHost.ML m c := h2
      have e3 : StableHlo.launchContents m' c (Proc.devRef .tc Cert.Reference6Ideal.main_arg3) = Cert.QkvHost.MC m c := h3
      have e4 : StableHlo.launchContents m' c (Proc.devRef .tc Cert.Reference6Ideal.main_arg4) = Cert.QkvHost.NW m c := h4
      have e5 : StableHlo.launchContents m' c (Proc.devRef .tc Cert.Reference6Ideal.main_arg5) = Cert.QkvHost.WI m c := h5
      have e6 : StableHlo.launchContents m' c (Proc.devRef .tc Cert.Reference6Ideal.main_arg6) = Cert.QkvHost.QW m c := h6
      have e8 : StableHlo.launchContents m' c (Proc.devRef .tc Cert.Reference6Ideal.main_arg8) = Cert.QkvHost.CO m c := h8
      have e9 : StableHlo.launchContents m' c (Proc.devRef .tc Cert.Reference6Ideal.main_arg9) = Cert.QkvHost.SI m c := h9
      rw [e0, e1, e2, e3, e4, e5, e6, e8, e9]
    · obtain ⟨h0, h1, h2, h3, h4, h5, h6, h7, h8, h9⟩ := hag c
      refine (Cert.Reference6Ideal.Read.val_main_v215_eq _).trans ?_
      have e0 : StableHlo.launchContents m' c (Proc.devRef .tc Cert.Reference6Ideal.main_arg0) = Cert.QkvHost.HL m c := h0
      have e1 : StableHlo.launchContents m' c (Proc.devRef .tc Cert.Reference6Ideal.main_arg1) = Cert.QkvHost.HC m c := h1
      have e2 : StableHlo.launchContents m' c (Proc.devRef .tc Cert.Reference6Ideal.main_arg2) = Cert.QkvHost.ML m c := h2
      have e3 : StableHlo.launchContents m' c (Proc.devRef .tc Cert.Reference6Ideal.main_arg3) = Cert.QkvHost.MC m c := h3
      have e4 : StableHlo.launchContents m' c (Proc.devRef .tc Cert.Reference6Ideal.main_arg4) = Cert.QkvHost.NW m c := h4
      have e5 : StableHlo.launchContents m' c (Proc.devRef .tc Cert.Reference6Ideal.main_arg5) = Cert.QkvHost.WI m c := h5
      have e7 : StableHlo.launchContents m' c (Proc.devRef .tc Cert.Reference6Ideal.main_arg7) = Cert.QkvHost.KW m c := h7
      have e8 : StableHlo.launchContents m' c (Proc.devRef .tc Cert.Reference6Ideal.main_arg8) = Cert.QkvHost.CO m c := h8
      have e9 : StableHlo.launchContents m' c (Proc.devRef .tc Cert.Reference6Ideal.main_arg9) = Cert.QkvHost.SI m c := h9
      rw [e0, e1, e2, e3, e4, e5, e7, e8, e9]
    · obtain ⟨h0, h1, h2, h3, h4, h5, h6, h7, h8, h9⟩ := hag c
      refine (Cert.Reference6Ideal.Read.val_main_v219_eq _).trans ?_
      have e0 : StableHlo.launchContents m' c (Proc.devRef .tc Cert.Reference6Ideal.main_arg0) = Cert.QkvHost.HL m c := h0
      have e1 : StableHlo.launchContents m' c (Proc.devRef .tc Cert.Reference6Ideal.main_arg1) = Cert.QkvHost.HC m c := h1
      have e2 : StableHlo.launchContents m' c (Proc.devRef .tc Cert.Reference6Ideal.main_arg2) = Cert.QkvHost.ML m c := h2
      have e3 : StableHlo.launchContents m' c (Proc.devRef .tc Cert.Reference6Ideal.main_arg3) = Cert.QkvHost.MC m c := h3
      have e4 : StableHlo.launchContents m' c (Proc.devRef .tc Cert.Reference6Ideal.main_arg4) = Cert.QkvHost.NW m c := h4
      have e5 : StableHlo.launchContents m' c (Proc.devRef .tc Cert.Reference6Ideal.main_arg5) = Cert.QkvHost.WI m c := h5
      rw [e0, e1, e2, e3, e4, e5]

end Cert.QkvClaims

end
-- ==== Proof.Win.Soft.lean ====
module

public import proofs.«01_k».proof.Proof.Soft

@[expose] public section

noncomputable section

namespace Cert.WinSoft

open Idealize.ShloMosaic
open scoped BigOperators

/-- An extended real that is a real number or minus infinity. -/
def Low (x : EReal) : Prop := x = ⊥ ∨ ∃ r : ℝ, x = r

theorem low_max {a b : EReal} (ha : Low a) (hb : Low b) : Low (max a b) := by
  rcases max_choice a b with h | h <;> rw [h] <;> assumption

/-- A maximum of real numbers and minus infinities is one of them, or minus infinity. -/
theorem fold_low {n : ℕ} (f : Fin n → EReal) (hf : ∀ j, Low (f j)) : Low ((Finset.univ : Finset (Fin n)).fold max ⊥ f) :=
  (Finset.sup_induction (s := (Finset.univ : Finset (Fin n))) (f := f) (p := Low) (Or.inl rfl) (fun _ ha _ hb => low_max ha hb) (fun j _ => hf j) :
    Low ((Finset.univ : Finset (Fin n)).sup f))

/-- The larger of a real and a real or minus infinity is real. -/
theorem real_max {a b : EReal} (ha : Low a) (hb : ∃ r : ℝ, b = r) : ∃ r : ℝ, max a b = r := by
  obtain ⟨r, rfl⟩ := hb
  rcases ha with rfl | ⟨s, rfl⟩
  · exact ⟨r, max_eq_right bot_le⟩
  · rcases max_choice (s : EReal) (r : EReal) with h | h
    · exact ⟨s, h⟩
    · exact ⟨r, h⟩

/-- A maximum of real numbers and minus infinities, at least one of them real, is real. -/
theorem fold_real {n : ℕ} (f : Fin n → EReal) (hf : ∀ j, Low (f j)) (j0 : Fin n) (h0 : ∃ r : ℝ, f j0 = r) :
    ∃ a : ℝ, (Finset.univ : Finset (Fin n)).fold max ⊥ f = a := by
  rcases fold_low f hf with h | h
  · obtain ⟨r, hr⟩ := h0
    have hle : f j0 ≤ (Finset.univ : Finset (Fin n)).sup f := Finset.le_sup (Finset.mem_univ j0)
    rw [show (Finset.univ : Finset (Fin n)).sup f = ⊥ from h, hr] at hle
    exact absurd (le_bot_iff.1 hle) (EReal.coe_ne_bot r)
  · exact h

/-- A weight in base two is the weight in base `e` times a factor common to the row. -/
theorem exp2_real (T : ℝ) {κ c : ℝ} (hκ : κ * Real.log 2 = c) (a b : ℝ) :
    Ideal.exp2 (((T * κ : ℝ) : EReal) - (a : EReal)) = ((Real.exp (T * c - b) * Real.exp (b - a * Real.log 2) : ℝ) : EReal) := by
  rw [← EReal.coe_sub, Ideal.exp2_coe, ← Real.exp_add]
  refine congrArg _ ?_
  show (2 : ℝ) ^ (T * κ - a) = _
  rw [Real.rpow_def_of_pos (by norm_num)]
  refine congrArg _ ?_
  rw [← hκ]; ring

theorem exp2_mask (p : Prop) [Decidable p] (T : ℝ) {κ c : ℝ} (hκ : κ * Real.log 2 = c) (a b : ℝ) :
    Ideal.exp2 ((if p then ((T * κ : ℝ) : EReal) else ⊥) - (a : EReal))
      = (((if p then Real.exp (T * c - b) else 0) * Real.exp (b - a * Real.log 2) : ℝ) : EReal) := by
  by_cases h : p
  · rw [if_pos h, if_pos h, exp2_real T hκ a b]
  · rw [if_neg h, if_neg h, EReal.bot_sub, zero_mul]; simp

theorem exp_mask (p : Prop) [Decidable p] (T c b : ℝ) :
    Ideal.exp ((if p then ((T * c : ℝ) : EReal) else ⊥) - (b : EReal)) = ((if p then Real.exp (T * c - b) else 0 : ℝ) : EReal) := by
  by_cases h : p
  · rw [if_pos h, if_pos h, ← EReal.coe_sub, Ideal.exp_coe]
  · rw [if_neg h, if_neg h, EReal.bot_sub]; simp

/-- Weights with a common factor, over two groups of keys and a sink, divided by their sum once at the end, against the
    weights without the factor, each divided by their sum. -/
theorem core {n k : ℕ} (A : Fin n → ℝ) (B : Fin k → ℝ) (S C : ℝ) (hA : ∀ j, 0 ≤ A j) (hB : ∀ j, 0 ≤ B j) (hS : 0 < S) (hC : 0 < C)
    (v : Fin n → EReal) (v' : Fin k → EReal) :
    ((∑ j, ((A j * C : ℝ) : EReal) * v j) + ∑ j, ((B j * C : ℝ) : EReal) * v' j)
        * Ideal.div 1 (((∑ j, ((A j * C : ℝ) : EReal) * 1) + ∑ j, ((B j * C : ℝ) : EReal) * 1) + ((S * C : ℝ) : EReal))
      = (∑ j, v j * Ideal.div (A j : EReal) ((S : EReal) + (∑ i, (A i : EReal)) + ∑ i, (B i : EReal)))
        + ∑ j, v' j * Ideal.div (B j : EReal) ((S : EReal) + (∑ i, (A i : EReal)) + ∑ i, (B i : EReal)) := by
  simp only [mul_one]
  rw [← Soft.coe_sum, ← Soft.coe_sum, ← Soft.coe_sum, ← Soft.coe_sum, ← EReal.coe_add, ← EReal.coe_add, ← EReal.coe_add, ← EReal.coe_add]
  have hA' : 0 ≤ ∑ j, A j := Finset.sum_nonneg fun j _ => hA j
  have hB' : 0 ≤ ∑ j, B j := Finset.sum_nonneg fun j _ => hB j
  set L : ℝ := S + (∑ i, A i) + ∑ i, B i with hL
  have hLp : 0 < L := by rw [hL]; linarith
  have e : (∑ j, A j * C) + (∑ j, B j * C) + S * C = L * C := by rw [← Finset.sum_mul, ← Finset.sum_mul, hL]; ring
  rw [e, Ideal.div_coe (by positivity), one_mul,
    EReal.right_distrib_of_nonneg_of_ne_top (by exact_mod_cast (by positivity : (0 : ℝ) ≤ 1 / (L * C))) (EReal.coe_ne_top _),
    Soft.sum_mul_real _ _ (by positivity), Soft.sum_mul_real _ _ (by positivity)]
  refine congrArg₂ (· + ·) (Finset.sum_congr rfl fun j _ => ?_) (Finset.sum_congr rfl fun j _ => ?_)
  · rw [Ideal.div_coe hLp.ne', mul_comm _ (v j), mul_assoc, ← EReal.coe_mul, ← EReal.coe_mul]
    refine congrArg (fun r : ℝ => v j * (r : EReal)) ?_
    field_simp
  · rw [Ideal.div_coe hLp.ne', mul_comm _ (v' j), mul_assoc, ← EReal.coe_mul, ← EReal.coe_mul]
    refine congrArg (fun r : ℝ => v' j * (r : EReal)) ?_
    field_simp

/-- A sum over the sink, the context's keys and the latent keys, group by group. -/
theorem sum_row (f : Fin 4353 → EReal) :
    ∑ j, f j = f (0 : Fin 4353) + (∑ t : Fin 256, f (⟨1 + t.val, by have := t.isLt; omega⟩ : Fin 4353))
      + ∑ t : Fin 4096, f (⟨257 + t.val, by have := t.isLt; omega⟩ : Fin 4353) := by
  refine (Fin.sum_univ_add (a := 257) (b := 4096) f).trans (congrArg₂ (· + ·) ?_ rfl)
  refine (Fin.sum_univ_succ (n := 256) _).trans (congrArg₂ (· + ·) rfl (Finset.sum_congr rfl fun t _ => congrArg f (Fin.ext ?_)))
  show t.val + 1 = 1 + t.val
  omega

/-- A sum over 384 keys in a row is the sum over all keys of what is zero at the others. -/
theorem sum_window (start : ℕ) (hs : start + 384 ≤ 4096) (f : Fin 4096 → EReal)
    (h0 : ∀ t : Fin 4096, (t.val < start ∨ start + 384 ≤ t.val) → f t = 0) :
    ∑ u : Fin 384, f (⟨start + u.val, by have := u.isLt; omega⟩ : Fin 4096) = ∑ t, f t := by
  refine Fintype.sum_of_injective (fun u : Fin 384 => (⟨start + u.val, by have := u.isLt; omega⟩ : Fin 4096))
    (fun a b h => Fin.ext (by have := congrArg Fin.val h; dsimp only at this; omega)) _ f (fun t ht => h0 t ?_) (fun _ => rfl)
  by_contra hc
  exact ht ⟨⟨t.val - start, by omega⟩, Fin.ext (by show start + (t.val - start) = t.val; omega)⟩

theorem near_up : ∀ d : Fin 4096, IntOp.cmpi .sle (IntOp.absi (BitVec.ofNat 32 d.val)) 128#32 = if d.val ≤ 128 then 1#1 else 0#1 := by
  decide +kernel
theorem near_down : ∀ d : Fin 4096, IntOp.cmpi .sle (IntOp.absi (-(BitVec.ofNat 32 d.val))) 128#32 = if d.val ≤ 128 then 1#1 else 0#1 := by
  decide +kernel

/-- The words' comparison of a distance of two positions with 128. -/
theorem near (x y : ℕ) (hx : x < 4096) (hy : y < 4096) :
    IntOp.cmpi .sle (IntOp.absi (IntOp.subi (BitVec.ofNat 32 x) (BitVec.ofNat 32 y))) 128#32
      = if x ≤ y + 128 ∧ y ≤ x + 128 then 1#1 else 0#1 := by
  show IntOp.cmpi .sle (IntOp.absi (BitVec.ofNat 32 x - BitVec.ofNat 32 y)) 128#32 = _
  rcases Nat.le_total y x with h | h
  · obtain ⟨d, rfl⟩ := Nat.exists_eq_add_of_le h
    have e : BitVec.ofNat 32 (y + d) - BitVec.ofNat 32 y = BitVec.ofNat 32 d := by
      rw [BitVec.ofNat_add, BitVec.add_comm, BitVec.add_sub_cancel]
    rw [e]
    refine (near_up ⟨d, by omega⟩).trans (if_congr ⟨fun h => ⟨?_, ?_⟩, fun h => ?_⟩ rfl rfl)
    · have : d ≤ 128 := h
      omega
    · omega
    · show d ≤ 128
      omega
  · obtain ⟨d, rfl⟩ := Nat.exists_eq_add_of_le h
    have e : BitVec.ofNat 32 x - BitVec.ofNat 32 (x + d) = -(BitVec.ofNat 32 d) := by
      refine BitVec.eq_of_toNat_eq ?_
      simp only [BitVec.toNat_sub, BitVec.toNat_neg, BitVec.toNat_ofNat]
      omega
    rw [e]
    refine (near_down ⟨d, by omega⟩).trans (if_congr ⟨fun h => ⟨?_, ?_⟩, fun h => ?_⟩ rfl rfl)
    · omega
    · have : d ≤ 128 := h
      omega
    · show d ≤ 128
      omega

end Cert.WinSoft

end
-- ==== Proof.Win.Tile.lean ====
module

public import proofs.«01_k».proof.Proof.Gen.Kernel7Ideal.Frame
public import Idealize.ShloMosaic.Lib.Pipeline.Value
public import Idealize.ShloMosaic.Lib.ValueIdx
public import Idealize.ShloMosaic.Lib.ValueIdxCoords
public import Idealize.ShloMosaic.Lib.MatmulPlain
public import Idealize.ShloMosaic.Lib.KernelVsHost
public import proofs.«01_k».proof.Proof.Win.Soft

@[expose] public section

set_option maxRecDepth 16384

noncomputable section

namespace Cert.WinTile

open Cert.Kernel7Ideal Cert.Kernel7Ideal.Gen Idealize.ShloMosaic Idealize.ShloMosaic.TcCoe Idealize.ShloMosaic.ValueIdx
open scoped BigOperators

/-- One head's unnormalised output: its rows of the context's weights against the context's packed values, plus its rows of the
    window's weights against the window's. -/
def headOut (P : FVec Ideal S512x256 .bf16) (P' : FVec Ideal S512x384 .bf16) (V : FVec Ideal S256x128 .bf16) (V' : FVec Ideal S384x128 .bf16)
    (o : Nat) (h : S512x256.Slices ![o, 0] S128x256) (h' : S512x384.Slices ![o, 0] S128x384) : FVec Ideal S128x128 .f32 :=
  addf (matmul dot_S128x256_S256x128_S128x128_1_0_0_1_n_n none (extractStridedSlice S128x256 ![o, 0] P h) V (constant S128x128 .f32 0x00000000#32))
    (matmul dot_S128x384_S384x128_S128x128_1_0_0_1_n_n none (extractStridedSlice S128x384 ![o, 0] P' h') V' (constant S128x128 .f32 0x00000000#32))

/-- An unnormalised output times the reciprocal of its lane 64 plus the sink's weight. -/
def normed (O : FVec Ideal S128x128 .f32) (s M : FVec Ideal S512x1 .f32) (o : Nat) (h : S512x1.Slices ![o, 0] S128x1) : FVec Ideal S128x128 .f32 :=
  mulf O (broadcastTo S128x128 (divf (broadcast S128x1 (Scalar.ofBits .f32 0x3F800000#32))
    (addf (extractStridedSlice S128x1 ![0, 64] O slices_S128x128_o0_64_S128x1)
      (exp2 (subf (extractStridedSlice S128x1 ![o, 0] s h) (extractStridedSlice S128x1 ![o, 0] M h))))) broadcasts_S128x1_S128x128)

/-- Two heads' outputs side by side: the first in lanes below 64, the second moved up by 64 lanes. -/
def paired (A B : FVec Ideal S128x128 .f32) : FVec Ideal S128x128 .f32 :=
  select (cmpi .slt (iota .tc S128x128 32 [1] iota_S128x128_d1_w32) (broadcast S128x128 64#32)) A
    (dynamicRotate 1 64#32 none B rotates_S128x128_d1)

/-- The output tile of one key/value head: its four query heads' outputs, side by side. -/
def outTile (P : FVec Ideal S512x256 .bf16) (P' : FVec Ideal S512x384 .bf16) (V : FVec Ideal S256x128 .bf16) (V' : FVec Ideal S384x128 .bf16)
    (s M : FVec Ideal S512x1 .f32) : FVec Ideal S1x128x256 .bf16 :=
  shapeCast S1x128x256 (truncf .bf16 (concatenate S128x256 1
    [⟨S128x128, paired (normed (headOut P P' V V' 0 slices_S512x256_o0_0_S128x256 slices_S512x384_o0_0_S128x384) s M 0 slices_S512x1_o0_0_S128x1)
      (normed (headOut P P' V V' 128 slices_S512x256_o128_0_S128x256 slices_S512x384_o128_0_S128x384) s M 128 slices_S512x1_o128_0_S128x1)⟩,
     ⟨S128x128, paired (normed (headOut P P' V V' 256 slices_S512x256_o256_0_S128x256 slices_S512x384_o256_0_S128x384) s M 256 slices_S512x1_o256_0_S128x1)
      (normed (headOut P P' V V' 384 slices_S512x256_o384_0_S128x256 slices_S512x384_o384_0_S128x384) s M 384 slices_S512x1_o384_0_S128x1)⟩]
    concatenates_S128x128_S128x128_S128x256_d1) bitsLt_bf16_f32) shapeCasts_S128x256_S1x128x256

/-- The tile of one key/value head from what the body loads. -/
def tile (mask : IVec S512x384 1) (q : Vec Ideal S1x4x128x64 .bf16) (k : Vec Ideal S1x1x256x64 .bf16) (k' : Vec Ideal S1x1x384x64 .bf16)
    (v : Vec Ideal S1x1x256x128 .bf16) (v' : Vec Ideal S1x1x384x128 .bf16) (s0 s1 s2 s3 : Vec Ideal S1x1 .f32) : FVec Ideal S1x128x256 .bf16 :=
  outTile (k0_pay25 (k0_pay24 mask (k0_pay17 q) (k0_pay18 q k) k' s0 s1 s2 s3))
    (k0_pay26 (k0_pay19 mask (k0_pay17 q) k') (k0_pay23 mask (k0_pay17 q) (k0_pay18 q k) k' s0 s1 s2 s3))
    (k0_pay20 v) (k0_pay21 v') (k0_pay22 s0 s1 s2 s3) (k0_pay23 mask (k0_pay17 q) (k0_pay18 q k) k' s0 s1 s2 s3)

/-- The second store's payload is that tile. -/
theorem pay1_eq (mask : IVec S512x384 1) (q : Vec Ideal S1x4x128x64 .bf16) (k : Vec Ideal S1x1x256x64 .bf16) (k' : Vec Ideal S1x1x384x64 .bf16)
    (v : Vec Ideal S1x1x256x128 .bf16) (v' : Vec Ideal S1x1x384x128 .bf16) (s0 s1 s2 s3 : Vec Ideal S1x1 .f32) :
    k0_pay1 (k0_pay20 v) (k0_pay21 v') (k0_pay22 s0 s1 s2 s3) (k0_pay23 mask (k0_pay17 q) (k0_pay18 q k) k' s0 s1 s2 s3)
      (k0_pay25 (k0_pay24 mask (k0_pay17 q) (k0_pay18 q k) k' s0 s1 s2 s3))
      (k0_pay26 (k0_pay19 mask (k0_pay17 q) k') (k0_pay23 mask (k0_pay17 q) (k0_pay18 q k) k' s0 s1 s2 s3))
      (iota .tc S128x128 32 [1] iota_S128x128_d1_w32)
      (k0_pay27 (k0_pay19 mask (k0_pay17 q) k') (k0_pay20 v) (k0_pay21 v') (k0_pay22 s0 s1 s2 s3) (k0_pay23 mask (k0_pay17 q) (k0_pay18 q k) k' s0 s1 s2 s3)
        (k0_pay24 mask (k0_pay17 q) (k0_pay18 q k) k' s0 s1 s2 s3))
      (k0_pay28 (k0_pay19 mask (k0_pay17 q) k') (k0_pay20 v) (k0_pay21 v') (k0_pay23 mask (k0_pay17 q) (k0_pay18 q k) k' s0 s1 s2 s3)
        (k0_pay24 mask (k0_pay17 q) (k0_pay18 q k) k' s0 s1 s2 s3))
      (k0_pay29 (k0_pay19 mask (k0_pay17 q) k') (k0_pay20 v) (k0_pay21 v') (k0_pay23 mask (k0_pay17 q) (k0_pay18 q k) k' s0 s1 s2 s3)
        (k0_pay24 mask (k0_pay17 q) (k0_pay18 q k) k' s0 s1 s2 s3))
      (k0_pay30 (k0_pay22 s0 s1 s2 s3) (k0_pay23 mask (k0_pay17 q) (k0_pay18 q k) k' s0 s1 s2 s3))
    = tile mask q k k' v v' s0 s1 s2 s3 := rfl

/-- The first store's payload is that tile. -/
theorem pay16_eq (mask : IVec S512x384 1) (q : Vec Ideal S1x4x128x64 .bf16) (k : Vec Ideal S1x1x256x64 .bf16) (k' : Vec Ideal S1x1x384x64 .bf16)
    (v : Vec Ideal S1x1x256x128 .bf16) (v' : Vec Ideal S1x1x384x128 .bf16) (s0 s1 s2 s3 : Vec Ideal S1x1 .f32) :
    k0_pay16 (k0_pay6 v) (k0_pay7 v') (k0_pay8 s0 s1 s2 s3)
      (k0_pay11 (k0_pay8 s0 s1 s2 s3) (k0_pay9 (k0_pay3 q) k) (k0_pay10 mask (k0_pay3 q) k'))
      (k0_pay12 (k0_pay4 (k0_pay3 q) k) (k0_pay8 s0 s1 s2 s3) (k0_pay9 (k0_pay3 q) k) (k0_pay10 mask (k0_pay3 q) k'))
      (k0_pay13 (k0_pay5 mask (k0_pay3 q) k') (k0_pay8 s0 s1 s2 s3) (k0_pay9 (k0_pay3 q) k) (k0_pay10 mask (k0_pay3 q) k'))
      (iota .tc S128x128 32 [1] iota_S128x128_d1_w32)
      (k0_pay14 (k0_pay4 (k0_pay3 q) k) (k0_pay5 mask (k0_pay3 q) k') (k0_pay6 v) (k0_pay7 v') (k0_pay8 s0 s1 s2 s3) (k0_pay9 (k0_pay3 q) k) (k0_pay10 mask (k0_pay3 q) k'))
      (k0_pay15 (k0_pay4 (k0_pay3 q) k) (k0_pay5 mask (k0_pay3 q) k') (k0_pay6 v) (k0_pay7 v') (k0_pay8 s0 s1 s2 s3) (k0_pay9 (k0_pay3 q) k) (k0_pay10 mask (k0_pay3 q) k'))
    = tile mask q k k' v v' s0 s1 s2 s3 := rfl

/-- One head's unnormalised output at a row and a lane. -/
theorem headOut_apply (P : FVec Ideal S512x256 .bf16) (P' : FVec Ideal S512x384 .bf16) (V : FVec Ideal S256x128 .bf16) (V' : FVec Ideal S384x128 .bf16)
    (o : Nat) (h : S512x256.Slices ![o, 0] S128x256) (h' : S512x384.Slices ![o, 0] S128x384)
    (a : Fin 128) (l : Fin 128) (ho : o + a.val < 512) :
    headOut P P' V V' o h h' (ix2 a l) = (∑ t : Fin 256, P (ix2 (⟨o + a.val, ho⟩ : Fin 512) t) * V (ix2 t l))
      + ∑ t : Fin 384, P' (ix2 (⟨o + a.val, ho⟩ : Fin 512) t) * V' (ix2 t l) := by
  unfold headOut
  rw [addf_apply]
  refine congrArg₂ (fun x y : EReal => x + y) ?_ ?_
  · refine (Ideal.matmul_plain_apply (M := 128) (K := 256) (N := 128) none _ V _ a l).trans ?_
    rw [show (constant (F := Ideal) S128x128 .f32 0x00000000#32) (ix2 a l) = 0 from Ideal.ofBits_zero_f32, zero_add]
    refine Finset.sum_congr rfl fun t _ => congrArg (· * _) ?_
    exact extractStridedSlice_apply _ P h (ix2 a t) (ix2 (⟨o + a.val, ho⟩ : Fin 512) t)
      (fun b => match b with | ⟨0, _⟩ => rfl | ⟨1, _⟩ => by show t.val = 0 + t.val; omega)
  · refine (Ideal.matmul_plain_apply (M := 128) (K := 384) (N := 128) none _ V' _ a l).trans ?_
    rw [show (constant (F := Ideal) S128x128 .f32 0x00000000#32) (ix2 a l) = 0 from Ideal.ofBits_zero_f32, zero_add]
    refine Finset.sum_congr rfl fun t _ => congrArg (· * _) ?_
    exact extractStridedSlice_apply _ P' h' (ix2 a t) (ix2 (⟨o + a.val, ho⟩ : Fin 512) t)
      (fun b => match b with | ⟨0, _⟩ => rfl | ⟨1, _⟩ => by show t.val = 0 + t.val; omega)

/-- A normalised output at a row and a lane. -/
theorem normed_apply (O : FVec Ideal S128x128 .f32) (s M : FVec Ideal S512x1 .f32) (o : Nat) (h : S512x1.Slices ![o, 0] S128x1)
    (a : Fin 128) (l : Fin 128) (r : Fin 512) (hr : r.val = o + a.val) :
    normed O s M o h (ix2 a l) = O (ix2 a l) * Ideal.div 1 (O (ix2 a (64 : Fin 128)) + Ideal.exp2 (s (ix2 r (0 : Fin 1)) - M (ix2 r (0 : Fin 1)))) := by
  have hs : ∀ x : FVec Ideal S512x1 .f32, extractStridedSlice S128x1 ![o, 0] x h (ix2 a (0 : Fin 1)) = x (ix2 r (0 : Fin 1)) := fun x =>
    extractStridedSlice_apply _ x h (ix2 a (0 : Fin 1)) (ix2 r (0 : Fin 1))
      (fun b => match b with | ⟨0, _⟩ => hr | ⟨1, _⟩ => rfl)
  unfold normed
  rw [mulf_apply]
  refine congrArg (O (ix2 a l) * ·) ?_
  rw [broadcastTo_apply _ broadcasts_S128x1_S128x128 (ix2 a l) (ix2 a (0 : Fin 1))
    (fun b => match b with | ⟨0, _⟩ => rfl | ⟨1, _⟩ => rfl), divf_apply]
  refine congrArg₂ Ideal.div Ideal.ofBits_one_f32 ?_
  rw [addf_apply]
  refine congrArg₂ (fun x y : EReal => x + y) ?_ ?_
  · exact extractStridedSlice_apply _ O slices_S128x128_o0_64_S128x1 (ix2 a (0 : Fin 1)) (ix2 a (64 : Fin 128))
      (fun b => match b with | ⟨0, _⟩ => by show a.val = 0 + a.val; omega | ⟨1, _⟩ => rfl)
  · exact congrArg₂ (fun x y : EReal => Ideal.exp2 (x - y)) (hs s) (hs M)

/-- A lane below 64 of the two heads side by side is that lane of the first. -/
theorem paired_lo (A B : FVec Ideal S128x128 .f32) (a : Fin 128) (l : Fin 128) (hl : l.val < 64) :
    paired A B (ix2 a l) = A (ix2 a l) := by
  unfold paired
  rw [select_apply]
  have e : (cmpi .slt (iota .tc S128x128 32 [1] iota_S128x128_d1_w32) (broadcast S128x128 64#32)) (ix2 a l) = 1#1 := by
    show IntOp.cmpi .slt (iota .tc S128x128 32 [1] iota_S128x128_d1_w32 (ix2 a l)) 64#32 = 1#1
    rw [iota_single_apply]
    show IntOp.cmpi .slt (BitVec.ofNat 32 l.val) 64#32 = 1#1
    have : ∀ l : Fin 128, l.val < 64 → IntOp.cmpi .slt (BitVec.ofNat 32 l.val) 64#32 = 1#1 := by decide +kernel
    exact this l hl
  rw [e, select_one]

/-- A lane from 64 on of the two heads side by side is the lane 64 below of the second. -/
theorem paired_hi (A B : FVec Ideal S128x128 .f32) (a : Fin 128) (l : Fin 128) (hl : 64 ≤ l.val) (l' : Fin 128) (h' : l'.val + 64 = l.val) :
    paired A B (ix2 a l) = B (ix2 a l') := by
  unfold paired
  rw [select_apply]
  have e : (cmpi .slt (iota .tc S128x128 32 [1] iota_S128x128_d1_w32) (broadcast S128x128 64#32)) (ix2 a l) = 0#1 := by
    show IntOp.cmpi .slt (iota .tc S128x128 32 [1] iota_S128x128_d1_w32 (ix2 a l)) 64#32 = 0#1
    rw [iota_single_apply]
    show IntOp.cmpi .slt (BitVec.ofNat 32 l.val) 64#32 = 0#1
    have : ∀ l : Fin 128, 64 ≤ l.val → IntOp.cmpi .slt (BitVec.ofNat 32 l.val) 64#32 = 0#1 := by decide +kernel
    exact this l hl
  rw [e, select_zero]
  have hl' := l.isLt
  exact dynamicRotate_apply 1 64#32 B rotates_S128x128_d1 (ix2 a l) (ix2 a l') (fun b => match b with
    | ⟨0, _⟩ => rfl
    | ⟨1, _⟩ => by show l'.val = (l.val + 128 - 64 % 128) % 128; omega)

/-- The output tile at a row and a column: the column's head (of 64 columns) reads its rows of the weights, its lane of the values, and
    divides by the weights' sum, which the values carry in lane 64, plus the sink's weight. -/
theorem outTile_apply (P : FVec Ideal S512x256 .bf16) (P' : FVec Ideal S512x384 .bf16) (V : FVec Ideal S256x128 .bf16) (V' : FVec Ideal S384x128 .bf16)
    (s M : FVec Ideal S512x1 .f32) (z : Fin 1) (a : Fin 128) (n : Fin 256)
    (r : Fin 512) (hr : r.val = 128 * (n.val / 64) + a.val) (l : Fin 128) (hl : l.val = n.val % 64) :
    outTile P P' V V' s M (ix3 z a n)
      = ((∑ t : Fin 256, P (ix2 r t) * V (ix2 t l)) + ∑ t : Fin 384, P' (ix2 r t) * V' (ix2 t l))
        * Ideal.div 1 (((∑ t : Fin 256, P (ix2 r t) * V (ix2 t (64 : Fin 128))) + ∑ t : Fin 384, P' (ix2 r t) * V' (ix2 t (64 : Fin 128)))
          + Ideal.exp2 (s (ix2 r (0 : Fin 1)) - M (ix2 r (0 : Fin 1)))) := by
  have key : ∀ (o : Nat) (h : S512x256.Slices ![o, 0] S128x256) (h' : S512x384.Slices ![o, 0] S128x384) (h'' : S512x1.Slices ![o, 0] S128x1)
      (l' : Fin 128), o + a.val = r.val → l'.val = l.val →
      normed (headOut P P' V V' o h h') s M o h'' (ix2 a l')
        = ((∑ t : Fin 256, P (ix2 r t) * V (ix2 t l)) + ∑ t : Fin 384, P' (ix2 r t) * V' (ix2 t l))
        * Ideal.div 1 (((∑ t : Fin 256, P (ix2 r t) * V (ix2 t (64 : Fin 128))) + ∑ t : Fin 384, P' (ix2 r t) * V' (ix2 t (64 : Fin 128)))
          + Ideal.exp2 (s (ix2 r (0 : Fin 1)) - M (ix2 r (0 : Fin 1)))) := by
    intro o h h' h'' l' ho hl'
    obtain rfl : l' = l := Fin.ext hl'
    rw [normed_apply _ s M o h'' a l' r ho.symm, headOut_apply P P' V V' o h h' a l' (by omega), headOut_apply P P' V V' o h h' a 64 (by omega)]
    rw [show (⟨o + a.val, by omega⟩ : Fin 512) = r from Fin.ext ho]
  unfold outTile
  refine (shapeCast_addUnit_apply (n := 2) ![128, 256] _ shapeCasts_S128x256_S1x128x256 (ix3 z a n)).trans ?_
  rw [show (fun b : Fin 2 => (ix3 z a n) b.succ) = ix2 a n from funext fun b => match b with | ⟨0, _⟩ => rfl | ⟨1, _⟩ => rfl]
  rw [truncf_apply]
  have hn := n.isLt
  by_cases h1 : n.val < 128
  · refine (concatenate_pair_apply_left (t := S128x256) (s₁ := S128x128) (s₂ := S128x128) 1 _ _ concatenates_S128x128_S128x128_S128x256_d1 (ix2 a n) rfl
      (ix2 a (⟨n.val, h1⟩ : Fin 128)) (fun b => match b with | ⟨0, _⟩ => rfl | ⟨1, _⟩ => rfl)).trans ?_
    by_cases h2 : n.val < 64
    · rw [paired_lo _ _ _ _ h2]
      exact key 0 _ _ _ _ (by omega) (by show n.val = l.val; omega)
    · rw [paired_hi _ _ _ _ (by show 64 ≤ n.val; omega) (⟨n.val - 64, by omega⟩ : Fin 128) (by show n.val - 64 + 64 = n.val; omega)]
      exact key 128 _ _ _ _ (by omega) (by show n.val - 64 = l.val; omega)
  · refine (concatenate_pair_apply_right (t := S128x256) (s₁ := S128x128) (s₂ := S128x128) 1 _ _ concatenates_S128x128_S128x128_S128x256_d1 (ix2 a n) rfl rfl
      (ix2 a (⟨n.val - 128, by omega⟩ : Fin 128)) (fun b hb => match b with | ⟨0, _⟩ => rfl | ⟨1, _⟩ => absurd rfl hb)
      (by show n.val - 128 + 128 = n.val; omega)).trans ?_
    by_cases h2 : n.val - 128 < 64
    · rw [paired_lo _ _ _ _ h2]
      exact key 256 _ _ _ _ (by omega) (by show n.val - 128 = l.val; omega)
    · rw [paired_hi _ _ _ _ (by show 64 ≤ n.val - 128; omega) (⟨n.val - 192, by omega⟩ : Fin 128) (by show n.val - 192 + 64 = n.val - 128; omega)]
      exact key 384 _ _ _ _ (by omega) (by show n.val - 192 = l.val; omega)

/-- The stacked queries as a matrix. -/
theorem queries_apply (q : Vec Ideal S1x4x128x64 .bf16) (g : Fin 4) (a : Fin 128) (d : Fin 64) (r : Fin 512) (hr : r.val = 128 * g.val + a.val) :
    k0_pay17 q (ix2 r d) = q (ix4 (0 : Fin 1) g a d) := by
  unfold k0_pay17
  refine (shapeCast_apply _ shapeCasts_S4x128x64_S512x64 (ix2 r d) (ix3 g a d) (by
    rw [Shape.rowMajor_val_three, Shape.rowMajor_val_two]
    show (g.val * 128 + a.val) * 64 + d.val = r.val * 64 + d.val
    rw [hr]; omega)).trans ?_
  exact shapeCast_apply _ shapeCasts_S1x4x128x64_S4x128x64 (ix3 g a d) (ix4 (0 : Fin 1) g a d) (by
    rw [Shape.rowMajor_val_three, Shape.rowMajor_val_four]
    show ((0 * 4 + g.val) * 128 + a.val) * 64 + d.val = (g.val * 128 + a.val) * 64 + d.val
    omega)

/-- A context score. -/
theorem ctx_apply (q : Vec Ideal S1x4x128x64 .bf16) (k : Vec Ideal S1x1x256x64 .bf16) (g : Fin 4) (a : Fin 128) (t : Fin 256)
    (r : Fin 512) (hr : r.val = 128 * g.val + a.val) :
    k0_pay18 q k (ix2 r t) = ∑ d : Fin 64, q (ix4 (0 : Fin 1) g a d) * k (ix4 (0 : Fin 1) (0 : Fin 1) t d) := by
  unfold k0_pay18
  refine (Ideal.matmul_transposedRhs_apply (M := 512) (K := 64) (N := 256) none _ _ _ r t).trans ?_
  rw [show (constant (F := Ideal) S512x256 .f32 0x00000000#32) (ix2 r t) = 0 from Ideal.ofBits_zero_f32, zero_add]
  refine Finset.sum_congr rfl fun d _ => congrArg₂ (· * ·) (queries_apply q g a d r hr) ?_
  exact shapeCast_apply _ shapeCasts_S1x1x256x64_S256x64 (ix2 t d) (ix4 (0 : Fin 1) (0 : Fin 1) t d) (by
    rw [Shape.rowMajor_val_two, Shape.rowMajor_val_four]
    show ((0 * 1 + 0) * 256 + t.val) * 64 + d.val = t.val * 64 + d.val
    omega)

/-- A window score: minus infinity where the mask is not set. -/
theorem lat_apply (mask : IVec S512x384 1) (q : Vec Ideal S1x4x128x64 .bf16) (k : Vec Ideal S1x1x384x64 .bf16) (g : Fin 4) (a : Fin 128) (t : Fin 384)
    (r : Fin 512) (hr : r.val = 128 * g.val + a.val) :
    k0_pay19 mask (k0_pay17 q) k (ix2 r t)
      = Scalar.select (mask (ix2 r t)) (∑ d : Fin 64, q (ix4 (0 : Fin 1) g a d) * k (ix4 (0 : Fin 1) (0 : Fin 1) t d)) (⊥ : EReal) := by
  unfold k0_pay19
  rw [select_apply]
  refine congrArg₂ (fun x y : EReal => Scalar.select (mask (ix2 r t)) x y) ?_ Soft.ofBits_neg_inf
  refine (Ideal.matmul_transposedRhs_apply (M := 512) (K := 64) (N := 384) none _ _ _ r t).trans ?_
  rw [show (constant (F := Ideal) S512x384 .f32 0x00000000#32) (ix2 r t) = 0 from Ideal.ofBits_zero_f32, zero_add]
  refine Finset.sum_congr rfl fun d _ => congrArg₂ (· * ·) (queries_apply q g a d r hr) ?_
  exact shapeCast_apply _ shapeCasts_S1x1x384x64_S384x64 (ix2 t d) (ix4 (0 : Fin 1) (0 : Fin 1) t d) (by
    rw [Shape.rowMajor_val_two, Shape.rowMajor_val_four]
    show ((0 * 1 + 0) * 384 + t.val) * 64 + d.val = t.val * 64 + d.val
    omega)

/-- A sink at every row of a head. -/
abbrev sinkCol (x : Vec Ideal S1x1 .f32) : FVec Ideal S128x1 .f32 :=
  broadcastTo S128x1 (shapeCast S1x1 (shapeCast S1x1 x shapeCasts_S1x1_S1x1) shapeCasts_S1x1_S1x1) broadcasts_S1x1_S128x1

/-- The four heads' sinks, one below the other. -/
abbrev sinkPieces (s : Fin 4 → Vec Ideal S1x1 .f32) : List ((s : Shape) × FVec Ideal s .f32) :=
  [⟨S128x1, sinkCol (s 0)⟩, ⟨S128x1, sinkCol (s 1)⟩, ⟨S128x1, sinkCol (s 2)⟩, ⟨S128x1, sinkCol (s 3)⟩]

/-- A head's sink, times the named constant. -/
theorem sink_apply (s : Fin 4 → Vec Ideal S1x1 .f32) (g : Fin 4) (a : Fin 128) (r : Fin 512) (hr : r.val = 128 * g.val + a.val) :
    k0_pay22 (s 0) (s 1) (s 2) (s 3) (ix2 r (0 : Fin 1)) = s g (ix2 (0 : Fin 1) (0 : Fin 1)) * (((Real.log 2)⁻¹ : ℝ) : EReal) := by
  have hb : ∀ x : Vec Ideal S1x1 .f32, broadcastTo S128x1 (shapeCast S1x1 (shapeCast S1x1 x shapeCasts_S1x1_S1x1) shapeCasts_S1x1_S1x1)
      broadcasts_S1x1_S128x1 (ix2 a (0 : Fin 1)) = x (ix2 (0 : Fin 1) (0 : Fin 1)) := fun x => by
    rw [broadcastTo_apply _ broadcasts_S1x1_S128x1 (ix2 a (0 : Fin 1)) (ix2 (0 : Fin 1) (0 : Fin 1))
      (fun b => match b with | ⟨0, _⟩ => rfl | ⟨1, _⟩ => rfl)]
    exact (shapeCast_apply _ shapeCasts_S1x1_S1x1 (ix2 (0 : Fin 1) (0 : Fin 1)) (ix2 (0 : Fin 1) (0 : Fin 1)) rfl).trans
      (shapeCast_apply _ shapeCasts_S1x1_S1x1 (ix2 (0 : Fin 1) (0 : Fin 1)) (ix2 (0 : Fin 1) (0 : Fin 1)) rfl)
  unfold k0_pay22
  rw [mulf_apply]
  refine congrArg₂ (fun x y : EReal => x * y) ?_ (IdealRules.named_const.ideal_named_scalar (φ := .f32) Cert.Kernel7Ideal.κ "log2e" 0x3FB8AA3B#32 _ rfl)
  have ha := a.isLt
  fin_cases g
  · exact (concatenate_apply_piece (t := S512x1) 0 (sinkPieces s) concatenates_S128x1_S128x1_S128x1_S128x1_S512x1_d0 (ix2 r (0 : Fin 1)) 0 (by show 0 < 4; decide) S128x1 _ rfl rfl
      0 rfl (ix2 a (0 : Fin 1)) (fun b hb => match b with | ⟨0, _⟩ => absurd rfl hb | ⟨1, _⟩ => rfl) (by show 0 + a.val = r.val; rw [hr]; simp)).trans (hb (s 0))
  · exact (concatenate_apply_piece (t := S512x1) 0 (sinkPieces s) concatenates_S128x1_S128x1_S128x1_S128x1_S512x1_d0 (ix2 r (0 : Fin 1)) 1 (by show 1 < 4; decide) S128x1 _ rfl rfl
      128 rfl (ix2 a (0 : Fin 1)) (fun b hb => match b with | ⟨0, _⟩ => absurd rfl hb | ⟨1, _⟩ => rfl) (by show 128 + a.val = r.val; rw [hr]; simp)).trans (hb (s 1))
  · exact (concatenate_apply_piece (t := S512x1) 0 (sinkPieces s) concatenates_S128x1_S128x1_S128x1_S128x1_S512x1_d0 (ix2 r (0 : Fin 1)) 2 (by show 2 < 4; decide) S128x1 _ rfl rfl
      256 rfl (ix2 a (0 : Fin 1)) (fun b hb => match b with | ⟨0, _⟩ => absurd rfl hb | ⟨1, _⟩ => rfl) (by show 256 + a.val = r.val; rw [hr]; simp)).trans (hb (s 2))
  · exact (concatenate_apply_piece (t := S512x1) 0 (sinkPieces s) concatenates_S128x1_S128x1_S128x1_S128x1_S512x1_d0 (ix2 r (0 : Fin 1)) 3 (by show 3 < 4; decide) S128x1 _ rfl rfl
      384 rfl (ix2 a (0 : Fin 1)) (fun b hb => match b with | ⟨0, _⟩ => absurd rfl hb | ⟨1, _⟩ => rfl) (by show 384 + a.val = r.val; rw [hr]; simp)).trans (hb (s 3))

/-- The row's maximum: over the context's scores, the window's and the sink. -/
theorem max_apply (mask : IVec S512x384 1) (q : FVec Ideal S512x64 .bf16) (sc : FVec Ideal S512x256 .f32) (k' : Vec Ideal S1x1x384x64 .bf16)
    (s0 s1 s2 s3 : Vec Ideal S1x1 .f32) (r : Fin 512) :
    k0_pay23 mask q sc k' s0 s1 s2 s3 (ix2 r (0 : Fin 1))
      = max (max ((Finset.univ : Finset (Fin 256)).fold max ⊥ (fun t => sc (ix2 r t)))
          ((Finset.univ : Finset (Fin 384)).fold max ⊥ (fun t => k0_pay19 mask q k' (ix2 r t)))) (k0_pay22 s0 s1 s2 s3 (ix2 r (0 : Fin 1))) := by
  have hc : ∀ x : FVec Ideal S512 .f32, shapeCast S512x1 x shapeCasts_S512_S512x1 (ix2 r (0 : Fin 1)) = x (ix1 r) := fun x =>
    shapeCast_apply _ shapeCasts_S512_S512x1 (ix2 r (0 : Fin 1)) (ix1 r) (by
      rw [Shape.rowMajor_val_two, Shape.rowMajor_val_one]; show r.val = r.val * 1 + 0; omega)
  unfold k0_pay23
  dsimp only
  refine congrArg₂ (fun x y : EReal => max (max x y) (k0_pay22 s0 s1 s2 s3 (ix2 r (0 : Fin 1)))) ((hc _).trans ?_) ((hc _).trans ?_)
  · refine (Ideal.multiReduction_maximumf_single (s := S512x256) (t := S512) (a := 1) sc _ reduces_S512x256_S512 (.inl rfl) rfl (ix1 r)).trans ?_
    refine congrArg₂ (fun b f => (Finset.univ : Finset (Fin 256)).fold max b f) Soft.ofBits_neg_inf (funext fun t' => ?_)
    exact congrArg sc (funext fun b => Fin.ext (match b with | ⟨0, _⟩ => rfl | ⟨1, _⟩ => rfl))
  · refine (Ideal.multiReduction_maximumf_single (s := S512x384) (t := S512) (a := 1) (k0_pay19 mask q k') _ reduces_S512x384_S512 (.inl rfl) rfl (ix1 r)).trans ?_
    refine congrArg₂ (fun b f => (Finset.univ : Finset (Fin 384)).fold max b f) Soft.ofBits_neg_inf (funext fun t' => ?_)
    exact congrArg (k0_pay19 mask q k') (funext fun b => Fin.ext (match b with | ⟨0, _⟩ => rfl | ⟨1, _⟩ => rfl))

/-- What the kernel computes for a head: the weights of the context and of the window against one lane of the values, times the
    reciprocal of their sum, the sink's weight included. -/
def winVal (s : Fin 256 → EReal) (s' : Fin 384 → EReal) (z : EReal) (v one : Fin 256 → EReal) (v' one' : Fin 384 → EReal) : EReal :=
  let M := max (max ((Finset.univ : Finset (Fin 256)).fold max ⊥ s) ((Finset.univ : Finset (Fin 384)).fold max ⊥ s')) z
  ((∑ t, Ideal.exp2 (s t - M) * v t) + ∑ t, Ideal.exp2 (s' t - M) * v' t)
    * Ideal.div 1 (((∑ t, Ideal.exp2 (s t - M) * one t) + ∑ t, Ideal.exp2 (s' t - M) * one' t) + Ideal.exp2 (z - M))

/-- One key/value head's tile at a row and a column. -/
theorem tile_apply (mask : IVec S512x384 1) (q : Vec Ideal S1x4x128x64 .bf16) (k : Vec Ideal S1x1x256x64 .bf16) (k' : Vec Ideal S1x1x384x64 .bf16)
    (v : Vec Ideal S1x1x256x128 .bf16) (v' : Vec Ideal S1x1x384x128 .bf16) (s : Fin 4 → Vec Ideal S1x1 .f32)
    (z : Fin 1) (a : Fin 128) (n : Fin 256) (g : Fin 4) (hg : g.val = n.val / 64) (r : Fin 512) (hr : r.val = 128 * g.val + a.val)
    (l : Fin 128) (hl : l.val = n.val % 64) :
    tile mask q k k' v v' (s 0) (s 1) (s 2) (s 3) (ix3 z a n)
      = winVal (fun t => ∑ d : Fin 64, q (ix4 (0 : Fin 1) g a d) * k (ix4 (0 : Fin 1) (0 : Fin 1) t d))
          (fun t => Scalar.select (mask (ix2 r t)) (∑ d : Fin 64, q (ix4 (0 : Fin 1) g a d) * k' (ix4 (0 : Fin 1) (0 : Fin 1) t d)) (⊥ : EReal))
          (s g (ix2 (0 : Fin 1) (0 : Fin 1)) * (((Real.log 2)⁻¹ : ℝ) : EReal))
          (fun t => v (ix4 (0 : Fin 1) (0 : Fin 1) t l)) (fun t => v (ix4 (0 : Fin 1) (0 : Fin 1) t (64 : Fin 128)))
          (fun t => v' (ix4 (0 : Fin 1) (0 : Fin 1) t l)) (fun t => v' (ix4 (0 : Fin 1) (0 : Fin 1) t (64 : Fin 128))) := by
  have hv : ∀ (t : Fin 256) (l : Fin 128), k0_pay20 v (ix2 t l) = v (ix4 (0 : Fin 1) (0 : Fin 1) t l) := fun t l => by
    unfold k0_pay20
    exact shapeCast_apply _ shapeCasts_S1x1x256x128_S256x128 (ix2 t l) (ix4 (0 : Fin 1) (0 : Fin 1) t l) (by
      rw [Shape.rowMajor_val_two, Shape.rowMajor_val_four]
      show ((0 * 1 + 0) * 256 + t.val) * 128 + l.val = t.val * 128 + l.val
      omega)
  have hv' : ∀ (t : Fin 384) (l : Fin 128), k0_pay21 v' (ix2 t l) = v' (ix4 (0 : Fin 1) (0 : Fin 1) t l) := fun t l => by
    unfold k0_pay21
    exact shapeCast_apply _ shapeCasts_S1x1x384x128_S384x128 (ix2 t l) (ix4 (0 : Fin 1) (0 : Fin 1) t l) (by
      rw [Shape.rowMajor_val_two, Shape.rowMajor_val_four]
      show ((0 * 1 + 0) * 384 + t.val) * 128 + l.val = t.val * 128 + l.val
      omega)
  have hP : ∀ t : Fin 256, k0_pay25 (k0_pay24 mask (k0_pay17 q) (k0_pay18 q k) k' (s 0) (s 1) (s 2) (s 3)) (ix2 r t)
      = Ideal.exp2 (k0_pay18 q k (ix2 r t) - k0_pay23 mask (k0_pay17 q) (k0_pay18 q k) k' (s 0) (s 1) (s 2) (s 3) (ix2 r (0 : Fin 1))) := fun t => by
    show Ideal.exp2 (k0_pay18 q k (ix2 r t) - broadcastTo S512x256 (k0_pay23 mask (k0_pay17 q) (k0_pay18 q k) k' (s 0) (s 1) (s 2) (s 3)) broadcasts_S512x1_S512x256 (ix2 r t)) = _
    rw [broadcastTo_apply _ broadcasts_S512x1_S512x256 (ix2 r t) (ix2 r (0 : Fin 1)) (fun b => match b with | ⟨0, _⟩ => rfl | ⟨1, _⟩ => rfl)]
  have hP' : ∀ t : Fin 384, k0_pay26 (k0_pay19 mask (k0_pay17 q) k') (k0_pay23 mask (k0_pay17 q) (k0_pay18 q k) k' (s 0) (s 1) (s 2) (s 3)) (ix2 r t)
      = Ideal.exp2 (k0_pay19 mask (k0_pay17 q) k' (ix2 r t) - k0_pay23 mask (k0_pay17 q) (k0_pay18 q k) k' (s 0) (s 1) (s 2) (s 3) (ix2 r (0 : Fin 1))) := fun t => by
    show Ideal.exp2 (k0_pay19 mask (k0_pay17 q) k' (ix2 r t) - broadcastTo S512x384 (k0_pay23 mask (k0_pay17 q) (k0_pay18 q k) k' (s 0) (s 1) (s 2) (s 3)) broadcasts_S512x1_S512x384 (ix2 r t)) = _
    rw [broadcastTo_apply _ broadcasts_S512x1_S512x384 (ix2 r t) (ix2 r (0 : Fin 1)) (fun b => match b with | ⟨0, _⟩ => rfl | ⟨1, _⟩ => rfl)]
  unfold tile
  rw [outTile_apply _ _ _ _ _ _ z a n r (by rw [hr, hg]) l hl]
  simp only [hP, hP', hv, hv', max_apply, sink_apply s g a r hr, ctx_apply q k g a _ r hr, lat_apply mask q k' g a _ r hr]
  rfl

end Cert.WinTile

end
-- ==== Proof.Win.Mask.lean ====
module

public import proofs.«01_k».proof.Proof.Win.Tile

@[expose] public section

set_option maxRecDepth 16384

noncomputable section

namespace Cert.WinMask

open Cert.Kernel7Ideal Cert.Kernel7Ideal.Gen Idealize.ShloMosaic Idealize.ShloMosaic.TcCoe Idealize.ShloMosaic.ValueIdx

/-- The first latent key of query tile `j`'s window. -/
def start (j : Nat) : Nat := min 3712 (128 * j - 128)

theorem start_le (j : Nat) : start j + 384 ≤ 4096 := by
  unfold start; omega

/-- The window's start as the kernel computes it. -/
abbrev startWord (x : BitVec 32) : BitVec 32 :=
  Scalar.minsi 3712#32 (Scalar.maxsi 0#32 (Scalar.subi (Scalar.muli x 128#32) 128#32))

theorem startWord_eq : ∀ j : Fin 32, startWord (BitVec.ofNat 32 j.val) = BitVec.ofNat 32 (start j.val) := by decide +kernel

theorem off_eq : ∀ j : Fin 32, (Scalar.indexCast (Scalar.addi 256#32 (startWord (BitVec.ofNat 32 j.val)))).toNat = 256 + start j.val := by
  decide +kernel

/-- A row's remainder modulo 128 as the kernel computes it. -/
abbrev remWord (x : BitVec 32) : BitVec 32 :=
  let c : BitVec 32 := Scalar.select (Scalar.cmpi .eq 128#32 0#32) 1#32 128#32
  let y : BitVec 32 := IntOp.remsi .vector x c
  Scalar.select (IntOp.andi (IntOp.xori (IntOp.cmpi .slt y 0#32) (Scalar.cmpi .slt c 0#32)) (IntOp.cmpi .ne y 0#32)) (IntOp.addi y c) y

theorem remWord_eq : ∀ r : Fin 512, remWord (BitVec.ofNat 32 r.val) = BitVec.ofNat 32 (r.val % 128) := by decide +kernel

theorem mulWord_eq : ∀ j : Fin 32, Scalar.muli (BitVec.ofNat 32 j.val) 128#32 = BitVec.ofNat 32 (128 * j.val) := by decide +kernel

/-- The mask at a row and a window key: set where the key is at most 128 rows away from the query. -/
theorem mask_apply (i : grid0.Coords) (j : Fin 32) (hj : j.val = (i 1).val) (r : Fin 512) (u : Fin 384) (a : Fin 128) (ha : a.val = r.val % 128) :
    k0_pay2 i (ix2 r u) = if start j.val + u.val ≤ 128 * j.val + a.val + 128 ∧ 128 * j.val + a.val ≤ start j.val + u.val + 128 then 1#1 else 0#1 := by
  have hs := start_le j.val
  have hu := u.isLt
  have ha' := a.isLt
  have hj' := j.isLt
  rw [← WinSoft.near (start j.val + u.val) (128 * j.val + a.val) (by omega) (by omega)]
  unfold k0_pay2
  dsimp only
  show IntOp.cmpi .sle (IntOp.absi (IntOp.subi
    (IntOp.addi (startWord (BitVec.ofNat 32 (i 1).val)) (iota .tc S512x384 32 [1] iota_S512x384_d1_w32 (ix2 r u)))
    (IntOp.addi (Scalar.muli (BitVec.ofNat 32 (i 1).val) 128#32) (remWord (iota .tc S512x384 32 [0] iota_S512x384_d0_w32 (ix2 r u)))))) 128#32 = _
  rw [iota_single_apply, iota_single_apply, ← hj, startWord_eq, mulWord_eq]
  show IntOp.cmpi .sle (IntOp.absi (IntOp.subi (BitVec.ofNat 32 (start j.val) + BitVec.ofNat 32 u.val)
    (BitVec.ofNat 32 (128 * j.val) + remWord (BitVec.ofNat 32 r.val)))) 128#32 = _
  rw [remWord_eq r, ← ha, ← BitVec.ofNat_add, ← BitVec.ofNat_add]

theorem off1 (i : grid0.Coords) : k0_off1 i = ![0, 0, 256 + start (i 1).val, 0] := by
  rw [← off_eq (i 1)]; rfl
theorem off2 (i : grid0.Coords) : k0_off2 i = ![0, 0, 256 + start (i 1).val, 0] := by
  rw [← off_eq (i 1)]; rfl
theorem off3 (i : grid0.Coords) : k0_off3 i = ![0, 1, 256 + start (i 1).val, 0] := by
  rw [← off_eq (i 1)]; rfl
theorem off4 (i : grid0.Coords) : k0_off4 i = ![0, 1, 256 + start (i 1).val, 0] := by
  rw [← off_eq (i 1)]; rfl

end Cert.WinMask

end
-- ==== Proof.Win.Block.lean ====
module

public import proofs.«01_k».proof.Proof.Win.Mask
public import proofs.«01_k».proof.Proof.Gen.Kernel7Ideal.Value
public import Idealize.ShloMosaic.Lib.Pipeline.ValueKit.Tiles

@[expose] public section

set_option maxRecDepth 16384

noncomputable section

namespace Cert.WinBlock

open Cert.Kernel7Ideal Cert.Kernel7Ideal.Gen Idealize.ShloMosaic Idealize.ShloMosaic.TcCoe Idealize.ShloMosaic.ValueIdx
open Cert.WinTile Cert.WinMask
open scoped BigOperators

/-- Key `u` of query tile `j`'s window among all the keys: the context's 256 keys come first. -/
def win (j : Nat) (u : Fin 384) : Fin 4352 :=
  ⟨256 + (start j + u.val), by have := start_le j; have := u.isLt; omega⟩

/-- The output block of query tile `j` as a function of the four input blocks, at a row and a column: column `n` belongs to query head
    `n / 64`, key/value head `n / 256`, lane `n % 64`. -/
def blockVal (j : Nat) (x0 : Vec Ideal S1x8x128x64 .bf16) (x1 : Vec Ideal S1x2x4352x64 .bf16) (x2 : Vec Ideal S1x2x4352x128 .bf16)
    (x3 : Vec Ideal S8x128 .f32) (a : Fin 128) (n : Fin 512) : EReal :=
  winVal (fun t => ∑ d : Fin 64, x0 (ix4 (0 : Fin 1) (⟨n.val / 64, by have := n.isLt; omega⟩ : Fin 8) a d)
      * x1 (ix4 (0 : Fin 1) (⟨n.val / 256, by have := n.isLt; omega⟩ : Fin 2) (⟨t.val, by have := t.isLt; omega⟩ : Fin 4352) d))
    (fun u => if start j + u.val ≤ 128 * j + a.val + 128 ∧ 128 * j + a.val ≤ start j + u.val + 128 then
      ∑ d : Fin 64, x0 (ix4 (0 : Fin 1) (⟨n.val / 64, by have := n.isLt; omega⟩ : Fin 8) a d)
        * x1 (ix4 (0 : Fin 1) (⟨n.val / 256, by have := n.isLt; omega⟩ : Fin 2) (win j u) d) else (⊥ : EReal))
    (x3 (ix2 (⟨n.val / 64, by have := n.isLt; omega⟩ : Fin 8) (0 : Fin 128)) * (((Real.log 2)⁻¹ : ℝ) : EReal))
    (fun t => x2 (ix4 (0 : Fin 1) (⟨n.val / 256, by have := n.isLt; omega⟩ : Fin 2) (⟨t.val, by have := t.isLt; omega⟩ : Fin 4352) (⟨n.val % 64, by omega⟩ : Fin 128)))
    (fun t => x2 (ix4 (0 : Fin 1) (⟨n.val / 256, by have := n.isLt; omega⟩ : Fin 2) (⟨t.val, by have := t.isLt; omega⟩ : Fin 4352) (64 : Fin 128)))
    (fun u => x2 (ix4 (0 : Fin 1) (⟨n.val / 256, by have := n.isLt; omega⟩ : Fin 2) (win j u) (⟨n.val % 64, by omega⟩ : Fin 128)))
    (fun u => x2 (ix4 (0 : Fin 1) (⟨n.val / 256, by have := n.isLt; omega⟩ : Fin 2) (win j u) (64 : Fin 128)))

theorem winVal_congr {s s₁ : Fin 256 → EReal} {s' s₁' : Fin 384 → EReal} {z z₁ : EReal} {v v₁ o o₁ : Fin 256 → EReal} {v' v₁' o' o₁' : Fin 384 → EReal}
    (h1 : s = s₁) (h2 : s' = s₁') (h3 : z = z₁) (h4 : v = v₁) (h5 : o = o₁) (h6 : v' = v₁') (h7 : o' = o₁') :
    winVal s s' z v o v' o' = winVal s₁ s₁' z₁ v₁ o₁ v₁' o₁' := by
  subst h1 h2 h3 h4 h5 h6 h7; rfl

/-- One store's tile, its operands loads of the blocks at key/value head `w`, is the block's columns from `256·w`. -/
theorem tile_eq (i : grid0.Coords) (x0 : Vec Ideal S1x8x128x64 .bf16) (x1 : Vec Ideal S1x2x4352x64 .bf16) (x2 : Vec Ideal S1x2x4352x128 .bf16)
    (x3 : Vec Ideal S8x128 .f32) (w : Fin 2) (q : Vec Ideal S1x4x128x64 .bf16) (k : Vec Ideal S1x1x256x64 .bf16) (k' : Vec Ideal S1x1x384x64 .bf16)
    (v : Vec Ideal S1x1x256x128 .bf16) (v' : Vec Ideal S1x1x384x128 .bf16) (s : Fin 4 → Vec Ideal S1x1 .f32)
    (hq : ∀ (g : Fin 4) (h : Fin 8) (a : Fin 128) (d : Fin 64), h.val = 4 * w.val + g.val → q (ix4 (0 : Fin 1) g a d) = x0 (ix4 (0 : Fin 1) h a d))
    (hk : ∀ (t : Fin 256) (d : Fin 64), k (ix4 (0 : Fin 1) (0 : Fin 1) t d) = x1 (ix4 (0 : Fin 1) w (⟨t.val, by have := t.isLt; omega⟩ : Fin 4352) d))
    (hk' : ∀ (u : Fin 384) (d : Fin 64), k' (ix4 (0 : Fin 1) (0 : Fin 1) u d) = x1 (ix4 (0 : Fin 1) w (win (i 1).val u) d))
    (hv : ∀ (t : Fin 256) (l : Fin 128), v (ix4 (0 : Fin 1) (0 : Fin 1) t l) = x2 (ix4 (0 : Fin 1) w (⟨t.val, by have := t.isLt; omega⟩ : Fin 4352) l))
    (hv' : ∀ (u : Fin 384) (l : Fin 128), v' (ix4 (0 : Fin 1) (0 : Fin 1) u l) = x2 (ix4 (0 : Fin 1) w (win (i 1).val u) l))
    (hs : ∀ (g : Fin 4) (h : Fin 8), h.val = 4 * w.val + g.val → s g (ix2 (0 : Fin 1) (0 : Fin 1)) = x3 (ix2 h (0 : Fin 128)))
    (z : Fin 1) (a : Fin 128) (n : Fin 256) (a' : Fin 128) (ha : a'.val = a.val) (n' : Fin 512) (hn : n'.val = 256 * w.val + n.val) :
    tile (k0_pay2 i) q k k' v v' (s 0) (s 1) (s 2) (s 3) (ix3 z a n) = blockVal (i 1).val x0 x1 x2 x3 a' n' := by
  obtain rfl : a' = a := Fin.ext ha
  have hnl := n.isLt
  have hal := a'.isLt
  have hwl := w.isLt
  have hw : (⟨n'.val / 256, by omega⟩ : Fin 2) = w := Fin.ext (by show n'.val / 256 = w.val; omega)
  have hl : (⟨n'.val % 64, by omega⟩ : Fin 128) = ⟨n.val % 64, by omega⟩ := Fin.ext (by show n'.val % 64 = n.val % 64; omega)
  have hh : (⟨n'.val / 64, by omega⟩ : Fin 8).val = 4 * w.val + (⟨n.val / 64, by omega⟩ : Fin 4).val := by show n'.val / 64 = 4 * w.val + n.val / 64; omega
  rw [tile_apply (k0_pay2 i) q k k' v v' s z a' n (⟨n.val / 64, by omega⟩ : Fin 4) rfl (⟨128 * (n.val / 64) + a'.val, by omega⟩ : Fin 512) rfl
    (⟨n.val % 64, by omega⟩ : Fin 128) rfl]
  unfold blockVal
  rw [hw, hl]
  refine winVal_congr (funext fun t => Finset.sum_congr rfl fun d _ => congrArg₂ (· * ·) (hq _ _ a' d hh) (hk t d)) (funext fun u => ?_)
    (congrArg (· * _) (hs _ _ hh)) (funext fun t => hv t _) (funext fun t => hv t _) (funext fun u => hv' u _) (funext fun u => hv' u _)
  rw [mask_apply i (i 1) rfl (⟨128 * (n.val / 64) + a'.val, by omega⟩ : Fin 512) u a' (by show a'.val = (128 * (n.val / 64) + a'.val) % 128; omega)]
  split
  · rw [select_one]
    exact Finset.sum_congr rfl fun d _ => congrArg₂ (· * ·) (hq _ _ a' d hh) (hk' u d)
  · rw [select_zero]

/-! ## The loads -/

section
variable (i : grid0.Coords) (x0 : Vec Ideal S1x8x128x64 .bf16) (x1 : Vec Ideal S1x2x4352x64 .bf16) (x2 : Vec Ideal S1x2x4352x128 .bf16) (x3 : Vec Ideal S8x128 .f32)

abbrev qLo : Vec Ideal S1x4x128x64 .bf16 := View.ld x0 (Rect.unit (s := S1x8x128x64) ![0, 0, 0, 0] S1x4x128x64.size inb_S1x8x128x64_S1x4x128x64_0_0_0_0)
abbrev qHi : Vec Ideal S1x4x128x64 .bf16 := View.ld x0 (Rect.unit (s := S1x8x128x64) ![0, 4, 0, 0] S1x4x128x64.size inb_S1x8x128x64_S1x4x128x64_0_4_0_0)
abbrev kLo : Vec Ideal S1x1x256x64 .bf16 := View.ld x1 (Rect.unit (s := S1x2x4352x64) ![0, 0, 0, 0] S1x1x256x64.size inb_S1x2x4352x64_S1x1x256x64_0_0_0_0)
abbrev kHi : Vec Ideal S1x1x256x64 .bf16 := View.ld x1 (Rect.unit (s := S1x2x4352x64) ![0, 1, 0, 0] S1x1x256x64.size inb_S1x2x4352x64_S1x1x256x64_0_1_0_0)
abbrev kLo' : Vec Ideal S1x1x384x64 .bf16 := View.ld x1 (Rect.unit (s := S1x2x4352x64) (k0_off1 i) S1x1x384x64.size (k0_off1_inb i))
abbrev kHi' : Vec Ideal S1x1x384x64 .bf16 := View.ld x1 (Rect.unit (s := S1x2x4352x64) (k0_off3 i) S1x1x384x64.size (k0_off3_inb i))
abbrev vLo : Vec Ideal S1x1x256x128 .bf16 := View.ld x2 (Rect.unit (s := S1x2x4352x128) ![0, 0, 0, 0] S1x1x256x128.size inb_S1x2x4352x128_S1x1x256x128_0_0_0_0)
abbrev vHi : Vec Ideal S1x1x256x128 .bf16 := View.ld x2 (Rect.unit (s := S1x2x4352x128) ![0, 1, 0, 0] S1x1x256x128.size inb_S1x2x4352x128_S1x1x256x128_0_1_0_0)
abbrev vLo' : Vec Ideal S1x1x384x128 .bf16 := View.ld x2 (Rect.unit (s := S1x2x4352x128) (k0_off2 i) S1x1x384x128.size (k0_off2_inb i))
abbrev vHi' : Vec Ideal S1x1x384x128 .bf16 := View.ld x2 (Rect.unit (s := S1x2x4352x128) (k0_off4 i) S1x1x384x128.size (k0_off4_inb i))
abbrev z0 : Vec Ideal S1x1 .f32 := View.ld x3 (Rect.unit (s := S8x128) ![0, 0] S1x1.size inb_S8x128_S1x1_0_0)
abbrev z1 : Vec Ideal S1x1 .f32 := View.ld x3 (Rect.unit (s := S8x128) ![1, 0] S1x1.size inb_S8x128_S1x1_1_0)
abbrev z2 : Vec Ideal S1x1 .f32 := View.ld x3 (Rect.unit (s := S8x128) ![2, 0] S1x1.size inb_S8x128_S1x1_2_0)
abbrev z3 : Vec Ideal S1x1 .f32 := View.ld x3 (Rect.unit (s := S8x128) ![3, 0] S1x1.size inb_S8x128_S1x1_3_0)
abbrev z4 : Vec Ideal S1x1 .f32 := View.ld x3 (Rect.unit (s := S8x128) ![4, 0] S1x1.size inb_S8x128_S1x1_4_0)
abbrev z5 : Vec Ideal S1x1 .f32 := View.ld x3 (Rect.unit (s := S8x128) ![5, 0] S1x1.size inb_S8x128_S1x1_5_0)
abbrev z6 : Vec Ideal S1x1 .f32 := View.ld x3 (Rect.unit (s := S8x128) ![6, 0] S1x1.size inb_S8x128_S1x1_6_0)
abbrev z7 : Vec Ideal S1x1 .f32 := View.ld x3 (Rect.unit (s := S8x128) ![7, 0] S1x1.size inb_S8x128_S1x1_7_0)

theorem ld_q (o : Nat) (hb) (g : Fin 4) (h : Fin 8) (a : Fin 128) (d : Fin 64) (hh : h.val = o + g.val) :
    View.ld x0 (Rect.unit (s := S1x8x128x64) ![0, o, 0, 0] S1x4x128x64.size hb) (ix4 (0 : Fin 1) g a d) = x0 (ix4 (0 : Fin 1) h a d) :=
  View.ld_unit_apply_of (S := S1x8x128x64) x0 ![0, o, 0, 0] S1x4x128x64.size hb (ix4 (0 : Fin 1) g a d)
    (ix4 (0 : Fin 1) h a d) (fun b => match b with
      | ⟨0, _⟩ => rfl
      | ⟨1, _⟩ => hh
      | ⟨2, _⟩ => by show a.val = 0 + a.val; omega
      | ⟨3, _⟩ => by show d.val = 0 + d.val; omega)

theorem ld_k (w : Fin 2) (hb) (t : Fin 256) (d : Fin 64) :
    View.ld x1 (Rect.unit (s := S1x2x4352x64) ![0, w.val, 0, 0] S1x1x256x64.size hb) (ix4 (0 : Fin 1) (0 : Fin 1) t d)
      = x1 (ix4 (0 : Fin 1) w (⟨t.val, by have := t.isLt; omega⟩ : Fin 4352) d) :=
  View.ld_unit_apply_of (S := S1x2x4352x64) x1 ![0, w.val, 0, 0] S1x1x256x64.size hb (ix4 (0 : Fin 1) (0 : Fin 1) t d)
    (ix4 (0 : Fin 1) w (⟨t.val, by have := t.isLt; omega⟩ : Fin 4352) d) (fun b => match b with
      | ⟨0, _⟩ => rfl
      | ⟨1, _⟩ => rfl
      | ⟨2, _⟩ => by show t.val = 0 + t.val; omega
      | ⟨3, _⟩ => by show d.val = 0 + d.val; omega)

theorem ld_v (w : Fin 2) (hb) (t : Fin 256) (d : Fin 128) :
    View.ld x2 (Rect.unit (s := S1x2x4352x128) ![0, w.val, 0, 0] S1x1x256x128.size hb) (ix4 (0 : Fin 1) (0 : Fin 1) t d)
      = x2 (ix4 (0 : Fin 1) w (⟨t.val, by have := t.isLt; omega⟩ : Fin 4352) d) :=
  View.ld_unit_apply_of (S := S1x2x4352x128) x2 ![0, w.val, 0, 0] S1x1x256x128.size hb (ix4 (0 : Fin 1) (0 : Fin 1) t d)
    (ix4 (0 : Fin 1) w (⟨t.val, by have := t.isLt; omega⟩ : Fin 4352) d) (fun b => match b with
      | ⟨0, _⟩ => rfl
      | ⟨1, _⟩ => rfl
      | ⟨2, _⟩ => by show t.val = 0 + t.val; omega
      | ⟨3, _⟩ => by show d.val = 0 + d.val; omega)

theorem ld_k' (j : Nat) (w : Fin 2) (off : Fin 4 → Nat) (ho : off = ![0, w.val, 256 + start j, 0]) (hb) (u : Fin 384) (d : Fin 64) :
    View.ld x1 (Rect.unit (s := S1x2x4352x64) off S1x1x384x64.size hb) (ix4 (0 : Fin 1) (0 : Fin 1) u d) = x1 (ix4 (0 : Fin 1) w (win j u) d) := by
  subst ho
  exact View.ld_unit_apply_of (S := S1x2x4352x64) x1 ![0, w.val, 256 + start j, 0] S1x1x384x64.size hb (ix4 (0 : Fin 1) (0 : Fin 1) u d)
    (ix4 (0 : Fin 1) w (win j u) d) (fun b => match b with
      | ⟨0, _⟩ => rfl
      | ⟨1, _⟩ => rfl
      | ⟨2, _⟩ => by show 256 + (start j + u.val) = 256 + start j + u.val; omega
      | ⟨3, _⟩ => by show d.val = 0 + d.val; omega)

theorem ld_v' (j : Nat) (w : Fin 2) (off : Fin 4 → Nat) (ho : off = ![0, w.val, 256 + start j, 0]) (hb) (u : Fin 384) (d : Fin 128) :
    View.ld x2 (Rect.unit (s := S1x2x4352x128) off S1x1x384x128.size hb) (ix4 (0 : Fin 1) (0 : Fin 1) u d) = x2 (ix4 (0 : Fin 1) w (win j u) d) := by
  subst ho
  exact View.ld_unit_apply_of (S := S1x2x4352x128) x2 ![0, w.val, 256 + start j, 0] S1x1x384x128.size hb (ix4 (0 : Fin 1) (0 : Fin 1) u d)
    (ix4 (0 : Fin 1) w (win j u) d) (fun b => match b with
      | ⟨0, _⟩ => rfl
      | ⟨1, _⟩ => rfl
      | ⟨2, _⟩ => by show 256 + (start j + u.val) = 256 + start j + u.val; omega
      | ⟨3, _⟩ => by show d.val = 0 + d.val; omega)

theorem ld_z (h : Fin 8) (hb) : View.ld x3 (Rect.unit (s := S8x128) ![h.val, 0] S1x1.size hb) (ix2 (0 : Fin 1) (0 : Fin 1)) = x3 (ix2 h (0 : Fin 128)) :=
  View.ld_unit_apply_of (S := S8x128) x3 ![h.val, 0] S1x1.size hb (ix2 (0 : Fin 1) (0 : Fin 1)) (ix2 h (0 : Fin 128))
    (fun b => match b with | ⟨0, _⟩ => rfl | ⟨1, _⟩ => rfl)

abbrev rLo : Rect S1x128x512 := Rect.unit (s := S1x128x512) ![0, 0, 0] S1x128x256.size inb_S1x128x512_S1x128x256_0_0_0
abbrev rHi : Rect S1x128x512 := Rect.unit (s := S1x128x512) ![0, 0, 256] S1x128x256.size inb_S1x128x512_S1x128x256_0_0_256

/-- The first store's tile: the block's columns below 256. -/
theorem piece_lo (x : S1x128x256.Idx) :
    tile (k0_pay2 i) (qLo x0) (kLo x1) (kLo' i x1) (vLo x2) (vLo' i x2) (z0 x3) (z1 x3) (z2 x3) (z3 x3) x
      = blockVal (i 1).val x0 x1 x2 x3 (rLo.emb x 1) (rLo.emb x 2) := by
  have e := tile_eq i x0 x1 x2 x3 0 (qLo x0) (kLo x1) (kLo' i x1) (vLo x2) (vLo' i x2) ![z0 x3, z1 x3, z2 x3, z3 x3]
    (fun g h a d hh => ld_q x0 0 _ g h a d hh) (fun t d => ld_k x1 0 _ t d) (fun u d => ld_k' x1 _ 0 _ (off1 i) _ u d)
    (fun t d => ld_v x2 0 _ t d) (fun u d => ld_v' x2 _ 0 _ (off2 i) _ u d)
    (fun g h hh => by
      fin_cases g
      · obtain rfl : h = 0 := Fin.ext hh
        exact ld_z x3 0 _
      · obtain rfl : h = 1 := Fin.ext hh
        exact ld_z x3 1 _
      · obtain rfl : h = 2 := Fin.ext hh
        exact ld_z x3 2 _
      · obtain rfl : h = 3 := Fin.ext hh
        exact ld_z x3 3 _)
    (x 0) (x 1) (x 2) (rLo.emb x 1) (by show 0 + 1 * (x 1).val = (x 1).val; omega) (rLo.emb x 2) (by show 0 + 1 * (x 2).val = 256 * 0 + (x 2).val; omega)
  exact (congrArg (tile (k0_pay2 i) (qLo x0) (kLo x1) (kLo' i x1) (vLo x2) (vLo' i x2) (z0 x3) (z1 x3) (z2 x3) (z3 x3)) (eq_ix3 x)).trans e

/-- The second store's tile: the block's columns from 256. -/
theorem piece_hi (x : S1x128x256.Idx) :
    tile (k0_pay2 i) (qHi x0) (kHi x1) (kHi' i x1) (vHi x2) (vHi' i x2) (z4 x3) (z5 x3) (z6 x3) (z7 x3) x
      = blockVal (i 1).val x0 x1 x2 x3 (rHi.emb x 1) (rHi.emb x 2) := by
  have e := tile_eq i x0 x1 x2 x3 1 (qHi x0) (kHi x1) (kHi' i x1) (vHi x2) (vHi' i x2) ![z4 x3, z5 x3, z6 x3, z7 x3]
    (fun g h a d hh => ld_q x0 4 _ g h a d hh) (fun t d => ld_k x1 1 _ t d) (fun u d => ld_k' x1 _ 1 _ (off3 i) _ u d)
    (fun t d => ld_v x2 1 _ t d) (fun u d => ld_v' x2 _ 1 _ (off4 i) _ u d)
    (fun g h hh => by
      fin_cases g
      · obtain rfl : h = 4 := Fin.ext hh
        exact ld_z x3 4 _
      · obtain rfl : h = 5 := Fin.ext hh
        exact ld_z x3 5 _
      · obtain rfl : h = 6 := Fin.ext hh
        exact ld_z x3 6 _
      · obtain rfl : h = 7 := Fin.ext hh
        exact ld_z x3 7 _)
    (x 0) (x 1) (x 2) (rHi.emb x 1) (by show 0 + 1 * (x 1).val = (x 1).val; omega) (rHi.emb x 2) (by show 256 + 1 * (x 2).val = 256 * 1 + (x 2).val; omega)
  exact (congrArg (tile (k0_pay2 i) (qHi x0) (kHi x1) (kHi' i x1) (vHi x2) (vHi' i x2) (z4 x3) (z5 x3) (z6 x3) (z7 x3)) (eq_ix3 x)).trans e

end

/-! ## The block -/

variable (m : (ℓ : Loc nD τ sig) → Buf (Elt Ideal) ℓ) (c : Dev nD)

/-- What the body leaves at a row and a column of the output block. -/
theorem out_apply (t : Fin cfg0.N) (y : S1x128x512.Idx) :
    outsAt0 m c t y = blockVal (grid0.coords t 1).val (iblk m c 0 t) (iblk m c 1 t) (iblk m c 2 t) (iblk m c 3 t) (y 1) (y 2) := by
  have hc := cover0_A_4 c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) y
  unfold outsAt0 out0_A_4
  refine (View.read_writes_apply_eq_canon _ _ y _ hc).trans ?_
  refine View.canon_apply_of_pieces (Val := Elt Ideal) (S := S1x128x512) (e := .bf16)
    (fun y : S1x128x512.Idx => blockVal (grid0.coords t 1).val (iblk m c 0 t) (iblk m c 1 t) (iblk m c 2 t) (iblk m c 3 t) (y 1) (y 2)) _ ?_ y hc
  unfold kernelRun0_A
  dsimp only
  refine List.forall_mem_cons.mpr ⟨fun x => ?_, List.forall_mem_cons.mpr ⟨fun x => ?_, fun _ h => nomatch h⟩⟩
  · refine Eq.trans ?_ (piece_hi (grid0.coords t) (iblk m c 0 t) (iblk m c 1 t) (iblk m c 2 t) (iblk m c 3 t) x)
    unfold kernelRun0_A.sl.r_17 kernelRun0_A.sl.r_18 kernelRun0_A.sl.r_19 kernelRun0_A.sl.r_20 kernelRun0_A.sl.r_22 kernelRun0_A.sl.r_23 kernelRun0_A.sl.r_24 kernelRun0_A.sl.r_25 kernelRun0_A.sl.r_26 kernelRun0_A.sl.r_27 kernelRun0_A.sl.v83
    simp only [kernelRun0_A.sl.r_16, kernelRun0_A.sl.r_17, kernelRun0_A.sl.r_18, kernelRun0_A.sl.r_19, kernelRun0_A.sl.r_20, kernelRun0_A.sl.r_21]
    simp only [kernelRun0_A.sl.r_14, kernelRun0_A.sl.r_15, kernelRun0_A.sl.r_1, kernelRun0_A.sl.r]
    simp only [View.readAt_eq_ld, (hs0_0 t).read_unread, (hs0_1 t).read_unread, (hs0_2 t).read_unread, (hs0_3 t).read_unread]
    exact congrFun (pay1_eq _ _ _ _ _ _ _ _ _ _) x
  · refine Eq.trans ?_ (piece_lo (grid0.coords t) (iblk m c 0 t) (iblk m c 1 t) (iblk m c 2 t) (iblk m c 3 t) x)
    simp only [kernelRun0_A.sl.r_4, kernelRun0_A.sl.r_5, kernelRun0_A.sl.r_6, kernelRun0_A.sl.r_9, kernelRun0_A.sl.r_10, kernelRun0_A.sl.r_11, kernelRun0_A.sl.r_12, kernelRun0_A.sl.r_13, kernelRun0_A.sl.v83]
    simp only [kernelRun0_A.sl.r_2, kernelRun0_A.sl.r_3, kernelRun0_A.sl.r_7, kernelRun0_A.sl.r_8, kernelRun0_A.sl.r_1, kernelRun0_A.sl.r]
    simp only [View.readAt_eq_ld, (hs0_0 t).read_unread, (hs0_1 t).read_unread, (hs0_2 t).read_unread, (hs0_3 t).read_unread]
    exact congrFun (pay16_eq _ _ _ _ _ _ _ _ _ _) x

end Cert.WinBlock

end
-- ==== Proof.Win.Host.lean ====
module

public import proofs.«01_k».proof.Proof.Host
public import proofs.«01_k».proof.Proof.Gen.Kernel7Ideal.Value
public import Idealize.ShloMosaic.Lib.StableHlo

@[expose] public section

set_option maxRecDepth 16384

noncomputable section

namespace Cert.WinPrep

open Cert.Kernel7Ideal Cert.Kernel7Ideal.Gen Idealize.ShloMosaic Idealize.ShloMosaic.TcCoe Idealize.ShloMosaic.ValueIdx
open Idealize.ShloMosaic.StableHlo
open Idealize.SL.Sem

variable (m : (ℓ : Loc nD τ sig) → Buf (Elt Ideal) ℓ) (c : Dev nD)

/-- The queries as launched. -/
abbrev Q : FVec Ideal S8x4352x8x64 .f32 := m ((c.tc : Thread nD τ).loc main_arg0)
/-- The keys as launched. -/
abbrev K : FVec Ideal S8x4352x2x64 .f32 := m ((c.tc : Thread nD τ).loc main_arg1)
/-- The values as launched. -/
abbrev W : FVec Ideal S8x4352x2x64 .f32 := m ((c.tc : Thread nD τ).loc main_arg2)
/-- The sinks as launched. -/
abbrev Z : FVec Ideal S8 .f32 := m ((c.tc : Thread nD τ).loc main_arg3)

/-- The prepared sinks: a row of 128 equal lanes for a head. -/
def zArr (z : FVec Ideal S8 .f32) : FVec Ideal S8x128 .f32 :=
  broadcastInDim S8x128 ![0, 1] bcast_S8x1_S8x128_0_1 (shapeCast S8x1 z shapeCasts_S8_S8x1)

theorem V_q : V m c main_v5 = Prep.qArr (Q m c) := by
  unfold V; after_results <;> rfl
theorem V_k : V m c main_v7 = Prep.kArr (K m c) := by
  unfold V; after_results <;> rfl
theorem V_v : V m c main_v12 = Prep.vArr (W m c) := by
  unfold V; after_results <;> rfl
theorem V_z : V m c main_v14 = zArr (Z m c) := by
  unfold V; after_results <;> rfl

/-- A prepared sink is the head's sink. -/
theorem zArr_apply (z : FVec Ideal S8 .f32) (h : Fin 8) (l : Fin 128) : zArr z (ix2 h l) = z (ix1 h) := by
  unfold zArr
  have e : broadcastInDim S8x128 ![0, 1] bcast_S8x1_S8x128_0_1 (shapeCast S8x1 z shapeCasts_S8_S8x1) (ix2 h l)
      = shapeCast S8x1 z shapeCasts_S8_S8x1 (ix2 h (0 : Fin 1)) :=
    congrArg (shapeCast S8x1 z shapeCasts_S8_S8x1) (funext fun a => match a with | ⟨0, _⟩ => rfl | ⟨1, _⟩ => rfl)
  rw [e]
  exact shapeCast_apply _ shapeCasts_S8_S8x1 (ix2 h (0 : Fin 1)) (ix1 h) (by
    rw [Shape.rowMajor_val_one, Shape.rowMajor_val_two]; show h.val = h.val * 1 + 0; omega)

end Cert.WinPrep

end
-- ==== Proof.Win.Ref.lean ====
module

public import proofs.«01_k».proof.Proof.Win.Soft
public import proofs.«01_k».proof.Proof.Gen.Reference7Ideal.Read

@[expose] public section

set_option maxRecDepth 16384

noncomputable section

namespace Cert.WinRef

open Cert.Reference7Ideal Cert.Reference7Ideal.Gen Cert.Reference7Ideal.Read Idealize.ShloMosaic Idealize.ShloMosaic.TcCoe Idealize.ShloMosaic.ValueIdx
open scoped BigOperators

/-- The score of key row `s` for query row `256 + i` of head `h`: the product over the 64 lanes, times one eighth. -/
def refScore (q : FVec Ideal S8x4352x8x64 .f32) (k : FVec Ideal S8x4352x2x64 .f32) (b : Fin 8) (i : Fin 4096) (w : Fin 2) (h : Fin 8)
    (s : Fin 4352) : EReal :=
  (∑ d : Fin 64, k (ix4 b s w d) * q (ix4 b (⟨256 + i.val, by have := i.isLt; omega⟩ : Fin 4352) h d)) * ((1 / 8 : ℝ) : EReal)

/-- The queries with the heads split by key/value head. -/
theorem v1_apply (q : FVec Ideal S8x4352x8x64 .f32) (b : Fin 8) (i : Fin 4096) (w : Fin 2) (g : Fin 4) (d : Fin 64)
    (h : Fin 8) (hh : h.val = 4 * w.val + g.val) :
    val_main_v1 (F := Ideal) q (ix5 b i w g d) = q (ix4 b (⟨256 + i.val, by have := i.isLt; omega⟩ : Fin 4352) h d) := by
  have hb := b.isLt
  have hw := w.isLt
  have hg := g.isLt
  have hi := i.isLt
  have hd := d.isLt
  rw [val_main_v1_apply, val_main_v0_apply]
  refine congrArg q (funext fun a => Fin.ext (match a with
    | ⟨0, _⟩ => ?_ | ⟨1, _⟩ => ?_ | ⟨2, _⟩ => ?_ | ⟨3, _⟩ => ?_))
  · show ((((b.val * 4096 + i.val) * 2 + w.val) * 4 + g.val) * 64 + d.val) / 2097152 = b.val; omega
  · show 256 + ((((b.val * 4096 + i.val) * 2 + w.val) * 4 + g.val) * 64 + d.val) / 512 % 4096 = 256 + i.val; omega
  · show ((((b.val * 4096 + i.val) * 2 + w.val) * 4 + g.val) * 64 + d.val) / 64 % 8 = h.val; omega
  · show ((((b.val * 4096 + i.val) * 2 + w.val) * 4 + g.val) * 64 + d.val) % 64 = d.val; omega

/-- A context score. -/
theorem v21_apply (q : FVec Ideal S8x4352x8x64 .f32) (k : FVec Ideal S8x4352x2x64 .f32) (b : Fin 8) (w : Fin 2) (g : Fin 4) (i : Fin 4096)
    (t : Fin 256) (h : Fin 8) (hh : h.val = 4 * w.val + g.val) :
    val_main_v21 (F := Ideal) q k (ix5 b w g i t) = refScore q k b i w h (⟨t.val, by have := t.isLt; omega⟩ : Fin 4352) := by
  rw [val_main_v21_apply, val_main_v19_apply, val_main_v18_apply, val_main_v20_apply, val_main_cst_1_apply]
  refine congrArg₂ (· * ·) (Finset.sum_congr rfl fun d _ => congrArg₂ (· * ·) ?_ ?_) Soft.ofBits_eighth
  · rw [val_main_v17_apply]
    exact congrArg k (funext fun a => match a with | ⟨0, _⟩ => rfl | ⟨1, _⟩ => rfl | ⟨2, _⟩ => rfl | ⟨3, _⟩ => rfl)
  · refine (congrArg (val_main_v1 (F := Ideal) q) ?_).trans (v1_apply q b i w g d h hh)
    exact funext fun a => match a with | ⟨0, _⟩ => rfl | ⟨1, _⟩ => rfl | ⟨2, _⟩ => rfl | ⟨3, _⟩ => rfl | ⟨4, _⟩ => rfl

/-- A latent score: minus infinity where the key is more than 128 rows away from the query. -/
theorem v16_apply (q : FVec Ideal S8x4352x8x64 .f32) (k : FVec Ideal S8x4352x2x64 .f32) (b : Fin 8) (w : Fin 2) (g : Fin 4) (i : Fin 4096)
    (t : Fin 4096) (h : Fin 8) (hh : h.val = 4 * w.val + g.val) :
    val_main_v16 (F := Ideal) q k (ix5 b w g i t) = if t.val ≤ i.val + 128 ∧ i.val ≤ t.val + 128 then
      refScore q k b i w h (⟨256 + t.val, by have := t.isLt; omega⟩ : Fin 4352) else (⊥ : EReal) := by
  have hm : val_main_call0_v1 (F := Ideal) (ix5 b w g i t) = if t.val ≤ i.val + 128 ∧ i.val ≤ t.val + 128 then 1#1 else 0#1 := by
    rw [val_main_call0_v1_apply, val_main_v10_apply, val_main_v8_apply, val_main_v7_apply, val_main_v5_apply, val_main_v6_apply,
      val_main_v3_apply, val_main_v4_apply, val_main_v2_apply, val_main_v2_apply, val_main_v9_apply, val_main_c_apply]
    exact WinSoft.near t.val i.val t.isLt i.isLt
  have hs : val_main_v15 (F := Ideal) q k (ix5 b w g i t) = refScore q k b i w h (⟨256 + t.val, by have := t.isLt; omega⟩ : Fin 4352) := by
    rw [val_main_v15_apply, val_main_v13_apply, val_main_v12_apply, val_main_v14_apply, val_main_cst_apply]
    refine congrArg₂ (· * ·) (Finset.sum_congr rfl fun d _ => congrArg₂ (· * ·) ?_ ?_) Soft.ofBits_eighth
    · rw [val_main_v11_apply]
      exact congrArg k (funext fun a => match a with | ⟨0, _⟩ => rfl | ⟨1, _⟩ => rfl | ⟨2, _⟩ => rfl | ⟨3, _⟩ => rfl)
    · refine (congrArg (val_main_v1 (F := Ideal) q) ?_).trans (v1_apply q b i w g d h hh)
      exact funext fun a => match a with | ⟨0, _⟩ => rfl | ⟨1, _⟩ => rfl | ⟨2, _⟩ => rfl | ⟨3, _⟩ => rfl | ⟨4, _⟩ => rfl
  have hi : val_main_call0_v2 (F := Ideal) (ix5 b w g i t) = (⊥ : EReal) := by
    rw [val_main_call0_v2_apply, val_main_call0_v0_apply, val_main_cst_0_apply]
    exact Soft.ofBits_neg_inf
  rw [val_main_v16_apply, hm, hs, hi]
  by_cases hc : t.val ≤ i.val + 128 ∧ i.val ≤ t.val + 128
  · rw [if_pos hc, if_pos hc, select_one]
  · rw [if_neg hc, if_neg hc, select_zero]

/-- A row of the softmax's operand: the sink, the context's scores, the latent scores. -/
def row (q : FVec Ideal S8x4352x8x64 .f32) (k : FVec Ideal S8x4352x2x64 .f32) (z : FVec Ideal S8 .f32) (b : Fin 8) (i : Fin 4096) (w : Fin 2)
    (g : Fin 4) (j : Fin 4353) : EReal := val_main_v24 (F := Ideal) q k z (ix5 b w g i j)

/-- The three pieces of the rows: the sink, the context's scores, the latents'. -/
abbrev rowPieces (q : FVec Ideal S8x4352x8x64 .f32) (k : FVec Ideal S8x4352x2x64 .f32) (z : FVec Ideal S8 .f32) : List ((s : Shape) × FVec Ideal s .f32) :=
  [⟨S8x2x4x4096x1, val_main_v23 (F := Ideal) z⟩, ⟨S8x2x4x4096x256, val_main_v21 (F := Ideal) q k⟩, ⟨S8x2x4x4096x4096, val_main_v16 (F := Ideal) q k⟩]

theorem row_sink (q : FVec Ideal S8x4352x8x64 .f32) (k : FVec Ideal S8x4352x2x64 .f32) (z : FVec Ideal S8 .f32) (b : Fin 8) (w : Fin 2) (g : Fin 4)
    (i : Fin 4096) (h : Fin 8) (hh : h.val = 4 * w.val + g.val) : row q k z b i w g (0 : Fin 4353) = z (ix1 h) := by
  unfold row val_main_v24
  refine (concatenate_apply_piece (t := S8x2x4x4096x4353) 4 (rowPieces q k z) concatenates_S8x2x4x4096x1_S8x2x4x4096x256_S8x2x4x4096x4096_S8x2x4x4096x4353_d4 (ix5 b w g i (0 : Fin 4353))
    0 (by show 0 < 3; decide) S8x2x4x4096x1 _ rfl rfl 0 rfl (ix5 b w g i (0 : Fin 1))
    (fun a ha => match a with | ⟨0, _⟩ => rfl | ⟨1, _⟩ => rfl | ⟨2, _⟩ => rfl | ⟨3, _⟩ => rfl | ⟨4, _⟩ => absurd rfl ha) rfl).trans ?_
  rw [val_main_v23_apply, val_main_v22_apply]
  refine congrArg z (funext fun a => Fin.ext (match a with | ⟨0, _⟩ => ?_))
  show ((w.val * 4 + g.val) * 1 + 0) * 1 + 0 = h.val
  omega

theorem row_ctx (q : FVec Ideal S8x4352x8x64 .f32) (k : FVec Ideal S8x4352x2x64 .f32) (z : FVec Ideal S8 .f32) (b : Fin 8) (w : Fin 2) (g : Fin 4)
    (i : Fin 4096) (h : Fin 8) (hh : h.val = 4 * w.val + g.val) (t : Fin 256) :
    row q k z b i w g (⟨1 + t.val, by have := t.isLt; omega⟩ : Fin 4353) = refScore q k b i w h (⟨t.val, by have := t.isLt; omega⟩ : Fin 4352) := by
  unfold row val_main_v24
  refine (concatenate_apply_piece (t := S8x2x4x4096x4353) 4 (rowPieces q k z) concatenates_S8x2x4x4096x1_S8x2x4x4096x256_S8x2x4x4096x4096_S8x2x4x4096x4353_d4
    (ix5 b w g i (⟨1 + t.val, by have := t.isLt; omega⟩ : Fin 4353))
    1 (by show 1 < 3; decide) S8x2x4x4096x256 _ rfl rfl 1 rfl (ix5 b w g i t)
    (fun a ha => match a with | ⟨0, _⟩ => rfl | ⟨1, _⟩ => rfl | ⟨2, _⟩ => rfl | ⟨3, _⟩ => rfl | ⟨4, _⟩ => absurd rfl ha) rfl).trans ?_
  exact v21_apply q k b w g i t h hh

theorem row_lat (q : FVec Ideal S8x4352x8x64 .f32) (k : FVec Ideal S8x4352x2x64 .f32) (z : FVec Ideal S8 .f32) (b : Fin 8) (w : Fin 2) (g : Fin 4)
    (i : Fin 4096) (h : Fin 8) (hh : h.val = 4 * w.val + g.val) (t : Fin 4096) :
    row q k z b i w g (⟨257 + t.val, by have := t.isLt; omega⟩ : Fin 4353) = if t.val ≤ i.val + 128 ∧ i.val ≤ t.val + 128 then
      refScore q k b i w h (⟨256 + t.val, by have := t.isLt; omega⟩ : Fin 4352) else (⊥ : EReal) := by
  unfold row val_main_v24
  refine (concatenate_apply_piece (t := S8x2x4x4096x4353) 4 (rowPieces q k z) concatenates_S8x2x4x4096x1_S8x2x4x4096x256_S8x2x4x4096x4096_S8x2x4x4096x4353_d4
    (ix5 b w g i (⟨257 + t.val, by have := t.isLt; omega⟩ : Fin 4353))
    2 (by show 2 < 3; decide) S8x2x4x4096x4096 _ rfl rfl 257 rfl (ix5 b w g i t)
    (fun a ha => match a with | ⟨0, _⟩ => rfl | ⟨1, _⟩ => rfl | ⟨2, _⟩ => rfl | ⟨3, _⟩ => rfl | ⟨4, _⟩ => absurd rfl ha) rfl).trans ?_
  exact v16_apply q k b w g i t h hh

/-- The largest entry of a row. -/
theorem v25_apply (q : FVec Ideal S8x4352x8x64 .f32) (k : FVec Ideal S8x4352x2x64 .f32) (z : FVec Ideal S8 .f32) (b : Fin 8) (w : Fin 2) (g : Fin 4)
    (i : Fin 4096) :
    val_main_v25 (F := Ideal) q k z (ix4 b w g i) = (Finset.univ : Finset (Fin 4353)).fold max ⊥ (row q k z b i w g) := by
  unfold val_main_v25
  have red : S8x2x4x4096x4353.Reduces [4] S8x2x4x4096 := by decide
  refine (Host.reduce_eq_fold_single (s := S8x2x4x4096x4353) (t := S8x2x4x4096) (a := 4) (FloatOps.maximumf : Ideal .f32 → Ideal .f32 → Ideal .f32) (val_main_v24 (F := Ideal) q k z) (val_main_cst_2 (F := Ideal))
    reducesTo_S8x2x4x4096x4353_S8x2x4x4096_d4 red h_S_ (ix4 b w g i)).trans ?_
  have e0 : val_main_cst_2 (F := Ideal) (Shape.Idx.first h_S_) = (⊥ : EReal) := Soft.ofBits_neg_inf
  rw [e0]
  refine congrArg (Finset.fold max (⊥ : EReal) · Finset.univ) (funext fun t => ?_)
  exact congrArg (val_main_v24 (F := Ideal) q k z) (show red.lift (ix4 b w g i) t = ix5 b w g i t from funext fun a => match a with | ⟨0, _⟩ => rfl | ⟨1, _⟩ => rfl | ⟨2, _⟩ => rfl | ⟨3, _⟩ => rfl | ⟨4, _⟩ => rfl)

/-- The shifted exponential of an entry. -/
theorem v31_apply (q : FVec Ideal S8x4352x8x64 .f32) (k : FVec Ideal S8x4352x2x64 .f32) (z : FVec Ideal S8 .f32) (b : Fin 8) (w : Fin 2) (g : Fin 4)
    (i : Fin 4096) (j : Fin 4353) :
    val_main_v31 (F := Ideal) q k z (ix5 b w g i j)
      = Ideal.exp (row q k z b i w g j - (Finset.univ : Finset (Fin 4353)).fold max ⊥ (row q k z b i w g)) := by
  rw [val_main_v31_apply, val_main_v30_apply, val_main_v29_apply, val_main_v28_apply, val_main_v27_apply,
    val_main_v26_apply, val_main_cst_3_apply]
  refine congrArg Ideal.exp (congrArg (row q k z b i w g j - ·) ?_)
  refine (congrArg₂ max Soft.ofBits_neg_inf (congrArg (val_main_v25 (F := Ideal) q k z) (?_ : _ = ix4 b w g i))).trans ?_
  · exact funext fun a => match a with | ⟨0, _⟩ => rfl | ⟨1, _⟩ => rfl | ⟨2, _⟩ => rfl | ⟨3, _⟩ => rfl
  · rw [v25_apply]; exact max_eq_right bot_le

/-- The sum of a row's shifted exponentials. -/
theorem v32_apply (q : FVec Ideal S8x4352x8x64 .f32) (k : FVec Ideal S8x4352x2x64 .f32) (z : FVec Ideal S8 .f32) (b : Fin 8) (w : Fin 2) (g : Fin 4)
    (i : Fin 4096) :
    val_main_v32 (F := Ideal) q k z (ix4 b w g i)
      = ∑ j, Ideal.exp (row q k z b i w g j - (Finset.univ : Finset (Fin 4353)).fold max ⊥ (row q k z b i w g)) := by
  rw [val_main_v32_apply, val_main_cst_4_apply, show (FloatOps.ofBits .f32 0x00000000#32 : Ideal .f32) = (0 : EReal) from Ideal.ofBits_zero_f32, zero_add]
  refine Finset.sum_congr rfl fun t _ => (congrArg (val_main_v31 (F := Ideal) q k z) ?_).trans (v31_apply q k z b w g i t)
  exact funext fun a => match a with | ⟨0, _⟩ => rfl | ⟨1, _⟩ => rfl | ⟨2, _⟩ => rfl | ⟨3, _⟩ => rfl | ⟨4, _⟩ => rfl

/-- The softmax of a row. -/
theorem v35_apply (q : FVec Ideal S8x4352x8x64 .f32) (k : FVec Ideal S8x4352x2x64 .f32) (z : FVec Ideal S8 .f32) (b : Fin 8) (w : Fin 2) (g : Fin 4)
    (i : Fin 4096) (j : Fin 4353) :
    val_main_v35 (F := Ideal) q k z (ix5 b w g i j)
      = Ideal.div (Ideal.exp (row q k z b i w g j - (Finset.univ : Finset (Fin 4353)).fold max ⊥ (row q k z b i w g)))
          (∑ j', Ideal.exp (row q k z b i w g j' - (Finset.univ : Finset (Fin 4353)).fold max ⊥ (row q k z b i w g))) := by
  rw [val_main_v35_apply, val_main_v34_apply, val_main_v33_apply]
  refine congrArg₂ Ideal.div (v31_apply q k z b w g i j) ((congrArg (val_main_v32 (F := Ideal) q k z) ?_).trans (v32_apply q k z b w g i))
  exact funext fun a => match a with | ⟨0, _⟩ => rfl | ⟨1, _⟩ => rfl | ⟨2, _⟩ => rfl | ⟨3, _⟩ => rfl

/-- The reference's result at an index: the context's and the latent values of the column's lane, weighted by the row's softmax. -/
theorem result_apply (q : FVec Ideal S8x4352x8x64 .f32) (k v : FVec Ideal S8x4352x2x64 .f32) (z : FVec Ideal S8 .f32) (b : Fin 8) (i : Fin 4096) (n : Fin 512)
    (w : Fin 2) (g : Fin 4) (d : Fin 64) (hw : w.val = n.val / 256) (hg : g.val = n.val / 64 % 4) (hd : d.val = n.val % 64) :
    val_main_v46 (F := Ideal) q k v z (ix3 b i n)
      = (∑ t : Fin 256, v (ix4 b (⟨t.val, by have := t.isLt; omega⟩ : Fin 4352) w d)
            * Ideal.div (Ideal.exp (row q k z b i w g (⟨1 + t.val, by have := t.isLt; omega⟩ : Fin 4353) - (Finset.univ : Finset (Fin 4353)).fold max ⊥ (row q k z b i w g)))
              (∑ j', Ideal.exp (row q k z b i w g j' - (Finset.univ : Finset (Fin 4353)).fold max ⊥ (row q k z b i w g))))
        + ∑ t : Fin 4096, v (ix4 b (⟨256 + t.val, by have := t.isLt; omega⟩ : Fin 4352) w d)
            * Ideal.div (Ideal.exp (row q k z b i w g (⟨257 + t.val, by have := t.isLt; omega⟩ : Fin 4353) - (Finset.univ : Finset (Fin 4353)).fold max ⊥ (row q k z b i w g)))
              (∑ j', Ideal.exp (row q k z b i w g j' - (Finset.univ : Finset (Fin 4353)).fold max ⊥ (row q k z b i w g))) := by
  have hb := b.isLt
  have hi := i.isLt
  have hn := n.isLt
  rw [val_main_v46_apply, val_main_v45_apply, val_main_v44_apply, val_main_v39_apply, val_main_v43_apply]
  have e : idx_main_v45 (ix3 b i n) = ix5 b i w g d := funext fun a => Fin.ext (match a with
    | ⟨0, _⟩ => by show ((b.val * 4096 + i.val) * 512 + n.val) / 2097152 = b.val; omega
    | ⟨1, _⟩ => by show ((b.val * 4096 + i.val) * 512 + n.val) / 512 % 4096 = i.val; omega
    | ⟨2, _⟩ => by show ((b.val * 4096 + i.val) * 512 + n.val) / 256 % 2 = w.val; omega
    | ⟨3, _⟩ => by show ((b.val * 4096 + i.val) * 512 + n.val) / 64 % 4 = g.val; omega
    | ⟨4, _⟩ => by show ((b.val * 4096 + i.val) * 512 + n.val) % 64 = d.val; omega)
  rw [e]
  refine congrArg₂ (fun x y : EReal => x + y) ((val_main_v38_apply q k v z _).trans (Finset.sum_congr rfl fun t _ => congrArg₂ (· * ·) ?_ ?_))
    ((val_main_v42_apply q k v z _).trans (Finset.sum_congr rfl fun t _ => congrArg₂ (· * ·) ?_ ?_))
  · rw [val_main_v37_apply]
    exact congrArg v (funext fun a => match a with | ⟨0, _⟩ => rfl | ⟨1, _⟩ => rfl | ⟨2, _⟩ => rfl | ⟨3, _⟩ => rfl)
  · rw [val_main_v36_apply]
    refine (congrArg (val_main_v35 (F := Ideal) q k z) ?_).trans (v35_apply q k z b w g i _)
    exact funext fun a => match a with | ⟨0, _⟩ => rfl | ⟨1, _⟩ => rfl | ⟨2, _⟩ => rfl | ⟨3, _⟩ => rfl | ⟨4, _⟩ => rfl
  · rw [val_main_v41_apply]
    exact congrArg v (funext fun a => match a with | ⟨0, _⟩ => rfl | ⟨1, _⟩ => rfl | ⟨2, _⟩ => rfl | ⟨3, _⟩ => rfl)
  · rw [val_main_v40_apply]
    refine (congrArg (val_main_v35 (F := Ideal) q k z) ?_).trans (v35_apply q k z b w g i _)
    exact funext fun a => match a with | ⟨0, _⟩ => rfl | ⟨1, _⟩ => rfl | ⟨2, _⟩ => rfl | ⟨3, _⟩ => rfl | ⟨4, _⟩ => rfl

end Cert.WinRef

end
-- ==== Proof.Win.Final.lean ====
module

public import proofs.«01_k».proof.Defs
public import proofs.«01_k».proof.Proof.Final
public import proofs.«01_k».proof.Proof.Win.Block
public import proofs.«01_k».proof.Proof.Win.Host
public import proofs.«01_k».proof.Proof.Win.Ref
public import proofs.«01_k».proof.Proof.Gen.Pre_finite7

@[expose] public section

set_option maxRecDepth 16384

noncomputable section

namespace Cert.WinFinal

open Cert.Kernel7Ideal Cert.Kernel7Ideal.Gen Idealize.ShloMosaic Idealize.ShloMosaic.TcCoe Idealize.ShloMosaic.ValueIdx
open Idealize.ShloMosaic.Pipeline (Dat)
open Idealize.SL.Sem
open Cert.Prep (kappa kappa_log qArr kArr vArr qArr_apply kArr_apply vArr_apply vArr_one)
open Cert.WinTile Cert.WinMask Cert.WinBlock Cert.WinPrep Cert.WinRef
open Cert.Reference7Ideal.Read (val_main_v46)
open scoped BigOperators

instance : Subsingleton Cert.Pre_finite7.S_.Idx := ⟨fun a b => funext fun x => x.elim0⟩

/-- Where the precondition holds, every query, every key and every sink is a real. -/
theorem finite_real (q : FVec Ideal Cert.Pre_finite7.S8x4352x8x64 .f32) (k v : FVec Ideal Cert.Pre_finite7.S8x4352x2x64 .f32)
    (z : FVec Ideal Cert.Pre_finite7.S8 .f32) (h : Cert.Pre_finite7.fn (F := Ideal) q k v z = fun _ => 1#1) :
    (∀ i, ∃ r : ℝ, q i = r) ∧ (∀ i, ∃ r : ℝ, k i = r) ∧ ∀ i, ∃ r : ℝ, z i = r := by
  have h0 := congrFun h (ix1 (0 : Fin 1))
  obtain ⟨h1, hz⟩ := IntOp.andi_eq_one.1 h0
  obtain ⟨hq, hk⟩ := IntOp.andi_eq_one.1 h1
  exact ⟨fun i => Cert.Final.real_of_lt _ (Host.reduce_andi_all _ _ _ _ _ hq i), fun i => Cert.Final.real_of_lt _ (Host.reduce_andi_all _ _ _ _ _ hk i),
    fun i => Cert.Final.real_of_lt _ (Host.reduce_andi_all _ _ _ _ _ hz i)⟩

/-! ## One element -/

theorem log_inv : (Real.log 2)⁻¹ * Real.log 2 = 1 := inv_mul_cancel₀ (Real.log_pos (by norm_num)).ne'

/-- A latent key lies within the window of query row `i`. -/
abbrev Near (t i : Nat) : Prop := t ≤ i + 128 ∧ i ≤ t + 128

/-- The kernel's value from its scores and the reference's from its row agree: `T` the products of the query with the keys, `S` the sink,
    `start j` the first key of the query's window. -/
theorem core_eq (i : Nat) (j : Nat) (hj : j < 32) (hi : 128 * j ≤ i ∧ i < 128 * j + 128) (T : Fin 4352 → ℝ) (S : ℝ) (v : Fin 4352 → EReal)
    (R : Fin 4353 → EReal) (hR0 : R 0 = (S : EReal))
    (hRc : ∀ t : Fin 256, R ⟨1 + t.val, by have := t.isLt; omega⟩ = ((T ⟨t.val, by have := t.isLt; omega⟩ * (1 / 8) : ℝ) : EReal))
    (hRl : ∀ t : Fin 4096, R ⟨257 + t.val, by have := t.isLt; omega⟩
      = if Near t.val i then ((T ⟨256 + t.val, by have := t.isLt; omega⟩ * (1 / 8) : ℝ) : EReal) else ⊥) :
    winVal (fun t : Fin 256 => ((T ⟨t.val, by have := t.isLt; omega⟩ * kappa : ℝ) : EReal))
        (fun u => if Near (start j + u.val) i then ((T (win j u) * kappa : ℝ) : EReal) else ⊥)
        ((S * (Real.log 2)⁻¹ : ℝ) : EReal) (fun t => v ⟨t.val, by have := t.isLt; omega⟩) (fun _ => 1) (fun u => v (win j u)) (fun _ => 1)
      = (∑ t : Fin 256, v ⟨t.val, by have := t.isLt; omega⟩
            * Ideal.div (Ideal.exp (R ⟨1 + t.val, by have := t.isLt; omega⟩ - (Finset.univ : Finset (Fin 4353)).fold max ⊥ R))
              (∑ j', Ideal.exp (R j' - (Finset.univ : Finset (Fin 4353)).fold max ⊥ R)))
        + ∑ t : Fin 4096, v ⟨256 + t.val, by have := t.isLt; omega⟩
            * Ideal.div (Ideal.exp (R ⟨257 + t.val, by have := t.isLt; omega⟩ - (Finset.univ : Finset (Fin 4353)).fold max ⊥ R))
              (∑ j', Ideal.exp (R j' - (Finset.univ : Finset (Fin 4353)).fold max ⊥ R)) := by
  have hst := start_le j
  have hst' : start j = min 3712 (128 * j - 128) := rfl
  -- both maxima are reals
  obtain ⟨b, hb⟩ : ∃ b : ℝ, (Finset.univ : Finset (Fin 4353)).fold max ⊥ R = b := by
    refine WinSoft.fold_real R (fun p => ?_) 0 ⟨S, hR0⟩
    by_cases h0 : p.val = 0
    · exact Or.inr ⟨S, (congrArg R (Fin.ext h0)).trans hR0⟩
    by_cases h1 : p.val < 257
    · exact Or.inr ⟨_, (congrArg R (Fin.ext (by show p.val = 1 + (p.val - 1); omega))).trans (hRc ⟨p.val - 1, by omega⟩)⟩
    · have e := (congrArg R (Fin.ext (by show p.val = 257 + (p.val - 257); omega))).trans (hRl ⟨p.val - 257, by have := p.isLt; omega⟩)
      rw [e]
      split
      · exact Or.inr ⟨_, rfl⟩
      · exact Or.inl rfl
  obtain ⟨a, ha⟩ := WinSoft.real_max
    (WinSoft.low_max (WinSoft.fold_low (fun t : Fin 256 => ((T ⟨t.val, by have := t.isLt; omega⟩ * kappa : ℝ) : EReal)) (fun t => Or.inr ⟨_, rfl⟩))
      (WinSoft.fold_low (fun u : Fin 384 => if Near (start j + u.val) i then ((T (win j u) * kappa : ℝ) : EReal) else ⊥)
        (fun u => by
          split
          · exact Or.inr ⟨_, rfl⟩
          · exact Or.inl rfl)))
    (⟨S * (Real.log 2)⁻¹, rfl⟩ : ∃ r : ℝ, ((S * (Real.log 2)⁻¹ : ℝ) : EReal) = r)
  -- the weights
  let A : Fin 256 → ℝ := fun t => Real.exp (T ⟨t.val, by have := t.isLt; omega⟩ * (1 / 8) - b)
  let B : Fin 4096 → ℝ := fun t => if Near t.val i then Real.exp (T ⟨256 + t.val, by have := t.isLt; omega⟩ * (1 / 8) - b) else 0
  let C : ℝ := Real.exp (b - a * Real.log 2)
  have hA : ∀ t, 0 ≤ A t := fun t => (Real.exp_pos _).le
  have hB : ∀ t, 0 ≤ B t := fun t => by
    dsimp only [B]
    split
    · exact (Real.exp_pos _).le
    · exact le_rfl
  have hnear : ∀ t : Fin 4096, (t.val < start j ∨ start j + 384 ≤ t.val) → B t = 0 := fun t ht =>
    if_neg (by rintro ⟨h1, h2⟩; have := t.isLt; omega)
  have ka : ∀ t : Fin 256, Ideal.exp2 (((T ⟨t.val, by have := t.isLt; omega⟩ * kappa : ℝ) : EReal) - a) = ((A t * C : ℝ) : EReal) := fun t =>
    WinSoft.exp2_real _ kappa_log a b
  have kb : ∀ u : Fin 384, Ideal.exp2 ((if Near (start j + u.val) i then ((T (win j u) * kappa : ℝ) : EReal) else ⊥) - a)
      = ((B ⟨start j + u.val, by have := u.isLt; omega⟩ * C : ℝ) : EReal) := fun u =>
    WinSoft.exp2_mask _ _ kappa_log a b
  have kz : Ideal.exp2 (((S * (Real.log 2)⁻¹ : ℝ) : EReal) - a) = ((Real.exp (S - b) * C : ℝ) : EReal) := by
    rw [WinSoft.exp2_real S log_inv a b, mul_one]
  have rc : ∀ t : Fin 256, Ideal.exp (R ⟨1 + t.val, by have := t.isLt; omega⟩ - b) = ((A t : ℝ) : EReal) := fun t => by
    rw [hRc t, ← EReal.coe_sub, Ideal.exp_coe]
  have rl : ∀ t : Fin 4096, Ideal.exp (R ⟨257 + t.val, by have := t.isLt; omega⟩ - b) = ((B t : ℝ) : EReal) := fun t => by
    rw [hRl t]; exact WinSoft.exp_mask _ _ _ b
  have rz : Ideal.exp (R 0 - b) = ((Real.exp (S - b) : ℝ) : EReal) := by
    rw [hR0, ← EReal.coe_sub, Ideal.exp_coe]
  have hw : ∀ g : Fin 4096 → EReal, ∑ u : Fin 384, ((B ⟨start j + u.val, by have := u.isLt; omega⟩ * C : ℝ) : EReal) * g ⟨start j + u.val, by have := u.isLt; omega⟩
      = ∑ t, ((B t * C : ℝ) : EReal) * g t := fun g =>
    WinSoft.sum_window (start j) hst (fun t => ((B t * C : ℝ) : EReal) * g t) (fun t ht => by
      rw [hnear t ht, zero_mul, EReal.coe_zero, zero_mul])
  unfold winVal
  dsimp only
  rw [ha, hb, WinSoft.sum_row]
  simp only [ka, kb, kz, rc, rl, rz]
  rw [show (fun u : Fin 384 => ((B ⟨start j + u.val, by have := u.isLt; omega⟩ * C : ℝ) : EReal) * v (win j u))
      = fun u => ((B ⟨start j + u.val, by have := u.isLt; omega⟩ * C : ℝ) : EReal) * (fun t : Fin 4096 => v ⟨256 + t.val, by have := t.isLt; omega⟩) ⟨start j + u.val, by have := u.isLt; omega⟩ from rfl,
    hw (fun t : Fin 4096 => v ⟨256 + t.val, by have := t.isLt; omega⟩), hw (fun _ => 1)]
  exact WinSoft.core A B (Real.exp (S - b)) C hA hB (Real.exp_pos _) (Real.exp_pos _) _ _

/-- For real queries, keys and sinks the kernel's value is the reference's. -/
theorem head_eq (q : FVec Ideal S8x4352x8x64 .f32) (k v : FVec Ideal S8x4352x2x64 .f32) (z : FVec Ideal S8 .f32)
    (hq : ∀ i, ∃ r : ℝ, q i = r) (hk : ∀ i, ∃ r : ℝ, k i = r) (hz : ∀ i, ∃ r : ℝ, z i = r)
    (b : Fin 8) (i : Fin 4096) (n : Fin 512) (w : Fin 2) (h : Fin 8) (d : Fin 64) (hw : w.val = n.val / 256) (hh : h.val = n.val / 64)
    (hd : d.val = n.val % 64) (j : Nat) (hj : j < 32) (hi : 128 * j ≤ i.val ∧ i.val < 128 * j + 128) :
    winVal (fun t : Fin 256 => ∑ e : Fin 64, (q (ix4 b (⟨256 + i.val, by have := i.isLt; omega⟩ : Fin 4352) h e) * (kappa : EReal))
          * k (ix4 b (⟨t.val, by have := t.isLt; omega⟩ : Fin 4352) w e))
        (fun u => if Near (start j + u.val) i.val then ∑ e : Fin 64, (q (ix4 b (⟨256 + i.val, by have := i.isLt; omega⟩ : Fin 4352) h e) * (kappa : EReal))
          * k (ix4 b (win j u) w e) else (⊥ : EReal))
        (z (ix1 h) * (((Real.log 2)⁻¹ : ℝ) : EReal)) (fun t => v (ix4 b (⟨t.val, by have := t.isLt; omega⟩ : Fin 4352) w d)) (fun _ => 1)
        (fun u => v (ix4 b (win j u) w d)) (fun _ => 1)
      = val_main_v46 (F := Ideal) q k v z (ix3 b i n) := by
  have hn := n.isLt
  rw [result_apply q k v z b i n w (⟨n.val / 64 % 4, by omega⟩ : Fin 4) d hw rfl hd]
  have hg : h.val = 4 * w.val + (⟨n.val / 64 % 4, by omega⟩ : Fin 4).val := by show h.val = 4 * w.val + n.val / 64 % 4; omega
  choose qr hqr using hq
  choose kr hkr using hk
  choose zr hzr using hz
  let T : Fin 4352 → ℝ := fun t => ∑ e : Fin 64, kr (ix4 b t w e) * qr (ix4 b (⟨256 + i.val, by have := i.isLt; omega⟩ : Fin 4352) h e)
  have e1 : ∀ t : Fin 4352, (∑ e : Fin 64, (q (ix4 b (⟨256 + i.val, by have := i.isLt; omega⟩ : Fin 4352) h e) * (kappa : EReal)) * k (ix4 b t w e))
      = ((T t * kappa : ℝ) : EReal) := fun t => by
    simp only [hqr, hkr, ← EReal.coe_mul]
    rw [← Soft.coe_sum]
    refine congrArg _ ?_
    show _ = (∑ e, _) * kappa
    rw [Finset.sum_mul]
    exact Finset.sum_congr rfl fun e _ => by ring
  have e2 : ∀ t, refScore q k b i w h t = ((T t * (1 / 8) : ℝ) : EReal) := fun t => by
    unfold refScore
    simp only [hqr, hkr]
    rw [Soft.sum_mul_coe (fun e => kr (ix4 b t w e)), ← EReal.coe_mul]
  have e3 : z (ix1 h) * (((Real.log 2)⁻¹ : ℝ) : EReal) = ((zr (ix1 h) * (Real.log 2)⁻¹ : ℝ) : EReal) := by rw [hzr, EReal.coe_mul]
  refine Eq.trans ?_ (core_eq i.val j hj hi T (zr (ix1 h)) (fun t => v (ix4 b t w d)) (row q k z b i w (⟨n.val / 64 % 4, by omega⟩ : Fin 4))
    ((row_sink q k z b w _ i h hg).trans (hzr _)) (fun t => (row_ctx q k z b w _ i h hg t).trans (e2 _))
    (fun t => (row_lat q k z b w _ i h hg t).trans (by rw [e2])))
  rw [e3]
  exact winVal_congr (funext fun t => e1 _) (funext fun u => by rw [e1]) rfl rfl rfl rfl rfl

/-! ## The array -/

variable (m : (ℓ : Loc nD τ sig) → Buf (Elt Ideal) ℓ) (c : Dev nD)

theorem idx0 : ∀ t : Fin cfg0.N, win0_0.index t 0 = win0_4.index t 0 ∧ win0_0.index t 1 = 0 ∧ win0_0.index t 2 = win0_4.index t 1 + 2
    ∧ win0_0.index t 3 = 0 :=
  (by decide +kernel : ∀ t : Fin grid0.N, win0_0.index t 0 = win0_4.index t 0 ∧ win0_0.index t 1 = 0 ∧ win0_0.index t 2 = win0_4.index t 1 + 2
    ∧ win0_0.index t 3 = 0)
theorem idx1 : ∀ t : Fin cfg0.N, win0_1.index t 0 = win0_4.index t 0 ∧ win0_1.index t 1 = 0 ∧ win0_1.index t 2 = 0 ∧ win0_1.index t 3 = 0 :=
  (by decide +kernel : ∀ t : Fin grid0.N, win0_1.index t 0 = win0_4.index t 0 ∧ win0_1.index t 1 = 0 ∧ win0_1.index t 2 = 0 ∧ win0_1.index t 3 = 0)
theorem idx2 : ∀ t : Fin cfg0.N, win0_2.index t 0 = win0_4.index t 0 ∧ win0_2.index t 1 = 0 ∧ win0_2.index t 2 = 0 ∧ win0_2.index t 3 = 0 :=
  (by decide +kernel : ∀ t : Fin grid0.N, win0_2.index t 0 = win0_4.index t 0 ∧ win0_2.index t 1 = 0 ∧ win0_2.index t 2 = 0 ∧ win0_2.index t 3 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 < 8 ∧ win0_4.index t 1 < 32 ∧ win0_4.index t 2 = 0 ∧ (grid0.coords t 1).val = win0_4.index t 1 :=
  (by decide +kernel : ∀ t : Fin grid0.N, win0_4.index t 0 < 8 ∧ win0_4.index t 1 < 32 ∧ win0_4.index t 2 = 0 ∧ (grid0.coords t 1).val = win0_4.index t 1)

/-- The queries' block at point `t`: batch `b`, rows from `128·(j+2)`. -/
theorem blk_q (t : Fin cfg0.N) (b : Fin 8) (hb : b.val = win0_4.index t 0) (h : Fin 8) (a : Fin 128) (d : Fin 64) (s : Fin 4352)
    (hs : s.val = 128 * (win0_4.index t 1 + 2) + a.val) :
    iblk m c 0 t (ix4 (0 : Fin 1) h a d) = qArr (Q m c) (ix4 b h s d) := by
  obtain ⟨h0, h1, h2, h3⟩ := idx0 t
  rw [← V_q]
  unfold iblk
  refine congrArg (V m c main_v5) (funext fun x => Fin.ext (((win0_0).rect_emb_val t _ x).trans (match x with
    | ⟨0, _⟩ => ?_ | ⟨1, _⟩ => ?_ | ⟨2, _⟩ => ?_ | ⟨3, _⟩ => ?_)))
  · show win0_0.index t 0 * 1 + 0 = b.val; omega
  · show win0_0.index t 1 * 8 + h.val = h.val; omega
  · show win0_0.index t 2 * 128 + a.val = s.val; omega
  · show win0_0.index t 3 * 64 + d.val = d.val; omega

/-- The keys' block at point `t`: all the keys of batch `b`. -/
theorem blk_k (t : Fin cfg0.N) (b : Fin 8) (hb : b.val = win0_4.index t 0) (h : Fin 2) (a : Fin 4352) (d : Fin 64) :
    iblk m c 1 t (ix4 (0 : Fin 1) h a d) = kArr (K m c) (ix4 b h a d) := by
  obtain ⟨h0, h1, h2, h3⟩ := idx1 t
  rw [← V_k]
  unfold iblk
  refine congrArg (V m c main_v7) (funext fun x => Fin.ext (((win0_1).rect_emb_val t _ x).trans (match x with
    | ⟨0, _⟩ => ?_ | ⟨1, _⟩ => ?_ | ⟨2, _⟩ => ?_ | ⟨3, _⟩ => ?_)))
  · show win0_1.index t 0 * 1 + 0 = b.val; omega
  · show win0_1.index t 1 * 2 + h.val = h.val; omega
  · show win0_1.index t 2 * 4352 + a.val = a.val; omega
  · show win0_1.index t 3 * 64 + d.val = d.val; omega

/-- The values' block at point `t`: all the values of batch `b`. -/
theorem blk_v (t : Fin cfg0.N) (b : Fin 8) (hb : b.val = win0_4.index t 0) (h : Fin 2) (a : Fin 4352) (d : Fin 128) :
    iblk m c 2 t (ix4 (0 : Fin 1) h a d) = vArr (W m c) (ix4 b h a d) := by
  obtain ⟨h0, h1, h2, h3⟩ := idx2 t
  rw [← V_v]
  unfold iblk
  refine congrArg (V m c main_v12) (funext fun x => Fin.ext (((win0_2).rect_emb_val t _ x).trans (match x with
    | ⟨0, _⟩ => ?_ | ⟨1, _⟩ => ?_ | ⟨2, _⟩ => ?_ | ⟨3, _⟩ => ?_)))
  · show win0_2.index t 0 * 1 + 0 = b.val; omega
  · show win0_2.index t 1 * 2 + h.val = h.val; omega
  · show win0_2.index t 2 * 4352 + a.val = a.val; omega
  · show win0_2.index t 3 * 128 + d.val = d.val; omega

/-- The sinks' block at every point: all the sinks. -/
theorem blk_z (t : Fin cfg0.N) (h : Fin 8) (l : Fin 128) : iblk m c 3 t (ix2 h l) = zArr (Z m c) (ix2 h l) := by
  obtain ⟨h0, h1⟩ := idx3 t
  rw [← V_z]
  unfold iblk
  refine congrArg (V m c main_v14) (funext fun x => Fin.ext (((win0_3).rect_emb_val t _ x).trans (match x with
    | ⟨0, _⟩ => ?_ | ⟨1, _⟩ => ?_)))
  · show win0_3.index t 0 * 8 + h.val = h.val; omega
  · show win0_3.index t 1 * 128 + l.val = l.val; omega

/-- What point `t` leaves at row `a` and column `n` of its block is the reference's element there. -/
theorem block_eq (hq : ∀ i, ∃ r : ℝ, Q m c i = r) (hk : ∀ i, ∃ r : ℝ, K m c i = r) (hz : ∀ i, ∃ r : ℝ, Z m c i = r) (t : Fin cfg0.N) (a : Fin 128) (n : Fin 512)
    (b : Fin 8) (hb : b.val = win0_4.index t 0) (i : Fin 4096) (hi : i.val = 128 * win0_4.index t 1 + a.val) :
    blockVal (win0_4.index t 1) (iblk m c 0 t) (iblk m c 1 t) (iblk m c 2 t) (iblk m c 3 t) a n
      = val_main_v46 (F := Ideal) (Q m c) (K m c) (W m c) (Z m c) (ix3 b i n) := by
  have hn := n.isLt
  have hil := i.isLt
  have hal := a.isLt
  obtain ⟨h0, h1, h2, h3⟩ := idx4 t
  refine Eq.trans ?_ (head_eq (Q m c) (K m c) (W m c) (Z m c) hq hk hz b i n (⟨n.val / 256, by omega⟩ : Fin 2) (⟨n.val / 64, by omega⟩ : Fin 8)
    (⟨n.val % 64, by omega⟩ : Fin 64) rfl rfl rfl (win0_4.index t 1) h1 (by omega))
  have eq : ∀ e : Fin 64, iblk m c 0 t (ix4 (0 : Fin 1) (⟨n.val / 64, by omega⟩ : Fin 8) a e)
      = Q m c (ix4 b (⟨256 + i.val, by omega⟩ : Fin 4352) (⟨n.val / 64, by omega⟩ : Fin 8) e) * (kappa : EReal) := fun e =>
    (blk_q m c t b hb _ a e (⟨256 + i.val, by omega⟩ : Fin 4352) (by show 256 + i.val = _; omega)).trans (qArr_apply _ b _ _ e)
  have ek : ∀ (s : Fin 4352) (e : Fin 64), iblk m c 1 t (ix4 (0 : Fin 1) (⟨n.val / 256, by omega⟩ : Fin 2) s e)
      = K m c (ix4 b s (⟨n.val / 256, by omega⟩ : Fin 2) e) := fun s e => (blk_k m c t b hb _ s e).trans (kArr_apply _ b _ s e)
  unfold blockVal
  refine winVal_congr (funext fun s => Finset.sum_congr rfl fun e _ => congrArg₂ (· * ·) (eq e) (ek _ e)) (funext fun u => ?_)
    (congrArg (· * _) ((blk_z m c t _ _).trans (zArr_apply _ _ _)))
    (funext fun s => (blk_v m c t b hb _ _ _).trans (vArr_apply _ b _ _ _ _ rfl)) (funext fun s => (blk_v m c t b hb _ _ _).trans (vArr_one _ b _ _))
    (funext fun u => (blk_v m c t b hb _ _ _).trans (vArr_apply _ b _ _ _ _ rfl)) (funext fun u => (blk_v m c t b hb _ _ _).trans (vArr_one _ b _ _))
  rw [← hi]
  exact if_congr Iff.rfl (Finset.sum_congr rfl fun e _ => congrArg₂ (· * ·) (eq e) (ek _ e)) rfl

/-- The result array after the run is the reference's result. -/
theorem final (hq : ∀ i, ∃ r : ℝ, Q m c i = r) (hk : ∀ i, ∃ r : ℝ, K m c i = r) (hz : ∀ i, ∃ r : ℝ, Z m c i = r) :
    (dats m 0 c).arrAt 4 cfg0.N = val_main_v46 (F := Ideal) (Q m c) (K m c) (W m c) (Z m c) := by
  refine (dats m 0 c).arrAt_eq_of_covers 4 _ (by decide +kernel) fun t hf y => ?_
  obtain ⟨h0, h1, h2, h3⟩ := idx4 t
  have hy1 : (y 1).val < 128 := (y 1).isLt
  have hy2 : (y 2).val < 512 := (y 2).isLt
  have e : ((cfg0.win 4).blk t).view.emb y = ix3 (⟨win0_4.index t 0, h0⟩ : Fin 8) (⟨128 * win0_4.index t 1 + (y 1).val, by omega⟩ : Fin 4096) (⟨(y 2).val, hy2⟩ : Fin 512) :=
    funext fun x => Fin.ext (((win0_4).rect_emb_val t y x).trans (match x with
      | ⟨0, _⟩ => by
        have hy0 : (y 0).val < 1 := (y 0).isLt
        show win0_4.index t 0 * 1 + (y 0).val = win0_4.index t 0; omega
      | ⟨1, _⟩ => by show win0_4.index t 1 * 128 + (y 1).val = 128 * win0_4.index t 1 + (y 1).val; omega
      | ⟨2, _⟩ => by show win0_4.index t 2 * 512 + (y 2).val = (y 2).val; omega))
  rw [e]
  refine Eq.trans ?_ (block_eq m c hq hk hz t (⟨(y 1).val, hy1⟩ : Fin 128) (⟨(y 2).val, hy2⟩ : Fin 512) _ rfl (⟨128 * win0_4.index t 1 + (y 1).val, by omega⟩ : Fin 4096) rfl)
  show (dats m 0 c).after 4 t _ = _
  rw [after0_4, out_apply, h3]
  rfl

end Cert.WinFinal

end
-- ==== Proof.Win.Claims.lean ====
module

public import proofs.«01_k».proof.Proof.Win.Final
public import proofs.«01_k».proof.Proof.Gen.Reference7Ideal.Run
public import Idealize.ShloMosaic.Lib.Quiescent

@[expose] public section

noncomputable section

namespace Cert.WinClaims

open Idealize.ShloMosaic Idealize.ShloMosaic.TcCoe Idealize.SL.Sem

/-- The reference runs, leaves its arguments as they were and every counter at zero. -/
theorem ref_frame (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run _ _ _).mono (fun r h => ⟨fun c => (h c).2, sem_eq_zero_of_no_sems (by decide) r.2⟩) (Cert.Reference7Ideal.Value.run (F := Ideal) m g)

theorem quiescent_ri : Cert.quiescent_Reference7Ideal := fun m g _ => ref_frame m g
theorem quiescent_ri_pre : Cert.quiescent_Reference7Ideal_pre_finite7 := fun m g _ => ref_frame m g

/-- From equal arguments, the queries, keys and sinks real, the kernel and the reference end with equal results. -/
theorem algebraic : Cert.algebraic_Kernel7Ideal_Reference7Ideal_pre_finite7 := by
  intro m g m' g' hpre hag
  refine ⟨fun c => Cert.Reference7Ideal.Read.val_main_v46 (F := Ideal) (Cert.WinPrep.Q m c) (Cert.WinPrep.K m c) (Cert.WinPrep.W m c) (Cert.WinPrep.Z m c), ?_, ?_⟩
  · refine (θ_run _ _ _).mono (fun r h c => ⟨(h c).1.trans ?_, (h c).2⟩) (Cert.Kernel7Ideal.Value.run_blocks m g)
    obtain ⟨hq, hk, hz⟩ := Cert.WinFinal.finite_real _ _ _ _ (hpre c)
    exact Cert.WinFinal.final m c hq hk hz
  · refine (θ_run _ _ _).mono (fun r h c => ⟨(h c).1.trans ?_, (h c).2⟩) (Cert.Reference7Ideal.Value.run (F := Ideal) m' g')
    obtain ⟨h0, h1, h2, h3⟩ := hag c
    rw [Cert.Reference7Ideal.Read.val_main_v46_eq, h0, h1, h2, h3]

end Cert.WinClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Pre_finite
public import proofs.«01_k».proof.Proof.Gen.Pre_routed
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Claims
public import proofs.«01_k».proof.Proof.Exp.Claims
public import proofs.«01_k».proof.Proof.Inp.Claims
public import proofs.«01_k».proof.Proof.Even.Claims
public import proofs.«01_k».proof.Proof.Odd.Claims
public import proofs.«01_k».proof.Proof.Qkv.Claims
public import proofs.«01_k».proof.Proof.Win.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Pre_finite.Gen.facts, Cert.Pre_routed.Gen.facts, Cert.Pre_finite6.Gen.facts, Cert.Pre_finite7.Gen.facts,
  fun m ρ _ => Cert.Kernel.Gen.frame m ρ, fun m ρ _ => Cert.KernelIdeal.Gen.frame m ρ, fun m ρ _ => Cert.KernelIdeal.Gen.frame m ρ,
  Cert.Attn.quiescent_ri, Cert.Attn.quiescent_ri_pre,
  Cert.ExpClaims.quiescent_k, Cert.ExpClaims.quiescent_ki, Cert.ExpClaims.quiescent_ri, Cert.ExpClaims.quiescent_ri_pre,
  fun m ρ _ => Cert.Kernel3.Gen.frame m ρ, fun m ρ _ => Cert.Kernel3Ideal.Gen.frame m ρ, Cert.InpClaims.quiescent_ri,
  fun m ρ _ => Cert.Kernel4.Gen.frame m ρ, fun m ρ _ => Cert.Kernel4Ideal.Gen.frame m ρ, Cert.EvenClaims.quiescent_ri,
  fun m ρ _ => Cert.Kernel5.Gen.frame m ρ, fun m ρ _ => Cert.Kernel5Ideal.Gen.frame m ρ, Cert.OddClaims.quiescent_ri,
  fun m ρ _ => Cert.Kernel6.Gen.frame m ρ, fun m ρ _ => Cert.Kernel6Ideal.Gen.frame m ρ, fun m ρ _ => Cert.Kernel6Ideal.Gen.frame m ρ,
  Cert.QkvClaims.quiescent_ri, Cert.QkvClaims.quiescent_ri_pre,
  fun m ρ _ => Cert.Kernel7.Gen.frame m ρ, fun m ρ _ => Cert.Kernel7Ideal.Gen.frame m ρ, fun m ρ _ => Cert.Kernel7Ideal.Gen.frame m ρ,
  Cert.WinClaims.quiescent_ri, Cert.WinClaims.quiescent_ri_pre,
  trivial, Cert.Attn.algebraic, trivial, Cert.ExpClaims.algebraic, trivial, Cert.InpClaims.algebraic, trivial, Cert.EvenClaims.algebraic,
  trivial, Cert.OddClaims.algebraic, trivial, Cert.QkvClaims.algebraic,
  IdealRules.named_const.statement Cert.Kernel7Ideal.κ "log2e" .f32 0x3FB8AA3B#32 (((Real.log 2)⁻¹ : ℝ) : EReal) rfl, Cert.WinClaims.algebraic⟩

end Cert.Proof

end
